-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_conv [hPre_finite_conv : Cert.Pre_finite_conv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_conv [hPre_finite_conv : Cert.Pre_finite_conv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_conv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_conv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_conv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_conv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.2 = (fun _ => 1#1)

def Pre_RefGateIdeal (m : (ℓ : Loc Cert.RefGateIdeal.nD Cert.RefGateIdeal.τ Cert.RefGateIdeal.sig) → Buf (Elt Ideal) ℓ) : Prop :=
  True

def Pre_RefGateIdeal_finite_gate [hPre_finite_gate : Cert.Pre_finite_gate.Facts] (m : (ℓ : Loc Cert.RefGateIdeal.nD Cert.RefGateIdeal.τ Cert.RefGateIdeal.sig) → Buf (Elt Ideal) ℓ) : Prop :=
  ∀ c : Dev Cert.RefGateIdeal.nD,
    (Cert.Pre_finite_gate.fn (F := Ideal) (m ((c.tc : Thread Cert.RefGateIdeal.nD Cert.RefGateIdeal.τ).loc Cert.RefGateIdeal.main_arg0)) (m ((c.tc : Thread Cert.RefGateIdeal.nD Cert.RefGateIdeal.τ).loc Cert.RefGateIdeal.main_arg1)) (m ((c.tc : Thread Cert.RefGateIdeal.nD Cert.RefGateIdeal.τ).loc Cert.RefGateIdeal.main_arg2)) (m ((c.tc : Thread Cert.RefGateIdeal.nD Cert.RefGateIdeal.τ).loc Cert.RefGateIdeal.main_arg3))).1 = (fun _ => 1#1)
    ∧ (Cert.Pre_finite_gate.fn (F := Ideal) (m ((c.tc : Thread Cert.RefGateIdeal.nD Cert.RefGateIdeal.τ).loc Cert.RefGateIdeal.main_arg0)) (m ((c.tc : Thread Cert.RefGateIdeal.nD Cert.RefGateIdeal.τ).loc Cert.RefGateIdeal.main_arg1)) (m ((c.tc : Thread Cert.RefGateIdeal.nD Cert.RefGateIdeal.τ).loc Cert.RefGateIdeal.main_arg2)) (m ((c.tc : Thread Cert.RefGateIdeal.nD Cert.RefGateIdeal.τ).loc Cert.RefGateIdeal.main_arg3))).2.1 = (fun _ => 1#1)
    ∧ (Cert.Pre_finite_gate.fn (F := Ideal) (m ((c.tc : Thread Cert.RefGateIdeal.nD Cert.RefGateIdeal.τ).loc Cert.RefGateIdeal.main_arg0)) (m ((c.tc : Thread Cert.RefGateIdeal.nD Cert.RefGateIdeal.τ).loc Cert.RefGateIdeal.main_arg1)) (m ((c.tc : Thread Cert.RefGateIdeal.nD Cert.RefGateIdeal.τ).loc Cert.RefGateIdeal.main_arg2)) (m ((c.tc : Thread Cert.RefGateIdeal.nD Cert.RefGateIdeal.τ).loc Cert.RefGateIdeal.main_arg3))).2.2.1 = (fun _ => 1#1)
    ∧ (Cert.Pre_finite_gate.fn (F := Ideal) (m ((c.tc : Thread Cert.RefGateIdeal.nD Cert.RefGateIdeal.τ).loc Cert.RefGateIdeal.main_arg0)) (m ((c.tc : Thread Cert.RefGateIdeal.nD Cert.RefGateIdeal.τ).loc Cert.RefGateIdeal.main_arg1)) (m ((c.tc : Thread Cert.RefGateIdeal.nD Cert.RefGateIdeal.τ).loc Cert.RefGateIdeal.main_arg2)) (m ((c.tc : Thread Cert.RefGateIdeal.nD Cert.RefGateIdeal.τ).loc Cert.RefGateIdeal.main_arg3))).2.2.2 = (fun _ => 1#1)

def Pre_Mgate (m : (ℓ : Loc Cert.Mgate.nD Cert.Mgate.τ Cert.Mgate.sig) → Buf (Elt Bits) ℓ) : Prop :=
  True

def Pre_MgateIdeal (m : (ℓ : Loc Cert.MgateIdeal.nD Cert.MgateIdeal.τ Cert.MgateIdeal.sig) → Buf (Elt Ideal) ℓ) : Prop :=
  True

def Pre_RefMgateIdeal (m : (ℓ : Loc Cert.RefMgateIdeal.nD Cert.RefMgateIdeal.τ Cert.RefMgateIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RefRmsIdeal (m : (ℓ : Loc Cert.RefRmsIdeal.nD Cert.RefRmsIdeal.τ Cert.RefRmsIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_RefUpXIdeal (m : (ℓ : Loc Cert.RefUpXIdeal.nD Cert.RefUpXIdeal.τ Cert.RefUpXIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_RefUpWIdeal (m : (ℓ : Loc Cert.RefUpWIdeal.nD Cert.RefUpWIdeal.τ Cert.RefUpWIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_RefDownXIdeal (m : (ℓ : Loc Cert.RefDownXIdeal.nD Cert.RefDownXIdeal.τ Cert.RefDownXIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_RefDownWIdeal (m : (ℓ : Loc Cert.RefDownWIdeal.nD Cert.RefDownWIdeal.τ Cert.RefDownWIdeal.sig) → Buf (Elt Ideal) ℓ) : Prop :=
  True

def Pre_HgrnOutW (m : (ℓ : Loc Cert.HgrnOutW.nD Cert.HgrnOutW.τ Cert.HgrnOutW.sig) → Buf (Elt Bits) ℓ) : Prop :=
  True

def Pre_HgrnOutWIdeal (m : (ℓ : Loc Cert.HgrnOutWIdeal.nD Cert.HgrnOutWIdeal.τ Cert.HgrnOutWIdeal.sig) → Buf (Elt Ideal) ℓ) : Prop :=
  True

def Pre_RefHgrnOutWIdeal (m : (ℓ : Loc Cert.RefHgrnOutWIdeal.nD Cert.RefHgrnOutWIdeal.τ Cert.RefHgrnOutWIdeal.sig) → Buf (Elt Ideal) ℓ) : Prop :=
  True

def Pre_HgrnOutX (m : (ℓ : Loc Cert.HgrnOutX.nD Cert.HgrnOutX.τ Cert.HgrnOutX.sig) → Buf (Elt Bits) ℓ) : Prop :=
  True

def Pre_HgrnOutXIdeal (m : (ℓ : Loc Cert.HgrnOutXIdeal.nD Cert.HgrnOutXIdeal.τ Cert.HgrnOutXIdeal.sig) → Buf (Elt Ideal) ℓ) : Prop :=
  True

def Pre_RefHgrnOutXIdeal (m : (ℓ : Loc Cert.RefHgrnOutXIdeal.nD Cert.RefHgrnOutXIdeal.τ Cert.RefHgrnOutXIdeal.sig) → Buf (Elt Ideal) ℓ) : Prop :=
  True

def Pre_HgrnInW (m : (ℓ : Loc Cert.HgrnInW.nD Cert.HgrnInW.τ Cert.HgrnInW.sig) → Buf (Elt Bits) ℓ) : Prop :=
  True

def Pre_HgrnInWIdeal (m : (ℓ : Loc Cert.HgrnInWIdeal.nD Cert.HgrnInWIdeal.τ Cert.HgrnInWIdeal.sig) → Buf (Elt Ideal) ℓ) : Prop :=
  True

def Pre_RefHgrnInWIdeal (m : (ℓ : Loc Cert.RefHgrnInWIdeal.nD Cert.RefHgrnInWIdeal.τ Cert.RefHgrnInWIdeal.sig) → Buf (Elt Ideal) ℓ) : Prop :=
  True

def Pre_HgrnInX (m : (ℓ : Loc Cert.HgrnInX.nD Cert.HgrnInX.τ Cert.HgrnInX.sig) → Buf (Elt Bits) ℓ) : Prop :=
  True

def Pre_HgrnInXIdeal (m : (ℓ : Loc Cert.HgrnInXIdeal.nD Cert.HgrnInXIdeal.τ Cert.HgrnInXIdeal.sig) → Buf (Elt Ideal) ℓ) : Prop :=
  True

def Pre_RefHgrnInXIdeal (m : (ℓ : Loc Cert.RefHgrnInXIdeal.nD Cert.RefHgrnInXIdeal.τ Cert.RefHgrnInXIdeal.sig) → Buf (Elt Ideal) ℓ) : Prop :=
  True

def Pre_MambaOutW (m : (ℓ : Loc Cert.MambaOutW.nD Cert.MambaOutW.τ Cert.MambaOutW.sig) → Buf (Elt Bits) ℓ) : Prop :=
  True

def Pre_MambaOutWIdeal (m : (ℓ : Loc Cert.MambaOutWIdeal.nD Cert.MambaOutWIdeal.τ Cert.MambaOutWIdeal.sig) → Buf (Elt Ideal) ℓ) : Prop :=
  True

def Pre_RefMambaOutWIdeal (m : (ℓ : Loc Cert.RefMambaOutWIdeal.nD Cert.RefMambaOutWIdeal.τ Cert.RefMambaOutWIdeal.sig) → Buf (Elt Ideal) ℓ) : Prop :=
  True

def Pre_MambaOutX (m : (ℓ : Loc Cert.MambaOutX.nD Cert.MambaOutX.τ Cert.MambaOutX.sig) → Buf (Elt Bits) ℓ) : Prop :=
  True

def Pre_MambaOutXIdeal (m : (ℓ : Loc Cert.MambaOutXIdeal.nD Cert.MambaOutXIdeal.τ Cert.MambaOutXIdeal.sig) → Buf (Elt Ideal) ℓ) : Prop :=
  True

def Pre_RefMambaOutXIdeal (m : (ℓ : Loc Cert.RefMambaOutXIdeal.nD Cert.RefMambaOutXIdeal.τ Cert.RefMambaOutXIdeal.sig) → Buf (Elt Ideal) ℓ) : Prop :=
  True

def Pre_MambaZW (m : (ℓ : Loc Cert.MambaZW.nD Cert.MambaZW.τ Cert.MambaZW.sig) → Buf (Elt Bits) ℓ) : Prop :=
  True

def Pre_MambaZWIdeal (m : (ℓ : Loc Cert.MambaZWIdeal.nD Cert.MambaZWIdeal.τ Cert.MambaZWIdeal.sig) → Buf (Elt Ideal) ℓ) : Prop :=
  True

def Pre_RefMambaZWIdeal (m : (ℓ : Loc Cert.RefMambaZWIdeal.nD Cert.RefMambaZWIdeal.τ Cert.RefMambaZWIdeal.sig) → Buf (Elt Ideal) ℓ) : Prop :=
  True

def Pre_MambaZX (m : (ℓ : Loc Cert.MambaZX.nD Cert.MambaZX.τ Cert.MambaZX.sig) → Buf (Elt Bits) ℓ) : Prop :=
  True

def Pre_MambaZXIdeal (m : (ℓ : Loc Cert.MambaZXIdeal.nD Cert.MambaZXIdeal.τ Cert.MambaZXIdeal.sig) → Buf (Elt Ideal) ℓ) : Prop :=
  True

def Pre_RefMambaZXIdeal (m : (ℓ : Loc Cert.RefMambaZXIdeal.nD Cert.RefMambaZXIdeal.τ Cert.RefMambaZXIdeal.sig) → Buf (Elt Ideal) ℓ) : Prop :=
  True

def Pre_MambaXbcW (m : (ℓ : Loc Cert.MambaXbcW.nD Cert.MambaXbcW.τ Cert.MambaXbcW.sig) → Buf (Elt Bits) ℓ) : Prop :=
  True

def Pre_MambaXbcWIdeal (m : (ℓ : Loc Cert.MambaXbcWIdeal.nD Cert.MambaXbcWIdeal.τ Cert.MambaXbcWIdeal.sig) → Buf (Elt Ideal) ℓ) : Prop :=
  True

def Pre_RefMambaXbcWIdeal (m : (ℓ : Loc Cert.RefMambaXbcWIdeal.nD Cert.RefMambaXbcWIdeal.τ Cert.RefMambaXbcWIdeal.sig) → Buf (Elt Ideal) ℓ) : Prop :=
  True

def Pre_MambaXbcX (m : (ℓ : Loc Cert.MambaXbcX.nD Cert.MambaXbcX.τ Cert.MambaXbcX.sig) → Buf (Elt Bits) ℓ) : Prop :=
  True

def Pre_MambaXbcXIdeal (m : (ℓ : Loc Cert.MambaXbcXIdeal.nD Cert.MambaXbcXIdeal.τ Cert.MambaXbcXIdeal.sig) → Buf (Elt Ideal) ℓ) : Prop :=
  True

def Pre_RefMambaXbcXIdeal (m : (ℓ : Loc Cert.RefMambaXbcXIdeal.nD Cert.RefMambaXbcXIdeal.τ Cert.RefMambaXbcXIdeal.sig) → Buf (Elt Ideal) ℓ) : Prop :=
  True

def Pre_MambaDtW (m : (ℓ : Loc Cert.MambaDtW.nD Cert.MambaDtW.τ Cert.MambaDtW.sig) → Buf (Elt Bits) ℓ) : Prop :=
  True

def Pre_MambaDtWIdeal (m : (ℓ : Loc Cert.MambaDtWIdeal.nD Cert.MambaDtWIdeal.τ Cert.MambaDtWIdeal.sig) → Buf (Elt Ideal) ℓ) : Prop :=
  True

def Pre_RefMambaDtWIdeal (m : (ℓ : Loc Cert.RefMambaDtWIdeal.nD Cert.RefMambaDtWIdeal.τ Cert.RefMambaDtWIdeal.sig) → Buf (Elt Ideal) ℓ) : Prop :=
  True

def Pre_MambaDtX (m : (ℓ : Loc Cert.MambaDtX.nD Cert.MambaDtX.τ Cert.MambaDtX.sig) → Buf (Elt Bits) ℓ) : Prop :=
  True

def Pre_MambaDtXIdeal (m : (ℓ : Loc Cert.MambaDtXIdeal.nD Cert.MambaDtXIdeal.τ Cert.MambaDtXIdeal.sig) → Buf (Elt Ideal) ℓ) : Prop :=
  True

def Pre_RefMambaDtXIdeal (m : (ℓ : Loc Cert.RefMambaDtXIdeal.nD Cert.RefMambaDtXIdeal.τ Cert.RefMambaDtXIdeal.sig) → Buf (Elt Ideal) ℓ) : Prop :=
  True

def Pre_LbB (m : (ℓ : Loc Cert.LbB.nD Cert.LbB.τ Cert.LbB.sig) → Buf (Elt Bits) ℓ) : Prop :=
  True

def Pre_LbBIdeal (m : (ℓ : Loc Cert.LbBIdeal.nD Cert.LbBIdeal.τ Cert.LbBIdeal.sig) → Buf (Elt Ideal) ℓ) : Prop :=
  True

def Pre_RefLbBIdeal (m : (ℓ : Loc Cert.RefLbBIdeal.nD Cert.RefLbBIdeal.τ Cert.RefLbBIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_RefHgrnInIdeal (m : (ℓ : Loc Cert.RefHgrnInIdeal.nD Cert.RefHgrnInIdeal.τ Cert.RefHgrnInIdeal.sig) → Buf (Elt Ideal) ℓ) : Prop :=
  True

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_RefHgrnOutIdeal (m : (ℓ : Loc Cert.RefHgrnOutIdeal.nD Cert.RefHgrnOutIdeal.τ Cert.RefHgrnOutIdeal.sig) → Buf (Elt Ideal) ℓ) : Prop :=
  True

def Pre_MambaZ (m : (ℓ : Loc Cert.MambaZ.nD Cert.MambaZ.τ Cert.MambaZ.sig) → Buf (Elt Bits) ℓ) : Prop :=
  True

def Pre_MambaZIdeal (m : (ℓ : Loc Cert.MambaZIdeal.nD Cert.MambaZIdeal.τ Cert.MambaZIdeal.sig) → Buf (Elt Ideal) ℓ) : Prop :=
  True

def Pre_RefMambaZIdeal (m : (ℓ : Loc Cert.RefMambaZIdeal.nD Cert.RefMambaZIdeal.τ Cert.RefMambaZIdeal.sig) → Buf (Elt Ideal) ℓ) : Prop :=
  True

def Pre_MambaXbc (m : (ℓ : Loc Cert.MambaXbc.nD Cert.MambaXbc.τ Cert.MambaXbc.sig) → Buf (Elt Bits) ℓ) : Prop :=
  True

def Pre_MambaXbcIdeal (m : (ℓ : Loc Cert.MambaXbcIdeal.nD Cert.MambaXbcIdeal.τ Cert.MambaXbcIdeal.sig) → Buf (Elt Ideal) ℓ) : Prop :=
  True

def Pre_RefMambaXbcIdeal (m : (ℓ : Loc Cert.RefMambaXbcIdeal.nD Cert.RefMambaXbcIdeal.τ Cert.RefMambaXbcIdeal.sig) → Buf (Elt Ideal) ℓ) : Prop :=
  True

def Pre_MambaDt (m : (ℓ : Loc Cert.MambaDt.nD Cert.MambaDt.τ Cert.MambaDt.sig) → Buf (Elt Bits) ℓ) : Prop :=
  True

def Pre_MambaDtIdeal (m : (ℓ : Loc Cert.MambaDtIdeal.nD Cert.MambaDtIdeal.τ Cert.MambaDtIdeal.sig) → Buf (Elt Ideal) ℓ) : Prop :=
  True

def Pre_RefMambaDtIdeal (m : (ℓ : Loc Cert.RefMambaDtIdeal.nD Cert.RefMambaDtIdeal.τ Cert.RefMambaDtIdeal.sig) → Buf (Elt Ideal) ℓ) : Prop :=
  True

def Pre_MambaOut (m : (ℓ : Loc Cert.MambaOut.nD Cert.MambaOut.τ Cert.MambaOut.sig) → Buf (Elt Bits) ℓ) : Prop :=
  True

def Pre_MambaOutIdeal (m : (ℓ : Loc Cert.MambaOutIdeal.nD Cert.MambaOutIdeal.τ Cert.MambaOutIdeal.sig) → Buf (Elt Ideal) ℓ) : Prop :=
  True

def Pre_RefMambaOutIdeal (m : (ℓ : Loc Cert.RefMambaOutIdeal.nD Cert.RefMambaOutIdeal.τ Cert.RefMambaOutIdeal.sig) → Buf (Elt Ideal) ℓ) : Prop :=
  True

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RefRmsFIdeal (m : (ℓ : Loc Cert.RefRmsFIdeal.nD Cert.RefRmsFIdeal.τ Cert.RefRmsFIdeal.sig) → Buf (Elt Ideal) ℓ) : Prop :=
  True

def Pre_MgateF (m : (ℓ : Loc Cert.MgateF.nD Cert.MgateF.τ Cert.MgateF.sig) → Buf (Elt Bits) ℓ) : Prop :=
  True

def Pre_MgateFIdeal (m : (ℓ : Loc Cert.MgateFIdeal.nD Cert.MgateFIdeal.τ Cert.MgateFIdeal.sig) → Buf (Elt Ideal) ℓ) : Prop :=
  True

def Pre_RefMgateFIdeal (m : (ℓ : Loc Cert.RefMgateFIdeal.nD Cert.RefMgateFIdeal.τ Cert.RefMgateFIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_RefConvFIdeal (m : (ℓ : Loc Cert.RefConvFIdeal.nD Cert.RefConvFIdeal.τ Cert.RefConvFIdeal.sig) → Buf (Elt Ideal) ℓ) : Prop :=
  True

def Pre_GateF (m : (ℓ : Loc Cert.GateF.nD Cert.GateF.τ Cert.GateF.sig) → Buf (Elt Bits) ℓ) : Prop :=
  True

def Pre_GateFIdeal (m : (ℓ : Loc Cert.GateFIdeal.nD Cert.GateFIdeal.τ Cert.GateFIdeal.sig) → Buf (Elt Ideal) ℓ) : Prop :=
  True

def Pre_RefGateFIdeal (m : (ℓ : Loc Cert.RefGateFIdeal.nD Cert.RefGateFIdeal.τ Cert.RefGateFIdeal.sig) → Buf (Elt Ideal) ℓ) : Prop :=
  True

def Pre_HgrnF (m : (ℓ : Loc Cert.HgrnF.nD Cert.HgrnF.τ Cert.HgrnF.sig) → Buf (Elt Bits) ℓ) : Prop :=
  True

def Pre_HgrnFIdeal (m : (ℓ : Loc Cert.HgrnFIdeal.nD Cert.HgrnFIdeal.τ Cert.HgrnFIdeal.sig) → Buf (Elt Ideal) ℓ) : Prop :=
  True

def Pre_HgrnFIdeal_bounded_hgrn_f [hPre_bounded_hgrn_f : Cert.Pre_bounded_hgrn_f.Facts] (m : (ℓ : Loc Cert.HgrnFIdeal.nD Cert.HgrnFIdeal.τ Cert.HgrnFIdeal.sig) → Buf (Elt Ideal) ℓ) : Prop :=
  ∀ c : Dev Cert.HgrnFIdeal.nD,
    (Cert.Pre_bounded_hgrn_f.fn (F := Ideal) (m ((c.tc : Thread Cert.HgrnFIdeal.nD Cert.HgrnFIdeal.τ).loc Cert.HgrnFIdeal.main_arg0)) (m ((c.tc : Thread Cert.HgrnFIdeal.nD Cert.HgrnFIdeal.τ).loc Cert.HgrnFIdeal.main_arg1)) (m ((c.tc : Thread Cert.HgrnFIdeal.nD Cert.HgrnFIdeal.τ).loc Cert.HgrnFIdeal.main_arg2))).1 = (fun _ => 1#1)
    ∧ (Cert.Pre_bounded_hgrn_f.fn (F := Ideal) (m ((c.tc : Thread Cert.HgrnFIdeal.nD Cert.HgrnFIdeal.τ).loc Cert.HgrnFIdeal.main_arg0)) (m ((c.tc : Thread Cert.HgrnFIdeal.nD Cert.HgrnFIdeal.τ).loc Cert.HgrnFIdeal.main_arg1)) (m ((c.tc : Thread Cert.HgrnFIdeal.nD Cert.HgrnFIdeal.τ).loc Cert.HgrnFIdeal.main_arg2))).2 = (fun _ => 1#1)

def Pre_RefHgrnFIdeal (m : (ℓ : Loc Cert.RefHgrnFIdeal.nD Cert.RefHgrnFIdeal.τ Cert.RefHgrnFIdeal.sig) → Buf (Elt Ideal) ℓ) : Prop :=
  True

def Pre_RefHgrnFIdeal_bounded_hgrn_f [hPre_bounded_hgrn_f : Cert.Pre_bounded_hgrn_f.Facts] (m : (ℓ : Loc Cert.RefHgrnFIdeal.nD Cert.RefHgrnFIdeal.τ Cert.RefHgrnFIdeal.sig) → Buf (Elt Ideal) ℓ) : Prop :=
  ∀ c : Dev Cert.RefHgrnFIdeal.nD,
    (Cert.Pre_bounded_hgrn_f.fn (F := Ideal) (m ((c.tc : Thread Cert.RefHgrnFIdeal.nD Cert.RefHgrnFIdeal.τ).loc Cert.RefHgrnFIdeal.main_arg0)) (m ((c.tc : Thread Cert.RefHgrnFIdeal.nD Cert.RefHgrnFIdeal.τ).loc Cert.RefHgrnFIdeal.main_arg1)) (m ((c.tc : Thread Cert.RefHgrnFIdeal.nD Cert.RefHgrnFIdeal.τ).loc Cert.RefHgrnFIdeal.main_arg2))).1 = (fun _ => 1#1)
    ∧ (Cert.Pre_bounded_hgrn_f.fn (F := Ideal) (m ((c.tc : Thread Cert.RefHgrnFIdeal.nD Cert.RefHgrnFIdeal.τ).loc Cert.RefHgrnFIdeal.main_arg0)) (m ((c.tc : Thread Cert.RefHgrnFIdeal.nD Cert.RefHgrnFIdeal.τ).loc Cert.RefHgrnFIdeal.main_arg1)) (m ((c.tc : Thread Cert.RefHgrnFIdeal.nD Cert.RefHgrnFIdeal.τ).loc Cert.RefHgrnFIdeal.main_arg2))).2 = (fun _ => 1#1)

def Pre_LbF (m : (ℓ : Loc Cert.LbF.nD Cert.LbF.τ Cert.LbF.sig) → Buf (Elt Bits) ℓ) : Prop :=
  True

def Pre_LbFIdeal (m : (ℓ : Loc Cert.LbFIdeal.nD Cert.LbFIdeal.τ Cert.LbFIdeal.sig) → Buf (Elt Ideal) ℓ) : Prop :=
  True

def Pre_RefLbFIdeal (m : (ℓ : Loc Cert.RefLbFIdeal.nD Cert.RefLbFIdeal.τ Cert.RefLbFIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RefAdamSmallIdeal (m : (ℓ : Loc Cert.RefAdamSmallIdeal.nD Cert.RefAdamSmallIdeal.τ Cert.RefAdamSmallIdeal.sig) → Buf (Elt Ideal) ℓ) : Prop :=
  True

def Pre_AdamHgrnIn (m : (ℓ : Loc Cert.AdamHgrnIn.nD Cert.AdamHgrnIn.τ Cert.AdamHgrnIn.sig) → Buf (Elt Bits) ℓ) : Prop :=
  True

def Pre_AdamHgrnInIdeal (m : (ℓ : Loc Cert.AdamHgrnInIdeal.nD Cert.AdamHgrnInIdeal.τ Cert.AdamHgrnInIdeal.sig) → Buf (Elt Ideal) ℓ) : Prop :=
  True

def Pre_RefAdamHgrnInIdeal (m : (ℓ : Loc Cert.RefAdamHgrnInIdeal.nD Cert.RefAdamHgrnInIdeal.τ Cert.RefAdamHgrnInIdeal.sig) → Buf (Elt Ideal) ℓ) : Prop :=
  True

def Pre_AdamHgrnOut (m : (ℓ : Loc Cert.AdamHgrnOut.nD Cert.AdamHgrnOut.τ Cert.AdamHgrnOut.sig) → Buf (Elt Bits) ℓ) : Prop :=
  True

def Pre_AdamHgrnOutIdeal (m : (ℓ : Loc Cert.AdamHgrnOutIdeal.nD Cert.AdamHgrnOutIdeal.τ Cert.AdamHgrnOutIdeal.sig) → Buf (Elt Ideal) ℓ) : Prop :=
  True

def Pre_RefAdamHgrnOutIdeal (m : (ℓ : Loc Cert.RefAdamHgrnOutIdeal.nD Cert.RefAdamHgrnOutIdeal.τ Cert.RefAdamHgrnOutIdeal.sig) → Buf (Elt Ideal) ℓ) : Prop :=
  True

def Pre_AdamMambaIn (m : (ℓ : Loc Cert.AdamMambaIn.nD Cert.AdamMambaIn.τ Cert.AdamMambaIn.sig) → Buf (Elt Bits) ℓ) : Prop :=
  True

def Pre_AdamMambaInIdeal (m : (ℓ : Loc Cert.AdamMambaInIdeal.nD Cert.AdamMambaInIdeal.τ Cert.AdamMambaInIdeal.sig) → Buf (Elt Ideal) ℓ) : Prop :=
  True

def Pre_RefAdamMambaInIdeal (m : (ℓ : Loc Cert.RefAdamMambaInIdeal.nD Cert.RefAdamMambaInIdeal.τ Cert.RefAdamMambaInIdeal.sig) → Buf (Elt Ideal) ℓ) : Prop :=
  True

def Pre_AdamMambaOut (m : (ℓ : Loc Cert.AdamMambaOut.nD Cert.AdamMambaOut.τ Cert.AdamMambaOut.sig) → Buf (Elt Bits) ℓ) : Prop :=
  True

def Pre_AdamMambaOutIdeal (m : (ℓ : Loc Cert.AdamMambaOutIdeal.nD Cert.AdamMambaOutIdeal.τ Cert.AdamMambaOutIdeal.sig) → Buf (Elt Ideal) ℓ) : Prop :=
  True

def Pre_RefAdamMambaOutIdeal (m : (ℓ : Loc Cert.RefAdamMambaOutIdeal.nD Cert.RefAdamMambaOutIdeal.τ Cert.RefAdamMambaOutIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_RefAdamUpIdeal (m : (ℓ : Loc Cert.RefAdamUpIdeal.nD Cert.RefAdamUpIdeal.τ Cert.RefAdamUpIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_RefAdamDownIdeal (m : (ℓ : Loc Cert.RefAdamDownIdeal.nD Cert.RefAdamDownIdeal.τ Cert.RefAdamDownIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_RefSumDevIdeal (m : (ℓ : Loc Cert.RefSumDevIdeal.nD Cert.RefSumDevIdeal.τ Cert.RefSumDevIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_conv [hKernelIdeal : Cert.KernelIdeal.Facts] [hPre_finite_conv : Cert.Pre_finite_conv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_conv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_conv [hReferenceIdeal : Cert.ReferenceIdeal.Facts] [hPre_finite_conv : Cert.Pre_finite_conv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_conv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_RefGateIdeal [hRefGateIdeal : Cert.RefGateIdeal.Facts] : Prop :=
  ∀ (m : (ℓ : Loc Cert.RefGateIdeal.nD Cert.RefGateIdeal.τ Cert.RefGateIdeal.sig) → Buf (Elt Ideal) ℓ) (g : Dev Cert.RefGateIdeal.nD → PrngReg), Pre_RefGateIdeal m →
    θ_run (Cert.RefGateIdeal.defs (F := Ideal)) (onTc (τ := Cert.RefGateIdeal.τ) (Cert.RefGateIdeal.main (F := Ideal))) ⟨m, fun _ => 0, g⟩ (fun r => (∀ c : Dev Cert.RefGateIdeal.nD,
      r.2.mem ((c.tc : Thread Cert.RefGateIdeal.nD Cert.RefGateIdeal.τ).loc Cert.RefGateIdeal.main_arg0) = m ((c.tc : Thread Cert.RefGateIdeal.nD Cert.RefGateIdeal.τ).loc Cert.RefGateIdeal.main_arg0)
      ∧ r.2.mem ((c.tc : Thread Cert.RefGateIdeal.nD Cert.RefGateIdeal.τ).loc Cert.RefGateIdeal.main_arg1) = m ((c.tc : Thread Cert.RefGateIdeal.nD Cert.RefGateIdeal.τ).loc Cert.RefGateIdeal.main_arg1)
      ∧ r.2.mem ((c.tc : Thread Cert.RefGateIdeal.nD Cert.RefGateIdeal.τ).loc Cert.RefGateIdeal.main_arg2) = m ((c.tc : Thread Cert.RefGateIdeal.nD Cert.RefGateIdeal.τ).loc Cert.RefGateIdeal.main_arg2)
      ∧ r.2.mem ((c.tc : Thread Cert.RefGateIdeal.nD Cert.RefGateIdeal.τ).loc Cert.RefGateIdeal.main_arg3) = m ((c.tc : Thread Cert.RefGateIdeal.nD Cert.RefGateIdeal.τ).loc Cert.RefGateIdeal.main_arg3))
      ∧ r.2.sem = fun _ => 0)

def quiescent_RefGateIdeal_pre_finite_gate [hRefGateIdeal : Cert.RefGateIdeal.Facts] [hPre_finite_gate : Cert.Pre_finite_gate.Facts] : Prop :=
  ∀ (m : (ℓ : Loc Cert.RefGateIdeal.nD Cert.RefGateIdeal.τ Cert.RefGateIdeal.sig) → Buf (Elt Ideal) ℓ) (g : Dev Cert.RefGateIdeal.nD → PrngReg), Pre_RefGateIdeal_finite_gate m →
    θ_run (Cert.RefGateIdeal.defs (F := Ideal)) (onTc (τ := Cert.RefGateIdeal.τ) (Cert.RefGateIdeal.main (F := Ideal))) ⟨m, fun _ => 0, g⟩ (fun r => (∀ c : Dev Cert.RefGateIdeal.nD,
      r.2.mem ((c.tc : Thread Cert.RefGateIdeal.nD Cert.RefGateIdeal.τ).loc Cert.RefGateIdeal.main_arg0) = m ((c.tc : Thread Cert.RefGateIdeal.nD Cert.RefGateIdeal.τ).loc Cert.RefGateIdeal.main_arg0)
      ∧ r.2.mem ((c.tc : Thread Cert.RefGateIdeal.nD Cert.RefGateIdeal.τ).loc Cert.RefGateIdeal.main_arg1) = m ((c.tc : Thread Cert.RefGateIdeal.nD Cert.RefGateIdeal.τ).loc Cert.RefGateIdeal.main_arg1)
      ∧ r.2.mem ((c.tc : Thread Cert.RefGateIdeal.nD Cert.RefGateIdeal.τ).loc Cert.RefGateIdeal.main_arg2) = m ((c.tc : Thread Cert.RefGateIdeal.nD Cert.RefGateIdeal.τ).loc Cert.RefGateIdeal.main_arg2)
      ∧ r.2.mem ((c.tc : Thread Cert.RefGateIdeal.nD Cert.RefGateIdeal.τ).loc Cert.RefGateIdeal.main_arg3) = m ((c.tc : Thread Cert.RefGateIdeal.nD Cert.RefGateIdeal.τ).loc Cert.RefGateIdeal.main_arg3))
      ∧ r.2.sem = fun _ => 0)

def quiescent_Mgate [hMgate : Cert.Mgate.Facts] : Prop :=
  ∀ (m : (ℓ : Loc Cert.Mgate.nD Cert.Mgate.τ Cert.Mgate.sig) → Buf (Elt Bits) ℓ) (g : Dev Cert.Mgate.nD → PrngReg), Pre_Mgate m →
    θ_run (Cert.Mgate.defs (F := Bits)) (onTc (τ := Cert.Mgate.τ) (Cert.Mgate.main (F := Bits))) ⟨m, fun _ => 0, g⟩ (fun r => (∀ c : Dev Cert.Mgate.nD,
      r.2.mem ((c.tc : Thread Cert.Mgate.nD Cert.Mgate.τ).loc Cert.Mgate.main_arg0) = m ((c.tc : Thread Cert.Mgate.nD Cert.Mgate.τ).loc Cert.Mgate.main_arg0)
      ∧ r.2.mem ((c.tc : Thread Cert.Mgate.nD Cert.Mgate.τ).loc Cert.Mgate.main_arg1) = m ((c.tc : Thread Cert.Mgate.nD Cert.Mgate.τ).loc Cert.Mgate.main_arg1)
      ∧ r.2.mem ((c.tc : Thread Cert.Mgate.nD Cert.Mgate.τ).loc Cert.Mgate.main_arg2) = m ((c.tc : Thread Cert.Mgate.nD Cert.Mgate.τ).loc Cert.Mgate.main_arg2)
      ∧ r.2.mem ((c.tc : Thread Cert.Mgate.nD Cert.Mgate.τ).loc Cert.Mgate.main_arg3) = m ((c.tc : Thread Cert.Mgate.nD Cert.Mgate.τ).loc Cert.Mgate.main_arg3))
      ∧ r.2.sem = fun _ => 0)

def quiescent_MgateIdeal [hMgateIdeal : Cert.MgateIdeal.Facts] : Prop :=
  ∀ (m : (ℓ : Loc Cert.MgateIdeal.nD Cert.MgateIdeal.τ Cert.MgateIdeal.sig) → Buf (Elt Ideal) ℓ) (g : Dev Cert.MgateIdeal.nD → PrngReg), Pre_MgateIdeal m →
    θ_run (Cert.MgateIdeal.defs (F := Ideal)) (onTc (τ := Cert.MgateIdeal.τ) (Cert.MgateIdeal.main (F := Ideal))) ⟨m, fun _ => 0, g⟩ (fun r => (∀ c : Dev Cert.MgateIdeal.nD,
      r.2.mem ((c.tc : Thread Cert.MgateIdeal.nD Cert.MgateIdeal.τ).loc Cert.MgateIdeal.main_arg0) = m ((c.tc : Thread Cert.MgateIdeal.nD Cert.MgateIdeal.τ).loc Cert.MgateIdeal.main_arg0)
      ∧ r.2.mem ((c.tc : Thread Cert.MgateIdeal.nD Cert.MgateIdeal.τ).loc Cert.MgateIdeal.main_arg1) = m ((c.tc : Thread Cert.MgateIdeal.nD Cert.MgateIdeal.τ).loc Cert.MgateIdeal.main_arg1)
      ∧ r.2.mem ((c.tc : Thread Cert.MgateIdeal.nD Cert.MgateIdeal.τ).loc Cert.MgateIdeal.main_arg2) = m ((c.tc : Thread Cert.MgateIdeal.nD Cert.MgateIdeal.τ).loc Cert.MgateIdeal.main_arg2)
      ∧ r.2.mem ((c.tc : Thread Cert.MgateIdeal.nD Cert.MgateIdeal.τ).loc Cert.MgateIdeal.main_arg3) = m ((c.tc : Thread Cert.MgateIdeal.nD Cert.MgateIdeal.τ).loc Cert.MgateIdeal.main_arg3))
      ∧ r.2.sem = fun _ => 0)

def quiescent_RefMgateIdeal [hRefMgateIdeal : Cert.RefMgateIdeal.Facts] : Prop :=
  ∀ (m : (ℓ : Loc Cert.RefMgateIdeal.nD Cert.RefMgateIdeal.τ Cert.RefMgateIdeal.sig) → Buf (Elt Ideal) ℓ) (g : Dev Cert.RefMgateIdeal.nD → PrngReg), Pre_RefMgateIdeal m →
    θ_run (Cert.RefMgateIdeal.defs (F := Ideal)) (onTc (τ := Cert.RefMgateIdeal.τ) (Cert.RefMgateIdeal.main (F := Ideal))) ⟨m, fun _ => 0, g⟩ (fun r => (∀ c : Dev Cert.RefMgateIdeal.nD,
      r.2.mem ((c.tc : Thread Cert.RefMgateIdeal.nD Cert.RefMgateIdeal.τ).loc Cert.RefMgateIdeal.main_arg0) = m ((c.tc : Thread Cert.RefMgateIdeal.nD Cert.RefMgateIdeal.τ).loc Cert.RefMgateIdeal.main_arg0)
      ∧ r.2.mem ((c.tc : Thread Cert.RefMgateIdeal.nD Cert.RefMgateIdeal.τ).loc Cert.RefMgateIdeal.main_arg1) = m ((c.tc : Thread Cert.RefMgateIdeal.nD Cert.RefMgateIdeal.τ).loc Cert.RefMgateIdeal.main_arg1)
      ∧ r.2.mem ((c.tc : Thread Cert.RefMgateIdeal.nD Cert.RefMgateIdeal.τ).loc Cert.RefMgateIdeal.main_arg2) = m ((c.tc : Thread Cert.RefMgateIdeal.nD Cert.RefMgateIdeal.τ).loc Cert.RefMgateIdeal.main_arg2)
      ∧ r.2.mem ((c.tc : Thread Cert.RefMgateIdeal.nD Cert.RefMgateIdeal.τ).loc Cert.RefMgateIdeal.main_arg3) = m ((c.tc : Thread Cert.RefMgateIdeal.nD Cert.RefMgateIdeal.τ).loc Cert.RefMgateIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RefRmsIdeal [hRefRmsIdeal : Cert.RefRmsIdeal.Facts] : Prop :=
  ∀ (m : (ℓ : Loc Cert.RefRmsIdeal.nD Cert.RefRmsIdeal.τ Cert.RefRmsIdeal.sig) → Buf (Elt Ideal) ℓ) (g : Dev Cert.RefRmsIdeal.nD → PrngReg), Pre_RefRmsIdeal m →
    θ_run (Cert.RefRmsIdeal.defs (F := Ideal)) (onTc (τ := Cert.RefRmsIdeal.τ) (Cert.RefRmsIdeal.main (F := Ideal))) ⟨m, fun _ => 0, g⟩ (fun r => (∀ c : Dev Cert.RefRmsIdeal.nD,
      r.2.mem ((c.tc : Thread Cert.RefRmsIdeal.nD Cert.RefRmsIdeal.τ).loc Cert.RefRmsIdeal.main_arg0) = m ((c.tc : Thread Cert.RefRmsIdeal.nD Cert.RefRmsIdeal.τ).loc Cert.RefRmsIdeal.main_arg0)
      ∧ r.2.mem ((c.tc : Thread Cert.RefRmsIdeal.nD Cert.RefRmsIdeal.τ).loc Cert.RefRmsIdeal.main_arg1) = m ((c.tc : Thread Cert.RefRmsIdeal.nD Cert.RefRmsIdeal.τ).loc Cert.RefRmsIdeal.main_arg1)
      ∧ r.2.mem ((c.tc : Thread Cert.RefRmsIdeal.nD Cert.RefRmsIdeal.τ).loc Cert.RefRmsIdeal.main_arg2) = m ((c.tc : Thread Cert.RefRmsIdeal.nD Cert.RefRmsIdeal.τ).loc Cert.RefRmsIdeal.main_arg2)
      ∧ r.2.mem ((c.tc : Thread Cert.RefRmsIdeal.nD Cert.RefRmsIdeal.τ).loc Cert.RefRmsIdeal.main_arg3) = m ((c.tc : Thread Cert.RefRmsIdeal.nD Cert.RefRmsIdeal.τ).loc Cert.RefRmsIdeal.main_arg3))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_RefUpXIdeal [hRefUpXIdeal : Cert.RefUpXIdeal.Facts] : Prop :=
  ∀ (m : (ℓ : Loc Cert.RefUpXIdeal.nD Cert.RefUpXIdeal.τ Cert.RefUpXIdeal.sig) → Buf (Elt Ideal) ℓ) (g : Dev Cert.RefUpXIdeal.nD → PrngReg), Pre_RefUpXIdeal m →
    θ_run (Cert.RefUpXIdeal.defs (F := Ideal)) (onTc (τ := Cert.RefUpXIdeal.τ) (Cert.RefUpXIdeal.main (F := Ideal))) ⟨m, fun _ => 0, g⟩ (fun r => (∀ c : Dev Cert.RefUpXIdeal.nD,
      r.2.mem ((c.tc : Thread Cert.RefUpXIdeal.nD Cert.RefUpXIdeal.τ).loc Cert.RefUpXIdeal.main_arg0) = m ((c.tc : Thread Cert.RefUpXIdeal.nD Cert.RefUpXIdeal.τ).loc Cert.RefUpXIdeal.main_arg0)
      ∧ r.2.mem ((c.tc : Thread Cert.RefUpXIdeal.nD Cert.RefUpXIdeal.τ).loc Cert.RefUpXIdeal.main_arg1) = m ((c.tc : Thread Cert.RefUpXIdeal.nD Cert.RefUpXIdeal.τ).loc Cert.RefUpXIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_RefUpWIdeal [hRefUpWIdeal : Cert.RefUpWIdeal.Facts] : Prop :=
  ∀ (m : (ℓ : Loc Cert.RefUpWIdeal.nD Cert.RefUpWIdeal.τ Cert.RefUpWIdeal.sig) → Buf (Elt Ideal) ℓ) (g : Dev Cert.RefUpWIdeal.nD → PrngReg), Pre_RefUpWIdeal m →
    θ_run (Cert.RefUpWIdeal.defs (F := Ideal)) (onTc (τ := Cert.RefUpWIdeal.τ) (Cert.RefUpWIdeal.main (F := Ideal))) ⟨m, fun _ => 0, g⟩ (fun r => (∀ c : Dev Cert.RefUpWIdeal.nD,
      r.2.mem ((c.tc : Thread Cert.RefUpWIdeal.nD Cert.RefUpWIdeal.τ).loc Cert.RefUpWIdeal.main_arg0) = m ((c.tc : Thread Cert.RefUpWIdeal.nD Cert.RefUpWIdeal.τ).loc Cert.RefUpWIdeal.main_arg0)
      ∧ r.2.mem ((c.tc : Thread Cert.RefUpWIdeal.nD Cert.RefUpWIdeal.τ).loc Cert.RefUpWIdeal.main_arg1) = m ((c.tc : Thread Cert.RefUpWIdeal.nD Cert.RefUpWIdeal.τ).loc Cert.RefUpWIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_RefDownXIdeal [hRefDownXIdeal : Cert.RefDownXIdeal.Facts] : Prop :=
  ∀ (m : (ℓ : Loc Cert.RefDownXIdeal.nD Cert.RefDownXIdeal.τ Cert.RefDownXIdeal.sig) → Buf (Elt Ideal) ℓ) (g : Dev Cert.RefDownXIdeal.nD → PrngReg), Pre_RefDownXIdeal m →
    θ_run (Cert.RefDownXIdeal.defs (F := Ideal)) (onTc (τ := Cert.RefDownXIdeal.τ) (Cert.RefDownXIdeal.main (F := Ideal))) ⟨m, fun _ => 0, g⟩ (fun r => (∀ c : Dev Cert.RefDownXIdeal.nD,
      r.2.mem ((c.tc : Thread Cert.RefDownXIdeal.nD Cert.RefDownXIdeal.τ).loc Cert.RefDownXIdeal.main_arg0) = m ((c.tc : Thread Cert.RefDownXIdeal.nD Cert.RefDownXIdeal.τ).loc Cert.RefDownXIdeal.main_arg0)
      ∧ r.2.mem ((c.tc : Thread Cert.RefDownXIdeal.nD Cert.RefDownXIdeal.τ).loc Cert.RefDownXIdeal.main_arg1) = m ((c.tc : Thread Cert.RefDownXIdeal.nD Cert.RefDownXIdeal.τ).loc Cert.RefDownXIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_RefDownWIdeal [hRefDownWIdeal : Cert.RefDownWIdeal.Facts] : Prop :=
  ∀ (m : (ℓ : Loc Cert.RefDownWIdeal.nD Cert.RefDownWIdeal.τ Cert.RefDownWIdeal.sig) → Buf (Elt Ideal) ℓ) (g : Dev Cert.RefDownWIdeal.nD → PrngReg), Pre_RefDownWIdeal m →
    θ_run (Cert.RefDownWIdeal.defs (F := Ideal)) (onTc (τ := Cert.RefDownWIdeal.τ) (Cert.RefDownWIdeal.main (F := Ideal))) ⟨m, fun _ => 0, g⟩ (fun r => (∀ c : Dev Cert.RefDownWIdeal.nD,
      r.2.mem ((c.tc : Thread Cert.RefDownWIdeal.nD Cert.RefDownWIdeal.τ).loc Cert.RefDownWIdeal.main_arg0) = m ((c.tc : Thread Cert.RefDownWIdeal.nD Cert.RefDownWIdeal.τ).loc Cert.RefDownWIdeal.main_arg0)
      ∧ r.2.mem ((c.tc : Thread Cert.RefDownWIdeal.nD Cert.RefDownWIdeal.τ).loc Cert.RefDownWIdeal.main_arg1) = m ((c.tc : Thread Cert.RefDownWIdeal.nD Cert.RefDownWIdeal.τ).loc Cert.RefDownWIdeal.main_arg1))
      ∧ r.2.sem = fun _ => 0)

def quiescent_HgrnOutW [hHgrnOutW : Cert.HgrnOutW.Facts] : Prop :=
  ∀ (m : (ℓ : Loc Cert.HgrnOutW.nD Cert.HgrnOutW.τ Cert.HgrnOutW.sig) → Buf (Elt Bits) ℓ) (g : Dev Cert.HgrnOutW.nD → PrngReg), Pre_HgrnOutW m →
    θ_run (Cert.HgrnOutW.defs (F := Bits)) (onTc (τ := Cert.HgrnOutW.τ) (Cert.HgrnOutW.main (F := Bits))) ⟨m, fun _ => 0, g⟩ (fun r => (∀ c : Dev Cert.HgrnOutW.nD,
      r.2.mem ((c.tc : Thread Cert.HgrnOutW.nD Cert.HgrnOutW.τ).loc Cert.HgrnOutW.main_arg0) = m ((c.tc : Thread Cert.HgrnOutW.nD Cert.HgrnOutW.τ).loc Cert.HgrnOutW.main_arg0)
      ∧ r.2.mem ((c.tc : Thread Cert.HgrnOutW.nD Cert.HgrnOutW.τ).loc Cert.HgrnOutW.main_arg1) = m ((c.tc : Thread Cert.HgrnOutW.nD Cert.HgrnOutW.τ).loc Cert.HgrnOutW.main_arg1))
      ∧ r.2.sem = fun _ => 0)

def quiescent_HgrnOutWIdeal [hHgrnOutWIdeal : Cert.HgrnOutWIdeal.Facts] : Prop :=
  ∀ (m : (ℓ : Loc Cert.HgrnOutWIdeal.nD Cert.HgrnOutWIdeal.τ Cert.HgrnOutWIdeal.sig) → Buf (Elt Ideal) ℓ) (g : Dev Cert.HgrnOutWIdeal.nD → PrngReg), Pre_HgrnOutWIdeal m →
    θ_run (Cert.HgrnOutWIdeal.defs (F := Ideal)) (onTc (τ := Cert.HgrnOutWIdeal.τ) (Cert.HgrnOutWIdeal.main (F := Ideal))) ⟨m, fun _ => 0, g⟩ (fun r => (∀ c : Dev Cert.HgrnOutWIdeal.nD,
      r.2.mem ((c.tc : Thread Cert.HgrnOutWIdeal.nD Cert.HgrnOutWIdeal.τ).loc Cert.HgrnOutWIdeal.main_arg0) = m ((c.tc : Thread Cert.HgrnOutWIdeal.nD Cert.HgrnOutWIdeal.τ).loc Cert.HgrnOutWIdeal.main_arg0)
      ∧ r.2.mem ((c.tc : Thread Cert.HgrnOutWIdeal.nD Cert.HgrnOutWIdeal.τ).loc Cert.HgrnOutWIdeal.main_arg1) = m ((c.tc : Thread Cert.HgrnOutWIdeal.nD Cert.HgrnOutWIdeal.τ).loc Cert.HgrnOutWIdeal.main_arg1))
      ∧ r.2.sem = fun _ => 0)

def quiescent_RefHgrnOutWIdeal [hRefHgrnOutWIdeal : Cert.RefHgrnOutWIdeal.Facts] : Prop :=
  ∀ (m : (ℓ : Loc Cert.RefHgrnOutWIdeal.nD Cert.RefHgrnOutWIdeal.τ Cert.RefHgrnOutWIdeal.sig) → Buf (Elt Ideal) ℓ) (g : Dev Cert.RefHgrnOutWIdeal.nD → PrngReg), Pre_RefHgrnOutWIdeal m →
    θ_run (Cert.RefHgrnOutWIdeal.defs (F := Ideal)) (onTc (τ := Cert.RefHgrnOutWIdeal.τ) (Cert.RefHgrnOutWIdeal.main (F := Ideal))) ⟨m, fun _ => 0, g⟩ (fun r => (∀ c : Dev Cert.RefHgrnOutWIdeal.nD,
      r.2.mem ((c.tc : Thread Cert.RefHgrnOutWIdeal.nD Cert.RefHgrnOutWIdeal.τ).loc Cert.RefHgrnOutWIdeal.main_arg0) = m ((c.tc : Thread Cert.RefHgrnOutWIdeal.nD Cert.RefHgrnOutWIdeal.τ).loc Cert.RefHgrnOutWIdeal.main_arg0)
      ∧ r.2.mem ((c.tc : Thread Cert.RefHgrnOutWIdeal.nD Cert.RefHgrnOutWIdeal.τ).loc Cert.RefHgrnOutWIdeal.main_arg1) = m ((c.tc : Thread Cert.RefHgrnOutWIdeal.nD Cert.RefHgrnOutWIdeal.τ).loc Cert.RefHgrnOutWIdeal.main_arg1))
      ∧ r.2.sem = fun _ => 0)

def quiescent_HgrnOutX [hHgrnOutX : Cert.HgrnOutX.Facts] : Prop :=
  ∀ (m : (ℓ : Loc Cert.HgrnOutX.nD Cert.HgrnOutX.τ Cert.HgrnOutX.sig) → Buf (Elt Bits) ℓ) (g : Dev Cert.HgrnOutX.nD → PrngReg), Pre_HgrnOutX m →
    θ_run (Cert.HgrnOutX.defs (F := Bits)) (onTc (τ := Cert.HgrnOutX.τ) (Cert.HgrnOutX.main (F := Bits))) ⟨m, fun _ => 0, g⟩ (fun r => (∀ c : Dev Cert.HgrnOutX.nD,
      r.2.mem ((c.tc : Thread Cert.HgrnOutX.nD Cert.HgrnOutX.τ).loc Cert.HgrnOutX.main_arg0) = m ((c.tc : Thread Cert.HgrnOutX.nD Cert.HgrnOutX.τ).loc Cert.HgrnOutX.main_arg0)
      ∧ r.2.mem ((c.tc : Thread Cert.HgrnOutX.nD Cert.HgrnOutX.τ).loc Cert.HgrnOutX.main_arg1) = m ((c.tc : Thread Cert.HgrnOutX.nD Cert.HgrnOutX.τ).loc Cert.HgrnOutX.main_arg1))
      ∧ r.2.sem = fun _ => 0)

def quiescent_HgrnOutXIdeal [hHgrnOutXIdeal : Cert.HgrnOutXIdeal.Facts] : Prop :=
  ∀ (m : (ℓ : Loc Cert.HgrnOutXIdeal.nD Cert.HgrnOutXIdeal.τ Cert.HgrnOutXIdeal.sig) → Buf (Elt Ideal) ℓ) (g : Dev Cert.HgrnOutXIdeal.nD → PrngReg), Pre_HgrnOutXIdeal m →
    θ_run (Cert.HgrnOutXIdeal.defs (F := Ideal)) (onTc (τ := Cert.HgrnOutXIdeal.τ) (Cert.HgrnOutXIdeal.main (F := Ideal))) ⟨m, fun _ => 0, g⟩ (fun r => (∀ c : Dev Cert.HgrnOutXIdeal.nD,
      r.2.mem ((c.tc : Thread Cert.HgrnOutXIdeal.nD Cert.HgrnOutXIdeal.τ).loc Cert.HgrnOutXIdeal.main_arg0) = m ((c.tc : Thread Cert.HgrnOutXIdeal.nD Cert.HgrnOutXIdeal.τ).loc Cert.HgrnOutXIdeal.main_arg0)
      ∧ r.2.mem ((c.tc : Thread Cert.HgrnOutXIdeal.nD Cert.HgrnOutXIdeal.τ).loc Cert.HgrnOutXIdeal.main_arg1) = m ((c.tc : Thread Cert.HgrnOutXIdeal.nD Cert.HgrnOutXIdeal.τ).loc Cert.HgrnOutXIdeal.main_arg1))
      ∧ r.2.sem = fun _ => 0)

def quiescent_RefHgrnOutXIdeal [hRefHgrnOutXIdeal : Cert.RefHgrnOutXIdeal.Facts] : Prop :=
  ∀ (m : (ℓ : Loc Cert.RefHgrnOutXIdeal.nD Cert.RefHgrnOutXIdeal.τ Cert.RefHgrnOutXIdeal.sig) → Buf (Elt Ideal) ℓ) (g : Dev Cert.RefHgrnOutXIdeal.nD → PrngReg), Pre_RefHgrnOutXIdeal m →
    θ_run (Cert.RefHgrnOutXIdeal.defs (F := Ideal)) (onTc (τ := Cert.RefHgrnOutXIdeal.τ) (Cert.RefHgrnOutXIdeal.main (F := Ideal))) ⟨m, fun _ => 0, g⟩ (fun r => (∀ c : Dev Cert.RefHgrnOutXIdeal.nD,
      r.2.mem ((c.tc : Thread Cert.RefHgrnOutXIdeal.nD Cert.RefHgrnOutXIdeal.τ).loc Cert.RefHgrnOutXIdeal.main_arg0) = m ((c.tc : Thread Cert.RefHgrnOutXIdeal.nD Cert.RefHgrnOutXIdeal.τ).loc Cert.RefHgrnOutXIdeal.main_arg0)
      ∧ r.2.mem ((c.tc : Thread Cert.RefHgrnOutXIdeal.nD Cert.RefHgrnOutXIdeal.τ).loc Cert.RefHgrnOutXIdeal.main_arg1) = m ((c.tc : Thread Cert.RefHgrnOutXIdeal.nD Cert.RefHgrnOutXIdeal.τ).loc Cert.RefHgrnOutXIdeal.main_arg1))
      ∧ r.2.sem = fun _ => 0)

def quiescent_HgrnInW [hHgrnInW : Cert.HgrnInW.Facts] : Prop :=
  ∀ (m : (ℓ : Loc Cert.HgrnInW.nD Cert.HgrnInW.τ Cert.HgrnInW.sig) → Buf (Elt Bits) ℓ) (g : Dev Cert.HgrnInW.nD → PrngReg), Pre_HgrnInW m →
    θ_run (Cert.HgrnInW.defs (F := Bits)) (onTc (τ := Cert.HgrnInW.τ) (Cert.HgrnInW.main (F := Bits))) ⟨m, fun _ => 0, g⟩ (fun r => (∀ c : Dev Cert.HgrnInW.nD,
      r.2.mem ((c.tc : Thread Cert.HgrnInW.nD Cert.HgrnInW.τ).loc Cert.HgrnInW.main_arg0) = m ((c.tc : Thread Cert.HgrnInW.nD Cert.HgrnInW.τ).loc Cert.HgrnInW.main_arg0)
      ∧ r.2.mem ((c.tc : Thread Cert.HgrnInW.nD Cert.HgrnInW.τ).loc Cert.HgrnInW.main_arg1) = m ((c.tc : Thread Cert.HgrnInW.nD Cert.HgrnInW.τ).loc Cert.HgrnInW.main_arg1))
      ∧ r.2.sem = fun _ => 0)

def quiescent_HgrnInWIdeal [hHgrnInWIdeal : Cert.HgrnInWIdeal.Facts] : Prop :=
  ∀ (m : (ℓ : Loc Cert.HgrnInWIdeal.nD Cert.HgrnInWIdeal.τ Cert.HgrnInWIdeal.sig) → Buf (Elt Ideal) ℓ) (g : Dev Cert.HgrnInWIdeal.nD → PrngReg), Pre_HgrnInWIdeal m →
    θ_run (Cert.HgrnInWIdeal.defs (F := Ideal)) (onTc (τ := Cert.HgrnInWIdeal.τ) (Cert.HgrnInWIdeal.main (F := Ideal))) ⟨m, fun _ => 0, g⟩ (fun r => (∀ c : Dev Cert.HgrnInWIdeal.nD,
      r.2.mem ((c.tc : Thread Cert.HgrnInWIdeal.nD Cert.HgrnInWIdeal.τ).loc Cert.HgrnInWIdeal.main_arg0) = m ((c.tc : Thread Cert.HgrnInWIdeal.nD Cert.HgrnInWIdeal.τ).loc Cert.HgrnInWIdeal.main_arg0)
      ∧ r.2.mem ((c.tc : Thread Cert.HgrnInWIdeal.nD Cert.HgrnInWIdeal.τ).loc Cert.HgrnInWIdeal.main_arg1) = m ((c.tc : Thread Cert.HgrnInWIdeal.nD Cert.HgrnInWIdeal.τ).loc Cert.HgrnInWIdeal.main_arg1))
      ∧ r.2.sem = fun _ => 0)

def quiescent_RefHgrnInWIdeal [hRefHgrnInWIdeal : Cert.RefHgrnInWIdeal.Facts] : Prop :=
  ∀ (m : (ℓ : Loc Cert.RefHgrnInWIdeal.nD Cert.RefHgrnInWIdeal.τ Cert.RefHgrnInWIdeal.sig) → Buf (Elt Ideal) ℓ) (g : Dev Cert.RefHgrnInWIdeal.nD → PrngReg), Pre_RefHgrnInWIdeal m →
    θ_run (Cert.RefHgrnInWIdeal.defs (F := Ideal)) (onTc (τ := Cert.RefHgrnInWIdeal.τ) (Cert.RefHgrnInWIdeal.main (F := Ideal))) ⟨m, fun _ => 0, g⟩ (fun r => (∀ c : Dev Cert.RefHgrnInWIdeal.nD,
      r.2.mem ((c.tc : Thread Cert.RefHgrnInWIdeal.nD Cert.RefHgrnInWIdeal.τ).loc Cert.RefHgrnInWIdeal.main_arg0) = m ((c.tc : Thread Cert.RefHgrnInWIdeal.nD Cert.RefHgrnInWIdeal.τ).loc Cert.RefHgrnInWIdeal.main_arg0)
      ∧ r.2.mem ((c.tc : Thread Cert.RefHgrnInWIdeal.nD Cert.RefHgrnInWIdeal.τ).loc Cert.RefHgrnInWIdeal.main_arg1) = m ((c.tc : Thread Cert.RefHgrnInWIdeal.nD Cert.RefHgrnInWIdeal.τ).loc Cert.RefHgrnInWIdeal.main_arg1))
      ∧ r.2.sem = fun _ => 0)

def quiescent_HgrnInX [hHgrnInX : Cert.HgrnInX.Facts] : Prop :=
  ∀ (m : (ℓ : Loc Cert.HgrnInX.nD Cert.HgrnInX.τ Cert.HgrnInX.sig) → Buf (Elt Bits) ℓ) (g : Dev Cert.HgrnInX.nD → PrngReg), Pre_HgrnInX m →
    θ_run (Cert.HgrnInX.defs (F := Bits)) (onTc (τ := Cert.HgrnInX.τ) (Cert.HgrnInX.main (F := Bits))) ⟨m, fun _ => 0, g⟩ (fun r => (∀ c : Dev Cert.HgrnInX.nD,
      r.2.mem ((c.tc : Thread Cert.HgrnInX.nD Cert.HgrnInX.τ).loc Cert.HgrnInX.main_arg0) = m ((c.tc : Thread Cert.HgrnInX.nD Cert.HgrnInX.τ).loc Cert.HgrnInX.main_arg0)
      ∧ r.2.mem ((c.tc : Thread Cert.HgrnInX.nD Cert.HgrnInX.τ).loc Cert.HgrnInX.main_arg1) = m ((c.tc : Thread Cert.HgrnInX.nD Cert.HgrnInX.τ).loc Cert.HgrnInX.main_arg1))
      ∧ r.2.sem = fun _ => 0)

def quiescent_HgrnInXIdeal [hHgrnInXIdeal : Cert.HgrnInXIdeal.Facts] : Prop :=
  ∀ (m : (ℓ : Loc Cert.HgrnInXIdeal.nD Cert.HgrnInXIdeal.τ Cert.HgrnInXIdeal.sig) → Buf (Elt Ideal) ℓ) (g : Dev Cert.HgrnInXIdeal.nD → PrngReg), Pre_HgrnInXIdeal m →
    θ_run (Cert.HgrnInXIdeal.defs (F := Ideal)) (onTc (τ := Cert.HgrnInXIdeal.τ) (Cert.HgrnInXIdeal.main (F := Ideal))) ⟨m, fun _ => 0, g⟩ (fun r => (∀ c : Dev Cert.HgrnInXIdeal.nD,
      r.2.mem ((c.tc : Thread Cert.HgrnInXIdeal.nD Cert.HgrnInXIdeal.τ).loc Cert.HgrnInXIdeal.main_arg0) = m ((c.tc : Thread Cert.HgrnInXIdeal.nD Cert.HgrnInXIdeal.τ).loc Cert.HgrnInXIdeal.main_arg0)
      ∧ r.2.mem ((c.tc : Thread Cert.HgrnInXIdeal.nD Cert.HgrnInXIdeal.τ).loc Cert.HgrnInXIdeal.main_arg1) = m ((c.tc : Thread Cert.HgrnInXIdeal.nD Cert.HgrnInXIdeal.τ).loc Cert.HgrnInXIdeal.main_arg1))
      ∧ r.2.sem = fun _ => 0)

def quiescent_RefHgrnInXIdeal [hRefHgrnInXIdeal : Cert.RefHgrnInXIdeal.Facts] : Prop :=
  ∀ (m : (ℓ : Loc Cert.RefHgrnInXIdeal.nD Cert.RefHgrnInXIdeal.τ Cert.RefHgrnInXIdeal.sig) → Buf (Elt Ideal) ℓ) (g : Dev Cert.RefHgrnInXIdeal.nD → PrngReg), Pre_RefHgrnInXIdeal m →
    θ_run (Cert.RefHgrnInXIdeal.defs (F := Ideal)) (onTc (τ := Cert.RefHgrnInXIdeal.τ) (Cert.RefHgrnInXIdeal.main (F := Ideal))) ⟨m, fun _ => 0, g⟩ (fun r => (∀ c : Dev Cert.RefHgrnInXIdeal.nD,
      r.2.mem ((c.tc : Thread Cert.RefHgrnInXIdeal.nD Cert.RefHgrnInXIdeal.τ).loc Cert.RefHgrnInXIdeal.main_arg0) = m ((c.tc : Thread Cert.RefHgrnInXIdeal.nD Cert.RefHgrnInXIdeal.τ).loc Cert.RefHgrnInXIdeal.main_arg0)
      ∧ r.2.mem ((c.tc : Thread Cert.RefHgrnInXIdeal.nD Cert.RefHgrnInXIdeal.τ).loc Cert.RefHgrnInXIdeal.main_arg1) = m ((c.tc : Thread Cert.RefHgrnInXIdeal.nD Cert.RefHgrnInXIdeal.τ).loc Cert.RefHgrnInXIdeal.main_arg1))
      ∧ r.2.sem = fun _ => 0)

def quiescent_MambaOutW [hMambaOutW : Cert.MambaOutW.Facts] : Prop :=
  ∀ (m : (ℓ : Loc Cert.MambaOutW.nD Cert.MambaOutW.τ Cert.MambaOutW.sig) → Buf (Elt Bits) ℓ) (g : Dev Cert.MambaOutW.nD → PrngReg), Pre_MambaOutW m →
    θ_run (Cert.MambaOutW.defs (F := Bits)) (onTc (τ := Cert.MambaOutW.τ) (Cert.MambaOutW.main (F := Bits))) ⟨m, fun _ => 0, g⟩ (fun r => (∀ c : Dev Cert.MambaOutW.nD,
      r.2.mem ((c.tc : Thread Cert.MambaOutW.nD Cert.MambaOutW.τ).loc Cert.MambaOutW.main_arg0) = m ((c.tc : Thread Cert.MambaOutW.nD Cert.MambaOutW.τ).loc Cert.MambaOutW.main_arg0)
      ∧ r.2.mem ((c.tc : Thread Cert.MambaOutW.nD Cert.MambaOutW.τ).loc Cert.MambaOutW.main_arg1) = m ((c.tc : Thread Cert.MambaOutW.nD Cert.MambaOutW.τ).loc Cert.MambaOutW.main_arg1))
      ∧ r.2.sem = fun _ => 0)

def quiescent_MambaOutWIdeal [hMambaOutWIdeal : Cert.MambaOutWIdeal.Facts] : Prop :=
  ∀ (m : (ℓ : Loc Cert.MambaOutWIdeal.nD Cert.MambaOutWIdeal.τ Cert.MambaOutWIdeal.sig) → Buf (Elt Ideal) ℓ) (g : Dev Cert.MambaOutWIdeal.nD → PrngReg), Pre_MambaOutWIdeal m →
    θ_run (Cert.MambaOutWIdeal.defs (F := Ideal)) (onTc (τ := Cert.MambaOutWIdeal.τ) (Cert.MambaOutWIdeal.main (F := Ideal))) ⟨m, fun _ => 0, g⟩ (fun r => (∀ c : Dev Cert.MambaOutWIdeal.nD,
      r.2.mem ((c.tc : Thread Cert.MambaOutWIdeal.nD Cert.MambaOutWIdeal.τ).loc Cert.MambaOutWIdeal.main_arg0) = m ((c.tc : Thread Cert.MambaOutWIdeal.nD Cert.MambaOutWIdeal.τ).loc Cert.MambaOutWIdeal.main_arg0)
      ∧ r.2.mem ((c.tc : Thread Cert.MambaOutWIdeal.nD Cert.MambaOutWIdeal.τ).loc Cert.MambaOutWIdeal.main_arg1) = m ((c.tc : Thread Cert.MambaOutWIdeal.nD Cert.MambaOutWIdeal.τ).loc Cert.MambaOutWIdeal.main_arg1))
      ∧ r.2.sem = fun _ => 0)

def quiescent_RefMambaOutWIdeal [hRefMambaOutWIdeal : Cert.RefMambaOutWIdeal.Facts] : Prop :=
  ∀ (m : (ℓ : Loc Cert.RefMambaOutWIdeal.nD Cert.RefMambaOutWIdeal.τ Cert.RefMambaOutWIdeal.sig) → Buf (Elt Ideal) ℓ) (g : Dev Cert.RefMambaOutWIdeal.nD → PrngReg), Pre_RefMambaOutWIdeal m →
    θ_run (Cert.RefMambaOutWIdeal.defs (F := Ideal)) (onTc (τ := Cert.RefMambaOutWIdeal.τ) (Cert.RefMambaOutWIdeal.main (F := Ideal))) ⟨m, fun _ => 0, g⟩ (fun r => (∀ c : Dev Cert.RefMambaOutWIdeal.nD,
      r.2.mem ((c.tc : Thread Cert.RefMambaOutWIdeal.nD Cert.RefMambaOutWIdeal.τ).loc Cert.RefMambaOutWIdeal.main_arg0) = m ((c.tc : Thread Cert.RefMambaOutWIdeal.nD Cert.RefMambaOutWIdeal.τ).loc Cert.RefMambaOutWIdeal.main_arg0)
      ∧ r.2.mem ((c.tc : Thread Cert.RefMambaOutWIdeal.nD Cert.RefMambaOutWIdeal.τ).loc Cert.RefMambaOutWIdeal.main_arg1) = m ((c.tc : Thread Cert.RefMambaOutWIdeal.nD Cert.RefMambaOutWIdeal.τ).loc Cert.RefMambaOutWIdeal.main_arg1))
      ∧ r.2.sem = fun _ => 0)

def quiescent_MambaOutX [hMambaOutX : Cert.MambaOutX.Facts] : Prop :=
  ∀ (m : (ℓ : Loc Cert.MambaOutX.nD Cert.MambaOutX.τ Cert.MambaOutX.sig) → Buf (Elt Bits) ℓ) (g : Dev Cert.MambaOutX.nD → PrngReg), Pre_MambaOutX m →
    θ_run (Cert.MambaOutX.defs (F := Bits)) (onTc (τ := Cert.MambaOutX.τ) (Cert.MambaOutX.main (F := Bits))) ⟨m, fun _ => 0, g⟩ (fun r => (∀ c : Dev Cert.MambaOutX.nD,
      r.2.mem ((c.tc : Thread Cert.MambaOutX.nD Cert.MambaOutX.τ).loc Cert.MambaOutX.main_arg0) = m ((c.tc : Thread Cert.MambaOutX.nD Cert.MambaOutX.τ).loc Cert.MambaOutX.main_arg0)
      ∧ r.2.mem ((c.tc : Thread Cert.MambaOutX.nD Cert.MambaOutX.τ).loc Cert.MambaOutX.main_arg1) = m ((c.tc : Thread Cert.MambaOutX.nD Cert.MambaOutX.τ).loc Cert.MambaOutX.main_arg1))
      ∧ r.2.sem = fun _ => 0)

def quiescent_MambaOutXIdeal [hMambaOutXIdeal : Cert.MambaOutXIdeal.Facts] : Prop :=
  ∀ (m : (ℓ : Loc Cert.MambaOutXIdeal.nD Cert.MambaOutXIdeal.τ Cert.MambaOutXIdeal.sig) → Buf (Elt Ideal) ℓ) (g : Dev Cert.MambaOutXIdeal.nD → PrngReg), Pre_MambaOutXIdeal m →
    θ_run (Cert.MambaOutXIdeal.defs (F := Ideal)) (onTc (τ := Cert.MambaOutXIdeal.τ) (Cert.MambaOutXIdeal.main (F := Ideal))) ⟨m, fun _ => 0, g⟩ (fun r => (∀ c : Dev Cert.MambaOutXIdeal.nD,
      r.2.mem ((c.tc : Thread Cert.MambaOutXIdeal.nD Cert.MambaOutXIdeal.τ).loc Cert.MambaOutXIdeal.main_arg0) = m ((c.tc : Thread Cert.MambaOutXIdeal.nD Cert.MambaOutXIdeal.τ).loc Cert.MambaOutXIdeal.main_arg0)
      ∧ r.2.mem ((c.tc : Thread Cert.MambaOutXIdeal.nD Cert.MambaOutXIdeal.τ).loc Cert.MambaOutXIdeal.main_arg1) = m ((c.tc : Thread Cert.MambaOutXIdeal.nD Cert.MambaOutXIdeal.τ).loc Cert.MambaOutXIdeal.main_arg1))
      ∧ r.2.sem = fun _ => 0)

def quiescent_RefMambaOutXIdeal [hRefMambaOutXIdeal : Cert.RefMambaOutXIdeal.Facts] : Prop :=
  ∀ (m : (ℓ : Loc Cert.RefMambaOutXIdeal.nD Cert.RefMambaOutXIdeal.τ Cert.RefMambaOutXIdeal.sig) → Buf (Elt Ideal) ℓ) (g : Dev Cert.RefMambaOutXIdeal.nD → PrngReg), Pre_RefMambaOutXIdeal m →
    θ_run (Cert.RefMambaOutXIdeal.defs (F := Ideal)) (onTc (τ := Cert.RefMambaOutXIdeal.τ) (Cert.RefMambaOutXIdeal.main (F := Ideal))) ⟨m, fun _ => 0, g⟩ (fun r => (∀ c : Dev Cert.RefMambaOutXIdeal.nD,
      r.2.mem ((c.tc : Thread Cert.RefMambaOutXIdeal.nD Cert.RefMambaOutXIdeal.τ).loc Cert.RefMambaOutXIdeal.main_arg0) = m ((c.tc : Thread Cert.RefMambaOutXIdeal.nD Cert.RefMambaOutXIdeal.τ).loc Cert.RefMambaOutXIdeal.main_arg0)
      ∧ r.2.mem ((c.tc : Thread Cert.RefMambaOutXIdeal.nD Cert.RefMambaOutXIdeal.τ).loc Cert.RefMambaOutXIdeal.main_arg1) = m ((c.tc : Thread Cert.RefMambaOutXIdeal.nD Cert.RefMambaOutXIdeal.τ).loc Cert.RefMambaOutXIdeal.main_arg1))
      ∧ r.2.sem = fun _ => 0)

def quiescent_MambaZW [hMambaZW : Cert.MambaZW.Facts] : Prop :=
  ∀ (m : (ℓ : Loc Cert.MambaZW.nD Cert.MambaZW.τ Cert.MambaZW.sig) → Buf (Elt Bits) ℓ) (g : Dev Cert.MambaZW.nD → PrngReg), Pre_MambaZW m →
    θ_run (Cert.MambaZW.defs (F := Bits)) (onTc (τ := Cert.MambaZW.τ) (Cert.MambaZW.main (F := Bits))) ⟨m, fun _ => 0, g⟩ (fun r => (∀ c : Dev Cert.MambaZW.nD,
      r.2.mem ((c.tc : Thread Cert.MambaZW.nD Cert.MambaZW.τ).loc Cert.MambaZW.main_arg0) = m ((c.tc : Thread Cert.MambaZW.nD Cert.MambaZW.τ).loc Cert.MambaZW.main_arg0)
      ∧ r.2.mem ((c.tc : Thread Cert.MambaZW.nD Cert.MambaZW.τ).loc Cert.MambaZW.main_arg1) = m ((c.tc : Thread Cert.MambaZW.nD Cert.MambaZW.τ).loc Cert.MambaZW.main_arg1))
      ∧ r.2.sem = fun _ => 0)

def quiescent_MambaZWIdeal [hMambaZWIdeal : Cert.MambaZWIdeal.Facts] : Prop :=
  ∀ (m : (ℓ : Loc Cert.MambaZWIdeal.nD Cert.MambaZWIdeal.τ Cert.MambaZWIdeal.sig) → Buf (Elt Ideal) ℓ) (g : Dev Cert.MambaZWIdeal.nD → PrngReg), Pre_MambaZWIdeal m →
    θ_run (Cert.MambaZWIdeal.defs (F := Ideal)) (onTc (τ := Cert.MambaZWIdeal.τ) (Cert.MambaZWIdeal.main (F := Ideal))) ⟨m, fun _ => 0, g⟩ (fun r => (∀ c : Dev Cert.MambaZWIdeal.nD,
      r.2.mem ((c.tc : Thread Cert.MambaZWIdeal.nD Cert.MambaZWIdeal.τ).loc Cert.MambaZWIdeal.main_arg0) = m ((c.tc : Thread Cert.MambaZWIdeal.nD Cert.MambaZWIdeal.τ).loc Cert.MambaZWIdeal.main_arg0)
      ∧ r.2.mem ((c.tc : Thread Cert.MambaZWIdeal.nD Cert.MambaZWIdeal.τ).loc Cert.MambaZWIdeal.main_arg1) = m ((c.tc : Thread Cert.MambaZWIdeal.nD Cert.MambaZWIdeal.τ).loc Cert.MambaZWIdeal.main_arg1))
      ∧ r.2.sem = fun _ => 0)

def quiescent_RefMambaZWIdeal [hRefMambaZWIdeal : Cert.RefMambaZWIdeal.Facts] : Prop :=
  ∀ (m : (ℓ : Loc Cert.RefMambaZWIdeal.nD Cert.RefMambaZWIdeal.τ Cert.RefMambaZWIdeal.sig) → Buf (Elt Ideal) ℓ) (g : Dev Cert.RefMambaZWIdeal.nD → PrngReg), Pre_RefMambaZWIdeal m →
    θ_run (Cert.RefMambaZWIdeal.defs (F := Ideal)) (onTc (τ := Cert.RefMambaZWIdeal.τ) (Cert.RefMambaZWIdeal.main (F := Ideal))) ⟨m, fun _ => 0, g⟩ (fun r => (∀ c : Dev Cert.RefMambaZWIdeal.nD,
      r.2.mem ((c.tc : Thread Cert.RefMambaZWIdeal.nD Cert.RefMambaZWIdeal.τ).loc Cert.RefMambaZWIdeal.main_arg0) = m ((c.tc : Thread Cert.RefMambaZWIdeal.nD Cert.RefMambaZWIdeal.τ).loc Cert.RefMambaZWIdeal.main_arg0)
      ∧ r.2.mem ((c.tc : Thread Cert.RefMambaZWIdeal.nD Cert.RefMambaZWIdeal.τ).loc Cert.RefMambaZWIdeal.main_arg1) = m ((c.tc : Thread Cert.RefMambaZWIdeal.nD Cert.RefMambaZWIdeal.τ).loc Cert.RefMambaZWIdeal.main_arg1))
      ∧ r.2.sem = fun _ => 0)

def quiescent_MambaZX [hMambaZX : Cert.MambaZX.Facts] : Prop :=
  ∀ (m : (ℓ : Loc Cert.MambaZX.nD Cert.MambaZX.τ Cert.MambaZX.sig) → Buf (Elt Bits) ℓ) (g : Dev Cert.MambaZX.nD → PrngReg), Pre_MambaZX m →
    θ_run (Cert.MambaZX.defs (F := Bits)) (onTc (τ := Cert.MambaZX.τ) (Cert.MambaZX.main (F := Bits))) ⟨m, fun _ => 0, g⟩ (fun r => (∀ c : Dev Cert.MambaZX.nD,
      r.2.mem ((c.tc : Thread Cert.MambaZX.nD Cert.MambaZX.τ).loc Cert.MambaZX.main_arg0) = m ((c.tc : Thread Cert.MambaZX.nD Cert.MambaZX.τ).loc Cert.MambaZX.main_arg0)
      ∧ r.2.mem ((c.tc : Thread Cert.MambaZX.nD Cert.MambaZX.τ).loc Cert.MambaZX.main_arg1) = m ((c.tc : Thread Cert.MambaZX.nD Cert.MambaZX.τ).loc Cert.MambaZX.main_arg1))
      ∧ r.2.sem = fun _ => 0)

def quiescent_MambaZXIdeal [hMambaZXIdeal : Cert.MambaZXIdeal.Facts] : Prop :=
  ∀ (m : (ℓ : Loc Cert.MambaZXIdeal.nD Cert.MambaZXIdeal.τ Cert.MambaZXIdeal.sig) → Buf (Elt Ideal) ℓ) (g : Dev Cert.MambaZXIdeal.nD → PrngReg), Pre_MambaZXIdeal m →
    θ_run (Cert.MambaZXIdeal.defs (F := Ideal)) (onTc (τ := Cert.MambaZXIdeal.τ) (Cert.MambaZXIdeal.main (F := Ideal))) ⟨m, fun _ => 0, g⟩ (fun r => (∀ c : Dev Cert.MambaZXIdeal.nD,
      r.2.mem ((c.tc : Thread Cert.MambaZXIdeal.nD Cert.MambaZXIdeal.τ).loc Cert.MambaZXIdeal.main_arg0) = m ((c.tc : Thread Cert.MambaZXIdeal.nD Cert.MambaZXIdeal.τ).loc Cert.MambaZXIdeal.main_arg0)
      ∧ r.2.mem ((c.tc : Thread Cert.MambaZXIdeal.nD Cert.MambaZXIdeal.τ).loc Cert.MambaZXIdeal.main_arg1) = m ((c.tc : Thread Cert.MambaZXIdeal.nD Cert.MambaZXIdeal.τ).loc Cert.MambaZXIdeal.main_arg1))
      ∧ r.2.sem = fun _ => 0)

def quiescent_RefMambaZXIdeal [hRefMambaZXIdeal : Cert.RefMambaZXIdeal.Facts] : Prop :=
  ∀ (m : (ℓ : Loc Cert.RefMambaZXIdeal.nD Cert.RefMambaZXIdeal.τ Cert.RefMambaZXIdeal.sig) → Buf (Elt Ideal) ℓ) (g : Dev Cert.RefMambaZXIdeal.nD → PrngReg), Pre_RefMambaZXIdeal m →
    θ_run (Cert.RefMambaZXIdeal.defs (F := Ideal)) (onTc (τ := Cert.RefMambaZXIdeal.τ) (Cert.RefMambaZXIdeal.main (F := Ideal))) ⟨m, fun _ => 0, g⟩ (fun r => (∀ c : Dev Cert.RefMambaZXIdeal.nD,
      r.2.mem ((c.tc : Thread Cert.RefMambaZXIdeal.nD Cert.RefMambaZXIdeal.τ).loc Cert.RefMambaZXIdeal.main_arg0) = m ((c.tc : Thread Cert.RefMambaZXIdeal.nD Cert.RefMambaZXIdeal.τ).loc Cert.RefMambaZXIdeal.main_arg0)
      ∧ r.2.mem ((c.tc : Thread Cert.RefMambaZXIdeal.nD Cert.RefMambaZXIdeal.τ).loc Cert.RefMambaZXIdeal.main_arg1) = m ((c.tc : Thread Cert.RefMambaZXIdeal.nD Cert.RefMambaZXIdeal.τ).loc Cert.RefMambaZXIdeal.main_arg1))
      ∧ r.2.sem = fun _ => 0)

def quiescent_MambaXbcW [hMambaXbcW : Cert.MambaXbcW.Facts] : Prop :=
  ∀ (m : (ℓ : Loc Cert.MambaXbcW.nD Cert.MambaXbcW.τ Cert.MambaXbcW.sig) → Buf (Elt Bits) ℓ) (g : Dev Cert.MambaXbcW.nD → PrngReg), Pre_MambaXbcW m →
    θ_run (Cert.MambaXbcW.defs (F := Bits)) (onTc (τ := Cert.MambaXbcW.τ) (Cert.MambaXbcW.main (F := Bits))) ⟨m, fun _ => 0, g⟩ (fun r => (∀ c : Dev Cert.MambaXbcW.nD,
      r.2.mem ((c.tc : Thread Cert.MambaXbcW.nD Cert.MambaXbcW.τ).loc Cert.MambaXbcW.main_arg0) = m ((c.tc : Thread Cert.MambaXbcW.nD Cert.MambaXbcW.τ).loc Cert.MambaXbcW.main_arg0)
      ∧ r.2.mem ((c.tc : Thread Cert.MambaXbcW.nD Cert.MambaXbcW.τ).loc Cert.MambaXbcW.main_arg1) = m ((c.tc : Thread Cert.MambaXbcW.nD Cert.MambaXbcW.τ).loc Cert.MambaXbcW.main_arg1))
      ∧ r.2.sem = fun _ => 0)

def quiescent_MambaXbcWIdeal [hMambaXbcWIdeal : Cert.MambaXbcWIdeal.Facts] : Prop :=
  ∀ (m : (ℓ : Loc Cert.MambaXbcWIdeal.nD Cert.MambaXbcWIdeal.τ Cert.MambaXbcWIdeal.sig) → Buf (Elt Ideal) ℓ) (g : Dev Cert.MambaXbcWIdeal.nD → PrngReg), Pre_MambaXbcWIdeal m →
    θ_run (Cert.MambaXbcWIdeal.defs (F := Ideal)) (onTc (τ := Cert.MambaXbcWIdeal.τ) (Cert.MambaXbcWIdeal.main (F := Ideal))) ⟨m, fun _ => 0, g⟩ (fun r => (∀ c : Dev Cert.MambaXbcWIdeal.nD,
      r.2.mem ((c.tc : Thread Cert.MambaXbcWIdeal.nD Cert.MambaXbcWIdeal.τ).loc Cert.MambaXbcWIdeal.main_arg0) = m ((c.tc : Thread Cert.MambaXbcWIdeal.nD Cert.MambaXbcWIdeal.τ).loc Cert.MambaXbcWIdeal.main_arg0)
      ∧ r.2.mem ((c.tc : Thread Cert.MambaXbcWIdeal.nD Cert.MambaXbcWIdeal.τ).loc Cert.MambaXbcWIdeal.main_arg1) = m ((c.tc : Thread Cert.MambaXbcWIdeal.nD Cert.MambaXbcWIdeal.τ).loc Cert.MambaXbcWIdeal.main_arg1))
      ∧ r.2.sem = fun _ => 0)

def quiescent_RefMambaXbcWIdeal [hRefMambaXbcWIdeal : Cert.RefMambaXbcWIdeal.Facts] : Prop :=
  ∀ (m : (ℓ : Loc Cert.RefMambaXbcWIdeal.nD Cert.RefMambaXbcWIdeal.τ Cert.RefMambaXbcWIdeal.sig) → Buf (Elt Ideal) ℓ) (g : Dev Cert.RefMambaXbcWIdeal.nD → PrngReg), Pre_RefMambaXbcWIdeal m →
    θ_run (Cert.RefMambaXbcWIdeal.defs (F := Ideal)) (onTc (τ := Cert.RefMambaXbcWIdeal.τ) (Cert.RefMambaXbcWIdeal.main (F := Ideal))) ⟨m, fun _ => 0, g⟩ (fun r => (∀ c : Dev Cert.RefMambaXbcWIdeal.nD,
      r.2.mem ((c.tc : Thread Cert.RefMambaXbcWIdeal.nD Cert.RefMambaXbcWIdeal.τ).loc Cert.RefMambaXbcWIdeal.main_arg0) = m ((c.tc : Thread Cert.RefMambaXbcWIdeal.nD Cert.RefMambaXbcWIdeal.τ).loc Cert.RefMambaXbcWIdeal.main_arg0)
      ∧ r.2.mem ((c.tc : Thread Cert.RefMambaXbcWIdeal.nD Cert.RefMambaXbcWIdeal.τ).loc Cert.RefMambaXbcWIdeal.main_arg1) = m ((c.tc : Thread Cert.RefMambaXbcWIdeal.nD Cert.RefMambaXbcWIdeal.τ).loc Cert.RefMambaXbcWIdeal.main_arg1))
      ∧ r.2.sem = fun _ => 0)

def quiescent_MambaXbcX [hMambaXbcX : Cert.MambaXbcX.Facts] : Prop :=
  ∀ (m : (ℓ : Loc Cert.MambaXbcX.nD Cert.MambaXbcX.τ Cert.MambaXbcX.sig) → Buf (Elt Bits) ℓ) (g : Dev Cert.MambaXbcX.nD → PrngReg), Pre_MambaXbcX m →
    θ_run (Cert.MambaXbcX.defs (F := Bits)) (onTc (τ := Cert.MambaXbcX.τ) (Cert.MambaXbcX.main (F := Bits))) ⟨m, fun _ => 0, g⟩ (fun r => (∀ c : Dev Cert.MambaXbcX.nD,
      r.2.mem ((c.tc : Thread Cert.MambaXbcX.nD Cert.MambaXbcX.τ).loc Cert.MambaXbcX.main_arg0) = m ((c.tc : Thread Cert.MambaXbcX.nD Cert.MambaXbcX.τ).loc Cert.MambaXbcX.main_arg0)
      ∧ r.2.mem ((c.tc : Thread Cert.MambaXbcX.nD Cert.MambaXbcX.τ).loc Cert.MambaXbcX.main_arg1) = m ((c.tc : Thread Cert.MambaXbcX.nD Cert.MambaXbcX.τ).loc Cert.MambaXbcX.main_arg1)
      ∧ r.2.mem ((c.tc : Thread Cert.MambaXbcX.nD Cert.MambaXbcX.τ).loc Cert.MambaXbcX.main_arg2) = m ((c.tc : Thread Cert.MambaXbcX.nD Cert.MambaXbcX.τ).loc Cert.MambaXbcX.main_arg2))
      ∧ r.2.sem = fun _ => 0)

def quiescent_MambaXbcXIdeal [hMambaXbcXIdeal : Cert.MambaXbcXIdeal.Facts] : Prop :=
  ∀ (m : (ℓ : Loc Cert.MambaXbcXIdeal.nD Cert.MambaXbcXIdeal.τ Cert.MambaXbcXIdeal.sig) → Buf (Elt Ideal) ℓ) (g : Dev Cert.MambaXbcXIdeal.nD → PrngReg), Pre_MambaXbcXIdeal m →
    θ_run (Cert.MambaXbcXIdeal.defs (F := Ideal)) (onTc (τ := Cert.MambaXbcXIdeal.τ) (Cert.MambaXbcXIdeal.main (F := Ideal))) ⟨m, fun _ => 0, g⟩ (fun r => (∀ c : Dev Cert.MambaXbcXIdeal.nD,
      r.2.mem ((c.tc : Thread Cert.MambaXbcXIdeal.nD Cert.MambaXbcXIdeal.τ).loc Cert.MambaXbcXIdeal.main_arg0) = m ((c.tc : Thread Cert.MambaXbcXIdeal.nD Cert.MambaXbcXIdeal.τ).loc Cert.MambaXbcXIdeal.main_arg0)
      ∧ r.2.mem ((c.tc : Thread Cert.MambaXbcXIdeal.nD Cert.MambaXbcXIdeal.τ).loc Cert.MambaXbcXIdeal.main_arg1) = m ((c.tc : Thread Cert.MambaXbcXIdeal.nD Cert.MambaXbcXIdeal.τ).loc Cert.MambaXbcXIdeal.main_arg1)
      ∧ r.2.mem ((c.tc : Thread Cert.MambaXbcXIdeal.nD Cert.MambaXbcXIdeal.τ).loc Cert.MambaXbcXIdeal.main_arg2) = m ((c.tc : Thread Cert.MambaXbcXIdeal.nD Cert.MambaXbcXIdeal.τ).loc Cert.MambaXbcXIdeal.main_arg2))
      ∧ r.2.sem = fun _ => 0)

def quiescent_RefMambaXbcXIdeal [hRefMambaXbcXIdeal : Cert.RefMambaXbcXIdeal.Facts] : Prop :=
  ∀ (m : (ℓ : Loc Cert.RefMambaXbcXIdeal.nD Cert.RefMambaXbcXIdeal.τ Cert.RefMambaXbcXIdeal.sig) → Buf (Elt Ideal) ℓ) (g : Dev Cert.RefMambaXbcXIdeal.nD → PrngReg), Pre_RefMambaXbcXIdeal m →
    θ_run (Cert.RefMambaXbcXIdeal.defs (F := Ideal)) (onTc (τ := Cert.RefMambaXbcXIdeal.τ) (Cert.RefMambaXbcXIdeal.main (F := Ideal))) ⟨m, fun _ => 0, g⟩ (fun r => (∀ c : Dev Cert.RefMambaXbcXIdeal.nD,
      r.2.mem ((c.tc : Thread Cert.RefMambaXbcXIdeal.nD Cert.RefMambaXbcXIdeal.τ).loc Cert.RefMambaXbcXIdeal.main_arg0) = m ((c.tc : Thread Cert.RefMambaXbcXIdeal.nD Cert.RefMambaXbcXIdeal.τ).loc Cert.RefMambaXbcXIdeal.main_arg0)
      ∧ r.2.mem ((c.tc : Thread Cert.RefMambaXbcXIdeal.nD Cert.RefMambaXbcXIdeal.τ).loc Cert.RefMambaXbcXIdeal.main_arg1) = m ((c.tc : Thread Cert.RefMambaXbcXIdeal.nD Cert.RefMambaXbcXIdeal.τ).loc Cert.RefMambaXbcXIdeal.main_arg1)
      ∧ r.2.mem ((c.tc : Thread Cert.RefMambaXbcXIdeal.nD Cert.RefMambaXbcXIdeal.τ).loc Cert.RefMambaXbcXIdeal.main_arg2) = m ((c.tc : Thread Cert.RefMambaXbcXIdeal.nD Cert.RefMambaXbcXIdeal.τ).loc Cert.RefMambaXbcXIdeal.main_arg2))
      ∧ r.2.sem = fun _ => 0)

def quiescent_MambaDtW [hMambaDtW : Cert.MambaDtW.Facts] : Prop :=
  ∀ (m : (ℓ : Loc Cert.MambaDtW.nD Cert.MambaDtW.τ Cert.MambaDtW.sig) → Buf (Elt Bits) ℓ) (g : Dev Cert.MambaDtW.nD → PrngReg), Pre_MambaDtW m →
    θ_run (Cert.MambaDtW.defs (F := Bits)) (onTc (τ := Cert.MambaDtW.τ) (Cert.MambaDtW.main (F := Bits))) ⟨m, fun _ => 0, g⟩ (fun r => (∀ c : Dev Cert.MambaDtW.nD,
      r.2.mem ((c.tc : Thread Cert.MambaDtW.nD Cert.MambaDtW.τ).loc Cert.MambaDtW.main_arg0) = m ((c.tc : Thread Cert.MambaDtW.nD Cert.MambaDtW.τ).loc Cert.MambaDtW.main_arg0)
      ∧ r.2.mem ((c.tc : Thread Cert.MambaDtW.nD Cert.MambaDtW.τ).loc Cert.MambaDtW.main_arg1) = m ((c.tc : Thread Cert.MambaDtW.nD Cert.MambaDtW.τ).loc Cert.MambaDtW.main_arg1))
      ∧ r.2.sem = fun _ => 0)

def quiescent_MambaDtWIdeal [hMambaDtWIdeal : Cert.MambaDtWIdeal.Facts] : Prop :=
  ∀ (m : (ℓ : Loc Cert.MambaDtWIdeal.nD Cert.MambaDtWIdeal.τ Cert.MambaDtWIdeal.sig) → Buf (Elt Ideal) ℓ) (g : Dev Cert.MambaDtWIdeal.nD → PrngReg), Pre_MambaDtWIdeal m →
    θ_run (Cert.MambaDtWIdeal.defs (F := Ideal)) (onTc (τ := Cert.MambaDtWIdeal.τ) (Cert.MambaDtWIdeal.main (F := Ideal))) ⟨m, fun _ => 0, g⟩ (fun r => (∀ c : Dev Cert.MambaDtWIdeal.nD,
      r.2.mem ((c.tc : Thread Cert.MambaDtWIdeal.nD Cert.MambaDtWIdeal.τ).loc Cert.MambaDtWIdeal.main_arg0) = m ((c.tc : Thread Cert.MambaDtWIdeal.nD Cert.MambaDtWIdeal.τ).loc Cert.MambaDtWIdeal.main_arg0)
      ∧ r.2.mem ((c.tc : Thread Cert.MambaDtWIdeal.nD Cert.MambaDtWIdeal.τ).loc Cert.MambaDtWIdeal.main_arg1) = m ((c.tc : Thread Cert.MambaDtWIdeal.nD Cert.MambaDtWIdeal.τ).loc Cert.MambaDtWIdeal.main_arg1))
      ∧ r.2.sem = fun _ => 0)

def quiescent_RefMambaDtWIdeal [hRefMambaDtWIdeal : Cert.RefMambaDtWIdeal.Facts] : Prop :=
  ∀ (m : (ℓ : Loc Cert.RefMambaDtWIdeal.nD Cert.RefMambaDtWIdeal.τ Cert.RefMambaDtWIdeal.sig) → Buf (Elt Ideal) ℓ) (g : Dev Cert.RefMambaDtWIdeal.nD → PrngReg), Pre_RefMambaDtWIdeal m →
    θ_run (Cert.RefMambaDtWIdeal.defs (F := Ideal)) (onTc (τ := Cert.RefMambaDtWIdeal.τ) (Cert.RefMambaDtWIdeal.main (F := Ideal))) ⟨m, fun _ => 0, g⟩ (fun r => (∀ c : Dev Cert.RefMambaDtWIdeal.nD,
      r.2.mem ((c.tc : Thread Cert.RefMambaDtWIdeal.nD Cert.RefMambaDtWIdeal.τ).loc Cert.RefMambaDtWIdeal.main_arg0) = m ((c.tc : Thread Cert.RefMambaDtWIdeal.nD Cert.RefMambaDtWIdeal.τ).loc Cert.RefMambaDtWIdeal.main_arg0)
      ∧ r.2.mem ((c.tc : Thread Cert.RefMambaDtWIdeal.nD Cert.RefMambaDtWIdeal.τ).loc Cert.RefMambaDtWIdeal.main_arg1) = m ((c.tc : Thread Cert.RefMambaDtWIdeal.nD Cert.RefMambaDtWIdeal.τ).loc Cert.RefMambaDtWIdeal.main_arg1))
      ∧ r.2.sem = fun _ => 0)

def quiescent_MambaDtX [hMambaDtX : Cert.MambaDtX.Facts] : Prop :=
  ∀ (m : (ℓ : Loc Cert.MambaDtX.nD Cert.MambaDtX.τ Cert.MambaDtX.sig) → Buf (Elt Bits) ℓ) (g : Dev Cert.MambaDtX.nD → PrngReg), Pre_MambaDtX m →
    θ_run (Cert.MambaDtX.defs (F := Bits)) (onTc (τ := Cert.MambaDtX.τ) (Cert.MambaDtX.main (F := Bits))) ⟨m, fun _ => 0, g⟩ (fun r => (∀ c : Dev Cert.MambaDtX.nD,
      r.2.mem ((c.tc : Thread Cert.MambaDtX.nD Cert.MambaDtX.τ).loc Cert.MambaDtX.main_arg0) = m ((c.tc : Thread Cert.MambaDtX.nD Cert.MambaDtX.τ).loc Cert.MambaDtX.main_arg0)
      ∧ r.2.mem ((c.tc : Thread Cert.MambaDtX.nD Cert.MambaDtX.τ).loc Cert.MambaDtX.main_arg1) = m ((c.tc : Thread Cert.MambaDtX.nD Cert.MambaDtX.τ).loc Cert.MambaDtX.main_arg1)
      ∧ r.2.mem ((c.tc : Thread Cert.MambaDtX.nD Cert.MambaDtX.τ).loc Cert.MambaDtX.main_arg2) = m ((c.tc : Thread Cert.MambaDtX.nD Cert.MambaDtX.τ).loc Cert.MambaDtX.main_arg2))
      ∧ r.2.sem = fun _ => 0)

def quiescent_MambaDtXIdeal [hMambaDtXIdeal : Cert.MambaDtXIdeal.Facts] : Prop :=
  ∀ (m : (ℓ : Loc Cert.MambaDtXIdeal.nD Cert.MambaDtXIdeal.τ Cert.MambaDtXIdeal.sig) → Buf (Elt Ideal) ℓ) (g : Dev Cert.MambaDtXIdeal.nD → PrngReg), Pre_MambaDtXIdeal m →
    θ_run (Cert.MambaDtXIdeal.defs (F := Ideal)) (onTc (τ := Cert.MambaDtXIdeal.τ) (Cert.MambaDtXIdeal.main (F := Ideal))) ⟨m, fun _ => 0, g⟩ (fun r => (∀ c : Dev Cert.MambaDtXIdeal.nD,
      r.2.mem ((c.tc : Thread Cert.MambaDtXIdeal.nD Cert.MambaDtXIdeal.τ).loc Cert.MambaDtXIdeal.main_arg0) = m ((c.tc : Thread Cert.MambaDtXIdeal.nD Cert.MambaDtXIdeal.τ).loc Cert.MambaDtXIdeal.main_arg0)
      ∧ r.2.mem ((c.tc : Thread Cert.MambaDtXIdeal.nD Cert.MambaDtXIdeal.τ).loc Cert.MambaDtXIdeal.main_arg1) = m ((c.tc : Thread Cert.MambaDtXIdeal.nD Cert.MambaDtXIdeal.τ).loc Cert.MambaDtXIdeal.main_arg1)
      ∧ r.2.mem ((c.tc : Thread Cert.MambaDtXIdeal.nD Cert.MambaDtXIdeal.τ).loc Cert.MambaDtXIdeal.main_arg2) = m ((c.tc : Thread Cert.MambaDtXIdeal.nD Cert.MambaDtXIdeal.τ).loc Cert.MambaDtXIdeal.main_arg2))
      ∧ r.2.sem = fun _ => 0)

def quiescent_RefMambaDtXIdeal [hRefMambaDtXIdeal : Cert.RefMambaDtXIdeal.Facts] : Prop :=
  ∀ (m : (ℓ : Loc Cert.RefMambaDtXIdeal.nD Cert.RefMambaDtXIdeal.τ Cert.RefMambaDtXIdeal.sig) → Buf (Elt Ideal) ℓ) (g : Dev Cert.RefMambaDtXIdeal.nD → PrngReg), Pre_RefMambaDtXIdeal m →
    θ_run (Cert.RefMambaDtXIdeal.defs (F := Ideal)) (onTc (τ := Cert.RefMambaDtXIdeal.τ) (Cert.RefMambaDtXIdeal.main (F := Ideal))) ⟨m, fun _ => 0, g⟩ (fun r => (∀ c : Dev Cert.RefMambaDtXIdeal.nD,
      r.2.mem ((c.tc : Thread Cert.RefMambaDtXIdeal.nD Cert.RefMambaDtXIdeal.τ).loc Cert.RefMambaDtXIdeal.main_arg0) = m ((c.tc : Thread Cert.RefMambaDtXIdeal.nD Cert.RefMambaDtXIdeal.τ).loc Cert.RefMambaDtXIdeal.main_arg0)
      ∧ r.2.mem ((c.tc : Thread Cert.RefMambaDtXIdeal.nD Cert.RefMambaDtXIdeal.τ).loc Cert.RefMambaDtXIdeal.main_arg1) = m ((c.tc : Thread Cert.RefMambaDtXIdeal.nD Cert.RefMambaDtXIdeal.τ).loc Cert.RefMambaDtXIdeal.main_arg1)
      ∧ r.2.mem ((c.tc : Thread Cert.RefMambaDtXIdeal.nD Cert.RefMambaDtXIdeal.τ).loc Cert.RefMambaDtXIdeal.main_arg2) = m ((c.tc : Thread Cert.RefMambaDtXIdeal.nD Cert.RefMambaDtXIdeal.τ).loc Cert.RefMambaDtXIdeal.main_arg2))
      ∧ r.2.sem = fun _ => 0)

def quiescent_LbB [hLbB : Cert.LbB.Facts] : Prop :=
  ∀ (m : (ℓ : Loc Cert.LbB.nD Cert.LbB.τ Cert.LbB.sig) → Buf (Elt Bits) ℓ) (g : Dev Cert.LbB.nD → PrngReg), Pre_LbB m →
    θ_run (Cert.LbB.defs (F := Bits)) (onTc (τ := Cert.LbB.τ) (Cert.LbB.main (F := Bits))) ⟨m, fun _ => 0, g⟩ (fun r => (∀ c : Dev Cert.LbB.nD,
      r.2.mem ((c.tc : Thread Cert.LbB.nD Cert.LbB.τ).loc Cert.LbB.main_arg0) = m ((c.tc : Thread Cert.LbB.nD Cert.LbB.τ).loc Cert.LbB.main_arg0)
      ∧ r.2.mem ((c.tc : Thread Cert.LbB.nD Cert.LbB.τ).loc Cert.LbB.main_arg1) = m ((c.tc : Thread Cert.LbB.nD Cert.LbB.τ).loc Cert.LbB.main_arg1))
      ∧ r.2.sem = fun _ => 0)

def quiescent_LbBIdeal [hLbBIdeal : Cert.LbBIdeal.Facts] : Prop :=
  ∀ (m : (ℓ : Loc Cert.LbBIdeal.nD Cert.LbBIdeal.τ Cert.LbBIdeal.sig) → Buf (Elt Ideal) ℓ) (g : Dev Cert.LbBIdeal.nD → PrngReg), Pre_LbBIdeal m →
    θ_run (Cert.LbBIdeal.defs (F := Ideal)) (onTc (τ := Cert.LbBIdeal.τ) (Cert.LbBIdeal.main (F := Ideal))) ⟨m, fun _ => 0, g⟩ (fun r => (∀ c : Dev Cert.LbBIdeal.nD,
      r.2.mem ((c.tc : Thread Cert.LbBIdeal.nD Cert.LbBIdeal.τ).loc Cert.LbBIdeal.main_arg0) = m ((c.tc : Thread Cert.LbBIdeal.nD Cert.LbBIdeal.τ).loc Cert.LbBIdeal.main_arg0)
      ∧ r.2.mem ((c.tc : Thread Cert.LbBIdeal.nD Cert.LbBIdeal.τ).loc Cert.LbBIdeal.main_arg1) = m ((c.tc : Thread Cert.LbBIdeal.nD Cert.LbBIdeal.τ).loc Cert.LbBIdeal.main_arg1))
      ∧ r.2.sem = fun _ => 0)

def quiescent_RefLbBIdeal [hRefLbBIdeal : Cert.RefLbBIdeal.Facts] : Prop :=
  ∀ (m : (ℓ : Loc Cert.RefLbBIdeal.nD Cert.RefLbBIdeal.τ Cert.RefLbBIdeal.sig) → Buf (Elt Ideal) ℓ) (g : Dev Cert.RefLbBIdeal.nD → PrngReg), Pre_RefLbBIdeal m →
    θ_run (Cert.RefLbBIdeal.defs (F := Ideal)) (onTc (τ := Cert.RefLbBIdeal.τ) (Cert.RefLbBIdeal.main (F := Ideal))) ⟨m, fun _ => 0, g⟩ (fun r => (∀ c : Dev Cert.RefLbBIdeal.nD,
      r.2.mem ((c.tc : Thread Cert.RefLbBIdeal.nD Cert.RefLbBIdeal.τ).loc Cert.RefLbBIdeal.main_arg0) = m ((c.tc : Thread Cert.RefLbBIdeal.nD Cert.RefLbBIdeal.τ).loc Cert.RefLbBIdeal.main_arg0)
      ∧ r.2.mem ((c.tc : Thread Cert.RefLbBIdeal.nD Cert.RefLbBIdeal.τ).loc Cert.RefLbBIdeal.main_arg1) = m ((c.tc : Thread Cert.RefLbBIdeal.nD Cert.RefLbBIdeal.τ).loc Cert.RefLbBIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ r.2.sem = fun _ => 0)

def quiescent_RefHgrnInIdeal [hRefHgrnInIdeal : Cert.RefHgrnInIdeal.Facts] : Prop :=
  ∀ (m : (ℓ : Loc Cert.RefHgrnInIdeal.nD Cert.RefHgrnInIdeal.τ Cert.RefHgrnInIdeal.sig) → Buf (Elt Ideal) ℓ) (g : Dev Cert.RefHgrnInIdeal.nD → PrngReg), Pre_RefHgrnInIdeal m →
    θ_run (Cert.RefHgrnInIdeal.defs (F := Ideal)) (onTc (τ := Cert.RefHgrnInIdeal.τ) (Cert.RefHgrnInIdeal.main (F := Ideal))) ⟨m, fun _ => 0, g⟩ (fun r => (∀ c : Dev Cert.RefHgrnInIdeal.nD,
      r.2.mem ((c.tc : Thread Cert.RefHgrnInIdeal.nD Cert.RefHgrnInIdeal.τ).loc Cert.RefHgrnInIdeal.main_arg0) = m ((c.tc : Thread Cert.RefHgrnInIdeal.nD Cert.RefHgrnInIdeal.τ).loc Cert.RefHgrnInIdeal.main_arg0)
      ∧ r.2.mem ((c.tc : Thread Cert.RefHgrnInIdeal.nD Cert.RefHgrnInIdeal.τ).loc Cert.RefHgrnInIdeal.main_arg1) = m ((c.tc : Thread Cert.RefHgrnInIdeal.nD Cert.RefHgrnInIdeal.τ).loc Cert.RefHgrnInIdeal.main_arg1))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2))
      ∧ r.2.sem = fun _ => 0)

def quiescent_RefHgrnOutIdeal [hRefHgrnOutIdeal : Cert.RefHgrnOutIdeal.Facts] : Prop :=
  ∀ (m : (ℓ : Loc Cert.RefHgrnOutIdeal.nD Cert.RefHgrnOutIdeal.τ Cert.RefHgrnOutIdeal.sig) → Buf (Elt Ideal) ℓ) (g : Dev Cert.RefHgrnOutIdeal.nD → PrngReg), Pre_RefHgrnOutIdeal m →
    θ_run (Cert.RefHgrnOutIdeal.defs (F := Ideal)) (onTc (τ := Cert.RefHgrnOutIdeal.τ) (Cert.RefHgrnOutIdeal.main (F := Ideal))) ⟨m, fun _ => 0, g⟩ (fun r => (∀ c : Dev Cert.RefHgrnOutIdeal.nD,
      r.2.mem ((c.tc : Thread Cert.RefHgrnOutIdeal.nD Cert.RefHgrnOutIdeal.τ).loc Cert.RefHgrnOutIdeal.main_arg0) = m ((c.tc : Thread Cert.RefHgrnOutIdeal.nD Cert.RefHgrnOutIdeal.τ).loc Cert.RefHgrnOutIdeal.main_arg0)
      ∧ r.2.mem ((c.tc : Thread Cert.RefHgrnOutIdeal.nD Cert.RefHgrnOutIdeal.τ).loc Cert.RefHgrnOutIdeal.main_arg1) = m ((c.tc : Thread Cert.RefHgrnOutIdeal.nD Cert.RefHgrnOutIdeal.τ).loc Cert.RefHgrnOutIdeal.main_arg1)
      ∧ r.2.mem ((c.tc : Thread Cert.RefHgrnOutIdeal.nD Cert.RefHgrnOutIdeal.τ).loc Cert.RefHgrnOutIdeal.main_arg2) = m ((c.tc : Thread Cert.RefHgrnOutIdeal.nD Cert.RefHgrnOutIdeal.τ).loc Cert.RefHgrnOutIdeal.main_arg2))
      ∧ r.2.sem = fun _ => 0)

def quiescent_MambaZ [hMambaZ : Cert.MambaZ.Facts] : Prop :=
  ∀ (m : (ℓ : Loc Cert.MambaZ.nD Cert.MambaZ.τ Cert.MambaZ.sig) → Buf (Elt Bits) ℓ) (g : Dev Cert.MambaZ.nD → PrngReg), Pre_MambaZ m →
    θ_run (Cert.MambaZ.defs (F := Bits)) (onTc (τ := Cert.MambaZ.τ) (Cert.MambaZ.main (F := Bits))) ⟨m, fun _ => 0, g⟩ (fun r => (∀ c : Dev Cert.MambaZ.nD,
      r.2.mem ((c.tc : Thread Cert.MambaZ.nD Cert.MambaZ.τ).loc Cert.MambaZ.main_arg0) = m ((c.tc : Thread Cert.MambaZ.nD Cert.MambaZ.τ).loc Cert.MambaZ.main_arg0)
      ∧ r.2.mem ((c.tc : Thread Cert.MambaZ.nD Cert.MambaZ.τ).loc Cert.MambaZ.main_arg1) = m ((c.tc : Thread Cert.MambaZ.nD Cert.MambaZ.τ).loc Cert.MambaZ.main_arg1))
      ∧ r.2.sem = fun _ => 0)

def quiescent_MambaZIdeal [hMambaZIdeal : Cert.MambaZIdeal.Facts] : Prop :=
  ∀ (m : (ℓ : Loc Cert.MambaZIdeal.nD Cert.MambaZIdeal.τ Cert.MambaZIdeal.sig) → Buf (Elt Ideal) ℓ) (g : Dev Cert.MambaZIdeal.nD → PrngReg), Pre_MambaZIdeal m →
    θ_run (Cert.MambaZIdeal.defs (F := Ideal)) (onTc (τ := Cert.MambaZIdeal.τ) (Cert.MambaZIdeal.main (F := Ideal))) ⟨m, fun _ => 0, g⟩ (fun r => (∀ c : Dev Cert.MambaZIdeal.nD,
      r.2.mem ((c.tc : Thread Cert.MambaZIdeal.nD Cert.MambaZIdeal.τ).loc Cert.MambaZIdeal.main_arg0) = m ((c.tc : Thread Cert.MambaZIdeal.nD Cert.MambaZIdeal.τ).loc Cert.MambaZIdeal.main_arg0)
      ∧ r.2.mem ((c.tc : Thread Cert.MambaZIdeal.nD Cert.MambaZIdeal.τ).loc Cert.MambaZIdeal.main_arg1) = m ((c.tc : Thread Cert.MambaZIdeal.nD Cert.MambaZIdeal.τ).loc Cert.MambaZIdeal.main_arg1))
      ∧ r.2.sem = fun _ => 0)

def quiescent_RefMambaZIdeal [hRefMambaZIdeal : Cert.RefMambaZIdeal.Facts] : Prop :=
  ∀ (m : (ℓ : Loc Cert.RefMambaZIdeal.nD Cert.RefMambaZIdeal.τ Cert.RefMambaZIdeal.sig) → Buf (Elt Ideal) ℓ) (g : Dev Cert.RefMambaZIdeal.nD → PrngReg), Pre_RefMambaZIdeal m →
    θ_run (Cert.RefMambaZIdeal.defs (F := Ideal)) (onTc (τ := Cert.RefMambaZIdeal.τ) (Cert.RefMambaZIdeal.main (F := Ideal))) ⟨m, fun _ => 0, g⟩ (fun r => (∀ c : Dev Cert.RefMambaZIdeal.nD,
      r.2.mem ((c.tc : Thread Cert.RefMambaZIdeal.nD Cert.RefMambaZIdeal.τ).loc Cert.RefMambaZIdeal.main_arg0) = m ((c.tc : Thread Cert.RefMambaZIdeal.nD Cert.RefMambaZIdeal.τ).loc Cert.RefMambaZIdeal.main_arg0)
      ∧ r.2.mem ((c.tc : Thread Cert.RefMambaZIdeal.nD Cert.RefMambaZIdeal.τ).loc Cert.RefMambaZIdeal.main_arg1) = m ((c.tc : Thread Cert.RefMambaZIdeal.nD Cert.RefMambaZIdeal.τ).loc Cert.RefMambaZIdeal.main_arg1))
      ∧ r.2.sem = fun _ => 0)

def quiescent_MambaXbc [hMambaXbc : Cert.MambaXbc.Facts] : Prop :=
  ∀ (m : (ℓ : Loc Cert.MambaXbc.nD Cert.MambaXbc.τ Cert.MambaXbc.sig) → Buf (Elt Bits) ℓ) (g : Dev Cert.MambaXbc.nD → PrngReg), Pre_MambaXbc m →
    θ_run (Cert.MambaXbc.defs (F := Bits)) (onTc (τ := Cert.MambaXbc.τ) (Cert.MambaXbc.main (F := Bits))) ⟨m, fun _ => 0, g⟩ (fun r => (∀ c : Dev Cert.MambaXbc.nD,
      r.2.mem ((c.tc : Thread Cert.MambaXbc.nD Cert.MambaXbc.τ).loc Cert.MambaXbc.main_arg0) = m ((c.tc : Thread Cert.MambaXbc.nD Cert.MambaXbc.τ).loc Cert.MambaXbc.main_arg0)
      ∧ r.2.mem ((c.tc : Thread Cert.MambaXbc.nD Cert.MambaXbc.τ).loc Cert.MambaXbc.main_arg1) = m ((c.tc : Thread Cert.MambaXbc.nD Cert.MambaXbc.τ).loc Cert.MambaXbc.main_arg1))
      ∧ r.2.sem = fun _ => 0)

def quiescent_MambaXbcIdeal [hMambaXbcIdeal : Cert.MambaXbcIdeal.Facts] : Prop :=
  ∀ (m : (ℓ : Loc Cert.MambaXbcIdeal.nD Cert.MambaXbcIdeal.τ Cert.MambaXbcIdeal.sig) → Buf (Elt Ideal) ℓ) (g : Dev Cert.MambaXbcIdeal.nD → PrngReg), Pre_MambaXbcIdeal m →
    θ_run (Cert.MambaXbcIdeal.defs (F := Ideal)) (onTc (τ := Cert.MambaXbcIdeal.τ) (Cert.MambaXbcIdeal.main (F := Ideal))) ⟨m, fun _ => 0, g⟩ (fun r => (∀ c : Dev Cert.MambaXbcIdeal.nD,
      r.2.mem ((c.tc : Thread Cert.MambaXbcIdeal.nD Cert.MambaXbcIdeal.τ).loc Cert.MambaXbcIdeal.main_arg0) = m ((c.tc : Thread Cert.MambaXbcIdeal.nD Cert.MambaXbcIdeal.τ).loc Cert.MambaXbcIdeal.main_arg0)
      ∧ r.2.mem ((c.tc : Thread Cert.MambaXbcIdeal.nD Cert.MambaXbcIdeal.τ).loc Cert.MambaXbcIdeal.main_arg1) = m ((c.tc : Thread Cert.MambaXbcIdeal.nD Cert.MambaXbcIdeal.τ).loc Cert.MambaXbcIdeal.main_arg1))
      ∧ r.2.sem = fun _ => 0)

def quiescent_RefMambaXbcIdeal [hRefMambaXbcIdeal : Cert.RefMambaXbcIdeal.Facts] : Prop :=
  ∀ (m : (ℓ : Loc Cert.RefMambaXbcIdeal.nD Cert.RefMambaXbcIdeal.τ Cert.RefMambaXbcIdeal.sig) → Buf (Elt Ideal) ℓ) (g : Dev Cert.RefMambaXbcIdeal.nD → PrngReg), Pre_RefMambaXbcIdeal m →
    θ_run (Cert.RefMambaXbcIdeal.defs (F := Ideal)) (onTc (τ := Cert.RefMambaXbcIdeal.τ) (Cert.RefMambaXbcIdeal.main (F := Ideal))) ⟨m, fun _ => 0, g⟩ (fun r => (∀ c : Dev Cert.RefMambaXbcIdeal.nD,
      r.2.mem ((c.tc : Thread Cert.RefMambaXbcIdeal.nD Cert.RefMambaXbcIdeal.τ).loc Cert.RefMambaXbcIdeal.main_arg0) = m ((c.tc : Thread Cert.RefMambaXbcIdeal.nD Cert.RefMambaXbcIdeal.τ).loc Cert.RefMambaXbcIdeal.main_arg0)
      ∧ r.2.mem ((c.tc : Thread Cert.RefMambaXbcIdeal.nD Cert.RefMambaXbcIdeal.τ).loc Cert.RefMambaXbcIdeal.main_arg1) = m ((c.tc : Thread Cert.RefMambaXbcIdeal.nD Cert.RefMambaXbcIdeal.τ).loc Cert.RefMambaXbcIdeal.main_arg1))
      ∧ r.2.sem = fun _ => 0)

def quiescent_MambaDt [hMambaDt : Cert.MambaDt.Facts] : Prop :=
  ∀ (m : (ℓ : Loc Cert.MambaDt.nD Cert.MambaDt.τ Cert.MambaDt.sig) → Buf (Elt Bits) ℓ) (g : Dev Cert.MambaDt.nD → PrngReg), Pre_MambaDt m →
    θ_run (Cert.MambaDt.defs (F := Bits)) (onTc (τ := Cert.MambaDt.τ) (Cert.MambaDt.main (F := Bits))) ⟨m, fun _ => 0, g⟩ (fun r => (∀ c : Dev Cert.MambaDt.nD,
      r.2.mem ((c.tc : Thread Cert.MambaDt.nD Cert.MambaDt.τ).loc Cert.MambaDt.main_arg0) = m ((c.tc : Thread Cert.MambaDt.nD Cert.MambaDt.τ).loc Cert.MambaDt.main_arg0)
      ∧ r.2.mem ((c.tc : Thread Cert.MambaDt.nD Cert.MambaDt.τ).loc Cert.MambaDt.main_arg1) = m ((c.tc : Thread Cert.MambaDt.nD Cert.MambaDt.τ).loc Cert.MambaDt.main_arg1))
      ∧ r.2.sem = fun _ => 0)

def quiescent_MambaDtIdeal [hMambaDtIdeal : Cert.MambaDtIdeal.Facts] : Prop :=
  ∀ (m : (ℓ : Loc Cert.MambaDtIdeal.nD Cert.MambaDtIdeal.τ Cert.MambaDtIdeal.sig) → Buf (Elt Ideal) ℓ) (g : Dev Cert.MambaDtIdeal.nD → PrngReg), Pre_MambaDtIdeal m →
    θ_run (Cert.MambaDtIdeal.defs (F := Ideal)) (onTc (τ := Cert.MambaDtIdeal.τ) (Cert.MambaDtIdeal.main (F := Ideal))) ⟨m, fun _ => 0, g⟩ (fun r => (∀ c : Dev Cert.MambaDtIdeal.nD,
      r.2.mem ((c.tc : Thread Cert.MambaDtIdeal.nD Cert.MambaDtIdeal.τ).loc Cert.MambaDtIdeal.main_arg0) = m ((c.tc : Thread Cert.MambaDtIdeal.nD Cert.MambaDtIdeal.τ).loc Cert.MambaDtIdeal.main_arg0)
      ∧ r.2.mem ((c.tc : Thread Cert.MambaDtIdeal.nD Cert.MambaDtIdeal.τ).loc Cert.MambaDtIdeal.main_arg1) = m ((c.tc : Thread Cert.MambaDtIdeal.nD Cert.MambaDtIdeal.τ).loc Cert.MambaDtIdeal.main_arg1))
      ∧ r.2.sem = fun _ => 0)

def quiescent_RefMambaDtIdeal [hRefMambaDtIdeal : Cert.RefMambaDtIdeal.Facts] : Prop :=
  ∀ (m : (ℓ : Loc Cert.RefMambaDtIdeal.nD Cert.RefMambaDtIdeal.τ Cert.RefMambaDtIdeal.sig) → Buf (Elt Ideal) ℓ) (g : Dev Cert.RefMambaDtIdeal.nD → PrngReg), Pre_RefMambaDtIdeal m →
    θ_run (Cert.RefMambaDtIdeal.defs (F := Ideal)) (onTc (τ := Cert.RefMambaDtIdeal.τ) (Cert.RefMambaDtIdeal.main (F := Ideal))) ⟨m, fun _ => 0, g⟩ (fun r => (∀ c : Dev Cert.RefMambaDtIdeal.nD,
      r.2.mem ((c.tc : Thread Cert.RefMambaDtIdeal.nD Cert.RefMambaDtIdeal.τ).loc Cert.RefMambaDtIdeal.main_arg0) = m ((c.tc : Thread Cert.RefMambaDtIdeal.nD Cert.RefMambaDtIdeal.τ).loc Cert.RefMambaDtIdeal.main_arg0)
      ∧ r.2.mem ((c.tc : Thread Cert.RefMambaDtIdeal.nD Cert.RefMambaDtIdeal.τ).loc Cert.RefMambaDtIdeal.main_arg1) = m ((c.tc : Thread Cert.RefMambaDtIdeal.nD Cert.RefMambaDtIdeal.τ).loc Cert.RefMambaDtIdeal.main_arg1))
      ∧ r.2.sem = fun _ => 0)

def quiescent_MambaOut [hMambaOut : Cert.MambaOut.Facts] : Prop :=
  ∀ (m : (ℓ : Loc Cert.MambaOut.nD Cert.MambaOut.τ Cert.MambaOut.sig) → Buf (Elt Bits) ℓ) (g : Dev Cert.MambaOut.nD → PrngReg), Pre_MambaOut m →
    θ_run (Cert.MambaOut.defs (F := Bits)) (onTc (τ := Cert.MambaOut.τ) (Cert.MambaOut.main (F := Bits))) ⟨m, fun _ => 0, g⟩ (fun r => (∀ c : Dev Cert.MambaOut.nD,
      r.2.mem ((c.tc : Thread Cert.MambaOut.nD Cert.MambaOut.τ).loc Cert.MambaOut.main_arg0) = m ((c.tc : Thread Cert.MambaOut.nD Cert.MambaOut.τ).loc Cert.MambaOut.main_arg0)
      ∧ r.2.mem ((c.tc : Thread Cert.MambaOut.nD Cert.MambaOut.τ).loc Cert.MambaOut.main_arg1) = m ((c.tc : Thread Cert.MambaOut.nD Cert.MambaOut.τ).loc Cert.MambaOut.main_arg1)
      ∧ r.2.mem ((c.tc : Thread Cert.MambaOut.nD Cert.MambaOut.τ).loc Cert.MambaOut.main_arg2) = m ((c.tc : Thread Cert.MambaOut.nD Cert.MambaOut.τ).loc Cert.MambaOut.main_arg2))
      ∧ r.2.sem = fun _ => 0)

def quiescent_MambaOutIdeal [hMambaOutIdeal : Cert.MambaOutIdeal.Facts] : Prop :=
  ∀ (m : (ℓ : Loc Cert.MambaOutIdeal.nD Cert.MambaOutIdeal.τ Cert.MambaOutIdeal.sig) → Buf (Elt Ideal) ℓ) (g : Dev Cert.MambaOutIdeal.nD → PrngReg), Pre_MambaOutIdeal m →
    θ_run (Cert.MambaOutIdeal.defs (F := Ideal)) (onTc (τ := Cert.MambaOutIdeal.τ) (Cert.MambaOutIdeal.main (F := Ideal))) ⟨m, fun _ => 0, g⟩ (fun r => (∀ c : Dev Cert.MambaOutIdeal.nD,
      r.2.mem ((c.tc : Thread Cert.MambaOutIdeal.nD Cert.MambaOutIdeal.τ).loc Cert.MambaOutIdeal.main_arg0) = m ((c.tc : Thread Cert.MambaOutIdeal.nD Cert.MambaOutIdeal.τ).loc Cert.MambaOutIdeal.main_arg0)
      ∧ r.2.mem ((c.tc : Thread Cert.MambaOutIdeal.nD Cert.MambaOutIdeal.τ).loc Cert.MambaOutIdeal.main_arg1) = m ((c.tc : Thread Cert.MambaOutIdeal.nD Cert.MambaOutIdeal.τ).loc Cert.MambaOutIdeal.main_arg1)
      ∧ r.2.mem ((c.tc : Thread Cert.MambaOutIdeal.nD Cert.MambaOutIdeal.τ).loc Cert.MambaOutIdeal.main_arg2) = m ((c.tc : Thread Cert.MambaOutIdeal.nD Cert.MambaOutIdeal.τ).loc Cert.MambaOutIdeal.main_arg2))
      ∧ r.2.sem = fun _ => 0)

def quiescent_RefMambaOutIdeal [hRefMambaOutIdeal : Cert.RefMambaOutIdeal.Facts] : Prop :=
  ∀ (m : (ℓ : Loc Cert.RefMambaOutIdeal.nD Cert.RefMambaOutIdeal.τ Cert.RefMambaOutIdeal.sig) → Buf (Elt Ideal) ℓ) (g : Dev Cert.RefMambaOutIdeal.nD → PrngReg), Pre_RefMambaOutIdeal m →
    θ_run (Cert.RefMambaOutIdeal.defs (F := Ideal)) (onTc (τ := Cert.RefMambaOutIdeal.τ) (Cert.RefMambaOutIdeal.main (F := Ideal))) ⟨m, fun _ => 0, g⟩ (fun r => (∀ c : Dev Cert.RefMambaOutIdeal.nD,
      r.2.mem ((c.tc : Thread Cert.RefMambaOutIdeal.nD Cert.RefMambaOutIdeal.τ).loc Cert.RefMambaOutIdeal.main_arg0) = m ((c.tc : Thread Cert.RefMambaOutIdeal.nD Cert.RefMambaOutIdeal.τ).loc Cert.RefMambaOutIdeal.main_arg0)
      ∧ r.2.mem ((c.tc : Thread Cert.RefMambaOutIdeal.nD Cert.RefMambaOutIdeal.τ).loc Cert.RefMambaOutIdeal.main_arg1) = m ((c.tc : Thread Cert.RefMambaOutIdeal.nD Cert.RefMambaOutIdeal.τ).loc Cert.RefMambaOutIdeal.main_arg1)
      ∧ r.2.mem ((c.tc : Thread Cert.RefMambaOutIdeal.nD Cert.RefMambaOutIdeal.τ).loc Cert.RefMambaOutIdeal.main_arg2) = m ((c.tc : Thread Cert.RefMambaOutIdeal.nD Cert.RefMambaOutIdeal.τ).loc Cert.RefMambaOutIdeal.main_arg2))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RefRmsFIdeal [hRefRmsFIdeal : Cert.RefRmsFIdeal.Facts] : Prop :=
  ∀ (m : (ℓ : Loc Cert.RefRmsFIdeal.nD Cert.RefRmsFIdeal.τ Cert.RefRmsFIdeal.sig) → Buf (Elt Ideal) ℓ) (g : Dev Cert.RefRmsFIdeal.nD → PrngReg), Pre_RefRmsFIdeal m →
    θ_run (Cert.RefRmsFIdeal.defs (F := Ideal)) (onTc (τ := Cert.RefRmsFIdeal.τ) (Cert.RefRmsFIdeal.main (F := Ideal))) ⟨m, fun _ => 0, g⟩ (fun r => (∀ c : Dev Cert.RefRmsFIdeal.nD,
      r.2.mem ((c.tc : Thread Cert.RefRmsFIdeal.nD Cert.RefRmsFIdeal.τ).loc Cert.RefRmsFIdeal.main_arg0) = m ((c.tc : Thread Cert.RefRmsFIdeal.nD Cert.RefRmsFIdeal.τ).loc Cert.RefRmsFIdeal.main_arg0)
      ∧ r.2.mem ((c.tc : Thread Cert.RefRmsFIdeal.nD Cert.RefRmsFIdeal.τ).loc Cert.RefRmsFIdeal.main_arg1) = m ((c.tc : Thread Cert.RefRmsFIdeal.nD Cert.RefRmsFIdeal.τ).loc Cert.RefRmsFIdeal.main_arg1))
      ∧ r.2.sem = fun _ => 0)

def quiescent_MgateF [hMgateF : Cert.MgateF.Facts] : Prop :=
  ∀ (m : (ℓ : Loc Cert.MgateF.nD Cert.MgateF.τ Cert.MgateF.sig) → Buf (Elt Bits) ℓ) (g : Dev Cert.MgateF.nD → PrngReg), Pre_MgateF m →
    θ_run (Cert.MgateF.defs (F := Bits)) (onTc (τ := Cert.MgateF.τ) (Cert.MgateF.main (F := Bits))) ⟨m, fun _ => 0, g⟩ (fun r => (∀ c : Dev Cert.MgateF.nD,
      r.2.mem ((c.tc : Thread Cert.MgateF.nD Cert.MgateF.τ).loc Cert.MgateF.main_arg0) = m ((c.tc : Thread Cert.MgateF.nD Cert.MgateF.τ).loc Cert.MgateF.main_arg0)
      ∧ r.2.mem ((c.tc : Thread Cert.MgateF.nD Cert.MgateF.τ).loc Cert.MgateF.main_arg1) = m ((c.tc : Thread Cert.MgateF.nD Cert.MgateF.τ).loc Cert.MgateF.main_arg1)
      ∧ r.2.mem ((c.tc : Thread Cert.MgateF.nD Cert.MgateF.τ).loc Cert.MgateF.main_arg2) = m ((c.tc : Thread Cert.MgateF.nD Cert.MgateF.τ).loc Cert.MgateF.main_arg2))
      ∧ r.2.sem = fun _ => 0)

def quiescent_MgateFIdeal [hMgateFIdeal : Cert.MgateFIdeal.Facts] : Prop :=
  ∀ (m : (ℓ : Loc Cert.MgateFIdeal.nD Cert.MgateFIdeal.τ Cert.MgateFIdeal.sig) → Buf (Elt Ideal) ℓ) (g : Dev Cert.MgateFIdeal.nD → PrngReg), Pre_MgateFIdeal m →
    θ_run (Cert.MgateFIdeal.defs (F := Ideal)) (onTc (τ := Cert.MgateFIdeal.τ) (Cert.MgateFIdeal.main (F := Ideal))) ⟨m, fun _ => 0, g⟩ (fun r => (∀ c : Dev Cert.MgateFIdeal.nD,
      r.2.mem ((c.tc : Thread Cert.MgateFIdeal.nD Cert.MgateFIdeal.τ).loc Cert.MgateFIdeal.main_arg0) = m ((c.tc : Thread Cert.MgateFIdeal.nD Cert.MgateFIdeal.τ).loc Cert.MgateFIdeal.main_arg0)
      ∧ r.2.mem ((c.tc : Thread Cert.MgateFIdeal.nD Cert.MgateFIdeal.τ).loc Cert.MgateFIdeal.main_arg1) = m ((c.tc : Thread Cert.MgateFIdeal.nD Cert.MgateFIdeal.τ).loc Cert.MgateFIdeal.main_arg1)
      ∧ r.2.mem ((c.tc : Thread Cert.MgateFIdeal.nD Cert.MgateFIdeal.τ).loc Cert.MgateFIdeal.main_arg2) = m ((c.tc : Thread Cert.MgateFIdeal.nD Cert.MgateFIdeal.τ).loc Cert.MgateFIdeal.main_arg2))
      ∧ r.2.sem = fun _ => 0)

def quiescent_RefMgateFIdeal [hRefMgateFIdeal : Cert.RefMgateFIdeal.Facts] : Prop :=
  ∀ (m : (ℓ : Loc Cert.RefMgateFIdeal.nD Cert.RefMgateFIdeal.τ Cert.RefMgateFIdeal.sig) → Buf (Elt Ideal) ℓ) (g : Dev Cert.RefMgateFIdeal.nD → PrngReg), Pre_RefMgateFIdeal m →
    θ_run (Cert.RefMgateFIdeal.defs (F := Ideal)) (onTc (τ := Cert.RefMgateFIdeal.τ) (Cert.RefMgateFIdeal.main (F := Ideal))) ⟨m, fun _ => 0, g⟩ (fun r => (∀ c : Dev Cert.RefMgateFIdeal.nD,
      r.2.mem ((c.tc : Thread Cert.RefMgateFIdeal.nD Cert.RefMgateFIdeal.τ).loc Cert.RefMgateFIdeal.main_arg0) = m ((c.tc : Thread Cert.RefMgateFIdeal.nD Cert.RefMgateFIdeal.τ).loc Cert.RefMgateFIdeal.main_arg0)
      ∧ r.2.mem ((c.tc : Thread Cert.RefMgateFIdeal.nD Cert.RefMgateFIdeal.τ).loc Cert.RefMgateFIdeal.main_arg1) = m ((c.tc : Thread Cert.RefMgateFIdeal.nD Cert.RefMgateFIdeal.τ).loc Cert.RefMgateFIdeal.main_arg1)
      ∧ r.2.mem ((c.tc : Thread Cert.RefMgateFIdeal.nD Cert.RefMgateFIdeal.τ).loc Cert.RefMgateFIdeal.main_arg2) = m ((c.tc : Thread Cert.RefMgateFIdeal.nD Cert.RefMgateFIdeal.τ).loc Cert.RefMgateFIdeal.main_arg2))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ r.2.sem = fun _ => 0)

def quiescent_RefConvFIdeal [hRefConvFIdeal : Cert.RefConvFIdeal.Facts] : Prop :=
  ∀ (m : (ℓ : Loc Cert.RefConvFIdeal.nD Cert.RefConvFIdeal.τ Cert.RefConvFIdeal.sig) → Buf (Elt Ideal) ℓ) (g : Dev Cert.RefConvFIdeal.nD → PrngReg), Pre_RefConvFIdeal m →
    θ_run (Cert.RefConvFIdeal.defs (F := Ideal)) (onTc (τ := Cert.RefConvFIdeal.τ) (Cert.RefConvFIdeal.main (F := Ideal))) ⟨m, fun _ => 0, g⟩ (fun r => (∀ c : Dev Cert.RefConvFIdeal.nD,
      r.2.mem ((c.tc : Thread Cert.RefConvFIdeal.nD Cert.RefConvFIdeal.τ).loc Cert.RefConvFIdeal.main_arg0) = m ((c.tc : Thread Cert.RefConvFIdeal.nD Cert.RefConvFIdeal.τ).loc Cert.RefConvFIdeal.main_arg0)
      ∧ r.2.mem ((c.tc : Thread Cert.RefConvFIdeal.nD Cert.RefConvFIdeal.τ).loc Cert.RefConvFIdeal.main_arg1) = m ((c.tc : Thread Cert.RefConvFIdeal.nD Cert.RefConvFIdeal.τ).loc Cert.RefConvFIdeal.main_arg1)
      ∧ r.2.mem ((c.tc : Thread Cert.RefConvFIdeal.nD Cert.RefConvFIdeal.τ).loc Cert.RefConvFIdeal.main_arg2) = m ((c.tc : Thread Cert.RefConvFIdeal.nD Cert.RefConvFIdeal.τ).loc Cert.RefConvFIdeal.main_arg2))
      ∧ r.2.sem = fun _ => 0)

def quiescent_GateF [hGateF : Cert.GateF.Facts] : Prop :=
  ∀ (m : (ℓ : Loc Cert.GateF.nD Cert.GateF.τ Cert.GateF.sig) → Buf (Elt Bits) ℓ) (g : Dev Cert.GateF.nD → PrngReg), Pre_GateF m →
    θ_run (Cert.GateF.defs (F := Bits)) (onTc (τ := Cert.GateF.τ) (Cert.GateF.main (F := Bits))) ⟨m, fun _ => 0, g⟩ (fun r => (∀ c : Dev Cert.GateF.nD,
      r.2.mem ((c.tc : Thread Cert.GateF.nD Cert.GateF.τ).loc Cert.GateF.main_arg0) = m ((c.tc : Thread Cert.GateF.nD Cert.GateF.τ).loc Cert.GateF.main_arg0)
      ∧ r.2.mem ((c.tc : Thread Cert.GateF.nD Cert.GateF.τ).loc Cert.GateF.main_arg1) = m ((c.tc : Thread Cert.GateF.nD Cert.GateF.τ).loc Cert.GateF.main_arg1)
      ∧ r.2.mem ((c.tc : Thread Cert.GateF.nD Cert.GateF.τ).loc Cert.GateF.main_arg2) = m ((c.tc : Thread Cert.GateF.nD Cert.GateF.τ).loc Cert.GateF.main_arg2))
      ∧ r.2.sem = fun _ => 0)

def quiescent_GateFIdeal [hGateFIdeal : Cert.GateFIdeal.Facts] : Prop :=
  ∀ (m : (ℓ : Loc Cert.GateFIdeal.nD Cert.GateFIdeal.τ Cert.GateFIdeal.sig) → Buf (Elt Ideal) ℓ) (g : Dev Cert.GateFIdeal.nD → PrngReg), Pre_GateFIdeal m →
    θ_run (Cert.GateFIdeal.defs (F := Ideal)) (onTc (τ := Cert.GateFIdeal.τ) (Cert.GateFIdeal.main (F := Ideal))) ⟨m, fun _ => 0, g⟩ (fun r => (∀ c : Dev Cert.GateFIdeal.nD,
      r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
      ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
      ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2))
      ∧ r.2.sem = fun _ => 0)

def quiescent_RefGateFIdeal [hRefGateFIdeal : Cert.RefGateFIdeal.Facts] : Prop :=
  ∀ (m : (ℓ : Loc Cert.RefGateFIdeal.nD Cert.RefGateFIdeal.τ Cert.RefGateFIdeal.sig) → Buf (Elt Ideal) ℓ) (g : Dev Cert.RefGateFIdeal.nD → PrngReg), Pre_RefGateFIdeal m →
    θ_run (Cert.RefGateFIdeal.defs (F := Ideal)) (onTc (τ := Cert.RefGateFIdeal.τ) (Cert.RefGateFIdeal.main (F := Ideal))) ⟨m, fun _ => 0, g⟩ (fun r => (∀ c : Dev Cert.RefGateFIdeal.nD,
      r.2.mem ((c.tc : Thread Cert.RefGateFIdeal.nD Cert.RefGateFIdeal.τ).loc Cert.RefGateFIdeal.main_arg0) = m ((c.tc : Thread Cert.RefGateFIdeal.nD Cert.RefGateFIdeal.τ).loc Cert.RefGateFIdeal.main_arg0)
      ∧ r.2.mem ((c.tc : Thread Cert.RefGateFIdeal.nD Cert.RefGateFIdeal.τ).loc Cert.RefGateFIdeal.main_arg1) = m ((c.tc : Thread Cert.RefGateFIdeal.nD Cert.RefGateFIdeal.τ).loc Cert.RefGateFIdeal.main_arg1)
      ∧ r.2.mem ((c.tc : Thread Cert.RefGateFIdeal.nD Cert.RefGateFIdeal.τ).loc Cert.RefGateFIdeal.main_arg2) = m ((c.tc : Thread Cert.RefGateFIdeal.nD Cert.RefGateFIdeal.τ).loc Cert.RefGateFIdeal.main_arg2))
      ∧ r.2.sem = fun _ => 0)

def quiescent_HgrnF [hHgrnF : Cert.HgrnF.Facts] : Prop :=
  ∀ (m : (ℓ : Loc Cert.HgrnF.nD Cert.HgrnF.τ Cert.HgrnF.sig) → Buf (Elt Bits) ℓ) (g : Dev Cert.HgrnF.nD → PrngReg), Pre_HgrnF m →
    θ_run (Cert.HgrnF.defs (F := Bits)) (onTc (τ := Cert.HgrnF.τ) (Cert.HgrnF.main (F := Bits))) ⟨m, fun _ => 0, g⟩ (fun r => (∀ c : Dev Cert.HgrnF.nD,
      r.2.mem ((c.tc : Thread Cert.HgrnF.nD Cert.HgrnF.τ).loc Cert.HgrnF.main_arg0) = m ((c.tc : Thread Cert.HgrnF.nD Cert.HgrnF.τ).loc Cert.HgrnF.main_arg0)
      ∧ r.2.mem ((c.tc : Thread Cert.HgrnF.nD Cert.HgrnF.τ).loc Cert.HgrnF.main_arg1) = m ((c.tc : Thread Cert.HgrnF.nD Cert.HgrnF.τ).loc Cert.HgrnF.main_arg1)
      ∧ r.2.mem ((c.tc : Thread Cert.HgrnF.nD Cert.HgrnF.τ).loc Cert.HgrnF.main_arg2) = m ((c.tc : Thread Cert.HgrnF.nD Cert.HgrnF.τ).loc Cert.HgrnF.main_arg2))
      ∧ r.2.sem = fun _ => 0)

def quiescent_HgrnFIdeal [hHgrnFIdeal : Cert.HgrnFIdeal.Facts] : Prop :=
  ∀ (m : (ℓ : Loc Cert.HgrnFIdeal.nD Cert.HgrnFIdeal.τ Cert.HgrnFIdeal.sig) → Buf (Elt Ideal) ℓ) (g : Dev Cert.HgrnFIdeal.nD → PrngReg), Pre_HgrnFIdeal m →
    θ_run (Cert.HgrnFIdeal.defs (F := Ideal)) (onTc (τ := Cert.HgrnFIdeal.τ) (Cert.HgrnFIdeal.main (F := Ideal))) ⟨m, fun _ => 0, g⟩ (fun r => (∀ c : Dev Cert.HgrnFIdeal.nD,
      r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
      ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1)
      ∧ r.2.mem ((c.tc : Thread Cert.HgrnFIdeal.nD Cert.HgrnFIdeal.τ).loc Cert.HgrnFIdeal.main_arg2) = m ((c.tc : Thread Cert.HgrnFIdeal.nD Cert.HgrnFIdeal.τ).loc Cert.HgrnFIdeal.main_arg2))
      ∧ r.2.sem = fun _ => 0)

def quiescent_HgrnFIdeal_pre_bounded_hgrn_f [hHgrnFIdeal : Cert.HgrnFIdeal.Facts] [hPre_bounded_hgrn_f : Cert.Pre_bounded_hgrn_f.Facts] : Prop :=
  ∀ (m : (ℓ : Loc Cert.HgrnFIdeal.nD Cert.HgrnFIdeal.τ Cert.HgrnFIdeal.sig) → Buf (Elt Ideal) ℓ) (g : Dev Cert.HgrnFIdeal.nD → PrngReg), Pre_HgrnFIdeal_bounded_hgrn_f m →
    θ_run (Cert.HgrnFIdeal.defs (F := Ideal)) (onTc (τ := Cert.HgrnFIdeal.τ) (Cert.HgrnFIdeal.main (F := Ideal))) ⟨m, fun _ => 0, g⟩ (fun r => (∀ c : Dev Cert.HgrnFIdeal.nD,
      r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
      ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1)
      ∧ r.2.mem ((c.tc : Thread Cert.HgrnFIdeal.nD Cert.HgrnFIdeal.τ).loc Cert.HgrnFIdeal.main_arg2) = m ((c.tc : Thread Cert.HgrnFIdeal.nD Cert.HgrnFIdeal.τ).loc Cert.HgrnFIdeal.main_arg2))
      ∧ r.2.sem = fun _ => 0)

def quiescent_RefHgrnFIdeal [hRefHgrnFIdeal : Cert.RefHgrnFIdeal.Facts] : Prop :=
  ∀ (m : (ℓ : Loc Cert.RefHgrnFIdeal.nD Cert.RefHgrnFIdeal.τ Cert.RefHgrnFIdeal.sig) → Buf (Elt Ideal) ℓ) (g : Dev Cert.RefHgrnFIdeal.nD → PrngReg), Pre_RefHgrnFIdeal m →
    θ_run (Cert.RefHgrnFIdeal.defs (F := Ideal)) (onTc (τ := Cert.RefHgrnFIdeal.τ) (Cert.RefHgrnFIdeal.main (F := Ideal))) ⟨m, fun _ => 0, g⟩ (fun r => (∀ c : Dev Cert.RefHgrnFIdeal.nD,
      r.2.mem ((c.tc : Thread Cert.RefHgrnFIdeal.nD Cert.RefHgrnFIdeal.τ).loc Cert.RefHgrnFIdeal.main_arg0) = m ((c.tc : Thread Cert.RefHgrnFIdeal.nD Cert.RefHgrnFIdeal.τ).loc Cert.RefHgrnFIdeal.main_arg0)
      ∧ r.2.mem ((c.tc : Thread Cert.RefHgrnFIdeal.nD Cert.RefHgrnFIdeal.τ).loc Cert.RefHgrnFIdeal.main_arg1) = m ((c.tc : Thread Cert.RefHgrnFIdeal.nD Cert.RefHgrnFIdeal.τ).loc Cert.RefHgrnFIdeal.main_arg1)
      ∧ r.2.mem ((c.tc : Thread Cert.RefHgrnFIdeal.nD Cert.RefHgrnFIdeal.τ).loc Cert.RefHgrnFIdeal.main_arg2) = m ((c.tc : Thread Cert.RefHgrnFIdeal.nD Cert.RefHgrnFIdeal.τ).loc Cert.RefHgrnFIdeal.main_arg2))
      ∧ r.2.sem = fun _ => 0)

def quiescent_RefHgrnFIdeal_pre_bounded_hgrn_f [hRefHgrnFIdeal : Cert.RefHgrnFIdeal.Facts] [hPre_bounded_hgrn_f : Cert.Pre_bounded_hgrn_f.Facts] : Prop :=
  ∀ (m : (ℓ : Loc Cert.RefHgrnFIdeal.nD Cert.RefHgrnFIdeal.τ Cert.RefHgrnFIdeal.sig) → Buf (Elt Ideal) ℓ) (g : Dev Cert.RefHgrnFIdeal.nD → PrngReg), Pre_RefHgrnFIdeal_bounded_hgrn_f m →
    θ_run (Cert.RefHgrnFIdeal.defs (F := Ideal)) (onTc (τ := Cert.RefHgrnFIdeal.τ) (Cert.RefHgrnFIdeal.main (F := Ideal))) ⟨m, fun _ => 0, g⟩ (fun r => (∀ c : Dev Cert.RefHgrnFIdeal.nD,
      r.2.mem ((c.tc : Thread Cert.RefHgrnFIdeal.nD Cert.RefHgrnFIdeal.τ).loc Cert.RefHgrnFIdeal.main_arg0) = m ((c.tc : Thread Cert.RefHgrnFIdeal.nD Cert.RefHgrnFIdeal.τ).loc Cert.RefHgrnFIdeal.main_arg0)
      ∧ r.2.mem ((c.tc : Thread Cert.RefHgrnFIdeal.nD Cert.RefHgrnFIdeal.τ).loc Cert.RefHgrnFIdeal.main_arg1) = m ((c.tc : Thread Cert.RefHgrnFIdeal.nD Cert.RefHgrnFIdeal.τ).loc Cert.RefHgrnFIdeal.main_arg1)
      ∧ r.2.mem ((c.tc : Thread Cert.RefHgrnFIdeal.nD Cert.RefHgrnFIdeal.τ).loc Cert.RefHgrnFIdeal.main_arg2) = m ((c.tc : Thread Cert.RefHgrnFIdeal.nD Cert.RefHgrnFIdeal.τ).loc Cert.RefHgrnFIdeal.main_arg2))
      ∧ r.2.sem = fun _ => 0)

def quiescent_LbF [hLbF : Cert.LbF.Facts] : Prop :=
  ∀ (m : (ℓ : Loc Cert.LbF.nD Cert.LbF.τ Cert.LbF.sig) → Buf (Elt Bits) ℓ) (g : Dev Cert.LbF.nD → PrngReg), Pre_LbF m →
    θ_run (Cert.LbF.defs (F := Bits)) (onTc (τ := Cert.LbF.τ) (Cert.LbF.main (F := Bits))) ⟨m, fun _ => 0, g⟩ (fun r => (∀ c : Dev Cert.LbF.nD,
      r.2.mem ((c.tc : Thread Cert.LbF.nD Cert.LbF.τ).loc Cert.LbF.main_arg0) = m ((c.tc : Thread Cert.LbF.nD Cert.LbF.τ).loc Cert.LbF.main_arg0))
      ∧ r.2.sem = fun _ => 0)

def quiescent_LbFIdeal [hLbFIdeal : Cert.LbFIdeal.Facts] : Prop :=
  ∀ (m : (ℓ : Loc Cert.LbFIdeal.nD Cert.LbFIdeal.τ Cert.LbFIdeal.sig) → Buf (Elt Ideal) ℓ) (g : Dev Cert.LbFIdeal.nD → PrngReg), Pre_LbFIdeal m →
    θ_run (Cert.LbFIdeal.defs (F := Ideal)) (onTc (τ := Cert.LbFIdeal.τ) (Cert.LbFIdeal.main (F := Ideal))) ⟨m, fun _ => 0, g⟩ (fun r => (∀ c : Dev Cert.LbFIdeal.nD,
      r.2.mem ((c.tc : Thread Cert.LbFIdeal.nD Cert.LbFIdeal.τ).loc Cert.LbFIdeal.main_arg0) = m ((c.tc : Thread Cert.LbFIdeal.nD Cert.LbFIdeal.τ).loc Cert.LbFIdeal.main_arg0))
      ∧ r.2.sem = fun _ => 0)

def quiescent_RefLbFIdeal [hRefLbFIdeal : Cert.RefLbFIdeal.Facts] : Prop :=
  ∀ (m : (ℓ : Loc Cert.RefLbFIdeal.nD Cert.RefLbFIdeal.τ Cert.RefLbFIdeal.sig) → Buf (Elt Ideal) ℓ) (g : Dev Cert.RefLbFIdeal.nD → PrngReg), Pre_RefLbFIdeal m →
    θ_run (Cert.RefLbFIdeal.defs (F := Ideal)) (onTc (τ := Cert.RefLbFIdeal.τ) (Cert.RefLbFIdeal.main (F := Ideal))) ⟨m, fun _ => 0, g⟩ (fun r => (∀ c : Dev Cert.RefLbFIdeal.nD,
      r.2.mem ((c.tc : Thread Cert.RefLbFIdeal.nD Cert.RefLbFIdeal.τ).loc Cert.RefLbFIdeal.main_arg0) = m ((c.tc : Thread Cert.RefLbFIdeal.nD Cert.RefLbFIdeal.τ).loc Cert.RefLbFIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1)
      ∧ r.2.mem ((c.tc : Thread Cert.RefLossIdeal.nD Cert.RefLossIdeal.τ).loc Cert.RefLossIdeal.main_arg2) = m ((c.tc : Thread Cert.RefLossIdeal.nD Cert.RefLossIdeal.τ).loc Cert.RefLossIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_RefAdamSmallIdeal [hRefAdamSmallIdeal : Cert.RefAdamSmallIdeal.Facts] : Prop :=
  ∀ (m : (ℓ : Loc Cert.RefAdamSmallIdeal.nD Cert.RefAdamSmallIdeal.τ Cert.RefAdamSmallIdeal.sig) → Buf (Elt Ideal) ℓ) (g : Dev Cert.RefAdamSmallIdeal.nD → PrngReg), Pre_RefAdamSmallIdeal m →
    θ_run (Cert.RefAdamSmallIdeal.defs (F := Ideal)) (onTc (τ := Cert.RefAdamSmallIdeal.τ) (Cert.RefAdamSmallIdeal.main (F := Ideal))) ⟨m, fun _ => 0, g⟩ (fun r => (∀ c : Dev Cert.RefAdamSmallIdeal.nD,
      r.2.mem ((c.tc : Thread Cert.RefAdamSmallIdeal.nD Cert.RefAdamSmallIdeal.τ).loc Cert.RefAdamSmallIdeal.main_arg0) = m ((c.tc : Thread Cert.RefAdamSmallIdeal.nD Cert.RefAdamSmallIdeal.τ).loc Cert.RefAdamSmallIdeal.main_arg0)
      ∧ r.2.mem ((c.tc : Thread Cert.RefAdamSmallIdeal.nD Cert.RefAdamSmallIdeal.τ).loc Cert.RefAdamSmallIdeal.main_arg1) = m ((c.tc : Thread Cert.RefAdamSmallIdeal.nD Cert.RefAdamSmallIdeal.τ).loc Cert.RefAdamSmallIdeal.main_arg1)
      ∧ r.2.mem ((c.tc : Thread Cert.RefAdamSmallIdeal.nD Cert.RefAdamSmallIdeal.τ).loc Cert.RefAdamSmallIdeal.main_arg2) = m ((c.tc : Thread Cert.RefAdamSmallIdeal.nD Cert.RefAdamSmallIdeal.τ).loc Cert.RefAdamSmallIdeal.main_arg2)
      ∧ r.2.mem ((c.tc : Thread Cert.RefAdamSmallIdeal.nD Cert.RefAdamSmallIdeal.τ).loc Cert.RefAdamSmallIdeal.main_arg3) = m ((c.tc : Thread Cert.RefAdamSmallIdeal.nD Cert.RefAdamSmallIdeal.τ).loc Cert.RefAdamSmallIdeal.main_arg3))
      ∧ r.2.sem = fun _ => 0)

def quiescent_AdamHgrnIn [hAdamHgrnIn : Cert.AdamHgrnIn.Facts] : Prop :=
  ∀ (m : (ℓ : Loc Cert.AdamHgrnIn.nD Cert.AdamHgrnIn.τ Cert.AdamHgrnIn.sig) → Buf (Elt Bits) ℓ) (g : Dev Cert.AdamHgrnIn.nD → PrngReg), Pre_AdamHgrnIn m →
    θ_run (Cert.AdamHgrnIn.defs (F := Bits)) (onTc (τ := Cert.AdamHgrnIn.τ) (Cert.AdamHgrnIn.main (F := Bits))) ⟨m, fun _ => 0, g⟩ (fun r => (∀ c : Dev Cert.AdamHgrnIn.nD,
      r.2.mem ((c.tc : Thread Cert.AdamHgrnIn.nD Cert.AdamHgrnIn.τ).loc Cert.AdamHgrnIn.main_arg0) = m ((c.tc : Thread Cert.AdamHgrnIn.nD Cert.AdamHgrnIn.τ).loc Cert.AdamHgrnIn.main_arg0)
      ∧ r.2.mem ((c.tc : Thread Cert.AdamHgrnIn.nD Cert.AdamHgrnIn.τ).loc Cert.AdamHgrnIn.main_arg1) = m ((c.tc : Thread Cert.AdamHgrnIn.nD Cert.AdamHgrnIn.τ).loc Cert.AdamHgrnIn.main_arg1)
      ∧ r.2.mem ((c.tc : Thread Cert.AdamHgrnIn.nD Cert.AdamHgrnIn.τ).loc Cert.AdamHgrnIn.main_arg2) = m ((c.tc : Thread Cert.AdamHgrnIn.nD Cert.AdamHgrnIn.τ).loc Cert.AdamHgrnIn.main_arg2)
      ∧ r.2.mem ((c.tc : Thread Cert.AdamHgrnIn.nD Cert.AdamHgrnIn.τ).loc Cert.AdamHgrnIn.main_arg3) = m ((c.tc : Thread Cert.AdamHgrnIn.nD Cert.AdamHgrnIn.τ).loc Cert.AdamHgrnIn.main_arg3))
      ∧ r.2.sem = fun _ => 0)

def quiescent_AdamHgrnInIdeal [hAdamHgrnInIdeal : Cert.AdamHgrnInIdeal.Facts] : Prop :=
  ∀ (m : (ℓ : Loc Cert.AdamHgrnInIdeal.nD Cert.AdamHgrnInIdeal.τ Cert.AdamHgrnInIdeal.sig) → Buf (Elt Ideal) ℓ) (g : Dev Cert.AdamHgrnInIdeal.nD → PrngReg), Pre_AdamHgrnInIdeal m →
    θ_run (Cert.AdamHgrnInIdeal.defs (F := Ideal)) (onTc (τ := Cert.AdamHgrnInIdeal.τ) (Cert.AdamHgrnInIdeal.main (F := Ideal))) ⟨m, fun _ => 0, g⟩ (fun r => (∀ c : Dev Cert.AdamHgrnInIdeal.nD,
      r.2.mem ((c.tc : Thread Cert.AdamHgrnInIdeal.nD Cert.AdamHgrnInIdeal.τ).loc Cert.AdamHgrnInIdeal.main_arg0) = m ((c.tc : Thread Cert.AdamHgrnInIdeal.nD Cert.AdamHgrnInIdeal.τ).loc Cert.AdamHgrnInIdeal.main_arg0)
      ∧ r.2.mem ((c.tc : Thread Cert.AdamHgrnInIdeal.nD Cert.AdamHgrnInIdeal.τ).loc Cert.AdamHgrnInIdeal.main_arg1) = m ((c.tc : Thread Cert.AdamHgrnInIdeal.nD Cert.AdamHgrnInIdeal.τ).loc Cert.AdamHgrnInIdeal.main_arg1)
      ∧ r.2.mem ((c.tc : Thread Cert.AdamHgrnInIdeal.nD Cert.AdamHgrnInIdeal.τ).loc Cert.AdamHgrnInIdeal.main_arg2) = m ((c.tc : Thread Cert.AdamHgrnInIdeal.nD Cert.AdamHgrnInIdeal.τ).loc Cert.AdamHgrnInIdeal.main_arg2)
      ∧ r.2.mem ((c.tc : Thread Cert.AdamHgrnInIdeal.nD Cert.AdamHgrnInIdeal.τ).loc Cert.AdamHgrnInIdeal.main_arg3) = m ((c.tc : Thread Cert.AdamHgrnInIdeal.nD Cert.AdamHgrnInIdeal.τ).loc Cert.AdamHgrnInIdeal.main_arg3))
      ∧ r.2.sem = fun _ => 0)

def quiescent_RefAdamHgrnInIdeal [hRefAdamHgrnInIdeal : Cert.RefAdamHgrnInIdeal.Facts] : Prop :=
  ∀ (m : (ℓ : Loc Cert.RefAdamHgrnInIdeal.nD Cert.RefAdamHgrnInIdeal.τ Cert.RefAdamHgrnInIdeal.sig) → Buf (Elt Ideal) ℓ) (g : Dev Cert.RefAdamHgrnInIdeal.nD → PrngReg), Pre_RefAdamHgrnInIdeal m →
    θ_run (Cert.RefAdamHgrnInIdeal.defs (F := Ideal)) (onTc (τ := Cert.RefAdamHgrnInIdeal.τ) (Cert.RefAdamHgrnInIdeal.main (F := Ideal))) ⟨m, fun _ => 0, g⟩ (fun r => (∀ c : Dev Cert.RefAdamHgrnInIdeal.nD,
      r.2.mem ((c.tc : Thread Cert.RefAdamHgrnInIdeal.nD Cert.RefAdamHgrnInIdeal.τ).loc Cert.RefAdamHgrnInIdeal.main_arg0) = m ((c.tc : Thread Cert.RefAdamHgrnInIdeal.nD Cert.RefAdamHgrnInIdeal.τ).loc Cert.RefAdamHgrnInIdeal.main_arg0)
      ∧ r.2.mem ((c.tc : Thread Cert.RefAdamHgrnInIdeal.nD Cert.RefAdamHgrnInIdeal.τ).loc Cert.RefAdamHgrnInIdeal.main_arg1) = m ((c.tc : Thread Cert.RefAdamHgrnInIdeal.nD Cert.RefAdamHgrnInIdeal.τ).loc Cert.RefAdamHgrnInIdeal.main_arg1)
      ∧ r.2.mem ((c.tc : Thread Cert.RefAdamHgrnInIdeal.nD Cert.RefAdamHgrnInIdeal.τ).loc Cert.RefAdamHgrnInIdeal.main_arg2) = m ((c.tc : Thread Cert.RefAdamHgrnInIdeal.nD Cert.RefAdamHgrnInIdeal.τ).loc Cert.RefAdamHgrnInIdeal.main_arg2)
      ∧ r.2.mem ((c.tc : Thread Cert.RefAdamHgrnInIdeal.nD Cert.RefAdamHgrnInIdeal.τ).loc Cert.RefAdamHgrnInIdeal.main_arg3) = m ((c.tc : Thread Cert.RefAdamHgrnInIdeal.nD Cert.RefAdamHgrnInIdeal.τ).loc Cert.RefAdamHgrnInIdeal.main_arg3))
      ∧ r.2.sem = fun _ => 0)

def quiescent_AdamHgrnOut [hAdamHgrnOut : Cert.AdamHgrnOut.Facts] : Prop :=
  ∀ (m : (ℓ : Loc Cert.AdamHgrnOut.nD Cert.AdamHgrnOut.τ Cert.AdamHgrnOut.sig) → Buf (Elt Bits) ℓ) (g : Dev Cert.AdamHgrnOut.nD → PrngReg), Pre_AdamHgrnOut m →
    θ_run (Cert.AdamHgrnOut.defs (F := Bits)) (onTc (τ := Cert.AdamHgrnOut.τ) (Cert.AdamHgrnOut.main (F := Bits))) ⟨m, fun _ => 0, g⟩ (fun r => (∀ c : Dev Cert.AdamHgrnOut.nD,
      r.2.mem ((c.tc : Thread Cert.AdamHgrnOut.nD Cert.AdamHgrnOut.τ).loc Cert.AdamHgrnOut.main_arg0) = m ((c.tc : Thread Cert.AdamHgrnOut.nD Cert.AdamHgrnOut.τ).loc Cert.AdamHgrnOut.main_arg0)
      ∧ r.2.mem ((c.tc : Thread Cert.AdamHgrnOut.nD Cert.AdamHgrnOut.τ).loc Cert.AdamHgrnOut.main_arg1) = m ((c.tc : Thread Cert.AdamHgrnOut.nD Cert.AdamHgrnOut.τ).loc Cert.AdamHgrnOut.main_arg1)
      ∧ r.2.mem ((c.tc : Thread Cert.AdamHgrnOut.nD Cert.AdamHgrnOut.τ).loc Cert.AdamHgrnOut.main_arg2) = m ((c.tc : Thread Cert.AdamHgrnOut.nD Cert.AdamHgrnOut.τ).loc Cert.AdamHgrnOut.main_arg2)
      ∧ r.2.mem ((c.tc : Thread Cert.AdamHgrnOut.nD Cert.AdamHgrnOut.τ).loc Cert.AdamHgrnOut.main_arg3) = m ((c.tc : Thread Cert.AdamHgrnOut.nD Cert.AdamHgrnOut.τ).loc Cert.AdamHgrnOut.main_arg3))
      ∧ r.2.sem = fun _ => 0)

def quiescent_AdamHgrnOutIdeal [hAdamHgrnOutIdeal : Cert.AdamHgrnOutIdeal.Facts] : Prop :=
  ∀ (m : (ℓ : Loc Cert.AdamHgrnOutIdeal.nD Cert.AdamHgrnOutIdeal.τ Cert.AdamHgrnOutIdeal.sig) → Buf (Elt Ideal) ℓ) (g : Dev Cert.AdamHgrnOutIdeal.nD → PrngReg), Pre_AdamHgrnOutIdeal m →
    θ_run (Cert.AdamHgrnOutIdeal.defs (F := Ideal)) (onTc (τ := Cert.AdamHgrnOutIdeal.τ) (Cert.AdamHgrnOutIdeal.main (F := Ideal))) ⟨m, fun _ => 0, g⟩ (fun r => (∀ c : Dev Cert.AdamHgrnOutIdeal.nD,
      r.2.mem ((c.tc : Thread Cert.AdamHgrnOutIdeal.nD Cert.AdamHgrnOutIdeal.τ).loc Cert.AdamHgrnOutIdeal.main_arg0) = m ((c.tc : Thread Cert.AdamHgrnOutIdeal.nD Cert.AdamHgrnOutIdeal.τ).loc Cert.AdamHgrnOutIdeal.main_arg0)
      ∧ r.2.mem ((c.tc : Thread Cert.AdamHgrnOutIdeal.nD Cert.AdamHgrnOutIdeal.τ).loc Cert.AdamHgrnOutIdeal.main_arg1) = m ((c.tc : Thread Cert.AdamHgrnOutIdeal.nD Cert.AdamHgrnOutIdeal.τ).loc Cert.AdamHgrnOutIdeal.main_arg1)
      ∧ r.2.mem ((c.tc : Thread Cert.AdamHgrnOutIdeal.nD Cert.AdamHgrnOutIdeal.τ).loc Cert.AdamHgrnOutIdeal.main_arg2) = m ((c.tc : Thread Cert.AdamHgrnOutIdeal.nD Cert.AdamHgrnOutIdeal.τ).loc Cert.AdamHgrnOutIdeal.main_arg2)
      ∧ r.2.mem ((c.tc : Thread Cert.AdamHgrnOutIdeal.nD Cert.AdamHgrnOutIdeal.τ).loc Cert.AdamHgrnOutIdeal.main_arg3) = m ((c.tc : Thread Cert.AdamHgrnOutIdeal.nD Cert.AdamHgrnOutIdeal.τ).loc Cert.AdamHgrnOutIdeal.main_arg3))
      ∧ r.2.sem = fun _ => 0)

def quiescent_RefAdamHgrnOutIdeal [hRefAdamHgrnOutIdeal : Cert.RefAdamHgrnOutIdeal.Facts] : Prop :=
  ∀ (m : (ℓ : Loc Cert.RefAdamHgrnOutIdeal.nD Cert.RefAdamHgrnOutIdeal.τ Cert.RefAdamHgrnOutIdeal.sig) → Buf (Elt Ideal) ℓ) (g : Dev Cert.RefAdamHgrnOutIdeal.nD → PrngReg), Pre_RefAdamHgrnOutIdeal m →
    θ_run (Cert.RefAdamHgrnOutIdeal.defs (F := Ideal)) (onTc (τ := Cert.RefAdamHgrnOutIdeal.τ) (Cert.RefAdamHgrnOutIdeal.main (F := Ideal))) ⟨m, fun _ => 0, g⟩ (fun r => (∀ c : Dev Cert.RefAdamHgrnOutIdeal.nD,
      r.2.mem ((c.tc : Thread Cert.RefAdamHgrnOutIdeal.nD Cert.RefAdamHgrnOutIdeal.τ).loc Cert.RefAdamHgrnOutIdeal.main_arg0) = m ((c.tc : Thread Cert.RefAdamHgrnOutIdeal.nD Cert.RefAdamHgrnOutIdeal.τ).loc Cert.RefAdamHgrnOutIdeal.main_arg0)
      ∧ r.2.mem ((c.tc : Thread Cert.RefAdamHgrnOutIdeal.nD Cert.RefAdamHgrnOutIdeal.τ).loc Cert.RefAdamHgrnOutIdeal.main_arg1) = m ((c.tc : Thread Cert.RefAdamHgrnOutIdeal.nD Cert.RefAdamHgrnOutIdeal.τ).loc Cert.RefAdamHgrnOutIdeal.main_arg1)
      ∧ r.2.mem ((c.tc : Thread Cert.RefAdamHgrnOutIdeal.nD Cert.RefAdamHgrnOutIdeal.τ).loc Cert.RefAdamHgrnOutIdeal.main_arg2) = m ((c.tc : Thread Cert.RefAdamHgrnOutIdeal.nD Cert.RefAdamHgrnOutIdeal.τ).loc Cert.RefAdamHgrnOutIdeal.main_arg2)
      ∧ r.2.mem ((c.tc : Thread Cert.RefAdamHgrnOutIdeal.nD Cert.RefAdamHgrnOutIdeal.τ).loc Cert.RefAdamHgrnOutIdeal.main_arg3) = m ((c.tc : Thread Cert.RefAdamHgrnOutIdeal.nD Cert.RefAdamHgrnOutIdeal.τ).loc Cert.RefAdamHgrnOutIdeal.main_arg3))
      ∧ r.2.sem = fun _ => 0)

def quiescent_AdamMambaIn [hAdamMambaIn : Cert.AdamMambaIn.Facts] : Prop :=
  ∀ (m : (ℓ : Loc Cert.AdamMambaIn.nD Cert.AdamMambaIn.τ Cert.AdamMambaIn.sig) → Buf (Elt Bits) ℓ) (g : Dev Cert.AdamMambaIn.nD → PrngReg), Pre_AdamMambaIn m →
    θ_run (Cert.AdamMambaIn.defs (F := Bits)) (onTc (τ := Cert.AdamMambaIn.τ) (Cert.AdamMambaIn.main (F := Bits))) ⟨m, fun _ => 0, g⟩ (fun r => (∀ c : Dev Cert.AdamMambaIn.nD,
      r.2.mem ((c.tc : Thread Cert.AdamMambaIn.nD Cert.AdamMambaIn.τ).loc Cert.AdamMambaIn.main_arg0) = m ((c.tc : Thread Cert.AdamMambaIn.nD Cert.AdamMambaIn.τ).loc Cert.AdamMambaIn.main_arg0)
      ∧ r.2.mem ((c.tc : Thread Cert.AdamMambaIn.nD Cert.AdamMambaIn.τ).loc Cert.AdamMambaIn.main_arg1) = m ((c.tc : Thread Cert.AdamMambaIn.nD Cert.AdamMambaIn.τ).loc Cert.AdamMambaIn.main_arg1)
      ∧ r.2.mem ((c.tc : Thread Cert.AdamMambaIn.nD Cert.AdamMambaIn.τ).loc Cert.AdamMambaIn.main_arg2) = m ((c.tc : Thread Cert.AdamMambaIn.nD Cert.AdamMambaIn.τ).loc Cert.AdamMambaIn.main_arg2)
      ∧ r.2.mem ((c.tc : Thread Cert.AdamMambaIn.nD Cert.AdamMambaIn.τ).loc Cert.AdamMambaIn.main_arg3) = m ((c.tc : Thread Cert.AdamMambaIn.nD Cert.AdamMambaIn.τ).loc Cert.AdamMambaIn.main_arg3))
      ∧ r.2.sem = fun _ => 0)

def quiescent_AdamMambaInIdeal [hAdamMambaInIdeal : Cert.AdamMambaInIdeal.Facts] : Prop :=
  ∀ (m : (ℓ : Loc Cert.AdamMambaInIdeal.nD Cert.AdamMambaInIdeal.τ Cert.AdamMambaInIdeal.sig) → Buf (Elt Ideal) ℓ) (g : Dev Cert.AdamMambaInIdeal.nD → PrngReg), Pre_AdamMambaInIdeal m →
    θ_run (Cert.AdamMambaInIdeal.defs (F := Ideal)) (onTc (τ := Cert.AdamMambaInIdeal.τ) (Cert.AdamMambaInIdeal.main (F := Ideal))) ⟨m, fun _ => 0, g⟩ (fun r => (∀ c : Dev Cert.AdamMambaInIdeal.nD,
      r.2.mem ((c.tc : Thread Cert.AdamMambaInIdeal.nD Cert.AdamMambaInIdeal.τ).loc Cert.AdamMambaInIdeal.main_arg0) = m ((c.tc : Thread Cert.AdamMambaInIdeal.nD Cert.AdamMambaInIdeal.τ).loc Cert.AdamMambaInIdeal.main_arg0)
      ∧ r.2.mem ((c.tc : Thread Cert.AdamMambaInIdeal.nD Cert.AdamMambaInIdeal.τ).loc Cert.AdamMambaInIdeal.main_arg1) = m ((c.tc : Thread Cert.AdamMambaInIdeal.nD Cert.AdamMambaInIdeal.τ).loc Cert.AdamMambaInIdeal.main_arg1)
      ∧ r.2.mem ((c.tc : Thread Cert.AdamMambaInIdeal.nD Cert.AdamMambaInIdeal.τ).loc Cert.AdamMambaInIdeal.main_arg2) = m ((c.tc : Thread Cert.AdamMambaInIdeal.nD Cert.AdamMambaInIdeal.τ).loc Cert.AdamMambaInIdeal.main_arg2)
      ∧ r.2.mem ((c.tc : Thread Cert.AdamMambaInIdeal.nD Cert.AdamMambaInIdeal.τ).loc Cert.AdamMambaInIdeal.main_arg3) = m ((c.tc : Thread Cert.AdamMambaInIdeal.nD Cert.AdamMambaInIdeal.τ).loc Cert.AdamMambaInIdeal.main_arg3))
      ∧ r.2.sem = fun _ => 0)

def quiescent_RefAdamMambaInIdeal [hRefAdamMambaInIdeal : Cert.RefAdamMambaInIdeal.Facts] : Prop :=
  ∀ (m : (ℓ : Loc Cert.RefAdamMambaInIdeal.nD Cert.RefAdamMambaInIdeal.τ Cert.RefAdamMambaInIdeal.sig) → Buf (Elt Ideal) ℓ) (g : Dev Cert.RefAdamMambaInIdeal.nD → PrngReg), Pre_RefAdamMambaInIdeal m →
    θ_run (Cert.RefAdamMambaInIdeal.defs (F := Ideal)) (onTc (τ := Cert.RefAdamMambaInIdeal.τ) (Cert.RefAdamMambaInIdeal.main (F := Ideal))) ⟨m, fun _ => 0, g⟩ (fun r => (∀ c : Dev Cert.RefAdamMambaInIdeal.nD,
      r.2.mem ((c.tc : Thread Cert.RefAdamMambaInIdeal.nD Cert.RefAdamMambaInIdeal.τ).loc Cert.RefAdamMambaInIdeal.main_arg0) = m ((c.tc : Thread Cert.RefAdamMambaInIdeal.nD Cert.RefAdamMambaInIdeal.τ).loc Cert.RefAdamMambaInIdeal.main_arg0)
      ∧ r.2.mem ((c.tc : Thread Cert.RefAdamMambaInIdeal.nD Cert.RefAdamMambaInIdeal.τ).loc Cert.RefAdamMambaInIdeal.main_arg1) = m ((c.tc : Thread Cert.RefAdamMambaInIdeal.nD Cert.RefAdamMambaInIdeal.τ).loc Cert.RefAdamMambaInIdeal.main_arg1)
      ∧ r.2.mem ((c.tc : Thread Cert.RefAdamMambaInIdeal.nD Cert.RefAdamMambaInIdeal.τ).loc Cert.RefAdamMambaInIdeal.main_arg2) = m ((c.tc : Thread Cert.RefAdamMambaInIdeal.nD Cert.RefAdamMambaInIdeal.τ).loc Cert.RefAdamMambaInIdeal.main_arg2)
      ∧ r.2.mem ((c.tc : Thread Cert.RefAdamMambaInIdeal.nD Cert.RefAdamMambaInIdeal.τ).loc Cert.RefAdamMambaInIdeal.main_arg3) = m ((c.tc : Thread Cert.RefAdamMambaInIdeal.nD Cert.RefAdamMambaInIdeal.τ).loc Cert.RefAdamMambaInIdeal.main_arg3))
      ∧ r.2.sem = fun _ => 0)

def quiescent_AdamMambaOut [hAdamMambaOut : Cert.AdamMambaOut.Facts] : Prop :=
  ∀ (m : (ℓ : Loc Cert.AdamMambaOut.nD Cert.AdamMambaOut.τ Cert.AdamMambaOut.sig) → Buf (Elt Bits) ℓ) (g : Dev Cert.AdamMambaOut.nD → PrngReg), Pre_AdamMambaOut m →
    θ_run (Cert.AdamMambaOut.defs (F := Bits)) (onTc (τ := Cert.AdamMambaOut.τ) (Cert.AdamMambaOut.main (F := Bits))) ⟨m, fun _ => 0, g⟩ (fun r => (∀ c : Dev Cert.AdamMambaOut.nD,
      r.2.mem ((c.tc : Thread Cert.AdamMambaOut.nD Cert.AdamMambaOut.τ).loc Cert.AdamMambaOut.main_arg0) = m ((c.tc : Thread Cert.AdamMambaOut.nD Cert.AdamMambaOut.τ).loc Cert.AdamMambaOut.main_arg0)
      ∧ r.2.mem ((c.tc : Thread Cert.AdamMambaOut.nD Cert.AdamMambaOut.τ).loc Cert.AdamMambaOut.main_arg1) = m ((c.tc : Thread Cert.AdamMambaOut.nD Cert.AdamMambaOut.τ).loc Cert.AdamMambaOut.main_arg1)
      ∧ r.2.mem ((c.tc : Thread Cert.AdamMambaOut.nD Cert.AdamMambaOut.τ).loc Cert.AdamMambaOut.main_arg2) = m ((c.tc : Thread Cert.AdamMambaOut.nD Cert.AdamMambaOut.τ).loc Cert.AdamMambaOut.main_arg2)
      ∧ r.2.mem ((c.tc : Thread Cert.AdamMambaOut.nD Cert.AdamMambaOut.τ).loc Cert.AdamMambaOut.main_arg3) = m ((c.tc : Thread Cert.AdamMambaOut.nD Cert.AdamMambaOut.τ).loc Cert.AdamMambaOut.main_arg3))
      ∧ r.2.sem = fun _ => 0)

def quiescent_AdamMambaOutIdeal [hAdamMambaOutIdeal : Cert.AdamMambaOutIdeal.Facts] : Prop :=
  ∀ (m : (ℓ : Loc Cert.AdamMambaOutIdeal.nD Cert.AdamMambaOutIdeal.τ Cert.AdamMambaOutIdeal.sig) → Buf (Elt Ideal) ℓ) (g : Dev Cert.AdamMambaOutIdeal.nD → PrngReg), Pre_AdamMambaOutIdeal m →
    θ_run (Cert.AdamMambaOutIdeal.defs (F := Ideal)) (onTc (τ := Cert.AdamMambaOutIdeal.τ) (Cert.AdamMambaOutIdeal.main (F := Ideal))) ⟨m, fun _ => 0, g⟩ (fun r => (∀ c : Dev Cert.AdamMambaOutIdeal.nD,
      r.2.mem ((c.tc : Thread Cert.AdamMambaOutIdeal.nD Cert.AdamMambaOutIdeal.τ).loc Cert.AdamMambaOutIdeal.main_arg0) = m ((c.tc : Thread Cert.AdamMambaOutIdeal.nD Cert.AdamMambaOutIdeal.τ).loc Cert.AdamMambaOutIdeal.main_arg0)
      ∧ r.2.mem ((c.tc : Thread Cert.AdamMambaOutIdeal.nD Cert.AdamMambaOutIdeal.τ).loc Cert.AdamMambaOutIdeal.main_arg1) = m ((c.tc : Thread Cert.AdamMambaOutIdeal.nD Cert.AdamMambaOutIdeal.τ).loc Cert.AdamMambaOutIdeal.main_arg1)
      ∧ r.2.mem ((c.tc : Thread Cert.AdamMambaOutIdeal.nD Cert.AdamMambaOutIdeal.τ).loc Cert.AdamMambaOutIdeal.main_arg2) = m ((c.tc : Thread Cert.AdamMambaOutIdeal.nD Cert.AdamMambaOutIdeal.τ).loc Cert.AdamMambaOutIdeal.main_arg2)
      ∧ r.2.mem ((c.tc : Thread Cert.AdamMambaOutIdeal.nD Cert.AdamMambaOutIdeal.τ).loc Cert.AdamMambaOutIdeal.main_arg3) = m ((c.tc : Thread Cert.AdamMambaOutIdeal.nD Cert.AdamMambaOutIdeal.τ).loc Cert.AdamMambaOutIdeal.main_arg3))
      ∧ r.2.sem = fun _ => 0)

def quiescent_RefAdamMambaOutIdeal [hRefAdamMambaOutIdeal : Cert.RefAdamMambaOutIdeal.Facts] : Prop :=
  ∀ (m : (ℓ : Loc Cert.RefAdamMambaOutIdeal.nD Cert.RefAdamMambaOutIdeal.τ Cert.RefAdamMambaOutIdeal.sig) → Buf (Elt Ideal) ℓ) (g : Dev Cert.RefAdamMambaOutIdeal.nD → PrngReg), Pre_RefAdamMambaOutIdeal m →
    θ_run (Cert.RefAdamMambaOutIdeal.defs (F := Ideal)) (onTc (τ := Cert.RefAdamMambaOutIdeal.τ) (Cert.RefAdamMambaOutIdeal.main (F := Ideal))) ⟨m, fun _ => 0, g⟩ (fun r => (∀ c : Dev Cert.RefAdamMambaOutIdeal.nD,
      r.2.mem ((c.tc : Thread Cert.RefAdamMambaOutIdeal.nD Cert.RefAdamMambaOutIdeal.τ).loc Cert.RefAdamMambaOutIdeal.main_arg0) = m ((c.tc : Thread Cert.RefAdamMambaOutIdeal.nD Cert.RefAdamMambaOutIdeal.τ).loc Cert.RefAdamMambaOutIdeal.main_arg0)
      ∧ r.2.mem ((c.tc : Thread Cert.RefAdamMambaOutIdeal.nD Cert.RefAdamMambaOutIdeal.τ).loc Cert.RefAdamMambaOutIdeal.main_arg1) = m ((c.tc : Thread Cert.RefAdamMambaOutIdeal.nD Cert.RefAdamMambaOutIdeal.τ).loc Cert.RefAdamMambaOutIdeal.main_arg1)
      ∧ r.2.mem ((c.tc : Thread Cert.RefAdamMambaOutIdeal.nD Cert.RefAdamMambaOutIdeal.τ).loc Cert.RefAdamMambaOutIdeal.main_arg2) = m ((c.tc : Thread Cert.RefAdamMambaOutIdeal.nD Cert.RefAdamMambaOutIdeal.τ).loc Cert.RefAdamMambaOutIdeal.main_arg2)
      ∧ r.2.mem ((c.tc : Thread Cert.RefAdamMambaOutIdeal.nD Cert.RefAdamMambaOutIdeal.τ).loc Cert.RefAdamMambaOutIdeal.main_arg3) = m ((c.tc : Thread Cert.RefAdamMambaOutIdeal.nD Cert.RefAdamMambaOutIdeal.τ).loc Cert.RefAdamMambaOutIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_RefAdamUpIdeal [hRefAdamUpIdeal : Cert.RefAdamUpIdeal.Facts] : Prop :=
  ∀ (m : (ℓ : Loc Cert.RefAdamUpIdeal.nD Cert.RefAdamUpIdeal.τ Cert.RefAdamUpIdeal.sig) → Buf (Elt Ideal) ℓ) (g : Dev Cert.RefAdamUpIdeal.nD → PrngReg), Pre_RefAdamUpIdeal m →
    θ_run (Cert.RefAdamUpIdeal.defs (F := Ideal)) (onTc (τ := Cert.RefAdamUpIdeal.τ) (Cert.RefAdamUpIdeal.main (F := Ideal))) ⟨m, fun _ => 0, g⟩ (fun r => (∀ c : Dev Cert.RefAdamUpIdeal.nD,
      r.2.mem ((c.tc : Thread Cert.RefAdamUpIdeal.nD Cert.RefAdamUpIdeal.τ).loc Cert.RefAdamUpIdeal.main_arg0) = m ((c.tc : Thread Cert.RefAdamUpIdeal.nD Cert.RefAdamUpIdeal.τ).loc Cert.RefAdamUpIdeal.main_arg0)
      ∧ r.2.mem ((c.tc : Thread Cert.RefAdamUpIdeal.nD Cert.RefAdamUpIdeal.τ).loc Cert.RefAdamUpIdeal.main_arg1) = m ((c.tc : Thread Cert.RefAdamUpIdeal.nD Cert.RefAdamUpIdeal.τ).loc Cert.RefAdamUpIdeal.main_arg1)
      ∧ r.2.mem ((c.tc : Thread Cert.RefAdamUpIdeal.nD Cert.RefAdamUpIdeal.τ).loc Cert.RefAdamUpIdeal.main_arg2) = m ((c.tc : Thread Cert.RefAdamUpIdeal.nD Cert.RefAdamUpIdeal.τ).loc Cert.RefAdamUpIdeal.main_arg2)
      ∧ r.2.mem ((c.tc : Thread Cert.RefAdamUpIdeal.nD Cert.RefAdamUpIdeal.τ).loc Cert.RefAdamUpIdeal.main_arg3) = m ((c.tc : Thread Cert.RefAdamUpIdeal.nD Cert.RefAdamUpIdeal.τ).loc Cert.RefAdamUpIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_RefAdamDownIdeal [hRefAdamDownIdeal : Cert.RefAdamDownIdeal.Facts] : Prop :=
  ∀ (m : (ℓ : Loc Cert.RefAdamDownIdeal.nD Cert.RefAdamDownIdeal.τ Cert.RefAdamDownIdeal.sig) → Buf (Elt Ideal) ℓ) (g : Dev Cert.RefAdamDownIdeal.nD → PrngReg), Pre_RefAdamDownIdeal m →
    θ_run (Cert.RefAdamDownIdeal.defs (F := Ideal)) (onTc (τ := Cert.RefAdamDownIdeal.τ) (Cert.RefAdamDownIdeal.main (F := Ideal))) ⟨m, fun _ => 0, g⟩ (fun r => (∀ c : Dev Cert.RefAdamDownIdeal.nD,
      r.2.mem ((c.tc : Thread Cert.RefAdamDownIdeal.nD Cert.RefAdamDownIdeal.τ).loc Cert.RefAdamDownIdeal.main_arg0) = m ((c.tc : Thread Cert.RefAdamDownIdeal.nD Cert.RefAdamDownIdeal.τ).loc Cert.RefAdamDownIdeal.main_arg0)
      ∧ r.2.mem ((c.tc : Thread Cert.RefAdamDownIdeal.nD Cert.RefAdamDownIdeal.τ).loc Cert.RefAdamDownIdeal.main_arg1) = m ((c.tc : Thread Cert.RefAdamDownIdeal.nD Cert.RefAdamDownIdeal.τ).loc Cert.RefAdamDownIdeal.main_arg1)
      ∧ r.2.mem ((c.tc : Thread Cert.RefAdamDownIdeal.nD Cert.RefAdamDownIdeal.τ).loc Cert.RefAdamDownIdeal.main_arg2) = m ((c.tc : Thread Cert.RefAdamDownIdeal.nD Cert.RefAdamDownIdeal.τ).loc Cert.RefAdamDownIdeal.main_arg2)
      ∧ r.2.mem ((c.tc : Thread Cert.RefAdamDownIdeal.nD Cert.RefAdamDownIdeal.τ).loc Cert.RefAdamDownIdeal.main_arg3) = m ((c.tc : Thread Cert.RefAdamDownIdeal.nD Cert.RefAdamDownIdeal.τ).loc Cert.RefAdamDownIdeal.main_arg3))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ r.2.sem = fun _ => 0)

def quiescent_RefSumDevIdeal [hRefSumDevIdeal : Cert.RefSumDevIdeal.Facts] : Prop :=
  ∀ (m : (ℓ : Loc Cert.RefSumDevIdeal.nD Cert.RefSumDevIdeal.τ Cert.RefSumDevIdeal.sig) → Buf (Elt Ideal) ℓ) (g : Dev Cert.RefSumDevIdeal.nD → PrngReg), Pre_RefSumDevIdeal m →
    θ_run (Cert.RefSumDevIdeal.defs (F := Ideal)) (onTc (τ := Cert.RefSumDevIdeal.τ) (Cert.RefSumDevIdeal.main (F := Ideal))) ⟨m, fun _ => 0, g⟩ (fun r => (∀ c : Dev Cert.RefSumDevIdeal.nD,
      r.2.mem ((c.tc : Thread Cert.RefSumDevIdeal.nD Cert.RefSumDevIdeal.τ).loc Cert.RefSumDevIdeal.main_arg0) = m ((c.tc : Thread Cert.RefSumDevIdeal.nD Cert.RefSumDevIdeal.τ).loc Cert.RefSumDevIdeal.main_arg0))
      ∧ r.2.sem = fun _ => 0)

def preserves_Kernel_KernelIdeal : Prop :=
  True

def algebraic_KernelIdeal_ReferenceIdeal_pre_finite_conv [hKernelIdeal : Cert.KernelIdeal.Facts] [hReferenceIdeal : Cert.ReferenceIdeal.Facts] [hPre_finite_conv : Cert.Pre_finite_conv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_conv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gate_GateIdeal : Prop :=
  True

def algebraic_GateIdeal_RefGateIdeal_pre_finite_gate [hGateIdeal : Cert.GateIdeal.Facts] [hRefGateIdeal : Cert.RefGateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.RefGateIdeal.nD Cert.RefGateIdeal.τ Cert.RefGateIdeal.sig) → Buf (Elt Ideal) ℓ) (g' : Dev Cert.RefGateIdeal.nD → PrngReg), Pre_GateIdeal_finite_gate m →
    (∀ c : Dev Cert.GateIdeal.nD,
      m' ((c.tc : Thread Cert.RefGateIdeal.nD Cert.RefGateIdeal.τ).loc Cert.RefGateIdeal.main_arg0) = m ((c.tc : Thread Cert.GateIdeal.nD Cert.GateIdeal.τ).loc Cert.GateIdeal.main_arg0)
      ∧ m' ((c.tc : Thread Cert.RefGateIdeal.nD Cert.RefGateIdeal.τ).loc Cert.RefGateIdeal.main_arg1) = m ((c.tc : Thread Cert.GateIdeal.nD Cert.GateIdeal.τ).loc Cert.GateIdeal.main_arg1)
      ∧ m' ((c.tc : Thread Cert.RefGateIdeal.nD Cert.RefGateIdeal.τ).loc Cert.RefGateIdeal.main_arg2) = m ((c.tc : Thread Cert.GateIdeal.nD Cert.GateIdeal.τ).loc Cert.GateIdeal.main_arg2)
      ∧ m' ((c.tc : Thread Cert.RefGateIdeal.nD Cert.RefGateIdeal.τ).loc Cert.RefGateIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v36_0)) (v1 : (c : Dev Cert.GateIdeal.nD) → Buf (Elt Ideal) ((c.tc : Thread Cert.GateIdeal.nD Cert.GateIdeal.τ).loc Cert.GateIdeal.main_v36_1)) (v2 : (c : Dev Cert.GateIdeal.nD) → Buf (Elt Ideal) ((c.tc : Thread Cert.GateIdeal.nD Cert.GateIdeal.τ).loc Cert.GateIdeal.main_v36_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v36_0) = v0 c
          ∧ r.2.mem ((c.tc : Thread Cert.GateIdeal.nD Cert.GateIdeal.τ).loc Cert.GateIdeal.main_v36_1) = v1 c
          ∧ r.2.mem ((c.tc : Thread Cert.GateIdeal.nD Cert.GateIdeal.τ).loc Cert.GateIdeal.main_v36_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.RefGateIdeal.defs (F := Ideal)) (onTc (τ := Cert.RefGateIdeal.τ) (Cert.RefGateIdeal.main (F := Ideal))) ⟨m', fun _ => 0, g'⟩ (fun r => ∀ c : Dev Cert.RefGateIdeal.nD,
          r.2.mem ((c.tc : Thread Cert.RefGateIdeal.nD Cert.RefGateIdeal.τ).loc Cert.RefGateIdeal.main_v88) = v0 c
          ∧ r.2.mem ((c.tc : Thread Cert.RefGateIdeal.nD Cert.RefGateIdeal.τ).loc Cert.RefGateIdeal.main_v89) = v1 c
          ∧ r.2.mem ((c.tc : Thread Cert.RefGateIdeal.nD Cert.RefGateIdeal.τ).loc Cert.RefGateIdeal.main_v90) = v2 c
          ∧ r.2.mem ((c.tc : Thread Cert.RefGateIdeal.nD Cert.RefGateIdeal.τ).loc Cert.RefGateIdeal.main_arg0) = m' ((c.tc : Thread Cert.RefGateIdeal.nD Cert.RefGateIdeal.τ).loc Cert.RefGateIdeal.main_arg0)
          ∧ r.2.mem ((c.tc : Thread Cert.RefGateIdeal.nD Cert.RefGateIdeal.τ).loc Cert.RefGateIdeal.main_arg1) = m' ((c.tc : Thread Cert.RefGateIdeal.nD Cert.RefGateIdeal.τ).loc Cert.RefGateIdeal.main_arg1)
          ∧ r.2.mem ((c.tc : Thread Cert.RefGateIdeal.nD Cert.RefGateIdeal.τ).loc Cert.RefGateIdeal.main_arg2) = m' ((c.tc : Thread Cert.RefGateIdeal.nD Cert.RefGateIdeal.τ).loc Cert.RefGateIdeal.main_arg2)
          ∧ r.2.mem ((c.tc : Thread Cert.RefGateIdeal.nD Cert.RefGateIdeal.τ).loc Cert.RefGateIdeal.main_arg3) = m' ((c.tc : Thread Cert.RefGateIdeal.nD Cert.RefGateIdeal.τ).loc Cert.RefGateIdeal.main_arg3))

def preserves_Mgate_MgateIdeal : Prop :=
  True

def algebraic_MgateIdeal_RefMgateIdeal [hMgateIdeal : Cert.MgateIdeal.Facts] [hRefMgateIdeal : Cert.RefMgateIdeal.Facts] : Prop :=
  ∀ (m : (ℓ : Loc Cert.MgateIdeal.nD Cert.MgateIdeal.τ Cert.MgateIdeal.sig) → Buf (Elt Ideal) ℓ) (g : Dev Cert.MgateIdeal.nD → PrngReg)
    (m' : (ℓ : Loc Cert.RefMgateIdeal.nD Cert.RefMgateIdeal.τ Cert.RefMgateIdeal.sig) → Buf (Elt Ideal) ℓ) (g' : Dev Cert.RefMgateIdeal.nD → PrngReg), Pre_MgateIdeal m →
    (∀ c : Dev Cert.MgateIdeal.nD,
      m' ((c.tc : Thread Cert.RefMgateIdeal.nD Cert.RefMgateIdeal.τ).loc Cert.RefMgateIdeal.main_arg0) = m ((c.tc : Thread Cert.MgateIdeal.nD Cert.MgateIdeal.τ).loc Cert.MgateIdeal.main_arg0)
      ∧ m' ((c.tc : Thread Cert.RefMgateIdeal.nD Cert.RefMgateIdeal.τ).loc Cert.RefMgateIdeal.main_arg1) = m ((c.tc : Thread Cert.MgateIdeal.nD Cert.MgateIdeal.τ).loc Cert.MgateIdeal.main_arg1)
      ∧ m' ((c.tc : Thread Cert.RefMgateIdeal.nD Cert.RefMgateIdeal.τ).loc Cert.RefMgateIdeal.main_arg2) = m ((c.tc : Thread Cert.MgateIdeal.nD Cert.MgateIdeal.τ).loc Cert.MgateIdeal.main_arg2)
      ∧ m' ((c.tc : Thread Cert.RefMgateIdeal.nD Cert.RefMgateIdeal.τ).loc Cert.RefMgateIdeal.main_arg3) = m ((c.tc : Thread Cert.MgateIdeal.nD Cert.MgateIdeal.τ).loc Cert.MgateIdeal.main_arg3)) →
    ∃ (v0 : (c : Dev Cert.MgateIdeal.nD) → Buf (Elt Ideal) ((c.tc : Thread Cert.MgateIdeal.nD Cert.MgateIdeal.τ).loc Cert.MgateIdeal.main_v1_0)) (v1 : (c : Dev Cert.MgateIdeal.nD) → Buf (Elt Ideal) ((c.tc : Thread Cert.MgateIdeal.nD Cert.MgateIdeal.τ).loc Cert.MgateIdeal.main_v1_1)) (v2 : (c : Dev Cert.MgateIdeal.nD) → Buf (Elt Ideal) ((c.tc : Thread Cert.MgateIdeal.nD Cert.MgateIdeal.τ).loc Cert.MgateIdeal.main_v1_2)),
      θ_run (Cert.MgateIdeal.defs (F := Ideal)) (onTc (τ := Cert.MgateIdeal.τ) (Cert.MgateIdeal.main (F := Ideal))) ⟨m, fun _ => 0, g⟩ (fun r => ∀ c : Dev Cert.MgateIdeal.nD,
          r.2.mem ((c.tc : Thread Cert.MgateIdeal.nD Cert.MgateIdeal.τ).loc Cert.MgateIdeal.main_v1_0) = v0 c
          ∧ r.2.mem ((c.tc : Thread Cert.MgateIdeal.nD Cert.MgateIdeal.τ).loc Cert.MgateIdeal.main_v1_1) = v1 c
          ∧ r.2.mem ((c.tc : Thread Cert.MgateIdeal.nD Cert.MgateIdeal.τ).loc Cert.MgateIdeal.main_v1_2) = v2 c
          ∧ r.2.mem ((c.tc : Thread Cert.MgateIdeal.nD Cert.MgateIdeal.τ).loc Cert.MgateIdeal.main_arg0) = m ((c.tc : Thread Cert.MgateIdeal.nD Cert.MgateIdeal.τ).loc Cert.MgateIdeal.main_arg0)
          ∧ r.2.mem ((c.tc : Thread Cert.MgateIdeal.nD Cert.MgateIdeal.τ).loc Cert.MgateIdeal.main_arg1) = m ((c.tc : Thread Cert.MgateIdeal.nD Cert.MgateIdeal.τ).loc Cert.MgateIdeal.main_arg1)
          ∧ r.2.mem ((c.tc : Thread Cert.MgateIdeal.nD Cert.MgateIdeal.τ).loc Cert.MgateIdeal.main_arg2) = m ((c.tc : Thread Cert.MgateIdeal.nD Cert.MgateIdeal.τ).loc Cert.MgateIdeal.main_arg2)
          ∧ r.2.mem ((c.tc : Thread Cert.MgateIdeal.nD Cert.MgateIdeal.τ).loc Cert.MgateIdeal.main_arg3) = m ((c.tc : Thread Cert.MgateIdeal.nD Cert.MgateIdeal.τ).loc Cert.MgateIdeal.main_arg3))
      ∧ θ_run (Cert.RefMgateIdeal.defs (F := Ideal)) (onTc (τ := Cert.RefMgateIdeal.τ) (Cert.RefMgateIdeal.main (F := Ideal))) ⟨m', fun _ => 0, g'⟩ (fun r => ∀ c : Dev Cert.RefMgateIdeal.nD,
          r.2.mem ((c.tc : Thread Cert.RefMgateIdeal.nD Cert.RefMgateIdeal.τ).loc Cert.RefMgateIdeal.main_v44) = v0 c
          ∧ r.2.mem ((c.tc : Thread Cert.RefMgateIdeal.nD Cert.RefMgateIdeal.τ).loc Cert.RefMgateIdeal.main_v46) = v1 c
          ∧ r.2.mem ((c.tc : Thread Cert.RefMgateIdeal.nD Cert.RefMgateIdeal.τ).loc Cert.RefMgateIdeal.main_v47) = v2 c
          ∧ r.2.mem ((c.tc : Thread Cert.RefMgateIdeal.nD Cert.RefMgateIdeal.τ).loc Cert.RefMgateIdeal.main_arg0) = m' ((c.tc : Thread Cert.RefMgateIdeal.nD Cert.RefMgateIdeal.τ).loc Cert.RefMgateIdeal.main_arg0)
          ∧ r.2.mem ((c.tc : Thread Cert.RefMgateIdeal.nD Cert.RefMgateIdeal.τ).loc Cert.RefMgateIdeal.main_arg1) = m' ((c.tc : Thread Cert.RefMgateIdeal.nD Cert.RefMgateIdeal.τ).loc Cert.RefMgateIdeal.main_arg1)
          ∧ r.2.mem ((c.tc : Thread Cert.RefMgateIdeal.nD Cert.RefMgateIdeal.τ).loc Cert.RefMgateIdeal.main_arg2) = m' ((c.tc : Thread Cert.RefMgateIdeal.nD Cert.RefMgateIdeal.τ).loc Cert.RefMgateIdeal.main_arg2)
          ∧ r.2.mem ((c.tc : Thread Cert.RefMgateIdeal.nD Cert.RefMgateIdeal.τ).loc Cert.RefMgateIdeal.main_arg3) = m' ((c.tc : Thread Cert.RefMgateIdeal.nD Cert.RefMgateIdeal.τ).loc Cert.RefMgateIdeal.main_arg3))

def preserves_Rms_RmsIdeal : Prop :=
  True

def algebraic_RmsIdeal_RefRmsIdeal [hRmsIdeal : Cert.RmsIdeal.Facts] [hRefRmsIdeal : Cert.RefRmsIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RefRmsIdeal.nD Cert.RefRmsIdeal.τ Cert.RefRmsIdeal.sig) → Buf (Elt Ideal) ℓ) (g' : Dev Cert.RefRmsIdeal.nD → PrngReg), Pre_RmsIdeal m →
    (∀ c : Dev Cert.RmsIdeal.nD,
      m' ((c.tc : Thread Cert.RefRmsIdeal.nD Cert.RefRmsIdeal.τ).loc Cert.RefRmsIdeal.main_arg0) = m ((c.tc : Thread Cert.RmsIdeal.nD Cert.RmsIdeal.τ).loc Cert.RmsIdeal.main_arg0)
      ∧ m' ((c.tc : Thread Cert.RefRmsIdeal.nD Cert.RefRmsIdeal.τ).loc Cert.RefRmsIdeal.main_arg1) = m ((c.tc : Thread Cert.RmsIdeal.nD Cert.RmsIdeal.τ).loc Cert.RmsIdeal.main_arg1)
      ∧ m' ((c.tc : Thread Cert.RefRmsIdeal.nD Cert.RefRmsIdeal.τ).loc Cert.RefRmsIdeal.main_arg2) = m ((c.tc : Thread Cert.RmsIdeal.nD Cert.RmsIdeal.τ).loc Cert.RmsIdeal.main_arg2)
      ∧ m' ((c.tc : Thread Cert.RefRmsIdeal.nD Cert.RefRmsIdeal.τ).loc Cert.RefRmsIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RefRmsIdeal.defs (F := Ideal)) (onTc (τ := Cert.RefRmsIdeal.τ) (Cert.RefRmsIdeal.main (F := Ideal))) ⟨m', fun _ => 0, g'⟩ (fun r => ∀ c : Dev Cert.RefRmsIdeal.nD,
          r.2.mem ((c.tc : Thread Cert.RefRmsIdeal.nD Cert.RefRmsIdeal.τ).loc Cert.RefRmsIdeal.main_v36) = v0 c
          ∧ r.2.mem ((c.tc : Thread Cert.RefRmsIdeal.nD Cert.RefRmsIdeal.τ).loc Cert.RefRmsIdeal.main_v37) = v1 c
          ∧ r.2.mem ((c.tc : Thread Cert.RefRmsIdeal.nD Cert.RefRmsIdeal.τ).loc Cert.RefRmsIdeal.main_arg0) = m' ((c.tc : Thread Cert.RefRmsIdeal.nD Cert.RefRmsIdeal.τ).loc Cert.RefRmsIdeal.main_arg0)
          ∧ r.2.mem ((c.tc : Thread Cert.RefRmsIdeal.nD Cert.RefRmsIdeal.τ).loc Cert.RefRmsIdeal.main_arg1) = m' ((c.tc : Thread Cert.RefRmsIdeal.nD Cert.RefRmsIdeal.τ).loc Cert.RefRmsIdeal.main_arg1)
          ∧ r.2.mem ((c.tc : Thread Cert.RefRmsIdeal.nD Cert.RefRmsIdeal.τ).loc Cert.RefRmsIdeal.main_arg2) = m' ((c.tc : Thread Cert.RefRmsIdeal.nD Cert.RefRmsIdeal.τ).loc Cert.RefRmsIdeal.main_arg2)
          ∧ r.2.mem ((c.tc : Thread Cert.RefRmsIdeal.nD Cert.RefRmsIdeal.τ).loc Cert.RefRmsIdeal.main_arg3) = m' ((c.tc : Thread Cert.RefRmsIdeal.nD Cert.RefRmsIdeal.τ).loc Cert.RefRmsIdeal.main_arg3))

def preserves_UpX_UpXIdeal : Prop :=
  True

def algebraic_UpXIdeal_RefUpXIdeal [hUpXIdeal : Cert.UpXIdeal.Facts] [hRefUpXIdeal : Cert.RefUpXIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.RefUpXIdeal.nD Cert.RefUpXIdeal.τ Cert.RefUpXIdeal.sig) → Buf (Elt Ideal) ℓ) (g' : Dev Cert.RefUpXIdeal.nD → PrngReg), Pre_UpXIdeal m →
    (∀ c : Dev Cert.UpXIdeal.nD,
      m' ((c.tc : Thread Cert.RefUpXIdeal.nD Cert.RefUpXIdeal.τ).loc Cert.RefUpXIdeal.main_arg0) = m ((c.tc : Thread Cert.UpXIdeal.nD Cert.UpXIdeal.τ).loc Cert.UpXIdeal.main_arg0)
      ∧ m' ((c.tc : Thread Cert.RefUpXIdeal.nD Cert.RefUpXIdeal.τ).loc Cert.RefUpXIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.RefUpXIdeal.defs (F := Ideal)) (onTc (τ := Cert.RefUpXIdeal.τ) (Cert.RefUpXIdeal.main (F := Ideal))) ⟨m', fun _ => 0, g'⟩ (fun r => ∀ c : Dev Cert.RefUpXIdeal.nD,
          r.2.mem ((c.tc : Thread Cert.RefUpXIdeal.nD Cert.RefUpXIdeal.τ).loc Cert.RefUpXIdeal.main_v8) = v0 c
          ∧ r.2.mem ((c.tc : Thread Cert.RefUpXIdeal.nD Cert.RefUpXIdeal.τ).loc Cert.RefUpXIdeal.main_arg0) = m' ((c.tc : Thread Cert.RefUpXIdeal.nD Cert.RefUpXIdeal.τ).loc Cert.RefUpXIdeal.main_arg0)
          ∧ r.2.mem ((c.tc : Thread Cert.RefUpXIdeal.nD Cert.RefUpXIdeal.τ).loc Cert.RefUpXIdeal.main_arg1) = m' ((c.tc : Thread Cert.RefUpXIdeal.nD Cert.RefUpXIdeal.τ).loc Cert.RefUpXIdeal.main_arg1))

def preserves_UpW_UpWIdeal : Prop :=
  True

def algebraic_UpWIdeal_RefUpWIdeal [hUpWIdeal : Cert.UpWIdeal.Facts] [hRefUpWIdeal : Cert.RefUpWIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.RefUpWIdeal.nD Cert.RefUpWIdeal.τ Cert.RefUpWIdeal.sig) → Buf (Elt Ideal) ℓ) (g' : Dev Cert.RefUpWIdeal.nD → PrngReg), Pre_UpWIdeal m →
    (∀ c : Dev Cert.UpWIdeal.nD,
      m' ((c.tc : Thread Cert.RefUpWIdeal.nD Cert.RefUpWIdeal.τ).loc Cert.RefUpWIdeal.main_arg0) = m ((c.tc : Thread Cert.UpWIdeal.nD Cert.UpWIdeal.τ).loc Cert.UpWIdeal.main_arg0)
      ∧ m' ((c.tc : Thread Cert.RefUpWIdeal.nD Cert.RefUpWIdeal.τ).loc Cert.RefUpWIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.RefUpWIdeal.defs (F := Ideal)) (onTc (τ := Cert.RefUpWIdeal.τ) (Cert.RefUpWIdeal.main (F := Ideal))) ⟨m', fun _ => 0, g'⟩ (fun r => ∀ c : Dev Cert.RefUpWIdeal.nD,
          r.2.mem ((c.tc : Thread Cert.RefUpWIdeal.nD Cert.RefUpWIdeal.τ).loc Cert.RefUpWIdeal.main_v10) = v0 c
          ∧ r.2.mem ((c.tc : Thread Cert.RefUpWIdeal.nD Cert.RefUpWIdeal.τ).loc Cert.RefUpWIdeal.main_arg0) = m' ((c.tc : Thread Cert.RefUpWIdeal.nD Cert.RefUpWIdeal.τ).loc Cert.RefUpWIdeal.main_arg0)
          ∧ r.2.mem ((c.tc : Thread Cert.RefUpWIdeal.nD Cert.RefUpWIdeal.τ).loc Cert.RefUpWIdeal.main_arg1) = m' ((c.tc : Thread Cert.RefUpWIdeal.nD Cert.RefUpWIdeal.τ).loc Cert.RefUpWIdeal.main_arg1))

def preserves_DownX_DownXIdeal : Prop :=
  True

def algebraic_DownXIdeal_RefDownXIdeal [hDownXIdeal : Cert.DownXIdeal.Facts] [hRefDownXIdeal : Cert.RefDownXIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.RefDownXIdeal.nD Cert.RefDownXIdeal.τ Cert.RefDownXIdeal.sig) → Buf (Elt Ideal) ℓ) (g' : Dev Cert.RefDownXIdeal.nD → PrngReg), Pre_DownXIdeal m →
    (∀ c : Dev Cert.DownXIdeal.nD,
      m' ((c.tc : Thread Cert.RefDownXIdeal.nD Cert.RefDownXIdeal.τ).loc Cert.RefDownXIdeal.main_arg0) = m ((c.tc : Thread Cert.DownXIdeal.nD Cert.DownXIdeal.τ).loc Cert.DownXIdeal.main_arg0)
      ∧ m' ((c.tc : Thread Cert.RefDownXIdeal.nD Cert.RefDownXIdeal.τ).loc Cert.RefDownXIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.RefDownXIdeal.defs (F := Ideal)) (onTc (τ := Cert.RefDownXIdeal.τ) (Cert.RefDownXIdeal.main (F := Ideal))) ⟨m', fun _ => 0, g'⟩ (fun r => ∀ c : Dev Cert.RefDownXIdeal.nD,
          r.2.mem ((c.tc : Thread Cert.RefDownXIdeal.nD Cert.RefDownXIdeal.τ).loc Cert.RefDownXIdeal.main_v4) = v0 c
          ∧ r.2.mem ((c.tc : Thread Cert.RefDownXIdeal.nD Cert.RefDownXIdeal.τ).loc Cert.RefDownXIdeal.main_arg0) = m' ((c.tc : Thread Cert.RefDownXIdeal.nD Cert.RefDownXIdeal.τ).loc Cert.RefDownXIdeal.main_arg0)
          ∧ r.2.mem ((c.tc : Thread Cert.RefDownXIdeal.nD Cert.RefDownXIdeal.τ).loc Cert.RefDownXIdeal.main_arg1) = m' ((c.tc : Thread Cert.RefDownXIdeal.nD Cert.RefDownXIdeal.τ).loc Cert.RefDownXIdeal.main_arg1))

def preserves_DownW_DownWIdeal : Prop :=
  True

def algebraic_DownWIdeal_RefDownWIdeal [hDownWIdeal : Cert.DownWIdeal.Facts] [hRefDownWIdeal : Cert.RefDownWIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.RefDownWIdeal.nD Cert.RefDownWIdeal.τ Cert.RefDownWIdeal.sig) → Buf (Elt Ideal) ℓ) (g' : Dev Cert.RefDownWIdeal.nD → PrngReg), Pre_DownWIdeal m →
    (∀ c : Dev Cert.DownWIdeal.nD,
      m' ((c.tc : Thread Cert.RefDownWIdeal.nD Cert.RefDownWIdeal.τ).loc Cert.RefDownWIdeal.main_arg0) = m ((c.tc : Thread Cert.DownWIdeal.nD Cert.DownWIdeal.τ).loc Cert.DownWIdeal.main_arg0)
      ∧ m' ((c.tc : Thread Cert.RefDownWIdeal.nD Cert.RefDownWIdeal.τ).loc Cert.RefDownWIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.RefDownWIdeal.defs (F := Ideal)) (onTc (τ := Cert.RefDownWIdeal.τ) (Cert.RefDownWIdeal.main (F := Ideal))) ⟨m', fun _ => 0, g'⟩ (fun r => ∀ c : Dev Cert.RefDownWIdeal.nD,
          r.2.mem ((c.tc : Thread Cert.RefDownWIdeal.nD Cert.RefDownWIdeal.τ).loc Cert.RefDownWIdeal.main_v5) = v0 c
          ∧ r.2.mem ((c.tc : Thread Cert.RefDownWIdeal.nD Cert.RefDownWIdeal.τ).loc Cert.RefDownWIdeal.main_arg0) = m' ((c.tc : Thread Cert.RefDownWIdeal.nD Cert.RefDownWIdeal.τ).loc Cert.RefDownWIdeal.main_arg0)
          ∧ r.2.mem ((c.tc : Thread Cert.RefDownWIdeal.nD Cert.RefDownWIdeal.τ).loc Cert.RefDownWIdeal.main_arg1) = m' ((c.tc : Thread Cert.RefDownWIdeal.nD Cert.RefDownWIdeal.τ).loc Cert.RefDownWIdeal.main_arg1))

def preserves_HgrnOutW_HgrnOutWIdeal : Prop :=
  True

def algebraic_HgrnOutWIdeal_RefHgrnOutWIdeal [hHgrnOutWIdeal : Cert.HgrnOutWIdeal.Facts] [hRefHgrnOutWIdeal : Cert.RefHgrnOutWIdeal.Facts] : Prop :=
  ∀ (m : (ℓ : Loc Cert.HgrnOutWIdeal.nD Cert.HgrnOutWIdeal.τ Cert.HgrnOutWIdeal.sig) → Buf (Elt Ideal) ℓ) (g : Dev Cert.HgrnOutWIdeal.nD → PrngReg)
    (m' : (ℓ : Loc Cert.RefHgrnOutWIdeal.nD Cert.RefHgrnOutWIdeal.τ Cert.RefHgrnOutWIdeal.sig) → Buf (Elt Ideal) ℓ) (g' : Dev Cert.RefHgrnOutWIdeal.nD → PrngReg), Pre_HgrnOutWIdeal m →
    (∀ c : Dev Cert.HgrnOutWIdeal.nD,
      m' ((c.tc : Thread Cert.RefHgrnOutWIdeal.nD Cert.RefHgrnOutWIdeal.τ).loc Cert.RefHgrnOutWIdeal.main_arg0) = m ((c.tc : Thread Cert.HgrnOutWIdeal.nD Cert.HgrnOutWIdeal.τ).loc Cert.HgrnOutWIdeal.main_arg0)
      ∧ m' ((c.tc : Thread Cert.RefHgrnOutWIdeal.nD Cert.RefHgrnOutWIdeal.τ).loc Cert.RefHgrnOutWIdeal.main_arg1) = m ((c.tc : Thread Cert.HgrnOutWIdeal.nD Cert.HgrnOutWIdeal.τ).loc Cert.HgrnOutWIdeal.main_arg1)) →
    ∃ (v0 : (c : Dev Cert.HgrnOutWIdeal.nD) → Buf (Elt Ideal) ((c.tc : Thread Cert.HgrnOutWIdeal.nD Cert.HgrnOutWIdeal.τ).loc Cert.HgrnOutWIdeal.main_v0)),
      θ_run (Cert.HgrnOutWIdeal.defs (F := Ideal)) (onTc (τ := Cert.HgrnOutWIdeal.τ) (Cert.HgrnOutWIdeal.main (F := Ideal))) ⟨m, fun _ => 0, g⟩ (fun r => ∀ c : Dev Cert.HgrnOutWIdeal.nD,
          r.2.mem ((c.tc : Thread Cert.HgrnOutWIdeal.nD Cert.HgrnOutWIdeal.τ).loc Cert.HgrnOutWIdeal.main_v0) = v0 c
          ∧ r.2.mem ((c.tc : Thread Cert.HgrnOutWIdeal.nD Cert.HgrnOutWIdeal.τ).loc Cert.HgrnOutWIdeal.main_arg0) = m ((c.tc : Thread Cert.HgrnOutWIdeal.nD Cert.HgrnOutWIdeal.τ).loc Cert.HgrnOutWIdeal.main_arg0)
          ∧ r.2.mem ((c.tc : Thread Cert.HgrnOutWIdeal.nD Cert.HgrnOutWIdeal.τ).loc Cert.HgrnOutWIdeal.main_arg1) = m ((c.tc : Thread Cert.HgrnOutWIdeal.nD Cert.HgrnOutWIdeal.τ).loc Cert.HgrnOutWIdeal.main_arg1))
      ∧ θ_run (Cert.RefHgrnOutWIdeal.defs (F := Ideal)) (onTc (τ := Cert.RefHgrnOutWIdeal.τ) (Cert.RefHgrnOutWIdeal.main (F := Ideal))) ⟨m', fun _ => 0, g'⟩ (fun r => ∀ c : Dev Cert.RefHgrnOutWIdeal.nD,
          r.2.mem ((c.tc : Thread Cert.RefHgrnOutWIdeal.nD Cert.RefHgrnOutWIdeal.τ).loc Cert.RefHgrnOutWIdeal.main_v5) = v0 c
          ∧ r.2.mem ((c.tc : Thread Cert.RefHgrnOutWIdeal.nD Cert.RefHgrnOutWIdeal.τ).loc Cert.RefHgrnOutWIdeal.main_arg0) = m' ((c.tc : Thread Cert.RefHgrnOutWIdeal.nD Cert.RefHgrnOutWIdeal.τ).loc Cert.RefHgrnOutWIdeal.main_arg0)
          ∧ r.2.mem ((c.tc : Thread Cert.RefHgrnOutWIdeal.nD Cert.RefHgrnOutWIdeal.τ).loc Cert.RefHgrnOutWIdeal.main_arg1) = m' ((c.tc : Thread Cert.RefHgrnOutWIdeal.nD Cert.RefHgrnOutWIdeal.τ).loc Cert.RefHgrnOutWIdeal.main_arg1))

def preserves_HgrnOutX_HgrnOutXIdeal : Prop :=
  True

def algebraic_HgrnOutXIdeal_RefHgrnOutXIdeal [hHgrnOutXIdeal : Cert.HgrnOutXIdeal.Facts] [hRefHgrnOutXIdeal : Cert.RefHgrnOutXIdeal.Facts] : Prop :=
  ∀ (m : (ℓ : Loc Cert.HgrnOutXIdeal.nD Cert.HgrnOutXIdeal.τ Cert.HgrnOutXIdeal.sig) → Buf (Elt Ideal) ℓ) (g : Dev Cert.HgrnOutXIdeal.nD → PrngReg)
    (m' : (ℓ : Loc Cert.RefHgrnOutXIdeal.nD Cert.RefHgrnOutXIdeal.τ Cert.RefHgrnOutXIdeal.sig) → Buf (Elt Ideal) ℓ) (g' : Dev Cert.RefHgrnOutXIdeal.nD → PrngReg), Pre_HgrnOutXIdeal m →
    (∀ c : Dev Cert.HgrnOutXIdeal.nD,
      m' ((c.tc : Thread Cert.RefHgrnOutXIdeal.nD Cert.RefHgrnOutXIdeal.τ).loc Cert.RefHgrnOutXIdeal.main_arg0) = m ((c.tc : Thread Cert.HgrnOutXIdeal.nD Cert.HgrnOutXIdeal.τ).loc Cert.HgrnOutXIdeal.main_arg0)
      ∧ m' ((c.tc : Thread Cert.RefHgrnOutXIdeal.nD Cert.RefHgrnOutXIdeal.τ).loc Cert.RefHgrnOutXIdeal.main_arg1) = m ((c.tc : Thread Cert.HgrnOutXIdeal.nD Cert.HgrnOutXIdeal.τ).loc Cert.HgrnOutXIdeal.main_arg1)) →
    ∃ (v0 : (c : Dev Cert.HgrnOutXIdeal.nD) → Buf (Elt Ideal) ((c.tc : Thread Cert.HgrnOutXIdeal.nD Cert.HgrnOutXIdeal.τ).loc Cert.HgrnOutXIdeal.main_v0)),
      θ_run (Cert.HgrnOutXIdeal.defs (F := Ideal)) (onTc (τ := Cert.HgrnOutXIdeal.τ) (Cert.HgrnOutXIdeal.main (F := Ideal))) ⟨m, fun _ => 0, g⟩ (fun r => ∀ c : Dev Cert.HgrnOutXIdeal.nD,
          r.2.mem ((c.tc : Thread Cert.HgrnOutXIdeal.nD Cert.HgrnOutXIdeal.τ).loc Cert.HgrnOutXIdeal.main_v0) = v0 c
          ∧ r.2.mem ((c.tc : Thread Cert.HgrnOutXIdeal.nD Cert.HgrnOutXIdeal.τ).loc Cert.HgrnOutXIdeal.main_arg0) = m ((c.tc : Thread Cert.HgrnOutXIdeal.nD Cert.HgrnOutXIdeal.τ).loc Cert.HgrnOutXIdeal.main_arg0)
          ∧ r.2.mem ((c.tc : Thread Cert.HgrnOutXIdeal.nD Cert.HgrnOutXIdeal.τ).loc Cert.HgrnOutXIdeal.main_arg1) = m ((c.tc : Thread Cert.HgrnOutXIdeal.nD Cert.HgrnOutXIdeal.τ).loc Cert.HgrnOutXIdeal.main_arg1))
      ∧ θ_run (Cert.RefHgrnOutXIdeal.defs (F := Ideal)) (onTc (τ := Cert.RefHgrnOutXIdeal.τ) (Cert.RefHgrnOutXIdeal.main (F := Ideal))) ⟨m', fun _ => 0, g'⟩ (fun r => ∀ c : Dev Cert.RefHgrnOutXIdeal.nD,
          r.2.mem ((c.tc : Thread Cert.RefHgrnOutXIdeal.nD Cert.RefHgrnOutXIdeal.τ).loc Cert.RefHgrnOutXIdeal.main_v4) = v0 c
          ∧ r.2.mem ((c.tc : Thread Cert.RefHgrnOutXIdeal.nD Cert.RefHgrnOutXIdeal.τ).loc Cert.RefHgrnOutXIdeal.main_arg0) = m' ((c.tc : Thread Cert.RefHgrnOutXIdeal.nD Cert.RefHgrnOutXIdeal.τ).loc Cert.RefHgrnOutXIdeal.main_arg0)
          ∧ r.2.mem ((c.tc : Thread Cert.RefHgrnOutXIdeal.nD Cert.RefHgrnOutXIdeal.τ).loc Cert.RefHgrnOutXIdeal.main_arg1) = m' ((c.tc : Thread Cert.RefHgrnOutXIdeal.nD Cert.RefHgrnOutXIdeal.τ).loc Cert.RefHgrnOutXIdeal.main_arg1))

def preserves_HgrnInW_HgrnInWIdeal : Prop :=
  True

def algebraic_HgrnInWIdeal_RefHgrnInWIdeal [hHgrnInWIdeal : Cert.HgrnInWIdeal.Facts] [hRefHgrnInWIdeal : Cert.RefHgrnInWIdeal.Facts] : Prop :=
  ∀ (m : (ℓ : Loc Cert.HgrnInWIdeal.nD Cert.HgrnInWIdeal.τ Cert.HgrnInWIdeal.sig) → Buf (Elt Ideal) ℓ) (g : Dev Cert.HgrnInWIdeal.nD → PrngReg)
    (m' : (ℓ : Loc Cert.RefHgrnInWIdeal.nD Cert.RefHgrnInWIdeal.τ Cert.RefHgrnInWIdeal.sig) → Buf (Elt Ideal) ℓ) (g' : Dev Cert.RefHgrnInWIdeal.nD → PrngReg), Pre_HgrnInWIdeal m →
    (∀ c : Dev Cert.HgrnInWIdeal.nD,
      m' ((c.tc : Thread Cert.RefHgrnInWIdeal.nD Cert.RefHgrnInWIdeal.τ).loc Cert.RefHgrnInWIdeal.main_arg0) = m ((c.tc : Thread Cert.HgrnInWIdeal.nD Cert.HgrnInWIdeal.τ).loc Cert.HgrnInWIdeal.main_arg0)
      ∧ m' ((c.tc : Thread Cert.RefHgrnInWIdeal.nD Cert.RefHgrnInWIdeal.τ).loc Cert.RefHgrnInWIdeal.main_arg1) = m ((c.tc : Thread Cert.HgrnInWIdeal.nD Cert.HgrnInWIdeal.τ).loc Cert.HgrnInWIdeal.main_arg1)) →
    ∃ (v0 : (c : Dev Cert.HgrnInWIdeal.nD) → Buf (Elt Ideal) ((c.tc : Thread Cert.HgrnInWIdeal.nD Cert.HgrnInWIdeal.τ).loc Cert.HgrnInWIdeal.main_v0)),
      θ_run (Cert.HgrnInWIdeal.defs (F := Ideal)) (onTc (τ := Cert.HgrnInWIdeal.τ) (Cert.HgrnInWIdeal.main (F := Ideal))) ⟨m, fun _ => 0, g⟩ (fun r => ∀ c : Dev Cert.HgrnInWIdeal.nD,
          r.2.mem ((c.tc : Thread Cert.HgrnInWIdeal.nD Cert.HgrnInWIdeal.τ).loc Cert.HgrnInWIdeal.main_v0) = v0 c
          ∧ r.2.mem ((c.tc : Thread Cert.HgrnInWIdeal.nD Cert.HgrnInWIdeal.τ).loc Cert.HgrnInWIdeal.main_arg0) = m ((c.tc : Thread Cert.HgrnInWIdeal.nD Cert.HgrnInWIdeal.τ).loc Cert.HgrnInWIdeal.main_arg0)
          ∧ r.2.mem ((c.tc : Thread Cert.HgrnInWIdeal.nD Cert.HgrnInWIdeal.τ).loc Cert.HgrnInWIdeal.main_arg1) = m ((c.tc : Thread Cert.HgrnInWIdeal.nD Cert.HgrnInWIdeal.τ).loc Cert.HgrnInWIdeal.main_arg1))
      ∧ θ_run (Cert.RefHgrnInWIdeal.defs (F := Ideal)) (onTc (τ := Cert.RefHgrnInWIdeal.τ) (Cert.RefHgrnInWIdeal.main (F := Ideal))) ⟨m', fun _ => 0, g'⟩ (fun r => ∀ c : Dev Cert.RefHgrnInWIdeal.nD,
          r.2.mem ((c.tc : Thread Cert.RefHgrnInWIdeal.nD Cert.RefHgrnInWIdeal.τ).loc Cert.RefHgrnInWIdeal.main_v10) = v0 c
          ∧ r.2.mem ((c.tc : Thread Cert.RefHgrnInWIdeal.nD Cert.RefHgrnInWIdeal.τ).loc Cert.RefHgrnInWIdeal.main_arg0) = m' ((c.tc : Thread Cert.RefHgrnInWIdeal.nD Cert.RefHgrnInWIdeal.τ).loc Cert.RefHgrnInWIdeal.main_arg0)
          ∧ r.2.mem ((c.tc : Thread Cert.RefHgrnInWIdeal.nD Cert.RefHgrnInWIdeal.τ).loc Cert.RefHgrnInWIdeal.main_arg1) = m' ((c.tc : Thread Cert.RefHgrnInWIdeal.nD Cert.RefHgrnInWIdeal.τ).loc Cert.RefHgrnInWIdeal.main_arg1))

def preserves_HgrnInX_HgrnInXIdeal : Prop :=
  True

def algebraic_HgrnInXIdeal_RefHgrnInXIdeal [hHgrnInXIdeal : Cert.HgrnInXIdeal.Facts] [hRefHgrnInXIdeal : Cert.RefHgrnInXIdeal.Facts] : Prop :=
  ∀ (m : (ℓ : Loc Cert.HgrnInXIdeal.nD Cert.HgrnInXIdeal.τ Cert.HgrnInXIdeal.sig) → Buf (Elt Ideal) ℓ) (g : Dev Cert.HgrnInXIdeal.nD → PrngReg)
    (m' : (ℓ : Loc Cert.RefHgrnInXIdeal.nD Cert.RefHgrnInXIdeal.τ Cert.RefHgrnInXIdeal.sig) → Buf (Elt Ideal) ℓ) (g' : Dev Cert.RefHgrnInXIdeal.nD → PrngReg), Pre_HgrnInXIdeal m →
    (∀ c : Dev Cert.HgrnInXIdeal.nD,
      m' ((c.tc : Thread Cert.RefHgrnInXIdeal.nD Cert.RefHgrnInXIdeal.τ).loc Cert.RefHgrnInXIdeal.main_arg0) = m ((c.tc : Thread Cert.HgrnInXIdeal.nD Cert.HgrnInXIdeal.τ).loc Cert.HgrnInXIdeal.main_arg0)
      ∧ m' ((c.tc : Thread Cert.RefHgrnInXIdeal.nD Cert.RefHgrnInXIdeal.τ).loc Cert.RefHgrnInXIdeal.main_arg1) = m ((c.tc : Thread Cert.HgrnInXIdeal.nD Cert.HgrnInXIdeal.τ).loc Cert.HgrnInXIdeal.main_arg1)) →
    ∃ (v0 : (c : Dev Cert.HgrnInXIdeal.nD) → Buf (Elt Ideal) ((c.tc : Thread Cert.HgrnInXIdeal.nD Cert.HgrnInXIdeal.τ).loc Cert.HgrnInXIdeal.main_v0)),
      θ_run (Cert.HgrnInXIdeal.defs (F := Ideal)) (onTc (τ := Cert.HgrnInXIdeal.τ) (Cert.HgrnInXIdeal.main (F := Ideal))) ⟨m, fun _ => 0, g⟩ (fun r => ∀ c : Dev Cert.HgrnInXIdeal.nD,
          r.2.mem ((c.tc : Thread Cert.HgrnInXIdeal.nD Cert.HgrnInXIdeal.τ).loc Cert.HgrnInXIdeal.main_v0) = v0 c
          ∧ r.2.mem ((c.tc : Thread Cert.HgrnInXIdeal.nD Cert.HgrnInXIdeal.τ).loc Cert.HgrnInXIdeal.main_arg0) = m ((c.tc : Thread Cert.HgrnInXIdeal.nD Cert.HgrnInXIdeal.τ).loc Cert.HgrnInXIdeal.main_arg0)
          ∧ r.2.mem ((c.tc : Thread Cert.HgrnInXIdeal.nD Cert.HgrnInXIdeal.τ).loc Cert.HgrnInXIdeal.main_arg1) = m ((c.tc : Thread Cert.HgrnInXIdeal.nD Cert.HgrnInXIdeal.τ).loc Cert.HgrnInXIdeal.main_arg1))
      ∧ θ_run (Cert.RefHgrnInXIdeal.defs (F := Ideal)) (onTc (τ := Cert.RefHgrnInXIdeal.τ) (Cert.RefHgrnInXIdeal.main (F := Ideal))) ⟨m', fun _ => 0, g'⟩ (fun r => ∀ c : Dev Cert.RefHgrnInXIdeal.nD,
          r.2.mem ((c.tc : Thread Cert.RefHgrnInXIdeal.nD Cert.RefHgrnInXIdeal.τ).loc Cert.RefHgrnInXIdeal.main_v8) = v0 c
          ∧ r.2.mem ((c.tc : Thread Cert.RefHgrnInXIdeal.nD Cert.RefHgrnInXIdeal.τ).loc Cert.RefHgrnInXIdeal.main_arg0) = m' ((c.tc : Thread Cert.RefHgrnInXIdeal.nD Cert.RefHgrnInXIdeal.τ).loc Cert.RefHgrnInXIdeal.main_arg0)
          ∧ r.2.mem ((c.tc : Thread Cert.RefHgrnInXIdeal.nD Cert.RefHgrnInXIdeal.τ).loc Cert.RefHgrnInXIdeal.main_arg1) = m' ((c.tc : Thread Cert.RefHgrnInXIdeal.nD Cert.RefHgrnInXIdeal.τ).loc Cert.RefHgrnInXIdeal.main_arg1))

def preserves_MambaOutW_MambaOutWIdeal : Prop :=
  True

def algebraic_MambaOutWIdeal_RefMambaOutWIdeal [hMambaOutWIdeal : Cert.MambaOutWIdeal.Facts] [hRefMambaOutWIdeal : Cert.RefMambaOutWIdeal.Facts] : Prop :=
  ∀ (m : (ℓ : Loc Cert.MambaOutWIdeal.nD Cert.MambaOutWIdeal.τ Cert.MambaOutWIdeal.sig) → Buf (Elt Ideal) ℓ) (g : Dev Cert.MambaOutWIdeal.nD → PrngReg)
    (m' : (ℓ : Loc Cert.RefMambaOutWIdeal.nD Cert.RefMambaOutWIdeal.τ Cert.RefMambaOutWIdeal.sig) → Buf (Elt Ideal) ℓ) (g' : Dev Cert.RefMambaOutWIdeal.nD → PrngReg), Pre_MambaOutWIdeal m →
    (∀ c : Dev Cert.MambaOutWIdeal.nD,
      m' ((c.tc : Thread Cert.RefMambaOutWIdeal.nD Cert.RefMambaOutWIdeal.τ).loc Cert.RefMambaOutWIdeal.main_arg0) = m ((c.tc : Thread Cert.MambaOutWIdeal.nD Cert.MambaOutWIdeal.τ).loc Cert.MambaOutWIdeal.main_arg0)
      ∧ m' ((c.tc : Thread Cert.RefMambaOutWIdeal.nD Cert.RefMambaOutWIdeal.τ).loc Cert.RefMambaOutWIdeal.main_arg1) = m ((c.tc : Thread Cert.MambaOutWIdeal.nD Cert.MambaOutWIdeal.τ).loc Cert.MambaOutWIdeal.main_arg1)) →
    ∃ (v0 : (c : Dev Cert.MambaOutWIdeal.nD) → Buf (Elt Ideal) ((c.tc : Thread Cert.MambaOutWIdeal.nD Cert.MambaOutWIdeal.τ).loc Cert.MambaOutWIdeal.main_v0)),
      θ_run (Cert.MambaOutWIdeal.defs (F := Ideal)) (onTc (τ := Cert.MambaOutWIdeal.τ) (Cert.MambaOutWIdeal.main (F := Ideal))) ⟨m, fun _ => 0, g⟩ (fun r => ∀ c : Dev Cert.MambaOutWIdeal.nD,
          r.2.mem ((c.tc : Thread Cert.MambaOutWIdeal.nD Cert.MambaOutWIdeal.τ).loc Cert.MambaOutWIdeal.main_v0) = v0 c
          ∧ r.2.mem ((c.tc : Thread Cert.MambaOutWIdeal.nD Cert.MambaOutWIdeal.τ).loc Cert.MambaOutWIdeal.main_arg0) = m ((c.tc : Thread Cert.MambaOutWIdeal.nD Cert.MambaOutWIdeal.τ).loc Cert.MambaOutWIdeal.main_arg0)
          ∧ r.2.mem ((c.tc : Thread Cert.MambaOutWIdeal.nD Cert.MambaOutWIdeal.τ).loc Cert.MambaOutWIdeal.main_arg1) = m ((c.tc : Thread Cert.MambaOutWIdeal.nD Cert.MambaOutWIdeal.τ).loc Cert.MambaOutWIdeal.main_arg1))
      ∧ θ_run (Cert.RefMambaOutWIdeal.defs (F := Ideal)) (onTc (τ := Cert.RefMambaOutWIdeal.τ) (Cert.RefMambaOutWIdeal.main (F := Ideal))) ⟨m', fun _ => 0, g'⟩ (fun r => ∀ c : Dev Cert.RefMambaOutWIdeal.nD,
          r.2.mem ((c.tc : Thread Cert.RefMambaOutWIdeal.nD Cert.RefMambaOutWIdeal.τ).loc Cert.RefMambaOutWIdeal.main_v5) = v0 c
          ∧ r.2.mem ((c.tc : Thread Cert.RefMambaOutWIdeal.nD Cert.RefMambaOutWIdeal.τ).loc Cert.RefMambaOutWIdeal.main_arg0) = m' ((c.tc : Thread Cert.RefMambaOutWIdeal.nD Cert.RefMambaOutWIdeal.τ).loc Cert.RefMambaOutWIdeal.main_arg0)
          ∧ r.2.mem ((c.tc : Thread Cert.RefMambaOutWIdeal.nD Cert.RefMambaOutWIdeal.τ).loc Cert.RefMambaOutWIdeal.main_arg1) = m' ((c.tc : Thread Cert.RefMambaOutWIdeal.nD Cert.RefMambaOutWIdeal.τ).loc Cert.RefMambaOutWIdeal.main_arg1))

def preserves_MambaOutX_MambaOutXIdeal : Prop :=
  True

def algebraic_MambaOutXIdeal_RefMambaOutXIdeal [hMambaOutXIdeal : Cert.MambaOutXIdeal.Facts] [hRefMambaOutXIdeal : Cert.RefMambaOutXIdeal.Facts] : Prop :=
  ∀ (m : (ℓ : Loc Cert.MambaOutXIdeal.nD Cert.MambaOutXIdeal.τ Cert.MambaOutXIdeal.sig) → Buf (Elt Ideal) ℓ) (g : Dev Cert.MambaOutXIdeal.nD → PrngReg)
    (m' : (ℓ : Loc Cert.RefMambaOutXIdeal.nD Cert.RefMambaOutXIdeal.τ Cert.RefMambaOutXIdeal.sig) → Buf (Elt Ideal) ℓ) (g' : Dev Cert.RefMambaOutXIdeal.nD → PrngReg), Pre_MambaOutXIdeal m →
    (∀ c : Dev Cert.MambaOutXIdeal.nD,
      m' ((c.tc : Thread Cert.RefMambaOutXIdeal.nD Cert.RefMambaOutXIdeal.τ).loc Cert.RefMambaOutXIdeal.main_arg0) = m ((c.tc : Thread Cert.MambaOutXIdeal.nD Cert.MambaOutXIdeal.τ).loc Cert.MambaOutXIdeal.main_arg0)
      ∧ m' ((c.tc : Thread Cert.RefMambaOutXIdeal.nD Cert.RefMambaOutXIdeal.τ).loc Cert.RefMambaOutXIdeal.main_arg1) = m ((c.tc : Thread Cert.MambaOutXIdeal.nD Cert.MambaOutXIdeal.τ).loc Cert.MambaOutXIdeal.main_arg1)) →
    ∃ (v0 : (c : Dev Cert.MambaOutXIdeal.nD) → Buf (Elt Ideal) ((c.tc : Thread Cert.MambaOutXIdeal.nD Cert.MambaOutXIdeal.τ).loc Cert.MambaOutXIdeal.main_v0)),
      θ_run (Cert.MambaOutXIdeal.defs (F := Ideal)) (onTc (τ := Cert.MambaOutXIdeal.τ) (Cert.MambaOutXIdeal.main (F := Ideal))) ⟨m, fun _ => 0, g⟩ (fun r => ∀ c : Dev Cert.MambaOutXIdeal.nD,
          r.2.mem ((c.tc : Thread Cert.MambaOutXIdeal.nD Cert.MambaOutXIdeal.τ).loc Cert.MambaOutXIdeal.main_v0) = v0 c
          ∧ r.2.mem ((c.tc : Thread Cert.MambaOutXIdeal.nD Cert.MambaOutXIdeal.τ).loc Cert.MambaOutXIdeal.main_arg0) = m ((c.tc : Thread Cert.MambaOutXIdeal.nD Cert.MambaOutXIdeal.τ).loc Cert.MambaOutXIdeal.main_arg0)
          ∧ r.2.mem ((c.tc : Thread Cert.MambaOutXIdeal.nD Cert.MambaOutXIdeal.τ).loc Cert.MambaOutXIdeal.main_arg1) = m ((c.tc : Thread Cert.MambaOutXIdeal.nD Cert.MambaOutXIdeal.τ).loc Cert.MambaOutXIdeal.main_arg1))
      ∧ θ_run (Cert.RefMambaOutXIdeal.defs (F := Ideal)) (onTc (τ := Cert.RefMambaOutXIdeal.τ) (Cert.RefMambaOutXIdeal.main (F := Ideal))) ⟨m', fun _ => 0, g'⟩ (fun r => ∀ c : Dev Cert.RefMambaOutXIdeal.nD,
          r.2.mem ((c.tc : Thread Cert.RefMambaOutXIdeal.nD Cert.RefMambaOutXIdeal.τ).loc Cert.RefMambaOutXIdeal.main_v4) = v0 c
          ∧ r.2.mem ((c.tc : Thread Cert.RefMambaOutXIdeal.nD Cert.RefMambaOutXIdeal.τ).loc Cert.RefMambaOutXIdeal.main_arg0) = m' ((c.tc : Thread Cert.RefMambaOutXIdeal.nD Cert.RefMambaOutXIdeal.τ).loc Cert.RefMambaOutXIdeal.main_arg0)
          ∧ r.2.mem ((c.tc : Thread Cert.RefMambaOutXIdeal.nD Cert.RefMambaOutXIdeal.τ).loc Cert.RefMambaOutXIdeal.main_arg1) = m' ((c.tc : Thread Cert.RefMambaOutXIdeal.nD Cert.RefMambaOutXIdeal.τ).loc Cert.RefMambaOutXIdeal.main_arg1))

def preserves_MambaZW_MambaZWIdeal : Prop :=
  True

def algebraic_MambaZWIdeal_RefMambaZWIdeal [hMambaZWIdeal : Cert.MambaZWIdeal.Facts] [hRefMambaZWIdeal : Cert.RefMambaZWIdeal.Facts] : Prop :=
  ∀ (m : (ℓ : Loc Cert.MambaZWIdeal.nD Cert.MambaZWIdeal.τ Cert.MambaZWIdeal.sig) → Buf (Elt Ideal) ℓ) (g : Dev Cert.MambaZWIdeal.nD → PrngReg)
    (m' : (ℓ : Loc Cert.RefMambaZWIdeal.nD Cert.RefMambaZWIdeal.τ Cert.RefMambaZWIdeal.sig) → Buf (Elt Ideal) ℓ) (g' : Dev Cert.RefMambaZWIdeal.nD → PrngReg), Pre_MambaZWIdeal m →
    (∀ c : Dev Cert.MambaZWIdeal.nD,
      m' ((c.tc : Thread Cert.RefMambaZWIdeal.nD Cert.RefMambaZWIdeal.τ).loc Cert.RefMambaZWIdeal.main_arg0) = m ((c.tc : Thread Cert.MambaZWIdeal.nD Cert.MambaZWIdeal.τ).loc Cert.MambaZWIdeal.main_arg0)
      ∧ m' ((c.tc : Thread Cert.RefMambaZWIdeal.nD Cert.RefMambaZWIdeal.τ).loc Cert.RefMambaZWIdeal.main_arg1) = m ((c.tc : Thread Cert.MambaZWIdeal.nD Cert.MambaZWIdeal.τ).loc Cert.MambaZWIdeal.main_arg1)) →
    ∃ (v0 : (c : Dev Cert.MambaZWIdeal.nD) → Buf (Elt Ideal) ((c.tc : Thread Cert.MambaZWIdeal.nD Cert.MambaZWIdeal.τ).loc Cert.MambaZWIdeal.main_v0)),
      θ_run (Cert.MambaZWIdeal.defs (F := Ideal)) (onTc (τ := Cert.MambaZWIdeal.τ) (Cert.MambaZWIdeal.main (F := Ideal))) ⟨m, fun _ => 0, g⟩ (fun r => ∀ c : Dev Cert.MambaZWIdeal.nD,
          r.2.mem ((c.tc : Thread Cert.MambaZWIdeal.nD Cert.MambaZWIdeal.τ).loc Cert.MambaZWIdeal.main_v0) = v0 c
          ∧ r.2.mem ((c.tc : Thread Cert.MambaZWIdeal.nD Cert.MambaZWIdeal.τ).loc Cert.MambaZWIdeal.main_arg0) = m ((c.tc : Thread Cert.MambaZWIdeal.nD Cert.MambaZWIdeal.τ).loc Cert.MambaZWIdeal.main_arg0)
          ∧ r.2.mem ((c.tc : Thread Cert.MambaZWIdeal.nD Cert.MambaZWIdeal.τ).loc Cert.MambaZWIdeal.main_arg1) = m ((c.tc : Thread Cert.MambaZWIdeal.nD Cert.MambaZWIdeal.τ).loc Cert.MambaZWIdeal.main_arg1))
      ∧ θ_run (Cert.RefMambaZWIdeal.defs (F := Ideal)) (onTc (τ := Cert.RefMambaZWIdeal.τ) (Cert.RefMambaZWIdeal.main (F := Ideal))) ⟨m', fun _ => 0, g'⟩ (fun r => ∀ c : Dev Cert.RefMambaZWIdeal.nD,
          r.2.mem ((c.tc : Thread Cert.RefMambaZWIdeal.nD Cert.RefMambaZWIdeal.τ).loc Cert.RefMambaZWIdeal.main_v6) = v0 c
          ∧ r.2.mem ((c.tc : Thread Cert.RefMambaZWIdeal.nD Cert.RefMambaZWIdeal.τ).loc Cert.RefMambaZWIdeal.main_arg0) = m' ((c.tc : Thread Cert.RefMambaZWIdeal.nD Cert.RefMambaZWIdeal.τ).loc Cert.RefMambaZWIdeal.main_arg0)
          ∧ r.2.mem ((c.tc : Thread Cert.RefMambaZWIdeal.nD Cert.RefMambaZWIdeal.τ).loc Cert.RefMambaZWIdeal.main_arg1) = m' ((c.tc : Thread Cert.RefMambaZWIdeal.nD Cert.RefMambaZWIdeal.τ).loc Cert.RefMambaZWIdeal.main_arg1))

def preserves_MambaZX_MambaZXIdeal : Prop :=
  True

def algebraic_MambaZXIdeal_RefMambaZXIdeal [hMambaZXIdeal : Cert.MambaZXIdeal.Facts] [hRefMambaZXIdeal : Cert.RefMambaZXIdeal.Facts] : Prop :=
  ∀ (m : (ℓ : Loc Cert.MambaZXIdeal.nD Cert.MambaZXIdeal.τ Cert.MambaZXIdeal.sig) → Buf (Elt Ideal) ℓ) (g : Dev Cert.MambaZXIdeal.nD → PrngReg)
    (m' : (ℓ : Loc Cert.RefMambaZXIdeal.nD Cert.RefMambaZXIdeal.τ Cert.RefMambaZXIdeal.sig) → Buf (Elt Ideal) ℓ) (g' : Dev Cert.RefMambaZXIdeal.nD → PrngReg), Pre_MambaZXIdeal m →
    (∀ c : Dev Cert.MambaZXIdeal.nD,
      m' ((c.tc : Thread Cert.RefMambaZXIdeal.nD Cert.RefMambaZXIdeal.τ).loc Cert.RefMambaZXIdeal.main_arg0) = m ((c.tc : Thread Cert.MambaZXIdeal.nD Cert.MambaZXIdeal.τ).loc Cert.MambaZXIdeal.main_arg0)
      ∧ m' ((c.tc : Thread Cert.RefMambaZXIdeal.nD Cert.RefMambaZXIdeal.τ).loc Cert.RefMambaZXIdeal.main_arg1) = m ((c.tc : Thread Cert.MambaZXIdeal.nD Cert.MambaZXIdeal.τ).loc Cert.MambaZXIdeal.main_arg1)) →
    ∃ (v0 : (c : Dev Cert.MambaZXIdeal.nD) → Buf (Elt Ideal) ((c.tc : Thread Cert.MambaZXIdeal.nD Cert.MambaZXIdeal.τ).loc Cert.MambaZXIdeal.main_v1)),
      θ_run (Cert.MambaZXIdeal.defs (F := Ideal)) (onTc (τ := Cert.MambaZXIdeal.τ) (Cert.MambaZXIdeal.main (F := Ideal))) ⟨m, fun _ => 0, g⟩ (fun r => ∀ c : Dev Cert.MambaZXIdeal.nD,
          r.2.mem ((c.tc : Thread Cert.MambaZXIdeal.nD Cert.MambaZXIdeal.τ).loc Cert.MambaZXIdeal.main_v1) = v0 c
          ∧ r.2.mem ((c.tc : Thread Cert.MambaZXIdeal.nD Cert.MambaZXIdeal.τ).loc Cert.MambaZXIdeal.main_arg0) = m ((c.tc : Thread Cert.MambaZXIdeal.nD Cert.MambaZXIdeal.τ).loc Cert.MambaZXIdeal.main_arg0)
          ∧ r.2.mem ((c.tc : Thread Cert.MambaZXIdeal.nD Cert.MambaZXIdeal.τ).loc Cert.MambaZXIdeal.main_arg1) = m ((c.tc : Thread Cert.MambaZXIdeal.nD Cert.MambaZXIdeal.τ).loc Cert.MambaZXIdeal.main_arg1))
      ∧ θ_run (Cert.RefMambaZXIdeal.defs (F := Ideal)) (onTc (τ := Cert.RefMambaZXIdeal.τ) (Cert.RefMambaZXIdeal.main (F := Ideal))) ⟨m', fun _ => 0, g'⟩ (fun r => ∀ c : Dev Cert.RefMambaZXIdeal.nD,
          r.2.mem ((c.tc : Thread Cert.RefMambaZXIdeal.nD Cert.RefMambaZXIdeal.τ).loc Cert.RefMambaZXIdeal.main_v5) = v0 c
          ∧ r.2.mem ((c.tc : Thread Cert.RefMambaZXIdeal.nD Cert.RefMambaZXIdeal.τ).loc Cert.RefMambaZXIdeal.main_arg0) = m' ((c.tc : Thread Cert.RefMambaZXIdeal.nD Cert.RefMambaZXIdeal.τ).loc Cert.RefMambaZXIdeal.main_arg0)
          ∧ r.2.mem ((c.tc : Thread Cert.RefMambaZXIdeal.nD Cert.RefMambaZXIdeal.τ).loc Cert.RefMambaZXIdeal.main_arg1) = m' ((c.tc : Thread Cert.RefMambaZXIdeal.nD Cert.RefMambaZXIdeal.τ).loc Cert.RefMambaZXIdeal.main_arg1))

def preserves_MambaXbcW_MambaXbcWIdeal : Prop :=
  True

def algebraic_MambaXbcWIdeal_RefMambaXbcWIdeal [hMambaXbcWIdeal : Cert.MambaXbcWIdeal.Facts] [hRefMambaXbcWIdeal : Cert.RefMambaXbcWIdeal.Facts] : Prop :=
  ∀ (m : (ℓ : Loc Cert.MambaXbcWIdeal.nD Cert.MambaXbcWIdeal.τ Cert.MambaXbcWIdeal.sig) → Buf (Elt Ideal) ℓ) (g : Dev Cert.MambaXbcWIdeal.nD → PrngReg)
    (m' : (ℓ : Loc Cert.RefMambaXbcWIdeal.nD Cert.RefMambaXbcWIdeal.τ Cert.RefMambaXbcWIdeal.sig) → Buf (Elt Ideal) ℓ) (g' : Dev Cert.RefMambaXbcWIdeal.nD → PrngReg), Pre_MambaXbcWIdeal m →
    (∀ c : Dev Cert.MambaXbcWIdeal.nD,
      m' ((c.tc : Thread Cert.RefMambaXbcWIdeal.nD Cert.RefMambaXbcWIdeal.τ).loc Cert.RefMambaXbcWIdeal.main_arg0) = m ((c.tc : Thread Cert.MambaXbcWIdeal.nD Cert.MambaXbcWIdeal.τ).loc Cert.MambaXbcWIdeal.main_arg0)
      ∧ m' ((c.tc : Thread Cert.RefMambaXbcWIdeal.nD Cert.RefMambaXbcWIdeal.τ).loc Cert.RefMambaXbcWIdeal.main_arg1) = m ((c.tc : Thread Cert.MambaXbcWIdeal.nD Cert.MambaXbcWIdeal.τ).loc Cert.MambaXbcWIdeal.main_arg1)) →
    ∃ (v0 : (c : Dev Cert.MambaXbcWIdeal.nD) → Buf (Elt Ideal) ((c.tc : Thread Cert.MambaXbcWIdeal.nD Cert.MambaXbcWIdeal.τ).loc Cert.MambaXbcWIdeal.main_v0)),
      θ_run (Cert.MambaXbcWIdeal.defs (F := Ideal)) (onTc (τ := Cert.MambaXbcWIdeal.τ) (Cert.MambaXbcWIdeal.main (F := Ideal))) ⟨m, fun _ => 0, g⟩ (fun r => ∀ c : Dev Cert.MambaXbcWIdeal.nD,
          r.2.mem ((c.tc : Thread Cert.MambaXbcWIdeal.nD Cert.MambaXbcWIdeal.τ).loc Cert.MambaXbcWIdeal.main_v0) = v0 c
          ∧ r.2.mem ((c.tc : Thread Cert.MambaXbcWIdeal.nD Cert.MambaXbcWIdeal.τ).loc Cert.MambaXbcWIdeal.main_arg0) = m ((c.tc : Thread Cert.MambaXbcWIdeal.nD Cert.MambaXbcWIdeal.τ).loc Cert.MambaXbcWIdeal.main_arg0)
          ∧ r.2.mem ((c.tc : Thread Cert.MambaXbcWIdeal.nD Cert.MambaXbcWIdeal.τ).loc Cert.MambaXbcWIdeal.main_arg1) = m ((c.tc : Thread Cert.MambaXbcWIdeal.nD Cert.MambaXbcWIdeal.τ).loc Cert.MambaXbcWIdeal.main_arg1))
      ∧ θ_run (Cert.RefMambaXbcWIdeal.defs (F := Ideal)) (onTc (τ := Cert.RefMambaXbcWIdeal.τ) (Cert.RefMambaXbcWIdeal.main (F := Ideal))) ⟨m', fun _ => 0, g'⟩ (fun r => ∀ c : Dev Cert.RefMambaXbcWIdeal.nD,
          r.2.mem ((c.tc : Thread Cert.RefMambaXbcWIdeal.nD Cert.RefMambaXbcWIdeal.τ).loc Cert.RefMambaXbcWIdeal.main_v6) = v0 c
          ∧ r.2.mem ((c.tc : Thread Cert.RefMambaXbcWIdeal.nD Cert.RefMambaXbcWIdeal.τ).loc Cert.RefMambaXbcWIdeal.main_arg0) = m' ((c.tc : Thread Cert.RefMambaXbcWIdeal.nD Cert.RefMambaXbcWIdeal.τ).loc Cert.RefMambaXbcWIdeal.main_arg0)
          ∧ r.2.mem ((c.tc : Thread Cert.RefMambaXbcWIdeal.nD Cert.RefMambaXbcWIdeal.τ).loc Cert.RefMambaXbcWIdeal.main_arg1) = m' ((c.tc : Thread Cert.RefMambaXbcWIdeal.nD Cert.RefMambaXbcWIdeal.τ).loc Cert.RefMambaXbcWIdeal.main_arg1))

def preserves_MambaXbcX_MambaXbcXIdeal : Prop :=
  True

def algebraic_MambaXbcXIdeal_RefMambaXbcXIdeal [hMambaXbcXIdeal : Cert.MambaXbcXIdeal.Facts] [hRefMambaXbcXIdeal : Cert.RefMambaXbcXIdeal.Facts] : Prop :=
  ∀ (m : (ℓ : Loc Cert.MambaXbcXIdeal.nD Cert.MambaXbcXIdeal.τ Cert.MambaXbcXIdeal.sig) → Buf (Elt Ideal) ℓ) (g : Dev Cert.MambaXbcXIdeal.nD → PrngReg)
    (m' : (ℓ : Loc Cert.RefMambaXbcXIdeal.nD Cert.RefMambaXbcXIdeal.τ Cert.RefMambaXbcXIdeal.sig) → Buf (Elt Ideal) ℓ) (g' : Dev Cert.RefMambaXbcXIdeal.nD → PrngReg), Pre_MambaXbcXIdeal m →
    (∀ c : Dev Cert.MambaXbcXIdeal.nD,
      m' ((c.tc : Thread Cert.RefMambaXbcXIdeal.nD Cert.RefMambaXbcXIdeal.τ).loc Cert.RefMambaXbcXIdeal.main_arg0) = m ((c.tc : Thread Cert.MambaXbcXIdeal.nD Cert.MambaXbcXIdeal.τ).loc Cert.MambaXbcXIdeal.main_arg0)
      ∧ m' ((c.tc : Thread Cert.RefMambaXbcXIdeal.nD Cert.RefMambaXbcXIdeal.τ).loc Cert.RefMambaXbcXIdeal.main_arg1) = m ((c.tc : Thread Cert.MambaXbcXIdeal.nD Cert.MambaXbcXIdeal.τ).loc Cert.MambaXbcXIdeal.main_arg1)
      ∧ m' ((c.tc : Thread Cert.RefMambaXbcXIdeal.nD Cert.RefMambaXbcXIdeal.τ).loc Cert.RefMambaXbcXIdeal.main_arg2) = m ((c.tc : Thread Cert.MambaXbcXIdeal.nD Cert.MambaXbcXIdeal.τ).loc Cert.MambaXbcXIdeal.main_arg2)) →
    ∃ (v0 : (c : Dev Cert.MambaXbcXIdeal.nD) → Buf (Elt Ideal) ((c.tc : Thread Cert.MambaXbcXIdeal.nD Cert.MambaXbcXIdeal.τ).loc Cert.MambaXbcXIdeal.main_v1)),
      θ_run (Cert.MambaXbcXIdeal.defs (F := Ideal)) (onTc (τ := Cert.MambaXbcXIdeal.τ) (Cert.MambaXbcXIdeal.main (F := Ideal))) ⟨m, fun _ => 0, g⟩ (fun r => ∀ c : Dev Cert.MambaXbcXIdeal.nD,
          r.2.mem ((c.tc : Thread Cert.MambaXbcXIdeal.nD Cert.MambaXbcXIdeal.τ).loc Cert.MambaXbcXIdeal.main_v1) = v0 c
          ∧ r.2.mem ((c.tc : Thread Cert.MambaXbcXIdeal.nD Cert.MambaXbcXIdeal.τ).loc Cert.MambaXbcXIdeal.main_arg0) = m ((c.tc : Thread Cert.MambaXbcXIdeal.nD Cert.MambaXbcXIdeal.τ).loc Cert.MambaXbcXIdeal.main_arg0)
          ∧ r.2.mem ((c.tc : Thread Cert.MambaXbcXIdeal.nD Cert.MambaXbcXIdeal.τ).loc Cert.MambaXbcXIdeal.main_arg1) = m ((c.tc : Thread Cert.MambaXbcXIdeal.nD Cert.MambaXbcXIdeal.τ).loc Cert.MambaXbcXIdeal.main_arg1)
          ∧ r.2.mem ((c.tc : Thread Cert.MambaXbcXIdeal.nD Cert.MambaXbcXIdeal.τ).loc Cert.MambaXbcXIdeal.main_arg2) = m ((c.tc : Thread Cert.MambaXbcXIdeal.nD Cert.MambaXbcXIdeal.τ).loc Cert.MambaXbcXIdeal.main_arg2))
      ∧ θ_run (Cert.RefMambaXbcXIdeal.defs (F := Ideal)) (onTc (τ := Cert.RefMambaXbcXIdeal.τ) (Cert.RefMambaXbcXIdeal.main (F := Ideal))) ⟨m', fun _ => 0, g'⟩ (fun r => ∀ c : Dev Cert.RefMambaXbcXIdeal.nD,
          r.2.mem ((c.tc : Thread Cert.RefMambaXbcXIdeal.nD Cert.RefMambaXbcXIdeal.τ).loc Cert.RefMambaXbcXIdeal.main_v6) = v0 c
          ∧ r.2.mem ((c.tc : Thread Cert.RefMambaXbcXIdeal.nD Cert.RefMambaXbcXIdeal.τ).loc Cert.RefMambaXbcXIdeal.main_arg0) = m' ((c.tc : Thread Cert.RefMambaXbcXIdeal.nD Cert.RefMambaXbcXIdeal.τ).loc Cert.RefMambaXbcXIdeal.main_arg0)
          ∧ r.2.mem ((c.tc : Thread Cert.RefMambaXbcXIdeal.nD Cert.RefMambaXbcXIdeal.τ).loc Cert.RefMambaXbcXIdeal.main_arg1) = m' ((c.tc : Thread Cert.RefMambaXbcXIdeal.nD Cert.RefMambaXbcXIdeal.τ).loc Cert.RefMambaXbcXIdeal.main_arg1)
          ∧ r.2.mem ((c.tc : Thread Cert.RefMambaXbcXIdeal.nD Cert.RefMambaXbcXIdeal.τ).loc Cert.RefMambaXbcXIdeal.main_arg2) = m' ((c.tc : Thread Cert.RefMambaXbcXIdeal.nD Cert.RefMambaXbcXIdeal.τ).loc Cert.RefMambaXbcXIdeal.main_arg2))

def preserves_MambaDtW_MambaDtWIdeal : Prop :=
  True

def algebraic_MambaDtWIdeal_RefMambaDtWIdeal [hMambaDtWIdeal : Cert.MambaDtWIdeal.Facts] [hRefMambaDtWIdeal : Cert.RefMambaDtWIdeal.Facts] : Prop :=
  ∀ (m : (ℓ : Loc Cert.MambaDtWIdeal.nD Cert.MambaDtWIdeal.τ Cert.MambaDtWIdeal.sig) → Buf (Elt Ideal) ℓ) (g : Dev Cert.MambaDtWIdeal.nD → PrngReg)
    (m' : (ℓ : Loc Cert.RefMambaDtWIdeal.nD Cert.RefMambaDtWIdeal.τ Cert.RefMambaDtWIdeal.sig) → Buf (Elt Ideal) ℓ) (g' : Dev Cert.RefMambaDtWIdeal.nD → PrngReg), Pre_MambaDtWIdeal m →
    (∀ c : Dev Cert.MambaDtWIdeal.nD,
      m' ((c.tc : Thread Cert.RefMambaDtWIdeal.nD Cert.RefMambaDtWIdeal.τ).loc Cert.RefMambaDtWIdeal.main_arg0) = m ((c.tc : Thread Cert.MambaDtWIdeal.nD Cert.MambaDtWIdeal.τ).loc Cert.MambaDtWIdeal.main_arg0)
      ∧ m' ((c.tc : Thread Cert.RefMambaDtWIdeal.nD Cert.RefMambaDtWIdeal.τ).loc Cert.RefMambaDtWIdeal.main_arg1) = m ((c.tc : Thread Cert.MambaDtWIdeal.nD Cert.MambaDtWIdeal.τ).loc Cert.MambaDtWIdeal.main_arg1)) →
    ∃ (v0 : (c : Dev Cert.MambaDtWIdeal.nD) → Buf (Elt Ideal) ((c.tc : Thread Cert.MambaDtWIdeal.nD Cert.MambaDtWIdeal.τ).loc Cert.MambaDtWIdeal.main_v0)),
      θ_run (Cert.MambaDtWIdeal.defs (F := Ideal)) (onTc (τ := Cert.MambaDtWIdeal.τ) (Cert.MambaDtWIdeal.main (F := Ideal))) ⟨m, fun _ => 0, g⟩ (fun r => ∀ c : Dev Cert.MambaDtWIdeal.nD,
          r.2.mem ((c.tc : Thread Cert.MambaDtWIdeal.nD Cert.MambaDtWIdeal.τ).loc Cert.MambaDtWIdeal.main_v0) = v0 c
          ∧ r.2.mem ((c.tc : Thread Cert.MambaDtWIdeal.nD Cert.MambaDtWIdeal.τ).loc Cert.MambaDtWIdeal.main_arg0) = m ((c.tc : Thread Cert.MambaDtWIdeal.nD Cert.MambaDtWIdeal.τ).loc Cert.MambaDtWIdeal.main_arg0)
          ∧ r.2.mem ((c.tc : Thread Cert.MambaDtWIdeal.nD Cert.MambaDtWIdeal.τ).loc Cert.MambaDtWIdeal.main_arg1) = m ((c.tc : Thread Cert.MambaDtWIdeal.nD Cert.MambaDtWIdeal.τ).loc Cert.MambaDtWIdeal.main_arg1))
      ∧ θ_run (Cert.RefMambaDtWIdeal.defs (F := Ideal)) (onTc (τ := Cert.RefMambaDtWIdeal.τ) (Cert.RefMambaDtWIdeal.main (F := Ideal))) ⟨m', fun _ => 0, g'⟩ (fun r => ∀ c : Dev Cert.RefMambaDtWIdeal.nD,
          r.2.mem ((c.tc : Thread Cert.RefMambaDtWIdeal.nD Cert.RefMambaDtWIdeal.τ).loc Cert.RefMambaDtWIdeal.main_v6) = v0 c
          ∧ r.2.mem ((c.tc : Thread Cert.RefMambaDtWIdeal.nD Cert.RefMambaDtWIdeal.τ).loc Cert.RefMambaDtWIdeal.main_arg0) = m' ((c.tc : Thread Cert.RefMambaDtWIdeal.nD Cert.RefMambaDtWIdeal.τ).loc Cert.RefMambaDtWIdeal.main_arg0)
          ∧ r.2.mem ((c.tc : Thread Cert.RefMambaDtWIdeal.nD Cert.RefMambaDtWIdeal.τ).loc Cert.RefMambaDtWIdeal.main_arg1) = m' ((c.tc : Thread Cert.RefMambaDtWIdeal.nD Cert.RefMambaDtWIdeal.τ).loc Cert.RefMambaDtWIdeal.main_arg1))

def preserves_MambaDtX_MambaDtXIdeal : Prop :=
  True

def algebraic_MambaDtXIdeal_RefMambaDtXIdeal [hMambaDtXIdeal : Cert.MambaDtXIdeal.Facts] [hRefMambaDtXIdeal : Cert.RefMambaDtXIdeal.Facts] : Prop :=
  ∀ (m : (ℓ : Loc Cert.MambaDtXIdeal.nD Cert.MambaDtXIdeal.τ Cert.MambaDtXIdeal.sig) → Buf (Elt Ideal) ℓ) (g : Dev Cert.MambaDtXIdeal.nD → PrngReg)
    (m' : (ℓ : Loc Cert.RefMambaDtXIdeal.nD Cert.RefMambaDtXIdeal.τ Cert.RefMambaDtXIdeal.sig) → Buf (Elt Ideal) ℓ) (g' : Dev Cert.RefMambaDtXIdeal.nD → PrngReg), Pre_MambaDtXIdeal m →
    (∀ c : Dev Cert.MambaDtXIdeal.nD,
      m' ((c.tc : Thread Cert.RefMambaDtXIdeal.nD Cert.RefMambaDtXIdeal.τ).loc Cert.RefMambaDtXIdeal.main_arg0) = m ((c.tc : Thread Cert.MambaDtXIdeal.nD Cert.MambaDtXIdeal.τ).loc Cert.MambaDtXIdeal.main_arg0)
      ∧ m' ((c.tc : Thread Cert.RefMambaDtXIdeal.nD Cert.RefMambaDtXIdeal.τ).loc Cert.RefMambaDtXIdeal.main_arg1) = m ((c.tc : Thread Cert.MambaDtXIdeal.nD Cert.MambaDtXIdeal.τ).loc Cert.MambaDtXIdeal.main_arg1)
      ∧ m' ((c.tc : Thread Cert.RefMambaDtXIdeal.nD Cert.RefMambaDtXIdeal.τ).loc Cert.RefMambaDtXIdeal.main_arg2) = m ((c.tc : Thread Cert.MambaDtXIdeal.nD Cert.MambaDtXIdeal.τ).loc Cert.MambaDtXIdeal.main_arg2)) →
    ∃ (v0 : (c : Dev Cert.MambaDtXIdeal.nD) → Buf (Elt Ideal) ((c.tc : Thread Cert.MambaDtXIdeal.nD Cert.MambaDtXIdeal.τ).loc Cert.MambaDtXIdeal.main_v1)),
      θ_run (Cert.MambaDtXIdeal.defs (F := Ideal)) (onTc (τ := Cert.MambaDtXIdeal.τ) (Cert.MambaDtXIdeal.main (F := Ideal))) ⟨m, fun _ => 0, g⟩ (fun r => ∀ c : Dev Cert.MambaDtXIdeal.nD,
          r.2.mem ((c.tc : Thread Cert.MambaDtXIdeal.nD Cert.MambaDtXIdeal.τ).loc Cert.MambaDtXIdeal.main_v1) = v0 c
          ∧ r.2.mem ((c.tc : Thread Cert.MambaDtXIdeal.nD Cert.MambaDtXIdeal.τ).loc Cert.MambaDtXIdeal.main_arg0) = m ((c.tc : Thread Cert.MambaDtXIdeal.nD Cert.MambaDtXIdeal.τ).loc Cert.MambaDtXIdeal.main_arg0)
          ∧ r.2.mem ((c.tc : Thread Cert.MambaDtXIdeal.nD Cert.MambaDtXIdeal.τ).loc Cert.MambaDtXIdeal.main_arg1) = m ((c.tc : Thread Cert.MambaDtXIdeal.nD Cert.MambaDtXIdeal.τ).loc Cert.MambaDtXIdeal.main_arg1)
          ∧ r.2.mem ((c.tc : Thread Cert.MambaDtXIdeal.nD Cert.MambaDtXIdeal.τ).loc Cert.MambaDtXIdeal.main_arg2) = m ((c.tc : Thread Cert.MambaDtXIdeal.nD Cert.MambaDtXIdeal.τ).loc Cert.MambaDtXIdeal.main_arg2))
      ∧ θ_run (Cert.RefMambaDtXIdeal.defs (F := Ideal)) (onTc (τ := Cert.RefMambaDtXIdeal.τ) (Cert.RefMambaDtXIdeal.main (F := Ideal))) ⟨m', fun _ => 0, g'⟩ (fun r => ∀ c : Dev Cert.RefMambaDtXIdeal.nD,
          r.2.mem ((c.tc : Thread Cert.RefMambaDtXIdeal.nD Cert.RefMambaDtXIdeal.τ).loc Cert.RefMambaDtXIdeal.main_v6) = v0 c
          ∧ r.2.mem ((c.tc : Thread Cert.RefMambaDtXIdeal.nD Cert.RefMambaDtXIdeal.τ).loc Cert.RefMambaDtXIdeal.main_arg0) = m' ((c.tc : Thread Cert.RefMambaDtXIdeal.nD Cert.RefMambaDtXIdeal.τ).loc Cert.RefMambaDtXIdeal.main_arg0)
          ∧ r.2.mem ((c.tc : Thread Cert.RefMambaDtXIdeal.nD Cert.RefMambaDtXIdeal.τ).loc Cert.RefMambaDtXIdeal.main_arg1) = m' ((c.tc : Thread Cert.RefMambaDtXIdeal.nD Cert.RefMambaDtXIdeal.τ).loc Cert.RefMambaDtXIdeal.main_arg1)
          ∧ r.2.mem ((c.tc : Thread Cert.RefMambaDtXIdeal.nD Cert.RefMambaDtXIdeal.τ).loc Cert.RefMambaDtXIdeal.main_arg2) = m' ((c.tc : Thread Cert.RefMambaDtXIdeal.nD Cert.RefMambaDtXIdeal.τ).loc Cert.RefMambaDtXIdeal.main_arg2))

def preserves_LbB_LbBIdeal : Prop :=
  True

def algebraic_LbBIdeal_RefLbBIdeal [hLbBIdeal : Cert.LbBIdeal.Facts] [hRefLbBIdeal : Cert.RefLbBIdeal.Facts] : Prop :=
  ∀ (m : (ℓ : Loc Cert.LbBIdeal.nD Cert.LbBIdeal.τ Cert.LbBIdeal.sig) → Buf (Elt Ideal) ℓ) (g : Dev Cert.LbBIdeal.nD → PrngReg)
    (m' : (ℓ : Loc Cert.RefLbBIdeal.nD Cert.RefLbBIdeal.τ Cert.RefLbBIdeal.sig) → Buf (Elt Ideal) ℓ) (g' : Dev Cert.RefLbBIdeal.nD → PrngReg), Pre_LbBIdeal m →
    (∀ c : Dev Cert.LbBIdeal.nD,
      m' ((c.tc : Thread Cert.RefLbBIdeal.nD Cert.RefLbBIdeal.τ).loc Cert.RefLbBIdeal.main_arg0) = m ((c.tc : Thread Cert.LbBIdeal.nD Cert.LbBIdeal.τ).loc Cert.LbBIdeal.main_arg0)
      ∧ m' ((c.tc : Thread Cert.RefLbBIdeal.nD Cert.RefLbBIdeal.τ).loc Cert.RefLbBIdeal.main_arg1) = m ((c.tc : Thread Cert.LbBIdeal.nD Cert.LbBIdeal.τ).loc Cert.LbBIdeal.main_arg1)) →
    ∃ (v0 : (c : Dev Cert.LbBIdeal.nD) → Buf (Elt Ideal) ((c.tc : Thread Cert.LbBIdeal.nD Cert.LbBIdeal.τ).loc Cert.LbBIdeal.main_v0)),
      θ_run (Cert.LbBIdeal.defs (F := Ideal)) (onTc (τ := Cert.LbBIdeal.τ) (Cert.LbBIdeal.main (F := Ideal))) ⟨m, fun _ => 0, g⟩ (fun r => ∀ c : Dev Cert.LbBIdeal.nD,
          r.2.mem ((c.tc : Thread Cert.LbBIdeal.nD Cert.LbBIdeal.τ).loc Cert.LbBIdeal.main_v0) = v0 c
          ∧ r.2.mem ((c.tc : Thread Cert.LbBIdeal.nD Cert.LbBIdeal.τ).loc Cert.LbBIdeal.main_arg0) = m ((c.tc : Thread Cert.LbBIdeal.nD Cert.LbBIdeal.τ).loc Cert.LbBIdeal.main_arg0)
          ∧ r.2.mem ((c.tc : Thread Cert.LbBIdeal.nD Cert.LbBIdeal.τ).loc Cert.LbBIdeal.main_arg1) = m ((c.tc : Thread Cert.LbBIdeal.nD Cert.LbBIdeal.τ).loc Cert.LbBIdeal.main_arg1))
      ∧ θ_run (Cert.RefLbBIdeal.defs (F := Ideal)) (onTc (τ := Cert.RefLbBIdeal.τ) (Cert.RefLbBIdeal.main (F := Ideal))) ⟨m', fun _ => 0, g'⟩ (fun r => ∀ c : Dev Cert.RefLbBIdeal.nD,
          r.2.mem ((c.tc : Thread Cert.RefLbBIdeal.nD Cert.RefLbBIdeal.τ).loc Cert.RefLbBIdeal.main_v74) = v0 c
          ∧ r.2.mem ((c.tc : Thread Cert.RefLbBIdeal.nD Cert.RefLbBIdeal.τ).loc Cert.RefLbBIdeal.main_arg0) = m' ((c.tc : Thread Cert.RefLbBIdeal.nD Cert.RefLbBIdeal.τ).loc Cert.RefLbBIdeal.main_arg0)
          ∧ r.2.mem ((c.tc : Thread Cert.RefLbBIdeal.nD Cert.RefLbBIdeal.τ).loc Cert.RefLbBIdeal.main_arg1) = m' ((c.tc : Thread Cert.RefLbBIdeal.nD Cert.RefLbBIdeal.τ).loc Cert.RefLbBIdeal.main_arg1))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v5) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v3) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2))

def preserves_HgrnIn_HgrnInIdeal : Prop :=
  True

def algebraic_HgrnInIdeal_RefHgrnInIdeal [hHgrnInIdeal : Cert.HgrnInIdeal.Facts] [hRefHgrnInIdeal : Cert.RefHgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.RefHgrnInIdeal.nD Cert.RefHgrnInIdeal.τ Cert.RefHgrnInIdeal.sig) → Buf (Elt Ideal) ℓ) (g' : Dev Cert.RefHgrnInIdeal.nD → PrngReg), Pre_HgrnInIdeal m →
    (∀ c : Dev Cert.HgrnInIdeal.nD,
      m' ((c.tc : Thread Cert.RefHgrnInIdeal.nD Cert.RefHgrnInIdeal.τ).loc Cert.RefHgrnInIdeal.main_arg0) = m ((c.tc : Thread Cert.HgrnInIdeal.nD Cert.HgrnInIdeal.τ).loc Cert.HgrnInIdeal.main_arg0)
      ∧ m' ((c.tc : Thread Cert.RefHgrnInIdeal.nD Cert.RefHgrnInIdeal.τ).loc Cert.RefHgrnInIdeal.main_arg1) = m ((c.tc : Thread Cert.HgrnInIdeal.nD Cert.HgrnInIdeal.τ).loc Cert.HgrnInIdeal.main_arg1)) →
    ∃ (v0 : (c : Dev Cert.HgrnInIdeal.nD) → Buf (Elt Ideal) ((c.tc : Thread Cert.HgrnInIdeal.nD Cert.HgrnInIdeal.τ).loc Cert.HgrnInIdeal.main_v0)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v0) = v0 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ θ_run (Cert.RefHgrnInIdeal.defs (F := Ideal)) (onTc (τ := Cert.RefHgrnInIdeal.τ) (Cert.RefHgrnInIdeal.main (F := Ideal))) ⟨m', fun _ => 0, g'⟩ (fun r => ∀ c : Dev Cert.RefHgrnInIdeal.nD,
          r.2.mem ((c.tc : Thread Cert.RefHgrnInIdeal.nD Cert.RefHgrnInIdeal.τ).loc Cert.RefHgrnInIdeal.main_v4) = v0 c
          ∧ r.2.mem ((c.tc : Thread Cert.RefHgrnInIdeal.nD Cert.RefHgrnInIdeal.τ).loc Cert.RefHgrnInIdeal.main_arg0) = m' ((c.tc : Thread Cert.RefHgrnInIdeal.nD Cert.RefHgrnInIdeal.τ).loc Cert.RefHgrnInIdeal.main_arg0)
          ∧ r.2.mem ((c.tc : Thread Cert.RefHgrnInIdeal.nD Cert.RefHgrnInIdeal.τ).loc Cert.RefHgrnInIdeal.main_arg1) = m' ((c.tc : Thread Cert.RefHgrnInIdeal.nD Cert.RefHgrnInIdeal.τ).loc Cert.RefHgrnInIdeal.main_arg1))

def preserves_HgrnOut_HgrnOutIdeal : Prop :=
  True

def algebraic_HgrnOutIdeal_RefHgrnOutIdeal [hHgrnOutIdeal : Cert.HgrnOutIdeal.Facts] [hRefHgrnOutIdeal : Cert.RefHgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.RefHgrnOutIdeal.nD Cert.RefHgrnOutIdeal.τ Cert.RefHgrnOutIdeal.sig) → Buf (Elt Ideal) ℓ) (g' : Dev Cert.RefHgrnOutIdeal.nD → PrngReg), Pre_HgrnOutIdeal m →
    (∀ c : Dev Cert.HgrnOutIdeal.nD,
      m' ((c.tc : Thread Cert.RefHgrnOutIdeal.nD Cert.RefHgrnOutIdeal.τ).loc Cert.RefHgrnOutIdeal.main_arg0) = m ((c.tc : Thread Cert.HgrnOutIdeal.nD Cert.HgrnOutIdeal.τ).loc Cert.HgrnOutIdeal.main_arg0)
      ∧ m' ((c.tc : Thread Cert.RefHgrnOutIdeal.nD Cert.RefHgrnOutIdeal.τ).loc Cert.RefHgrnOutIdeal.main_arg1) = m ((c.tc : Thread Cert.HgrnOutIdeal.nD Cert.HgrnOutIdeal.τ).loc Cert.HgrnOutIdeal.main_arg1)
      ∧ m' ((c.tc : Thread Cert.RefHgrnOutIdeal.nD Cert.RefHgrnOutIdeal.τ).loc Cert.RefHgrnOutIdeal.main_arg2) = m ((c.tc : Thread Cert.HgrnOutIdeal.nD Cert.HgrnOutIdeal.τ).loc Cert.HgrnOutIdeal.main_arg2)) →
    ∃ (v0 : (c : Dev Cert.HgrnOutIdeal.nD) → Buf (Elt Ideal) ((c.tc : Thread Cert.HgrnOutIdeal.nD Cert.HgrnOutIdeal.τ).loc Cert.HgrnOutIdeal.main_v0)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v0) = v0 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2))
      ∧ θ_run (Cert.RefHgrnOutIdeal.defs (F := Ideal)) (onTc (τ := Cert.RefHgrnOutIdeal.τ) (Cert.RefHgrnOutIdeal.main (F := Ideal))) ⟨m', fun _ => 0, g'⟩ (fun r => ∀ c : Dev Cert.RefHgrnOutIdeal.nD,
          r.2.mem ((c.tc : Thread Cert.RefHgrnOutIdeal.nD Cert.RefHgrnOutIdeal.τ).loc Cert.RefHgrnOutIdeal.main_v3) = v0 c
          ∧ r.2.mem ((c.tc : Thread Cert.RefHgrnOutIdeal.nD Cert.RefHgrnOutIdeal.τ).loc Cert.RefHgrnOutIdeal.main_arg0) = m' ((c.tc : Thread Cert.RefHgrnOutIdeal.nD Cert.RefHgrnOutIdeal.τ).loc Cert.RefHgrnOutIdeal.main_arg0)
          ∧ r.2.mem ((c.tc : Thread Cert.RefHgrnOutIdeal.nD Cert.RefHgrnOutIdeal.τ).loc Cert.RefHgrnOutIdeal.main_arg1) = m' ((c.tc : Thread Cert.RefHgrnOutIdeal.nD Cert.RefHgrnOutIdeal.τ).loc Cert.RefHgrnOutIdeal.main_arg1)
          ∧ r.2.mem ((c.tc : Thread Cert.RefHgrnOutIdeal.nD Cert.RefHgrnOutIdeal.τ).loc Cert.RefHgrnOutIdeal.main_arg2) = m' ((c.tc : Thread Cert.RefHgrnOutIdeal.nD Cert.RefHgrnOutIdeal.τ).loc Cert.RefHgrnOutIdeal.main_arg2))

def preserves_MambaZ_MambaZIdeal : Prop :=
  True

def algebraic_MambaZIdeal_RefMambaZIdeal [hMambaZIdeal : Cert.MambaZIdeal.Facts] [hRefMambaZIdeal : Cert.RefMambaZIdeal.Facts] : Prop :=
  ∀ (m : (ℓ : Loc Cert.MambaZIdeal.nD Cert.MambaZIdeal.τ Cert.MambaZIdeal.sig) → Buf (Elt Ideal) ℓ) (g : Dev Cert.MambaZIdeal.nD → PrngReg)
    (m' : (ℓ : Loc Cert.RefMambaZIdeal.nD Cert.RefMambaZIdeal.τ Cert.RefMambaZIdeal.sig) → Buf (Elt Ideal) ℓ) (g' : Dev Cert.RefMambaZIdeal.nD → PrngReg), Pre_MambaZIdeal m →
    (∀ c : Dev Cert.MambaZIdeal.nD,
      m' ((c.tc : Thread Cert.RefMambaZIdeal.nD Cert.RefMambaZIdeal.τ).loc Cert.RefMambaZIdeal.main_arg0) = m ((c.tc : Thread Cert.MambaZIdeal.nD Cert.MambaZIdeal.τ).loc Cert.MambaZIdeal.main_arg0)
      ∧ m' ((c.tc : Thread Cert.RefMambaZIdeal.nD Cert.RefMambaZIdeal.τ).loc Cert.RefMambaZIdeal.main_arg1) = m ((c.tc : Thread Cert.MambaZIdeal.nD Cert.MambaZIdeal.τ).loc Cert.MambaZIdeal.main_arg1)) →
    ∃ (v0 : (c : Dev Cert.MambaZIdeal.nD) → Buf (Elt Ideal) ((c.tc : Thread Cert.MambaZIdeal.nD Cert.MambaZIdeal.τ).loc Cert.MambaZIdeal.main_v1)),
      θ_run (Cert.MambaZIdeal.defs (F := Ideal)) (onTc (τ := Cert.MambaZIdeal.τ) (Cert.MambaZIdeal.main (F := Ideal))) ⟨m, fun _ => 0, g⟩ (fun r => ∀ c : Dev Cert.MambaZIdeal.nD,
          r.2.mem ((c.tc : Thread Cert.MambaZIdeal.nD Cert.MambaZIdeal.τ).loc Cert.MambaZIdeal.main_v1) = v0 c
          ∧ r.2.mem ((c.tc : Thread Cert.MambaZIdeal.nD Cert.MambaZIdeal.τ).loc Cert.MambaZIdeal.main_arg0) = m ((c.tc : Thread Cert.MambaZIdeal.nD Cert.MambaZIdeal.τ).loc Cert.MambaZIdeal.main_arg0)
          ∧ r.2.mem ((c.tc : Thread Cert.MambaZIdeal.nD Cert.MambaZIdeal.τ).loc Cert.MambaZIdeal.main_arg1) = m ((c.tc : Thread Cert.MambaZIdeal.nD Cert.MambaZIdeal.τ).loc Cert.MambaZIdeal.main_arg1))
      ∧ θ_run (Cert.RefMambaZIdeal.defs (F := Ideal)) (onTc (τ := Cert.RefMambaZIdeal.τ) (Cert.RefMambaZIdeal.main (F := Ideal))) ⟨m', fun _ => 0, g'⟩ (fun r => ∀ c : Dev Cert.RefMambaZIdeal.nD,
          r.2.mem ((c.tc : Thread Cert.RefMambaZIdeal.nD Cert.RefMambaZIdeal.τ).loc Cert.RefMambaZIdeal.main_v3) = v0 c
          ∧ r.2.mem ((c.tc : Thread Cert.RefMambaZIdeal.nD Cert.RefMambaZIdeal.τ).loc Cert.RefMambaZIdeal.main_arg0) = m' ((c.tc : Thread Cert.RefMambaZIdeal.nD Cert.RefMambaZIdeal.τ).loc Cert.RefMambaZIdeal.main_arg0)
          ∧ r.2.mem ((c.tc : Thread Cert.RefMambaZIdeal.nD Cert.RefMambaZIdeal.τ).loc Cert.RefMambaZIdeal.main_arg1) = m' ((c.tc : Thread Cert.RefMambaZIdeal.nD Cert.RefMambaZIdeal.τ).loc Cert.RefMambaZIdeal.main_arg1))

def preserves_MambaXbc_MambaXbcIdeal : Prop :=
  True

def algebraic_MambaXbcIdeal_RefMambaXbcIdeal [hMambaXbcIdeal : Cert.MambaXbcIdeal.Facts] [hRefMambaXbcIdeal : Cert.RefMambaXbcIdeal.Facts] : Prop :=
  ∀ (m : (ℓ : Loc Cert.MambaXbcIdeal.nD Cert.MambaXbcIdeal.τ Cert.MambaXbcIdeal.sig) → Buf (Elt Ideal) ℓ) (g : Dev Cert.MambaXbcIdeal.nD → PrngReg)
    (m' : (ℓ : Loc Cert.RefMambaXbcIdeal.nD Cert.RefMambaXbcIdeal.τ Cert.RefMambaXbcIdeal.sig) → Buf (Elt Ideal) ℓ) (g' : Dev Cert.RefMambaXbcIdeal.nD → PrngReg), Pre_MambaXbcIdeal m →
    (∀ c : Dev Cert.MambaXbcIdeal.nD,
      m' ((c.tc : Thread Cert.RefMambaXbcIdeal.nD Cert.RefMambaXbcIdeal.τ).loc Cert.RefMambaXbcIdeal.main_arg0) = m ((c.tc : Thread Cert.MambaXbcIdeal.nD Cert.MambaXbcIdeal.τ).loc Cert.MambaXbcIdeal.main_arg0)
      ∧ m' ((c.tc : Thread Cert.RefMambaXbcIdeal.nD Cert.RefMambaXbcIdeal.τ).loc Cert.RefMambaXbcIdeal.main_arg1) = m ((c.tc : Thread Cert.MambaXbcIdeal.nD Cert.MambaXbcIdeal.τ).loc Cert.MambaXbcIdeal.main_arg1)) →
    ∃ (v0 : (c : Dev Cert.MambaXbcIdeal.nD) → Buf (Elt Ideal) ((c.tc : Thread Cert.MambaXbcIdeal.nD Cert.MambaXbcIdeal.τ).loc Cert.MambaXbcIdeal.main_v1)),
      θ_run (Cert.MambaXbcIdeal.defs (F := Ideal)) (onTc (τ := Cert.MambaXbcIdeal.τ) (Cert.MambaXbcIdeal.main (F := Ideal))) ⟨m, fun _ => 0, g⟩ (fun r => ∀ c : Dev Cert.MambaXbcIdeal.nD,
          r.2.mem ((c.tc : Thread Cert.MambaXbcIdeal.nD Cert.MambaXbcIdeal.τ).loc Cert.MambaXbcIdeal.main_v1) = v0 c
          ∧ r.2.mem ((c.tc : Thread Cert.MambaXbcIdeal.nD Cert.MambaXbcIdeal.τ).loc Cert.MambaXbcIdeal.main_arg0) = m ((c.tc : Thread Cert.MambaXbcIdeal.nD Cert.MambaXbcIdeal.τ).loc Cert.MambaXbcIdeal.main_arg0)
          ∧ r.2.mem ((c.tc : Thread Cert.MambaXbcIdeal.nD Cert.MambaXbcIdeal.τ).loc Cert.MambaXbcIdeal.main_arg1) = m ((c.tc : Thread Cert.MambaXbcIdeal.nD Cert.MambaXbcIdeal.τ).loc Cert.MambaXbcIdeal.main_arg1))
      ∧ θ_run (Cert.RefMambaXbcIdeal.defs (F := Ideal)) (onTc (τ := Cert.RefMambaXbcIdeal.τ) (Cert.RefMambaXbcIdeal.main (F := Ideal))) ⟨m', fun _ => 0, g'⟩ (fun r => ∀ c : Dev Cert.RefMambaXbcIdeal.nD,
          r.2.mem ((c.tc : Thread Cert.RefMambaXbcIdeal.nD Cert.RefMambaXbcIdeal.τ).loc Cert.RefMambaXbcIdeal.main_v3) = v0 c
          ∧ r.2.mem ((c.tc : Thread Cert.RefMambaXbcIdeal.nD Cert.RefMambaXbcIdeal.τ).loc Cert.RefMambaXbcIdeal.main_arg0) = m' ((c.tc : Thread Cert.RefMambaXbcIdeal.nD Cert.RefMambaXbcIdeal.τ).loc Cert.RefMambaXbcIdeal.main_arg0)
          ∧ r.2.mem ((c.tc : Thread Cert.RefMambaXbcIdeal.nD Cert.RefMambaXbcIdeal.τ).loc Cert.RefMambaXbcIdeal.main_arg1) = m' ((c.tc : Thread Cert.RefMambaXbcIdeal.nD Cert.RefMambaXbcIdeal.τ).loc Cert.RefMambaXbcIdeal.main_arg1))

def preserves_MambaDt_MambaDtIdeal : Prop :=
  True

def algebraic_MambaDtIdeal_RefMambaDtIdeal [hMambaDtIdeal : Cert.MambaDtIdeal.Facts] [hRefMambaDtIdeal : Cert.RefMambaDtIdeal.Facts] : Prop :=
  ∀ (m : (ℓ : Loc Cert.MambaDtIdeal.nD Cert.MambaDtIdeal.τ Cert.MambaDtIdeal.sig) → Buf (Elt Ideal) ℓ) (g : Dev Cert.MambaDtIdeal.nD → PrngReg)
    (m' : (ℓ : Loc Cert.RefMambaDtIdeal.nD Cert.RefMambaDtIdeal.τ Cert.RefMambaDtIdeal.sig) → Buf (Elt Ideal) ℓ) (g' : Dev Cert.RefMambaDtIdeal.nD → PrngReg), Pre_MambaDtIdeal m →
    (∀ c : Dev Cert.MambaDtIdeal.nD,
      m' ((c.tc : Thread Cert.RefMambaDtIdeal.nD Cert.RefMambaDtIdeal.τ).loc Cert.RefMambaDtIdeal.main_arg0) = m ((c.tc : Thread Cert.MambaDtIdeal.nD Cert.MambaDtIdeal.τ).loc Cert.MambaDtIdeal.main_arg0)
      ∧ m' ((c.tc : Thread Cert.RefMambaDtIdeal.nD Cert.RefMambaDtIdeal.τ).loc Cert.RefMambaDtIdeal.main_arg1) = m ((c.tc : Thread Cert.MambaDtIdeal.nD Cert.MambaDtIdeal.τ).loc Cert.MambaDtIdeal.main_arg1)) →
    ∃ (v0 : (c : Dev Cert.MambaDtIdeal.nD) → Buf (Elt Ideal) ((c.tc : Thread Cert.MambaDtIdeal.nD Cert.MambaDtIdeal.τ).loc Cert.MambaDtIdeal.main_v1)),
      θ_run (Cert.MambaDtIdeal.defs (F := Ideal)) (onTc (τ := Cert.MambaDtIdeal.τ) (Cert.MambaDtIdeal.main (F := Ideal))) ⟨m, fun _ => 0, g⟩ (fun r => ∀ c : Dev Cert.MambaDtIdeal.nD,
          r.2.mem ((c.tc : Thread Cert.MambaDtIdeal.nD Cert.MambaDtIdeal.τ).loc Cert.MambaDtIdeal.main_v1) = v0 c
          ∧ r.2.mem ((c.tc : Thread Cert.MambaDtIdeal.nD Cert.MambaDtIdeal.τ).loc Cert.MambaDtIdeal.main_arg0) = m ((c.tc : Thread Cert.MambaDtIdeal.nD Cert.MambaDtIdeal.τ).loc Cert.MambaDtIdeal.main_arg0)
          ∧ r.2.mem ((c.tc : Thread Cert.MambaDtIdeal.nD Cert.MambaDtIdeal.τ).loc Cert.MambaDtIdeal.main_arg1) = m ((c.tc : Thread Cert.MambaDtIdeal.nD Cert.MambaDtIdeal.τ).loc Cert.MambaDtIdeal.main_arg1))
      ∧ θ_run (Cert.RefMambaDtIdeal.defs (F := Ideal)) (onTc (τ := Cert.RefMambaDtIdeal.τ) (Cert.RefMambaDtIdeal.main (F := Ideal))) ⟨m', fun _ => 0, g'⟩ (fun r => ∀ c : Dev Cert.RefMambaDtIdeal.nD,
          r.2.mem ((c.tc : Thread Cert.RefMambaDtIdeal.nD Cert.RefMambaDtIdeal.τ).loc Cert.RefMambaDtIdeal.main_v3) = v0 c
          ∧ r.2.mem ((c.tc : Thread Cert.RefMambaDtIdeal.nD Cert.RefMambaDtIdeal.τ).loc Cert.RefMambaDtIdeal.main_arg0) = m' ((c.tc : Thread Cert.RefMambaDtIdeal.nD Cert.RefMambaDtIdeal.τ).loc Cert.RefMambaDtIdeal.main_arg0)
          ∧ r.2.mem ((c.tc : Thread Cert.RefMambaDtIdeal.nD Cert.RefMambaDtIdeal.τ).loc Cert.RefMambaDtIdeal.main_arg1) = m' ((c.tc : Thread Cert.RefMambaDtIdeal.nD Cert.RefMambaDtIdeal.τ).loc Cert.RefMambaDtIdeal.main_arg1))

def preserves_MambaOut_MambaOutIdeal : Prop :=
  True

def algebraic_MambaOutIdeal_RefMambaOutIdeal [hMambaOutIdeal : Cert.MambaOutIdeal.Facts] [hRefMambaOutIdeal : Cert.RefMambaOutIdeal.Facts] : Prop :=
  ∀ (m : (ℓ : Loc Cert.MambaOutIdeal.nD Cert.MambaOutIdeal.τ Cert.MambaOutIdeal.sig) → Buf (Elt Ideal) ℓ) (g : Dev Cert.MambaOutIdeal.nD → PrngReg)
    (m' : (ℓ : Loc Cert.RefMambaOutIdeal.nD Cert.RefMambaOutIdeal.τ Cert.RefMambaOutIdeal.sig) → Buf (Elt Ideal) ℓ) (g' : Dev Cert.RefMambaOutIdeal.nD → PrngReg), Pre_MambaOutIdeal m →
    (∀ c : Dev Cert.MambaOutIdeal.nD,
      m' ((c.tc : Thread Cert.RefMambaOutIdeal.nD Cert.RefMambaOutIdeal.τ).loc Cert.RefMambaOutIdeal.main_arg0) = m ((c.tc : Thread Cert.MambaOutIdeal.nD Cert.MambaOutIdeal.τ).loc Cert.MambaOutIdeal.main_arg0)
      ∧ m' ((c.tc : Thread Cert.RefMambaOutIdeal.nD Cert.RefMambaOutIdeal.τ).loc Cert.RefMambaOutIdeal.main_arg1) = m ((c.tc : Thread Cert.MambaOutIdeal.nD Cert.MambaOutIdeal.τ).loc Cert.MambaOutIdeal.main_arg1)
      ∧ m' ((c.tc : Thread Cert.RefMambaOutIdeal.nD Cert.RefMambaOutIdeal.τ).loc Cert.RefMambaOutIdeal.main_arg2) = m ((c.tc : Thread Cert.MambaOutIdeal.nD Cert.MambaOutIdeal.τ).loc Cert.MambaOutIdeal.main_arg2)) →
    ∃ (v0 : (c : Dev Cert.MambaOutIdeal.nD) → Buf (Elt Ideal) ((c.tc : Thread Cert.MambaOutIdeal.nD Cert.MambaOutIdeal.τ).loc Cert.MambaOutIdeal.main_v0)),
      θ_run (Cert.MambaOutIdeal.defs (F := Ideal)) (onTc (τ := Cert.MambaOutIdeal.τ) (Cert.MambaOutIdeal.main (F := Ideal))) ⟨m, fun _ => 0, g⟩ (fun r => ∀ c : Dev Cert.MambaOutIdeal.nD,
          r.2.mem ((c.tc : Thread Cert.MambaOutIdeal.nD Cert.MambaOutIdeal.τ).loc Cert.MambaOutIdeal.main_v0) = v0 c
          ∧ r.2.mem ((c.tc : Thread Cert.MambaOutIdeal.nD Cert.MambaOutIdeal.τ).loc Cert.MambaOutIdeal.main_arg0) = m ((c.tc : Thread Cert.MambaOutIdeal.nD Cert.MambaOutIdeal.τ).loc Cert.MambaOutIdeal.main_arg0)
          ∧ r.2.mem ((c.tc : Thread Cert.MambaOutIdeal.nD Cert.MambaOutIdeal.τ).loc Cert.MambaOutIdeal.main_arg1) = m ((c.tc : Thread Cert.MambaOutIdeal.nD Cert.MambaOutIdeal.τ).loc Cert.MambaOutIdeal.main_arg1)
          ∧ r.2.mem ((c.tc : Thread Cert.MambaOutIdeal.nD Cert.MambaOutIdeal.τ).loc Cert.MambaOutIdeal.main_arg2) = m ((c.tc : Thread Cert.MambaOutIdeal.nD Cert.MambaOutIdeal.τ).loc Cert.MambaOutIdeal.main_arg2))
      ∧ θ_run (Cert.RefMambaOutIdeal.defs (F := Ideal)) (onTc (τ := Cert.RefMambaOutIdeal.τ) (Cert.RefMambaOutIdeal.main (F := Ideal))) ⟨m', fun _ => 0, g'⟩ (fun r => ∀ c : Dev Cert.RefMambaOutIdeal.nD,
          r.2.mem ((c.tc : Thread Cert.RefMambaOutIdeal.nD Cert.RefMambaOutIdeal.τ).loc Cert.RefMambaOutIdeal.main_v3) = v0 c
          ∧ r.2.mem ((c.tc : Thread Cert.RefMambaOutIdeal.nD Cert.RefMambaOutIdeal.τ).loc Cert.RefMambaOutIdeal.main_arg0) = m' ((c.tc : Thread Cert.RefMambaOutIdeal.nD Cert.RefMambaOutIdeal.τ).loc Cert.RefMambaOutIdeal.main_arg0)
          ∧ r.2.mem ((c.tc : Thread Cert.RefMambaOutIdeal.nD Cert.RefMambaOutIdeal.τ).loc Cert.RefMambaOutIdeal.main_arg1) = m' ((c.tc : Thread Cert.RefMambaOutIdeal.nD Cert.RefMambaOutIdeal.τ).loc Cert.RefMambaOutIdeal.main_arg1)
          ∧ r.2.mem ((c.tc : Thread Cert.RefMambaOutIdeal.nD Cert.RefMambaOutIdeal.τ).loc Cert.RefMambaOutIdeal.main_arg2) = m' ((c.tc : Thread Cert.RefMambaOutIdeal.nD Cert.RefMambaOutIdeal.τ).loc Cert.RefMambaOutIdeal.main_arg2))

def preserves_RmsF_RmsFIdeal : Prop :=
  True

def algebraic_RmsFIdeal_RefRmsFIdeal [hRmsFIdeal : Cert.RmsFIdeal.Facts] [hRefRmsFIdeal : Cert.RefRmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RefRmsFIdeal.nD Cert.RefRmsFIdeal.τ Cert.RefRmsFIdeal.sig) → Buf (Elt Ideal) ℓ) (g' : Dev Cert.RefRmsFIdeal.nD → PrngReg), Pre_RmsFIdeal m →
    (∀ c : Dev Cert.RmsFIdeal.nD,
      m' ((c.tc : Thread Cert.RefRmsFIdeal.nD Cert.RefRmsFIdeal.τ).loc Cert.RefRmsFIdeal.main_arg0) = m ((c.tc : Thread Cert.RmsFIdeal.nD Cert.RmsFIdeal.τ).loc Cert.RmsFIdeal.main_arg0)
      ∧ m' ((c.tc : Thread Cert.RefRmsFIdeal.nD Cert.RefRmsFIdeal.τ).loc Cert.RefRmsFIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v1)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v1) = v0 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RefRmsFIdeal.defs (F := Ideal)) (onTc (τ := Cert.RefRmsFIdeal.τ) (Cert.RefRmsFIdeal.main (F := Ideal))) ⟨m', fun _ => 0, g'⟩ (fun r => ∀ c : Dev Cert.RefRmsFIdeal.nD,
          r.2.mem ((c.tc : Thread Cert.RefRmsFIdeal.nD Cert.RefRmsFIdeal.τ).loc Cert.RefRmsFIdeal.main_v13) = v0 c
          ∧ r.2.mem ((c.tc : Thread Cert.RefRmsFIdeal.nD Cert.RefRmsFIdeal.τ).loc Cert.RefRmsFIdeal.main_arg0) = m' ((c.tc : Thread Cert.RefRmsFIdeal.nD Cert.RefRmsFIdeal.τ).loc Cert.RefRmsFIdeal.main_arg0)
          ∧ r.2.mem ((c.tc : Thread Cert.RefRmsFIdeal.nD Cert.RefRmsFIdeal.τ).loc Cert.RefRmsFIdeal.main_arg1) = m' ((c.tc : Thread Cert.RefRmsFIdeal.nD Cert.RefRmsFIdeal.τ).loc Cert.RefRmsFIdeal.main_arg1))

def preserves_MgateF_MgateFIdeal : Prop :=
  True

def algebraic_MgateFIdeal_RefMgateFIdeal [hMgateFIdeal : Cert.MgateFIdeal.Facts] [hRefMgateFIdeal : Cert.RefMgateFIdeal.Facts] : Prop :=
  ∀ (m : (ℓ : Loc Cert.MgateFIdeal.nD Cert.MgateFIdeal.τ Cert.MgateFIdeal.sig) → Buf (Elt Ideal) ℓ) (g : Dev Cert.MgateFIdeal.nD → PrngReg)
    (m' : (ℓ : Loc Cert.RefMgateFIdeal.nD Cert.RefMgateFIdeal.τ Cert.RefMgateFIdeal.sig) → Buf (Elt Ideal) ℓ) (g' : Dev Cert.RefMgateFIdeal.nD → PrngReg), Pre_MgateFIdeal m →
    (∀ c : Dev Cert.MgateFIdeal.nD,
      m' ((c.tc : Thread Cert.RefMgateFIdeal.nD Cert.RefMgateFIdeal.τ).loc Cert.RefMgateFIdeal.main_arg0) = m ((c.tc : Thread Cert.MgateFIdeal.nD Cert.MgateFIdeal.τ).loc Cert.MgateFIdeal.main_arg0)
      ∧ m' ((c.tc : Thread Cert.RefMgateFIdeal.nD Cert.RefMgateFIdeal.τ).loc Cert.RefMgateFIdeal.main_arg1) = m ((c.tc : Thread Cert.MgateFIdeal.nD Cert.MgateFIdeal.τ).loc Cert.MgateFIdeal.main_arg1)
      ∧ m' ((c.tc : Thread Cert.RefMgateFIdeal.nD Cert.RefMgateFIdeal.τ).loc Cert.RefMgateFIdeal.main_arg2) = m ((c.tc : Thread Cert.MgateFIdeal.nD Cert.MgateFIdeal.τ).loc Cert.MgateFIdeal.main_arg2)) →
    ∃ (v0 : (c : Dev Cert.MgateFIdeal.nD) → Buf (Elt Ideal) ((c.tc : Thread Cert.MgateFIdeal.nD Cert.MgateFIdeal.τ).loc Cert.MgateFIdeal.main_v1)),
      θ_run (Cert.MgateFIdeal.defs (F := Ideal)) (onTc (τ := Cert.MgateFIdeal.τ) (Cert.MgateFIdeal.main (F := Ideal))) ⟨m, fun _ => 0, g⟩ (fun r => ∀ c : Dev Cert.MgateFIdeal.nD,
          r.2.mem ((c.tc : Thread Cert.MgateFIdeal.nD Cert.MgateFIdeal.τ).loc Cert.MgateFIdeal.main_v1) = v0 c
          ∧ r.2.mem ((c.tc : Thread Cert.MgateFIdeal.nD Cert.MgateFIdeal.τ).loc Cert.MgateFIdeal.main_arg0) = m ((c.tc : Thread Cert.MgateFIdeal.nD Cert.MgateFIdeal.τ).loc Cert.MgateFIdeal.main_arg0)
          ∧ r.2.mem ((c.tc : Thread Cert.MgateFIdeal.nD Cert.MgateFIdeal.τ).loc Cert.MgateFIdeal.main_arg1) = m ((c.tc : Thread Cert.MgateFIdeal.nD Cert.MgateFIdeal.τ).loc Cert.MgateFIdeal.main_arg1)
          ∧ r.2.mem ((c.tc : Thread Cert.MgateFIdeal.nD Cert.MgateFIdeal.τ).loc Cert.MgateFIdeal.main_arg2) = m ((c.tc : Thread Cert.MgateFIdeal.nD Cert.MgateFIdeal.τ).loc Cert.MgateFIdeal.main_arg2))
      ∧ θ_run (Cert.RefMgateFIdeal.defs (F := Ideal)) (onTc (τ := Cert.RefMgateFIdeal.τ) (Cert.RefMgateFIdeal.main (F := Ideal))) ⟨m', fun _ => 0, g'⟩ (fun r => ∀ c : Dev Cert.RefMgateFIdeal.nD,
          r.2.mem ((c.tc : Thread Cert.RefMgateFIdeal.nD Cert.RefMgateFIdeal.τ).loc Cert.RefMgateFIdeal.main_v17) = v0 c
          ∧ r.2.mem ((c.tc : Thread Cert.RefMgateFIdeal.nD Cert.RefMgateFIdeal.τ).loc Cert.RefMgateFIdeal.main_arg0) = m' ((c.tc : Thread Cert.RefMgateFIdeal.nD Cert.RefMgateFIdeal.τ).loc Cert.RefMgateFIdeal.main_arg0)
          ∧ r.2.mem ((c.tc : Thread Cert.RefMgateFIdeal.nD Cert.RefMgateFIdeal.τ).loc Cert.RefMgateFIdeal.main_arg1) = m' ((c.tc : Thread Cert.RefMgateFIdeal.nD Cert.RefMgateFIdeal.τ).loc Cert.RefMgateFIdeal.main_arg1)
          ∧ r.2.mem ((c.tc : Thread Cert.RefMgateFIdeal.nD Cert.RefMgateFIdeal.τ).loc Cert.RefMgateFIdeal.main_arg2) = m' ((c.tc : Thread Cert.RefMgateFIdeal.nD Cert.RefMgateFIdeal.τ).loc Cert.RefMgateFIdeal.main_arg2))

def preserves_ConvF_ConvFIdeal : Prop :=
  True

def algebraic_ConvFIdeal_RefConvFIdeal [hConvFIdeal : Cert.ConvFIdeal.Facts] [hRefConvFIdeal : Cert.RefConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.RefConvFIdeal.nD Cert.RefConvFIdeal.τ Cert.RefConvFIdeal.sig) → Buf (Elt Ideal) ℓ) (g' : Dev Cert.RefConvFIdeal.nD → PrngReg), Pre_ConvFIdeal m →
    (∀ c : Dev Cert.ConvFIdeal.nD,
      m' ((c.tc : Thread Cert.RefConvFIdeal.nD Cert.RefConvFIdeal.τ).loc Cert.RefConvFIdeal.main_arg0) = m ((c.tc : Thread Cert.ConvFIdeal.nD Cert.ConvFIdeal.τ).loc Cert.ConvFIdeal.main_arg0)
      ∧ m' ((c.tc : Thread Cert.RefConvFIdeal.nD Cert.RefConvFIdeal.τ).loc Cert.RefConvFIdeal.main_arg1) = m ((c.tc : Thread Cert.ConvFIdeal.nD Cert.ConvFIdeal.τ).loc Cert.ConvFIdeal.main_arg1)
      ∧ m' ((c.tc : Thread Cert.RefConvFIdeal.nD Cert.RefConvFIdeal.τ).loc Cert.RefConvFIdeal.main_arg2) = m ((c.tc : Thread Cert.ConvFIdeal.nD Cert.ConvFIdeal.τ).loc Cert.ConvFIdeal.main_arg2)) →
    ∃ (v0 : (c : Dev Cert.ConvFIdeal.nD) → Buf (Elt Ideal) ((c.tc : Thread Cert.ConvFIdeal.nD Cert.ConvFIdeal.τ).loc Cert.ConvFIdeal.main_v1)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v1) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ θ_run (Cert.RefConvFIdeal.defs (F := Ideal)) (onTc (τ := Cert.RefConvFIdeal.τ) (Cert.RefConvFIdeal.main (F := Ideal))) ⟨m', fun _ => 0, g'⟩ (fun r => ∀ c : Dev Cert.RefConvFIdeal.nD,
          r.2.mem ((c.tc : Thread Cert.RefConvFIdeal.nD Cert.RefConvFIdeal.τ).loc Cert.RefConvFIdeal.main_v36) = v0 c
          ∧ r.2.mem ((c.tc : Thread Cert.RefConvFIdeal.nD Cert.RefConvFIdeal.τ).loc Cert.RefConvFIdeal.main_arg0) = m' ((c.tc : Thread Cert.RefConvFIdeal.nD Cert.RefConvFIdeal.τ).loc Cert.RefConvFIdeal.main_arg0)
          ∧ r.2.mem ((c.tc : Thread Cert.RefConvFIdeal.nD Cert.RefConvFIdeal.τ).loc Cert.RefConvFIdeal.main_arg1) = m' ((c.tc : Thread Cert.RefConvFIdeal.nD Cert.RefConvFIdeal.τ).loc Cert.RefConvFIdeal.main_arg1)
          ∧ r.2.mem ((c.tc : Thread Cert.RefConvFIdeal.nD Cert.RefConvFIdeal.τ).loc Cert.RefConvFIdeal.main_arg2) = m' ((c.tc : Thread Cert.RefConvFIdeal.nD Cert.RefConvFIdeal.τ).loc Cert.RefConvFIdeal.main_arg2))

def preserves_GateF_GateFIdeal : Prop :=
  True

def algebraic_GateFIdeal_RefGateFIdeal [hGateFIdeal : Cert.GateFIdeal.Facts] [hRefGateFIdeal : Cert.RefGateFIdeal.Facts] : Prop :=
  ∀ (m : (ℓ : Loc Cert.GateFIdeal.nD Cert.GateFIdeal.τ Cert.GateFIdeal.sig) → Buf (Elt Ideal) ℓ) (g : Dev Cert.GateFIdeal.nD → PrngReg)
    (m' : (ℓ : Loc Cert.RefGateFIdeal.nD Cert.RefGateFIdeal.τ Cert.RefGateFIdeal.sig) → Buf (Elt Ideal) ℓ) (g' : Dev Cert.RefGateFIdeal.nD → PrngReg), Pre_GateFIdeal m →
    (∀ c : Dev Cert.GateFIdeal.nD,
      m' ((c.tc : Thread Cert.RefGateFIdeal.nD Cert.RefGateFIdeal.τ).loc Cert.RefGateFIdeal.main_arg0) = m ((c.tc : Thread Cert.GateFIdeal.nD Cert.GateFIdeal.τ).loc Cert.GateFIdeal.main_arg0)
      ∧ m' ((c.tc : Thread Cert.RefGateFIdeal.nD Cert.RefGateFIdeal.τ).loc Cert.RefGateFIdeal.main_arg1) = m ((c.tc : Thread Cert.GateFIdeal.nD Cert.GateFIdeal.τ).loc Cert.GateFIdeal.main_arg1)
      ∧ m' ((c.tc : Thread Cert.RefGateFIdeal.nD Cert.RefGateFIdeal.τ).loc Cert.RefGateFIdeal.main_arg2) = m ((c.tc : Thread Cert.GateFIdeal.nD Cert.GateFIdeal.τ).loc Cert.GateFIdeal.main_arg2)) →
    ∃ (v0 : (c : Dev Cert.GateFIdeal.nD) → Buf (Elt Ideal) ((c.tc : Thread Cert.GateFIdeal.nD Cert.GateFIdeal.τ).loc Cert.GateFIdeal.main_v2_0)) (v1 : (c : Dev Cert.GateFIdeal.nD) → Buf (Elt Ideal) ((c.tc : Thread Cert.GateFIdeal.nD Cert.GateFIdeal.τ).loc Cert.GateFIdeal.main_v2_1)),
      θ_run (Cert.GateFIdeal.defs (F := Ideal)) (onTc (τ := Cert.GateFIdeal.τ) (Cert.GateFIdeal.main (F := Ideal))) ⟨m, fun _ => 0, g⟩ (fun r => ∀ c : Dev Cert.GateFIdeal.nD,
          r.2.mem ((c.tc : Thread Cert.GateFIdeal.nD Cert.GateFIdeal.τ).loc Cert.GateFIdeal.main_v2_0) = v0 c
          ∧ r.2.mem ((c.tc : Thread Cert.GateFIdeal.nD Cert.GateFIdeal.τ).loc Cert.GateFIdeal.main_v2_1) = v1 c
          ∧ r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
          ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
          ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2))
      ∧ θ_run (Cert.RefGateFIdeal.defs (F := Ideal)) (onTc (τ := Cert.RefGateFIdeal.τ) (Cert.RefGateFIdeal.main (F := Ideal))) ⟨m', fun _ => 0, g'⟩ (fun r => ∀ c : Dev Cert.RefGateFIdeal.nD,
          r.2.mem ((c.tc : Thread Cert.RefGateFIdeal.nD Cert.RefGateFIdeal.τ).loc Cert.RefGateFIdeal.main_v34) = v0 c
          ∧ r.2.mem ((c.tc : Thread Cert.RefGateFIdeal.nD Cert.RefGateFIdeal.τ).loc Cert.RefGateFIdeal.main_v38) = v1 c
          ∧ r.2.mem ((c.tc : Thread Cert.RefGateFIdeal.nD Cert.RefGateFIdeal.τ).loc Cert.RefGateFIdeal.main_arg0) = m' ((c.tc : Thread Cert.RefGateFIdeal.nD Cert.RefGateFIdeal.τ).loc Cert.RefGateFIdeal.main_arg0)
          ∧ r.2.mem ((c.tc : Thread Cert.RefGateFIdeal.nD Cert.RefGateFIdeal.τ).loc Cert.RefGateFIdeal.main_arg1) = m' ((c.tc : Thread Cert.RefGateFIdeal.nD Cert.RefGateFIdeal.τ).loc Cert.RefGateFIdeal.main_arg1)
          ∧ r.2.mem ((c.tc : Thread Cert.RefGateFIdeal.nD Cert.RefGateFIdeal.τ).loc Cert.RefGateFIdeal.main_arg2) = m' ((c.tc : Thread Cert.RefGateFIdeal.nD Cert.RefGateFIdeal.τ).loc Cert.RefGateFIdeal.main_arg2))

def preserves_HgrnF_HgrnFIdeal : Prop :=
  True

def algebraic_HgrnFIdeal_RefHgrnFIdeal_pre_bounded_hgrn_f [hHgrnFIdeal : Cert.HgrnFIdeal.Facts] [hRefHgrnFIdeal : Cert.RefHgrnFIdeal.Facts] [hPre_bounded_hgrn_f : Cert.Pre_bounded_hgrn_f.Facts] : Prop :=
  ∀ (m : (ℓ : Loc Cert.HgrnFIdeal.nD Cert.HgrnFIdeal.τ Cert.HgrnFIdeal.sig) → Buf (Elt Ideal) ℓ) (g : Dev Cert.HgrnFIdeal.nD → PrngReg)
    (m' : (ℓ : Loc Cert.RefHgrnFIdeal.nD Cert.RefHgrnFIdeal.τ Cert.RefHgrnFIdeal.sig) → Buf (Elt Ideal) ℓ) (g' : Dev Cert.RefHgrnFIdeal.nD → PrngReg), Pre_HgrnFIdeal_bounded_hgrn_f m →
    (∀ c : Dev Cert.HgrnFIdeal.nD,
      m' ((c.tc : Thread Cert.RefHgrnFIdeal.nD Cert.RefHgrnFIdeal.τ).loc Cert.RefHgrnFIdeal.main_arg0) = m ((c.tc : Thread Cert.HgrnFIdeal.nD Cert.HgrnFIdeal.τ).loc Cert.HgrnFIdeal.main_arg0)
      ∧ m' ((c.tc : Thread Cert.RefHgrnFIdeal.nD Cert.RefHgrnFIdeal.τ).loc Cert.RefHgrnFIdeal.main_arg1) = m ((c.tc : Thread Cert.HgrnFIdeal.nD Cert.HgrnFIdeal.τ).loc Cert.HgrnFIdeal.main_arg1)
      ∧ m' ((c.tc : Thread Cert.RefHgrnFIdeal.nD Cert.RefHgrnFIdeal.τ).loc Cert.RefHgrnFIdeal.main_arg2) = m ((c.tc : Thread Cert.HgrnFIdeal.nD Cert.HgrnFIdeal.τ).loc Cert.HgrnFIdeal.main_arg2)) →
    ∃ (v0 : (c : Dev Cert.HgrnFIdeal.nD) → Buf (Elt Ideal) ((c.tc : Thread Cert.HgrnFIdeal.nD Cert.HgrnFIdeal.τ).loc Cert.HgrnFIdeal.main_v2_0)) (v1 : (c : Dev Cert.HgrnFIdeal.nD) → Buf (Elt Ideal) ((c.tc : Thread Cert.HgrnFIdeal.nD Cert.HgrnFIdeal.τ).loc Cert.HgrnFIdeal.main_v2_1)),
      θ_run (Cert.HgrnFIdeal.defs (F := Ideal)) (onTc (τ := Cert.HgrnFIdeal.τ) (Cert.HgrnFIdeal.main (F := Ideal))) ⟨m, fun _ => 0, g⟩ (fun r => ∀ c : Dev Cert.HgrnFIdeal.nD,
          r.2.mem ((c.tc : Thread Cert.HgrnFIdeal.nD Cert.HgrnFIdeal.τ).loc Cert.HgrnFIdeal.main_v2_0) = v0 c
          ∧ r.2.mem ((c.tc : Thread Cert.HgrnFIdeal.nD Cert.HgrnFIdeal.τ).loc Cert.HgrnFIdeal.main_v2_1) = v1 c
          ∧ r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
          ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1)
          ∧ r.2.mem ((c.tc : Thread Cert.HgrnFIdeal.nD Cert.HgrnFIdeal.τ).loc Cert.HgrnFIdeal.main_arg2) = m ((c.tc : Thread Cert.HgrnFIdeal.nD Cert.HgrnFIdeal.τ).loc Cert.HgrnFIdeal.main_arg2))
      ∧ θ_run (Cert.RefHgrnFIdeal.defs (F := Ideal)) (onTc (τ := Cert.RefHgrnFIdeal.τ) (Cert.RefHgrnFIdeal.main (F := Ideal))) ⟨m', fun _ => 0, g'⟩ (fun r => ∀ c : Dev Cert.RefHgrnFIdeal.nD,
          r.2.mem ((c.tc : Thread Cert.RefHgrnFIdeal.nD Cert.RefHgrnFIdeal.τ).loc Cert.RefHgrnFIdeal.main_v105) = v0 c
          ∧ r.2.mem ((c.tc : Thread Cert.RefHgrnFIdeal.nD Cert.RefHgrnFIdeal.τ).loc Cert.RefHgrnFIdeal.main_v103) = v1 c
          ∧ r.2.mem ((c.tc : Thread Cert.RefHgrnFIdeal.nD Cert.RefHgrnFIdeal.τ).loc Cert.RefHgrnFIdeal.main_arg0) = m' ((c.tc : Thread Cert.RefHgrnFIdeal.nD Cert.RefHgrnFIdeal.τ).loc Cert.RefHgrnFIdeal.main_arg0)
          ∧ r.2.mem ((c.tc : Thread Cert.RefHgrnFIdeal.nD Cert.RefHgrnFIdeal.τ).loc Cert.RefHgrnFIdeal.main_arg1) = m' ((c.tc : Thread Cert.RefHgrnFIdeal.nD Cert.RefHgrnFIdeal.τ).loc Cert.RefHgrnFIdeal.main_arg1)
          ∧ r.2.mem ((c.tc : Thread Cert.RefHgrnFIdeal.nD Cert.RefHgrnFIdeal.τ).loc Cert.RefHgrnFIdeal.main_arg2) = m' ((c.tc : Thread Cert.RefHgrnFIdeal.nD Cert.RefHgrnFIdeal.τ).loc Cert.RefHgrnFIdeal.main_arg2))

def preserves_LbF_LbFIdeal : Prop :=
  True

def algebraic_LbFIdeal_RefLbFIdeal [hLbFIdeal : Cert.LbFIdeal.Facts] [hRefLbFIdeal : Cert.RefLbFIdeal.Facts] : Prop :=
  ∀ (m : (ℓ : Loc Cert.LbFIdeal.nD Cert.LbFIdeal.τ Cert.LbFIdeal.sig) → Buf (Elt Ideal) ℓ) (g : Dev Cert.LbFIdeal.nD → PrngReg)
    (m' : (ℓ : Loc Cert.RefLbFIdeal.nD Cert.RefLbFIdeal.τ Cert.RefLbFIdeal.sig) → Buf (Elt Ideal) ℓ) (g' : Dev Cert.RefLbFIdeal.nD → PrngReg), Pre_LbFIdeal m →
    (∀ c : Dev Cert.LbFIdeal.nD,
      m' ((c.tc : Thread Cert.RefLbFIdeal.nD Cert.RefLbFIdeal.τ).loc Cert.RefLbFIdeal.main_arg0) = m ((c.tc : Thread Cert.LbFIdeal.nD Cert.LbFIdeal.τ).loc Cert.LbFIdeal.main_arg0)) →
    ∃ (v0 : (c : Dev Cert.LbFIdeal.nD) → Buf (Elt Ideal) ((c.tc : Thread Cert.LbFIdeal.nD Cert.LbFIdeal.τ).loc Cert.LbFIdeal.main_v0)),
      θ_run (Cert.LbFIdeal.defs (F := Ideal)) (onTc (τ := Cert.LbFIdeal.τ) (Cert.LbFIdeal.main (F := Ideal))) ⟨m, fun _ => 0, g⟩ (fun r => ∀ c : Dev Cert.LbFIdeal.nD,
          r.2.mem ((c.tc : Thread Cert.LbFIdeal.nD Cert.LbFIdeal.τ).loc Cert.LbFIdeal.main_v0) = v0 c
          ∧ r.2.mem ((c.tc : Thread Cert.LbFIdeal.nD Cert.LbFIdeal.τ).loc Cert.LbFIdeal.main_arg0) = m ((c.tc : Thread Cert.LbFIdeal.nD Cert.LbFIdeal.τ).loc Cert.LbFIdeal.main_arg0))
      ∧ θ_run (Cert.RefLbFIdeal.defs (F := Ideal)) (onTc (τ := Cert.RefLbFIdeal.τ) (Cert.RefLbFIdeal.main (F := Ideal))) ⟨m', fun _ => 0, g'⟩ (fun r => ∀ c : Dev Cert.RefLbFIdeal.nD,
          r.2.mem ((c.tc : Thread Cert.RefLbFIdeal.nD Cert.RefLbFIdeal.τ).loc Cert.RefLbFIdeal.main_v25) = v0 c
          ∧ r.2.mem ((c.tc : Thread Cert.RefLbFIdeal.nD Cert.RefLbFIdeal.τ).loc Cert.RefLbFIdeal.main_arg0) = m' ((c.tc : Thread Cert.RefLbFIdeal.nD Cert.RefLbFIdeal.τ).loc Cert.RefLbFIdeal.main_arg0))

def preserves_Loss_LossIdeal : Prop :=
  True

def algebraic_LossIdeal_RefLossIdeal [hLossIdeal : Cert.LossIdeal.Facts] [hRefLossIdeal : Cert.RefLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)
      ∧ m' ((c.tc : Thread Cert.RefLossIdeal.nD Cert.RefLossIdeal.τ).loc Cert.RefLossIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v51) = v0 c
          ∧ r.2.mem ((c.tc : Thread Cert.RefLossIdeal.nD Cert.RefLossIdeal.τ).loc Cert.RefLossIdeal.main_v50) = v1 c
          ∧ r.2.mem ((c.tc : Thread Cert.RefLossIdeal.nD Cert.RefLossIdeal.τ).loc Cert.RefLossIdeal.main_v52) = v2 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1)
          ∧ r.2.mem ((c.tc : Thread Cert.RefLossIdeal.nD Cert.RefLossIdeal.τ).loc Cert.RefLossIdeal.main_arg2) = m' ((c.tc : Thread Cert.RefLossIdeal.nD Cert.RefLossIdeal.τ).loc Cert.RefLossIdeal.main_arg2))

def preserves_AdamSmall_AdamSmallIdeal : Prop :=
  True

def algebraic_AdamSmallIdeal_RefAdamSmallIdeal [hAdamSmallIdeal : Cert.AdamSmallIdeal.Facts] [hRefAdamSmallIdeal : Cert.RefAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RefAdamSmallIdeal.nD Cert.RefAdamSmallIdeal.τ Cert.RefAdamSmallIdeal.sig) → Buf (Elt Ideal) ℓ) (g' : Dev Cert.RefAdamSmallIdeal.nD → PrngReg), Pre_AdamSmallIdeal m →
    (∀ c : Dev Cert.AdamSmallIdeal.nD,
      m' ((c.tc : Thread Cert.RefAdamSmallIdeal.nD Cert.RefAdamSmallIdeal.τ).loc Cert.RefAdamSmallIdeal.main_arg0) = m ((c.tc : Thread Cert.AdamSmallIdeal.nD Cert.AdamSmallIdeal.τ).loc Cert.AdamSmallIdeal.main_arg0)
      ∧ m' ((c.tc : Thread Cert.RefAdamSmallIdeal.nD Cert.RefAdamSmallIdeal.τ).loc Cert.RefAdamSmallIdeal.main_arg1) = m ((c.tc : Thread Cert.AdamSmallIdeal.nD Cert.AdamSmallIdeal.τ).loc Cert.AdamSmallIdeal.main_arg1)
      ∧ m' ((c.tc : Thread Cert.RefAdamSmallIdeal.nD Cert.RefAdamSmallIdeal.τ).loc Cert.RefAdamSmallIdeal.main_arg2) = m ((c.tc : Thread Cert.AdamSmallIdeal.nD Cert.AdamSmallIdeal.τ).loc Cert.AdamSmallIdeal.main_arg2)
      ∧ m' ((c.tc : Thread Cert.RefAdamSmallIdeal.nD Cert.RefAdamSmallIdeal.τ).loc Cert.RefAdamSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.RefAdamSmallIdeal.defs (F := Ideal)) (onTc (τ := Cert.RefAdamSmallIdeal.τ) (Cert.RefAdamSmallIdeal.main (F := Ideal))) ⟨m', fun _ => 0, g'⟩ (fun r => ∀ c : Dev Cert.RefAdamSmallIdeal.nD,
          r.2.mem ((c.tc : Thread Cert.RefAdamSmallIdeal.nD Cert.RefAdamSmallIdeal.τ).loc Cert.RefAdamSmallIdeal.main_v23) = v0 c
          ∧ r.2.mem ((c.tc : Thread Cert.RefAdamSmallIdeal.nD Cert.RefAdamSmallIdeal.τ).loc Cert.RefAdamSmallIdeal.main_v4) = v1 c
          ∧ r.2.mem ((c.tc : Thread Cert.RefAdamSmallIdeal.nD Cert.RefAdamSmallIdeal.τ).loc Cert.RefAdamSmallIdeal.main_v10) = v2 c
          ∧ r.2.mem ((c.tc : Thread Cert.RefAdamSmallIdeal.nD Cert.RefAdamSmallIdeal.τ).loc Cert.RefAdamSmallIdeal.main_arg0) = m' ((c.tc : Thread Cert.RefAdamSmallIdeal.nD Cert.RefAdamSmallIdeal.τ).loc Cert.RefAdamSmallIdeal.main_arg0)
          ∧ r.2.mem ((c.tc : Thread Cert.RefAdamSmallIdeal.nD Cert.RefAdamSmallIdeal.τ).loc Cert.RefAdamSmallIdeal.main_arg1) = m' ((c.tc : Thread Cert.RefAdamSmallIdeal.nD Cert.RefAdamSmallIdeal.τ).loc Cert.RefAdamSmallIdeal.main_arg1)
          ∧ r.2.mem ((c.tc : Thread Cert.RefAdamSmallIdeal.nD Cert.RefAdamSmallIdeal.τ).loc Cert.RefAdamSmallIdeal.main_arg2) = m' ((c.tc : Thread Cert.RefAdamSmallIdeal.nD Cert.RefAdamSmallIdeal.τ).loc Cert.RefAdamSmallIdeal.main_arg2)
          ∧ r.2.mem ((c.tc : Thread Cert.RefAdamSmallIdeal.nD Cert.RefAdamSmallIdeal.τ).loc Cert.RefAdamSmallIdeal.main_arg3) = m' ((c.tc : Thread Cert.RefAdamSmallIdeal.nD Cert.RefAdamSmallIdeal.τ).loc Cert.RefAdamSmallIdeal.main_arg3))

def preserves_AdamHgrnIn_AdamHgrnInIdeal : Prop :=
  True

def algebraic_AdamHgrnInIdeal_RefAdamHgrnInIdeal [hAdamHgrnInIdeal : Cert.AdamHgrnInIdeal.Facts] [hRefAdamHgrnInIdeal : Cert.RefAdamHgrnInIdeal.Facts] : Prop :=
  ∀ (m : (ℓ : Loc Cert.AdamHgrnInIdeal.nD Cert.AdamHgrnInIdeal.τ Cert.AdamHgrnInIdeal.sig) → Buf (Elt Ideal) ℓ) (g : Dev Cert.AdamHgrnInIdeal.nD → PrngReg)
    (m' : (ℓ : Loc Cert.RefAdamHgrnInIdeal.nD Cert.RefAdamHgrnInIdeal.τ Cert.RefAdamHgrnInIdeal.sig) → Buf (Elt Ideal) ℓ) (g' : Dev Cert.RefAdamHgrnInIdeal.nD → PrngReg), Pre_AdamHgrnInIdeal m →
    (∀ c : Dev Cert.AdamHgrnInIdeal.nD,
      m' ((c.tc : Thread Cert.RefAdamHgrnInIdeal.nD Cert.RefAdamHgrnInIdeal.τ).loc Cert.RefAdamHgrnInIdeal.main_arg0) = m ((c.tc : Thread Cert.AdamHgrnInIdeal.nD Cert.AdamHgrnInIdeal.τ).loc Cert.AdamHgrnInIdeal.main_arg0)
      ∧ m' ((c.tc : Thread Cert.RefAdamHgrnInIdeal.nD Cert.RefAdamHgrnInIdeal.τ).loc Cert.RefAdamHgrnInIdeal.main_arg1) = m ((c.tc : Thread Cert.AdamHgrnInIdeal.nD Cert.AdamHgrnInIdeal.τ).loc Cert.AdamHgrnInIdeal.main_arg1)
      ∧ m' ((c.tc : Thread Cert.RefAdamHgrnInIdeal.nD Cert.RefAdamHgrnInIdeal.τ).loc Cert.RefAdamHgrnInIdeal.main_arg2) = m ((c.tc : Thread Cert.AdamHgrnInIdeal.nD Cert.AdamHgrnInIdeal.τ).loc Cert.AdamHgrnInIdeal.main_arg2)
      ∧ m' ((c.tc : Thread Cert.RefAdamHgrnInIdeal.nD Cert.RefAdamHgrnInIdeal.τ).loc Cert.RefAdamHgrnInIdeal.main_arg3) = m ((c.tc : Thread Cert.AdamHgrnInIdeal.nD Cert.AdamHgrnInIdeal.τ).loc Cert.AdamHgrnInIdeal.main_arg3)) →
    ∃ (v0 : (c : Dev Cert.AdamHgrnInIdeal.nD) → Buf (Elt Ideal) ((c.tc : Thread Cert.AdamHgrnInIdeal.nD Cert.AdamHgrnInIdeal.τ).loc Cert.AdamHgrnInIdeal.main_v0_0)) (v1 : (c : Dev Cert.AdamHgrnInIdeal.nD) → Buf (Elt Ideal) ((c.tc : Thread Cert.AdamHgrnInIdeal.nD Cert.AdamHgrnInIdeal.τ).loc Cert.AdamHgrnInIdeal.main_v0_1)) (v2 : (c : Dev Cert.AdamHgrnInIdeal.nD) → Buf (Elt Ideal) ((c.tc : Thread Cert.AdamHgrnInIdeal.nD Cert.AdamHgrnInIdeal.τ).loc Cert.AdamHgrnInIdeal.main_v0_2)) (v3 : (c : Dev Cert.AdamHgrnInIdeal.nD) → Buf (Elt Ideal) ((c.tc : Thread Cert.AdamHgrnInIdeal.nD Cert.AdamHgrnInIdeal.τ).loc Cert.AdamHgrnInIdeal.main_v0_3)),
      θ_run (Cert.AdamHgrnInIdeal.defs (F := Ideal)) (onTc (τ := Cert.AdamHgrnInIdeal.τ) (Cert.AdamHgrnInIdeal.main (F := Ideal))) ⟨m, fun _ => 0, g⟩ (fun r => ∀ c : Dev Cert.AdamHgrnInIdeal.nD,
          r.2.mem ((c.tc : Thread Cert.AdamHgrnInIdeal.nD Cert.AdamHgrnInIdeal.τ).loc Cert.AdamHgrnInIdeal.main_v0_0) = v0 c
          ∧ r.2.mem ((c.tc : Thread Cert.AdamHgrnInIdeal.nD Cert.AdamHgrnInIdeal.τ).loc Cert.AdamHgrnInIdeal.main_v0_1) = v1 c
          ∧ r.2.mem ((c.tc : Thread Cert.AdamHgrnInIdeal.nD Cert.AdamHgrnInIdeal.τ).loc Cert.AdamHgrnInIdeal.main_v0_2) = v2 c
          ∧ r.2.mem ((c.tc : Thread Cert.AdamHgrnInIdeal.nD Cert.AdamHgrnInIdeal.τ).loc Cert.AdamHgrnInIdeal.main_v0_3) = v3 c
          ∧ r.2.mem ((c.tc : Thread Cert.AdamHgrnInIdeal.nD Cert.AdamHgrnInIdeal.τ).loc Cert.AdamHgrnInIdeal.main_arg0) = m ((c.tc : Thread Cert.AdamHgrnInIdeal.nD Cert.AdamHgrnInIdeal.τ).loc Cert.AdamHgrnInIdeal.main_arg0)
          ∧ r.2.mem ((c.tc : Thread Cert.AdamHgrnInIdeal.nD Cert.AdamHgrnInIdeal.τ).loc Cert.AdamHgrnInIdeal.main_arg1) = m ((c.tc : Thread Cert.AdamHgrnInIdeal.nD Cert.AdamHgrnInIdeal.τ).loc Cert.AdamHgrnInIdeal.main_arg1)
          ∧ r.2.mem ((c.tc : Thread Cert.AdamHgrnInIdeal.nD Cert.AdamHgrnInIdeal.τ).loc Cert.AdamHgrnInIdeal.main_arg2) = m ((c.tc : Thread Cert.AdamHgrnInIdeal.nD Cert.AdamHgrnInIdeal.τ).loc Cert.AdamHgrnInIdeal.main_arg2)
          ∧ r.2.mem ((c.tc : Thread Cert.AdamHgrnInIdeal.nD Cert.AdamHgrnInIdeal.τ).loc Cert.AdamHgrnInIdeal.main_arg3) = m ((c.tc : Thread Cert.AdamHgrnInIdeal.nD Cert.AdamHgrnInIdeal.τ).loc Cert.AdamHgrnInIdeal.main_arg3))
      ∧ θ_run (Cert.RefAdamHgrnInIdeal.defs (F := Ideal)) (onTc (τ := Cert.RefAdamHgrnInIdeal.τ) (Cert.RefAdamHgrnInIdeal.main (F := Ideal))) ⟨m', fun _ => 0, g'⟩ (fun r => ∀ c : Dev Cert.RefAdamHgrnInIdeal.nD,
          r.2.mem ((c.tc : Thread Cert.RefAdamHgrnInIdeal.nD Cert.RefAdamHgrnInIdeal.τ).loc Cert.RefAdamHgrnInIdeal.main_v1) = v0 c
          ∧ r.2.mem ((c.tc : Thread Cert.RefAdamHgrnInIdeal.nD Cert.RefAdamHgrnInIdeal.τ).loc Cert.RefAdamHgrnInIdeal.main_v25) = v1 c
          ∧ r.2.mem ((c.tc : Thread Cert.RefAdamHgrnInIdeal.nD Cert.RefAdamHgrnInIdeal.τ).loc Cert.RefAdamHgrnInIdeal.main_v6) = v2 c
          ∧ r.2.mem ((c.tc : Thread Cert.RefAdamHgrnInIdeal.nD Cert.RefAdamHgrnInIdeal.τ).loc Cert.RefAdamHgrnInIdeal.main_v12) = v3 c
          ∧ r.2.mem ((c.tc : Thread Cert.RefAdamHgrnInIdeal.nD Cert.RefAdamHgrnInIdeal.τ).loc Cert.RefAdamHgrnInIdeal.main_arg0) = m' ((c.tc : Thread Cert.RefAdamHgrnInIdeal.nD Cert.RefAdamHgrnInIdeal.τ).loc Cert.RefAdamHgrnInIdeal.main_arg0)
          ∧ r.2.mem ((c.tc : Thread Cert.RefAdamHgrnInIdeal.nD Cert.RefAdamHgrnInIdeal.τ).loc Cert.RefAdamHgrnInIdeal.main_arg1) = m' ((c.tc : Thread Cert.RefAdamHgrnInIdeal.nD Cert.RefAdamHgrnInIdeal.τ).loc Cert.RefAdamHgrnInIdeal.main_arg1)
          ∧ r.2.mem ((c.tc : Thread Cert.RefAdamHgrnInIdeal.nD Cert.RefAdamHgrnInIdeal.τ).loc Cert.RefAdamHgrnInIdeal.main_arg2) = m' ((c.tc : Thread Cert.RefAdamHgrnInIdeal.nD Cert.RefAdamHgrnInIdeal.τ).loc Cert.RefAdamHgrnInIdeal.main_arg2)
          ∧ r.2.mem ((c.tc : Thread Cert.RefAdamHgrnInIdeal.nD Cert.RefAdamHgrnInIdeal.τ).loc Cert.RefAdamHgrnInIdeal.main_arg3) = m' ((c.tc : Thread Cert.RefAdamHgrnInIdeal.nD Cert.RefAdamHgrnInIdeal.τ).loc Cert.RefAdamHgrnInIdeal.main_arg3))

def preserves_AdamHgrnOut_AdamHgrnOutIdeal : Prop :=
  True

def algebraic_AdamHgrnOutIdeal_RefAdamHgrnOutIdeal [hAdamHgrnOutIdeal : Cert.AdamHgrnOutIdeal.Facts] [hRefAdamHgrnOutIdeal : Cert.RefAdamHgrnOutIdeal.Facts] : Prop :=
  ∀ (m : (ℓ : Loc Cert.AdamHgrnOutIdeal.nD Cert.AdamHgrnOutIdeal.τ Cert.AdamHgrnOutIdeal.sig) → Buf (Elt Ideal) ℓ) (g : Dev Cert.AdamHgrnOutIdeal.nD → PrngReg)
    (m' : (ℓ : Loc Cert.RefAdamHgrnOutIdeal.nD Cert.RefAdamHgrnOutIdeal.τ Cert.RefAdamHgrnOutIdeal.sig) → Buf (Elt Ideal) ℓ) (g' : Dev Cert.RefAdamHgrnOutIdeal.nD → PrngReg), Pre_AdamHgrnOutIdeal m →
    (∀ c : Dev Cert.AdamHgrnOutIdeal.nD,
      m' ((c.tc : Thread Cert.RefAdamHgrnOutIdeal.nD Cert.RefAdamHgrnOutIdeal.τ).loc Cert.RefAdamHgrnOutIdeal.main_arg0) = m ((c.tc : Thread Cert.AdamHgrnOutIdeal.nD Cert.AdamHgrnOutIdeal.τ).loc Cert.AdamHgrnOutIdeal.main_arg0)
      ∧ m' ((c.tc : Thread Cert.RefAdamHgrnOutIdeal.nD Cert.RefAdamHgrnOutIdeal.τ).loc Cert.RefAdamHgrnOutIdeal.main_arg1) = m ((c.tc : Thread Cert.AdamHgrnOutIdeal.nD Cert.AdamHgrnOutIdeal.τ).loc Cert.AdamHgrnOutIdeal.main_arg1)
      ∧ m' ((c.tc : Thread Cert.RefAdamHgrnOutIdeal.nD Cert.RefAdamHgrnOutIdeal.τ).loc Cert.RefAdamHgrnOutIdeal.main_arg2) = m ((c.tc : Thread Cert.AdamHgrnOutIdeal.nD Cert.AdamHgrnOutIdeal.τ).loc Cert.AdamHgrnOutIdeal.main_arg2)
      ∧ m' ((c.tc : Thread Cert.RefAdamHgrnOutIdeal.nD Cert.RefAdamHgrnOutIdeal.τ).loc Cert.RefAdamHgrnOutIdeal.main_arg3) = m ((c.tc : Thread Cert.AdamHgrnOutIdeal.nD Cert.AdamHgrnOutIdeal.τ).loc Cert.AdamHgrnOutIdeal.main_arg3)) →
    ∃ (v0 : (c : Dev Cert.AdamHgrnOutIdeal.nD) → Buf (Elt Ideal) ((c.tc : Thread Cert.AdamHgrnOutIdeal.nD Cert.AdamHgrnOutIdeal.τ).loc Cert.AdamHgrnOutIdeal.main_v0_0)) (v1 : (c : Dev Cert.AdamHgrnOutIdeal.nD) → Buf (Elt Ideal) ((c.tc : Thread Cert.AdamHgrnOutIdeal.nD Cert.AdamHgrnOutIdeal.τ).loc Cert.AdamHgrnOutIdeal.main_v0_1)) (v2 : (c : Dev Cert.AdamHgrnOutIdeal.nD) → Buf (Elt Ideal) ((c.tc : Thread Cert.AdamHgrnOutIdeal.nD Cert.AdamHgrnOutIdeal.τ).loc Cert.AdamHgrnOutIdeal.main_v0_2)) (v3 : (c : Dev Cert.AdamHgrnOutIdeal.nD) → Buf (Elt Ideal) ((c.tc : Thread Cert.AdamHgrnOutIdeal.nD Cert.AdamHgrnOutIdeal.τ).loc Cert.AdamHgrnOutIdeal.main_v0_3)),
      θ_run (Cert.AdamHgrnOutIdeal.defs (F := Ideal)) (onTc (τ := Cert.AdamHgrnOutIdeal.τ) (Cert.AdamHgrnOutIdeal.main (F := Ideal))) ⟨m, fun _ => 0, g⟩ (fun r => ∀ c : Dev Cert.AdamHgrnOutIdeal.nD,
          r.2.mem ((c.tc : Thread Cert.AdamHgrnOutIdeal.nD Cert.AdamHgrnOutIdeal.τ).loc Cert.AdamHgrnOutIdeal.main_v0_0) = v0 c
          ∧ r.2.mem ((c.tc : Thread Cert.AdamHgrnOutIdeal.nD Cert.AdamHgrnOutIdeal.τ).loc Cert.AdamHgrnOutIdeal.main_v0_1) = v1 c
          ∧ r.2.mem ((c.tc : Thread Cert.AdamHgrnOutIdeal.nD Cert.AdamHgrnOutIdeal.τ).loc Cert.AdamHgrnOutIdeal.main_v0_2) = v2 c
          ∧ r.2.mem ((c.tc : Thread Cert.AdamHgrnOutIdeal.nD Cert.AdamHgrnOutIdeal.τ).loc Cert.AdamHgrnOutIdeal.main_v0_3) = v3 c
          ∧ r.2.mem ((c.tc : Thread Cert.AdamHgrnOutIdeal.nD Cert.AdamHgrnOutIdeal.τ).loc Cert.AdamHgrnOutIdeal.main_arg0) = m ((c.tc : Thread Cert.AdamHgrnOutIdeal.nD Cert.AdamHgrnOutIdeal.τ).loc Cert.AdamHgrnOutIdeal.main_arg0)
          ∧ r.2.mem ((c.tc : Thread Cert.AdamHgrnOutIdeal.nD Cert.AdamHgrnOutIdeal.τ).loc Cert.AdamHgrnOutIdeal.main_arg1) = m ((c.tc : Thread Cert.AdamHgrnOutIdeal.nD Cert.AdamHgrnOutIdeal.τ).loc Cert.AdamHgrnOutIdeal.main_arg1)
          ∧ r.2.mem ((c.tc : Thread Cert.AdamHgrnOutIdeal.nD Cert.AdamHgrnOutIdeal.τ).loc Cert.AdamHgrnOutIdeal.main_arg2) = m ((c.tc : Thread Cert.AdamHgrnOutIdeal.nD Cert.AdamHgrnOutIdeal.τ).loc Cert.AdamHgrnOutIdeal.main_arg2)
          ∧ r.2.mem ((c.tc : Thread Cert.AdamHgrnOutIdeal.nD Cert.AdamHgrnOutIdeal.τ).loc Cert.AdamHgrnOutIdeal.main_arg3) = m ((c.tc : Thread Cert.AdamHgrnOutIdeal.nD Cert.AdamHgrnOutIdeal.τ).loc Cert.AdamHgrnOutIdeal.main_arg3))
      ∧ θ_run (Cert.RefAdamHgrnOutIdeal.defs (F := Ideal)) (onTc (τ := Cert.RefAdamHgrnOutIdeal.τ) (Cert.RefAdamHgrnOutIdeal.main (F := Ideal))) ⟨m', fun _ => 0, g'⟩ (fun r => ∀ c : Dev Cert.RefAdamHgrnOutIdeal.nD,
          r.2.mem ((c.tc : Thread Cert.RefAdamHgrnOutIdeal.nD Cert.RefAdamHgrnOutIdeal.τ).loc Cert.RefAdamHgrnOutIdeal.main_v1) = v0 c
          ∧ r.2.mem ((c.tc : Thread Cert.RefAdamHgrnOutIdeal.nD Cert.RefAdamHgrnOutIdeal.τ).loc Cert.RefAdamHgrnOutIdeal.main_v25) = v1 c
          ∧ r.2.mem ((c.tc : Thread Cert.RefAdamHgrnOutIdeal.nD Cert.RefAdamHgrnOutIdeal.τ).loc Cert.RefAdamHgrnOutIdeal.main_v6) = v2 c
          ∧ r.2.mem ((c.tc : Thread Cert.RefAdamHgrnOutIdeal.nD Cert.RefAdamHgrnOutIdeal.τ).loc Cert.RefAdamHgrnOutIdeal.main_v12) = v3 c
          ∧ r.2.mem ((c.tc : Thread Cert.RefAdamHgrnOutIdeal.nD Cert.RefAdamHgrnOutIdeal.τ).loc Cert.RefAdamHgrnOutIdeal.main_arg0) = m' ((c.tc : Thread Cert.RefAdamHgrnOutIdeal.nD Cert.RefAdamHgrnOutIdeal.τ).loc Cert.RefAdamHgrnOutIdeal.main_arg0)
          ∧ r.2.mem ((c.tc : Thread Cert.RefAdamHgrnOutIdeal.nD Cert.RefAdamHgrnOutIdeal.τ).loc Cert.RefAdamHgrnOutIdeal.main_arg1) = m' ((c.tc : Thread Cert.RefAdamHgrnOutIdeal.nD Cert.RefAdamHgrnOutIdeal.τ).loc Cert.RefAdamHgrnOutIdeal.main_arg1)
          ∧ r.2.mem ((c.tc : Thread Cert.RefAdamHgrnOutIdeal.nD Cert.RefAdamHgrnOutIdeal.τ).loc Cert.RefAdamHgrnOutIdeal.main_arg2) = m' ((c.tc : Thread Cert.RefAdamHgrnOutIdeal.nD Cert.RefAdamHgrnOutIdeal.τ).loc Cert.RefAdamHgrnOutIdeal.main_arg2)
          ∧ r.2.mem ((c.tc : Thread Cert.RefAdamHgrnOutIdeal.nD Cert.RefAdamHgrnOutIdeal.τ).loc Cert.RefAdamHgrnOutIdeal.main_arg3) = m' ((c.tc : Thread Cert.RefAdamHgrnOutIdeal.nD Cert.RefAdamHgrnOutIdeal.τ).loc Cert.RefAdamHgrnOutIdeal.main_arg3))

def preserves_AdamMambaIn_AdamMambaInIdeal : Prop :=
  True

def algebraic_AdamMambaInIdeal_RefAdamMambaInIdeal [hAdamMambaInIdeal : Cert.AdamMambaInIdeal.Facts] [hRefAdamMambaInIdeal : Cert.RefAdamMambaInIdeal.Facts] : Prop :=
  ∀ (m : (ℓ : Loc Cert.AdamMambaInIdeal.nD Cert.AdamMambaInIdeal.τ Cert.AdamMambaInIdeal.sig) → Buf (Elt Ideal) ℓ) (g : Dev Cert.AdamMambaInIdeal.nD → PrngReg)
    (m' : (ℓ : Loc Cert.RefAdamMambaInIdeal.nD Cert.RefAdamMambaInIdeal.τ Cert.RefAdamMambaInIdeal.sig) → Buf (Elt Ideal) ℓ) (g' : Dev Cert.RefAdamMambaInIdeal.nD → PrngReg), Pre_AdamMambaInIdeal m →
    (∀ c : Dev Cert.AdamMambaInIdeal.nD,
      m' ((c.tc : Thread Cert.RefAdamMambaInIdeal.nD Cert.RefAdamMambaInIdeal.τ).loc Cert.RefAdamMambaInIdeal.main_arg0) = m ((c.tc : Thread Cert.AdamMambaInIdeal.nD Cert.AdamMambaInIdeal.τ).loc Cert.AdamMambaInIdeal.main_arg0)
      ∧ m' ((c.tc : Thread Cert.RefAdamMambaInIdeal.nD Cert.RefAdamMambaInIdeal.τ).loc Cert.RefAdamMambaInIdeal.main_arg1) = m ((c.tc : Thread Cert.AdamMambaInIdeal.nD Cert.AdamMambaInIdeal.τ).loc Cert.AdamMambaInIdeal.main_arg1)
      ∧ m' ((c.tc : Thread Cert.RefAdamMambaInIdeal.nD Cert.RefAdamMambaInIdeal.τ).loc Cert.RefAdamMambaInIdeal.main_arg2) = m ((c.tc : Thread Cert.AdamMambaInIdeal.nD Cert.AdamMambaInIdeal.τ).loc Cert.AdamMambaInIdeal.main_arg2)
      ∧ m' ((c.tc : Thread Cert.RefAdamMambaInIdeal.nD Cert.RefAdamMambaInIdeal.τ).loc Cert.RefAdamMambaInIdeal.main_arg3) = m ((c.tc : Thread Cert.AdamMambaInIdeal.nD Cert.AdamMambaInIdeal.τ).loc Cert.AdamMambaInIdeal.main_arg3)) →
    ∃ (v0 : (c : Dev Cert.AdamMambaInIdeal.nD) → Buf (Elt Ideal) ((c.tc : Thread Cert.AdamMambaInIdeal.nD Cert.AdamMambaInIdeal.τ).loc Cert.AdamMambaInIdeal.main_v0_0)) (v1 : (c : Dev Cert.AdamMambaInIdeal.nD) → Buf (Elt Ideal) ((c.tc : Thread Cert.AdamMambaInIdeal.nD Cert.AdamMambaInIdeal.τ).loc Cert.AdamMambaInIdeal.main_v0_1)) (v2 : (c : Dev Cert.AdamMambaInIdeal.nD) → Buf (Elt Ideal) ((c.tc : Thread Cert.AdamMambaInIdeal.nD Cert.AdamMambaInIdeal.τ).loc Cert.AdamMambaInIdeal.main_v0_2)) (v3 : (c : Dev Cert.AdamMambaInIdeal.nD) → Buf (Elt Ideal) ((c.tc : Thread Cert.AdamMambaInIdeal.nD Cert.AdamMambaInIdeal.τ).loc Cert.AdamMambaInIdeal.main_v0_3)),
      θ_run (Cert.AdamMambaInIdeal.defs (F := Ideal)) (onTc (τ := Cert.AdamMambaInIdeal.τ) (Cert.AdamMambaInIdeal.main (F := Ideal))) ⟨m, fun _ => 0, g⟩ (fun r => ∀ c : Dev Cert.AdamMambaInIdeal.nD,
          r.2.mem ((c.tc : Thread Cert.AdamMambaInIdeal.nD Cert.AdamMambaInIdeal.τ).loc Cert.AdamMambaInIdeal.main_v0_0) = v0 c
          ∧ r.2.mem ((c.tc : Thread Cert.AdamMambaInIdeal.nD Cert.AdamMambaInIdeal.τ).loc Cert.AdamMambaInIdeal.main_v0_1) = v1 c
          ∧ r.2.mem ((c.tc : Thread Cert.AdamMambaInIdeal.nD Cert.AdamMambaInIdeal.τ).loc Cert.AdamMambaInIdeal.main_v0_2) = v2 c
          ∧ r.2.mem ((c.tc : Thread Cert.AdamMambaInIdeal.nD Cert.AdamMambaInIdeal.τ).loc Cert.AdamMambaInIdeal.main_v0_3) = v3 c
          ∧ r.2.mem ((c.tc : Thread Cert.AdamMambaInIdeal.nD Cert.AdamMambaInIdeal.τ).loc Cert.AdamMambaInIdeal.main_arg0) = m ((c.tc : Thread Cert.AdamMambaInIdeal.nD Cert.AdamMambaInIdeal.τ).loc Cert.AdamMambaInIdeal.main_arg0)
          ∧ r.2.mem ((c.tc : Thread Cert.AdamMambaInIdeal.nD Cert.AdamMambaInIdeal.τ).loc Cert.AdamMambaInIdeal.main_arg1) = m ((c.tc : Thread Cert.AdamMambaInIdeal.nD Cert.AdamMambaInIdeal.τ).loc Cert.AdamMambaInIdeal.main_arg1)
          ∧ r.2.mem ((c.tc : Thread Cert.AdamMambaInIdeal.nD Cert.AdamMambaInIdeal.τ).loc Cert.AdamMambaInIdeal.main_arg2) = m ((c.tc : Thread Cert.AdamMambaInIdeal.nD Cert.AdamMambaInIdeal.τ).loc Cert.AdamMambaInIdeal.main_arg2)
          ∧ r.2.mem ((c.tc : Thread Cert.AdamMambaInIdeal.nD Cert.AdamMambaInIdeal.τ).loc Cert.AdamMambaInIdeal.main_arg3) = m ((c.tc : Thread Cert.AdamMambaInIdeal.nD Cert.AdamMambaInIdeal.τ).loc Cert.AdamMambaInIdeal.main_arg3))
      ∧ θ_run (Cert.RefAdamMambaInIdeal.defs (F := Ideal)) (onTc (τ := Cert.RefAdamMambaInIdeal.τ) (Cert.RefAdamMambaInIdeal.main (F := Ideal))) ⟨m', fun _ => 0, g'⟩ (fun r => ∀ c : Dev Cert.RefAdamMambaInIdeal.nD,
          r.2.mem ((c.tc : Thread Cert.RefAdamMambaInIdeal.nD Cert.RefAdamMambaInIdeal.τ).loc Cert.RefAdamMambaInIdeal.main_v1) = v0 c
          ∧ r.2.mem ((c.tc : Thread Cert.RefAdamMambaInIdeal.nD Cert.RefAdamMambaInIdeal.τ).loc Cert.RefAdamMambaInIdeal.main_v25) = v1 c
          ∧ r.2.mem ((c.tc : Thread Cert.RefAdamMambaInIdeal.nD Cert.RefAdamMambaInIdeal.τ).loc Cert.RefAdamMambaInIdeal.main_v6) = v2 c
          ∧ r.2.mem ((c.tc : Thread Cert.RefAdamMambaInIdeal.nD Cert.RefAdamMambaInIdeal.τ).loc Cert.RefAdamMambaInIdeal.main_v12) = v3 c
          ∧ r.2.mem ((c.tc : Thread Cert.RefAdamMambaInIdeal.nD Cert.RefAdamMambaInIdeal.τ).loc Cert.RefAdamMambaInIdeal.main_arg0) = m' ((c.tc : Thread Cert.RefAdamMambaInIdeal.nD Cert.RefAdamMambaInIdeal.τ).loc Cert.RefAdamMambaInIdeal.main_arg0)
          ∧ r.2.mem ((c.tc : Thread Cert.RefAdamMambaInIdeal.nD Cert.RefAdamMambaInIdeal.τ).loc Cert.RefAdamMambaInIdeal.main_arg1) = m' ((c.tc : Thread Cert.RefAdamMambaInIdeal.nD Cert.RefAdamMambaInIdeal.τ).loc Cert.RefAdamMambaInIdeal.main_arg1)
          ∧ r.2.mem ((c.tc : Thread Cert.RefAdamMambaInIdeal.nD Cert.RefAdamMambaInIdeal.τ).loc Cert.RefAdamMambaInIdeal.main_arg2) = m' ((c.tc : Thread Cert.RefAdamMambaInIdeal.nD Cert.RefAdamMambaInIdeal.τ).loc Cert.RefAdamMambaInIdeal.main_arg2)
          ∧ r.2.mem ((c.tc : Thread Cert.RefAdamMambaInIdeal.nD Cert.RefAdamMambaInIdeal.τ).loc Cert.RefAdamMambaInIdeal.main_arg3) = m' ((c.tc : Thread Cert.RefAdamMambaInIdeal.nD Cert.RefAdamMambaInIdeal.τ).loc Cert.RefAdamMambaInIdeal.main_arg3))

def preserves_AdamMambaOut_AdamMambaOutIdeal : Prop :=
  True

def algebraic_AdamMambaOutIdeal_RefAdamMambaOutIdeal [hAdamMambaOutIdeal : Cert.AdamMambaOutIdeal.Facts] [hRefAdamMambaOutIdeal : Cert.RefAdamMambaOutIdeal.Facts] : Prop :=
  ∀ (m : (ℓ : Loc Cert.AdamMambaOutIdeal.nD Cert.AdamMambaOutIdeal.τ Cert.AdamMambaOutIdeal.sig) → Buf (Elt Ideal) ℓ) (g : Dev Cert.AdamMambaOutIdeal.nD → PrngReg)
    (m' : (ℓ : Loc Cert.RefAdamMambaOutIdeal.nD Cert.RefAdamMambaOutIdeal.τ Cert.RefAdamMambaOutIdeal.sig) → Buf (Elt Ideal) ℓ) (g' : Dev Cert.RefAdamMambaOutIdeal.nD → PrngReg), Pre_AdamMambaOutIdeal m →
    (∀ c : Dev Cert.AdamMambaOutIdeal.nD,
      m' ((c.tc : Thread Cert.RefAdamMambaOutIdeal.nD Cert.RefAdamMambaOutIdeal.τ).loc Cert.RefAdamMambaOutIdeal.main_arg0) = m ((c.tc : Thread Cert.AdamMambaOutIdeal.nD Cert.AdamMambaOutIdeal.τ).loc Cert.AdamMambaOutIdeal.main_arg0)
      ∧ m' ((c.tc : Thread Cert.RefAdamMambaOutIdeal.nD Cert.RefAdamMambaOutIdeal.τ).loc Cert.RefAdamMambaOutIdeal.main_arg1) = m ((c.tc : Thread Cert.AdamMambaOutIdeal.nD Cert.AdamMambaOutIdeal.τ).loc Cert.AdamMambaOutIdeal.main_arg1)
      ∧ m' ((c.tc : Thread Cert.RefAdamMambaOutIdeal.nD Cert.RefAdamMambaOutIdeal.τ).loc Cert.RefAdamMambaOutIdeal.main_arg2) = m ((c.tc : Thread Cert.AdamMambaOutIdeal.nD Cert.AdamMambaOutIdeal.τ).loc Cert.AdamMambaOutIdeal.main_arg2)
      ∧ m' ((c.tc : Thread Cert.RefAdamMambaOutIdeal.nD Cert.RefAdamMambaOutIdeal.τ).loc Cert.RefAdamMambaOutIdeal.main_arg3) = m ((c.tc : Thread Cert.AdamMambaOutIdeal.nD Cert.AdamMambaOutIdeal.τ).loc Cert.AdamMambaOutIdeal.main_arg3)) →
    ∃ (v0 : (c : Dev Cert.AdamMambaOutIdeal.nD) → Buf (Elt Ideal) ((c.tc : Thread Cert.AdamMambaOutIdeal.nD Cert.AdamMambaOutIdeal.τ).loc Cert.AdamMambaOutIdeal.main_v0_0)) (v1 : (c : Dev Cert.AdamMambaOutIdeal.nD) → Buf (Elt Ideal) ((c.tc : Thread Cert.AdamMambaOutIdeal.nD Cert.AdamMambaOutIdeal.τ).loc Cert.AdamMambaOutIdeal.main_v0_1)) (v2 : (c : Dev Cert.AdamMambaOutIdeal.nD) → Buf (Elt Ideal) ((c.tc : Thread Cert.AdamMambaOutIdeal.nD Cert.AdamMambaOutIdeal.τ).loc Cert.AdamMambaOutIdeal.main_v0_2)) (v3 : (c : Dev Cert.AdamMambaOutIdeal.nD) → Buf (Elt Ideal) ((c.tc : Thread Cert.AdamMambaOutIdeal.nD Cert.AdamMambaOutIdeal.τ).loc Cert.AdamMambaOutIdeal.main_v0_3)),
      θ_run (Cert.AdamMambaOutIdeal.defs (F := Ideal)) (onTc (τ := Cert.AdamMambaOutIdeal.τ) (Cert.AdamMambaOutIdeal.main (F := Ideal))) ⟨m, fun _ => 0, g⟩ (fun r => ∀ c : Dev Cert.AdamMambaOutIdeal.nD,
          r.2.mem ((c.tc : Thread Cert.AdamMambaOutIdeal.nD Cert.AdamMambaOutIdeal.τ).loc Cert.AdamMambaOutIdeal.main_v0_0) = v0 c
          ∧ r.2.mem ((c.tc : Thread Cert.AdamMambaOutIdeal.nD Cert.AdamMambaOutIdeal.τ).loc Cert.AdamMambaOutIdeal.main_v0_1) = v1 c
          ∧ r.2.mem ((c.tc : Thread Cert.AdamMambaOutIdeal.nD Cert.AdamMambaOutIdeal.τ).loc Cert.AdamMambaOutIdeal.main_v0_2) = v2 c
          ∧ r.2.mem ((c.tc : Thread Cert.AdamMambaOutIdeal.nD Cert.AdamMambaOutIdeal.τ).loc Cert.AdamMambaOutIdeal.main_v0_3) = v3 c
          ∧ r.2.mem ((c.tc : Thread Cert.AdamMambaOutIdeal.nD Cert.AdamMambaOutIdeal.τ).loc Cert.AdamMambaOutIdeal.main_arg0) = m ((c.tc : Thread Cert.AdamMambaOutIdeal.nD Cert.AdamMambaOutIdeal.τ).loc Cert.AdamMambaOutIdeal.main_arg0)
          ∧ r.2.mem ((c.tc : Thread Cert.AdamMambaOutIdeal.nD Cert.AdamMambaOutIdeal.τ).loc Cert.AdamMambaOutIdeal.main_arg1) = m ((c.tc : Thread Cert.AdamMambaOutIdeal.nD Cert.AdamMambaOutIdeal.τ).loc Cert.AdamMambaOutIdeal.main_arg1)
          ∧ r.2.mem ((c.tc : Thread Cert.AdamMambaOutIdeal.nD Cert.AdamMambaOutIdeal.τ).loc Cert.AdamMambaOutIdeal.main_arg2) = m ((c.tc : Thread Cert.AdamMambaOutIdeal.nD Cert.AdamMambaOutIdeal.τ).loc Cert.AdamMambaOutIdeal.main_arg2)
          ∧ r.2.mem ((c.tc : Thread Cert.AdamMambaOutIdeal.nD Cert.AdamMambaOutIdeal.τ).loc Cert.AdamMambaOutIdeal.main_arg3) = m ((c.tc : Thread Cert.AdamMambaOutIdeal.nD Cert.AdamMambaOutIdeal.τ).loc Cert.AdamMambaOutIdeal.main_arg3))
      ∧ θ_run (Cert.RefAdamMambaOutIdeal.defs (F := Ideal)) (onTc (τ := Cert.RefAdamMambaOutIdeal.τ) (Cert.RefAdamMambaOutIdeal.main (F := Ideal))) ⟨m', fun _ => 0, g'⟩ (fun r => ∀ c : Dev Cert.RefAdamMambaOutIdeal.nD,
          r.2.mem ((c.tc : Thread Cert.RefAdamMambaOutIdeal.nD Cert.RefAdamMambaOutIdeal.τ).loc Cert.RefAdamMambaOutIdeal.main_v1) = v0 c
          ∧ r.2.mem ((c.tc : Thread Cert.RefAdamMambaOutIdeal.nD Cert.RefAdamMambaOutIdeal.τ).loc Cert.RefAdamMambaOutIdeal.main_v25) = v1 c
          ∧ r.2.mem ((c.tc : Thread Cert.RefAdamMambaOutIdeal.nD Cert.RefAdamMambaOutIdeal.τ).loc Cert.RefAdamMambaOutIdeal.main_v6) = v2 c
          ∧ r.2.mem ((c.tc : Thread Cert.RefAdamMambaOutIdeal.nD Cert.RefAdamMambaOutIdeal.τ).loc Cert.RefAdamMambaOutIdeal.main_v12) = v3 c
          ∧ r.2.mem ((c.tc : Thread Cert.RefAdamMambaOutIdeal.nD Cert.RefAdamMambaOutIdeal.τ).loc Cert.RefAdamMambaOutIdeal.main_arg0) = m' ((c.tc : Thread Cert.RefAdamMambaOutIdeal.nD Cert.RefAdamMambaOutIdeal.τ).loc Cert.RefAdamMambaOutIdeal.main_arg0)
          ∧ r.2.mem ((c.tc : Thread Cert.RefAdamMambaOutIdeal.nD Cert.RefAdamMambaOutIdeal.τ).loc Cert.RefAdamMambaOutIdeal.main_arg1) = m' ((c.tc : Thread Cert.RefAdamMambaOutIdeal.nD Cert.RefAdamMambaOutIdeal.τ).loc Cert.RefAdamMambaOutIdeal.main_arg1)
          ∧ r.2.mem ((c.tc : Thread Cert.RefAdamMambaOutIdeal.nD Cert.RefAdamMambaOutIdeal.τ).loc Cert.RefAdamMambaOutIdeal.main_arg2) = m' ((c.tc : Thread Cert.RefAdamMambaOutIdeal.nD Cert.RefAdamMambaOutIdeal.τ).loc Cert.RefAdamMambaOutIdeal.main_arg2)
          ∧ r.2.mem ((c.tc : Thread Cert.RefAdamMambaOutIdeal.nD Cert.RefAdamMambaOutIdeal.τ).loc Cert.RefAdamMambaOutIdeal.main_arg3) = m' ((c.tc : Thread Cert.RefAdamMambaOutIdeal.nD Cert.RefAdamMambaOutIdeal.τ).loc Cert.RefAdamMambaOutIdeal.main_arg3))

def preserves_AdamUp_AdamUpIdeal : Prop :=
  True

def algebraic_AdamUpIdeal_RefAdamUpIdeal [hAdamUpIdeal : Cert.AdamUpIdeal.Facts] [hRefAdamUpIdeal : Cert.RefAdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.RefAdamUpIdeal.nD Cert.RefAdamUpIdeal.τ Cert.RefAdamUpIdeal.sig) → Buf (Elt Ideal) ℓ) (g' : Dev Cert.RefAdamUpIdeal.nD → PrngReg), Pre_AdamUpIdeal m →
    (∀ c : Dev Cert.AdamUpIdeal.nD,
      m' ((c.tc : Thread Cert.RefAdamUpIdeal.nD Cert.RefAdamUpIdeal.τ).loc Cert.RefAdamUpIdeal.main_arg0) = m ((c.tc : Thread Cert.AdamUpIdeal.nD Cert.AdamUpIdeal.τ).loc Cert.AdamUpIdeal.main_arg0)
      ∧ m' ((c.tc : Thread Cert.RefAdamUpIdeal.nD Cert.RefAdamUpIdeal.τ).loc Cert.RefAdamUpIdeal.main_arg1) = m ((c.tc : Thread Cert.AdamUpIdeal.nD Cert.AdamUpIdeal.τ).loc Cert.AdamUpIdeal.main_arg1)
      ∧ m' ((c.tc : Thread Cert.RefAdamUpIdeal.nD Cert.RefAdamUpIdeal.τ).loc Cert.RefAdamUpIdeal.main_arg2) = m ((c.tc : Thread Cert.AdamUpIdeal.nD Cert.AdamUpIdeal.τ).loc Cert.AdamUpIdeal.main_arg2)
      ∧ m' ((c.tc : Thread Cert.RefAdamUpIdeal.nD Cert.RefAdamUpIdeal.τ).loc Cert.RefAdamUpIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.RefAdamUpIdeal.defs (F := Ideal)) (onTc (τ := Cert.RefAdamUpIdeal.τ) (Cert.RefAdamUpIdeal.main (F := Ideal))) ⟨m', fun _ => 0, g'⟩ (fun r => ∀ c : Dev Cert.RefAdamUpIdeal.nD,
          r.2.mem ((c.tc : Thread Cert.RefAdamUpIdeal.nD Cert.RefAdamUpIdeal.τ).loc Cert.RefAdamUpIdeal.main_v1) = v0 c
          ∧ r.2.mem ((c.tc : Thread Cert.RefAdamUpIdeal.nD Cert.RefAdamUpIdeal.τ).loc Cert.RefAdamUpIdeal.main_v25) = v1 c
          ∧ r.2.mem ((c.tc : Thread Cert.RefAdamUpIdeal.nD Cert.RefAdamUpIdeal.τ).loc Cert.RefAdamUpIdeal.main_v6) = v2 c
          ∧ r.2.mem ((c.tc : Thread Cert.RefAdamUpIdeal.nD Cert.RefAdamUpIdeal.τ).loc Cert.RefAdamUpIdeal.main_v12) = v3 c
          ∧ r.2.mem ((c.tc : Thread Cert.RefAdamUpIdeal.nD Cert.RefAdamUpIdeal.τ).loc Cert.RefAdamUpIdeal.main_arg0) = m' ((c.tc : Thread Cert.RefAdamUpIdeal.nD Cert.RefAdamUpIdeal.τ).loc Cert.RefAdamUpIdeal.main_arg0)
          ∧ r.2.mem ((c.tc : Thread Cert.RefAdamUpIdeal.nD Cert.RefAdamUpIdeal.τ).loc Cert.RefAdamUpIdeal.main_arg1) = m' ((c.tc : Thread Cert.RefAdamUpIdeal.nD Cert.RefAdamUpIdeal.τ).loc Cert.RefAdamUpIdeal.main_arg1)
          ∧ r.2.mem ((c.tc : Thread Cert.RefAdamUpIdeal.nD Cert.RefAdamUpIdeal.τ).loc Cert.RefAdamUpIdeal.main_arg2) = m' ((c.tc : Thread Cert.RefAdamUpIdeal.nD Cert.RefAdamUpIdeal.τ).loc Cert.RefAdamUpIdeal.main_arg2)
          ∧ r.2.mem ((c.tc : Thread Cert.RefAdamUpIdeal.nD Cert.RefAdamUpIdeal.τ).loc Cert.RefAdamUpIdeal.main_arg3) = m' ((c.tc : Thread Cert.RefAdamUpIdeal.nD Cert.RefAdamUpIdeal.τ).loc Cert.RefAdamUpIdeal.main_arg3))

def preserves_AdamDown_AdamDownIdeal : Prop :=
  True

def algebraic_AdamDownIdeal_RefAdamDownIdeal [hAdamDownIdeal : Cert.AdamDownIdeal.Facts] [hRefAdamDownIdeal : Cert.RefAdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.RefAdamDownIdeal.nD Cert.RefAdamDownIdeal.τ Cert.RefAdamDownIdeal.sig) → Buf (Elt Ideal) ℓ) (g' : Dev Cert.RefAdamDownIdeal.nD → PrngReg), Pre_AdamDownIdeal m →
    (∀ c : Dev Cert.AdamDownIdeal.nD,
      m' ((c.tc : Thread Cert.RefAdamDownIdeal.nD Cert.RefAdamDownIdeal.τ).loc Cert.RefAdamDownIdeal.main_arg0) = m ((c.tc : Thread Cert.AdamDownIdeal.nD Cert.AdamDownIdeal.τ).loc Cert.AdamDownIdeal.main_arg0)
      ∧ m' ((c.tc : Thread Cert.RefAdamDownIdeal.nD Cert.RefAdamDownIdeal.τ).loc Cert.RefAdamDownIdeal.main_arg1) = m ((c.tc : Thread Cert.AdamDownIdeal.nD Cert.AdamDownIdeal.τ).loc Cert.AdamDownIdeal.main_arg1)
      ∧ m' ((c.tc : Thread Cert.RefAdamDownIdeal.nD Cert.RefAdamDownIdeal.τ).loc Cert.RefAdamDownIdeal.main_arg2) = m ((c.tc : Thread Cert.AdamDownIdeal.nD Cert.AdamDownIdeal.τ).loc Cert.AdamDownIdeal.main_arg2)
      ∧ m' ((c.tc : Thread Cert.RefAdamDownIdeal.nD Cert.RefAdamDownIdeal.τ).loc Cert.RefAdamDownIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.RefAdamDownIdeal.defs (F := Ideal)) (onTc (τ := Cert.RefAdamDownIdeal.τ) (Cert.RefAdamDownIdeal.main (F := Ideal))) ⟨m', fun _ => 0, g'⟩ (fun r => ∀ c : Dev Cert.RefAdamDownIdeal.nD,
          r.2.mem ((c.tc : Thread Cert.RefAdamDownIdeal.nD Cert.RefAdamDownIdeal.τ).loc Cert.RefAdamDownIdeal.main_v1) = v0 c
          ∧ r.2.mem ((c.tc : Thread Cert.RefAdamDownIdeal.nD Cert.RefAdamDownIdeal.τ).loc Cert.RefAdamDownIdeal.main_v25) = v1 c
          ∧ r.2.mem ((c.tc : Thread Cert.RefAdamDownIdeal.nD Cert.RefAdamDownIdeal.τ).loc Cert.RefAdamDownIdeal.main_v6) = v2 c
          ∧ r.2.mem ((c.tc : Thread Cert.RefAdamDownIdeal.nD Cert.RefAdamDownIdeal.τ).loc Cert.RefAdamDownIdeal.main_v12) = v3 c
          ∧ r.2.mem ((c.tc : Thread Cert.RefAdamDownIdeal.nD Cert.RefAdamDownIdeal.τ).loc Cert.RefAdamDownIdeal.main_arg0) = m' ((c.tc : Thread Cert.RefAdamDownIdeal.nD Cert.RefAdamDownIdeal.τ).loc Cert.RefAdamDownIdeal.main_arg0)
          ∧ r.2.mem ((c.tc : Thread Cert.RefAdamDownIdeal.nD Cert.RefAdamDownIdeal.τ).loc Cert.RefAdamDownIdeal.main_arg1) = m' ((c.tc : Thread Cert.RefAdamDownIdeal.nD Cert.RefAdamDownIdeal.τ).loc Cert.RefAdamDownIdeal.main_arg1)
          ∧ r.2.mem ((c.tc : Thread Cert.RefAdamDownIdeal.nD Cert.RefAdamDownIdeal.τ).loc Cert.RefAdamDownIdeal.main_arg2) = m' ((c.tc : Thread Cert.RefAdamDownIdeal.nD Cert.RefAdamDownIdeal.τ).loc Cert.RefAdamDownIdeal.main_arg2)
          ∧ r.2.mem ((c.tc : Thread Cert.RefAdamDownIdeal.nD Cert.RefAdamDownIdeal.τ).loc Cert.RefAdamDownIdeal.main_arg3) = m' ((c.tc : Thread Cert.RefAdamDownIdeal.nD Cert.RefAdamDownIdeal.τ).loc Cert.RefAdamDownIdeal.main_arg3))

def preserves_SumDev_SumDevIdeal : Prop :=
  True

def algebraic_SumDevIdeal_RefSumDevIdeal [hSumDevIdeal : Cert.SumDevIdeal.Facts] [hRefSumDevIdeal : Cert.RefSumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.RefSumDevIdeal.nD Cert.RefSumDevIdeal.τ Cert.RefSumDevIdeal.sig) → Buf (Elt Ideal) ℓ) (g' : Dev Cert.RefSumDevIdeal.nD → PrngReg), Pre_SumDevIdeal m →
    (∀ c : Dev Cert.SumDevIdeal.nD,
      m' ((c.tc : Thread Cert.RefSumDevIdeal.nD Cert.RefSumDevIdeal.τ).loc Cert.RefSumDevIdeal.main_arg0) = m ((c.tc : Thread Cert.SumDevIdeal.nD Cert.SumDevIdeal.τ).loc Cert.SumDevIdeal.main_arg0)) →
    ∃ (v0 : (c : Dev Cert.SumDevIdeal.nD) → Buf (Elt Ideal) ((c.tc : Thread Cert.SumDevIdeal.nD Cert.SumDevIdeal.τ).loc Cert.SumDevIdeal.main_v0)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v0) = v0 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ θ_run (Cert.RefSumDevIdeal.defs (F := Ideal)) (onTc (τ := Cert.RefSumDevIdeal.τ) (Cert.RefSumDevIdeal.main (F := Ideal))) ⟨m', fun _ => 0, g'⟩ (fun r => ∀ c : Dev Cert.RefSumDevIdeal.nD,
          r.2.mem ((c.tc : Thread Cert.RefSumDevIdeal.nD Cert.RefSumDevIdeal.τ).loc Cert.RefSumDevIdeal.main_v0) = v0 c
          ∧ r.2.mem ((c.tc : Thread Cert.RefSumDevIdeal.nD Cert.RefSumDevIdeal.τ).loc Cert.RefSumDevIdeal.main_arg0) = m' ((c.tc : Thread Cert.RefSumDevIdeal.nD Cert.RefSumDevIdeal.τ).loc Cert.RefSumDevIdeal.main_arg0))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hRefGateIdeal : Cert.RefGateIdeal.Facts) (hMgate : Cert.Mgate.Facts) (hMgateIdeal : Cert.MgateIdeal.Facts) (hRefMgateIdeal : Cert.RefMgateIdeal.Facts) (hRms : Cert.Rms.Facts) (hRmsIdeal : Cert.RmsIdeal.Facts) (hRefRmsIdeal : Cert.RefRmsIdeal.Facts) (hUpX : Cert.UpX.Facts) (hUpXIdeal : Cert.UpXIdeal.Facts) (hRefUpXIdeal : Cert.RefUpXIdeal.Facts) (hUpW : Cert.UpW.Facts) (hUpWIdeal : Cert.UpWIdeal.Facts) (hRefUpWIdeal : Cert.RefUpWIdeal.Facts) (hDownX : Cert.DownX.Facts) (hDownXIdeal : Cert.DownXIdeal.Facts) (hRefDownXIdeal : Cert.RefDownXIdeal.Facts) (hDownW : Cert.DownW.Facts) (hDownWIdeal : Cert.DownWIdeal.Facts) (hRefDownWIdeal : Cert.RefDownWIdeal.Facts) (hHgrnOutW : Cert.HgrnOutW.Facts) (hHgrnOutWIdeal : Cert.HgrnOutWIdeal.Facts) (hRefHgrnOutWIdeal : Cert.RefHgrnOutWIdeal.Facts) (hHgrnOutX : Cert.HgrnOutX.Facts) (hHgrnOutXIdeal : Cert.HgrnOutXIdeal.Facts) (hRefHgrnOutXIdeal : Cert.RefHgrnOutXIdeal.Facts) (hHgrnInW : Cert.HgrnInW.Facts) (hHgrnInWIdeal : Cert.HgrnInWIdeal.Facts) (hRefHgrnInWIdeal : Cert.RefHgrnInWIdeal.Facts) (hHgrnInX : Cert.HgrnInX.Facts) (hHgrnInXIdeal : Cert.HgrnInXIdeal.Facts) (hRefHgrnInXIdeal : Cert.RefHgrnInXIdeal.Facts) (hMambaOutW : Cert.MambaOutW.Facts) (hMambaOutWIdeal : Cert.MambaOutWIdeal.Facts) (hRefMambaOutWIdeal : Cert.RefMambaOutWIdeal.Facts) (hMambaOutX : Cert.MambaOutX.Facts) (hMambaOutXIdeal : Cert.MambaOutXIdeal.Facts) (hRefMambaOutXIdeal : Cert.RefMambaOutXIdeal.Facts) (hMambaZW : Cert.MambaZW.Facts) (hMambaZWIdeal : Cert.MambaZWIdeal.Facts) (hRefMambaZWIdeal : Cert.RefMambaZWIdeal.Facts) (hMambaZX : Cert.MambaZX.Facts) (hMambaZXIdeal : Cert.MambaZXIdeal.Facts) (hRefMambaZXIdeal : Cert.RefMambaZXIdeal.Facts) (hMambaXbcW : Cert.MambaXbcW.Facts) (hMambaXbcWIdeal : Cert.MambaXbcWIdeal.Facts) (hRefMambaXbcWIdeal : Cert.RefMambaXbcWIdeal.Facts) (hMambaXbcX : Cert.MambaXbcX.Facts) (hMambaXbcXIdeal : Cert.MambaXbcXIdeal.Facts) (hRefMambaXbcXIdeal : Cert.RefMambaXbcXIdeal.Facts) (hMambaDtW : Cert.MambaDtW.Facts) (hMambaDtWIdeal : Cert.MambaDtWIdeal.Facts) (hRefMambaDtWIdeal : Cert.RefMambaDtWIdeal.Facts) (hMambaDtX : Cert.MambaDtX.Facts) (hMambaDtXIdeal : Cert.MambaDtXIdeal.Facts) (hRefMambaDtXIdeal : Cert.RefMambaDtXIdeal.Facts) (hLbB : Cert.LbB.Facts) (hLbBIdeal : Cert.LbBIdeal.Facts) (hRefLbBIdeal : Cert.RefLbBIdeal.Facts) (hUp : Cert.Up.Facts) (hUpIdeal : Cert.UpIdeal.Facts) (hRefUpIdeal : Cert.RefUpIdeal.Facts) (hDown : Cert.Down.Facts) (hDownIdeal : Cert.DownIdeal.Facts) (hRefDownIdeal : Cert.RefDownIdeal.Facts) (hHgrnIn : Cert.HgrnIn.Facts) (hHgrnInIdeal : Cert.HgrnInIdeal.Facts) (hRefHgrnInIdeal : Cert.RefHgrnInIdeal.Facts) (hHgrnOut : Cert.HgrnOut.Facts) (hHgrnOutIdeal : Cert.HgrnOutIdeal.Facts) (hRefHgrnOutIdeal : Cert.RefHgrnOutIdeal.Facts) (hMambaZ : Cert.MambaZ.Facts) (hMambaZIdeal : Cert.MambaZIdeal.Facts) (hRefMambaZIdeal : Cert.RefMambaZIdeal.Facts) (hMambaXbc : Cert.MambaXbc.Facts) (hMambaXbcIdeal : Cert.MambaXbcIdeal.Facts) (hRefMambaXbcIdeal : Cert.RefMambaXbcIdeal.Facts) (hMambaDt : Cert.MambaDt.Facts) (hMambaDtIdeal : Cert.MambaDtIdeal.Facts) (hRefMambaDtIdeal : Cert.RefMambaDtIdeal.Facts) (hMambaOut : Cert.MambaOut.Facts) (hMambaOutIdeal : Cert.MambaOutIdeal.Facts) (hRefMambaOutIdeal : Cert.RefMambaOutIdeal.Facts) (hRmsF : Cert.RmsF.Facts) (hRmsFIdeal : Cert.RmsFIdeal.Facts) (hRefRmsFIdeal : Cert.RefRmsFIdeal.Facts) (hMgateF : Cert.MgateF.Facts) (hMgateFIdeal : Cert.MgateFIdeal.Facts) (hRefMgateFIdeal : Cert.RefMgateFIdeal.Facts) (hConvF : Cert.ConvF.Facts) (hConvFIdeal : Cert.ConvFIdeal.Facts) (hRefConvFIdeal : Cert.RefConvFIdeal.Facts) (hGateF : Cert.GateF.Facts) (hGateFIdeal : Cert.GateFIdeal.Facts) (hRefGateFIdeal : Cert.RefGateFIdeal.Facts) (hHgrnF : Cert.HgrnF.Facts) (hHgrnFIdeal : Cert.HgrnFIdeal.Facts) (hRefHgrnFIdeal : Cert.RefHgrnFIdeal.Facts) (hLbF : Cert.LbF.Facts) (hLbFIdeal : Cert.LbFIdeal.Facts) (hRefLbFIdeal : Cert.RefLbFIdeal.Facts) (hLoss : Cert.Loss.Facts) (hLossIdeal : Cert.LossIdeal.Facts) (hRefLossIdeal : Cert.RefLossIdeal.Facts) (hAdamSmall : Cert.AdamSmall.Facts) (hAdamSmallIdeal : Cert.AdamSmallIdeal.Facts) (hRefAdamSmallIdeal : Cert.RefAdamSmallIdeal.Facts) (hAdamHgrnIn : Cert.AdamHgrnIn.Facts) (hAdamHgrnInIdeal : Cert.AdamHgrnInIdeal.Facts) (hRefAdamHgrnInIdeal : Cert.RefAdamHgrnInIdeal.Facts) (hAdamHgrnOut : Cert.AdamHgrnOut.Facts) (hAdamHgrnOutIdeal : Cert.AdamHgrnOutIdeal.Facts) (hRefAdamHgrnOutIdeal : Cert.RefAdamHgrnOutIdeal.Facts) (hAdamMambaIn : Cert.AdamMambaIn.Facts) (hAdamMambaInIdeal : Cert.AdamMambaInIdeal.Facts) (hRefAdamMambaInIdeal : Cert.RefAdamMambaInIdeal.Facts) (hAdamMambaOut : Cert.AdamMambaOut.Facts) (hAdamMambaOutIdeal : Cert.AdamMambaOutIdeal.Facts) (hRefAdamMambaOutIdeal : Cert.RefAdamMambaOutIdeal.Facts) (hAdamUp : Cert.AdamUp.Facts) (hAdamUpIdeal : Cert.AdamUpIdeal.Facts) (hRefAdamUpIdeal : Cert.RefAdamUpIdeal.Facts) (hAdamDown : Cert.AdamDown.Facts) (hAdamDownIdeal : Cert.AdamDownIdeal.Facts) (hRefAdamDownIdeal : Cert.RefAdamDownIdeal.Facts) (hSumDev : Cert.SumDev.Facts) (hSumDevIdeal : Cert.SumDevIdeal.Facts) (hRefSumDevIdeal : Cert.RefSumDevIdeal.Facts) (hPre_finite_conv : Cert.Pre_finite_conv.Facts) (hPre_finite_gate : Cert.Pre_finite_gate.Facts) (hPre_bounded_hgrn_f : Cert.Pre_bounded_hgrn_f.Facts),
    quiescent_Kernel (hKernel := hKernel)
    ∧ quiescent_KernelIdeal (hKernelIdeal := hKernelIdeal)
    ∧ quiescent_KernelIdeal_pre_finite_conv (hKernelIdeal := hKernelIdeal) (hPre_finite_conv := hPre_finite_conv)
    ∧ quiescent_ReferenceIdeal (hReferenceIdeal := hReferenceIdeal)
    ∧ quiescent_ReferenceIdeal_pre_finite_conv (hReferenceIdeal := hReferenceIdeal) (hPre_finite_conv := hPre_finite_conv)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_RefGateIdeal (hRefGateIdeal := hRefGateIdeal)
    ∧ quiescent_RefGateIdeal_pre_finite_gate (hRefGateIdeal := hRefGateIdeal) (hPre_finite_gate := hPre_finite_gate)
    ∧ quiescent_Mgate (hMgate := hMgate)
    ∧ quiescent_MgateIdeal (hMgateIdeal := hMgateIdeal)
    ∧ quiescent_RefMgateIdeal (hRefMgateIdeal := hRefMgateIdeal)
    ∧ quiescent_Rms (hRms := hRms)
    ∧ quiescent_RmsIdeal (hRmsIdeal := hRmsIdeal)
    ∧ quiescent_RefRmsIdeal (hRefRmsIdeal := hRefRmsIdeal)
    ∧ quiescent_UpX (hUpX := hUpX)
    ∧ quiescent_UpXIdeal (hUpXIdeal := hUpXIdeal)
    ∧ quiescent_RefUpXIdeal (hRefUpXIdeal := hRefUpXIdeal)
    ∧ quiescent_UpW (hUpW := hUpW)
    ∧ quiescent_UpWIdeal (hUpWIdeal := hUpWIdeal)
    ∧ quiescent_RefUpWIdeal (hRefUpWIdeal := hRefUpWIdeal)
    ∧ quiescent_DownX (hDownX := hDownX)
    ∧ quiescent_DownXIdeal (hDownXIdeal := hDownXIdeal)
    ∧ quiescent_RefDownXIdeal (hRefDownXIdeal := hRefDownXIdeal)
    ∧ quiescent_DownW (hDownW := hDownW)
    ∧ quiescent_DownWIdeal (hDownWIdeal := hDownWIdeal)
    ∧ quiescent_RefDownWIdeal (hRefDownWIdeal := hRefDownWIdeal)
    ∧ quiescent_HgrnOutW (hHgrnOutW := hHgrnOutW)
    ∧ quiescent_HgrnOutWIdeal (hHgrnOutWIdeal := hHgrnOutWIdeal)
    ∧ quiescent_RefHgrnOutWIdeal (hRefHgrnOutWIdeal := hRefHgrnOutWIdeal)
    ∧ quiescent_HgrnOutX (hHgrnOutX := hHgrnOutX)
    ∧ quiescent_HgrnOutXIdeal (hHgrnOutXIdeal := hHgrnOutXIdeal)
    ∧ quiescent_RefHgrnOutXIdeal (hRefHgrnOutXIdeal := hRefHgrnOutXIdeal)
    ∧ quiescent_HgrnInW (hHgrnInW := hHgrnInW)
    ∧ quiescent_HgrnInWIdeal (hHgrnInWIdeal := hHgrnInWIdeal)
    ∧ quiescent_RefHgrnInWIdeal (hRefHgrnInWIdeal := hRefHgrnInWIdeal)
    ∧ quiescent_HgrnInX (hHgrnInX := hHgrnInX)
    ∧ quiescent_HgrnInXIdeal (hHgrnInXIdeal := hHgrnInXIdeal)
    ∧ quiescent_RefHgrnInXIdeal (hRefHgrnInXIdeal := hRefHgrnInXIdeal)
    ∧ quiescent_MambaOutW (hMambaOutW := hMambaOutW)
    ∧ quiescent_MambaOutWIdeal (hMambaOutWIdeal := hMambaOutWIdeal)
    ∧ quiescent_RefMambaOutWIdeal (hRefMambaOutWIdeal := hRefMambaOutWIdeal)
    ∧ quiescent_MambaOutX (hMambaOutX := hMambaOutX)
    ∧ quiescent_MambaOutXIdeal (hMambaOutXIdeal := hMambaOutXIdeal)
    ∧ quiescent_RefMambaOutXIdeal (hRefMambaOutXIdeal := hRefMambaOutXIdeal)
    ∧ quiescent_MambaZW (hMambaZW := hMambaZW)
    ∧ quiescent_MambaZWIdeal (hMambaZWIdeal := hMambaZWIdeal)
    ∧ quiescent_RefMambaZWIdeal (hRefMambaZWIdeal := hRefMambaZWIdeal)
    ∧ quiescent_MambaZX (hMambaZX := hMambaZX)
    ∧ quiescent_MambaZXIdeal (hMambaZXIdeal := hMambaZXIdeal)
    ∧ quiescent_RefMambaZXIdeal (hRefMambaZXIdeal := hRefMambaZXIdeal)
    ∧ quiescent_MambaXbcW (hMambaXbcW := hMambaXbcW)
    ∧ quiescent_MambaXbcWIdeal (hMambaXbcWIdeal := hMambaXbcWIdeal)
    ∧ quiescent_RefMambaXbcWIdeal (hRefMambaXbcWIdeal := hRefMambaXbcWIdeal)
    ∧ quiescent_MambaXbcX (hMambaXbcX := hMambaXbcX)
    ∧ quiescent_MambaXbcXIdeal (hMambaXbcXIdeal := hMambaXbcXIdeal)
    ∧ quiescent_RefMambaXbcXIdeal (hRefMambaXbcXIdeal := hRefMambaXbcXIdeal)
    ∧ quiescent_MambaDtW (hMambaDtW := hMambaDtW)
    ∧ quiescent_MambaDtWIdeal (hMambaDtWIdeal := hMambaDtWIdeal)
    ∧ quiescent_RefMambaDtWIdeal (hRefMambaDtWIdeal := hRefMambaDtWIdeal)
    ∧ quiescent_MambaDtX (hMambaDtX := hMambaDtX)
    ∧ quiescent_MambaDtXIdeal (hMambaDtXIdeal := hMambaDtXIdeal)
    ∧ quiescent_RefMambaDtXIdeal (hRefMambaDtXIdeal := hRefMambaDtXIdeal)
    ∧ quiescent_LbB (hLbB := hLbB)
    ∧ quiescent_LbBIdeal (hLbBIdeal := hLbBIdeal)
    ∧ quiescent_RefLbBIdeal (hRefLbBIdeal := hRefLbBIdeal)
    ∧ quiescent_Up (hUp := hUp)
    ∧ quiescent_UpIdeal (hUpIdeal := hUpIdeal)
    ∧ quiescent_RefUpIdeal (hRefUpIdeal := hRefUpIdeal)
    ∧ quiescent_Down (hDown := hDown)
    ∧ quiescent_DownIdeal (hDownIdeal := hDownIdeal)
    ∧ quiescent_RefDownIdeal (hRefDownIdeal := hRefDownIdeal)
    ∧ quiescent_HgrnIn (hHgrnIn := hHgrnIn)
    ∧ quiescent_HgrnInIdeal (hHgrnInIdeal := hHgrnInIdeal)
    ∧ quiescent_RefHgrnInIdeal (hRefHgrnInIdeal := hRefHgrnInIdeal)
    ∧ quiescent_HgrnOut (hHgrnOut := hHgrnOut)
    ∧ quiescent_HgrnOutIdeal (hHgrnOutIdeal := hHgrnOutIdeal)
    ∧ quiescent_RefHgrnOutIdeal (hRefHgrnOutIdeal := hRefHgrnOutIdeal)
    ∧ quiescent_MambaZ (hMambaZ := hMambaZ)
    ∧ quiescent_MambaZIdeal (hMambaZIdeal := hMambaZIdeal)
    ∧ quiescent_RefMambaZIdeal (hRefMambaZIdeal := hRefMambaZIdeal)
    ∧ quiescent_MambaXbc (hMambaXbc := hMambaXbc)
    ∧ quiescent_MambaXbcIdeal (hMambaXbcIdeal := hMambaXbcIdeal)
    ∧ quiescent_RefMambaXbcIdeal (hRefMambaXbcIdeal := hRefMambaXbcIdeal)
    ∧ quiescent_MambaDt (hMambaDt := hMambaDt)
    ∧ quiescent_MambaDtIdeal (hMambaDtIdeal := hMambaDtIdeal)
    ∧ quiescent_RefMambaDtIdeal (hRefMambaDtIdeal := hRefMambaDtIdeal)
    ∧ quiescent_MambaOut (hMambaOut := hMambaOut)
    ∧ quiescent_MambaOutIdeal (hMambaOutIdeal := hMambaOutIdeal)
    ∧ quiescent_RefMambaOutIdeal (hRefMambaOutIdeal := hRefMambaOutIdeal)
    ∧ quiescent_RmsF (hRmsF := hRmsF)
    ∧ quiescent_RmsFIdeal (hRmsFIdeal := hRmsFIdeal)
    ∧ quiescent_RefRmsFIdeal (hRefRmsFIdeal := hRefRmsFIdeal)
    ∧ quiescent_MgateF (hMgateF := hMgateF)
    ∧ quiescent_MgateFIdeal (hMgateFIdeal := hMgateFIdeal)
    ∧ quiescent_RefMgateFIdeal (hRefMgateFIdeal := hRefMgateFIdeal)
    ∧ quiescent_ConvF (hConvF := hConvF)
    ∧ quiescent_ConvFIdeal (hConvFIdeal := hConvFIdeal)
    ∧ quiescent_RefConvFIdeal (hRefConvFIdeal := hRefConvFIdeal)
    ∧ quiescent_GateF (hGateF := hGateF)
    ∧ quiescent_GateFIdeal (hGateFIdeal := hGateFIdeal)
    ∧ quiescent_RefGateFIdeal (hRefGateFIdeal := hRefGateFIdeal)
    ∧ quiescent_HgrnF (hHgrnF := hHgrnF)
    ∧ quiescent_HgrnFIdeal (hHgrnFIdeal := hHgrnFIdeal)
    ∧ quiescent_HgrnFIdeal_pre_bounded_hgrn_f (hHgrnFIdeal := hHgrnFIdeal) (hPre_bounded_hgrn_f := hPre_bounded_hgrn_f)
    ∧ quiescent_RefHgrnFIdeal (hRefHgrnFIdeal := hRefHgrnFIdeal)
    ∧ quiescent_RefHgrnFIdeal_pre_bounded_hgrn_f (hRefHgrnFIdeal := hRefHgrnFIdeal) (hPre_bounded_hgrn_f := hPre_bounded_hgrn_f)
    ∧ quiescent_LbF (hLbF := hLbF)
    ∧ quiescent_LbFIdeal (hLbFIdeal := hLbFIdeal)
    ∧ quiescent_RefLbFIdeal (hRefLbFIdeal := hRefLbFIdeal)
    ∧ quiescent_Loss (hLoss := hLoss)
    ∧ quiescent_LossIdeal (hLossIdeal := hLossIdeal)
    ∧ quiescent_RefLossIdeal (hRefLossIdeal := hRefLossIdeal)
    ∧ quiescent_AdamSmall (hAdamSmall := hAdamSmall)
    ∧ quiescent_AdamSmallIdeal (hAdamSmallIdeal := hAdamSmallIdeal)
    ∧ quiescent_RefAdamSmallIdeal (hRefAdamSmallIdeal := hRefAdamSmallIdeal)
    ∧ quiescent_AdamHgrnIn (hAdamHgrnIn := hAdamHgrnIn)
    ∧ quiescent_AdamHgrnInIdeal (hAdamHgrnInIdeal := hAdamHgrnInIdeal)
    ∧ quiescent_RefAdamHgrnInIdeal (hRefAdamHgrnInIdeal := hRefAdamHgrnInIdeal)
    ∧ quiescent_AdamHgrnOut (hAdamHgrnOut := hAdamHgrnOut)
    ∧ quiescent_AdamHgrnOutIdeal (hAdamHgrnOutIdeal := hAdamHgrnOutIdeal)
    ∧ quiescent_RefAdamHgrnOutIdeal (hRefAdamHgrnOutIdeal := hRefAdamHgrnOutIdeal)
    ∧ quiescent_AdamMambaIn (hAdamMambaIn := hAdamMambaIn)
    ∧ quiescent_AdamMambaInIdeal (hAdamMambaInIdeal := hAdamMambaInIdeal)
    ∧ quiescent_RefAdamMambaInIdeal (hRefAdamMambaInIdeal := hRefAdamMambaInIdeal)
    ∧ quiescent_AdamMambaOut (hAdamMambaOut := hAdamMambaOut)
    ∧ quiescent_AdamMambaOutIdeal (hAdamMambaOutIdeal := hAdamMambaOutIdeal)
    ∧ quiescent_RefAdamMambaOutIdeal (hRefAdamMambaOutIdeal := hRefAdamMambaOutIdeal)
    ∧ quiescent_AdamUp (hAdamUp := hAdamUp)
    ∧ quiescent_AdamUpIdeal (hAdamUpIdeal := hAdamUpIdeal)
    ∧ quiescent_RefAdamUpIdeal (hRefAdamUpIdeal := hRefAdamUpIdeal)
    ∧ quiescent_AdamDown (hAdamDown := hAdamDown)
    ∧ quiescent_AdamDownIdeal (hAdamDownIdeal := hAdamDownIdeal)
    ∧ quiescent_RefAdamDownIdeal (hRefAdamDownIdeal := hRefAdamDownIdeal)
    ∧ quiescent_SumDev (hSumDev := hSumDev)
    ∧ quiescent_SumDevIdeal (hSumDevIdeal := hSumDevIdeal)
    ∧ quiescent_RefSumDevIdeal (hRefSumDevIdeal := hRefSumDevIdeal)
    ∧ preserves_Kernel_KernelIdeal
    ∧ algebraic_KernelIdeal_ReferenceIdeal_pre_finite_conv (hKernelIdeal := hKernelIdeal) (hReferenceIdeal := hReferenceIdeal) (hPre_finite_conv := hPre_finite_conv)
    ∧ preserves_Gate_GateIdeal
    ∧ algebraic_GateIdeal_RefGateIdeal_pre_finite_gate (hGateIdeal := hGateIdeal) (hRefGateIdeal := hRefGateIdeal) (hPre_finite_gate := hPre_finite_gate)
    ∧ preserves_Mgate_MgateIdeal
    ∧ algebraic_MgateIdeal_RefMgateIdeal (hMgateIdeal := hMgateIdeal) (hRefMgateIdeal := hRefMgateIdeal)
    ∧ preserves_Rms_RmsIdeal
    ∧ algebraic_RmsIdeal_RefRmsIdeal (hRmsIdeal := hRmsIdeal) (hRefRmsIdeal := hRefRmsIdeal)
    ∧ preserves_UpX_UpXIdeal
    ∧ algebraic_UpXIdeal_RefUpXIdeal (hUpXIdeal := hUpXIdeal) (hRefUpXIdeal := hRefUpXIdeal)
    ∧ preserves_UpW_UpWIdeal
    ∧ algebraic_UpWIdeal_RefUpWIdeal (hUpWIdeal := hUpWIdeal) (hRefUpWIdeal := hRefUpWIdeal)
    ∧ preserves_DownX_DownXIdeal
    ∧ algebraic_DownXIdeal_RefDownXIdeal (hDownXIdeal := hDownXIdeal) (hRefDownXIdeal := hRefDownXIdeal)
    ∧ preserves_DownW_DownWIdeal
    ∧ algebraic_DownWIdeal_RefDownWIdeal (hDownWIdeal := hDownWIdeal) (hRefDownWIdeal := hRefDownWIdeal)
    ∧ preserves_HgrnOutW_HgrnOutWIdeal
    ∧ algebraic_HgrnOutWIdeal_RefHgrnOutWIdeal (hHgrnOutWIdeal := hHgrnOutWIdeal) (hRefHgrnOutWIdeal := hRefHgrnOutWIdeal)
    ∧ preserves_HgrnOutX_HgrnOutXIdeal
    ∧ algebraic_HgrnOutXIdeal_RefHgrnOutXIdeal (hHgrnOutXIdeal := hHgrnOutXIdeal) (hRefHgrnOutXIdeal := hRefHgrnOutXIdeal)
    ∧ preserves_HgrnInW_HgrnInWIdeal
    ∧ algebraic_HgrnInWIdeal_RefHgrnInWIdeal (hHgrnInWIdeal := hHgrnInWIdeal) (hRefHgrnInWIdeal := hRefHgrnInWIdeal)
    ∧ preserves_HgrnInX_HgrnInXIdeal
    ∧ algebraic_HgrnInXIdeal_RefHgrnInXIdeal (hHgrnInXIdeal := hHgrnInXIdeal) (hRefHgrnInXIdeal := hRefHgrnInXIdeal)
    ∧ preserves_MambaOutW_MambaOutWIdeal
    ∧ algebraic_MambaOutWIdeal_RefMambaOutWIdeal (hMambaOutWIdeal := hMambaOutWIdeal) (hRefMambaOutWIdeal := hRefMambaOutWIdeal)
    ∧ preserves_MambaOutX_MambaOutXIdeal
    ∧ algebraic_MambaOutXIdeal_RefMambaOutXIdeal (hMambaOutXIdeal := hMambaOutXIdeal) (hRefMambaOutXIdeal := hRefMambaOutXIdeal)
    ∧ preserves_MambaZW_MambaZWIdeal
    ∧ algebraic_MambaZWIdeal_RefMambaZWIdeal (hMambaZWIdeal := hMambaZWIdeal) (hRefMambaZWIdeal := hRefMambaZWIdeal)
    ∧ preserves_MambaZX_MambaZXIdeal
    ∧ algebraic_MambaZXIdeal_RefMambaZXIdeal (hMambaZXIdeal := hMambaZXIdeal) (hRefMambaZXIdeal := hRefMambaZXIdeal)
    ∧ preserves_MambaXbcW_MambaXbcWIdeal
    ∧ algebraic_MambaXbcWIdeal_RefMambaXbcWIdeal (hMambaXbcWIdeal := hMambaXbcWIdeal) (hRefMambaXbcWIdeal := hRefMambaXbcWIdeal)
    ∧ preserves_MambaXbcX_MambaXbcXIdeal
    ∧ algebraic_MambaXbcXIdeal_RefMambaXbcXIdeal (hMambaXbcXIdeal := hMambaXbcXIdeal) (hRefMambaXbcXIdeal := hRefMambaXbcXIdeal)
    ∧ preserves_MambaDtW_MambaDtWIdeal
    ∧ algebraic_MambaDtWIdeal_RefMambaDtWIdeal (hMambaDtWIdeal := hMambaDtWIdeal) (hRefMambaDtWIdeal := hRefMambaDtWIdeal)
    ∧ preserves_MambaDtX_MambaDtXIdeal
    ∧ algebraic_MambaDtXIdeal_RefMambaDtXIdeal (hMambaDtXIdeal := hMambaDtXIdeal) (hRefMambaDtXIdeal := hRefMambaDtXIdeal)
    ∧ preserves_LbB_LbBIdeal
    ∧ algebraic_LbBIdeal_RefLbBIdeal (hLbBIdeal := hLbBIdeal) (hRefLbBIdeal := hRefLbBIdeal)
    ∧ preserves_Up_UpIdeal
    ∧ algebraic_UpIdeal_RefUpIdeal (hUpIdeal := hUpIdeal) (hRefUpIdeal := hRefUpIdeal)
    ∧ preserves_Down_DownIdeal
    ∧ algebraic_DownIdeal_RefDownIdeal (hDownIdeal := hDownIdeal) (hRefDownIdeal := hRefDownIdeal)
    ∧ preserves_HgrnIn_HgrnInIdeal
    ∧ algebraic_HgrnInIdeal_RefHgrnInIdeal (hHgrnInIdeal := hHgrnInIdeal) (hRefHgrnInIdeal := hRefHgrnInIdeal)
    ∧ preserves_HgrnOut_HgrnOutIdeal
    ∧ algebraic_HgrnOutIdeal_RefHgrnOutIdeal (hHgrnOutIdeal := hHgrnOutIdeal) (hRefHgrnOutIdeal := hRefHgrnOutIdeal)
    ∧ preserves_MambaZ_MambaZIdeal
    ∧ algebraic_MambaZIdeal_RefMambaZIdeal (hMambaZIdeal := hMambaZIdeal) (hRefMambaZIdeal := hRefMambaZIdeal)
    ∧ preserves_MambaXbc_MambaXbcIdeal
    ∧ algebraic_MambaXbcIdeal_RefMambaXbcIdeal (hMambaXbcIdeal := hMambaXbcIdeal) (hRefMambaXbcIdeal := hRefMambaXbcIdeal)
    ∧ preserves_MambaDt_MambaDtIdeal
    ∧ algebraic_MambaDtIdeal_RefMambaDtIdeal (hMambaDtIdeal := hMambaDtIdeal) (hRefMambaDtIdeal := hRefMambaDtIdeal)
    ∧ preserves_MambaOut_MambaOutIdeal
    ∧ algebraic_MambaOutIdeal_RefMambaOutIdeal (hMambaOutIdeal := hMambaOutIdeal) (hRefMambaOutIdeal := hRefMambaOutIdeal)
    ∧ preserves_RmsF_RmsFIdeal
    ∧ algebraic_RmsFIdeal_RefRmsFIdeal (hRmsFIdeal := hRmsFIdeal) (hRefRmsFIdeal := hRefRmsFIdeal)
    ∧ preserves_MgateF_MgateFIdeal
    ∧ algebraic_MgateFIdeal_RefMgateFIdeal (hMgateFIdeal := hMgateFIdeal) (hRefMgateFIdeal := hRefMgateFIdeal)
    ∧ preserves_ConvF_ConvFIdeal
    ∧ algebraic_ConvFIdeal_RefConvFIdeal (hConvFIdeal := hConvFIdeal) (hRefConvFIdeal := hRefConvFIdeal)
    ∧ preserves_GateF_GateFIdeal
    ∧ algebraic_GateFIdeal_RefGateFIdeal (hGateFIdeal := hGateFIdeal) (hRefGateFIdeal := hRefGateFIdeal)
    ∧ preserves_HgrnF_HgrnFIdeal
    ∧ algebraic_HgrnFIdeal_RefHgrnFIdeal_pre_bounded_hgrn_f (hHgrnFIdeal := hHgrnFIdeal) (hRefHgrnFIdeal := hRefHgrnFIdeal) (hPre_bounded_hgrn_f := hPre_bounded_hgrn_f)
    ∧ preserves_LbF_LbFIdeal
    ∧ algebraic_LbFIdeal_RefLbFIdeal (hLbFIdeal := hLbFIdeal) (hRefLbFIdeal := hRefLbFIdeal)
    ∧ preserves_Loss_LossIdeal
    ∧ algebraic_LossIdeal_RefLossIdeal (hLossIdeal := hLossIdeal) (hRefLossIdeal := hRefLossIdeal)
    ∧ preserves_AdamSmall_AdamSmallIdeal
    ∧ algebraic_AdamSmallIdeal_RefAdamSmallIdeal (hAdamSmallIdeal := hAdamSmallIdeal) (hRefAdamSmallIdeal := hRefAdamSmallIdeal)
    ∧ preserves_AdamHgrnIn_AdamHgrnInIdeal
    ∧ algebraic_AdamHgrnInIdeal_RefAdamHgrnInIdeal (hAdamHgrnInIdeal := hAdamHgrnInIdeal) (hRefAdamHgrnInIdeal := hRefAdamHgrnInIdeal)
    ∧ preserves_AdamHgrnOut_AdamHgrnOutIdeal
    ∧ algebraic_AdamHgrnOutIdeal_RefAdamHgrnOutIdeal (hAdamHgrnOutIdeal := hAdamHgrnOutIdeal) (hRefAdamHgrnOutIdeal := hRefAdamHgrnOutIdeal)
    ∧ preserves_AdamMambaIn_AdamMambaInIdeal
    ∧ algebraic_AdamMambaInIdeal_RefAdamMambaInIdeal (hAdamMambaInIdeal := hAdamMambaInIdeal) (hRefAdamMambaInIdeal := hRefAdamMambaInIdeal)
    ∧ preserves_AdamMambaOut_AdamMambaOutIdeal
    ∧ algebraic_AdamMambaOutIdeal_RefAdamMambaOutIdeal (hAdamMambaOutIdeal := hAdamMambaOutIdeal) (hRefAdamMambaOutIdeal := hRefAdamMambaOutIdeal)
    ∧ preserves_AdamUp_AdamUpIdeal
    ∧ algebraic_AdamUpIdeal_RefAdamUpIdeal (hAdamUpIdeal := hAdamUpIdeal) (hRefAdamUpIdeal := hRefAdamUpIdeal)
    ∧ preserves_AdamDown_AdamDownIdeal
    ∧ algebraic_AdamDownIdeal_RefAdamDownIdeal (hAdamDownIdeal := hAdamDownIdeal) (hRefAdamDownIdeal := hRefAdamDownIdeal)
    ∧ preserves_SumDev_SumDevIdeal
    ∧ algebraic_SumDevIdeal_RefSumDevIdeal (hSumDevIdeal := hSumDevIdeal) (hRefSumDevIdeal := hRefSumDevIdeal)
-- ==== Pre_bounded_hgrn_f.lean ====
abbrev S4096x8192 : Shape := ⟨2, ![4096, 8192]⟩
abbrev S2048 : Shape := ⟨1, ![2048]⟩
abbrev S128 : Shape := ⟨1, ![128]⟩
abbrev S4096x6144 : Shape := ⟨2, ![4096, 6144]⟩
abbrev S_ : Shape := ⟨0, ![]⟩

class Facts : Prop where
  slices_S4096x8192_S4096x6144_0_0 : S4096x8192.Slices ![0, 0] S4096x6144
  bcast_S_S4096x6144 : S_.BroadcastsInDim S4096x6144 (![] : Fin 0 → Fin S4096x6144.rank)
  bcast_S_S2048 : S_.BroadcastsInDim S2048 (![] : Fin 0 → Fin S2048.rank)

variable [Facts]

def fn {F : FTy → Type} [FloatOps F] (main_arg0 : FVec F S4096x8192 .f32) (main_arg1 : FVec F S2048 .f32) (main_arg2 : FVec F S128 .f32) : IVec S4096x6144 1 × IVec S2048 1 :=
  let main_v0 : FVec F S4096x6144 .f32 := (extractStridedSlice S4096x6144 ![0, 0] · slices_S4096x8192_S4096x6144_0_0) main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_cst_0 : FVec F S_ .f32 := constant S_ .f32 0xFF800000#32
  let main_v3 : FVec F S4096x6144 .f32 := broadcastInDim S4096x6144 ![] bcast_S_S4096x6144 main_cst_0
  let main_v4 : IVec S4096x6144 1 := cmpf .ogt main_v0 main_v3
  let main_v5 : IVec S4096x6144 1 := andi main_v2 main_v4
  let main_cst_1 : FVec F S_ .f32 := constant S_ .f32 0x00000000#32
  let main_v6 : FVec F S2048 .f32 := broadcastInDim S2048 ![] bcast_S_S2048 main_cst_1
  let main_v7 : IVec S2048 1 := cmpf .oge main_arg1 main_v6
  let main_cst_2 : FVec F S_ .f32 := constant S_ .f32 0x3F800000#32
  let main_v8 : FVec F S2048 .f32 := broadcastInDim S2048 ![] bcast_S_S2048 main_cst_2
  let main_v9 : IVec S2048 1 := cmpf .ole main_arg1 main_v8
  let main_v10 : IVec S2048 1 := andi main_v7 main_v9
  (main_v5, main_v10)
-- ==== Pre_finite_conv.lean ====
abbrev S4096x6144 : Shape := ⟨2, ![4096, 6144]⟩
abbrev S4x6144 : Shape := ⟨2, ![4, 6144]⟩
abbrev S6144 : Shape := ⟨1, ![6144]⟩
abbrev S_ : Shape := ⟨0, ![]⟩

class Facts : Prop where
  bcast_S_S4096x6144 : S_.BroadcastsInDim S4096x6144 (![] : Fin 0 → Fin S4096x6144.rank)
  bcast_S_S4x6144 : S_.BroadcastsInDim S4x6144 (![] : Fin 0 → Fin S4x6144.rank)
  bcast_S_S6144 : S_.BroadcastsInDim S6144 (![] : Fin 0 → Fin S6144.rank)

variable [Facts]

def fn_part1 {F : FTy → Type} [FloatOps F] (main_arg3 : FVec F S4096x6144 .f32) (main_v4 : IVec S4096x6144 1) (main_v9 : IVec S4x6144 1) (main_v14 : IVec S6144 1) (main_v16 : IVec S4096x6144 1) : IVec S4096x6144 1 × IVec S4x6144 1 × IVec S6144 1 × IVec S4096x6144 1 :=
  let main_cst_6 : FVec F S_ .f32 := constant S_ .f32 0xFF800000#32
  let main_v17 : FVec F S4096x6144 .f32 := broadcastInDim S4096x6144 ![] bcast_S_S4096x6144 main_cst_6
  let main_v18 : IVec S4096x6144 1 := cmpf .ogt main_arg3 main_v17
  let main_v19 : IVec S4096x6144 1 := andi main_v16 main_v18
  (main_v4, main_v9, main_v14, main_v19)

def fn {F : FTy → Type} [FloatOps F] (main_arg0 : FVec F S4096x6144 .f32) (main_arg1 : FVec F S4x6144 .f32) (main_arg2 : FVec F S6144 .f32) (main_arg3 : FVec F S4096x6144 .f32) : IVec S4096x6144 1 × IVec S4x6144 1 × IVec S6144 1 × IVec S4096x6144 1 :=
  let main_cst : FVec F S_ .f32 := constant S_ .f32 0x7F800000#32
  let main_v0 : FVec F S4096x6144 .f32 := broadcastInDim S4096x6144 ![] bcast_S_S4096x6144 main_cst
  let main_v1 : IVec S4096x6144 1 := cmpf .olt main_arg0 main_v0
  let main_cst_0 : FVec F S_ .f32 := constant S_ .f32 0xFF800000#32
  let main_v2 : FVec F S4096x6144 .f32 := broadcastInDim S4096x6144 ![] bcast_S_S4096x6144 main_cst_0
  let main_v3 : IVec S4096x6144 1 := cmpf .ogt main_arg0 main_v2
  let main_v4 : IVec S4096x6144 1 := andi main_v1 main_v3
  let main_cst_1 : FVec F S_ .f32 := constant S_ .f32 0x7F800000#32
  let main_v5 : FVec F S4x6144 .f32 := broadcastInDim S4x6144 ![] bcast_S_S4x6144 main_cst_1
  let main_v6 : IVec S4x6144 1 := cmpf .olt main_arg1 main_v5
  let main_cst_2 : FVec F S_ .f32 := constant S_ .f32 0xFF800000#32
  let main_v7 : FVec F S4x6144 .f32 := broadcastInDim S4x6144 ![] bcast_S_S4x6144 main_cst_2
  let main_v8 : IVec S4x6144 1 := cmpf .ogt main_arg1 main_v7
  let main_v9 : IVec S4x6144 1 := andi main_v6 main_v8
  let main_cst_3 : FVec F S_ .f32 := constant S_ .f32 0x7F800000#32
  let main_v10 : FVec F S6144 .f32 := broadcastInDim S6144 ![] bcast_S_S6144 main_cst_3
  let main_v11 : IVec S6144 1 := cmpf .olt main_arg2 main_v10
  let main_cst_4 : FVec F S_ .f32 := constant S_ .f32 0xFF800000#32
  let main_v12 : FVec F S6144 .f32 := broadcastInDim S6144 ![] bcast_S_S6144 main_cst_4
  let main_v13 : IVec S6144 1 := cmpf .ogt main_arg2 main_v12
  let main_v14 : IVec S6144 1 := andi main_v11 main_v13
  let main_cst_5 : FVec F S_ .f32 := constant S_ .f32 0x7F800000#32
  let main_v15 : FVec F S4096x6144 .f32 := broadcastInDim S4096x6144 ![] bcast_S_S4096x6144 main_cst_5
  let main_v16 : IVec S4096x6144 1 := cmpf .olt main_arg3 main_v15
  fn_part1 (F := F) main_arg3 main_v4 main_v9 main_v14 main_v16
-- ==== Pre_finite_gate.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S_ : Shape := ⟨0, ![]⟩

class Facts : Prop where
  bitsLt_bf16_f32 : FTy.bits .bf16 < FTy.bits .f32
  bcast_S_S4096x11264 : S_.BroadcastsInDim S4096x11264 (![] : Fin 0 → Fin S4096x11264.rank)
  bcast_S_S3x11264 : S_.BroadcastsInDim S3x11264 (![] : Fin 0 → Fin S3x11264.rank)
  bcast_S_S11264 : S_.BroadcastsInDim S11264 (![] : Fin 0 → Fin S11264.rank)
  bcast_S_S4096x5632 : S_.BroadcastsInDim S4096x5632 (![] : Fin 0 → Fin S4096x5632.rank)

variable [Facts]

def fn_part1 {F : FTy → Type} [FloatOps F] (main_v5 : IVec S4096x11264 1) (main_v10 : IVec S3x11264 1) (main_v15 : IVec S11264 1) (main_v16 : FVec F S4096x5632 .f32) (main_cst_5 : FVec F S_ .f32) : IVec S4096x11264 1 × IVec S3x11264 1 × IVec S11264 1 × IVec S4096x5632 1 :=
  let main_v17 : FVec F S4096x5632 .f32 := broadcastInDim S4096x5632 ![] bcast_S_S4096x5632 main_cst_5
  let main_v18 : IVec S4096x5632 1 := cmpf .olt main_v16 main_v17
  let main_cst_6 : FVec F S_ .f32 := constant S_ .f32 0xFF800000#32
  let main_v19 : FVec F S4096x5632 .f32 := broadcastInDim S4096x5632 ![] bcast_S_S4096x5632 main_cst_6
  let main_v20 : IVec S4096x5632 1 := cmpf .ogt main_v16 main_v19
  let main_v21 : IVec S4096x5632 1 := andi main_v18 main_v20
  (main_v5, main_v10, main_v15, main_v21)

def fn {F : FTy → Type} [FloatOps F] (main_arg0 : FVec F S4096x11264 .bf16) (main_arg1 : FVec F S3x11264 .f32) (main_arg2 : FVec F S11264 .f32) (main_arg3 : FVec F S4096x5632 .bf16) : IVec S4096x11264 1 × IVec S3x11264 1 × IVec S11264 1 × IVec S4096x5632 1 :=
  let main_v0 : FVec F S4096x11264 .f32 := (extf .f32 · bitsLt_bf16_f32) main_arg0
  let main_cst : FVec F S_ .f32 := constant S_ .f32 0x7F800000#32
  let main_v1 : FVec F S4096x11264 .f32 := broadcastInDim S4096x11264 ![] bcast_S_S4096x11264 main_cst
  let main_v2 : IVec S4096x11264 1 := cmpf .olt main_v0 main_v1
  let main_cst_0 : FVec F S_ .f32 := constant S_ .f32 0xFF800000#32
  let main_v3 : FVec F S4096x11264 .f32 := broadcastInDim S4096x11264 ![] bcast_S_S4096x11264 main_cst_0
  let main_v4 : IVec S4096x11264 1 := cmpf .ogt main_v0 main_v3
  let main_v5 : IVec S4096x11264 1 := andi main_v2 main_v4
  let main_cst_1 : FVec F S_ .f32 := constant S_ .f32 0x7F800000#32
  let main_v6 : FVec F S3x11264 .f32 := broadcastInDim S3x11264 ![] bcast_S_S3x11264 main_cst_1
  let main_v7 : IVec S3x11264 1 := cmpf .olt main_arg1 main_v6
  let main_cst_2 : FVec F S_ .f32 := constant S_ .f32 0xFF800000#32
  let main_v8 : FVec F S3x11264 .f32 := broadcastInDim S3x11264 ![] bcast_S_S3x11264 main_cst_2
  let main_v9 : IVec S3x11264 1 := cmpf .ogt main_arg1 main_v8
  let main_v10 : IVec S3x11264 1 := andi main_v7 main_v9
  let main_cst_3 : FVec F S_ .f32 := constant S_ .f32 0x7F800000#32
  let main_v11 : FVec F S11264 .f32 := broadcastInDim S11264 ![] bcast_S_S11264 main_cst_3
  let main_v12 : IVec S11264 1 := cmpf .olt main_arg2 main_v11
  let main_cst_4 : FVec F S_ .f32 := constant S_ .f32 0xFF800000#32
  let main_v13 : FVec F S11264 .f32 := broadcastInDim S11264 ![] bcast_S_S11264 main_cst_4
  let main_v14 : IVec S11264 1 := cmpf .ogt main_arg2 main_v13
  let main_v15 : IVec S11264 1 := andi main_v12 main_v14
  let main_v16 : FVec F S4096x5632 .f32 := (extf .f32 · bitsLt_bf16_f32) main_arg3
  let main_cst_5 : FVec F S_ .f32 := constant S_ .f32 0x7F800000#32
  fn_part1 (F := F) main_v5 main_v10 main_v15 main_v16 main_cst_5
-- ==== Kernel.lean ====
abbrev S4096x6144 : Shape := ⟨2, ![4096, 6144]⟩
abbrev S4x6144 : Shape := ⟨2, ![4, 6144]⟩
abbrev S6144 : Shape := ⟨1, ![6144]⟩
abbrev S1x6144 : Shape := ⟨2, ![1, 6144]⟩
abbrev S8x6144 : Shape := ⟨2, ![8, 6144]⟩
abbrev S2048x256 : Shape := ⟨2, ![2048, 256]⟩
abbrev S4x256 : Shape := ⟨2, ![4, 256]⟩
abbrev S1x256 : Shape := ⟨2, ![1, 256]⟩
abbrev S8x256 : Shape := ⟨2, ![8, 256]⟩
abbrev S256 : Shape := ⟨1, ![256]⟩

abbrev nBuf : Space → Nat
  | .hbm => 7
  | .vmem => 12
  | .smem => 0
  | _ => 0

abbrev bufTy : (tb : Table) → Fin (tcTables nBuf tb) → BufTy
  | .hbm, ⟨0, _⟩ => ⟨S4096x6144, .f32⟩
  | .hbm, ⟨1, _⟩ => ⟨S4x6144, .f32⟩
  | .hbm, ⟨2, _⟩ => ⟨S6144, .f32⟩
  | .hbm, ⟨3, _⟩ => ⟨S4096x6144, .f32⟩
  | .hbm, ⟨4, _⟩ => ⟨S1x6144, .f32⟩
  | .hbm, ⟨5, _⟩ => ⟨S4096x6144, .bf16⟩
  | .hbm, ⟨6, _⟩ => ⟨S8x6144, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S8x256, .f32⟩
  | .local _ .vmem, ⟨11, _⟩ => ⟨S8x256, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4096x6144 : Shape := ⟨2, ![4096, 6144]⟩
abbrev S4x6144 : Shape := ⟨2, ![4, 6144]⟩
abbrev S6144 : Shape := ⟨1, ![6144]⟩
abbrev S2x2048x6144 : Shape := ⟨3, ![2, 2048, 6144]⟩
abbrev S_ : Shape := ⟨0, ![]⟩
abbrev S2x3x6144 : Shape := ⟨3, ![2, 3, 6144]⟩
abbrev S2x2051x6144 : Shape := ⟨3, ![2, 2051, 6144]⟩
abbrev S1x6144 : Shape := ⟨2, ![1, 6144]⟩
abbrev S1x1x6144 : Shape := ⟨3, ![1, 1, 6144]⟩
abbrev S3x6144 : Shape := ⟨2, ![3, 6144]⟩
abbrev S8x6144 : Shape := ⟨2, ![8, 6144]⟩

abbrev nBuf : Space → Nat
  | .hbm => 133
  | .vmem => 0
  | .smem => 0
  | _ => 0

abbrev hbmTy0_0 (i : Nat) : BufTy := match i % 128 with
  | 0 => ⟨S4096x6144, .f32⟩
  | 1 => ⟨S4x6144, .f32⟩
  | 2 => ⟨S6144, .f32⟩
  | 3 => ⟨S4096x6144, .f32⟩
  | 4 => ⟨S2x2048x6144, .f32⟩
  | 5 => ⟨S_, .f32⟩
  | 6 => ⟨S2x3x6144, .f32⟩
  | 7 => ⟨S2x2051x6144, .f32⟩
  | 8 => ⟨S_, .f32⟩
  | 9 => ⟨S2x3x6144, .f32⟩
  | 10 => ⟨S1x6144, .f32⟩
  | 11 => ⟨S6144, .f32⟩
  | 12 => ⟨S2x2048x6144, .f32⟩
  | 13 => ⟨S1x1x6144, .f32⟩
  | 14 => ⟨S2x2048x6144, .f32⟩
  | 15 => ⟨S2x2048x6144, .f32⟩
  | 16 => ⟨S_, .f32⟩
  | 17 => ⟨S2x2048x6144, .f32⟩
  | 18 => ⟨S2x2048x6144, .f32⟩
  | 19 => ⟨S1x6144, .f32⟩
  | 20 => ⟨S6144, .f32⟩
  | 21 => ⟨S2x2048x6144, .f32⟩
  | 22 => ⟨S1x1x6144, .f32⟩
  | 23 => ⟨S2x2048x6144, .f32⟩
  | 24 => ⟨S2x2048x6144, .f32⟩
  | 25 => ⟨S2x2048x6144, .f32⟩
  | 26 => ⟨S1x6144, .f32⟩
  | 27 => ⟨S6144, .f32⟩
  | 28 => ⟨S2x2048x6144, .f32⟩
  | 29 => ⟨S1x1x6144, .f32⟩
  | 30 => ⟨S2x2048x6144, .f32⟩
  | 31 => ⟨S2x2048x6144, .f32⟩
  | 32 => ⟨S2x2048x6144, .f32⟩
  | 33 => ⟨S1x6144, .f32⟩
  | 34 => ⟨S6144, .f32⟩
  | 35 => ⟨S2x2048x6144, .f32⟩
  | 36 => ⟨S1x1x6144, .f32⟩
  | 37 => ⟨S2x2048x6144, .f32⟩
  | 38 => ⟨S2x2048x6144, .f32⟩
  | 39 => ⟨S2x2048x6144, .f32⟩
  | 40 => ⟨S1x1x6144, .f32⟩
  | 41 => ⟨S2x2048x6144, .f32⟩
  | 42 => ⟨S2x2048x6144, .f32⟩
  | 43 => ⟨S2x2048x6144, .f32⟩
  | 44 => ⟨S2x2048x6144, .f32⟩
  | 45 => ⟨S_, .f32⟩
  | 46 => ⟨S2x2048x6144, .f32⟩
  | 47 => ⟨S2x2048x6144, .f32⟩
  | 48 => ⟨S_, .f32⟩
  | 49 => ⟨S2x2048x6144, .f32⟩
  | 50 => ⟨S2x2048x6144, .f32⟩
  | 51 => ⟨S_, .f32⟩
  | 52 => ⟨S2x2048x6144, .f32⟩
  | 53 => ⟨S2x2048x6144, .f32⟩
  | 54 => ⟨S2x2048x6144, .f32⟩
  | 55 => ⟨S2x2048x6144, .f32⟩
  | 56 => ⟨S4096x6144, .f32⟩
  | 57 => ⟨S2x2048x6144, .f32⟩
  | 58 => ⟨S2x2048x6144, .f32⟩
  | 59 => ⟨S2x2048x6144, .f32⟩
  | 60 => ⟨S2x2048x6144, .f32⟩
  | 61 => ⟨S2x2048x6144, .f32⟩
  | 62 => ⟨S_, .f32⟩
  | 63 => ⟨S6144, .f32⟩
  | 64 => ⟨S1x1x6144, .f32⟩
  | 65 => ⟨S_, .f32⟩
  | 66 => ⟨S6144, .f32⟩
  | 67 => ⟨S2x2048x6144, .f32⟩
  | 68 => ⟨S2x2048x6144, .f32⟩
  | 69 => ⟨S2x2048x6144, .f32⟩
  | 70 => ⟨S_, .f32⟩
  | 71 => ⟨S6144, .f32⟩
  | 72 => ⟨S1x1x6144, .f32⟩
  | 73 => ⟨S_, .f32⟩
  | 74 => ⟨S6144, .f32⟩
  | 75 => ⟨S_, .f32⟩
  | 76 => ⟨S2x2051x6144, .f32⟩
  | 77 => ⟨S1x6144, .f32⟩
  | 78 => ⟨S_, .f32⟩
  | 79 => ⟨S4x6144, .f32⟩
  | 80 => ⟨S2x2048x6144, .f32⟩
  | 81 => ⟨S2x2048x6144, .f32⟩
  | 82 => ⟨S2x2048x6144, .f32⟩
  | 83 => ⟨S_, .f32⟩
  | 84 => ⟨S6144, .f32⟩
  | 85 => ⟨S1x1x6144, .f32⟩
  | 86 => ⟨S_, .f32⟩
  | 87 => ⟨S6144, .f32⟩
  | 88 => ⟨S_, .f32⟩
  | 89 => ⟨S2x2051x6144, .f32⟩
  | 90 => ⟨S2x2051x6144, .f32⟩
  | 91 => ⟨S1x6144, .f32⟩
  | 92 => ⟨S_, .f32⟩
  | 93 => ⟨S4x6144, .f32⟩
  | 94 => ⟨S4x6144, .f32⟩
  | 95 => ⟨S2x2048x6144, .f32⟩
  | 96 => ⟨S2x2048x6144, .f32⟩
  | 97 => ⟨S2x2048x6144, .f32⟩
  | 98 => ⟨S_, .f32⟩
  | 99 => ⟨S6144, .f32⟩
  | 100 => ⟨S1x1x6144, .f32⟩
  | 101 => ⟨S_, .f32⟩
  | 102 => ⟨S6144, .f32⟩
  | 103 => ⟨S_, .f32⟩
  | 104 => ⟨S2x2051x6144, .f32⟩
  | 105 => ⟨S2x2051x6144, .f32⟩
  | 106 => ⟨S1x6144, .f32⟩
  | 107 => ⟨S_, .f32⟩
  | 108 => ⟨S4x6144, .f32⟩
  | 109 => ⟨S4x6144, .f32⟩
  | 110 => ⟨S2x2048x6144, .f32⟩
  | 111 => ⟨S2x2048x6144, .f32⟩
  | 112 => ⟨S2x2048x6144, .f32⟩
  | 113 => ⟨S_, .f32⟩
  | 114 => ⟨S6144, .f32⟩
  | 115 => ⟨S1x1x6144, .f32⟩
  | 116 => ⟨S_, .f32⟩
  | 117 => ⟨S6144, .f32⟩
  | 118 => ⟨S_, .f32⟩
  | 119 => ⟨S2x2051x6144, .f32⟩
  | 120 => ⟨S2x2051x6144, .f32⟩
  | 121 => ⟨S1x6144, .f32⟩
  | 122 => ⟨S_, .f32⟩
  | 123 => ⟨S4x6144, .f32⟩
  | 124 => ⟨S4x6144, .f32⟩
  | 125 => ⟨S2x3x6144, .f32⟩
  | 126 => ⟨S2x2048x6144, .f32⟩
  | 127 => ⟨S4096x6144, .f32⟩
  | _ => ⟨S4096x6144, .f32⟩

abbrev hbmTy0_1 (i : Nat) : BufTy := match i % 128 with
  | 0 => ⟨S4096x6144, .bf16⟩
  | 1 => ⟨S1x6144, .f32⟩
  | 2 => ⟨S_, .f32⟩
  | 3 => ⟨S3x6144, .f32⟩
  | 4 => ⟨S8x6144, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_v37 : Ref sig .tc := ⟨.hbm, 56, rfl⟩
abbrev main_v38 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_cst_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_20 : Ref sig .tc := ⟨.hbm, 130, rfl⟩
abbrev main_v90 : Ref sig .tc := ⟨.hbm, 131, rfl⟩
abbrev main_v91 : Ref sig .tc := ⟨.hbm, 132, rfl⟩

abbrev nD : Nat := 1
abbrev τ : Topo := Topo.v7x

variable {F : FTy → Type} [FloatOps F]
-- ==== Gate.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S2x2048x11264 : Shape := ⟨3, ![2, 2048, 11264]⟩
abbrev S_ : Shape := ⟨0, ![]⟩
abbrev S2x2x11264 : Shape := ⟨3, ![2, 2, 11264]⟩
abbrev S2x2050x11264 : Shape := ⟨3, ![2, 2050, 11264]⟩
abbrev S1x11264 : Shape := ⟨2, ![1, 11264]⟩
abbrev S1x1x11264 : Shape := ⟨3, ![1, 1, 11264]⟩
abbrev S1x4096x5632 : Shape := ⟨3, ![1, 4096, 5632]⟩
abbrev S2x4096x5632 : Shape := ⟨3, ![2, 4096, 5632]⟩
abbrev S8x5632 : Shape := ⟨2, ![8, 5632]⟩
abbrev S2048x256 : Shape := ⟨2, ![2048, 256]⟩
abbrev S2x2048x256 : Shape := ⟨3, ![2, 2048, 256]⟩
abbrev S3x256 : Shape := ⟨2, ![3, 256]⟩
abbrev S8x256 : Shape := ⟨2, ![8, 256]⟩
abbrev S1x2048x256 : Shape := ⟨3, ![1, 2048, 256]⟩
abbrev S1x256 : Shape := ⟨2, ![1, 256]⟩
abbrev S256 : Shape := ⟨1, ![256]⟩

abbrev nBuf : Space → Nat
  | .hbm => 45
  | .vmem => 18
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S11264, .f32⟩
  | .hbm, ⟨3, _⟩ => ⟨S4096x5632, .bf16⟩
  | .hbm, ⟨4, _⟩ => ⟨S4096x11264, .f32⟩
  | .hbm, ⟨5, _⟩ => ⟨S2x2048x11264, .f32⟩
  | .hbm, ⟨6, _⟩ => ⟨S_, .f32⟩
  | .hbm, ⟨7, _⟩ => ⟨S2x2x11264, .f32⟩
  | .hbm, ⟨8, _⟩ => ⟨S2x2050x11264, .f32⟩
  | .hbm, ⟨9, _⟩ => ⟨S1x11264, .f32⟩
  | .hbm, ⟨10, _⟩ => ⟨S11264, .f32⟩
  | .hbm, ⟨11, _⟩ => ⟨S2x2048x11264, .f32⟩
  | .hbm, ⟨12, _⟩ => ⟨S1x1x11264, .f32⟩
  | .hbm, ⟨13, _⟩ => ⟨S2x2048x11264, .f32⟩
  | .hbm, ⟨14, _⟩ => ⟨S2x2048x11264, .f32⟩
  | .hbm, ⟨15, _⟩ => ⟨S_, .f32⟩
  | .hbm, ⟨16, _⟩ => ⟨S2x2048x11264, .f32⟩
  | .hbm, ⟨17, _⟩ => ⟨S2x2048x11264, .f32⟩
  | .hbm, ⟨18, _⟩ => ⟨S1x11264, .f32⟩
  | .hbm, ⟨19, _⟩ => ⟨S11264, .f32⟩
  | .hbm, ⟨20, _⟩ => ⟨S2x2048x11264, .f32⟩
  | .hbm, ⟨21, _⟩ => ⟨S1x1x11264, .f32⟩
  | .hbm, ⟨22, _⟩ => ⟨S2x2048x11264, .f32⟩
  | .hbm, ⟨23, _⟩ => ⟨S2x2048x11264, .f32⟩
  | .hbm, ⟨24, _⟩ => ⟨S2x2048x11264, .f32⟩
  | .hbm, ⟨25, _⟩ => ⟨S1x11264, .f32⟩
  | .hbm, ⟨26, _⟩ => ⟨S11264, .f32⟩
  | .hbm, ⟨27, _⟩ => ⟨S2x2048x11264, .f32⟩
  | .hbm, ⟨28, _⟩ => ⟨S1x1x11264, .f32⟩
  | .hbm, ⟨29, _⟩ => ⟨S2x2048x11264, .f32⟩
  | .hbm, ⟨30, _⟩ => ⟨S2x2048x11264, .f32⟩
  | .hbm, ⟨31, _⟩ => ⟨S2x2048x11264, .f32⟩
  | .hbm, ⟨32, _⟩ => ⟨S1x1x11264, .f32⟩
  | .hbm, ⟨33, _⟩ => ⟨S2x2048x11264, .f32⟩
  | .hbm, ⟨34, _⟩ => ⟨S2x2048x11264, .f32⟩
  | .hbm, ⟨35, _⟩ => ⟨S4096x11264, .f32⟩
  | .hbm, ⟨36, _⟩ => ⟨S4096x5632, .f32⟩
  | .hbm, ⟨37, _⟩ => ⟨S4096x5632, .f32⟩
  | .hbm, ⟨38, _⟩ => ⟨S1x4096x5632, .f32⟩
  | .hbm, ⟨39, _⟩ => ⟨S1x4096x5632, .f32⟩
  | .hbm, ⟨40, _⟩ => ⟨S2x4096x5632, .f32⟩
  | .hbm, ⟨41, _⟩ => ⟨S2x4096x5632, .bf16⟩
  | .hbm, ⟨42, _⟩ => ⟨S2x4096x5632, .bf16⟩
  | .hbm, ⟨43, _⟩ => ⟨S8x5632, .f32⟩
  | .hbm, ⟨44, _⟩ => ⟨S8x5632, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2x2048x256, .bf16⟩
  | .local _ .vmem, ⟨5, _⟩ => ⟨S2x2048x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S2048x256, .bf16⟩
  | .local _ .vmem, ⟨11, _⟩ => ⟨S2048x256, .bf16⟩
  | .local _ .vmem, ⟨12, _⟩ => ⟨S2x2048x256, .bf16⟩
  | .local _ .vmem, ⟨13, _⟩ => ⟨S2x2048x256, .bf16⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S8x256, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36_0 : Ref sig .tc := ⟨.hbm, 42, rfl⟩
abbrev main_v36_1 : Ref sig .tc := ⟨.hbm, 43, rfl⟩
abbrev main_v36_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![22, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg0 c22_i32
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefGateIdeal.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S2x2048x11264 : Shape := ⟨3, ![2, 2048, 11264]⟩
abbrev S_ : Shape := ⟨0, ![]⟩
abbrev S2x2x11264 : Shape := ⟨3, ![2, 2, 11264]⟩
abbrev S2x2050x11264 : Shape := ⟨3, ![2, 2050, 11264]⟩
abbrev S1x11264 : Shape := ⟨2, ![1, 11264]⟩
abbrev S1x1x11264 : Shape := ⟨3, ![1, 1, 11264]⟩
abbrev S1x4096x5632 : Shape := ⟨3, ![1, 4096, 5632]⟩
abbrev S2x4096x5632 : Shape := ⟨3, ![2, 4096, 5632]⟩
abbrev S4x11264 : Shape := ⟨2, ![4, 11264]⟩
abbrev S8x11264 : Shape := ⟨2, ![8, 11264]⟩
abbrev S8x5632 : Shape := ⟨2, ![8, 5632]⟩

abbrev nBuf : Space → Nat
  | .hbm => 130
  | .vmem => 0
  | .smem => 0
  | _ => 0

abbrev hbmTy0_0 (i : Nat) : BufTy := match i % 128 with
  | 0 => ⟨S4096x11264, .bf16⟩
  | 1 => ⟨S3x11264, .f32⟩
  | 2 => ⟨S11264, .f32⟩
  | 3 => ⟨S4096x5632, .bf16⟩
  | 4 => ⟨S4096x11264, .f32⟩
  | 5 => ⟨S2x2048x11264, .f32⟩
  | 6 => ⟨S_, .f32⟩
  | 7 => ⟨S2x2x11264, .f32⟩
  | 8 => ⟨S2x2050x11264, .f32⟩
  | 9 => ⟨S_, .f32⟩
  | 10 => ⟨S2x2x11264, .f32⟩
  | 11 => ⟨S1x11264, .f32⟩
  | 12 => ⟨S11264, .f32⟩
  | 13 => ⟨S2x2048x11264, .f32⟩
  | 14 => ⟨S1x1x11264, .f32⟩
  | 15 => ⟨S2x2048x11264, .f32⟩
  | 16 => ⟨S2x2048x11264, .f32⟩
  | 17 => ⟨S_, .f32⟩
  | 18 => ⟨S2x2048x11264, .f32⟩
  | 19 => ⟨S2x2048x11264, .f32⟩
  | 20 => ⟨S1x11264, .f32⟩
  | 21 => ⟨S11264, .f32⟩
  | 22 => ⟨S2x2048x11264, .f32⟩
  | 23 => ⟨S1x1x11264, .f32⟩
  | 24 => ⟨S2x2048x11264, .f32⟩
  | 25 => ⟨S2x2048x11264, .f32⟩
  | 26 => ⟨S2x2048x11264, .f32⟩
  | 27 => ⟨S1x11264, .f32⟩
  | 28 => ⟨S11264, .f32⟩
  | 29 => ⟨S2x2048x11264, .f32⟩
  | 30 => ⟨S1x1x11264, .f32⟩
  | 31 => ⟨S2x2048x11264, .f32⟩
  | 32 => ⟨S2x2048x11264, .f32⟩
  | 33 => ⟨S2x2048x11264, .f32⟩
  | 34 => ⟨S1x1x11264, .f32⟩
  | 35 => ⟨S2x2048x11264, .f32⟩
  | 36 => ⟨S2x2048x11264, .f32⟩
  | 37 => ⟨S4096x11264, .f32⟩
  | 38 => ⟨S4096x5632, .f32⟩
  | 39 => ⟨S4096x5632, .f32⟩
  | 40 => ⟨S4096x5632, .f32⟩
  | 41 => ⟨S4096x5632, .f32⟩
  | 42 => ⟨S_, .f32⟩
  | 43 => ⟨S4096x5632, .f32⟩
  | 44 => ⟨S4096x5632, .f32⟩
  | 45 => ⟨S_, .f32⟩
  | 46 => ⟨S4096x5632, .f32⟩
  | 47 => ⟨S4096x5632, .f32⟩
  | 48 => ⟨S_, .f32⟩
  | 49 => ⟨S4096x5632, .f32⟩
  | 50 => ⟨S4096x5632, .f32⟩
  | 51 => ⟨S4096x5632, .f32⟩
  | 52 => ⟨S4096x5632, .f32⟩
  | 53 => ⟨S4096x5632, .f32⟩
  | 54 => ⟨S4096x5632, .f32⟩
  | 55 => ⟨S4096x5632, .f32⟩
  | 56 => ⟨S4096x5632, .f32⟩
  | 57 => ⟨S4096x5632, .f32⟩
  | 58 => ⟨S4096x5632, .f32⟩
  | 59 => ⟨S4096x5632, .f32⟩
  | 60 => ⟨S4096x5632, .f32⟩
  | 61 => ⟨S_, .f32⟩
  | 62 => ⟨S4096x11264, .f32⟩
  | 63 => ⟨S_, .f32⟩
  | 64 => ⟨S4096x11264, .f32⟩
  | 65 => ⟨S4096x11264, .f32⟩
  | 66 => ⟨S2x2048x11264, .f32⟩
  | 67 => ⟨S_, .f32⟩
  | 68 => ⟨S11264, .f32⟩
  | 69 => ⟨S1x1x11264, .f32⟩
  | 70 => ⟨S_, .f32⟩
  | 71 => ⟨S11264, .f32⟩
  | 72 => ⟨S2x2048x11264, .f32⟩
  | 73 => ⟨S2x2048x11264, .f32⟩
  | 74 => ⟨S2x2048x11264, .f32⟩
  | 75 => ⟨S_, .f32⟩
  | 76 => ⟨S11264, .f32⟩
  | 77 => ⟨S1x1x11264, .f32⟩
  | 78 => ⟨S_, .f32⟩
  | 79 => ⟨S11264, .f32⟩
  | 80 => ⟨S_, .f32⟩
  | 81 => ⟨S2x2050x11264, .f32⟩
  | 82 => ⟨S1x11264, .f32⟩
  | 83 => ⟨S_, .f32⟩
  | 84 => ⟨S3x11264, .f32⟩
  | 85 => ⟨S2x2048x11264, .f32⟩
  | 86 => ⟨S2x2048x11264, .f32⟩
  | 87 => ⟨S2x2048x11264, .f32⟩
  | 88 => ⟨S_, .f32⟩
  | 89 => ⟨S11264, .f32⟩
  | 90 => ⟨S1x1x11264, .f32⟩
  | 91 => ⟨S_, .f32⟩
  | 92 => ⟨S11264, .f32⟩
  | 93 => ⟨S_, .f32⟩
  | 94 => ⟨S2x2050x11264, .f32⟩
  | 95 => ⟨S2x2050x11264, .f32⟩
  | 96 => ⟨S1x11264, .f32⟩
  | 97 => ⟨S_, .f32⟩
  | 98 => ⟨S3x11264, .f32⟩
  | 99 => ⟨S3x11264, .f32⟩
  | 100 => ⟨S2x2048x11264, .f32⟩
  | 101 => ⟨S2x2048x11264, .f32⟩
  | 102 => ⟨S2x2048x11264, .f32⟩
  | 103 => ⟨S_, .f32⟩
  | 104 => ⟨S11264, .f32⟩
  | 105 => ⟨S1x1x11264, .f32⟩
  | 106 => ⟨S_, .f32⟩
  | 107 => ⟨S11264, .f32⟩
  | 108 => ⟨S_, .f32⟩
  | 109 => ⟨S2x2050x11264, .f32⟩
  | 110 => ⟨S2x2050x11264, .f32⟩
  | 111 => ⟨S1x11264, .f32⟩
  | 112 => ⟨S_, .f32⟩
  | 113 => ⟨S3x11264, .f32⟩
  | 114 => ⟨S3x11264, .f32⟩
  | 115 => ⟨S2x2x11264, .f32⟩
  | 116 => ⟨S2x2048x11264, .f32⟩
  | 117 => ⟨S4096x11264, .f32⟩
  | 118 => ⟨S4096x5632, .f32⟩
  | 119 => ⟨S1x4096x5632, .f32⟩
  | 120 => ⟨S4096x5632, .f32⟩
  | 121 => ⟨S1x4096x5632, .f32⟩
  | 122 => ⟨S2x4096x5632, .f32⟩
  | 123 => ⟨S1x11264, .f32⟩
  | 124 => ⟨S_, .f32⟩
  | 125 => ⟨S4x11264, .f32⟩
  | 126 => ⟨S8x11264, .f32⟩
  | 127 => ⟨S2x4096x5632, .bf16⟩
  | _ => ⟨S4096x11264, .bf16⟩

abbrev hbmTy0_1 (i : Nat) : BufTy := match i % 128 with
  | 0 => ⟨S8x5632, .f32⟩
  | 1 => ⟨S8x5632, .f32⟩
  | _ => ⟨S4096x11264, .bf16⟩

abbrev hbmTy (i : Nat) : BufTy := match i / 128 with
  | 0 => hbmTy0_0 i
  | 1 => hbmTy0_1 i
  | _ => ⟨S4096x11264, .bf16⟩

abbrev bufTy : (tb : Table) → Fin (tcTables nBuf tb) → BufTy
  | .hbm, ⟨i, _⟩ => hbmTy i
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v33_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v33_1 : Ref sig .tc := ⟨.hbm, 51, rfl⟩
abbrev main_v33_0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩

abbrev nD : Nat := 1
abbrev τ : Topo := Topo.v7x

variable {F : FTy → Type} [FloatOps F]
-- ==== Mgate.lean ====
abbrev S4096x4096 : Shape := ⟨2, ![4096, 4096]⟩
abbrev S4096 : Shape := ⟨1, ![4096]⟩
abbrev S1x4096 : Shape := ⟨2, ![1, 4096]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefMgateIdeal.lean ====
abbrev S4096x4096 : Shape := ⟨2, ![4096, 4096]⟩
abbrev S4096 : Shape := ⟨1, ![4096]⟩
abbrev S_ : Shape := ⟨0, ![]⟩
abbrev S4096x8x512 : Shape := ⟨3, ![4096, 8, 512]⟩
abbrev S4096x8 : Shape := ⟨2, ![4096, 8]⟩
abbrev S4096x8x1 : Shape := ⟨3, ![4096, 8, 1]⟩
abbrev S1x4096 : Shape := ⟨2, ![1, 4096]⟩

abbrev nBuf : Space → Nat
  | .hbm => 76
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x8x512, .f32⟩
  | .hbm, ⟨19, _⟩ => ⟨S4096x8x512, .f32⟩
  | .hbm, ⟨20, _⟩ => ⟨S_, .f32⟩
  | .hbm, ⟨21, _⟩ => ⟨S4096x8, .f32⟩
  | .hbm, ⟨22, _⟩ => ⟨S4096x8x1, .f32⟩
  | .hbm, ⟨23, _⟩ => ⟨S_, .f32⟩
  | .hbm, ⟨24, _⟩ => ⟨S4096x8x1, .f32⟩
  | .hbm, ⟨25, _⟩ => ⟨S4096x8x1, .f32⟩
  | .hbm, ⟨26, _⟩ => ⟨S_, .f32⟩
  | .hbm, ⟨27, _⟩ => ⟨S4096x8x1, .f32⟩
  | .hbm, ⟨28, _⟩ => ⟨S4096x8x1, .f32⟩
  | .hbm, ⟨29, _⟩ => ⟨S4096x8x1, .f32⟩
  | .hbm, ⟨30, _⟩ => ⟨S4096x8x1, .f32⟩
  | .hbm, ⟨31, _⟩ => ⟨S_, .f32⟩
  | .hbm, ⟨32, _⟩ => ⟨S4096x8x1, .f32⟩
  | .hbm, ⟨33, _⟩ => ⟨S4096x8x1, .f32⟩
  | .hbm, ⟨34, _⟩ => ⟨S4096x8x512, .f32⟩
  | .hbm, ⟨35, _⟩ => ⟨S4096x8x512, .f32⟩
  | .hbm, ⟨36, _⟩ => ⟨S4096x4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S4096x8x512, .f32⟩
  | .hbm, ⟨50, _⟩ => ⟨S4096x8x512, .f32⟩
  | .hbm, ⟨51, _⟩ => ⟨S_, .f32⟩
  | .hbm, ⟨52, _⟩ => ⟨S4096x8, .f32⟩
  | .hbm, ⟨53, _⟩ => ⟨S4096x8x1, .f32⟩
  | .hbm, ⟨54, _⟩ => ⟨S4096x8x512, .f32⟩
  | .hbm, ⟨55, _⟩ => ⟨S4096x8x512, .f32⟩
  | .hbm, ⟨56, _⟩ => ⟨S4096x8x1, .f32⟩
  | .hbm, ⟨57, _⟩ => ⟨S_, .f32⟩
  | .hbm, ⟨58, _⟩ => ⟨S4096x8x1, .f32⟩
  | .hbm, ⟨59, _⟩ => ⟨S4096x8x1, .f32⟩
  | .hbm, ⟨60, _⟩ => ⟨S_, .f32⟩
  | .hbm, ⟨61, _⟩ => ⟨S4096x8, .f32⟩
  | .hbm, ⟨62, _⟩ => ⟨S4096x8x512, .f32⟩
  | .hbm, ⟨63, _⟩ => ⟨S4096x8x512, .f32⟩
  | .hbm, ⟨64, _⟩ => ⟨S4096x8x512, .f32⟩
  | .hbm, ⟨65, _⟩ => ⟨S4096x8x512, .f32⟩
  | .hbm, ⟨66, _⟩ => ⟨S4096x8x512, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .bf16⟩
  | .hbm, ⟨75, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== Rms.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefRmsIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== UpX.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpXIdeal.lean ====
abbrev S2x4096x5632 : Shape := ⟨3, ![2, 4096, 5632]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x2x5632 : Shape := ⟨3, ![4096, 2, 5632]⟩
abbrev S4096x11264 : Shape := ⟨2, ![4096, 11264]⟩
abbrev S_ : Shape := ⟨0, ![]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S4096x2x5632, .bf16⟩
  | .hbm, ⟨5, _⟩ => ⟨S4096x11264, .bf16⟩
  | .hbm, ⟨6, _⟩ => ⟨S2048x11264, .f32⟩
  | .hbm, ⟨7, _⟩ => ⟨S_, .f32⟩
  | .hbm, ⟨8, _⟩ => ⟨S4096x2048, .f32⟩
  | .hbm, ⟨9, _⟩ => ⟨S4096x11264, .f32⟩
  | .hbm, ⟨10, _⟩ => ⟨S4096x11264, .f32⟩
  | .hbm, ⟨11, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpW.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpWIdeal.lean ====
abbrev S4096x2048 : Shape := ⟨2, ![4096, 2048]⟩
abbrev S2x4096x5632 : Shape := ⟨3, ![2, 4096, 5632]⟩
abbrev S4096x2x5632 : Shape := ⟨3, ![4096, 2, 5632]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4096x2x5632, .bf16⟩
  | .hbm, ⟨3, _⟩ => ⟨S4096x11264, .bf16⟩
  | .hbm, ⟨4, _⟩ => ⟨S4096x2048, .f32⟩
  | .hbm, ⟨5, _⟩ => ⟨S_, .f32⟩
  | .hbm, ⟨6, _⟩ => ⟨S2048x11264, .f32⟩
  | .hbm, ⟨7, _⟩ => ⟨S4096x11264, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DownX.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S5632x2048, .bf16⟩
  | .hbm, ⟨2, _⟩ => ⟨S4096x5632, .bf16⟩
  | .local _ .vmem, ⟨0, _⟩ => ⟨S1024x2048, .f32⟩
  | .local _ .vmem, ⟨1, _⟩ => ⟨S1024x2048, .f32⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownXIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .bf16⟩
  | .hbm, ⟨2, _⟩ => ⟨S5632x2048, .f32⟩
  | .hbm, ⟨3, _⟩ => ⟨S_, .f32⟩
  | .hbm, ⟨4, _⟩ => ⟨S4096x5632, .f32⟩
  | .hbm, ⟨5, _⟩ => ⟨S4096x2048, .f32⟩
  | .hbm, ⟨6, _⟩ => ⟨S4096x5632, .f32⟩
  | .hbm, ⟨7, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownW.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownWIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S4096x5632, .f32⟩
  | .hbm, ⟨3, _⟩ => ⟨S_, .f32⟩
  | .hbm, ⟨4, _⟩ => ⟨S5632x2048, .f32⟩
  | .hbm, ⟨5, _⟩ => ⟨S4096x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HgrnOutW.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefHgrnOutWIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HgrnOutX.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefHgrnOutXIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== HgrnInW.lean ====
abbrev S4096x2048 : Shape := ⟨2, ![4096, 2048]⟩
abbrev S4x4096x2048 : Shape := ⟨3, ![4, 4096, 2048]⟩
abbrev S8x2048x1024 : Shape := ⟨3, ![8, 2048, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefHgrnInWIdeal.lean ====
abbrev S4096x2048 : Shape := ⟨2, ![4096, 2048]⟩
abbrev S4x4096x2048 : Shape := ⟨3, ![4, 4096, 2048]⟩
abbrev S4096x4x2048 : Shape := ⟨3, ![4096, 4, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S4096x4x2048, .bf16⟩
  | .hbm, ⟨3, _⟩ => ⟨S4096x8192, .bf16⟩
  | .hbm, ⟨4, _⟩ => ⟨S4096x2048, .f32⟩
  | .hbm, ⟨5, _⟩ => ⟨S_, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== HgrnInX.lean ====
abbrev S4x4096x2048 : Shape := ⟨3, ![4, 4096, 2048]⟩
abbrev S8x2048x1024 : Shape := ⟨3, ![8, 2048, 1024]⟩
abbrev S4096x2048 : Shape := ⟨2, ![4096, 2048]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x2048, .bf16⟩
  | .hbm, ⟨1, _⟩ => ⟨S8x2048x1024, .bf16⟩
  | .hbm, ⟨2, _⟩ => ⟨S4096x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefHgrnInXIdeal.lean ====
abbrev S4x4096x2048 : Shape := ⟨3, ![4, 4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x4x2048 : Shape := ⟨3, ![4096, 4, 2048]⟩
abbrev S4096x8192 : Shape := ⟨2, ![4096, 8192]⟩
abbrev S_ : Shape := ⟨0, ![]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S4096x4x2048, .bf16⟩
  | .hbm, ⟨5, _⟩ => ⟨S4096x8192, .bf16⟩
  | .hbm, ⟨6, _⟩ => ⟨S2048x8192, .f32⟩
  | .hbm, ⟨7, _⟩ => ⟨S_, .f32⟩
  | .hbm, ⟨8, _⟩ => ⟨S4096x2048, .f32⟩
  | .hbm, ⟨9, _⟩ => ⟨S4096x8192, .f32⟩
  | .hbm, ⟨10, _⟩ => ⟨S4096x8192, .f32⟩
  | .hbm, ⟨11, _⟩ => ⟨S4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MambaOutW.lean ====
abbrev S4096x4096 : Shape := ⟨2, ![4096, 4096]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMambaOutWIdeal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x4096, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MambaOutX.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x4096, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMambaOutXIdeal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S4096x4096, .f32⟩
  | .hbm, ⟨5, _⟩ => ⟨S4096x2048, .f32⟩
  | .hbm, ⟨6, _⟩ => ⟨S4096x4096, .f32⟩
  | .hbm, ⟨7, _⟩ => ⟨S4096x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MambaZW.lean ====
abbrev S4096x2048 : Shape := ⟨2, ![4096, 2048]⟩
abbrev S4096x4096 : Shape := ⟨2, ![4096, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMambaZWIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .f32⟩
  | .hbm, ⟨3, _⟩ => ⟨S_, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MambaZX.lean ====
abbrev S4096x4096 : Shape := ⟨2, ![4096, 4096]⟩
abbrev S2048x10304 : Shape := ⟨2, ![2048, 10304]⟩
abbrev S2048x4096 : Shape := ⟨2, ![2048, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x10304, .bf16⟩
  | .hbm, ⟨2, _⟩ => ⟨S2048x4096, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMambaZXIdeal.lean ====
abbrev S4096x4096 : Shape := ⟨2, ![4096, 4096]⟩
abbrev S2048x10304 : Shape := ⟨2, ![2048, 10304]⟩
abbrev S2048x4096 : Shape := ⟨2, ![2048, 4096]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x10304, .bf16⟩
  | .hbm, ⟨2, _⟩ => ⟨S2048x4096, .bf16⟩
  | .hbm, ⟨3, _⟩ => ⟨S2048x4096, .f32⟩
  | .hbm, ⟨4, _⟩ => ⟨S_, .f32⟩
  | .hbm, ⟨5, _⟩ => ⟨S4096x2048, .f32⟩
  | .hbm, ⟨6, _⟩ => ⟨S4096x4096, .f32⟩
  | .hbm, ⟨7, _⟩ => ⟨S4096x4096, .f32⟩
  | .hbm, ⟨8, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MambaXbcW.lean ====
abbrev S4096x2048 : Shape := ⟨2, ![4096, 2048]⟩
abbrev S4096x6144 : Shape := ⟨2, ![4096, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMambaXbcWIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S_, .f32⟩
  | .hbm, ⟨4, _⟩ => ⟨S2048x6144, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MambaXbcX.lean ====
abbrev S4096x6144 : Shape := ⟨2, ![4096, 6144]⟩
abbrev S2048x10304 : Shape := ⟨2, ![2048, 10304]⟩
abbrev S4096x2048 : Shape := ⟨2, ![4096, 2048]⟩
abbrev S2048x6144 : Shape := ⟨2, ![2048, 6144]⟩
abbrev S1024x2048 : Shape := ⟨2, ![1024, 2048]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S2048x10304, .bf16⟩
  | .hbm, ⟨2, _⟩ => ⟨S4096x2048, .f32⟩
  | .hbm, ⟨3, _⟩ => ⟨S2048x6144, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMambaXbcXIdeal.lean ====
abbrev S4096x6144 : Shape := ⟨2, ![4096, 6144]⟩
abbrev S2048x10304 : Shape := ⟨2, ![2048, 10304]⟩
abbrev S4096x2048 : Shape := ⟨2, ![4096, 2048]⟩
abbrev S2048x6144 : Shape := ⟨2, ![2048, 6144]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x10304, .bf16⟩
  | .hbm, ⟨2, _⟩ => ⟨S4096x2048, .f32⟩
  | .hbm, ⟨3, _⟩ => ⟨S2048x6144, .bf16⟩
  | .hbm, ⟨4, _⟩ => ⟨S2048x6144, .f32⟩
  | .hbm, ⟨5, _⟩ => ⟨S_, .f32⟩
  | .hbm, ⟨6, _⟩ => ⟨S4096x2048, .f32⟩
  | .hbm, ⟨7, _⟩ => ⟨S4096x6144, .f32⟩
  | .hbm, ⟨8, _⟩ => ⟨S4096x6144, .f32⟩
  | .hbm, ⟨9, _⟩ => ⟨S4096x2048, .f32⟩
  | .hbm, ⟨10, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MambaDtW.lean ====
abbrev S4096x2048 : Shape := ⟨2, ![4096, 2048]⟩
abbrev S4096x64 : Shape := ⟨2, ![4096, 64]⟩
abbrev S2048x64 : Shape := ⟨2, ![2048, 64]⟩
abbrev S2048x1024 : Shape := ⟨2, ![2048, 1024]⟩
abbrev S1024x64 : Shape := ⟨2, ![1024, 64]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x64, .bf16⟩
  | .hbm, ⟨2, _⟩ => ⟨S2048x64, .bf16⟩
  | .local _ .vmem, ⟨0, _⟩ => ⟨S2048x1024, .bf16⟩
  | .local _ .vmem, ⟨1, _⟩ => ⟨S2048x1024, .bf16⟩
  | .local _ .vmem, ⟨2, _⟩ => ⟨S2048x64, .bf16⟩
  | .local _ .vmem, ⟨3, _⟩ => ⟨S2048x64, .bf16⟩
  | .local _ .vmem, ⟨4, _⟩ => ⟨S1024x64, .bf16⟩
  | .local _ .vmem, ⟨5, _⟩ => ⟨S1024x64, .bf16⟩
  | .local _ .vmem, ⟨6, _⟩ => ⟨S1024x64, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMambaDtWIdeal.lean ====
abbrev S4096x2048 : Shape := ⟨2, ![4096, 2048]⟩
abbrev S4096x64 : Shape := ⟨2, ![4096, 64]⟩
abbrev S_ : Shape := ⟨0, ![]⟩
abbrev S2048x64 : Shape := ⟨2, ![2048, 64]⟩
abbrev S64x2048 : Shape := ⟨2, ![64, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x64, .bf16⟩
  | .hbm, ⟨2, _⟩ => ⟨S4096x2048, .f32⟩
  | .hbm, ⟨3, _⟩ => ⟨S_, .f32⟩
  | .hbm, ⟨4, _⟩ => ⟨S2048x64, .f32⟩
  | .hbm, ⟨5, _⟩ => ⟨S4096x64, .f32⟩
  | .hbm, ⟨6, _⟩ => ⟨S4096x64, .f32⟩
  | .hbm, ⟨7, _⟩ => ⟨S64x2048, .f32⟩
  | .hbm, ⟨8, _⟩ => ⟨S2048x64, .f32⟩
  | .hbm, ⟨9, _⟩ => ⟨S2048x64, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MambaDtX.lean ====
abbrev S4096x64 : Shape := ⟨2, ![4096, 64]⟩
abbrev S2048x10304 : Shape := ⟨2, ![2048, 10304]⟩
abbrev S4096x2048 : Shape := ⟨2, ![4096, 2048]⟩
abbrev S2048x64 : Shape := ⟨2, ![2048, 64]⟩
abbrev S1024x64 : Shape := ⟨2, ![1024, 64]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x64, .bf16⟩
  | .hbm, ⟨1, _⟩ => ⟨S2048x10304, .bf16⟩
  | .hbm, ⟨2, _⟩ => ⟨S4096x2048, .f32⟩
  | .hbm, ⟨3, _⟩ => ⟨S2048x64, .bf16⟩
  | .hbm, ⟨4, _⟩ => ⟨S4096x2048, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMambaDtXIdeal.lean ====
abbrev S4096x64 : Shape := ⟨2, ![4096, 64]⟩
abbrev S2048x10304 : Shape := ⟨2, ![2048, 10304]⟩
abbrev S4096x2048 : Shape := ⟨2, ![4096, 2048]⟩
abbrev S2048x64 : Shape := ⟨2, ![2048, 64]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x64, .bf16⟩
  | .hbm, ⟨1, _⟩ => ⟨S2048x10304, .bf16⟩
  | .hbm, ⟨2, _⟩ => ⟨S4096x2048, .f32⟩
  | .hbm, ⟨3, _⟩ => ⟨S2048x64, .bf16⟩
  | .hbm, ⟨4, _⟩ => ⟨S2048x64, .f32⟩
  | .hbm, ⟨5, _⟩ => ⟨S_, .f32⟩
  | .hbm, ⟨6, _⟩ => ⟨S4096x2048, .f32⟩
  | .hbm, ⟨7, _⟩ => ⟨S4096x64, .f32⟩
  | .hbm, ⟨8, _⟩ => ⟨S4096x64, .f32⟩
  | .hbm, ⟨9, _⟩ => ⟨S4096x2048, .f32⟩
  | .hbm, ⟨10, _⟩ => ⟨S4096x2048, .f32⟩
  | _, _ => ⟨S4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LbB.lean ====
abbrev S2x2048 : Shape := ⟨2, ![2, 2048]⟩
abbrev S2048 : Shape := ⟨1, ![2048]⟩
abbrev S1x2048 : Shape := ⟨2, ![1, 2048]⟩

abbrev nBuf : Space → Nat
  | .hbm => 3
  | .vmem => 3
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RefLbBIdeal.lean ====
abbrev S2x2048 : Shape := ⟨2, ![2, 2048]⟩
abbrev S_ : Shape := ⟨0, ![]⟩
abbrev S2048 : Shape := ⟨1, ![2048]⟩
abbrev S1x2048 : Shape := ⟨2, ![1, 2048]⟩

abbrev nBuf : Space → Nat
  | .hbm => 95
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S_, .f32⟩
  | .hbm, ⟨3, _⟩ => ⟨S2048, .f32⟩
  | .hbm, ⟨4, _⟩ => ⟨S1x2048, .f32⟩
  | .hbm, ⟨5, _⟩ => ⟨S2x2048, .f32⟩
  | .hbm, ⟨6, _⟩ => ⟨S2x2048, .i1⟩
  | .hbm, ⟨7, _⟩ => ⟨S2x2048, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .i1⟩
  | .hbm, ⟨16, _⟩ => ⟨S_, .f32⟩
  | .hbm, ⟨17, _⟩ => ⟨S2048, .f32⟩
  | .hbm, ⟨18, _⟩ => ⟨S2048, .i1⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S2x2048, .f32⟩
  | .hbm, ⟨29, _⟩ => ⟨S2x2048, .f32⟩
  | .hbm, ⟨30, _⟩ => ⟨S2x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S2x2048, .f32⟩
  | .hbm, ⟨35, _⟩ => ⟨S2x2048, .f32⟩
  | .hbm, ⟨36, _⟩ => ⟨S1x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S2048, .f32⟩
  | .hbm, ⟨42, _⟩ => ⟨S1x2048, .f32⟩
  | .hbm, ⟨43, _⟩ => ⟨S2048, .f32⟩
  | .hbm, ⟨44, _⟩ => ⟨S1x2048, .f32⟩
  | .hbm, ⟨45, _⟩ => ⟨S2048, .f32⟩
  | .hbm, ⟨46, _⟩ => ⟨S2048, .f32⟩
  | .hbm, ⟨47, _⟩ => ⟨S1x2048, .f32⟩
  | .hbm, ⟨48, _⟩ => ⟨S1x2048, .f32⟩
  | .hbm, ⟨49, _⟩ => ⟨S2x2048, .f32⟩
  | .hbm, ⟨50, _⟩ => ⟨S1x2048, .f32⟩
  | .hbm, ⟨51, _⟩ => ⟨S2048, .f32⟩
  | .hbm, ⟨52, _⟩ => ⟨S1x2048, .f32⟩
  | .hbm, ⟨53, _⟩ => ⟨S2x2048, .f32⟩
  | .hbm, ⟨54, _⟩ => ⟨S2x2048, .f32⟩
  | .hbm, ⟨55, _⟩ => ⟨S2x2048, .f32⟩
  | .hbm, ⟨56, _⟩ => ⟨S2x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S_, .f32⟩
  | .hbm, ⟨64, _⟩ => ⟨S2x2048, .f32⟩
  | .hbm, ⟨65, _⟩ => ⟨S1x2048, .f32⟩
  | .hbm, ⟨66, _⟩ => ⟨S2048, .f32⟩
  | .hbm, ⟨67, _⟩ => ⟨S1x2048, .f32⟩
  | .hbm, ⟨68, _⟩ => ⟨S2048, .f32⟩
  | .hbm, ⟨69, _⟩ => ⟨S1x2048, .f32⟩
  | .hbm, ⟨70, _⟩ => ⟨S_, .f32⟩
  | .hbm, ⟨71, _⟩ => ⟨S2x2048, .f32⟩
  | .hbm, ⟨72, _⟩ => ⟨S2x2048, .f32⟩
  | .hbm, ⟨73, _⟩ => ⟨S1x2048, .f32⟩
  | .hbm, ⟨74, _⟩ => ⟨S_, .f32⟩
  | .hbm, ⟨75, _⟩ => ⟨S2x2048, .f32⟩
  | .hbm, ⟨76, _⟩ => ⟨S2x2048, .f32⟩
  | .hbm, ⟨77, _⟩ => ⟨S1x2048, .f32⟩
  | .hbm, ⟨78, _⟩ => ⟨S_, .f32⟩
  | .hbm, ⟨79, _⟩ => ⟨S2x2048, .f32⟩
  | .hbm, ⟨80, _⟩ => ⟨S2x2048, .f32⟩
  | .hbm, ⟨81, _⟩ => ⟨S2x2048, .f32⟩
  | .hbm, ⟨82, _⟩ => ⟨S2x2048, .f32⟩
  | .hbm, ⟨83, _⟩ => ⟨S2x2048, .f32⟩
  | .hbm, ⟨84, _⟩ => ⟨S_, .f32⟩
  | .hbm, ⟨85, _⟩ => ⟨S2048, .f32⟩
  | .hbm, ⟨86, _⟩ => ⟨S1x2048, .f32⟩
  | .hbm, ⟨87, _⟩ => ⟨S1x2048, .f32⟩
  | .hbm, ⟨88, _⟩ => ⟨S2x2048, .f32⟩
  | .hbm, ⟨89, _⟩ => ⟨S2x2048, .f32⟩
  | .hbm, ⟨90, _⟩ => ⟨S_, .f32⟩
  | .hbm, ⟨91, _⟩ => ⟨S2048, .f32⟩
  | .hbm, ⟨92, _⟩ => ⟨S2x2048, .f32⟩
  | .hbm, ⟨93, _⟩ => ⟨S2x2048, .f32⟩
  | .hbm, ⟨94, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_9 : Ref sig .tc := ⟨.hbm, 57, rfl⟩
abbrev main_v45 : Ref sig .tc := ⟨.hbm, 58, rfl⟩
abbrev main_v46 : Ref sig .tc := ⟨.hbm, 59, rfl⟩
abbrev main_cst_10 : Ref sig .tc := ⟨.hbm, 60, rfl⟩
abbrev main_v47 : Ref sig .tc := ⟨.hbm, 61, rfl⟩
abbrev main_v48 : Ref sig .tc := ⟨.hbm, 62, rfl⟩
abbrev main_cst_11 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_12 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_13 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_14 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_15 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_16 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Up.lean ====
abbrev S4096x2048 : Shape := ⟨2, ![4096, 2048]⟩
abbrev S8x2048x1408 : Shape := ⟨3, ![8, 2048, 1408]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpIdeal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x2048, .f32⟩
  | .hbm, ⟨3, _⟩ => ⟨S2048x8x1408, .bf16⟩
  | .hbm, ⟨4, _⟩ => ⟨S2048x11264, .bf16⟩
  | .hbm, ⟨5, _⟩ => ⟨S2048x11264, .f32⟩
  | .hbm, ⟨6, _⟩ => ⟨S4096x11264, .f32⟩
  | .hbm, ⟨7, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDownIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== HgrnIn.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefHgrnInIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S2048x8x1024, .bf16⟩
  | .hbm, ⟨4, _⟩ => ⟨S2048x8192, .bf16⟩
  | .hbm, ⟨5, _⟩ => ⟨S2048x8192, .f32⟩
  | .hbm, ⟨6, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== HgrnOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefHgrnOutIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MambaZ.lean ====
abbrev S4096x2048 : Shape := ⟨2, ![4096, 2048]⟩
abbrev S2048x10304 : Shape := ⟨2, ![2048, 10304]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x10304, .bf16⟩
  | .hbm, ⟨2, _⟩ => ⟨S2048x4096, .bf16⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMambaZIdeal.lean ====
abbrev S4096x2048 : Shape := ⟨2, ![4096, 2048]⟩
abbrev S2048x10304 : Shape := ⟨2, ![2048, 10304]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10304, .bf16⟩
  | .hbm, ⟨2, _⟩ => ⟨S4096x2048, .f32⟩
  | .hbm, ⟨3, _⟩ => ⟨S2048x4096, .bf16⟩
  | .hbm, ⟨4, _⟩ => ⟨S2048x4096, .f32⟩
  | .hbm, ⟨5, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MambaXbc.lean ====
abbrev S4096x2048 : Shape := ⟨2, ![4096, 2048]⟩
abbrev S2048x10304 : Shape := ⟨2, ![2048, 10304]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x10304, .bf16⟩
  | .hbm, ⟨2, _⟩ => ⟨S2048x6144, .bf16⟩
  | .hbm, ⟨3, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMambaXbcIdeal.lean ====
abbrev S4096x2048 : Shape := ⟨2, ![4096, 2048]⟩
abbrev S2048x10304 : Shape := ⟨2, ![2048, 10304]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10304, .bf16⟩
  | .hbm, ⟨2, _⟩ => ⟨S4096x2048, .f32⟩
  | .hbm, ⟨3, _⟩ => ⟨S2048x6144, .bf16⟩
  | .hbm, ⟨4, _⟩ => ⟨S2048x6144, .f32⟩
  | .hbm, ⟨5, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MambaDt.lean ====
abbrev S4096x2048 : Shape := ⟨2, ![4096, 2048]⟩
abbrev S2048x10304 : Shape := ⟨2, ![2048, 10304]⟩
abbrev S2048x64 : Shape := ⟨2, ![2048, 64]⟩
abbrev S4096x64 : Shape := ⟨2, ![4096, 64]⟩
abbrev S1024x2048 : Shape := ⟨2, ![1024, 2048]⟩
abbrev S1024x64 : Shape := ⟨2, ![1024, 64]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x10304, .bf16⟩
  | .hbm, ⟨2, _⟩ => ⟨S2048x64, .bf16⟩
  | .hbm, ⟨3, _⟩ => ⟨S4096x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x64, .bf16⟩
  | .local _ .vmem, ⟨3, _⟩ => ⟨S1024x64, .f32⟩
  | .local _ .vmem, ⟨4, _⟩ => ⟨S1024x64, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMambaDtIdeal.lean ====
abbrev S4096x2048 : Shape := ⟨2, ![4096, 2048]⟩
abbrev S2048x10304 : Shape := ⟨2, ![2048, 10304]⟩
abbrev S2048x64 : Shape := ⟨2, ![2048, 64]⟩
abbrev S4096x64 : Shape := ⟨2, ![4096, 64]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10304, .bf16⟩
  | .hbm, ⟨2, _⟩ => ⟨S4096x2048, .f32⟩
  | .hbm, ⟨3, _⟩ => ⟨S2048x64, .bf16⟩
  | .hbm, ⟨4, _⟩ => ⟨S2048x64, .f32⟩
  | .hbm, ⟨5, _⟩ => ⟨S4096x64, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MambaOut.lean ====
abbrev S4096x4096 : Shape := ⟨2, ![4096, 4096]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMambaOutIdeal.lean ====
abbrev S4096x4096 : Shape := ⟨2, ![4096, 4096]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RmsF.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefRmsFIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MgateF.lean ====
abbrev S4096x4096 : Shape := ⟨2, ![4096, 4096]⟩
abbrev S4096 : Shape := ⟨1, ![4096]⟩
abbrev S1x4096 : Shape := ⟨2, ![1, 4096]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefMgateFIdeal.lean ====
abbrev S4096x4096 : Shape := ⟨2, ![4096, 4096]⟩
abbrev S4096 : Shape := ⟨1, ![4096]⟩
abbrev S_ : Shape := ⟨0, ![]⟩
abbrev S4096x8x512 : Shape := ⟨3, ![4096, 8, 512]⟩
abbrev S4096x8 : Shape := ⟨2, ![4096, 8]⟩
abbrev S4096x8x1 : Shape := ⟨3, ![4096, 8, 1]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x8x512, .f32⟩
  | .hbm, ⟨14, _⟩ => ⟨S4096x8x512, .f32⟩
  | .hbm, ⟨15, _⟩ => ⟨S_, .f32⟩
  | .hbm, ⟨16, _⟩ => ⟨S4096x8, .f32⟩
  | .hbm, ⟨17, _⟩ => ⟨S4096x8x1, .f32⟩
  | .hbm, ⟨18, _⟩ => ⟨S_, .f32⟩
  | .hbm, ⟨19, _⟩ => ⟨S4096x8x1, .f32⟩
  | .hbm, ⟨20, _⟩ => ⟨S4096x8x1, .f32⟩
  | .hbm, ⟨21, _⟩ => ⟨S_, .f32⟩
  | .hbm, ⟨22, _⟩ => ⟨S4096x8x1, .f32⟩
  | .hbm, ⟨23, _⟩ => ⟨S4096x8x1, .f32⟩
  | .hbm, ⟨24, _⟩ => ⟨S4096x8x1, .f32⟩
  | .hbm, ⟨25, _⟩ => ⟨S4096x8x512, .f32⟩
  | .hbm, ⟨26, _⟩ => ⟨S4096x8x512, .f32⟩
  | .hbm, ⟨27, _⟩ => ⟨S4096x4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== ConvF.lean ====
abbrev S4096x6144 : Shape := ⟨2, ![4096, 6144]⟩
abbrev S4x6144 : Shape := ⟨2, ![4, 6144]⟩
abbrev S6144 : Shape := ⟨1, ![6144]⟩
abbrev S1x6144 : Shape := ⟨2, ![1, 6144]⟩
abbrev S2048x256 : Shape := ⟨2, ![2048, 256]⟩
abbrev S4x256 : Shape := ⟨2, ![4, 256]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S4096x6144, .f32⟩
  | .hbm, ⟨1, _⟩ => ⟨S4x6144, .f32⟩
  | .hbm, ⟨2, _⟩ => ⟨S6144, .f32⟩
  | .hbm, ⟨3, _⟩ => ⟨S1x6144, .f32⟩
  | .hbm, ⟨4, _⟩ => ⟨S4096x6144, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefConvFIdeal.lean ====
abbrev S4096x6144 : Shape := ⟨2, ![4096, 6144]⟩
abbrev S4x6144 : Shape := ⟨2, ![4, 6144]⟩
abbrev S6144 : Shape := ⟨1, ![6144]⟩
abbrev S2x2048x6144 : Shape := ⟨3, ![2, 2048, 6144]⟩
abbrev S_ : Shape := ⟨0, ![]⟩
abbrev S2x3x6144 : Shape := ⟨3, ![2, 3, 6144]⟩
abbrev S2x2051x6144 : Shape := ⟨3, ![2, 2051, 6144]⟩
abbrev S1x6144 : Shape := ⟨2, ![1, 6144]⟩
abbrev S1x1x6144 : Shape := ⟨3, ![1, 1, 6144]⟩

abbrev nBuf : Space → Nat
  | .hbm => 50
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4x6144, .f32⟩
  | .hbm, ⟨2, _⟩ => ⟨S6144, .f32⟩
  | .hbm, ⟨3, _⟩ => ⟨S2x2048x6144, .f32⟩
  | .hbm, ⟨4, _⟩ => ⟨S_, .f32⟩
  | .hbm, ⟨5, _⟩ => ⟨S2x3x6144, .f32⟩
  | .hbm, ⟨6, _⟩ => ⟨S2x2051x6144, .f32⟩
  | .hbm, ⟨7, _⟩ => ⟨S1x6144, .f32⟩
  | .hbm, ⟨8, _⟩ => ⟨S6144, .f32⟩
  | .hbm, ⟨9, _⟩ => ⟨S2x2048x6144, .f32⟩
  | .hbm, ⟨10, _⟩ => ⟨S1x1x6144, .f32⟩
  | .hbm, ⟨11, _⟩ => ⟨S2x2048x6144, .f32⟩
  | .hbm, ⟨12, _⟩ => ⟨S2x2048x6144, .f32⟩
  | .hbm, ⟨13, _⟩ => ⟨S_, .f32⟩
  | .hbm, ⟨14, _⟩ => ⟨S2x2048x6144, .f32⟩
  | .hbm, ⟨15, _⟩ => ⟨S2x2048x6144, .f32⟩
  | .hbm, ⟨16, _⟩ => ⟨S1x6144, .f32⟩
  | .hbm, ⟨17, _⟩ => ⟨S6144, .f32⟩
  | .hbm, ⟨18, _⟩ => ⟨S2x2048x6144, .f32⟩
  | .hbm, ⟨19, _⟩ => ⟨S1x1x6144, .f32⟩
  | .hbm, ⟨20, _⟩ => ⟨S2x2048x6144, .f32⟩
  | .hbm, ⟨21, _⟩ => ⟨S2x2048x6144, .f32⟩
  | .hbm, ⟨22, _⟩ => ⟨S2x2048x6144, .f32⟩
  | .hbm, ⟨23, _⟩ => ⟨S1x6144, .f32⟩
  | .hbm, ⟨24, _⟩ => ⟨S6144, .f32⟩
  | .hbm, ⟨25, _⟩ => ⟨S2x2048x6144, .f32⟩
  | .hbm, ⟨26, _⟩ => ⟨S1x1x6144, .f32⟩
  | .hbm, ⟨27, _⟩ => ⟨S2x2048x6144, .f32⟩
  | .hbm, ⟨28, _⟩ => ⟨S2x2048x6144, .f32⟩
  | .hbm, ⟨29, _⟩ => ⟨S2x2048x6144, .f32⟩
  | .hbm, ⟨30, _⟩ => ⟨S1x6144, .f32⟩
  | .hbm, ⟨31, _⟩ => ⟨S6144, .f32⟩
  | .hbm, ⟨32, _⟩ => ⟨S2x2048x6144, .f32⟩
  | .hbm, ⟨33, _⟩ => ⟨S1x1x6144, .f32⟩
  | .hbm, ⟨34, _⟩ => ⟨S2x2048x6144, .f32⟩
  | .hbm, ⟨35, _⟩ => ⟨S2x2048x6144, .f32⟩
  | .hbm, ⟨36, _⟩ => ⟨S2x2048x6144, .f32⟩
  | .hbm, ⟨37, _⟩ => ⟨S1x1x6144, .f32⟩
  | .hbm, ⟨38, _⟩ => ⟨S2x2048x6144, .f32⟩
  | .hbm, ⟨39, _⟩ => ⟨S2x2048x6144, .f32⟩
  | .hbm, ⟨40, _⟩ => ⟨S2x2048x6144, .f32⟩
  | .hbm, ⟨41, _⟩ => ⟨S2x2048x6144, .f32⟩
  | .hbm, ⟨42, _⟩ => ⟨S_, .f32⟩
  | .hbm, ⟨43, _⟩ => ⟨S2x2048x6144, .f32⟩
  | .hbm, ⟨44, _⟩ => ⟨S2x2048x6144, .f32⟩
  | .hbm, ⟨45, _⟩ => ⟨S_, .f32⟩
  | .hbm, ⟨46, _⟩ => ⟨S2x2048x6144, .f32⟩
  | .hbm, ⟨47, _⟩ => ⟨S2x2048x6144, .f32⟩
  | .hbm, ⟨48, _⟩ => ⟨S2x2048x6144, .f32⟩
  | .hbm, ⟨49, _⟩ => ⟨S4096x6144, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== GateF.lean ====
abbrev S4096x11264 : Shape := ⟨2, ![4096, 11264]⟩
abbrev S3x11264 : Shape := ⟨2, ![3, 11264]⟩
abbrev S11264 : Shape := ⟨1, ![11264]⟩
abbrev S1x11264 : Shape := ⟨2, ![1, 11264]⟩
abbrev S4096x5632 : Shape := ⟨2, ![4096, 5632]⟩
abbrev S2x4096x5632 : Shape := ⟨3, ![2, 4096, 5632]⟩
abbrev S2048x256 : Shape := ⟨2, ![2048, 256]⟩
abbrev S3x256 : Shape := ⟨2, ![3, 256]⟩
abbrev S1x256 : Shape := ⟨2, ![1, 256]⟩
abbrev S2x2048x256 : Shape := ⟨3, ![2, 2048, 256]⟩
abbrev S1x2048x256 : Shape := ⟨3, ![1, 2048, 256]⟩

abbrev nBuf : Space → Nat
  | .hbm => 7
  | .vmem => 16
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S11264, .f32⟩
  | .hbm, ⟨3, _⟩ => ⟨S1x11264, .f32⟩
  | .hbm, ⟨4, _⟩ => ⟨S1x11264, .f32⟩
  | .hbm, ⟨5, _⟩ => ⟨S4096x5632, .bf16⟩
  | .hbm, ⟨6, _⟩ => ⟨S2x4096x5632, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2x2048x256, .bf16⟩
  | .local _ .vmem, ⟨15, _⟩ => ⟨S2x2048x256, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefGateFIdeal.lean ====
abbrev S4096x11264 : Shape := ⟨2, ![4096, 11264]⟩
abbrev S3x11264 : Shape := ⟨2, ![3, 11264]⟩
abbrev S11264 : Shape := ⟨1, ![11264]⟩
abbrev S2x2048x11264 : Shape := ⟨3, ![2, 2048, 11264]⟩
abbrev S_ : Shape := ⟨0, ![]⟩
abbrev S2x2x11264 : Shape := ⟨3, ![2, 2, 11264]⟩
abbrev S2x2050x11264 : Shape := ⟨3, ![2, 2050, 11264]⟩
abbrev S1x11264 : Shape := ⟨2, ![1, 11264]⟩
abbrev S1x1x11264 : Shape := ⟨3, ![1, 1, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 52
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S11264, .f32⟩
  | .hbm, ⟨3, _⟩ => ⟨S4096x11264, .f32⟩
  | .hbm, ⟨4, _⟩ => ⟨S2x2048x11264, .f32⟩
  | .hbm, ⟨5, _⟩ => ⟨S_, .f32⟩
  | .hbm, ⟨6, _⟩ => ⟨S2x2x11264, .f32⟩
  | .hbm, ⟨7, _⟩ => ⟨S2x2050x11264, .f32⟩
  | .hbm, ⟨8, _⟩ => ⟨S1x11264, .f32⟩
  | .hbm, ⟨9, _⟩ => ⟨S11264, .f32⟩
  | .hbm, ⟨10, _⟩ => ⟨S2x2048x11264, .f32⟩
  | .hbm, ⟨11, _⟩ => ⟨S1x1x11264, .f32⟩
  | .hbm, ⟨12, _⟩ => ⟨S2x2048x11264, .f32⟩
  | .hbm, ⟨13, _⟩ => ⟨S2x2048x11264, .f32⟩
  | .hbm, ⟨14, _⟩ => ⟨S_, .f32⟩
  | .hbm, ⟨15, _⟩ => ⟨S2x2048x11264, .f32⟩
  | .hbm, ⟨16, _⟩ => ⟨S2x2048x11264, .f32⟩
  | .hbm, ⟨17, _⟩ => ⟨S1x11264, .f32⟩
  | .hbm, ⟨18, _⟩ => ⟨S11264, .f32⟩
  | .hbm, ⟨19, _⟩ => ⟨S2x2048x11264, .f32⟩
  | .hbm, ⟨20, _⟩ => ⟨S1x1x11264, .f32⟩
  | .hbm, ⟨21, _⟩ => ⟨S2x2048x11264, .f32⟩
  | .hbm, ⟨22, _⟩ => ⟨S2x2048x11264, .f32⟩
  | .hbm, ⟨23, _⟩ => ⟨S2x2048x11264, .f32⟩
  | .hbm, ⟨24, _⟩ => ⟨S1x11264, .f32⟩
  | .hbm, ⟨25, _⟩ => ⟨S11264, .f32⟩
  | .hbm, ⟨26, _⟩ => ⟨S2x2048x11264, .f32⟩
  | .hbm, ⟨27, _⟩ => ⟨S1x1x11264, .f32⟩
  | .hbm, ⟨28, _⟩ => ⟨S2x2048x11264, .f32⟩
  | .hbm, ⟨29, _⟩ => ⟨S2x2048x11264, .f32⟩
  | .hbm, ⟨30, _⟩ => ⟨S2x2048x11264, .f32⟩
  | .hbm, ⟨31, _⟩ => ⟨S1x1x11264, .f32⟩
  | .hbm, ⟨32, _⟩ => ⟨S2x2048x11264, .f32⟩
  | .hbm, ⟨33, _⟩ => ⟨S2x2048x11264, .f32⟩
  | .hbm, ⟨34, _⟩ => ⟨S4096x11264, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S_, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x5632, .bf16⟩
  | .hbm, ⟨48, _⟩ => ⟨S1x4096x5632, .f32⟩
  | .hbm, ⟨49, _⟩ => ⟨S1x4096x5632, .f32⟩
  | .hbm, ⟨50, _⟩ => ⟨S2x4096x5632, .f32⟩
  | .hbm, ⟨51, _⟩ => ⟨S2x4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== HgrnF.lean ====
abbrev S4096x8192 : Shape := ⟨2, ![4096, 8192]⟩
abbrev S2048 : Shape := ⟨1, ![2048]⟩
abbrev S128 : Shape := ⟨1, ![128]⟩
abbrev S1x2048 : Shape := ⟨2, ![1, 2048]⟩
abbrev S1x128 : Shape := ⟨2, ![1, 128]⟩
abbrev S4096x2048 : Shape := ⟨2, ![4096, 2048]⟩
abbrev S2x16x16x128x128 : Shape := ⟨5, ![2, 16, 16, 128, 128]⟩
abbrev S2048x256 : Shape := ⟨2, ![2048, 256]⟩
abbrev S1x256 : Shape := ⟨2, ![1, 256]⟩
abbrev S1x2x16x128x128 : Shape := ⟨5, ![1, 2, 16, 128, 128]⟩
abbrev S128x128 : Shape := ⟨2, ![128, 128]⟩
abbrev S1x1x1x128x128 : Shape := ⟨5, ![1, 1, 1, 128, 128]⟩
abbrev S32x32 : Shape := ⟨2, ![32, 32]⟩
abbrev S32x128 : Shape := ⟨2, ![32, 128]⟩
abbrev S32x1x128 : Shape := ⟨3, ![32, 1, 128]⟩
abbrev S1x32x128 : Shape := ⟨3, ![1, 32, 128]⟩
abbrev S32x32x128 : Shape := ⟨3, ![32, 32, 128]⟩
abbrev S128x1 : Shape := ⟨2, ![128, 1]⟩

abbrev nBuf : Space → Nat
  | .hbm => 7
  | .vmem => 15
  | .smem => 0
  | _ => 0

abbrev bufTy : (tb : Table) → Fin (tcTables nBuf tb) → BufTy
  | .hbm, ⟨0, _⟩ => ⟨S4096x8192, .f32⟩
  | .hbm, ⟨1, _⟩ => ⟨S2048, .f32⟩
  | .hbm, ⟨2, _⟩ => ⟨S128, .f32⟩
  | .hbm, ⟨3, _⟩ => ⟨S1x2048, .f32⟩
  | .hbm, ⟨4, _⟩ => ⟨S1x128, .f32⟩
  | .hbm, ⟨5, _⟩ => ⟨S4096x2048, .bf16⟩
  | .hbm, ⟨6, _⟩ => ⟨S2x16x16x128x128, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S1x256, .f32⟩
  | .local _ .vmem, ⟨10, _⟩ => ⟨S1x128, .f32⟩
  | .local _ .vmem, ⟨11, _⟩ => ⟨S2048x256, .bf16⟩
  | .local _ .vmem, ⟨12, _⟩ => ⟨S2048x256, .bf16⟩
  | .local _ .vmem, ⟨13, _⟩ => ⟨S1x2x16x128x128, .f32⟩
  | .local _ .vmem, ⟨14, _⟩ => ⟨S1x2x16x128x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v6 : BitVec 32 := Scalar.muli arg10 c128_i32
  v6
def k0_off1 (k0_t1 : Fin k0_t1_loop.trips) : Fin 5 → Nat :=
  let c0_3 : Index := 0#32
  let c0_4 : Index := 0#32
  let c0_i32 : BitVec 32 := 0#32
  let c1_i32 : BitVec 32 := 1#32
  let arg10 : BitVec 32 := Scf.iv c0_i32 c1_i32 k0_t1
  let v8 : Index := Scalar.indexCast arg10
  let c0_5 : Index := 0#32
  let c0_6 : Index := 0#32
  ![0, 0, v8.toNat, 0, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v6 : BitVec 32 := Scalar.muli arg10 c128_i32
  let v7 : BitVec 32 := v6
  let v12 : Index := Scalar.indexCast v7
  let c0_7 : Index := 0#32
  ![v12.toNat, 0]
def k0_off3 (k0_t1 : Fin k0_t1_loop.trips) : Fin 5 → Nat :=
  let c0_51 : Index := 0#32
  let c1 : Index := 1#32
  let c0_i32 : BitVec 32 := 0#32
  let c1_i32 : BitVec 32 := 1#32
  let arg10 : BitVec 32 := Scf.iv c0_i32 c1_i32 k0_t1
  let v248 : Index := Scalar.indexCast arg10
  let c0_52 : Index := 0#32
  let c0_53 : Index := 0#32
  ![0, 1, v248.toNat, 0, 0]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v6 : BitVec 32 := Scalar.muli arg10 c128_i32
  let v7 : BitVec 32 := v6
  let v252 : Index := Scalar.indexCast v7
  let c128 : Index := 128#32
  ![v252.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefHgrnFIdeal.lean ====
abbrev S4096x8192 : Shape := ⟨2, ![4096, 8192]⟩
abbrev S2048 : Shape := ⟨1, ![2048]⟩
abbrev S128 : Shape := ⟨1, ![128]⟩
abbrev S4096x2048 : Shape := ⟨2, ![4096, 2048]⟩
abbrev S_ : Shape := ⟨0, ![]⟩
abbrev S1x2048 : Shape := ⟨2, ![1, 2048]⟩
abbrev S2x2048x16x128 : Shape := ⟨4, ![2, 2048, 16, 128]⟩
abbrev S2x16x2048x128 : Shape := ⟨4, ![2, 16, 2048, 128]⟩
abbrev S2048x2048 : Shape := ⟨2, ![2048, 2048]⟩
abbrev S2x16x128x2048 : Shape := ⟨4, ![2, 16, 128, 2048]⟩
abbrev S2x16x2048x1x128 : Shape := ⟨5, ![2, 16, 2048, 1, 128]⟩
abbrev S2x16x1x2048x128 : Shape := ⟨5, ![2, 16, 1, 2048, 128]⟩
abbrev S2x16x2048x2048x128 : Shape := ⟨5, ![2, 16, 2048, 2048, 128]⟩
abbrev S2048x2048x1 : Shape := ⟨3, ![2048, 2048, 1]⟩
abbrev S2x16x2048x2048 : Shape := ⟨4, ![2, 16, 2048, 2048]⟩
abbrev S2x2048x16 : Shape := ⟨3, ![2, 2048, 16]⟩
abbrev S2x2048x16x1 : Shape := ⟨4, ![2, 2048, 16, 1]⟩
abbrev S1x1x1x128 : Shape := ⟨4, ![1, 1, 1, 128]⟩
abbrev S16x2048 : Shape := ⟨2, ![16, 2048]⟩
abbrev S2x16x128x16 : Shape := ⟨4, ![2, 16, 128, 16]⟩
abbrev S2x16x16x128 : Shape := ⟨4, ![2, 16, 16, 128]⟩
abbrev S2x16x16x1x128 : Shape := ⟨5, ![2, 16, 16, 1, 128]⟩
abbrev S2x16x16x2048x128 : Shape := ⟨5, ![2, 16, 16, 2048, 128]⟩
abbrev S16x2048x1 : Shape := ⟨3, ![16, 2048, 1]⟩
abbrev S2x16x16x128x128 : Shape := ⟨5, ![2, 16, 16, 128, 128]⟩

abbrev nBuf : Space → Nat
  | .hbm => 152
  | .vmem => 0
  | .smem => 0
  | _ => 0

abbrev hbmTy0_0 (i : Nat) : BufTy := match i % 128 with
  | 0 => ⟨S4096x8192, .f32⟩
  | 1 => ⟨S2048, .f32⟩
  | 2 => ⟨S128, .f32⟩
  | 3 => ⟨S4096x2048, .f32⟩
  | 4 => ⟨S4096x2048, .f32⟩
  | 5 => ⟨S4096x2048, .f32⟩
  | 6 => ⟨S4096x2048, .f32⟩
  | 7 => ⟨S_, .f32⟩
  | 8 => ⟨S2048, .f32⟩
  | 9 => ⟨S2048, .f32⟩
  | 10 => ⟨S4096x2048, .f32⟩
  | 11 => ⟨S4096x2048, .f32⟩
  | 12 => ⟨S_, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S1x2048, .f32⟩
  | 19 => ⟨S4096x2048, .f32⟩
  | 20 => ⟨S4096x2048, .f32⟩
  | 21 => ⟨S1x2048, .f32⟩
  | 22 => ⟨S4096x2048, .f32⟩
  | 23 => ⟨S4096x2048, .f32⟩
  | 24 => ⟨S4096x2048, .f32⟩
  | 25 => ⟨S2x2048x16x128, .f32⟩
  | 26 => ⟨S2x16x2048x128, .f32⟩
  | 27 => ⟨S4096x2048, .f32⟩
  | 28 => ⟨S4096x2048, .f32⟩
  | 29 => ⟨S_, .f32⟩
  | 30 => ⟨S4096x2048, .f32⟩
  | 31 => ⟨S4096x2048, .f32⟩
  | 32 => ⟨S_, .f32⟩
  | 33 => ⟨S4096x2048, .f32⟩
  | 34 => ⟨S4096x2048, .f32⟩
  | 35 => ⟨S4096x2048, .f32⟩
  | 36 => ⟨S2x2048x16x128, .f32⟩
  | 37 => ⟨S2x16x2048x128, .f32⟩
  | 38 => ⟨S_, .f32⟩
  | 39 => ⟨S2048, .f32⟩
  | 40 => ⟨S2048, .f32⟩
  | 41 => ⟨S4096x2048, .f32⟩
  | 42 => ⟨S4096x2048, .f32⟩
  | 43 => ⟨S4096x2048, .f32⟩
  | 44 => ⟨S_, .f32⟩
  | 45 => ⟨S4096x2048, .f32⟩
  | 46 => ⟨S4096x2048, .f32⟩
  | 47 => ⟨S_, .f32⟩
  | 48 => ⟨S4096x2048, .f32⟩
  | 49 => ⟨S4096x2048, .f32⟩
  | 50 => ⟨S1x2048, .f32⟩
  | 51 => ⟨S4096x2048, .f32⟩
  | 52 => ⟨S4096x2048, .f32⟩
  | 53 => ⟨S2x2048x16x128, .f32⟩
  | 54 => ⟨S2x16x2048x128, .f32⟩
  | 55 => ⟨S2x2048x16x128, .f32⟩
  | 56 => ⟨S2x16x2048x128, .f32⟩
  | 57 => ⟨S2048x2048, .i32⟩
  | 58 => ⟨S2048x2048, .i32⟩
  | 59 => ⟨S2048x2048, .i1⟩
  | 60 => ⟨S2048x2048, .f32⟩
  | 61 => ⟨S2x16x128x2048, .f32⟩
  | 62 => ⟨S2x16x2048x128, .f32⟩
  | 63 => ⟨S2x16x2048x1x128, .f32⟩
  | 64 => ⟨S2x16x1x2048x128, .f32⟩
  | 65 => ⟨S2x16x2048x2048x128, .f32⟩
  | 66 => ⟨S2x16x2048x2048x128, .f32⟩
  | 67 => ⟨S2x16x2048x2048x128, .f32⟩
  | 68 => ⟨S2048x2048x1, .i1⟩
  | 69 => ⟨S2048x2048x1, .i1⟩
  | 70 => ⟨S_, .f32⟩
  | 71 => ⟨S_, .f32⟩
  | 72 => ⟨S2x16x2048x2048x128, .i1⟩
  | 73 => ⟨S2x16x2048x2048x128, .f32⟩
  | 74 => ⟨S2x16x2048x2048x128, .f32⟩
  | 75 => ⟨S2x16x2048x2048x128, .f32⟩
  | 76 => ⟨S_, .f32⟩
  | 77 => ⟨S_, .f32⟩
  | 78 => ⟨S2x16x2048x2048x128, .i1⟩
  | 79 => ⟨S2x16x2048x2048x128, .f32⟩
  | 80 => ⟨S2x16x2048x2048x128, .f32⟩
  | 81 => ⟨S2x16x2048x1x128, .f32⟩
  | 82 => ⟨S2x16x1x2048x128, .f32⟩
  | 83 => ⟨S2x16x2048x2048x128, .f32⟩
  | 84 => ⟨S2x16x2048x2048x128, .f32⟩
  | 85 => ⟨S2x16x2048x2048x128, .f32⟩
  | 86 => ⟨S2x16x2048x2048x128, .f32⟩
  | 87 => ⟨S_, .f32⟩
  | 88 => ⟨S2x16x2048x2048, .f32⟩
  | 89 => ⟨S2x16x2048x128, .f32⟩
  | 90 => ⟨S2x2048x16x128, .f32⟩
  | 91 => ⟨S2x2048x16x128, .f32⟩
  | 92 => ⟨S_, .f32⟩
  | 93 => ⟨S2x2048x16, .f32⟩
  | 94 => ⟨S2x2048x16x1, .f32⟩
  | 95 => ⟨S_, .f32⟩
  | 96 => ⟨S2x2048x16x1, .f32⟩
  | 97 => ⟨S2x2048x16x1, .f32⟩
  | 98 => ⟨S_, .f32⟩
  | 99 => ⟨S2x2048x16x1, .f32⟩
  | 100 => ⟨S2x2048x16x1, .f32⟩
  | 101 => ⟨S2x2048x16x1, .f32⟩
  | 102 => ⟨S2x2048x16x128, .f32⟩
  | 103 => ⟨S2x2048x16x128, .f32⟩
  | 104 => ⟨S1x1x1x128, .f32⟩
  | 105 => ⟨S2x2048x16x128, .f32⟩
  | 106 => ⟨S2x2048x16x128, .f32⟩
  | 107 => ⟨S2x2048x16x128, .f32⟩
  | 108 => ⟨S2x2048x16x128, .f32⟩
  | 109 => ⟨S2x2048x16x128, .f32⟩
  | 110 => ⟨S_, .f32⟩
  | 111 => ⟨S2x2048x16x128, .f32⟩
  | 112 => ⟨S2x2048x16x128, .f32⟩
  | 113 => ⟨S_, .f32⟩
  | 114 => ⟨S2x2048x16x128, .f32⟩
  | 115 => ⟨S2x2048x16x128, .f32⟩
  | 116 => ⟨S2x2048x16x128, .f32⟩
  | 117 => ⟨S2x2048x16x128, .f32⟩
  | 118 => ⟨S16x2048, .i32⟩
  | 119 => ⟨S16x2048, .i32⟩
  | 120 => ⟨S_, .i32⟩
  | 121 => ⟨S16x2048, .i32⟩
  | 122 => ⟨S16x2048, .i32⟩
  | 123 => ⟨S16x2048, .i1⟩
  | 124 => ⟨S16x2048, .f32⟩
  | 125 => ⟨S2x16x128x16, .f32⟩
  | 126 => ⟨S2x16x16x128, .f32⟩
  | 127 => ⟨S2x16x16x1x128, .f32⟩
  | _ => ⟨S4096x8192, .f32⟩

abbrev hbmTy0_1 (i : Nat) : BufTy := match i % 128 with
  | 0 => ⟨S2x16x1x2048x128, .f32⟩
  | 1 => ⟨S2x16x16x2048x128, .f32⟩
  | 2 => ⟨S2x16x16x2048x128, .f32⟩
  | 3 => ⟨S2x16x16x2048x128, .f32⟩
  | 4 => ⟨S16x2048x1, .i1⟩
  | 5 => ⟨S16x2048x1, .i1⟩
  | 6 => ⟨S_, .f32⟩
  | 7 => ⟨S_, .f32⟩
  | 8 => ⟨S2x16x16x2048x128, .i1⟩
  | 9 => ⟨S2x16x16x2048x128, .f32⟩
  | 10 => ⟨S2x16x16x2048x128, .f32⟩
  | 11 => ⟨S2x16x16x2048x128, .f32⟩
  | 12 => ⟨S_, .f32⟩
  | 13 => ⟨S_, .f32⟩
  | 14 => ⟨S2x16x16x2048x128, .i1⟩
  | 15 => ⟨S2x16x16x2048x128, .f32⟩
  | 16 => ⟨S2x16x16x2048x128, .f32⟩
  | 17 => ⟨S2x16x1x2048x128, .f32⟩
  | 18 => ⟨S2x16x16x2048x128, .f32⟩
  | 19 => ⟨S2x16x16x2048x128, .f32⟩
  | 20 => ⟨S2x16x16x128x128, .f32⟩
  | 21 => ⟨S2x16x16x128x128, .f32⟩
  | 22 => ⟨S4096x2048, .f32⟩
  | 23 => ⟨S4096x2048, .bf16⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_8 : Ref sig .tc := ⟨.hbm, 92, rfl⟩
abbrev main_v66 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_cst_10 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_11 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v96 : Ref sig .tc := ⟨.hbm, 138, rfl⟩
abbrev main_v97 : Ref sig .tc := ⟨.hbm, 139, rfl⟩
abbrev main_cst_12 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩

abbrev nD : Nat := 1
abbrev τ : Topo := Topo.v7x

variable {F : FTy → Type} [FloatOps F]
-- ==== LbF.lean ====
abbrev S2x2048 : Shape := ⟨2, ![2, 2048]⟩
abbrev S2048 : Shape := ⟨1, ![2048]⟩
abbrev S1x2048 : Shape := ⟨2, ![1, 2048]⟩

abbrev nBuf : Space → Nat
  | .hbm => 2
  | .vmem => 2
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .local _ .vmem, ⟨0, _⟩ => ⟨S2x2048, .f32⟩
  | .local _ .vmem, ⟨1, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RefLbFIdeal.lean ====
abbrev S2x2048 : Shape := ⟨2, ![2, 2048]⟩
abbrev S_ : Shape := ⟨0, ![]⟩
abbrev S2048 : Shape := ⟨1, ![2048]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S_, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S2x2048, .f32⟩
  | .hbm, ⟨14, _⟩ => ⟨S2x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S2048, .f32⟩
  | .hbm, ⟨22, _⟩ => ⟨S1x2048, .f32⟩
  | .hbm, ⟨23, _⟩ => ⟨S1x2048, .f32⟩
  | .hbm, ⟨24, _⟩ => ⟨S2x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S2x2048, .f32⟩
  | .hbm, ⟨29, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Loss.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x1, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefLossIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x1, .f32⟩
  | .hbm, ⟨72, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AdamSmall.lean ====
abbrev S768x128 : Shape := ⟨2, ![768, 128]⟩
abbrev S384x128 : Shape := ⟨2, ![384, 128]⟩

abbrev nBuf : Space → Nat
  | .hbm => 7
  | .vmem => 14
  | .smem => 0
  | _ => 0

abbrev bufTy : (tb : Table) → Fin (tcTables nBuf tb) → BufTy
  | .hbm, ⟨0, _⟩ => ⟨S768x128, .f32⟩
  | .hbm, ⟨1, _⟩ => ⟨S768x128, .f32⟩
  | .hbm, ⟨2, _⟩ => ⟨S768x128, .f32⟩
  | .hbm, ⟨3, _⟩ => ⟨S768x128, .f32⟩
  | .hbm, ⟨4, _⟩ => ⟨S768x128, .f32⟩
  | .hbm, ⟨5, _⟩ => ⟨S768x128, .f32⟩
  | .hbm, ⟨6, _⟩ => ⟨S768x128, .f32⟩
  | .local _ .vmem, ⟨0, _⟩ => ⟨S384x128, .f32⟩
  | .local _ .vmem, ⟨1, _⟩ => ⟨S384x128, .f32⟩
  | .local _ .vmem, ⟨2, _⟩ => ⟨S384x128, .f32⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x128, .f32⟩
  | _, _ => ⟨S768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamSmallIdeal.lean ====
abbrev S768x128 : Shape := ⟨2, ![768, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x128, .f32⟩
  | .hbm, ⟨1, _⟩ => ⟨S768x128, .f32⟩
  | .hbm, ⟨2, _⟩ => ⟨S768x128, .f32⟩
  | .hbm, ⟨3, _⟩ => ⟨S768x128, .f32⟩
  | .hbm, ⟨4, _⟩ => ⟨S_, .f32⟩
  | .hbm, ⟨5, _⟩ => ⟨S768x128, .f32⟩
  | .hbm, ⟨6, _⟩ => ⟨S768x128, .f32⟩
  | .hbm, ⟨7, _⟩ => ⟨S_, .f32⟩
  | .hbm, ⟨8, _⟩ => ⟨S768x128, .f32⟩
  | .hbm, ⟨9, _⟩ => ⟨S768x128, .f32⟩
  | .hbm, ⟨10, _⟩ => ⟨S768x128, .f32⟩
  | .hbm, ⟨11, _⟩ => ⟨S_, .f32⟩
  | .hbm, ⟨12, _⟩ => ⟨S768x128, .f32⟩
  | .hbm, ⟨13, _⟩ => ⟨S768x128, .f32⟩
  | .hbm, ⟨14, _⟩ => ⟨S768x128, .f32⟩
  | .hbm, ⟨15, _⟩ => ⟨S_, .f32⟩
  | .hbm, ⟨16, _⟩ => ⟨S768x128, .f32⟩
  | .hbm, ⟨17, _⟩ => ⟨S768x128, .f32⟩
  | .hbm, ⟨18, _⟩ => ⟨S768x128, .f32⟩
  | .hbm, ⟨19, _⟩ => ⟨S_, .f32⟩
  | .hbm, ⟨20, _⟩ => ⟨S768x128, .f32⟩
  | .hbm, ⟨21, _⟩ => ⟨S768x128, .f32⟩
  | .hbm, ⟨22, _⟩ => ⟨S_, .f32⟩
  | .hbm, ⟨23, _⟩ => ⟨S768x128, .f32⟩
  | .hbm, ⟨24, _⟩ => ⟨S768x128, .f32⟩
  | .hbm, ⟨25, _⟩ => ⟨S768x128, .f32⟩
  | .hbm, ⟨26, _⟩ => ⟨S_, .f32⟩
  | .hbm, ⟨27, _⟩ => ⟨S768x128, .f32⟩
  | .hbm, ⟨28, _⟩ => ⟨S768x128, .f32⟩
  | .hbm, ⟨29, _⟩ => ⟨S768x128, .f32⟩
  | .hbm, ⟨30, _⟩ => ⟨S_, .f32⟩
  | .hbm, ⟨31, _⟩ => ⟨S768x128, .f32⟩
  | .hbm, ⟨32, _⟩ => ⟨S768x128, .f32⟩
  | .hbm, ⟨33, _⟩ => ⟨S768x128, .f32⟩
  | .hbm, ⟨34, _⟩ => ⟨S_, .f32⟩
  | .hbm, ⟨35, _⟩ => ⟨S768x128, .f32⟩
  | .hbm, ⟨36, _⟩ => ⟨S768x128, .f32⟩
  | _, _ => ⟨S768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHgrnIn.lean ====
abbrev S8x4096x1024 : Shape := ⟨3, ![8, 4096, 1024]⟩
abbrev S4096x1024 : Shape := ⟨2, ![4096, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamHgrnInIdeal.lean ====
abbrev S8x4096x1024 : Shape := ⟨3, ![8, 4096, 1024]⟩
abbrev S4096x1024 : Shape := ⟨2, ![4096, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamHgrnInIdeal.lean ====
abbrev S8x4096x1024 : Shape := ⟨3, ![8, 4096, 1024]⟩
abbrev S4096x1024 : Shape := ⟨2, ![4096, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S8x4096x1024, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamHgrnOut.lean ====
abbrev S8x512x2048 : Shape := ⟨3, ![8, 512, 2048]⟩
abbrev S512x2048 : Shape := ⟨2, ![512, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamHgrnOutIdeal.lean ====
abbrev S8x512x2048 : Shape := ⟨3, ![8, 512, 2048]⟩
abbrev S512x2048 : Shape := ⟨2, ![512, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamHgrnOutIdeal.lean ====
abbrev S8x512x2048 : Shape := ⟨3, ![8, 512, 2048]⟩
abbrev S512x2048 : Shape := ⟨2, ![512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMambaIn.lean ====
abbrev S8x4096x1288 : Shape := ⟨3, ![8, 4096, 1288]⟩
abbrev S4096x1288 : Shape := ⟨2, ![4096, 1288]⟩
abbrev S8x128x1288 : Shape := ⟨3, ![8, 128, 1288]⟩
abbrev S128x1288 : Shape := ⟨2, ![128, 1288]⟩
abbrev S1x128x1288 : Shape := ⟨3, ![1, 128, 1288]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x1288, .bf16⟩
  | .hbm, ⟨1, _⟩ => ⟨S4096x1288, .f32⟩
  | .hbm, ⟨2, _⟩ => ⟨S4096x1288, .f32⟩
  | .hbm, ⟨3, _⟩ => ⟨S4096x1288, .f32⟩
  | .hbm, ⟨4, _⟩ => ⟨S4096x1288, .f32⟩
  | .hbm, ⟨5, _⟩ => ⟨S4096x1288, .f32⟩
  | .hbm, ⟨6, _⟩ => ⟨S4096x1288, .f32⟩
  | .hbm, ⟨7, _⟩ => ⟨S4096x1288, .f32⟩
  | .local _ .vmem, ⟨0, _⟩ => ⟨S8x128x1288, .bf16⟩
  | .local _ .vmem, ⟨1, _⟩ => ⟨S8x128x1288, .bf16⟩
  | .local _ .vmem, ⟨2, _⟩ => ⟨S128x1288, .f32⟩
  | .local _ .vmem, ⟨3, _⟩ => ⟨S128x1288, .f32⟩
  | .local _ .vmem, ⟨4, _⟩ => ⟨S128x1288, .f32⟩
  | .local _ .vmem, ⟨5, _⟩ => ⟨S128x1288, .f32⟩
  | .local _ .vmem, ⟨6, _⟩ => ⟨S128x1288, .f32⟩
  | .local _ .vmem, ⟨7, _⟩ => ⟨S128x1288, .f32⟩
  | .local _ .vmem, ⟨8, _⟩ => ⟨S128x1288, .f32⟩
  | .local _ .vmem, ⟨9, _⟩ => ⟨S128x1288, .f32⟩
  | .local _ .vmem, ⟨10, _⟩ => ⟨S128x1288, .f32⟩
  | .local _ .vmem, ⟨11, _⟩ => ⟨S128x1288, .f32⟩
  | .local _ .vmem, ⟨12, _⟩ => ⟨S128x1288, .f32⟩
  | .local _ .vmem, ⟨13, _⟩ => ⟨S128x1288, .f32⟩
  | .local _ .vmem, ⟨14, _⟩ => ⟨S128x1288, .f32⟩
  | .local _ .vmem, ⟨15, _⟩ => ⟨S128x1288, .f32⟩
  | _, _ => ⟨S8x4096x1288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMambaInIdeal.lean ====
abbrev S8x4096x1288 : Shape := ⟨3, ![8, 4096, 1288]⟩
abbrev S4096x1288 : Shape := ⟨2, ![4096, 1288]⟩
abbrev S8x128x1288 : Shape := ⟨3, ![8, 128, 1288]⟩
abbrev S128x1288 : Shape := ⟨2, ![128, 1288]⟩
abbrev S1x128x1288 : Shape := ⟨3, ![1, 128, 1288]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x1288, .bf16⟩
  | .hbm, ⟨1, _⟩ => ⟨S4096x1288, .f32⟩
  | .hbm, ⟨2, _⟩ => ⟨S4096x1288, .f32⟩
  | .hbm, ⟨3, _⟩ => ⟨S4096x1288, .f32⟩
  | .hbm, ⟨4, _⟩ => ⟨S4096x1288, .f32⟩
  | .hbm, ⟨5, _⟩ => ⟨S4096x1288, .f32⟩
  | .hbm, ⟨6, _⟩ => ⟨S4096x1288, .f32⟩
  | .hbm, ⟨7, _⟩ => ⟨S4096x1288, .f32⟩
  | .local _ .vmem, ⟨0, _⟩ => ⟨S8x128x1288, .bf16⟩
  | .local _ .vmem, ⟨1, _⟩ => ⟨S8x128x1288, .bf16⟩
  | .local _ .vmem, ⟨2, _⟩ => ⟨S128x1288, .f32⟩
  | .local _ .vmem, ⟨3, _⟩ => ⟨S128x1288, .f32⟩
  | .local _ .vmem, ⟨4, _⟩ => ⟨S128x1288, .f32⟩
  | .local _ .vmem, ⟨5, _⟩ => ⟨S128x1288, .f32⟩
  | .local _ .vmem, ⟨6, _⟩ => ⟨S128x1288, .f32⟩
  | .local _ .vmem, ⟨7, _⟩ => ⟨S128x1288, .f32⟩
  | .local _ .vmem, ⟨8, _⟩ => ⟨S128x1288, .f32⟩
  | .local _ .vmem, ⟨9, _⟩ => ⟨S128x1288, .f32⟩
  | .local _ .vmem, ⟨10, _⟩ => ⟨S128x1288, .f32⟩
  | .local _ .vmem, ⟨11, _⟩ => ⟨S128x1288, .f32⟩
  | .local _ .vmem, ⟨12, _⟩ => ⟨S128x1288, .f32⟩
  | .local _ .vmem, ⟨13, _⟩ => ⟨S128x1288, .f32⟩
  | .local _ .vmem, ⟨14, _⟩ => ⟨S128x1288, .f32⟩
  | .local _ .vmem, ⟨15, _⟩ => ⟨S128x1288, .f32⟩
  | _, _ => ⟨S8x4096x1288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamMambaInIdeal.lean ====
abbrev S8x4096x1288 : Shape := ⟨3, ![8, 4096, 1288]⟩
abbrev S4096x1288 : Shape := ⟨2, ![4096, 1288]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x1288, .bf16⟩
  | .hbm, ⟨1, _⟩ => ⟨S4096x1288, .f32⟩
  | .hbm, ⟨2, _⟩ => ⟨S4096x1288, .f32⟩
  | .hbm, ⟨3, _⟩ => ⟨S4096x1288, .f32⟩
  | .hbm, ⟨4, _⟩ => ⟨S8x4096x1288, .f32⟩
  | .hbm, ⟨5, _⟩ => ⟨S_, .f32⟩
  | .hbm, ⟨6, _⟩ => ⟨S4096x1288, .f32⟩
  | .hbm, ⟨7, _⟩ => ⟨S_, .f32⟩
  | .hbm, ⟨8, _⟩ => ⟨S4096x1288, .f32⟩
  | .hbm, ⟨9, _⟩ => ⟨S4096x1288, .f32⟩
  | .hbm, ⟨10, _⟩ => ⟨S_, .f32⟩
  | .hbm, ⟨11, _⟩ => ⟨S4096x1288, .f32⟩
  | .hbm, ⟨12, _⟩ => ⟨S4096x1288, .f32⟩
  | .hbm, ⟨13, _⟩ => ⟨S4096x1288, .f32⟩
  | .hbm, ⟨14, _⟩ => ⟨S_, .f32⟩
  | .hbm, ⟨15, _⟩ => ⟨S4096x1288, .f32⟩
  | .hbm, ⟨16, _⟩ => ⟨S4096x1288, .f32⟩
  | .hbm, ⟨17, _⟩ => ⟨S4096x1288, .f32⟩
  | .hbm, ⟨18, _⟩ => ⟨S_, .f32⟩
  | .hbm, ⟨19, _⟩ => ⟨S4096x1288, .f32⟩
  | .hbm, ⟨20, _⟩ => ⟨S4096x1288, .f32⟩
  | .hbm, ⟨21, _⟩ => ⟨S4096x1288, .f32⟩
  | .hbm, ⟨22, _⟩ => ⟨S_, .f32⟩
  | .hbm, ⟨23, _⟩ => ⟨S4096x1288, .f32⟩
  | .hbm, ⟨24, _⟩ => ⟨S4096x1288, .f32⟩
  | .hbm, ⟨25, _⟩ => ⟨S_, .f32⟩
  | .hbm, ⟨26, _⟩ => ⟨S4096x1288, .f32⟩
  | .hbm, ⟨27, _⟩ => ⟨S4096x1288, .f32⟩
  | .hbm, ⟨28, _⟩ => ⟨S4096x1288, .f32⟩
  | .hbm, ⟨29, _⟩ => ⟨S_, .f32⟩
  | .hbm, ⟨30, _⟩ => ⟨S4096x1288, .f32⟩
  | .hbm, ⟨31, _⟩ => ⟨S4096x1288, .f32⟩
  | .hbm, ⟨32, _⟩ => ⟨S4096x1288, .f32⟩
  | .hbm, ⟨33, _⟩ => ⟨S_, .f32⟩
  | .hbm, ⟨34, _⟩ => ⟨S4096x1288, .f32⟩
  | .hbm, ⟨35, _⟩ => ⟨S4096x1288, .f32⟩
  | .hbm, ⟨36, _⟩ => ⟨S4096x1288, .f32⟩
  | .hbm, ⟨37, _⟩ => ⟨S_, .f32⟩
  | .hbm, ⟨38, _⟩ => ⟨S4096x1288, .f32⟩
  | .hbm, ⟨39, _⟩ => ⟨S4096x1288, .f32⟩
  | _, _ => ⟨S8x4096x1288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMambaOut.lean ====
abbrev S8x1024x2048 : Shape := ⟨3, ![8, 1024, 2048]⟩
abbrev S1024x2048 : Shape := ⟨2, ![1024, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMambaOutIdeal.lean ====
abbrev S8x1024x2048 : Shape := ⟨3, ![8, 1024, 2048]⟩
abbrev S1024x2048 : Shape := ⟨2, ![1024, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamMambaOutIdeal.lean ====
abbrev S8x1024x2048 : Shape := ⟨3, ![8, 1024, 2048]⟩
abbrev S1024x2048 : Shape := ⟨2, ![1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S8x1024x2048, .f32⟩
  | .hbm, ⟨5, _⟩ => ⟨S_, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S8x8192x1408 : Shape := ⟨3, ![8, 8192, 1408]⟩
abbrev S8192x1408 : Shape := ⟨2, ![8192, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x8192x1408, .bf16⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S8x8192x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S8x8192x1408 : Shape := ⟨3, ![8, 8192, 1408]⟩
abbrev S8192x1408 : Shape := ⟨2, ![8192, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x8192x1408, .bf16⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S8x8192x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamUpIdeal.lean ====
abbrev S8x8192x1408 : Shape := ⟨3, ![8, 8192, 1408]⟩
abbrev S8192x1408 : Shape := ⟨2, ![8192, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x8192x1408, .bf16⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8x8192x1408, .f32⟩
  | .hbm, ⟨5, _⟩ => ⟨S_, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S_, .f32⟩
  | .hbm, ⟨11, _⟩ => ⟨S8192x1408, .f32⟩
  | .hbm, ⟨12, _⟩ => ⟨S8192x1408, .f32⟩
  | .hbm, ⟨13, _⟩ => ⟨S8192x1408, .f32⟩
  | .hbm, ⟨14, _⟩ => ⟨S_, .f32⟩
  | .hbm, ⟨15, _⟩ => ⟨S8192x1408, .f32⟩
  | .hbm, ⟨16, _⟩ => ⟨S8192x1408, .f32⟩
  | .hbm, ⟨17, _⟩ => ⟨S8192x1408, .f32⟩
  | .hbm, ⟨18, _⟩ => ⟨S_, .f32⟩
  | .hbm, ⟨19, _⟩ => ⟨S8192x1408, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S_, .f32⟩
  | .hbm, ⟨26, _⟩ => ⟨S8192x1408, .f32⟩
  | .hbm, ⟨27, _⟩ => ⟨S8192x1408, .f32⟩
  | .hbm, ⟨28, _⟩ => ⟨S8192x1408, .f32⟩
  | .hbm, ⟨29, _⟩ => ⟨S_, .f32⟩
  | .hbm, ⟨30, _⟩ => ⟨S8192x1408, .f32⟩
  | .hbm, ⟨31, _⟩ => ⟨S8192x1408, .f32⟩
  | .hbm, ⟨32, _⟩ => ⟨S8192x1408, .f32⟩
  | .hbm, ⟨33, _⟩ => ⟨S_, .f32⟩
  | .hbm, ⟨34, _⟩ => ⟨S8192x1408, .f32⟩
  | .hbm, ⟨35, _⟩ => ⟨S8192x1408, .f32⟩
  | .hbm, ⟨36, _⟩ => ⟨S8192x1408, .f32⟩
  | .hbm, ⟨37, _⟩ => ⟨S_, .f32⟩
  | .hbm, ⟨38, _⟩ => ⟨S8192x1408, .f32⟩
  | .hbm, ⟨39, _⟩ => ⟨S8192x1408, .f32⟩
  | _, _ => ⟨S8x8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S8x2816x2048 : Shape := ⟨3, ![8, 2816, 2048]⟩
abbrev S2816x2048 : Shape := ⟨2, ![2816, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x2816x2048, .bf16⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x2816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamDownIdeal.lean ====
abbrev S8x2816x2048 : Shape := ⟨3, ![8, 2816, 2048]⟩
abbrev S2816x2048 : Shape := ⟨2, ![2816, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2816x2048, .bf16⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S8x2816x2048, .f32⟩
  | .hbm, ⟨5, _⟩ => ⟨S_, .f32⟩
  | .hbm, ⟨6, _⟩ => ⟨S2816x2048, .f32⟩
  | .hbm, ⟨7, _⟩ => ⟨S_, .f32⟩
  | .hbm, ⟨8, _⟩ => ⟨S2816x2048, .f32⟩
  | .hbm, ⟨9, _⟩ => ⟨S2816x2048, .f32⟩
  | .hbm, ⟨10, _⟩ => ⟨S_, .f32⟩
  | .hbm, ⟨11, _⟩ => ⟨S2816x2048, .f32⟩
  | .hbm, ⟨12, _⟩ => ⟨S2816x2048, .f32⟩
  | .hbm, ⟨13, _⟩ => ⟨S2816x2048, .f32⟩
  | .hbm, ⟨14, _⟩ => ⟨S_, .f32⟩
  | .hbm, ⟨15, _⟩ => ⟨S2816x2048, .f32⟩
  | .hbm, ⟨16, _⟩ => ⟨S2816x2048, .f32⟩
  | .hbm, ⟨17, _⟩ => ⟨S2816x2048, .f32⟩
  | .hbm, ⟨18, _⟩ => ⟨S_, .f32⟩
  | .hbm, ⟨19, _⟩ => ⟨S2816x2048, .f32⟩
  | .hbm, ⟨20, _⟩ => ⟨S2816x2048, .f32⟩
  | .hbm, ⟨21, _⟩ => ⟨S2816x2048, .f32⟩
  | .hbm, ⟨22, _⟩ => ⟨S_, .f32⟩
  | .hbm, ⟨23, _⟩ => ⟨S2816x2048, .f32⟩
  | .hbm, ⟨24, _⟩ => ⟨S2816x2048, .f32⟩
  | .hbm, ⟨25, _⟩ => ⟨S_, .f32⟩
  | .hbm, ⟨26, _⟩ => ⟨S2816x2048, .f32⟩
  | .hbm, ⟨27, _⟩ => ⟨S2816x2048, .f32⟩
  | .hbm, ⟨28, _⟩ => ⟨S2816x2048, .f32⟩
  | .hbm, ⟨29, _⟩ => ⟨S_, .f32⟩
  | .hbm, ⟨30, _⟩ => ⟨S2816x2048, .f32⟩
  | .hbm, ⟨31, _⟩ => ⟨S2816x2048, .f32⟩
  | .hbm, ⟨32, _⟩ => ⟨S2816x2048, .f32⟩
  | .hbm, ⟨33, _⟩ => ⟨S_, .f32⟩
  | .hbm, ⟨34, _⟩ => ⟨S2816x2048, .f32⟩
  | .hbm, ⟨35, _⟩ => ⟨S2816x2048, .f32⟩
  | .hbm, ⟨36, _⟩ => ⟨S2816x2048, .f32⟩
  | .hbm, ⟨37, _⟩ => ⟨S_, .f32⟩
  | .hbm, ⟨38, _⟩ => ⟨S2816x2048, .f32⟩
  | .hbm, ⟨39, _⟩ => ⟨S2816x2048, .f32⟩
  | _, _ => ⟨S8x2816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SumDev.lean ====
abbrev S8x2168x128 : Shape := ⟨3, ![8, 2168, 128]⟩
abbrev S2168x128 : Shape := ⟨2, ![2168, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2168x128, .f32⟩
  | .hbm, ⟨1, _⟩ => ⟨S2168x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | _, _ => ⟨S8x2168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![271], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RefSumDevIdeal.lean ====
abbrev S8x2168x128 : Shape := ⟨3, ![8, 2168, 128]⟩
abbrev S_ : Shape := ⟨0, ![]⟩
abbrev S2168x128 : Shape := ⟨2, ![2168, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2168x128, .f32⟩
  | .hbm, ⟨1, _⟩ => ⟨S_, .f32⟩
  | .hbm, ⟨2, _⟩ => ⟨S2168x128, .f32⟩
  | _, _ => ⟨S8x2168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Finite.lean ====
module

public import Idealize.ShloMosaic.PureOps.Ideal
public import Idealize.ShloMosaic.PureOps.Ideal.Laws

@[expose] public section

namespace Cert.Finite

open Idealize.ShloMosaic

/-- What lies strictly between the two infinities is a real. -/
theorem real_of_between {x : Ideal .f32}
    (h : IntOp.andi (FloatOps.cmpf .olt x (FloatOps.ofBits (F := Ideal) .f32 0x7F800000#32)) (FloatOps.cmpf .ogt x (FloatOps.ofBits (F := Ideal) .f32 0xFF800000#32)) = 1#1) :
    ∃ r : ℝ, x = (r : EReal) := by
  have ht : Ideal.ofBits .f32 0x7F800000#32 = ⊤ := by simp [Ideal.ofBits, Ideal.ieee]
  have hb : Ideal.ofBits .f32 0xFF800000#32 = ⊥ := by simp [Ideal.ofBits, Ideal.ieee]
  replace h : IntOp.andi (Ideal.cmp .olt x (Ideal.ofBits .f32 0x7F800000#32)) (Ideal.cmp .ogt x (Ideal.ofBits .f32 0xFF800000#32)) = 1#1 := h
  rw [ht, hb] at h
  refine ⟨EReal.toReal x, (EReal.coe_toReal ?_ ?_).symm⟩ <;> rintro rfl <;> simp [Ideal.cmp, IntOp.andi] at h

end Cert.Finite
end
-- ==== Proof.Conv.lean ====
module

public import Idealize.ShloMosaic.Lib.Pointwise
public import Idealize.ShloMosaic.Lib.Tactic.WordOmega

@[expose] public section

noncomputable section

namespace Cert.Conv

open Idealize.ShloMosaic

/-! One channel of a sequence of 2048 steps: the causal four-tap convolution followed by SiLU, and its gradient. -/

/-- The sequence `k` steps earlier, with zeros before the start. -/
def past (x : ℕ → EReal) (k t : ℕ) : EReal := if k ≤ t then x (t - k) else 0

/-- The sequence `k` steps later, with zeros past the end. -/
def later (d : ℕ → EReal) (k t : ℕ) : EReal := if t + k < 2048 then d (t + k) else 0

/-- The convolution with its bias: tap 3 meets the current step, tap 0 the step three before. -/
def pre (w : Fin 4 → EReal) (b : EReal) (x : ℕ → EReal) (t : ℕ) : EReal :=
  b + w 3 * x t + w 0 * past x 3 t + w 1 * past x 2 t + w 2 * past x 1 t

/-- The gradient of SiLU at `p`, met by the incoming gradient `g`. -/
def dsilu (p g : EReal) : EReal := g * (Ideal.logistic p * (1 + p * (1 - Ideal.logistic p)))

/-- The gradient at the convolution's result. -/
def dpre (w : Fin 4 → EReal) (b : EReal) (x g : ℕ → EReal) (t : ℕ) : EReal := dsilu (pre w b x t) (g t)

/-- The gradient at the convolution's input, from the gradient `d` at its result. -/
def dx (w : Fin 4 → EReal) (d : ℕ → EReal) (t : ℕ) : EReal :=
  w 3 * d t + w 0 * later d 3 t + w 1 * later d 2 t + w 2 * later d 1 t

/-- The gradients at the taps (rows 0 to 3) and at the bias (row 4), summed over one sequence. -/
def dw (d x : ℕ → EReal) (r : ℕ) : EReal :=
  if r < 4 then ∑ t : Fin 2048, later d (3 - r) t * x t else if r = 4 then ∑ t : Fin 2048, d t else 0

/-- Column `c` of sequence `b` of a stack of sequences of 2048 steps. -/
def col {n m : ℕ} (X : (⟨2, ![n, m]⟩ : Shape).Idx → EReal) (b : ℕ) (c : Fin m) (t : ℕ) : EReal :=
  if h : t < 2048 ∧ b * 2048 + t < n then X (ix2 ⟨b * 2048 + t, h.2⟩ c) else 0

theorem later_zero (d : ℕ → EReal) (t : Fin 2048) : later d 0 t = d t := if_pos (by omega)

/-- The gradient at a tap: the shift may stand on the input instead of on the gradient. -/
theorem sum_past (d x : ℕ → EReal) (k : ℕ) (hk : k < 2048) :
    ∑ t : Fin 2048, d t * past x k t = ∑ t : Fin 2048, later d k t * x t := by
  rw [Fin.sum_univ_eq_sum_range (fun t => d t * past x k t) 2048, Fin.sum_univ_eq_sum_range (fun t => later d k t * x t) 2048]
  rw [← Finset.sum_filter_add_sum_filter_not (Finset.range 2048) (fun t => k ≤ t) (fun t => d t * past x k t),
    ← Finset.sum_filter_add_sum_filter_not (Finset.range 2048) (fun t => t + k < 2048) (fun t => later d k t * x t)]
  rw [Finset.sum_eq_zero (s := Finset.filter (fun t => ¬k ≤ t) _), Finset.sum_eq_zero (s := Finset.filter (fun t => ¬t + k < 2048) _), add_zero, add_zero]
  · refine Finset.sum_nbij' (fun t => t - k) (fun t => t + k) ?_ ?_ ?_ ?_ ?_
    · intro t ht; simp only [Finset.mem_filter, Finset.mem_range] at ht ⊢; omega
    · intro t ht; simp only [Finset.mem_filter, Finset.mem_range] at ht ⊢; omega
    · intro t ht; simp only [Finset.mem_filter, Finset.mem_range] at ht; omega
    · intro t ht; omega
    · intro t ht
      simp only [Finset.mem_filter, Finset.mem_range] at ht
      have e : t - k + k = t := by omega
      simp only [past, later, e, if_pos ht.2, if_pos ht.1]
  · intro t ht
    simp only [Finset.mem_filter] at ht
    simp only [later, if_neg ht.2, zero_mul]
  · intro t ht
    simp only [Finset.mem_filter] at ht
    simp only [past, if_neg ht.2, mul_zero]

/-- The two forms of SiLU's gradient agree at finite values. -/
theorem dsilu_eq (p g : EReal) (hp : ∃ r : ℝ, p = r) (hg : ∃ r : ℝ, g = r) :
    dsilu p g = g * Ideal.logistic p + p * g * (Ideal.logistic p * (1 - Ideal.logistic p)) := by
  obtain ⟨p, rfl⟩ := hp
  obtain ⟨g, rfl⟩ := hg
  have hs : ∃ s : ℝ, Ideal.logistic (p : EReal) = s := ⟨_, Ideal.logistic_coe p⟩
  obtain ⟨s, hs⟩ := hs
  simp only [dsilu, hs]
  norm_cast
  ring

/-- A select on the step's number being at least `k`. -/
theorem select_sge (r : Fin 2048) (k : ℕ) (hk : k < 2048) (v : EReal) :
    Scalar.select (IntOp.cmpi .sge (BitVec.ofNat 32 r.val) (BitVec.ofNat 32 k)) v 0 = if k ≤ r.val then v else 0 := by
  have hr := r.isLt
  simp (disch := omega) only [hlo_ix]

/-- A select on the step's number being below `k`. -/
theorem select_slt (r : Fin 2048) (k : ℕ) (hk : k < 2048) (v : EReal) :
    Scalar.select (IntOp.cmpi .slt (BitVec.ofNat 32 r.val) (BitVec.ofNat 32 k)) v 0 = if r.val < k then v else 0 := by
  have hr := r.isLt
  simp (disch := omega) only [hlo_ix]

/-- A masked product with the sequence rolled by `k` meets the sequence `k` steps earlier. -/
theorem select_past {m : ℕ} (u : EReal) (a : (⟨2, ![2048, m]⟩ : Shape).Idx → EReal) (r : Fin 2048) (c : Fin m) (k : ℕ) (hk : k < 2048)
    (h : (r.val + 2048 - k) % 2048 < 2048) :
    Scalar.select (IntOp.cmpi .sge (BitVec.ofNat 32 r.val) (BitVec.ofNat 32 k)) (u * a (ix2 ⟨(r.val + 2048 - k) % 2048, h⟩ c)) 0
      = u * past (col a 0 c) k r := by
  have hr := r.isLt
  rw [select_sge r k hk]
  unfold past
  split
  · have e : (r.val + 2048 - k) % 2048 = 0 * 2048 + (r.val - k) := by omega
    rw [col, dif_pos (by omega)]
    simp only [e]
  · rw [mul_zero]

theorem col_at {n m : ℕ} (X : (⟨2, ![n, m]⟩ : Shape).Idx → EReal) (b : ℕ) (c : Fin m) (t : ℕ) (ht : t < 2048) (h : b * 2048 + t < n) :
    col X b c t = X (ix2 ⟨b * 2048 + t, h⟩ c) := dif_pos ⟨ht, h⟩

theorem col_zero {m : ℕ} (X : (⟨2, ![2048, m]⟩ : Shape).Idx → EReal) (c : Fin m) (t : Fin 2048) : col X 0 c t = X (ix2 t c) := by
  rw [col_at X 0 c t (by omega) (by omega)]
  congr 2
  ext; simp

/-- A masked entry of a sequence rolled forward by `k` is the sequence `k` steps later. -/
theorem select_later (f : Fin 2048 → EReal) (d : ℕ → EReal) (hf : ∀ t, f t = d t) (r : Fin 2048) (k q : ℕ) (hk : 0 < k) (hq : q + k = 2048)
    (h : (r.val + 2048 - q) % 2048 < 2048) (u : EReal) :
    Scalar.select (IntOp.cmpi .slt (BitVec.ofNat 32 r.val) (BitVec.ofNat 32 q)) (f ⟨(r.val + 2048 - q) % 2048, h⟩ * u) 0
      = later d k r * u := by
  have hr := r.isLt
  rw [select_slt r q (by omega), hf]
  unfold later
  split
  · rw [if_pos (by omega)]
    congr 2
    show (r.val + 2048 - q) % 2048 = _
    omega
  · rw [if_neg (by omega), zero_mul]

/-- A sum over the first two axes of three. -/
theorem sum01 {n0 n1 n2 : ℕ} (h : (⟨3, ![n0, n1, n2]⟩ : Shape).ReducesTo [0, 1] ⟨1, ![n2]⟩) (v : (⟨3, ![n0, n1, n2]⟩ : Shape).Idx → EReal) (init : EReal) (c : Fin n2) :
    Ideal.hostReduceAdd h v init (ix1 c) = init + ∑ b : Fin n0, ∑ t : Fin n1, v (ix3 b t c) := by
  refine congrArg (init + ·) ?_
  refine (Finset.sum_filter_eq_sum_of_fiber _ (fun k : Fin n0 × Fin n1 => (ix3 k.1 k.2 c : (⟨3, ![n0, n1, n2]⟩ : Shape).Idx))
    (fun _ _ e => Prod.ext (congrFun e 0) (congrFun e 1)) (fun i => ⟨fun e => ⟨(i 0, i 1), ?_⟩, ?_⟩) v).trans ?_
  · funext a
    apply Fin.ext
    match a with
    | ⟨0, _⟩ => rfl
    | ⟨1, _⟩ => rfl
    | ⟨2, _⟩ => exact (congrArg Fin.val (congrFun e 0)).symm
  · rintro ⟨k, rfl⟩
    funext a
    match a with
    | ⟨0, _⟩ => rfl
  · simp only [Fintype.sum_prod_type]

/-- A masked product with a later entry. -/
theorem later_at (d : ℕ → EReal) (u : EReal) (t k : ℕ) (P : Prop) [Decidable P] (f : P → EReal) (hP : P ↔ t + k < 2048) (hf : ∀ h, f h = u * d (t + k)) :
    (if h : P then f h else 0) = u * later d k t := by
  unfold later
  by_cases h : P
  · rw [dif_pos h, if_pos (hP.mp h), hf]
  · rw [dif_neg h, if_neg (fun h' => h (hP.mpr h')), mul_zero]

/-! ## The two results, from the whole arrays: two sequences of 2048 steps, 6144 channels -/

section
variable (X : (⟨2, ![4096, 6144]⟩ : Shape).Idx → EReal) (W : (⟨2, ![4, 6144]⟩ : Shape).Idx → EReal) (B : (⟨1, ![6144]⟩ : Shape).Idx → EReal)
  (G : (⟨2, ![4096, 6144]⟩ : Shape).Idx → EReal)

/-- The taps of channel `c`. -/
abbrev tap (c : Fin 6144) : Fin 4 → EReal := fun k => W (ix2 k c)

/-- The gradient at the convolution's result, sequence `b`, channel `c`. -/
abbrev grad (b : ℕ) (c : Fin 6144) : ℕ → EReal := dpre (tap W c) (B (ix1 c)) (col X b c) (col G b c)

/-- The gradient at the input: row `2048 b + t` is step `t` of sequence `b`. -/
def gradX : (⟨2, ![4096, 6144]⟩ : Shape).Idx → EReal := fun i =>
  dx (tap W (i 1)) (grad X W B G ((i 0).val / 2048) (i 1)) ((i 0).val % 2048)

/-- The gradients at the taps and the bias, in eight rows, the last three zero. -/
def gradW : (⟨2, ![8, 6144]⟩ : Shape).Idx → EReal := fun i =>
  dw (grad X W B G 0 (i 1)) (col X 0 (i 1)) (i 0).val + dw (grad X W B G 1 (i 1)) (col X 1 (i 1)) (i 0).val

end

end Cert.Conv
end
-- ==== Proof.ConvBlock.lean ====
module

public import proofs.«01_k».proof.Proof.Gen.KernelIdeal.Value
public import proofs.«01_k».proof.Proof.Conv
public import Idealize.ShloMosaic.Lib.Pipeline.ValueKit
public import Idealize.ShloMosaic.Lib.Pipeline.ReadBack

@[expose] public section

set_option maxRecDepth 16384

noncomputable section

namespace Cert.KernelIdeal.Conv

open Cert.KernelIdeal Cert.KernelIdeal.Gen Idealize.ShloMosaic Idealize.ShloMosaic.TcCoe Cert.Conv

/-! What one grid point computes from its blocks, one channel at a time. -/

section
variable (a g : FVec Ideal S2048x256 .f32) (β w0 w1 w2 w3 : FVec Ideal S1x256 .f32) (c : Fin 256)

/-- The four taps of channel `c`. -/
abbrev taps : Fin 4 → EReal := ![w0 (ix2 0 c), w1 (ix2 0 c), w2 (ix2 0 c), w3 (ix2 0 c)]

/-- The gradient at the convolution's result, channel `c` of the block. -/
abbrev dblk : ℕ → EReal := dpre (taps w0 w1 w2 w3 c) (β (ix2 0 c)) (col a 0 c) (col g 0 c)

theorem pay5_at (r : Fin 2048) :
    k0_pay5 (F := Ideal) (k0_pay3 a β w3 w0 w1) (k0_pay4 a w2) g (ix2 r c) = dblk a g β w0 w1 w2 w3 c r := by
  pointwise [k0_pay5, k0_pay3, k0_pay4]
  have h3 := fun h => select_past (w0 (ix2 0 c)) a r c 3 (by omega) h
  have h2 := fun h => select_past (w1 (ix2 0 c)) a r c 2 (by omega) h
  have h1 := fun h => select_past (w2 (ix2 0 c)) a r c 1 (by omega) h
  simp only [h3, h2, h1]
  simp only [dblk, dpre, dsilu, pre, col_zero]
  rfl

/-- The gradient at the convolution's result, whole, as the kernel holds it. -/
abbrev kd : FVec Ideal S2048x256 .f32 := k0_pay5 (k0_pay3 a β w3 w0 w1) (k0_pay4 a w2) g

theorem later_at (k q : ℕ) (hk : 0 < k) (hq : q + k = 2048) (r : Fin 2048) (u : EReal) (h : (r.val + 2048 - q) % 2048 < 2048) :
    Scalar.select (IntOp.cmpi .slt (BitVec.ofNat 32 r.val) (BitVec.ofNat 32 q)) (kd a g β w0 w1 w2 w3 (ix2 ⟨(r.val + 2048 - q) % 2048, h⟩ c) * u) 0
      = later (dblk a g β w0 w1 w2 w3 c) k r * u :=
  select_later (fun t => kd a g β w0 w1 w2 w3 (ix2 t c)) _ (fun t => pay5_at a g β w0 w1 w2 w3 c t) r k q hk hq h u

theorem later_at' (k q : ℕ) (hk : 0 < k) (hq : q + k = 2048) (r : Fin 2048) (h : (r.val + 2048 - q) % 2048 < 2048) :
    Scalar.select (IntOp.cmpi .slt (BitVec.ofNat 32 r.val) (BitVec.ofNat 32 q)) (kd a g β w0 w1 w2 w3 (ix2 ⟨(r.val + 2048 - q) % 2048, h⟩ c)) 0
      = later (dblk a g β w0 w1 w2 w3 c) k r := by
  have := later_at a g β w0 w1 w2 w3 c k q hk hq r 1 h
  rwa [mul_one, mul_one] at this

theorem pay6_at (r : Fin 2048) :
    k0_pay6 (F := Ideal) (k0_pay3 a β w3 w0 w1) (k0_pay4 a w2) g (ix2 r c) = later (dblk a g β w0 w1 w2 w3 c) 3 r := by
  pointwise [k0_pay6]
  exact later_at' a g β w0 w1 w2 w3 c 3 2045 (by omega) (by omega) r _

theorem pay8_at (r : Fin 2048) :
    k0_pay8 (F := Ideal) (k0_pay3 a β w3 w0 w1) (k0_pay4 a w2) g (ix2 r c) = later (dblk a g β w0 w1 w2 w3 c) 2 r := by
  pointwise [k0_pay8]
  exact later_at' a g β w0 w1 w2 w3 c 2 2046 (by omega) (by omega) r _

theorem pay12_at (r : Fin 2048) :
    k0_pay12 (F := Ideal) (kd a g β w0 w1 w2 w3) (iota .tc S2048x256 32 [0] iota_S2048x256_d0_w32) k0_pay11 (ix2 r c)
      = later (dblk a g β w0 w1 w2 w3 c) 1 r := by
  pointwise [k0_pay12, k0_pay11]
  exact later_at' a g β w0 w1 w2 w3 c 1 2047 (by omega) (by omega) r _

theorem pay7_at : k0_pay7 (F := Ideal) a (k0_pay3 a β w3 w0 w1) (k0_pay4 a w2) g (ix2 0 c) = dw (dblk a g β w0 w1 w2 w3 c) (col a 0 c) 0 := by
  pointwise [k0_pay7, pay6_at]
  simp only [dw, col_zero]
  rfl

theorem pay10_at : k0_pay10 (F := Ideal) a (k0_pay3 a β w3 w0 w1) (k0_pay4 a w2) g (ix2 0 c) = dw (dblk a g β w0 w1 w2 w3 c) (col a 0 c) 1 := by
  pointwise [k0_pay10, pay8_at]
  simp only [dw, col_zero]
  rfl

theorem pay19_at (p : FVec Ideal S1x256 .f32) :
    k0_pay19 (F := Ideal) a (kd a g β w0 w1 w2 w3) (iota .tc S2048x256 32 [0] iota_S2048x256_d0_w32) k0_pay11 p (ix2 0 c)
      = p (ix2 0 c) + dw (dblk a g β w0 w1 w2 w3 c) (col a 0 c) 2 := by
  pointwise [k0_pay19]
  simp only [dw, col_zero]
  exact congrArg (p (ix2 0 c) + ·) (Finset.sum_congr rfl fun x _ => congrArg (· * a (ix2 x c)) (pay12_at a g β w0 w1 w2 w3 c x))

theorem pay13_at : k0_pay13 (F := Ideal) a (kd a g β w0 w1 w2 w3) (ix2 0 c) = dw (dblk a g β w0 w1 w2 w3 c) (col a 0 c) 3 := by
  pointwise [k0_pay13, pay5_at]
  simp only [dw, col_zero, later_zero]
  rfl

theorem pay14_at : k0_pay14 (F := Ideal) (kd a g β w0 w1 w2 w3) (ix2 0 c) = dw (dblk a g β w0 w1 w2 w3 c) (col a 0 c) 4 := by
  pointwise [k0_pay14, pay5_at]
  simp only [dw]
  rfl

theorem pay15_at (r : Fin 2048) :
    k0_pay15 (F := Ideal) (kd a g β w0 w1 w2 w3) (k0_pay9 (k0_pay3 a β w3 w0 w1) (k0_pay4 a w2) g w3 w0 w1)
        (iota .tc S2048x256 32 [0] iota_S2048x256_d0_w32) k0_pay11 w2 (ix2 r c)
      = dx (taps w0 w1 w2 w3 c) (dblk a g β w0 w1 w2 w3 c) r := by
  pointwise [k0_pay15, k0_pay9, pay6_at, pay8_at, pay5_at]
  simp only [dx]
  exact congrArg (_ + w2 (ix2 0 c) * ·) (pay12_at a g β w0 w1 w2 w3 c r)

/-! The rows of the taps' and bias' gradients: what is stored is what was there plus this block's term. -/

theorem row0_at (p : FVec Ideal S1x256 .f32) :
    k0_pay17 (F := Ideal) (k0_pay7 a (k0_pay3 a β w3 w0 w1) (k0_pay4 a w2) g) p (ix2 0 c) = p (ix2 0 c) + dw (dblk a g β w0 w1 w2 w3 c) (col a 0 c) 0 := by
  pointwise [k0_pay17]
  exact congrArg (_ + ·) (pay7_at a g β w0 w1 w2 w3 c)

theorem row1_at (p : FVec Ideal S1x256 .f32) :
    k0_pay18 (F := Ideal) (k0_pay10 a (k0_pay3 a β w3 w0 w1) (k0_pay4 a w2) g) p (ix2 0 c) = p (ix2 0 c) + dw (dblk a g β w0 w1 w2 w3 c) (col a 0 c) 1 := by
  pointwise [k0_pay18]
  exact congrArg (_ + ·) (pay10_at a g β w0 w1 w2 w3 c)

theorem row3_at (p : FVec Ideal S1x256 .f32) :
    k0_pay1 (F := Ideal) (k0_pay13 a (kd a g β w0 w1 w2 w3)) p (ix2 0 c) = p (ix2 0 c) + dw (dblk a g β w0 w1 w2 w3 c) (col a 0 c) 3 := by
  pointwise [k0_pay1]
  exact congrArg (_ + ·) (pay13_at a g β w0 w1 w2 w3 c)

theorem row4_at (p : FVec Ideal S1x256 .f32) :
    k0_pay2 (F := Ideal) (k0_pay14 (kd a g β w0 w1 w2 w3)) p (ix2 0 c) = p (ix2 0 c) + dw (dblk a g β w0 w1 w2 w3 c) (col a 0 c) 4 := by
  pointwise [k0_pay2]
  exact congrArg (_ + ·) (pay14_at a g β w0 w1 w2 w3 c)

end

end Cert.KernelIdeal.Conv
end
-- ==== Proof.Rows.lean ====
/- Rows stored one by one over a buffer of eight rows, read back at an index. -/
module

public import proofs.«01_k».proof.Proof.Conv
public import Idealize.ShloMosaic.Lib.Pipeline.ValueKit
public import Idealize.ShloMosaic.Lib.WritesUnit

@[expose] public section

noncomputable section

namespace Cert.Rows

open Idealize.ShloMosaic

abbrev S8 : Shape := ⟨2, ![8, 256]⟩
abbrev S1 : Shape := ⟨2, ![1, 256]⟩

/-- Row `k` lies within the buffer. -/
abbrev Within (k : ℕ) : Prop := ∀ a : Fin 2, (![k, 0] : Fin 2 → ℕ) a + (![1, 256] : Fin 2 → ℕ) a ≤ (![8, 256] : Fin 2 → ℕ) a

variable {sg : RefSig} {κ : Kind} {sp : Space} (v : View sg κ sp S8 .f32) (f : v.ty.Contents (Elt Ideal))

/-- A row stored over a buffer of eight rows, read at an index. -/
theorem row_at (k : ℕ) (inb : Within k) (w : S1.Idx → EReal) (L : List (View.Piece (Elt Ideal) S8 .f32)) (r : Fin 8) (c : Fin 256) :
    v.read (Elt Ideal) (v.writes (Elt Ideal) f (⟨Rect.unit (s := S8) ![k, 0] ![1, 256] inb, w⟩ :: L)) (ix2 r c)
      = if r.val = k then w (ix2 0 c) else v.read (Elt Ideal) (v.writes (Elt Ideal) f L) (ix2 r c) := by
  split
  · rename_i h
    exact View.read_writes_cons_rows_of_mem (size := ![1, 256]) v f inb w L (ix2 r c) (ix2 0 c) rfl h rfl
  · rename_i h
    exact View.read_writes_cons_rows_of_not_mem (size := ![1, 256]) v f inb w L (ix2 r c) rfl rfl (by show r.val < k ∨ k + 1 ≤ r.val; omega)

/-- A row read out of such a buffer. -/
theorem ld_row (x : S8.Idx → EReal) (k : ℕ) (hk : k < 8) (inb : Within k) (q : Fin 256) :
    View.ld (Val := Elt Ideal) (e' := .f32) x (Rect.unit (s := S8) ![k, 0] ![1, 256] inb) (ix2 0 q) = x (ix2 ⟨k, hk⟩ q) := by
  refine congrArg x (funext (Fin.forall_fin_two.mpr ⟨Fin.ext ?_, Fin.ext ?_⟩))
  · show k + 1 * 0 = k
    omega
  · show 0 + 1 * q.val = q.val
    omega

/-- Four rows stored over a buffer of eight rows, each row what the buffer held there plus a term: the buffer plus the terms. -/
theorem rows_add (i0 : Within 0) (i1 : Within 1) (i2 : Within 2) (i3 : Within 3) (w0 w1 w2 w3 : S1.Idx → EReal) (old : S8.Idx → EReal)
    (hold : v.read (Elt Ideal) f = old) (D : Fin 256 → ℕ → EReal) (hD : ∀ c r, 4 ≤ r → D c r = 0)
    (h0 : ∀ c, w0 (ix2 0 c) = old (ix2 0 c) + D c 0) (h1 : ∀ c, w1 (ix2 0 c) = old (ix2 1 c) + D c 1)
    (h2 : ∀ c, w2 (ix2 0 c) = old (ix2 2 c) + D c 2) (h3 : ∀ c, w3 (ix2 0 c) = old (ix2 3 c) + D c 3) (r : Fin 8) (c : Fin 256) :
    v.read (Elt Ideal) (v.writes (Elt Ideal) f
      [⟨Rect.unit (s := S8) ![3, 0] ![1, 256] i3, w3⟩, ⟨Rect.unit (s := S8) ![2, 0] ![1, 256] i2, w2⟩,
       ⟨Rect.unit (s := S8) ![1, 0] ![1, 256] i1, w1⟩, ⟨Rect.unit (s := S8) ![0, 0] ![1, 256] i0, w0⟩]) (ix2 r c) = old (ix2 r c) + D c r := by
  rw [row_at, row_at, row_at, row_at, View.writes_nil, hold]
  match r with
  | ⟨0, _⟩ => exact h0 c
  | ⟨1, _⟩ => exact h1 c
  | ⟨2, _⟩ => exact h2 c
  | ⟨3, _⟩ => exact h3 c
  | ⟨n + 4, hn⟩ =>
    rw [hD c (n + 4) (by omega), add_zero]
    simp

/-- The same over a buffer filled first. -/
theorem rows_fill (i0 : Within 0) (i1 : Within 1) (i2 : Within 2) (i3 : Within 3)
    (iz : ∀ a : Fin 2, (![0, 0] : Fin 2 → ℕ) a + (![8, 256] : Fin 2 → ℕ) a ≤ (![8, 256] : Fin 2 → ℕ) a) (w0 w1 w2 w3 : S1.Idx → EReal) (Z : S8.Idx → EReal)
    (D : Fin 256 → ℕ → EReal) (hD : ∀ c r, 4 ≤ r → D c r = 0)
    (h0 : ∀ c, w0 (ix2 0 c) = Z (ix2 0 c) + D c 0) (h1 : ∀ c, w1 (ix2 0 c) = Z (ix2 1 c) + D c 1)
    (h2 : ∀ c, w2 (ix2 0 c) = Z (ix2 2 c) + D c 2) (h3 : ∀ c, w3 (ix2 0 c) = Z (ix2 3 c) + D c 3) (r : Fin 8) (c : Fin 256) :
    v.read (Elt Ideal) (v.writes (Elt Ideal) f
      [⟨Rect.unit (s := S8) ![3, 0] ![1, 256] i3, w3⟩, ⟨Rect.unit (s := S8) ![2, 0] ![1, 256] i2, w2⟩,
       ⟨Rect.unit (s := S8) ![1, 0] ![1, 256] i1, w1⟩, ⟨Rect.unit (s := S8) ![0, 0] ![1, 256] i0, w0⟩,
       ⟨Rect.unit (s := S8) ![0, 0] ![8, 256] iz, Z⟩]) (ix2 r c) = Z (ix2 r c) + D c r := by
  have hZ : v.read (Elt Ideal) (v.writes (Elt Ideal) f [⟨Rect.unit (s := S8) ![0, 0] ![8, 256] iz, Z⟩]) = Z := by
    funext y
    exact View.read_writes_cons_rows_of_mem (size := ![8, 256]) v f iz Z [] y y rfl (Nat.zero_add _).symm rfl
  exact rows_add v (v.writes (Elt Ideal) f [⟨Rect.unit (s := S8) ![0, 0] ![8, 256] iz, Z⟩]) i0 i1 i2 i3 w0 w1 w2 w3 Z hZ D hD h0 h1 h2 h3 r c

abbrev T2 : Shape := ⟨3, ![2, 2048, 256]⟩
abbrev T1 : Shape := ⟨3, ![1, 2048, 256]⟩

/-- Two slabs stored one over the other, read back at an index. -/
theorem slabs (u : View sg κ sp T2 .bf16) (g : u.ty.Contents (Elt Ideal))
    (i0 : ∀ a : Fin 3, (![0, 0, 0] : Fin 3 → ℕ) a + (![1, 2048, 256] : Fin 3 → ℕ) a ≤ (![2, 2048, 256] : Fin 3 → ℕ) a)
    (i1 : ∀ a : Fin 3, (![1, 0, 0] : Fin 3 → ℕ) a + (![1, 2048, 256] : Fin 3 → ℕ) a ≤ (![2, 2048, 256] : Fin 3 → ℕ) a)
    (w0 w1 : T1.Idx → EReal) (s : Fin 2) (r : Fin 2048) (q : Fin 256) :
    u.read (Elt Ideal) (u.writes (Elt Ideal) g [⟨Rect.unit (s := T2) ![1, 0, 0] ![1, 2048, 256] i1, w1⟩, ⟨Rect.unit (s := T2) ![0, 0, 0] ![1, 2048, 256] i0, w0⟩]) (ix3 s r q)
      = if s.val = 0 then w0 (ix3 0 r q) else w1 (ix3 0 r q) := by
  have hx : ∀ (k : ℕ) (s : Fin 2), s.val = k → ∀ a : Fin 3, ((ix3 s r q : T2.Idx) a).val = (![k, 0, 0] : Fin 3 → ℕ) a + ((ix3 (0 : Fin 1) r q : T1.Idx) a).val := by
    intro k s hs a
    match a with
    | ⟨0, _⟩ => exact hs
    | ⟨1, _⟩ => exact (Nat.zero_add _).symm
    | ⟨2, _⟩ => exact (Nat.zero_add _).symm
  split
  · rename_i h
    exact (View.read_writes_cons_unit_of_not_mem u g i1 w1 _ (ix3 s r q) rfl (0 : Fin 3) (Or.inl (by show s.val < 1; omega))).trans
      (View.read_writes_cons_unit_of_mem u g i0 w0 _ (ix3 s r q) (ix3 (0 : Fin 1) r q) rfl (hx 0 s h))
  · exact View.read_writes_cons_unit_of_mem u g i1 w1 _ (ix3 s r q) (ix3 (0 : Fin 1) r q) rfl (hx 1 s (by omega))

end Cert.Rows
end
-- ==== Proof.ConvKernel.lean ====
module

public import proofs.«01_k».proof.Proof.ConvBlock
public import proofs.«01_k».proof.Proof.Rows
public import Idealize.ShloMosaic.Lib.WritesUnit

@[expose] public section

set_option maxRecDepth 16384

noncomputable section

namespace Cert.KernelIdeal.Conv

open Cert.KernelIdeal Cert.KernelIdeal.Gen Idealize.ShloMosaic Idealize.ShloMosaic.TcCoe Cert.Conv
open Cert.Rows (row_at ld_row)
open Idealize.ShloMosaic.Pipeline (Dat)

/-- Five rows stored over a buffer of eight rows, each row what the buffer held there plus a term: the buffer plus the terms. -/
theorem rows_add {sg : RefSig} {κ : Kind} {sp : Space} (v : View sg κ sp S8x256 .f32) (f : v.ty.Contents (Elt Ideal))
    (w0 w1 w2 w3 w4 : S1x256.Idx → EReal) (old : S8x256.Idx → EReal) (hold : v.read (Elt Ideal) f = old) (D : Fin 256 → ℕ → EReal) (hD : ∀ c r, 5 ≤ r → D c r = 0)
    (h0 : ∀ c, w0 (ix2 0 c) = old (ix2 0 c) + D c 0) (h1 : ∀ c, w1 (ix2 0 c) = old (ix2 1 c) + D c 1)
    (h2 : ∀ c, w2 (ix2 0 c) = old (ix2 2 c) + D c 2) (h3 : ∀ c, w3 (ix2 0 c) = old (ix2 3 c) + D c 3)
    (h4 : ∀ c, w4 (ix2 0 c) = old (ix2 4 c) + D c 4) (r : Fin 8) (c : Fin 256) :
    v.read (Elt Ideal) (v.writes (Elt Ideal) f
      [⟨Rect.unit ![4, 0] ![1, 256] inb_S8x256_S1x256_4_0, w4⟩, ⟨Rect.unit ![3, 0] ![1, 256] inb_S8x256_S1x256_3_0, w3⟩,
       ⟨Rect.unit ![2, 0] ![1, 256] inb_S8x256_S1x256_2_0, w2⟩, ⟨Rect.unit ![1, 0] ![1, 256] inb_S8x256_S1x256_1_0, w1⟩,
       ⟨Rect.unit ![0, 0] ![1, 256] inb_S8x256_S1x256_0_0, w0⟩]) (ix2 r c) = old (ix2 r c) + D c r := by
  rw [row_at, row_at, row_at, row_at, row_at, View.writes_nil, hold]
  match r with
  | ⟨0, _⟩ => exact h0 c
  | ⟨1, _⟩ => exact h1 c
  | ⟨2, _⟩ => exact h2 c
  | ⟨3, _⟩ => exact h3 c
  | ⟨4, _⟩ => exact h4 c
  | ⟨n + 5, hn⟩ =>
    rw [hD c (n + 5) (by omega), add_zero]
    simp

/-- The same over a buffer filled first. -/
theorem rows_fill {sg : RefSig} {κ : Kind} {sp : Space} (v : View sg κ sp S8x256 .f32) (f : v.ty.Contents (Elt Ideal))
    (w0 w1 w2 w3 w4 : S1x256.Idx → EReal) (Z : S8x256.Idx → EReal) (D : Fin 256 → ℕ → EReal) (hD : ∀ c r, 5 ≤ r → D c r = 0)
    (h0 : ∀ c, w0 (ix2 0 c) = Z (ix2 0 c) + D c 0) (h1 : ∀ c, w1 (ix2 0 c) = Z (ix2 1 c) + D c 1)
    (h2 : ∀ c, w2 (ix2 0 c) = Z (ix2 2 c) + D c 2) (h3 : ∀ c, w3 (ix2 0 c) = Z (ix2 3 c) + D c 3)
    (h4 : ∀ c, w4 (ix2 0 c) = Z (ix2 4 c) + D c 4) (r : Fin 8) (c : Fin 256) :
    v.read (Elt Ideal) (v.writes (Elt Ideal) f
      [⟨Rect.unit ![4, 0] ![1, 256] inb_S8x256_S1x256_4_0, w4⟩, ⟨Rect.unit ![3, 0] ![1, 256] inb_S8x256_S1x256_3_0, w3⟩,
       ⟨Rect.unit ![2, 0] ![1, 256] inb_S8x256_S1x256_2_0, w2⟩, ⟨Rect.unit ![1, 0] ![1, 256] inb_S8x256_S1x256_1_0, w1⟩,
       ⟨Rect.unit ![0, 0] ![1, 256] inb_S8x256_S1x256_0_0, w0⟩, ⟨Rect.unit ![0, 0] ![8, 256] inb_S8x256_S8x256_0_0, Z⟩]) (ix2 r c) = Z (ix2 r c) + D c r := by
  have hZ : v.read (Elt Ideal) (v.writes (Elt Ideal) f [⟨Rect.unit (s := S8x256) ![0, 0] ![8, 256] inb_S8x256_S8x256_0_0, Z⟩]) = Z := by
    funext y
    exact View.read_writes_cons_rows_of_mem (size := ![8, 256]) v f inb_S8x256_S8x256_0_0 Z [] y y rfl (Nat.zero_add _).symm rfl
  exact rows_add v (v.writes (Elt Ideal) f [⟨Rect.unit (s := S8x256) ![0, 0] ![8, 256] inb_S8x256_S8x256_0_0, Z⟩]) w0 w1 w2 w3 w4 Z hZ D hD h0 h1 h2 h3 h4 r c

variable (m : (ℓ : Loc nD τ sig) → Buf (Elt Ideal) ℓ)

/-- The blocks that each window holds at point `t`: column block `t / 2` of sequence `t % 2`. -/
theorem idx : ∀ t : Fin cfg0.N, win0_0.index t = ![t.val % 2, t.val / 2] ∧ win0_1.index t = ![0, t.val / 2] ∧ win0_2.index t = ![0, t.val / 2]
    ∧ win0_3.index t = ![t.val % 2, t.val / 2] ∧ win0_4.index t = ![t.val % 2, t.val / 2] ∧ win0_5.index t = ![0, t.val / 2] :=
  (by decide +kernel : ∀ t : Fin grid0.N, _)

/-- Row `k` of the block of taps at point `t`. -/
abbrev wrow (c : Dev nD) (t : Fin cfg0.N) (k : Fin 4) : FVec Ideal S1x256 .f32 := fun i => iblk m c 1 t (ix2 k (i 1))

/-- The gradient at the convolution's result at point `t`, channel `q` of the block. -/
abbrev dpt (c : Dev nD) (t : Fin cfg0.N) (q : Fin 256) : ℕ → EReal :=
  dblk (iblk m c 0 t) (iblk m c 3 t) (iblk m c 2 t) (wrow m c t 0) (wrow m c t 1) (wrow m c t 2) (wrow m c t 3) q

theorem ld_w (c : Dev nD) (t : Fin cfg0.N) (k : ℕ) (hk : k < 4) (inb : ∀ a : Fin 2, (![k, 0] : Fin 2 → ℕ) a + (![1, 256] : Fin 2 → ℕ) a ≤ (![4, 256] : Fin 2 → ℕ) a) :
    View.ld (iblk m c 1 t) (Rect.unit (s := S4x256) ![k, 0] ![1, 256] inb) = wrow m c t ⟨k, hk⟩ := by
  funext i
  refine congrArg (iblk m c 1 t) (funext (Fin.forall_fin_two.mpr ⟨Fin.ext ?_, Fin.ext ?_⟩))
  · show k + 1 * (i 0).val = k
    have : (i 0).val < 1 := (i 0).isLt
    omega
  · show 0 + 1 * (i 1).val = (i 1).val
    omega

theorem dw_high (d x : ℕ → EReal) (r : ℕ) (hr : 5 ≤ r) : dw d x r = 0 := by
  unfold dw
  rw [if_neg (by omega), if_neg (by omega)]

theorem outA5 (c : Dev nD) (t : Fin cfg0.N) (h : t.val % 2 = 0) (r : Fin 8) (q : Fin 256) :
    (outsAt0 m c t.val t.isLt).2 (ix2 r q) = dw (dpt m c t q) (col (iblk m c 0 t) 0 q) r := by
  rw [outsAt0_A m c t h]
  frame_open
  simp (disch := decide) only [↓ View.readCov_skip, ↓ View.readCov_cons_toLoadRect, ↓ View.readCov_fill]
  frame_out
  simp only [ld_w m c t 0 (by omega), ld_w m c t 1 (by omega), ld_w m c t 2 (by omega), ld_w m c t 3 (by omega)]
  rw [← View.read_writes_junk_apply_eq_canon VO0_5]
  have hZ : ∀ i, k0_pay16 (F := Ideal) i = 0 := fun i => by pointwise [k0_pay16]
  refine Eq.trans (b := k0_pay16 (F := Ideal) (ix2 r q) + dw (dpt m c t q) (col (iblk m c 0 t) 0 q) r) ?_ (by rw [hZ, zero_add])
  refine rows_fill VO0_5 VO0_5.junk _ _ _ _ _ _ (fun q r => dw (dpt m c t q) (col (iblk m c 0 t) 0 q) r) (fun q r hr => dw_high _ _ r hr)
    (fun q => ?_) (fun q => ?_) (fun q => ?_) (fun q => ?_) (fun q => ?_) r q
  · exact (row0_at _ _ _ _ _ _ _ q _).trans (congrArg (· + _) (ld_row (k0_pay16 (F := Ideal)) 0 (by omega) _ q))
  · exact (row1_at _ _ _ _ _ _ _ q _).trans (congrArg (· + _) (ld_row (k0_pay16 (F := Ideal)) 1 (by omega) _ q))
  · exact (pay19_at _ _ _ _ _ _ _ q _).trans (congrArg (· + _) (ld_row (k0_pay16 (F := Ideal)) 2 (by omega) _ q))
  · exact (row3_at _ _ _ _ _ _ _ q _).trans (congrArg (· + _) (ld_row (k0_pay16 (F := Ideal)) 3 (by omega) _ q))
  · exact (row4_at _ _ _ _ _ _ _ q _).trans (congrArg (· + _) (ld_row (k0_pay16 (F := Ideal)) 4 (by omega) _ q))

theorem outB5 (c : Dev nD) (t : Fin cfg0.N) (h : ¬ t.val % 2 = 0) (r : Fin 8) (q : Fin 256) :
    (outsAt0 m c t.val t.isLt).2 (ix2 r q) = (outsAt0 m c (t.val - 1) (by omega)).2 (ix2 r q) + dw (dpt m c t q) (col (iblk m c 0 t) 0 q) r := by
  rw [outsAt0_B m c t h]
  frame_out
  simp only [ld_w m c t 0 (by omega), ld_w m c t 1 (by omega), ld_w m c t 2 (by omega), ld_w m c t 3 (by omega)]
  refine rows_add (ms0_5 t).view _ _ _ _ _ _ (outsAt0 m c (t.val - 1) (by omega)).2 (Memref.IsWhole.read_unread _ _)
    (fun q r => dw (dpt m c t q) (col (iblk m c 0 t) 0 q) r) (fun q r hr => dw_high _ _ r hr)
    (fun q => ?_) (fun q => ?_) (fun q => ?_) (fun q => ?_) (fun q => ?_) r q
  · exact (row0_at _ _ _ _ _ _ _ q _).trans (congrArg (· + _) (ld_row _ 0 (by omega) _ q))
  · exact (row1_at _ _ _ _ _ _ _ q _).trans (congrArg (· + _) (ld_row _ 1 (by omega) _ q))
  · exact (pay19_at _ _ _ _ _ _ _ q _).trans (congrArg (· + _) (ld_row _ 2 (by omega) _ q))
  · exact (row3_at _ _ _ _ _ _ _ q _).trans (congrArg (· + _) (ld_row _ 3 (by omega) _ q))
  · exact (row4_at _ _ _ _ _ _ _ q _).trans (congrArg (· + _) (ld_row _ 4 (by omega) _ q))

theorem outA4 (c : Dev nD) (t : Fin cfg0.N) (r : Fin 2048) (q : Fin 256) :
    (outsAt0 m c t.val t.isLt).1 (ix2 r q) = dx (taps (wrow m c t 0) (wrow m c t 1) (wrow m c t 2) (wrow m c t 3) q) (dpt m c t q) r := by
  by_cases h : t.val % 2 = 0
  · rw [outsAt0_A m c t h]
    frame_out
    simp only [ld_w m c t 0 (by omega), ld_w m c t 1 (by omega), ld_w m c t 2 (by omega), ld_w m c t 3 (by omega)]
    exact pay15_at _ _ _ _ _ _ _ q r
  · rw [outsAt0_B m c t h]
    frame_out
    simp only [ld_w m c t 0 (by omega), ld_w m c t 1 (by omega), ld_w m c t 2 (by omega), ld_w m c t 3 (by omega)]
    exact pay15_at _ _ _ _ _ _ _ q r

/-! ## The blocks are blocks of the arguments -/

theorem blk0 (c : Dev nD) (t : Fin cfg0.N) (q : Fin 256) (C : Fin 6144) (hC : C.val = t.val / 2 * 256 + q.val) :
    col (iblk m c 0 t) 0 q = col (m ((c : Thread nD τ).loc main_arg0)) (t.val % 2) C := by
  have ht : t.val < 48 := lt_of_lt_of_eq t.isLt N_0
  funext s
  by_cases hs : s < 2048
  · rw [col_at _ _ _ _ (by omega) (by omega), col_at _ _ _ _ (by omega) (by omega)]
    blk_point [iblk, V, idx t]
  · rw [col, col, dif_neg (by omega), dif_neg (by omega)]

theorem blk3 (c : Dev nD) (t : Fin cfg0.N) (q : Fin 256) (C : Fin 6144) (hC : C.val = t.val / 2 * 256 + q.val) :
    col (iblk m c 3 t) 0 q = col (m ((c : Thread nD τ).loc main_arg3)) (t.val % 2) C := by
  have ht : t.val < 48 := lt_of_lt_of_eq t.isLt N_0
  funext s
  by_cases hs : s < 2048
  · rw [col_at _ _ _ _ (by omega) (by omega), col_at _ _ _ _ (by omega) (by omega)]
    blk_point [iblk, V, idx t]
  · rw [col, col, dif_neg (by omega), dif_neg (by omega)]

theorem blk1 (c : Dev nD) (t : Fin cfg0.N) (q : Fin 256) (C : Fin 6144) (hC : C.val = t.val / 2 * 256 + q.val) :
    taps (wrow m c t 0) (wrow m c t 1) (wrow m c t 2) (wrow m c t 3) q = tap (m ((c : Thread nD τ).loc main_arg1)) C := by
  have h : ∀ k : Fin 4, iblk m c 1 t (ix2 k q) = m ((c : Thread nD τ).loc main_arg1) (ix2 k C) := by
    intro k
    blk_point [iblk, V, idx t]
  funext k
  match k with
  | ⟨0, _⟩ => exact h 0
  | ⟨1, _⟩ => exact h 1
  | ⟨2, _⟩ => exact h 2
  | ⟨3, _⟩ => exact h 3

theorem blk2 (c : Dev nD) (t : Fin cfg0.N) (q : Fin 256) (C : Fin 6144) (hC : C.val = t.val / 2 * 256 + q.val) :
    iblk m c 2 t (ix2 0 q) = m ((c : Thread nD τ).loc main_arg2) (ix1 C) := by
  blk_point [iblk, V, idx t]

theorem dpt_eq (c : Dev nD) (t : Fin cfg0.N) (q : Fin 256) (C : Fin 6144) (hC : C.val = t.val / 2 * 256 + q.val) :
    dpt m c t q = grad (m ((c : Thread nD τ).loc main_arg0)) (m ((c : Thread nD τ).loc main_arg1)) (m ((c : Thread nD τ).loc main_arg2)) (m ((c : Thread nD τ).loc main_arg3)) (t.val % 2) C := by
  rw [dpt, dblk, blk0 m c t q C hC, blk1 m c t q C hC, blk2 m c t q C hC, blk3 m c t q C hC]

theorem final4 (c : Dev nD) : (dats m 0 c).arrAt 4 cfg0.N
    = gradX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 48 := lt_of_lt_of_eq t.isLt N_0
  blk_simp
  rw [after0_4]
  idx_vars y
  have e : ((View.whole main_v1_0).slice (win0_4.rect t)).emb (ix2 y0 y1) = ix2 ⟨t.val % 2 * 2048 + y0.val, by omega⟩ ⟨t.val / 2 * 256 + y1.val, by omega⟩ := by
    blk_ext [idx t]
  rw [e]
  refine (outA4 m c t y0 y1).trans ?_
  rw [dpt_eq m c t y1 ⟨t.val / 2 * 256 + y1.val, by omega⟩ rfl, blk1 m c t y1 ⟨t.val / 2 * 256 + y1.val, by omega⟩ rfl]
  unfold gradX
  have e1 : (t.val % 2 * 2048 + y0.val) / 2048 = t.val % 2 := by omega
  have e2 : (t.val % 2 * 2048 + y0.val) % 2048 = y0.val := by omega
  show _ = dx _ (grad _ _ _ _ ((t.val % 2 * 2048 + y0.val) / 2048) _) ((t.val % 2 * 2048 + y0.val) % 2048)
  rw [e1, e2]
  rfl

theorem final5 (c : Dev nD) : (dats m 0 c).arrAt 5 cfg0.N
    = gradW (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 48 := lt_of_lt_of_eq t.isLt N_0
  have h1 := (flush0_5 t).mp hf
  blk_simp
  rw [after0_5]
  idx_vars y
  have e : ((View.whole main_v1_1).slice (win0_5.rect t)).emb (ix2 y0 y1) = ix2 y0 ⟨t.val / 2 * 256 + y1.val, by omega⟩ := by
    blk_ext [idx t]
  rw [e]
  have hs : t.val - 1 < cfg0.N := lt_of_le_of_lt (Nat.sub_le _ _) t.isLt
  refine (outB5 m c t (by omega) y0 y1).trans ?_
  refine (congrArg (· + _) (outA5 m c ⟨t.val - 1, hs⟩ (by show (t.val - 1) % 2 = 0; omega) y0 y1)).trans ?_
  have e0 : t.val / 2 * 256 + y1.val = (t.val - 1) / 2 * 256 + y1.val := by omega
  rw [dpt_eq m c t y1 ⟨t.val / 2 * 256 + y1.val, by omega⟩ rfl, blk0 m c t y1 ⟨t.val / 2 * 256 + y1.val, by omega⟩ rfl,
    dpt_eq m c ⟨t.val - 1, hs⟩ y1 ⟨t.val / 2 * 256 + y1.val, by omega⟩ e0, blk0 m c ⟨t.val - 1, hs⟩ y1 ⟨t.val / 2 * 256 + y1.val, by omega⟩ e0]
  have p0 : (t.val - 1) % 2 = 0 := by omega
  have p1 : t.val % 2 = 1 := by omega
  show dw (grad _ _ _ _ ((t.val - 1) % 2) _) (col _ ((t.val - 1) % 2) _) _ + dw (grad _ _ _ _ (t.val % 2) _) (col _ (t.val % 2) _) _ = _
  rw [p0, p1]
  rfl

end Cert.KernelIdeal.Conv
end
-- ==== Proof.ConvRef.lean ====
module

public import proofs.«01_k».proof.Proof.Gen.ReferenceIdeal.Read
public import proofs.«01_k».proof.Proof.Conv
public import Idealize.ShloMosaic.Lib.Pointwise

@[expose] public section

set_option maxRecDepth 16384

noncomputable section

namespace Cert.ReferenceIdeal.Conv

open Cert.ReferenceIdeal Cert.ReferenceIdeal.Read Idealize.ShloMosaic Idealize.ShloMosaic.TcCoe Cert.Conv

section
variable (X : FVec Ideal S4096x6144 .f32) (W : FVec Ideal S4x6144 .f32) (B : FVec Ideal S6144 .f32) (G : FVec Ideal S4096x6144 .f32)

theorem past_eq (b : Fin 2) (t : Fin 2048) (C : Fin 6144) (k : ℕ) (h : b.val * 2048 + (t.val - k) < 4096) :
    past (col X b C) k t = if k ≤ t.val then X (ix2 ⟨b.val * 2048 + (t.val - k), h⟩ C) else 0 := by
  unfold past
  split
  · rw [col_at _ _ _ _ (by omega) (by omega)]
  · rfl

theorem past_at (b : Fin 2) (t : Fin 2048) (C : Fin 6144) :
    val_main_v6 (F := Ideal) X (ix3 b t C) = past (col X b C) 3 t ∧ val_main_v14 (F := Ideal) X (ix3 b t C) = past (col X b C) 2 t
    ∧ val_main_v21 (F := Ideal) X (ix3 b t C) = past (col X b C) 1 t ∧ val_main_v28 (F := Ideal) X (ix3 b t C) = col X b C t := by
  have hb := b.isLt
  have ht := t.isLt
  refine ⟨?_, ?_, ?_, ?_⟩
  · rw [past_eq X b t C 3 (by omega)]
    pointwise [val_main_v6, val_main_v2, val_main_v1, val_main_v0, val_main_cst]
    by_cases h : 3 ≤ t.val
    · rw [if_pos h, dif_neg (by omega)]
    · rw [if_neg h, dif_pos (by omega)]
  · rw [past_eq X b t C 2 (by omega)]
    pointwise [val_main_v14, val_main_v2, val_main_v1, val_main_v0, val_main_cst]
    by_cases h : 2 ≤ t.val
    · rw [if_pos h, dif_neg (by omega)]
      exact congrArg (fun i => X (ix2 i C)) (Fin.ext (by dsimp only; omega))
    · rw [if_neg h, dif_pos (by omega)]
  · rw [past_eq X b t C 1 (by omega)]
    pointwise [val_main_v21, val_main_v2, val_main_v1, val_main_v0, val_main_cst]
    by_cases h : 1 ≤ t.val
    · rw [if_pos h, dif_neg (by omega)]
      exact congrArg (fun i => X (ix2 i C)) (Fin.ext (by dsimp only; omega))
    · rw [if_neg h, dif_pos (by omega)]
  · rw [col_at X b C t (by omega) (by omega)]
    pointwise [val_main_v28, val_main_v2, val_main_v1, val_main_v0, val_main_cst]

theorem pre_order (b p q r s : EReal) : p + q + r + s + b = b + s + p + q + r := by ac_rfl

theorem v35_at (b : Fin 2) (t : Fin 2048) (C : Fin 6144) : val_main_v35 (F := Ideal) X W B (ix3 b t C) = pre (tap W C) (B (ix1 C)) (col X b C) t := by
  obtain ⟨e0, e1, e2, e3⟩ := past_at X b t C
  pointwise [val_main_v35, val_main_v32, val_main_v25, val_main_v18, val_main_v11, val_main_v10, val_main_cst_1, val_main_v9, val_main_v17, val_main_v24, val_main_v31, val_main_v34, val_main_v33, val_main_v8, val_main_v7, val_main_v5, val_main_v4,
    val_main_v16, val_main_v15, val_main_v13, val_main_v12, val_main_v23, val_main_v22, val_main_v20, val_main_v19, val_main_v30, val_main_v29, val_main_v27, val_main_v26]
  rw [e0, e1, e2, e3]
  exact pre_order _ _ _ _ _

/-- The hypothesis of the claim: every entry is a real number. -/
structure Fin4 : Prop where
  hX : ∀ i, ∃ r : ℝ, X i = r
  hW : ∀ i, ∃ r : ℝ, W i = r
  hB : ∀ i, ∃ r : ℝ, B i = r
  hG : ∀ i, ∃ r : ℝ, G i = r

theorem col_fin (hX : ∀ i, ∃ r : ℝ, X i = r) (b : ℕ) (C : Fin 6144) (t : ℕ) : ∃ r : ℝ, col X b C t = r := by
  unfold col
  split
  · exact hX _
  · exact ⟨0, rfl⟩

theorem pre_fin (w : Fin 4 → EReal) (b : EReal) (x : ℕ → EReal) (hw : ∀ k, ∃ r : ℝ, w k = r) (hb : ∃ r : ℝ, b = r) (hx : ∀ t, ∃ r : ℝ, x t = r) (t : ℕ) :
    ∃ r : ℝ, pre w b x t = r := by
  have hp : ∀ k, ∃ r : ℝ, past x k t = r := by
    intro k
    unfold past
    split
    · exact hx _
    · exact ⟨0, rfl⟩
  obtain ⟨b, rfl⟩ := hb
  obtain ⟨w0, h0⟩ := hw 0
  obtain ⟨w1, h1⟩ := hw 1
  obtain ⟨w2, h2⟩ := hw 2
  obtain ⟨w3, h3⟩ := hw 3
  obtain ⟨x0, g0⟩ := hp 3
  obtain ⟨x1, g1⟩ := hp 2
  obtain ⟨x2, g2⟩ := hp 1
  obtain ⟨x3, g3⟩ := hx t
  refine ⟨b + w3 * x3 + w0 * x0 + w1 * x1 + w2 * x2, ?_⟩
  rw [pre, h0, h1, h2, h3, g0, g1, g2, g3]
  norm_cast

variable (H : Fin4 X W B G)
include H

theorem v39_at (b : Fin 2) (t : Fin 2048) (C : Fin 6144) : val_main_v39 (F := Ideal) X W B G (ix3 b t C) = grad X W B G b C t := by
  have e := v35_at X W B b t C
  have hp := pre_fin (tap W C) (B (ix1 C)) (col X b C) (fun k => H.hW _) (H.hB _) (col_fin X H.hX b C) t
  have hg := col_fin G H.hG b C t
  pointwise [val_main_v39, val_main_call1_v1, val_main_call1_v2, val_main_call1_v0, val_main_v38, val_main_v36_1, val_main_v36_2, val_main_call0_v7, val_main_call0_v6,
    val_main_call0_v4, val_main_call0_v3, val_main_call0_v2, val_main_call0_v1, val_main_call0_v0, val_main_call0_cst, val_main_call0_cst_0, val_main_call0_cst_1]
  rw [e]
  show _ = dsilu _ _
  rw [dsilu_eq _ _ hp hg, col_at G b C t (by omega) (by omega)]
  rfl

theorem v88_at (R : Fin 4096) (C : Fin 6144) : val_main_v88 (F := Ideal) X W B G (ix2 R C) = gradX X W B G (ix2 R C) := by
  have hR := R.isLt
  pointwise [val_main_v88, val_main_v87, val_main_v86, val_main_v81, val_main_v80, val_main_v70, val_main_v69, val_main_v59, val_main_v58, val_main_v49,
    val_main_v44, val_main_v43, val_main_v29, val_main_v27, val_main_v26, val_main_v53, val_main_v52, val_main_v22, val_main_v20, val_main_v19,
    val_main_v64, val_main_v63, val_main_v15, val_main_v13, val_main_v12, val_main_v75, val_main_v74, val_main_v7, val_main_v5, val_main_v4,
    val_main_cst_6, val_main_cst_10, val_main_cst_14, val_main_cst_18]
  have hd : ∀ (b : Fin 2) (t : Fin 2048) (s : ℕ), t.val = s → val_main_v39 (F := Ideal) X W B G (ix3 b t C) = grad X W B G b C s := by
    rintro b t _ rfl
    exact v39_at X W B G H b t C
  have e := fun (u : EReal) (k : ℕ) (P : Prop) [Decidable P] (f : P → EReal) => later_at (grad X W B G (R.val / 2048) C) u (R.val % 2048) k P f
  refine (congrArg₂ (· + ·) (congrArg₂ (· + ·) (congrArg₂ (· + ·) (e (W (ix2 3 C)) 0 _ _ (by omega) fun h => ?_) (e (W (ix2 2 C)) 1 _ _ (by omega) fun h => ?_))
    (e (W (ix2 1 C)) 2 _ _ (by omega) fun h => ?_)) (e (W (ix2 0 C)) 3 _ _ (by omega) fun h => ?_)).trans ?_
  · exact congrArg _ (hd _ _ _ (by dsimp only; omega))
  · exact congrArg _ (hd _ _ _ (by dsimp only; omega))
  · exact congrArg _ (hd _ _ _ (by dsimp only; omega))
  · exact congrArg _ (hd _ _ _ (by dsimp only; omega))
  · have e0 : later (grad X W B G (R.val / 2048) C) 0 (R.val % 2048) = grad X W B G (R.val / 2048) C (R.val % 2048) := if_pos (by omega)
    rw [e0]
    show _ = dx (tap W C) (grad X W B G (R.val / 2048) C) (R.val % 2048)
    simp only [dx, tap]
    ac_rfl

theorem v91_at (R : Fin 8) (C : Fin 6144) : val_main_v91 (F := Ideal) X W B G (ix2 R C) = gradW X W B G (ix2 R C) := by
  pointwise [val_main_v91, val_main_v90, val_main_v89, val_main_v84, val_main_v83, val_main_v82, val_main_v73, val_main_v72, val_main_v71, val_main_v62, val_main_v61, val_main_v60, val_main_v51, val_main_v50,
    val_main_v79, val_main_v68, val_main_v57, val_main_v48, val_main_v42, sum01, val_main_v41, val_main_v40, val_main_v47, val_main_v46, val_main_v56, val_main_v55, val_main_v67, val_main_v66, val_main_v78, val_main_v77,
    val_main_v45, val_main_v54, val_main_v65, val_main_v76, v39_at X W B G H,
    val_main_cst_2, val_main_cst_3, val_main_cst_4, val_main_cst_5, val_main_cst_7, val_main_cst_8, val_main_cst_9, val_main_cst_11, val_main_cst_12, val_main_cst_13, val_main_cst_15, val_main_cst_16, val_main_cst_17, val_main_cst_19, val_main_cst_20]
  have e0 := fun (b : Fin 2) (t : Fin 2048) => (past_at X b t C).1
  have e1 := fun (b : Fin 2) (t : Fin 2048) => (past_at X b t C).2.1
  have e2 := fun (b : Fin 2) (t : Fin 2048) => (past_at X b t C).2.2.1
  have e3 := fun (b : Fin 2) (t : Fin 2048) => (past_at X b t C).2.2.2
  simp only [e0, e1, e2, e3, Finset.univ_unique, Finset.sum_singleton, Fin.sum_univ_two]
  simp only [sum_past _ _ 1 (by omega), sum_past _ _ 2 (by omega), sum_past _ _ 3 (by omega)]
  match R with
  | ⟨0, _⟩ => simp [gradW, dw]
  | ⟨1, _⟩ => simp [gradW, dw]
  | ⟨2, _⟩ => simp [gradW, dw]
  | ⟨3, _⟩ => simp [gradW, dw, later_zero]
  | ⟨4, _⟩ => simp [gradW, dw]
  | ⟨n + 5, hn⟩ => simp [gradW, dw, show ¬ n + 5 < 4 by omega]
end
end Cert.ReferenceIdeal.Conv
end
-- ==== Proof.ConvClaim.lean ====
/- The value claim of the convolution's gradient: it pairs the two closed forms of `Proof/Conv.lean`. -/
module

public import proofs.«01_k».proof.Defs
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_conv
public import proofs.«01_k».proof.Proof.Finite
public import proofs.«01_k».proof.Proof.ConvKernel
public import proofs.«01_k».proof.Proof.ConvRef
public import Idealize.ShloMosaic.Adequacy
public import Idealize.ShloMosaic.Init

@[expose] public section

noncomputable section

namespace Cert.Conv.Claim

open Idealize.ShloMosaic Idealize.ShloMosaic.TcCoe Idealize.SL.Sem

/-- The host-only reference ends with its arguments unchanged and, having no semaphore, every counter at zero. -/
theorem frame_reference : @Cert.quiescent_ReferenceIdeal Cert.ReferenceIdeal.Gen.facts := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The precondition, read: every entry of the four arguments is a real. -/
theorem reals (m : (ℓ : Loc Cert.KernelIdeal.nD Cert.KernelIdeal.τ Cert.KernelIdeal.sig) → Buf (Elt Ideal) ℓ)
    (h : @Cert.Pre_KernelIdeal_finite_conv Cert.Pre_finite_conv.Gen.facts m) (c : Dev Cert.KernelIdeal.nD) :
    Cert.ReferenceIdeal.Conv.Fin4 (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)) :=
  ⟨fun i => Cert.Finite.real_of_between (congrFun (h c).1 i), fun i => Cert.Finite.real_of_between (congrFun (h c).2.1 i),
    fun i => Cert.Finite.real_of_between (congrFun (h c).2.2.1 i), fun i => Cert.Finite.real_of_between (congrFun (h c).2.2.2 i)⟩

theorem algebraic_conv : @Cert.algebraic_KernelIdeal_ReferenceIdeal_pre_finite_conv Cert.KernelIdeal.Gen.facts Cert.ReferenceIdeal.Gen.facts Cert.Pre_finite_conv.Gen.facts := by
  intro m g m' g' hpre hag
  refine ⟨fun c => Cert.Conv.gradX (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)),
    fun c => Cert.Conv.gradW (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)),
    (θ_run Cert.KernelIdeal.defs _ _).mono (fun _ h c => ⟨(h c).1.trans (Cert.KernelIdeal.Conv.final4 m c), (h c).2.1.trans (Cert.KernelIdeal.Conv.final5 m c), (h c).2.2⟩)
      (Cert.KernelIdeal.Value.run_blocks (F := Ideal) m g),
    (θ_run Cert.ReferenceIdeal.defs _ _).mono (fun _ h c => ?_) (Cert.ReferenceIdeal.Value.run (F := Ideal) m' g')⟩
  obtain ⟨e0, e1, e2, e3⟩ := hag c
  refine ⟨(h c).1.trans ?_, (h c).2.1.trans ?_, (h c).2.2⟩
  · rw [Cert.ReferenceIdeal.Read.val_main_v88_eq, e0, e1, e2, e3]
    funext i
    exact (congrArg _ (eq_ix2 i)).trans (Cert.ReferenceIdeal.Conv.v88_at _ _ _ _ (reals m hpre c) (i 0) (i 1))
  · rw [Cert.ReferenceIdeal.Read.val_main_v91_eq, e0, e1, e2, e3]
    funext i
    exact (congrArg _ (eq_ix2 i)).trans (Cert.ReferenceIdeal.Conv.v91_at _ _ _ _ (reals m hpre c) (i 0) (i 1))

end Cert.Conv.Claim

end
-- ==== Proof.Taps.lean ====
/- One channel of a sequence of 2048 steps: the causal three-tap convolution of the feed-forward gate and its gradient, with the
   gate and its gradient over the two halves of the channels. -/
module

public import proofs.«01_k».proof.Proof.Conv

@[expose] public section

noncomputable section

namespace Cert.Taps

open Idealize.ShloMosaic Cert.Conv

/-- The convolution with its bias: tap 2 meets the current step, tap 0 the step two before. -/
def pre (w : Fin 3 → EReal) (b : EReal) (x : ℕ → EReal) (t : ℕ) : EReal := b + w 2 * x t + w 0 * past x 2 t + w 1 * past x 1 t

/-- The gradient at the convolution's input, from the gradient `d` at its result. -/
def dx (w : Fin 3 → EReal) (d : ℕ → EReal) (t : ℕ) : EReal := w 2 * d t + w 0 * later d 2 t + w 1 * later d 1 t

/-- The gradients at the taps (rows 0 to 2) and at the bias (row 3), summed over one sequence. -/
def dw (d x : ℕ → EReal) (r : ℕ) : EReal :=
  if r < 3 then ∑ t : Fin 2048, later d (2 - r) t * x t else if r = 3 then ∑ t : Fin 2048, d t else 0

theorem dw_high (d x : ℕ → EReal) (r : ℕ) (hr : 4 ≤ r) : dw d x r = 0 := by
  rw [dw, if_neg (by omega), if_neg (by omega)]

theorem pre_order (b p q r : EReal) : p + q + r + b = b + r + p + q := by ac_rfl

/-- The gate's factor. -/
abbrev silu (p : EReal) : EReal := p * Ideal.logistic p

theorem past_real {x : ℕ → EReal} (hx : ∀ t, ∃ r : ℝ, x t = r) (k t : ℕ) : ∃ r : ℝ, past x k t = r := by
  unfold past
  split
  · exact hx _
  · exact ⟨0, rfl⟩

theorem pre_real {w : Fin 3 → EReal} {b : EReal} {x : ℕ → EReal} (hw : ∀ k, ∃ r : ℝ, w k = r) (hb : ∃ r : ℝ, b = r) (hx : ∀ t, ∃ r : ℝ, x t = r) (t : ℕ) :
    ∃ r : ℝ, pre w b x t = r := by
  obtain ⟨b, rfl⟩ := hb
  obtain ⟨w0, h0⟩ := hw 0
  obtain ⟨w1, h1⟩ := hw 1
  obtain ⟨w2, h2⟩ := hw 2
  obtain ⟨x0, g0⟩ := past_real hx 2 t
  obtain ⟨x1, g1⟩ := past_real hx 1 t
  obtain ⟨x2, g2⟩ := hx t
  refine ⟨b + w2 * x2 + w0 * x0 + w1 * x1, ?_⟩
  rw [pre, h0, h1, h2, g0, g1, g2]
  norm_cast

theorem col_real {n m : ℕ} {X : (⟨2, ![n, m]⟩ : Shape).Idx → EReal} (hX : ∀ i, ∃ r : ℝ, X i = r) (b : ℕ) (C : Fin m) (t : ℕ) : ∃ r : ℝ, col X b C t = r := by
  unfold col
  split
  · exact hX _
  · exact ⟨0, rfl⟩

/-- Channel `j` of the gate's half, and of the other half. -/
abbrev lo (j : Fin 5632) : Fin 11264 := ⟨j.val, by omega⟩
abbrev hi (j : Fin 5632) : Fin 11264 := ⟨5632 + j.val, by omega⟩

section
variable (X : (⟨2, ![4096, 11264]⟩ : Shape).Idx → EReal) (W : (⟨2, ![3, 11264]⟩ : Shape).Idx → EReal) (B : (⟨1, ![11264]⟩ : Shape).Idx → EReal)
  (G : (⟨2, ![4096, 5632]⟩ : Shape).Idx → EReal)

/-- The taps of channel `C`. -/
abbrev tap (C : Fin 11264) : Fin 3 → EReal := fun k => W (ix2 k C)

/-- The convolution's result, sequence `b`, channel `C`. -/
abbrev conv (b : ℕ) (C : Fin 11264) : ℕ → EReal := pre (tap W C) (B (ix1 C)) (col X b C)

/-- The gradients at the convolution's result: in the gate's half, and in the other half. -/
def gradLo (b : ℕ) (j : Fin 5632) (t : ℕ) : EReal := dsilu (conv X W B b (lo j) t) (col G b j t * conv X W B b (hi j) t)
def gradHi (b : ℕ) (j : Fin 5632) (t : ℕ) : EReal := col G b j t * silu (conv X W B b (lo j) t)

/-- The gradient at the input, the two halves one before the other: row `2048 b + t` is step `t` of sequence `b`. -/
def gradX : (⟨3, ![2, 4096, 5632]⟩ : Shape).Idx → EReal := fun i =>
  if (i 0).val = 0 then dx (tap W (lo (i 2))) (gradLo X W B G ((i 1).val / 2048) (i 2)) ((i 1).val % 2048)
  else dx (tap W (hi (i 2))) (gradHi X W B G ((i 1).val / 2048) (i 2)) ((i 1).val % 2048)

/-- The gradients at the taps and the bias of the two halves, in eight rows, the last four zero. -/
def gradWLo : (⟨2, ![8, 5632]⟩ : Shape).Idx → EReal := fun i =>
  dw (gradLo X W B G 0 (i 1)) (col X 0 (lo (i 1))) (i 0).val + dw (gradLo X W B G 1 (i 1)) (col X 1 (lo (i 1))) (i 0).val
def gradWHi : (⟨2, ![8, 5632]⟩ : Shape).Idx → EReal := fun i =>
  dw (gradHi X W B G 0 (i 1)) (col X 0 (hi (i 1))) (i 0).val + dw (gradHi X W B G 1 (i 1)) (col X 1 (hi (i 1))) (i 0).val

/-- The gate's two results, forward: the gated rows, and the convolution's rows in its two halves. -/
def gated : (⟨2, ![4096, 5632]⟩ : Shape).Idx → EReal := fun i =>
  silu (conv X W B ((i 0).val / 2048) (lo (i 1)) ((i 0).val % 2048)) * conv X W B ((i 0).val / 2048) (hi (i 1)) ((i 0).val % 2048)
def convRows : (⟨3, ![2, 4096, 5632]⟩ : Shape).Idx → EReal := fun i =>
  if (i 0).val = 0 then conv X W B ((i 1).val / 2048) (lo (i 2)) ((i 1).val % 2048) else conv X W B ((i 1).val / 2048) (hi (i 2)) ((i 1).val % 2048)

/-- The hypothesis of the gradient's claim: every entry is a real number. -/
structure Real4 : Prop where
  hX : ∀ i, ∃ r : ℝ, X i = r
  hW : ∀ i, ∃ r : ℝ, W i = r
  hB : ∀ i, ∃ r : ℝ, B i = r
  hG : ∀ i, ∃ r : ℝ, G i = r

variable {X W B G}

theorem conv_real (H : Real4 X W B G) (b : ℕ) (C : Fin 11264) (t : ℕ) : ∃ r : ℝ, conv X W B b C t = r :=
  pre_real (fun _ => H.hW _) (H.hB _) (col_real H.hX b C) t

theorem mul_real {a b : EReal} (ha : ∃ r : ℝ, a = r) (hb : ∃ r : ℝ, b = r) : ∃ r : ℝ, a * b = r := by
  obtain ⟨a, rfl⟩ := ha
  obtain ⟨b, rfl⟩ := hb
  exact ⟨a * b, rfl⟩
end

end Cert.Taps
end
-- ==== Proof.GateBlock.lean ====
/- What one grid point of the feed-forward gate's gradient computes from its blocks, one channel at a time: `d` is the gradient at the
   convolution's result, `a` the convolution's input. -/
module

public import proofs.«01_k».proof.Proof.Gen.GateIdeal.Value
public import proofs.«01_k».proof.Proof.Taps
public import Idealize.ShloMosaic.Lib.Pipeline.ValueKit

@[expose] public section

set_option maxRecDepth 16384

noncomputable section

namespace Cert.GateIdeal.Taps

open Cert.GateIdeal Cert.GateIdeal.Gen Idealize.ShloMosaic Idealize.ShloMosaic.TcCoe Cert.Taps
open Cert.Conv hiding pre dx dw tap gradX gradW

section
variable (d : FVec Ideal S2048x256 .f32) (a : FVec Ideal S2048x256 .bf16) (w0 w1 w2 : FVec Ideal S1x256 .f32) (p : FVec Ideal S1x256 .f32)
  (x y : FVec Ideal S1x2048x256 .bf16) (g : FVec Ideal S2048x256 .bf16) (q : Fin 256)

/-- The three taps of channel `q`. -/
abbrev taps : Fin 3 → EReal := ![w0 (ix2 0 q), w1 (ix2 0 q), w2 (ix2 0 q)]

/-- The gradients at the convolution's result in the two halves, from the saved results `x` and `y`. -/
theorem pay12_at (r : Fin 2048) : k0_pay12 (F := Ideal) x y g (ix2 r q) = dsilu (x (ix3 0 r q)) (g (ix2 r q) * y (ix3 0 r q)) := by
  pointwise [k0_pay12, k0_pay11, k0_pay10, k0_pay9]
  rfl

theorem pay13_at (r : Fin 2048) : k0_pay13 (F := Ideal) x g (ix2 r q) = g (ix2 r q) * silu (x (ix3 0 r q)) := by
  pointwise [k0_pay13, k0_pay11, k0_pay10, k0_pay9]

theorem select_later' (k n : ℕ) (hk : 0 < k) (hn : n + k = 2048) (r : Fin 2048) (h : (r.val + 2048 - n) % 2048 < 2048) :
    Scalar.select (IntOp.cmpi .slt (BitVec.ofNat 32 r.val) (BitVec.ofNat 32 n)) (d (ix2 ⟨(r.val + 2048 - n) % 2048, h⟩ q)) 0 = later (col d 0 q) k r := by
  have := select_later (fun t => d (ix2 t q)) (col d 0 q) (fun t => (col_zero d q t).symm) r k n hk hn h 1
  rwa [mul_one, mul_one] at this

theorem pay23_at (r : Fin 2048) : k0_pay23 (F := Ideal) d (ix2 r q) = later (col d 0 q) 2 r := by
  pointwise [k0_pay23]
  exact select_later' d q 2 2046 (by omega) (by omega) r _

theorem pay14_at (r : Fin 2048) : k0_pay14 (F := Ideal) x y g (ix2 r q) = later (col (k0_pay12 (F := Ideal) x y g) 0 q) 2 r := pay23_at (k0_pay12 (F := Ideal) x y g) q r

theorem pay18_at (r : Fin 2048) : k0_pay18 (F := Ideal) d (ix2 r q) = later (col d 0 q) 1 r := by
  pointwise [k0_pay18]
  exact select_later' d q 1 2047 (by omega) (by omega) r _

theorem pay28_at (r : Fin 2048) :
    k0_pay28 (F := Ideal) k0_pay26 (k0_pay27 d) (0 : EReal) (ix2 r q) = later (col d 0 q) 1 r := by
  pointwise [k0_pay28, k0_pay26, k0_pay27]
  exact select_later' d q 1 2047 (by omega) (by omega) r _

/-- The gradient at the input, in the gate's half. -/
theorem pay32_at (r : Fin 2048) : k0_pay32 (F := Ideal) (k0_pay19 (k0_pay12 x y g) (k0_pay15 x y g w2 w0) w1) (ix3 0 r q)
    = dx (taps w0 w1 w2 q) (col (k0_pay12 (F := Ideal) x y g) 0 q) r := by
  pointwise [k0_pay32, k0_pay19, k0_pay15, pay14_at, pay18_at]
  rw [dx, col_zero]
  rfl

/-- The same in the other half. -/
theorem pay33_at (r : Fin 2048) : k0_pay33 (F := Ideal) (k0_pay24 d w2 w0) k0_pay26 (k0_pay27 d) (FloatOps.ofBits FTy.f32 0#32) w1 (ix3 0 r q)
    = dx (taps w0 w1 w2 q) (col d 0 q) r := by
  pointwise [k0_pay33, k0_pay24, pay23_at]
  rw [dx, col_zero]
  exact congrArg (fun z => w2 (ix2 0 q) * d (ix2 r q) + w0 (ix2 0 q) * later (col d 0 q) 2 r + w1 (ix2 0 q) * z) (pay28_at d q r)

/-! The rows of the gradients at the taps and the bias: what is stored is what was there plus this block's term. -/

theorem lo0_at : k0_pay36 (F := Ideal) (k0_pay17 (k0_pay16 a x y g)) p (ix2 0 q) = p (ix2 0 q) + dw (col (k0_pay12 (F := Ideal) x y g) 0 q) (col a 0 q) 0 := by
  pointwise [k0_pay36, k0_pay17, k0_pay16, k0_pay7, pay14_at]
  simp only [dw, col_zero]
  rfl

theorem hi0_at : k0_pay37 (F := Ideal) (k0_pay25 (k0_pay8 a) d) p (ix2 0 q) = p (ix2 0 q) + dw (col d 0 q) (col a 0 q) 0 := by
  pointwise [k0_pay37, k0_pay25, k0_pay8, pay23_at]
  simp only [dw, col_zero]
  rfl

theorem lo1_at : k0_pay1 (F := Ideal) (k0_pay20 (k0_pay7 a) d) p (ix2 0 q) = p (ix2 0 q) + dw (col d 0 q) (col a 0 q) 1 := by
  pointwise [k0_pay1, k0_pay20, k0_pay7, pay18_at]
  simp only [dw, col_zero]
  rfl

theorem hi1_at : k0_pay2 (F := Ideal) (k0_pay29 (k0_pay8 a) k0_pay26 (k0_pay27 d) (FloatOps.ofBits FTy.f32 0#32)) p (ix2 0 q)
    = p (ix2 0 q) + dw (col d 0 q) (col a 0 q) 1 := lo1_at d a p q

theorem lo2_at : k0_pay3 (F := Ideal) (k0_pay21 (k0_pay7 a) d) p (ix2 0 q) = p (ix2 0 q) + dw (col d 0 q) (col a 0 q) 2 := by
  pointwise [k0_pay3, k0_pay21, k0_pay7]
  simp only [dw, col_zero, later_zero]
  rfl

theorem hi2_at : k0_pay4 (F := Ideal) (k0_pay30 (k0_pay8 a) d) p (ix2 0 q) = p (ix2 0 q) + dw (col d 0 q) (col a 0 q) 2 := lo2_at d a p q

theorem lo3_at : k0_pay5 (F := Ideal) (k0_pay22 d) p (ix2 0 q) = p (ix2 0 q) + dw (col d 0 q) (col a 0 q) 3 := by
  pointwise [k0_pay5, k0_pay22]
  simp only [dw, col_zero]
  rfl

theorem hi3_at : k0_pay6 (F := Ideal) (k0_pay31 d) p (ix2 0 q) = p (ix2 0 q) + dw (col d 0 q) (col a 0 q) 3 := lo3_at d a p q

end

end Cert.GateIdeal.Taps
end
-- ==== Proof.GateConv.lean ====
/- The convolution of the feed-forward gate as the references state it, read at an index. -/
module

public import proofs.«01_k».proof.Proof.Gen.RefGateFIdeal.Read
public import proofs.«01_k».proof.Proof.Taps

@[expose] public section

set_option maxRecDepth 16384

noncomputable section

namespace Cert.RefGateFIdeal.Taps

open Cert.RefGateFIdeal Cert.RefGateFIdeal.Read Idealize.ShloMosaic Idealize.ShloMosaic.TcCoe Cert.Taps
open Cert.Conv hiding pre dx dw tap gradX gradW

variable (X : FVec Ideal S4096x11264 .bf16) (W : FVec Ideal S3x11264 .f32) (B : FVec Ideal S11264 .f32)

theorem past_eq (b : Fin 2) (t : Fin 2048) (C : Fin 11264) (k : ℕ) (h : b.val * 2048 + (t.val - k) < 4096) :
    past (col X b C) k t = if k ≤ t.val then X (ix2 ⟨b.val * 2048 + (t.val - k), h⟩ C) else 0 := by
  unfold past
  split
  · rw [col_at _ _ _ _ (by omega) (by omega)]
  · rfl

theorem past_at (b : Fin 2) (t : Fin 2048) (C : Fin 11264) :
    val_main_v6 (F := Ideal) X (ix3 b t C) = past (col X b C) 2 t ∧ val_main_v14 (F := Ideal) X (ix3 b t C) = past (col X b C) 1 t
    ∧ val_main_v21 (F := Ideal) X (ix3 b t C) = col X b C t := by
  have hb := b.isLt
  have ht := t.isLt
  refine ⟨?_, ?_, ?_⟩
  · rw [past_eq X b t C 2 (by omega)]
    pointwise [val_main_v6, val_main_v3, val_main_v2, val_main_v1, val_main_v0, val_main_cst]
    by_cases h : 2 ≤ t.val
    · rw [if_pos h, dif_neg (by omega)]
    · rw [if_neg h, dif_pos (by omega)]
  · rw [past_eq X b t C 1 (by omega)]
    pointwise [val_main_v14, val_main_v3, val_main_v2, val_main_v1, val_main_v0, val_main_cst]
    by_cases h : 1 ≤ t.val
    · rw [if_pos h, dif_neg (by omega)]
      exact congrArg (fun i => X (ix2 i C)) (Fin.ext (by dsimp only; omega))
    · rw [if_neg h, dif_pos (by omega)]
  · rw [col_at X b C t (by omega) (by omega)]
    pointwise [val_main_v21, val_main_v3, val_main_v2, val_main_v1, val_main_v0, val_main_cst]

theorem conv_at (b : Fin 2) (t : Fin 2048) (C : Fin 11264) : val_main_v28 (F := Ideal) X W B (ix3 b t C) = conv X W B b C t := by
  obtain ⟨e0, e1, e2⟩ := past_at X b t C
  pointwise [val_main_v28, val_main_v27, val_main_v26, val_main_v25, val_main_v24, val_main_v23, val_main_v22, val_main_v20, val_main_v19, val_main_v18, val_main_v17, val_main_v16,
    val_main_v15, val_main_v13, val_main_v12, val_main_v11, val_main_v10, val_main_cst_0, val_main_v9, val_main_v8, val_main_v7, val_main_v5, val_main_v4]
  rw [e0, e1, e2]
  exact pre_order _ _ _ _

theorem row_at (R : Fin 4096) (C : Fin 11264) : val_main_v29 (F := Ideal) X W B (ix2 R C) = conv X W B (R.val / 2048) C (R.val % 2048) := by
  have hR := R.isLt
  pointwise [val_main_v29]
  exact conv_at X W B ⟨R.val / 2048, by omega⟩ ⟨R.val % 2048, by omega⟩ C

theorem gated_at (R : Fin 4096) (j : Fin 5632) : val_main_v34 (F := Ideal) X W B (ix2 R j) = gated X W B (ix2 R j) := by
  have e0 := row_at X W B R (lo j)
  have e1 := row_at X W B R (hi j)
  pointwise [val_main_v34, val_main_v33, val_main_v32, val_main_call0_v5, val_main_call0_v4, val_main_call0_v3, val_main_call0_v2, val_main_call0_v1, val_main_call0_v0, val_main_call0_cst,
    val_main_call0_cst_0, val_main_v31, val_main_v30]
  rw [e0, e1]
  rfl

theorem convRows_at (s : Fin 2) (R : Fin 4096) (j : Fin 5632) : val_main_v38 (F := Ideal) X W B (ix3 s R j) = convRows X W B (ix3 s R j) := by
  have e0 := row_at X W B R (lo j)
  have e1 := row_at X W B R (hi j)
  match s with
  | ⟨0, _⟩ =>
    pointwise [val_main_v38, val_main_v37, val_main_v36, val_main_v35, val_main_v31, val_main_v30]
    rw [e0]
    rfl
  | ⟨1, _⟩ =>
    pointwise [val_main_v38, val_main_v37, val_main_v36, val_main_v35, val_main_v31, val_main_v30]
    rw [e1]
    rfl

end Cert.RefGateFIdeal.Taps
end
-- ==== Proof.GateKernel.lean ====
/- The feed-forward gate's gradient as the pipelined kernel leaves it: the blocks of all grid points put together. -/
module

public import proofs.«01_k».proof.Proof.GateBlock
public import proofs.«01_k».proof.Proof.GateConv
public import proofs.«01_k».proof.Proof.Rows
public import Idealize.ShloMosaic.Lib.Pipeline.ReadBack
public import Idealize.ShloMosaic.Lib.StableHlo.ReadAt

@[expose] public section

set_option maxRecDepth 16384

noncomputable section

namespace Cert.GateIdeal.Taps

open Cert.GateIdeal Cert.GateIdeal.Gen Idealize.ShloMosaic Idealize.ShloMosaic.TcCoe Cert.Taps Cert.Rows
open Cert.Conv hiding pre dx dw tap gradX gradW
open Idealize.ShloMosaic.Pipeline (Dat)

variable (m : (ℓ : Loc nD τ sig) → Buf (Elt Ideal) ℓ)

/-- The blocks that each window holds at point `t`: column block `t / 2` of sequence `t % 2`, of the gate's half and of the other, 22 blocks on. -/
theorem idx : ∀ t : Fin cfg0.N, win0_0.index t = ![t.val % 2, t.val / 2] ∧ win0_1.index t = ![t.val % 2, t.val / 2 + 22] ∧ win0_2.index t = ![0, t.val % 2, t.val / 2]
    ∧ win0_3.index t = ![0, t.val / 2] ∧ win0_4.index t = ![0, t.val / 2 + 22] ∧ win0_5.index t = ![t.val % 2, t.val / 2]
    ∧ win0_6.index t = ![0, t.val % 2, t.val / 2] ∧ win0_7.index t = ![0, t.val / 2] ∧ win0_8.index t = ![0, t.val / 2] :=
  (by decide +kernel : ∀ t : Fin grid0.N, _)

/-- Row `k` of a block of taps. -/
abbrev wrow (w : S3x256.Idx → EReal) (k : Fin 3) : FVec Ideal S1x256 .f32 := fun i => w (ix2 k (i 1))

/-- Half `k` of a block of the convolution's rows. -/
abbrev half (h : S2x2048x256.Idx → EReal) (k : Fin 2) : FVec Ideal S1x2048x256 .bf16 := fun i => h (ix3 k (i 1) (i 2))

theorem ld_w (w : S3x256.Idx → EReal) (k : ℕ) (hk : k < 3) (inb : ∀ a : Fin 2, (![k, 0] : Fin 2 → ℕ) a + (![1, 256] : Fin 2 → ℕ) a ≤ (![3, 256] : Fin 2 → ℕ) a) :
    View.ld (Val := Elt Ideal) (e' := .f32) w (Rect.unit (s := S3x256) ![k, 0] ![1, 256] inb) = wrow w ⟨k, hk⟩ := by
  funext i
  refine congrArg w (funext (Fin.forall_fin_two.mpr ⟨Fin.ext ?_, Fin.ext ?_⟩))
  · show k + 1 * (i 0).val = k
    have : (i 0).val < 1 := (i 0).isLt
    omega
  · show 0 + 1 * (i 1).val = (i 1).val
    omega

theorem ld_h (h : S2x2048x256.Idx → EReal) (k : ℕ) (hk : k < 2)
    (inb : ∀ a : Fin 3, (![k, 0, 0] : Fin 3 → ℕ) a + (![1, 2048, 256] : Fin 3 → ℕ) a ≤ (![2, 2048, 256] : Fin 3 → ℕ) a) :
    View.ld (Val := Elt Ideal) (e' := .bf16) h (Rect.unit (s := S2x2048x256) ![k, 0, 0] ![1, 2048, 256] inb) = half h ⟨k, hk⟩ := by
  funext i
  refine congrArg h (funext fun a => Fin.ext ?_)
  match a with
  | ⟨0, _⟩ =>
    show k + 1 * (i 0).val = k
    have : (i 0).val < 1 := (i 0).isLt
    omega
  | ⟨1, _⟩ =>
    show 0 + 1 * (i 1).val = (i 1).val
    omega
  | ⟨2, _⟩ =>
    show 0 + 1 * (i 2).val = (i 2).val
    omega

/-- The gradients at the convolution's result at point `t`, whole blocks, in the two halves. -/
abbrev dLo (c : Dev nD) (t : Fin cfg0.N) : FVec Ideal S2048x256 .f32 := k0_pay12 (half (iblk m c 2 t) 0) (half (iblk m c 2 t) 1) (iblk m c 5 t)
abbrev dHi (c : Dev nD) (t : Fin cfg0.N) : FVec Ideal S2048x256 .f32 := k0_pay13 (half (iblk m c 2 t) 0) (iblk m c 5 t)

theorem outA7 (c : Dev nD) (t : Fin cfg0.N) (h : t.val % 2 = 0) (r : Fin 8) (q : Fin 256) :
    (outsAt0 m c t.val t.isLt).2.1 (ix2 r q) = dw (col (dLo m c t) 0 q) (col (iblk m c 0 t) 0 q) r := by
  rw [outsAt0_A m c t h]
  frame_open
  simp (disch := decide) only [↓ View.readCov_skip, ↓ View.readCov_cons_toLoadRect, ↓ View.readCov_fill]
  frame_out
  simp only [ld_h _ 0 (by omega), ld_h _ 1 (by omega)]
  rw [← View.read_writes_junk_apply_eq_canon VO0_7]
  have hZ : ∀ i, k0_pay34 (F := Ideal) i = 0 := fun i => by pointwise [k0_pay34]
  refine Eq.trans (b := k0_pay34 (F := Ideal) (ix2 r q) + dw (col (dLo m c t) 0 q) (col (iblk m c 0 t) 0 q) r) ?_ (by rw [hZ, zero_add])
  refine rows_fill VO0_7 VO0_7.junk _ _ _ _ _ _ _ _ _ _ (fun q r => dw (col (dLo m c t) 0 q) (col (iblk m c 0 t) 0 q) r) (fun q r hr => dw_high _ _ r hr)
    (fun q => ?_) (fun q => ?_) (fun q => ?_) (fun q => ?_) r q
  · exact (lo0_at _ _ _ _ _ q).trans (congrArg (· + _) (ld_row (k0_pay34 (F := Ideal)) 0 (by omega) _ q))
  · exact (lo1_at _ _ _ q).trans (congrArg (· + _) (ld_row (k0_pay34 (F := Ideal)) 1 (by omega) _ q))
  · exact (lo2_at _ _ _ q).trans (congrArg (· + _) (ld_row (k0_pay34 (F := Ideal)) 2 (by omega) _ q))
  · exact (lo3_at _ _ _ q).trans (congrArg (· + _) (ld_row (k0_pay34 (F := Ideal)) 3 (by omega) _ q))

theorem outA8 (c : Dev nD) (t : Fin cfg0.N) (h : t.val % 2 = 0) (r : Fin 8) (q : Fin 256) :
    (outsAt0 m c t.val t.isLt).2.2 (ix2 r q) = dw (col (dHi m c t) 0 q) (col (iblk m c 1 t) 0 q) r := by
  rw [outsAt0_A m c t h]
  frame_open
  simp (disch := decide) only [↓ View.readCov_skip, ↓ View.readCov_cons_toLoadRect, ↓ View.readCov_fill]
  frame_out
  simp only [ld_h _ 0 (by omega)]
  rw [← View.read_writes_junk_apply_eq_canon VO0_8]
  have hZ : ∀ i, k0_pay35 (F := Ideal) i = 0 := fun i => by pointwise [k0_pay35]
  refine Eq.trans (b := k0_pay35 (F := Ideal) (ix2 r q) + dw (col (dHi m c t) 0 q) (col (iblk m c 1 t) 0 q) r) ?_ (by rw [hZ, zero_add])
  refine rows_fill VO0_8 VO0_8.junk _ _ _ _ _ _ _ _ _ _ (fun q r => dw (col (dHi m c t) 0 q) (col (iblk m c 1 t) 0 q) r) (fun q r hr => dw_high _ _ r hr)
    (fun q => ?_) (fun q => ?_) (fun q => ?_) (fun q => ?_) r q
  · exact (hi0_at _ _ _ q).trans (congrArg (· + _) (ld_row (k0_pay35 (F := Ideal)) 0 (by omega) _ q))
  · exact (hi1_at _ _ _ q).trans (congrArg (· + _) (ld_row (k0_pay35 (F := Ideal)) 1 (by omega) _ q))
  · exact (hi2_at _ _ _ q).trans (congrArg (· + _) (ld_row (k0_pay35 (F := Ideal)) 2 (by omega) _ q))
  · exact (hi3_at _ (iblk m c 1 t) _ q).trans (congrArg (· + _) (ld_row (k0_pay35 (F := Ideal)) 3 (by omega) _ q))

theorem outB7 (c : Dev nD) (t : Fin cfg0.N) (h : ¬ t.val % 2 = 0) (r : Fin 8) (q : Fin 256) :
    (outsAt0 m c t.val t.isLt).2.1 (ix2 r q) = (outsAt0 m c (t.val - 1) (by omega)).2.1 (ix2 r q) + dw (col (dLo m c t) 0 q) (col (iblk m c 0 t) 0 q) r := by
  rw [outsAt0_B m c t h]
  frame_out
  simp only [ld_h _ 0 (by omega), ld_h _ 1 (by omega)]
  refine rows_add (ms0_7 t).view _ _ _ _ _ _ _ _ _ (outsAt0 m c (t.val - 1) (by omega)).2.1 (Memref.IsWhole.read_unread _ _)
    (fun q r => dw (col (dLo m c t) 0 q) (col (iblk m c 0 t) 0 q) r) (fun q r hr => dw_high _ _ r hr)
    (fun q => ?_) (fun q => ?_) (fun q => ?_) (fun q => ?_) r q
  · exact (lo0_at _ _ _ _ _ q).trans (congrArg (· + _) (ld_row _ 0 (by omega) _ q))
  · exact (lo1_at _ _ _ q).trans (congrArg (· + _) (ld_row _ 1 (by omega) _ q))
  · exact (lo2_at _ _ _ q).trans (congrArg (· + _) (ld_row _ 2 (by omega) _ q))
  · exact (lo3_at _ _ _ q).trans (congrArg (· + _) (ld_row _ 3 (by omega) _ q))

theorem outB8 (c : Dev nD) (t : Fin cfg0.N) (h : ¬ t.val % 2 = 0) (r : Fin 8) (q : Fin 256) :
    (outsAt0 m c t.val t.isLt).2.2 (ix2 r q) = (outsAt0 m c (t.val - 1) (by omega)).2.2 (ix2 r q) + dw (col (dHi m c t) 0 q) (col (iblk m c 1 t) 0 q) r := by
  rw [outsAt0_B m c t h]
  frame_out
  simp only [ld_h _ 0 (by omega)]
  refine rows_add (ms0_8 t).view _ _ _ _ _ _ _ _ _ (outsAt0 m c (t.val - 1) (by omega)).2.2 (Memref.IsWhole.read_unread _ _)
    (fun q r => dw (col (dHi m c t) 0 q) (col (iblk m c 1 t) 0 q) r) (fun q r hr => dw_high _ _ r hr)
    (fun q => ?_) (fun q => ?_) (fun q => ?_) (fun q => ?_) r q
  · exact (hi0_at _ _ _ q).trans (congrArg (· + _) (ld_row _ 0 (by omega) _ q))
  · exact (hi1_at _ _ _ q).trans (congrArg (· + _) (ld_row _ 1 (by omega) _ q))
  · exact (hi2_at _ _ _ q).trans (congrArg (· + _) (ld_row _ 2 (by omega) _ q))
  · exact (hi3_at _ (iblk m c 1 t) _ q).trans (congrArg (· + _) (ld_row _ 3 (by omega) _ q))

theorem out6 (c : Dev nD) (t : Fin cfg0.N) (s : Fin 2) (r : Fin 2048) (q : Fin 256) :
    (outsAt0 m c t.val t.isLt).1 (ix3 s r q)
      = if s.val = 0 then dx (taps (wrow (iblk m c 3 t) 0) (wrow (iblk m c 3 t) 1) (wrow (iblk m c 3 t) 2) q) (col (dLo m c t) 0 q) r
        else dx (taps (wrow (iblk m c 4 t) 0) (wrow (iblk m c 4 t) 1) (wrow (iblk m c 4 t) 2) q) (col (dHi m c t) 0 q) r := by
  by_cases h : t.val % 2 = 0
  · rw [outsAt0_A m c t h]
    frame_out
    simp only [ld_h _ 0 (by omega), ld_h _ 1 (by omega), ld_w _ 0 (by omega), ld_w _ 1 (by omega), ld_w _ 2 (by omega)]
    rw [← View.read_writes_junk_apply_eq_canon VO0_6]
    exact (slabs VO0_6 _ _ _ _ _ s r q).trans (congrArg₂ (ite (s.val = 0)) (pay32_at _ _ _ _ _ _ q r) (pay33_at _ _ _ _ q r))
  · rw [outsAt0_B m c t h]
    frame_out
    simp only [ld_h _ 0 (by omega), ld_h _ 1 (by omega), ld_w _ 0 (by omega), ld_w _ 1 (by omega), ld_w _ 2 (by omega)]
    rw [← View.read_writes_junk_apply_eq_canon VO0_6]
    exact (slabs VO0_6 _ _ _ _ _ s r q).trans (congrArg₂ (ite (s.val = 0)) (pay32_at _ _ _ _ _ _ q r) (pay33_at _ _ _ _ q r))

end Cert.GateIdeal.Taps
end
-- ==== Proof.GateFinal.lean ====
/- The blocks of the feed-forward gate's gradient are blocks of its arguments; the three results, whole. -/
module

public import proofs.«01_k».proof.Proof.GateKernel

@[expose] public section

set_option maxRecDepth 16384

noncomputable section

namespace Cert.GateIdeal.Taps

open Cert.GateIdeal Cert.GateIdeal.Gen Idealize.ShloMosaic Idealize.ShloMosaic.TcCoe Cert.Taps Cert.Rows
open Cert.Conv hiding pre dx dw tap gradX gradW
open Idealize.ShloMosaic.Pipeline (Dat)

variable (m : (ℓ : Loc nD τ sig) → Buf (Elt Ideal) ℓ)

/-- The four arguments on core `c`. -/
abbrev argA (c : Dev nD) : FVec Ideal S4096x11264 .bf16 := m ((c : Thread nD τ).loc main_arg0)
abbrev argW (c : Dev nD) : FVec Ideal S3x11264 .f32 := m ((c : Thread nD τ).loc main_arg1)
abbrev argB (c : Dev nD) : FVec Ideal S11264 .f32 := m ((c : Thread nD τ).loc main_arg2)
abbrev argG (c : Dev nD) : FVec Ideal S4096x5632 .bf16 := m ((c : Thread nD τ).loc main_arg3)

/-- What the host hands the kernel in place of the rows saved by the forward pass: those rows, from the reference's own lines. -/
theorem host_eq (c : Dev nD) : V m c (Pipeline.arrRef spec0 2) = Cert.RefGateFIdeal.Read.val_main_v38 (F := Ideal) (argA m c) (argW m c) (argB m c) := by
  unfold V
  after_reads_simp
  rfl

theorem host_at (c : Dev nD) (s : Fin 2) (R : Fin 4096) (j : Fin 5632) :
    V m c (Pipeline.arrRef spec0 2) (ix3 s R j) = convRows (argA m c) (argW m c) (argB m c) (ix3 s R j) :=
  (congrFun (host_eq m c) (ix3 s R j)).trans (Cert.RefGateFIdeal.Taps.convRows_at _ _ _ s R j)

section
variable (c : Dev nD) (t : Fin cfg0.N) (q : Fin 256) (j : Fin 5632) (hj : j.val = t.val / 2 * 256 + q.val)
include hj

theorem blk0 : col (iblk m c 0 t) 0 q = col (argA m c) (t.val % 2) (lo j) := by
  have ht : t.val < 44 := lt_of_lt_of_eq t.isLt N_0
  funext s
  by_cases hs : s < 2048
  · rw [col_at _ _ _ _ (by omega) (by omega), col_at _ _ _ _ (by omega) (by omega)]
    blk_point [iblk, V, idx t]
  · rw [col, col, dif_neg (by omega), dif_neg (by omega)]

theorem blk1 : col (iblk m c 1 t) 0 q = col (argA m c) (t.val % 2) (hi j) := by
  have ht : t.val < 44 := lt_of_lt_of_eq t.isLt N_0
  funext s
  by_cases hs : s < 2048
  · rw [col_at _ _ _ _ (by omega) (by omega), col_at _ _ _ _ (by omega) (by omega)]
    blk_point [iblk, V, idx t]
  · rw [col, col, dif_neg (by omega), dif_neg (by omega)]

theorem blk3 : taps (wrow (iblk m c 3 t) 0) (wrow (iblk m c 3 t) 1) (wrow (iblk m c 3 t) 2) q = tap (argW m c) (lo j) := by
  have h : ∀ k : Fin 3, iblk m c 3 t (ix2 k q) = argW m c (ix2 k (lo j)) := by
    intro k
    blk_point [iblk, V, idx t]
  funext k
  match k with
  | ⟨0, _⟩ => exact h 0
  | ⟨1, _⟩ => exact h 1
  | ⟨2, _⟩ => exact h 2

theorem blk4 : taps (wrow (iblk m c 4 t) 0) (wrow (iblk m c 4 t) 1) (wrow (iblk m c 4 t) 2) q = tap (argW m c) (hi j) := by
  have h : ∀ k : Fin 3, iblk m c 4 t (ix2 k q) = argW m c (ix2 k (hi j)) := by
    intro k
    blk_point [iblk, V, idx t]
  funext k
  match k with
  | ⟨0, _⟩ => exact h 0
  | ⟨1, _⟩ => exact h 1
  | ⟨2, _⟩ => exact h 2

theorem blk2 (s : Fin 2) (r : Fin 2048) : half (iblk m c 2 t) s (ix3 0 r q)
    = if s.val = 0 then conv (argA m c) (argW m c) (argB m c) (t.val % 2) (lo j) r else conv (argA m c) (argW m c) (argB m c) (t.val % 2) (hi j) r := by
  have ht : t.val < 44 := lt_of_lt_of_eq t.isLt N_0
  have e := host_at m c s ⟨t.val % 2 * 2048 + r.val, by omega⟩ j
  have e1 : (t.val % 2 * 2048 + r.val) / 2048 = t.val % 2 := by omega
  have e2 : (t.val % 2 * 2048 + r.val) % 2048 = r.val := by omega
  have e3 : convRows (argA m c) (argW m c) (argB m c) (ix3 s ⟨t.val % 2 * 2048 + r.val, by omega⟩ j)
      = if s.val = 0 then conv (argA m c) (argW m c) (argB m c) ((t.val % 2 * 2048 + r.val) / 2048) (lo j) ((t.val % 2 * 2048 + r.val) % 2048)
        else conv (argA m c) (argW m c) (argB m c) ((t.val % 2 * 2048 + r.val) / 2048) (hi j) ((t.val % 2 * 2048 + r.val) % 2048) := rfl
  rw [e3, e1, e2] at e
  rw [← e]
  show iblk m c 2 t (ix3 s r q) = _
  generalize hV : V m c = v
  rw [iblk, hV]
  blk_point [idx t]

theorem blk5 (r : Fin 2048) : iblk m c 5 t (ix2 r q) = col (argG m c) (t.val % 2) j r := by
  have ht : t.val < 44 := lt_of_lt_of_eq t.isLt N_0
  rw [col_at _ _ _ _ (by omega) (by omega)]
  blk_point [iblk, V, idx t]

theorem dLo_eq : col (dLo m c t) 0 q = gradLo (argA m c) (argW m c) (argB m c) (argG m c) (t.val % 2) j := by
  funext s
  by_cases hs : s < 2048
  · rw [show s = (⟨s, hs⟩ : Fin 2048).val from rfl, col_zero, dLo, pay12_at, blk2 m c t q j hj 0, blk2 m c t q j hj 1, blk5 m c t q j hj]
    rfl
  · rw [gradLo, col, col, dif_neg (by omega), dif_neg (by omega), zero_mul, Cert.Conv.dsilu, zero_mul]

theorem dHi_eq : col (dHi m c t) 0 q = gradHi (argA m c) (argW m c) (argB m c) (argG m c) (t.val % 2) j := by
  funext s
  by_cases hs : s < 2048
  · rw [show s = (⟨s, hs⟩ : Fin 2048).val from rfl, col_zero, dHi, pay13_at, blk2 m c t q j hj 0, blk5 m c t q j hj]
    rfl
  · rw [gradHi, col, col, dif_neg (by omega), dif_neg (by omega), zero_mul]

end

theorem final6 (c : Dev nD) : (dats m 0 c).arrAt 6 cfg0.N = gradX (argA m c) (argW m c) (argB m c) (argG m c) := by
  refine (dats m 0 c).arrAt_eq_of_covers 6 _ (by decide +kernel) fun t hf y => ?_
  have ht : t.val < 44 := lt_of_lt_of_eq t.isLt N_0
  blk_simp
  rw [after0_6]
  idx_vars y
  have e : ((View.whole main_v36_0).slice (win0_6.rect t)).emb (ix3 y0 y1 y2) = ix3 y0 ⟨t.val % 2 * 2048 + y1.val, by omega⟩ ⟨t.val / 2 * 256 + y2.val, by omega⟩ := by
    blk_ext [idx t]
  rw [e]
  refine (out6 m c t y0 y1 y2).trans ?_
  rw [dLo_eq m c t y2 ⟨t.val / 2 * 256 + y2.val, by omega⟩ rfl, dHi_eq m c t y2 ⟨t.val / 2 * 256 + y2.val, by omega⟩ rfl, blk3 m c t y2 ⟨t.val / 2 * 256 + y2.val, by omega⟩ rfl,
    blk4 m c t y2 ⟨t.val / 2 * 256 + y2.val, by omega⟩ rfl]
  have e1 : (t.val % 2 * 2048 + y1.val) / 2048 = t.val % 2 := by omega
  have e2 : (t.val % 2 * 2048 + y1.val) % 2048 = y1.val := by omega
  show _ = if y0.val = 0 then dx _ (gradLo _ _ _ _ ((t.val % 2 * 2048 + y1.val) / 2048) _) ((t.val % 2 * 2048 + y1.val) % 2048)
    else dx _ (gradHi _ _ _ _ ((t.val % 2 * 2048 + y1.val) / 2048) _) ((t.val % 2 * 2048 + y1.val) % 2048)
  rw [e1, e2]
  rfl

theorem final7 (c : Dev nD) : (dats m 0 c).arrAt 7 cfg0.N = gradWLo (argA m c) (argW m c) (argB m c) (argG m c) := by
  refine (dats m 0 c).arrAt_eq_of_covers 7 _ (by decide +kernel) fun t hf y => ?_
  have ht : t.val < 44 := lt_of_lt_of_eq t.isLt N_0
  have h1 := (flush0_7 t).mp hf
  blk_simp
  rw [after0_7]
  idx_vars y
  have e : ((View.whole main_v36_1).slice (win0_7.rect t)).emb (ix2 y0 y1) = ix2 y0 ⟨t.val / 2 * 256 + y1.val, by omega⟩ := by
    blk_ext [idx t]
  rw [e]
  have hs : t.val - 1 < cfg0.N := lt_of_le_of_lt (Nat.sub_le _ _) t.isLt
  refine (outB7 m c t (by omega) y0 y1).trans ?_
  refine (congrArg (· + _) (outA7 m c ⟨t.val - 1, hs⟩ (by show (t.val - 1) % 2 = 0; omega) y0 y1)).trans ?_
  have e0 : t.val / 2 * 256 + y1.val = (t.val - 1) / 2 * 256 + y1.val := by omega
  rw [dLo_eq m c t y1 ⟨t.val / 2 * 256 + y1.val, by omega⟩ rfl, blk0 m c t y1 ⟨t.val / 2 * 256 + y1.val, by omega⟩ rfl,
    dLo_eq m c ⟨t.val - 1, hs⟩ y1 ⟨t.val / 2 * 256 + y1.val, by omega⟩ e0, blk0 m c ⟨t.val - 1, hs⟩ y1 ⟨t.val / 2 * 256 + y1.val, by omega⟩ e0]
  have p0 : (t.val - 1) % 2 = 0 := by omega
  have p1 : t.val % 2 = 1 := by omega
  show dw (gradLo _ _ _ _ ((t.val - 1) % 2) _) (col _ ((t.val - 1) % 2) _) _ + dw (gradLo _ _ _ _ (t.val % 2) _) (col _ (t.val % 2) _) _ = _
  rw [p0, p1]
  rfl

theorem final8 (c : Dev nD) : (dats m 0 c).arrAt 8 cfg0.N = gradWHi (argA m c) (argW m c) (argB m c) (argG m c) := by
  refine (dats m 0 c).arrAt_eq_of_covers 8 _ (by decide +kernel) fun t hf y => ?_
  have ht : t.val < 44 := lt_of_lt_of_eq t.isLt N_0
  have h1 := (flush0_8 t).mp hf
  blk_simp
  rw [after0_8]
  idx_vars y
  have e : ((View.whole main_v36_2).slice (win0_8.rect t)).emb (ix2 y0 y1) = ix2 y0 ⟨t.val / 2 * 256 + y1.val, by omega⟩ := by
    blk_ext [idx t]
  rw [e]
  have hs : t.val - 1 < cfg0.N := lt_of_le_of_lt (Nat.sub_le _ _) t.isLt
  refine (outB8 m c t (by omega) y0 y1).trans ?_
  refine (congrArg (· + _) (outA8 m c ⟨t.val - 1, hs⟩ (by show (t.val - 1) % 2 = 0; omega) y0 y1)).trans ?_
  have e0 : t.val / 2 * 256 + y1.val = (t.val - 1) / 2 * 256 + y1.val := by omega
  rw [dHi_eq m c t y1 ⟨t.val / 2 * 256 + y1.val, by omega⟩ rfl, blk1 m c t y1 ⟨t.val / 2 * 256 + y1.val, by omega⟩ rfl,
    dHi_eq m c ⟨t.val - 1, hs⟩ y1 ⟨t.val / 2 * 256 + y1.val, by omega⟩ e0, blk1 m c ⟨t.val - 1, hs⟩ y1 ⟨t.val / 2 * 256 + y1.val, by omega⟩ e0]
  have p0 : (t.val - 1) % 2 = 0 := by omega
  have p1 : t.val % 2 = 1 := by omega
  show dw (gradHi _ _ _ _ ((t.val - 1) % 2) _) (col _ ((t.val - 1) % 2) _) _ + dw (gradHi _ _ _ _ (t.val % 2) _) (col _ (t.val % 2) _) _ = _
  rw [p0, p1]
  rfl

end Cert.GateIdeal.Taps
end
-- ==== Proof.GateRef.lean ====
/- The gradient of the feed-forward gate as the reference states it, read at an index. -/
module

public import proofs.«01_k».proof.Proof.Gen.RefGateIdeal.Read
public import proofs.«01_k».proof.Proof.GateConv

@[expose] public section

set_option maxRecDepth 16384

noncomputable section

namespace Cert.RefGateIdeal.Taps

open Cert.RefGateIdeal Cert.RefGateIdeal.Read Idealize.ShloMosaic Idealize.ShloMosaic.TcCoe Cert.Taps
open Cert.Conv hiding pre dx dw tap gradX gradW

variable (X : FVec Ideal S4096x11264 .bf16) (W : FVec Ideal S3x11264 .f32) (B : FVec Ideal S11264 .f32) (G : FVec Ideal S4096x5632 .bf16)

theorem past_at (b : Fin 2) (t : Fin 2048) (C : Fin 11264) :
    val_main_v7 (F := Ideal) X (ix3 b t C) = past (col X b C) 2 t ∧ val_main_v15 (F := Ideal) X (ix3 b t C) = past (col X b C) 1 t
    ∧ val_main_v22 (F := Ideal) X (ix3 b t C) = col X b C t := Cert.RefGateFIdeal.Taps.past_at X b t C

theorem row_at (R : Fin 4096) (C : Fin 11264) : val_main_v30 (F := Ideal) X W B (ix2 R C) = conv X W B (R.val / 2048) C (R.val % 2048) :=
  Cert.RefGateFIdeal.Taps.row_at X W B R C

/-- The gradient at the convolution's result over all channels. -/
def grad (b : ℕ) (C : Fin 11264) (t : ℕ) : EReal :=
  if h : C.val < 5632 then gradLo X W B G b ⟨C.val, h⟩ t else gradHi X W B G b ⟨C.val - 5632, by omega⟩ t

theorem grad_lo (b : ℕ) (j : Fin 5632) : grad X W B G b (lo j) = gradLo X W B G b j := by
  funext t
  rw [grad, dif_pos j.isLt]

theorem grad_hi (b : ℕ) (j : Fin 5632) : grad X W B G b (hi j) = gradHi X W B G b j := by
  funext t
  rw [grad, dif_neg (by show ¬ 5632 + j.val < 5632; omega)]
  have e : (⟨(hi j).val - 5632, by omega⟩ : Fin 5632) = j := Fin.ext (by show 5632 + j.val - 5632 = j.val; omega)
  rw [e]

variable (H : Real4 X W B G)
include H

theorem v38_at (R : Fin 4096) (j : Fin 5632) : val_main_v38 (F := Ideal) X W B G (ix2 R j) = gradLo X W B G (R.val / 2048) j (R.val % 2048) := by
  have e0 := row_at X W B R (lo j)
  have e1 := row_at X W B R (hi j)
  have hp := conv_real H (R.val / 2048) (lo j) (R.val % 2048)
  have hg := mul_real (col_real H.hG (R.val / 2048) j (R.val % 2048)) (conv_real H (R.val / 2048) (hi j) (R.val % 2048))
  have eg : col G (R.val / 2048) j (R.val % 2048) = G (ix2 R j) := by
    rw [col_at G _ j _ (by omega) (by omega)]
    exact congrArg (fun i => G (ix2 i j)) (Fin.ext (by dsimp only; omega))
  pointwise [val_main_v38, val_main_call1_v1, val_main_call1_v2, val_main_call1_v0, val_main_v37, val_main_v35, val_main_v32, val_main_v31, val_main_v33_1, val_main_v33_2, val_main_call0_v7, val_main_call0_v6,
    val_main_call0_v4, val_main_call0_v3, val_main_call0_v2, val_main_call0_v1, val_main_call0_v0, val_main_call0_cst, val_main_call0_cst_0, val_main_call0_cst_1]
  rw [e0, e1, gradLo, dsilu_eq _ _ hp hg, eg]
  rfl

theorem v36_at (R : Fin 4096) (j : Fin 5632) : val_main_v36 (F := Ideal) X W B G (ix2 R j) = gradHi X W B G (R.val / 2048) j (R.val % 2048) := by
  have e0 := row_at X W B R (lo j)
  have eg : col G (R.val / 2048) j (R.val % 2048) = G (ix2 R j) := by
    rw [col_at G _ j _ (by omega) (by omega)]
    exact congrArg (fun i => G (ix2 i j)) (Fin.ext (by dsimp only; omega))
  pointwise [val_main_v36, val_main_v35, val_main_v31, val_main_v33_0, val_main_v33_2,
    val_main_call0_v4, val_main_call0_v3, val_main_call0_v2, val_main_call0_v1, val_main_call0_v0, val_main_call0_cst, val_main_call0_cst_0]
  rw [e0, gradHi, eg, mul_comm]
  rfl

theorem v42_at (b : Fin 2) (t : Fin 2048) (C : Fin 11264) : val_main_v42 (F := Ideal) X W B G (ix3 b t C) = grad X W B G b C t := by
  have e1 : (b.val * 2048 + t.val) / 2048 = b.val := by omega
  have e2 : (b.val * 2048 + t.val) % 2048 = t.val := by omega
  have a := fun h => v38_at X W B G H ⟨b.val * 2048 + t.val, by omega⟩ ⟨C.val, h⟩
  have u := v36_at X W B G H ⟨b.val * 2048 + t.val, by omega⟩ ⟨C.val - 5632, by omega⟩
  simp only [e1, e2] at a u
  pointwise [val_main_v42, val_main_v41, val_main_v40, val_main_v39, val_main_cst_2, val_main_cst_3]
  unfold grad
  by_cases h : C.val < 5632
  · rw [dif_pos h, dif_neg (by omega), dif_pos ⟨by omega, h⟩, zero_add]
    exact a h
  · rw [dif_neg h, dif_pos (by omega), dif_neg fun h' => h h'.2, add_zero]
    exact u

end Cert.RefGateIdeal.Taps
end
-- ==== Proof.GateRefX.lean ====
/- The gradient of the feed-forward gate as the reference states it, read at an index: the gradient at the input. -/
module

public import proofs.«01_k».proof.Proof.GateRef

@[expose] public section

set_option maxRecDepth 16384

noncomputable section

namespace Cert.RefGateIdeal.Taps

open Cert.RefGateIdeal Cert.RefGateIdeal.Read Idealize.ShloMosaic Idealize.ShloMosaic.TcCoe Cert.Taps
open Cert.Conv hiding pre dx dw tap gradX gradW

variable (X : FVec Ideal S4096x11264 .bf16) (W : FVec Ideal S3x11264 .f32) (B : FVec Ideal S11264 .f32) (G : FVec Ideal S4096x5632 .bf16)

variable (H : Real4 X W B G)
include H

theorem v79_at (R : Fin 4096) (C : Fin 11264) : val_main_v79 (F := Ideal) X W B G (ix2 R C) = dx (tap W C) (grad X W B G (R.val / 2048) C) (R.val % 2048) := by
  have hR := R.isLt
  pointwise [val_main_v79, val_main_v78, val_main_v73, val_main_v72, val_main_v62, val_main_v61, val_main_v52, val_main_v47, val_main_v56, val_main_v67,
    val_main_v46, val_main_v23, val_main_v21, val_main_v20, val_main_v55, val_main_v16, val_main_v14, val_main_v13, val_main_v66, val_main_v8, val_main_v6, val_main_v5,
    val_main_cst_8, val_main_cst_12, val_main_cst_16]
  have hd : ∀ (b : Fin 2) (t : Fin 2048) (s : ℕ), t.val = s → val_main_v42 (F := Ideal) X W B G (ix3 b t C) = grad X W B G b C s := by
    rintro b t _ rfl
    exact v42_at X W B G H b t C
  have e := fun (u : EReal) (k : ℕ) (P : Prop) [Decidable P] (f : P → EReal) => later_at (grad X W B G (R.val / 2048) C) u (R.val % 2048) k P f
  refine (congrArg₂ (· + ·) (congrArg₂ (· + ·) (e (W (ix2 2 C)) 0 _ _ (by omega) fun h => ?_) (e (W (ix2 1 C)) 1 _ _ (by omega) fun h => ?_))
    (e (W (ix2 0 C)) 2 _ _ (by omega) fun h => ?_)).trans ?_
  · exact congrArg _ (hd _ _ _ (by dsimp only; omega))
  · exact congrArg _ (hd _ _ _ (by dsimp only; omega))
  · exact congrArg _ (hd _ _ _ (by dsimp only; omega))
  · have e0 : later (grad X W B G (R.val / 2048) C) 0 (R.val % 2048) = grad X W B G (R.val / 2048) C (R.val % 2048) := if_pos (by omega)
    rw [e0]
    simp only [dx, tap]
    ac_rfl

theorem v88_at (s : Fin 2) (R : Fin 4096) (j : Fin 5632) : val_main_v88 (F := Ideal) X W B G (ix3 s R j) = gradX X W B G (ix3 s R j) := by
  have e0 := v79_at X W B G H R (lo j)
  have e1 := v79_at X W B G H R (hi j)
  rw [grad_lo] at e0
  rw [grad_hi] at e1
  match s with
  | ⟨0, _⟩ =>
    pointwise [val_main_v88, val_main_v84, val_main_v83, val_main_v82, val_main_v81, val_main_v80]
    rw [e0]
    rfl
  | ⟨1, _⟩ =>
    pointwise [val_main_v88, val_main_v84, val_main_v83, val_main_v82, val_main_v81, val_main_v80]
    rw [e1]
    rfl

end Cert.RefGateIdeal.Taps
end
-- ==== Proof.GateRefW.lean ====
/- The gradient of the feed-forward gate as the reference states it, read at an index: the gradients at the taps and the bias. -/
module

public import proofs.«01_k».proof.Proof.GateRef

@[expose] public section

set_option maxRecDepth 16384

noncomputable section

namespace Cert.RefGateIdeal.Taps

open Cert.RefGateIdeal Cert.RefGateIdeal.Read Idealize.ShloMosaic Idealize.ShloMosaic.TcCoe Cert.Taps
open Cert.Conv hiding pre dx dw tap gradX gradW

variable (X : FVec Ideal S4096x11264 .bf16) (W : FVec Ideal S3x11264 .f32) (B : FVec Ideal S11264 .f32) (G : FVec Ideal S4096x5632 .bf16)

variable (H : Real4 X W B G)
include H

theorem v45_at (C : Fin 11264) : val_main_v45 (F := Ideal) X W B G (ix1 C) = (∑ t : Fin 2048, grad X W B G 0 C t) + ∑ t : Fin 2048, grad X W B G 1 C t := by
  pointwise [val_main_v45, sum01, val_main_v44, val_main_v43, v42_at X W B G H, val_main_cst_4, val_main_cst_5]
  simp only [Finset.univ_unique, Finset.sum_singleton, Fin.sum_univ_two]
  rfl

theorem v48_at (b : Fin 2) (t : Fin 2048) (C : Fin 11264) : val_main_v48 (F := Ideal) X W B G (ix3 b t C) = grad X W B G b C t * col X b C t := by
  rw [val_main_v48_apply, v42_at X W B G H, (past_at X b t C).2.2]
  rfl

theorem v57_at (b : Fin 2) (t : Fin 2048) (C : Fin 11264) : val_main_v57 (F := Ideal) X W B G (ix3 b t C) = grad X W B G b C t * past (col X b C) 1 t := by
  rw [val_main_v57_apply, v42_at X W B G H, (past_at X b t C).2.1]
  rfl

theorem v68_at (b : Fin 2) (t : Fin 2048) (C : Fin 11264) : val_main_v68 (F := Ideal) X W B G (ix3 b t C) = grad X W B G b C t * past (col X b C) 2 t := by
  rw [val_main_v68_apply, v42_at X W B G H, (past_at X b t C).1]
  rfl

theorem v51_at (C : Fin 11264) : val_main_v51 (F := Ideal) X W B G (ix1 C)
    = (∑ t : Fin 2048, grad X W B G 0 C t * col X 0 C t) + ∑ t : Fin 2048, grad X W B G 1 C t * col X 1 C t := by
  pointwise [val_main_v51, sum01, val_main_v50, val_main_v49, v48_at X W B G H, val_main_cst_6, val_main_cst_7]
  simp only [Finset.univ_unique, Finset.sum_singleton, Fin.sum_univ_two]
  rfl

theorem v60_at (C : Fin 11264) : val_main_v60 (F := Ideal) X W B G (ix1 C)
    = (∑ t : Fin 2048, grad X W B G 0 C t * past (col X 0 C) 1 t) + ∑ t : Fin 2048, grad X W B G 1 C t * past (col X 1 C) 1 t := by
  pointwise [val_main_v60, sum01, val_main_v59, val_main_v58, v57_at X W B G H, val_main_cst_10, val_main_cst_11]
  simp only [Finset.univ_unique, Finset.sum_singleton, Fin.sum_univ_two]
  rfl

theorem v71_at (C : Fin 11264) : val_main_v71 (F := Ideal) X W B G (ix1 C)
    = (∑ t : Fin 2048, grad X W B G 0 C t * past (col X 0 C) 2 t) + ∑ t : Fin 2048, grad X W B G 1 C t * past (col X 1 C) 2 t := by
  pointwise [val_main_v71, sum01, val_main_v70, val_main_v69, v68_at X W B G H, val_main_cst_14, val_main_cst_15]
  simp only [Finset.univ_unique, Finset.sum_singleton, Fin.sum_univ_two]
  rfl

theorem v87_at (R : Fin 8) (C : Fin 11264) : val_main_v87 (F := Ideal) X W B G (ix2 R C)
    = dw (grad X W B G 0 C) (col X 0 C) R + dw (grad X W B G 1 C) (col X 1 C) R := by
  pointwise [val_main_v87, val_main_v86, val_main_v85, val_main_v76, val_main_v75, val_main_v74, val_main_v65, val_main_v64, val_main_v63, val_main_v54, val_main_v53,
    v71_at X W B G H, v60_at X W B G H, v51_at X W B G H, v45_at X W B G H, val_main_cst_9, val_main_cst_13, val_main_cst_17, val_main_cst_18]
  simp only [sum_past _ _ 1 (by omega), sum_past _ _ 2 (by omega)]
  match R with
  | ⟨0, _⟩ => simp [dw]
  | ⟨1, _⟩ => simp [dw]
  | ⟨2, _⟩ => simp [dw, later_zero]
  | ⟨3, _⟩ => simp [dw]
  | ⟨n + 4, hn⟩ => simp [dw, show ¬ n + 4 < 3 by omega]

theorem v89_at (R : Fin 8) (j : Fin 5632) : val_main_v89 (F := Ideal) X W B G (ix2 R j) = gradWLo X W B G (ix2 R j) := by
  have e := v87_at X W B G H R (lo j)
  rw [grad_lo, grad_lo] at e
  pointwise [val_main_v89]
  exact e

theorem v90_at (R : Fin 8) (j : Fin 5632) : val_main_v90 (F := Ideal) X W B G (ix2 R j) = gradWHi X W B G (ix2 R j) := by
  have e := v87_at X W B G H R (hi j)
  rw [grad_hi, grad_hi] at e
  pointwise [val_main_v90]
  exact e

end Cert.RefGateIdeal.Taps
end
-- ==== Proof.GateClaim.lean ====
/- The value claim of the feed-forward gate's gradient: it pairs the two closed forms of `Proof/Taps.lean`. -/
module

public import proofs.«01_k».proof.Defs
public import proofs.«01_k».proof.Proof.Gen.GateIdeal
public import proofs.«01_k».proof.Proof.Gen.GateIdeal.Frame
public import proofs.«01_k».proof.Proof.Gen.GateIdeal.Value
public import proofs.«01_k».proof.Proof.Gen.RefGateIdeal.Run
public import proofs.«01_k».proof.Proof.Gen.RefGateIdeal.Read
public import proofs.«01_k».proof.Proof.Gen.RefGateIdeal
public import proofs.«01_k».proof.Proof.Gen.Pre_finite_gate
public import proofs.«01_k».proof.Proof.Finite
public import proofs.«01_k».proof.Proof.GateFinal
public import proofs.«01_k».proof.Proof.GateRefX
public import proofs.«01_k».proof.Proof.GateRefW
public import Idealize.ShloMosaic.Adequacy
public import Idealize.ShloMosaic.Init

@[expose] public section

noncomputable section

namespace Cert.GateIdeal.Claim

open Cert.GateIdeal Cert.GateIdeal.Gen Idealize.ShloMosaic Idealize.ShloMosaic.TcCoe Idealize.SL.Sem

/-- The host-only reference ends with its arguments unchanged and, having no semaphore, every counter at zero. -/
theorem frame_reference : @Cert.quiescent_RefGateIdeal Cert.RefGateIdeal.Gen.facts := fun m ρ _ =>
  (θ_run Cert.RefGateIdeal.defs _ _).mono (fun r h => ⟨fun c => (h c).2.2.2, sem_eq_zero_of_no_sems (by decide) r.2⟩)
    (Cert.RefGateIdeal.Value.run (F := Ideal) m ρ)

/-- The precondition, read: every entry of the four arguments is a real. -/
theorem reals (m : (ℓ : Loc nD τ sig) → Buf (Elt Ideal) ℓ) (h : @Cert.Pre_GateIdeal_finite_gate Cert.Pre_finite_gate.Gen.facts m) (c : Dev nD) :
    Cert.Taps.Real4 (m ((c : Thread nD τ).loc main_arg0)) (m ((c : Thread nD τ).loc main_arg1)) (m ((c : Thread nD τ).loc main_arg2)) (m ((c : Thread nD τ).loc main_arg3)) :=
  ⟨fun i => Cert.Finite.real_of_between (congrFun (h c).1 i), fun i => Cert.Finite.real_of_between (congrFun (h c).2.1 i),
    fun i => Cert.Finite.real_of_between (congrFun (h c).2.2.1 i), fun i => Cert.Finite.real_of_between (congrFun (h c).2.2.2 i)⟩

theorem algebraic : @Cert.algebraic_GateIdeal_RefGateIdeal_pre_finite_gate Cert.GateIdeal.Gen.facts Cert.RefGateIdeal.Gen.facts Cert.Pre_finite_gate.Gen.facts := by
  intro m g m' g' hpre hag
  refine ⟨fun c => Cert.Taps.gradX (m ((c : Thread nD τ).loc main_arg0)) (m ((c : Thread nD τ).loc main_arg1)) (m ((c : Thread nD τ).loc main_arg2)) (m ((c : Thread nD τ).loc main_arg3)), fun c => Cert.Taps.gradWLo (m ((c : Thread nD τ).loc main_arg0)) (m ((c : Thread nD τ).loc main_arg1)) (m ((c : Thread nD τ).loc main_arg2)) (m ((c : Thread nD τ).loc main_arg3)),
    fun c => Cert.Taps.gradWHi (m ((c : Thread nD τ).loc main_arg0)) (m ((c : Thread nD τ).loc main_arg1)) (m ((c : Thread nD τ).loc main_arg2)) (m ((c : Thread nD τ).loc main_arg3)),
    (θ_run defs _ _).mono (fun _ h c => ⟨(h c).1.trans (Taps.final6 m c), (h c).2.1.trans (Taps.final7 m c), (h c).2.2.1.trans (Taps.final8 m c), (h c).2.2.2⟩)
      (Value.run_blocks (F := Ideal) m g),
    (θ_run Cert.RefGateIdeal.defs _ _).mono (fun _ h c => ?_) (Cert.RefGateIdeal.Value.run (F := Ideal) m' g')⟩
  obtain ⟨e0, e1, e2, e3⟩ := hag c
  refine ⟨(h c).1.trans ?_, (h c).2.1.trans ?_, (h c).2.2.1.trans ?_, (h c).2.2.2⟩
  · rw [Cert.RefGateIdeal.Read.val_main_v88_eq]
    change Cert.RefGateIdeal.Read.val_main_v88 (F := Ideal) (m' ((c : Thread Cert.RefGateIdeal.nD Cert.RefGateIdeal.τ).loc Cert.RefGateIdeal.main_arg0)) (m' ((c : Thread Cert.RefGateIdeal.nD Cert.RefGateIdeal.τ).loc Cert.RefGateIdeal.main_arg1)) (m' ((c : Thread Cert.RefGateIdeal.nD Cert.RefGateIdeal.τ).loc Cert.RefGateIdeal.main_arg2)) (m' ((c : Thread Cert.RefGateIdeal.nD Cert.RefGateIdeal.τ).loc Cert.RefGateIdeal.main_arg3)) = _
    rw [e0, e1, e2, e3]
    funext i
    exact (congrArg _ (eq_ix3 i)).trans (Cert.RefGateIdeal.Taps.v88_at _ _ _ _ (reals m hpre c) (i 0) (i 1) (i 2))
  · rw [Cert.RefGateIdeal.Read.val_main_v89_eq]
    change Cert.RefGateIdeal.Read.val_main_v89 (F := Ideal) (m' ((c : Thread Cert.RefGateIdeal.nD Cert.RefGateIdeal.τ).loc Cert.RefGateIdeal.main_arg0)) (m' ((c : Thread Cert.RefGateIdeal.nD Cert.RefGateIdeal.τ).loc Cert.RefGateIdeal.main_arg1)) (m' ((c : Thread Cert.RefGateIdeal.nD Cert.RefGateIdeal.τ).loc Cert.RefGateIdeal.main_arg2)) (m' ((c : Thread Cert.RefGateIdeal.nD Cert.RefGateIdeal.τ).loc Cert.RefGateIdeal.main_arg3)) = _
    rw [e0, e1, e2, e3]
    funext i
    exact (congrArg _ (eq_ix2 i)).trans (Cert.RefGateIdeal.Taps.v89_at _ _ _ _ (reals m hpre c) (i 0) (i 1))
  · rw [Cert.RefGateIdeal.Read.val_main_v90_eq]
    change Cert.RefGateIdeal.Read.val_main_v90 (F := Ideal) (m' ((c : Thread Cert.RefGateIdeal.nD Cert.RefGateIdeal.τ).loc Cert.RefGateIdeal.main_arg0)) (m' ((c : Thread Cert.RefGateIdeal.nD Cert.RefGateIdeal.τ).loc Cert.RefGateIdeal.main_arg1)) (m' ((c : Thread Cert.RefGateIdeal.nD Cert.RefGateIdeal.τ).loc Cert.RefGateIdeal.main_arg2)) (m' ((c : Thread Cert.RefGateIdeal.nD Cert.RefGateIdeal.τ).loc Cert.RefGateIdeal.main_arg3)) = _
    rw [e0, e1, e2, e3]
    funext i
    exact (congrArg _ (eq_ix2 i)).trans (Cert.RefGateIdeal.Taps.v90_at _ _ _ _ (reals m hpre c) (i 0) (i 1))

end Cert.GateIdeal.Claim

end
-- ==== Proof.RmsNorm.lean ====
/- The gradient of a root-mean-square norm of one row, as a function of the row: stated once for the layers' norm and for the
   grouped norm of the gate. -/
module

public import Idealize.ShloMosaic.PureOps.Ideal
public import Idealize.ShloMosaic.PureOps.Ideal.Laws
public import Mathlib.Tactic.FieldSimp
public import Mathlib.Tactic.Ring
public import Mathlib.Tactic.Positivity

@[expose] public section

noncomputable section

namespace Cert.RmsNorm

open Idealize.ShloMosaic

/-- The mean square of the row `u` of `n` entries, plus the norm's epsilon. -/
def meanSq {n : ℕ} (N : EReal) (u : Fin n → EReal) : EReal := Ideal.div (∑ k, u k * u k) N + Ideal.ofBits .f32 0x3727C5AC#32

/-- The factor by which the row is scaled. -/
def scale {n : ℕ} (N : EReal) (u : Fin n → EReal) : EReal := Ideal.rsqrt (meanSq N u)

/-- What the row's own entries contribute through the mean square, where `g` is the gradient at the scaled row: this times the entry, twice. -/
def through {n : ℕ} (N : EReal) (u g : Fin n → EReal) : EReal :=
  ∑ _ : Fin 1, Ideal.div ((∑ k, u k * g k) * (Ideal.ofBits .f32 0xBF000000#32 * Ideal.div (scale N u) (meanSq N u))) N

/-- The gradient at entry `q` of the row. -/
def back {n : ℕ} (N : EReal) (u g : Fin n → EReal) (q : Fin n) : EReal :=
  g q * scale N u + u q * through N u g + through N u g * u q

/-- The same gradient with the norm taken out first: the gradient less its part along the scaled row, then scaled. -/
def projected {n : ℕ} (N : EReal) (u g : Fin n → EReal) (q : Fin n) : EReal :=
  scale N u * (g q - u q * scale N u * Ideal.div (∑ k, g k * (u k * scale N u)) N)

theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem eps_real : ∃ e : ℝ, 0 < e ∧ Ideal.ofBits .f32 0x3727C5AC#32 = (e : EReal) := by
  refine ⟨_, ?_, by simp [Ideal.ofBits, Ideal.ieee]; rfl⟩
  positivity

theorem half_real : Ideal.ofBits .f32 0xBF000000#32 = ((-(1 / 2) : ℝ) : EReal) := by
  simp [Ideal.ofBits, Ideal.ieee]
  norm_num
  rw [← EReal.coe_mul]
  norm_num

/-- A sum of products with one factor that is real and not negative: the factor comes out, whatever the other entries. -/
theorem sum_mul_coe {n : ℕ} (f : Fin n → EReal) {r : ℝ} (hr : 0 ≤ r) : ∑ k, f k * (r : EReal) = (∑ k, f k) * (r : EReal) := by
  induction n with
  | zero => simp
  | succ n ih =>
    rw [Fin.sum_univ_succ, Fin.sum_univ_succ, ih,
      EReal.right_distrib_of_nonneg_of_ne_top (EReal.coe_nonneg.mpr hr) (EReal.coe_ne_top r)]

theorem add_self (x : EReal) : x + x = x * ((2 : ℝ) : EReal) := by
  induction x with
  | bot => rw [EReal.bot_mul_coe_of_pos (by norm_num)]; rfl
  | coe x => rw [← EReal.coe_add, ← EReal.coe_mul, mul_two]
  | top => rw [EReal.top_mul_coe_of_pos (by norm_num)]; rfl

/-- The square of an infinity is plus infinity, and so is a sum of squares that has it. -/
theorem sum_sq_top {n : ℕ} {u : Fin n → EReal} {k : Fin n} (h : u k = ⊤ ∨ u k = ⊥) : ∑ k, u k * u k = ⊤ := by
  have hs : ∀ x : EReal, 0 ≤ x * x := fun x => by
    rcases le_total 0 x with h | h
    · exact mul_nonneg h h
    · rw [← neg_mul_neg]; exact mul_nonneg (EReal.neg_nonneg.mpr h) (EReal.neg_nonneg.mpr h)
  have h1 : u k * u k = ⊤ := by rcases h with h | h <;> rw [h] <;> rfl
  exact top_le_iff.mp (h1 ▸ Finset.single_le_sum (f := fun k => u k * u k) (fun i _ => hs (u i)) (Finset.mem_univ k))

/-- The two forms of the gradient are equal. Where the row is real, the scale's square is the mean square's inverse; where it has an
    infinity, the scale is zero and so are both forms. -/
theorem projected_eq {n : ℕ} (d : ℝ) (hd : 0 < d) (u g : Fin n → EReal) (q : Fin n) : projected (d : EReal) u g q = back (d : EReal) u g q := by
  obtain ⟨e, he, hε⟩ := eps_real
  by_cases hu : ∀ k, ∃ r : ℝ, u k = (r : EReal)
  · choose x hx using hu
    have hm : meanSq (d : EReal) u = (((∑ k, x k * x k) / d + e : ℝ) : EReal) := by
      unfold meanSq
      rw [hε, Ideal.div_coe hd.ne']
      simp only [hx, ← EReal.coe_mul, sum_coe, ← EReal.coe_add]
      congr 1
      ring
    have hp : 0 < (∑ k, x k * x k) / d + e := by
      have : 0 ≤ ∑ k, x k * x k := Finset.sum_nonneg fun k _ => mul_self_nonneg _
      positivity
    set μ : ℝ := (∑ k, x k * x k) / d + e with hμ
    have hs : scale (d : EReal) u = (((Real.sqrt μ)⁻¹ : ℝ) : EReal) := by
      rw [scale, hm, Ideal.rsqrt_coe, if_neg (not_lt.mpr hp.le), if_neg hp.ne']
    have hr0 : 0 ≤ (Real.sqrt μ)⁻¹ := inv_nonneg.mpr (Real.sqrt_nonneg _)
    set r : ℝ := (Real.sqrt μ)⁻¹ with hr
    have hrr : r * (1 / μ) = r * r * r := by
      have h : (1 : ℝ) / μ = r * r := by rw [hr, ← mul_inv, Real.mul_self_sqrt hp.le, one_div]
      rw [h, mul_assoc]
    have hS : ∑ k, g k * (u k * (r : EReal)) = (∑ k, u k * g k) * (r : EReal) := by
      rw [← sum_mul_coe _ hr0]
      exact Finset.sum_congr rfl fun k _ => by rw [← mul_assoc, mul_comm (g k)]
    unfold projected back through
    rw [hs, hm, half_real, Ideal.div_coe hd.ne', Fin.sum_univ_one, Ideal.div_coe hd.ne', Ideal.div_coe hp.ne', hS, hx q]
    generalize ∑ k, u k * g k = S
    have hB : (x q : EReal) * (S * (((-(1 / 2) : ℝ) : EReal) * ((r : EReal) * ((1 / μ : ℝ) : EReal))) * ((1 / d : ℝ) : EReal))
        = S * ((x q * (-(1 / 2) * (r * r * r)) * (1 / d) : ℝ) : EReal) := by
      rw [← EReal.coe_mul, hrr, ← EReal.coe_mul, mul_assoc, ← EReal.coe_mul, mul_left_comm, ← EReal.coe_mul, mul_assoc (x q)]
    rw [mul_comm _ (x q : EReal), hB, add_assoc, add_self, mul_assoc S, ← EReal.coe_mul, mul_comm (g q),
      EReal.mul_sub_of_nonneg_of_ne_top (EReal.coe_nonneg.mpr hr0) (EReal.coe_ne_top r), sub_eq_add_neg]
    congr 1
    rw [← EReal.coe_mul, mul_assoc S, ← EReal.coe_mul, mul_left_comm (r : EReal) ((x q * r : ℝ) : EReal), mul_left_comm (r : EReal) S, ← EReal.coe_mul, mul_left_comm _ S,
      ← EReal.coe_mul, ← mul_neg, ← EReal.coe_neg]
    congr 2
    ring
  · push Not at hu
    obtain ⟨k, hk⟩ := hu
    have hk' : u k = ⊤ ∨ u k = ⊥ := by
      generalize u k = y at hk ⊢
      induction y with
      | bot => exact .inr rfl
      | coe y => exact absurd rfl (hk y)
      | top => exact .inl rfl
    have hm : meanSq (d : EReal) u = ⊤ := by
      rw [meanSq, sum_sq_top hk', Ideal.div_coe hd.ne', EReal.top_mul_coe_of_pos (by positivity), hε]
      rfl
    have hs : scale (d : EReal) u = 0 := by rw [scale, hm, Ideal.rsqrt_top]
    have ht : through (d : EReal) u g = 0 := by
      rw [through, hs, hm, Fin.sum_univ_one, Ideal.div_coe hd.ne', Ideal.div, if_neg (by simp)]
      simp
    rw [projected, back, hs, ht]
    simp

end Cert.RmsNorm
end
-- ==== Proof.Mgate.lean ====
/- The gradient of the gated grouped norm behind the state-space scan: the value claim. -/
module

public import proofs.«01_k».proof.Defs
public import proofs.«01_k».proof.Proof.Gen.MgateIdeal
public import proofs.«01_k».proof.Proof.Gen.MgateIdeal.Value
public import proofs.«01_k».proof.Proof.Gen.RefMgateIdeal
public import proofs.«01_k».proof.Proof.Gen.RefMgateIdeal.Run
public import proofs.«01_k».proof.Proof.Gen.RefMgateIdeal.Read
public import proofs.«01_k».proof.Proof.RmsNorm
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

namespace Cert.MgateIdeal.Gate

open Cert.MgateIdeal Cert.MgateIdeal.Gen Idealize.ShloMosaic Idealize.ShloMosaic.TcCoe Cert.RmsNorm
open Idealize.ShloMosaic.Pipeline (Dat)
open Idealize.SL.Sem

/-! ## The gradients as functions of the arguments -/

/-- The number of columns of a group. -/
abbrev width : EReal := Ideal.ofBits .f32 0x44000000#32

/-- The gate's factor. -/
abbrev silu (z : EReal) : EReal := z * Ideal.logistic z

/-- The gradient at `z` of the product `y · silu z`, whose own gradient is `d`. -/
abbrev atGate (y z d : EReal) : EReal := y * d * Ideal.logistic z + z * (y * d) * (Ideal.logistic z * (1 - Ideal.logistic z))

/-- Column `k` of group `G`. -/
abbrev col (G : Fin 8) (k : Fin 512) : Fin 4096 := ⟨G.val * 512 + k.val, by omega⟩

section
variable (y z : FVec Ideal S4096x4096 .f32) (w : FVec Ideal S4096 .f32) (g : FVec Ideal S4096x4096 .bf16)

/-- Row `r` of group `G` of the gated rows. -/
def gated (r : Fin 4096) (G : Fin 8) : Fin 512 → EReal := fun k => y (ix2 r (col G k)) * silu (z (ix2 r (col G k)))

/-- The gradient at the normed row. -/
def weighted (r : Fin 4096) (G : Fin 8) : Fin 512 → EReal := fun k => g (ix2 r (col G k)) * w (ix1 (col G k))

/-- The gradient at the gated row. -/
def atGated (r C : Fin 4096) : EReal :=
  back width (gated y z r ⟨C.val / 512, by omega⟩) (weighted w g r ⟨C.val / 512, by omega⟩) ⟨C.val % 512, by omega⟩

/-- Row `r`'s summand of the gradient at the weight of column `C`. -/
def weightTerm (r C : Fin 4096) : EReal :=
  gated y z r ⟨C.val / 512, by omega⟩ ⟨C.val % 512, by omega⟩ * scale width (gated y z r ⟨C.val / 512, by omega⟩) * g (ix2 r C)

def gradY : FVec Ideal S4096x4096 .f32 := fun i => atGated y z w g (i 0) (i 1) * silu (z i)
def gradZ : FVec Ideal S4096x4096 .bf16 := fun i => atGate (y i) (z i) (atGated y z w g (i 0) (i 1))
def gradW : FVec Ideal S1x4096 .f32 := fun i =>
  ∑ r : Fin 4096, weightTerm y z g r (i 1)
end

/-! ## One block -/

section
variable (y z : FVec Ideal S512x512 .f32) (w : FVec Ideal S1x512 .f32) (g : FVec Ideal S512x512 .bf16)

abbrev gatedB (r : Fin 512) : Fin 512 → EReal := fun k => y (ix2 r k) * silu (z (ix2 r k))
abbrev weightedB (r : Fin 512) : Fin 512 → EReal := fun k => g (ix2 r k) * w (ix2 0 k)

/-- The block's summand of the gradient at the norm's weight. -/
abbrev partW (j : S1x512.Idx) : EReal := ∑ r : Fin 512, gatedB y z r (j 1) * scale width (gatedB y z r) * g (ix2 r (j 1))

theorem pay1_at (r q : Fin 512) : k0_pay1 (F := Ideal) (k0_pay9 y z) (k0_pay15 y z w g) (k0_pay16 y z w g) (ix2 r q)
    = back width (gatedB y z r) (weightedB w g r) q := by
  pointwise [k0_pay1, k0_pay6, k0_pay8, k0_pay9, k0_pay10, k0_pay11, k0_pay12, k0_pay14, k0_pay15, k0_pay16, back, through, scale, meanSq]

theorem pay2_at (r q : Fin 512) : k0_pay2 (F := Ideal) (k0_pay8 z) (k0_pay9 y z) (k0_pay15 y z w g) (k0_pay16 y z w g) (ix2 r q)
    = back width (gatedB y z r) (weightedB w g r) q * silu (z (ix2 r q)) := by
  pointwise [k0_pay2, k0_pay6, k0_pay8, pay1_at]

theorem pay3_at (r q : Fin 512) : k0_pay3 (F := Ideal) y z (k0_pay6 z) (k0_pay7 z) (k0_pay9 y z) (k0_pay15 y z w g) (k0_pay16 y z w g) (ix2 r q)
    = atGate (y (ix2 r q)) (z (ix2 r q)) (back width (gatedB y z r) (weightedB w g r) q) := by
  pointwise [k0_pay3, k0_pay6, k0_pay7, pay1_at]

theorem pay13_at (j : S1x512.Idx) : k0_pay13 (F := Ideal) y z g j = partW y z g j := by
  pointwise [k0_pay13, k0_pay6, k0_pay8, k0_pay9, k0_pay10, k0_pay11, k0_pay12, scale, meanSq]
  rfl

theorem pay5_at (a b : FVec Ideal S1x512 .f32) (j : S1x512.Idx) : k0_pay5 (F := Ideal) a b j = b j + a j := by pointwise [k0_pay5]
theorem pay4_at (j : S1x512.Idx) : k0_pay4 (F := Ideal) j = 0 := by pointwise [k0_pay4]
end

/-! ## The grid -/

variable (m : (ℓ : Loc nD τ sig) → Buf (Elt Ideal) ℓ)

/-- Point `t` reads and writes the block of rows `t % 8` of group `t / 8`. -/
theorem idx : ∀ t : Fin cfg0.N, win0_0.index t = ![t.val % 8, t.val / 8] ∧ win0_1.index t = ![t.val % 8, t.val / 8] ∧ win0_2.index t = ![0, t.val / 8]
    ∧ win0_3.index t = ![t.val % 8, t.val / 8] ∧ win0_4.index t = ![t.val % 8, t.val / 8] ∧ win0_5.index t = ![t.val % 8, t.val / 8] ∧ win0_6.index t = ![0, t.val / 8] :=
  (by decide +kernel : ∀ t : Fin grid0.N, _)

theorem first (c : Dev nD) (t : Fin cfg0.N) (h : t.val % 8 = 0) (j : S1x512.Idx) :
    (outsAt0 m c t.val t.isLt).2.2 j = (fun _ => (0 : EReal)) j + partW (iblk m c 0 t) (iblk m c 1 t) (iblk m c 3 t) j := by
  rw [outsAt0_A m c t h]
  frame_open
  simp (disch := decide) only [↓ View.readCov_skip, ↓ View.readCov_cons_toLoadRect, ↓ View.readCov_fill]
  frame_out
  rw [pay5_at, pay13_at, pay4_at]

theorem next (c : Dev nD) (t : Fin cfg0.N) (h : ¬ t.val % 8 = 0) (j : S1x512.Idx) :
    (outsAt0 m c t.val t.isLt).2.2 j = (outsAt0 m c (t.val - 1) (Nat.lt_of_le_of_lt (Nat.sub_le _ _) t.isLt)).2.2 j + partW (iblk m c 0 t) (iblk m c 1 t) (iblk m c 3 t) j := by
  rw [outsAt0_B m c t h]
  frame_out
  rw [pay5_at, pay13_at]

theorem out_y (c : Dev nD) (t : Fin cfg0.N) (r q : Fin 512) : (outsAt0 m c t.val t.isLt).1 (ix2 r q)
    = back width (gatedB (iblk m c 0 t) (iblk m c 1 t) r) (weightedB (iblk m c 2 t) (iblk m c 3 t) r) q * silu ((iblk m c 1 t : FVec Ideal S512x512 .f32) (ix2 r q)) := by
  by_cases h : t.val % 8 = 0
  · rw [outsAt0_A m c t h]
    frame_out
    exact pay2_at _ _ _ _ r q
  · rw [outsAt0_B m c t h]
    frame_out
    exact pay2_at _ _ _ _ r q

theorem out_z (c : Dev nD) (t : Fin cfg0.N) (r q : Fin 512) : (outsAt0 m c t.val t.isLt).2.1 (ix2 r q)
    = atGate ((iblk m c 0 t : FVec Ideal S512x512 .f32) (ix2 r q)) ((iblk m c 1 t : FVec Ideal S512x512 .f32) (ix2 r q))
        (back width (gatedB (iblk m c 0 t) (iblk m c 1 t) r) (weightedB (iblk m c 2 t) (iblk m c 3 t) r) q) := by
  by_cases h : t.val % 8 = 0
  · rw [outsAt0_A m c t h]
    frame_out
    exact pay3_at _ _ _ _ r q
  · rw [outsAt0_B m c t h]
    frame_out
    exact pay3_at _ _ _ _ r q

/-! ## The blocks are blocks of the arguments -/

section
variable (c : Dev nD) (t : Fin cfg0.N) (r q : Fin 512) (R : Fin 4096) (G : Fin 8) (hR : R.val = t.val % 8 * 512 + r.val) (hG : G.val = t.val / 8)
include hR hG

theorem blk_y : (iblk m c 0 t : FVec Ideal S512x512 .f32) (ix2 r q) = m ((c : Thread nD τ).loc main_arg0) (ix2 R (col G q)) := by
  blk_point [iblk, V, idx t]

theorem blk_z : (iblk m c 1 t : FVec Ideal S512x512 .f32) (ix2 r q) = m ((c : Thread nD τ).loc main_arg1) (ix2 R (col G q)) := by
  blk_point [iblk, V, idx t]

theorem blk_g : (iblk m c 3 t : FVec Ideal S512x512 .bf16) (ix2 r q) = m ((c : Thread nD τ).loc main_arg3) (ix2 R (col G q)) := by
  blk_point [iblk, V, idx t]

omit hR in
theorem blk_w : (iblk m c 2 t : FVec Ideal S1x512 .f32) (ix2 0 q) = m ((c : Thread nD τ).loc main_arg2) (ix1 (col G q)) := by
  blk_point [iblk, V, idx t]

theorem gated_eq : gatedB (iblk m c 0 t) (iblk m c 1 t) r = gated (m ((c : Thread nD τ).loc main_arg0)) (m ((c : Thread nD τ).loc main_arg1)) R G := by
  funext k
  rw [gated, ← blk_y m c t r k R G hR hG, ← blk_z m c t r k R G hR hG]

theorem weighted_eq : weightedB (iblk m c 2 t) (iblk m c 3 t) r = weighted (m ((c : Thread nD τ).loc main_arg2)) (m ((c : Thread nD τ).loc main_arg3)) R G := by
  funext k
  rw [weighted, ← blk_w m c t k G hG, ← blk_g m c t r k R G hR hG]

theorem term_eq : gatedB (iblk m c 0 t) (iblk m c 1 t) r q * scale width (gatedB (iblk m c 0 t) (iblk m c 1 t) r) * (iblk m c 3 t : FVec Ideal S512x512 .bf16) (ix2 r q)
    = weightTerm (m ((c : Thread nD τ).loc main_arg0)) (m ((c : Thread nD τ).loc main_arg1)) (m ((c : Thread nD τ).loc main_arg3)) R (col G q) := by
  have e1 : (⟨(col G q).val / 512, by omega⟩ : Fin 8) = G := Fin.ext (by show (G.val * 512 + q.val) / 512 = G.val; omega)
  have e2 : (⟨(col G q).val % 512, by omega⟩ : Fin 512) = q := Fin.ext (by show (G.val * 512 + q.val) % 512 = q.val; omega)
  rw [weightTerm, e1, e2, gated_eq m c t r R G hR hG, blk_g m c t r q R G hR hG]

theorem atGated_eq : back width (gatedB (iblk m c 0 t) (iblk m c 1 t) r) (weightedB (iblk m c 2 t) (iblk m c 3 t) r) q
    = atGated (m ((c : Thread nD τ).loc main_arg0)) (m ((c : Thread nD τ).loc main_arg1)) (m ((c : Thread nD τ).loc main_arg2)) (m ((c : Thread nD τ).loc main_arg3)) R (col G q) := by
  have e1 : (⟨(col G q).val / 512, by omega⟩ : Fin 8) = G := Fin.ext (by show (G.val * 512 + q.val) / 512 = G.val; omega)
  have e2 : (⟨(col G q).val % 512, by omega⟩ : Fin 512) = q := Fin.ext (by show (G.val * 512 + q.val) % 512 = q.val; omega)
  rw [atGated, e1, e2, gated_eq m c t r R G hR hG, weighted_eq m c t r R G hR hG]
end

theorem final_y (c : Dev nD) : (dats m 0 c).arrAt 4 cfg0.N
    = gradY (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 64 := lt_of_lt_of_eq t.isLt N_0
  blk_simp
  rw [after0_4]
  idx_vars y
  have e : ((View.whole main_v1_0).slice (win0_4.rect t)).emb (ix2 y0 y1) = ix2 ⟨t.val % 8 * 512 + y0.val, by omega⟩ (col ⟨t.val / 8, by omega⟩ y1) := by
    blk_ext [idx t]
  rw [e]
  refine (out_y m c t y0 y1).trans ?_
  rw [atGated_eq m c t y0 y1 ⟨t.val % 8 * 512 + y0.val, by omega⟩ ⟨t.val / 8, by omega⟩ rfl rfl, blk_z m c t y0 y1 ⟨t.val % 8 * 512 + y0.val, by omega⟩ ⟨t.val / 8, by omega⟩ rfl rfl]
  rfl

theorem final_z (c : Dev nD) : (dats m 0 c).arrAt 5 cfg0.N
    = gradZ (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 64 := lt_of_lt_of_eq t.isLt N_0
  blk_simp
  rw [after0_5]
  idx_vars y
  have e : ((View.whole main_v1_1).slice (win0_5.rect t)).emb (ix2 y0 y1) = ix2 ⟨t.val % 8 * 512 + y0.val, by omega⟩ (col ⟨t.val / 8, by omega⟩ y1) := by
    blk_ext [idx t]
  rw [e]
  refine (out_z m c t y0 y1).trans ?_
  rw [atGated_eq m c t y0 y1 ⟨t.val % 8 * 512 + y0.val, by omega⟩ ⟨t.val / 8, by omega⟩ rfl rfl, blk_z m c t y0 y1 ⟨t.val % 8 * 512 + y0.val, by omega⟩ ⟨t.val / 8, by omega⟩ rfl rfl,
    blk_y m c t y0 y1 ⟨t.val % 8 * 512 + y0.val, by omega⟩ ⟨t.val / 8, by omega⟩ rfl rfl]
  rfl

theorem final_w (c : Dev nD) : (dats m 0 c).arrAt 6 cfg0.N
    = gradW (m ((c : Thread nD τ).loc main_arg0)) (m ((c : Thread nD τ).loc main_arg1)) (m ((c : Thread nD τ).loc main_arg3)) := by
  refine (dats m 0 c).arrAt_eq_of_covers 6 _ (by decide +kernel) fun t hf y => ?_
  have ht : t.val < 64 := lt_of_lt_of_eq t.isLt N_0
  have h7 := (flush0_6 t).mp hf
  blk_simp
  rw [after0_6]
  idx_vars y
  have e : ((View.whole main_v1_2).slice (win0_6.rect t)).emb (ix2 y0 y1) = ix2 0 (col ⟨t.val / 8, by omega⟩ y1) := by
    blk_ext [idx t]
  rw [e, Pipeline.eq_sum_fin_of_reset_step_apply_of_flush (fun n h => (outsAt0 m c n h).2.2) 8 (fun _ => 0) _ (first m c) (next m c) t h7 _, zero_add]
  refine Fin.sum_mul_add_congr fun s k hl => ?_
  exact term_eq m c ⟨_, Pipeline.run_point_lt_of_flush t h7 s⟩ k y1 ⟨_, hl⟩ ⟨t.val / 8, by omega⟩ (by show s.val * 512 + k.val = (8 * (t.val / 8) + s.val) % 8 * 512 + k.val; omega) (by show t.val / 8 = (8 * (t.val / 8) + s.val) / 8; omega)

/-! ## The reference -/

section
open Cert.RefMgateIdeal.Read
variable (y z : FVec Ideal S4096x4096 .f32) (w : FVec Ideal S4096 .f32) (g : FVec Ideal S4096x4096 .bf16)

theorem ref_logistic (i) : val_main_v0_2 (F := Ideal) z i = Ideal.logistic (z i) := by
  pointwise [val_main_v0_2, val_main_call0_v0, val_main_call0_v1, val_main_call0_cst, val_main_call0_v2, val_main_call0_v3, val_main_call0_cst_0, val_main_call0_v4, Ideal.logistic]

theorem ref_silu (i) : val_main_v0_0 (F := Ideal) z i = silu (z i) := by pointwise [val_main_v0_0, ref_logistic]

theorem ref_dlogistic (i) : val_main_v0_1 (F := Ideal) z i = Ideal.logistic (z i) * (1 - Ideal.logistic (z i)) := by
  pointwise [val_main_v0_1, val_main_call0_cst_1, val_main_call0_v6, val_main_call0_v7, ref_logistic]

theorem ref_gated (r : Fin 4096) (G : Fin 8) (k : Fin 512) : val_main_v2 (F := Ideal) y z (ix3 r G k) = gated y z r G k := by
  pointwise [val_main_v2, val_main_v1, ref_silu, gated]

theorem ref_weighted (r : Fin 4096) (G : Fin 8) (k : Fin 512) : val_main_v27 (F := Ideal) w g (ix3 r G k) = weighted w g r G k := by
  pointwise [val_main_v27, val_main_v25, val_main_v24, val_main_v20, val_main_v17, weighted]

theorem ref_meanSq (r : Fin 4096) (G : Fin 8) (l : Fin 1) : val_main_v9 (F := Ideal) y z (ix3 r G l) = meanSq width (gated y z r G) := by
  pointwise [val_main_v9, val_main_v8, val_main_v7, val_main_v6, val_main_v5, val_main_v4, val_main_v3, val_main_cst, val_main_cst_0, val_main_cst_1, ref_gated, meanSq]

theorem ref_back (r : Fin 4096) (G : Fin 8) (k : Fin 512) : val_main_v41 (F := Ideal) y z w g (ix3 r G k) = back width (gated y z r G) (weighted w g r G) k := by
  pointwise [val_main_v41, val_main_v40, val_main_v39, val_main_v38, val_main_v37, val_main_v36, val_main_v35, val_main_v34, val_main_v33, val_main_v32, val_main_v31,
    val_main_v30, val_main_v29, val_main_v28, val_main_v14, val_main_v13, val_main_v12, val_main_v11, val_main_v10, val_main_cst_2, val_main_cst_5, val_main_cst_6,
    val_main_cst_7, ref_gated, ref_weighted, ref_meanSq, back, through, scale]

theorem ref_y : val_main_v44 (F := Ideal) y z w g = gradY y z w g := by
  funext i
  pointwise [val_main_v44, val_main_v42, ref_back, ref_silu, gradY, atGated]

theorem ref_z : val_main_v46 (F := Ideal) y z w g = gradZ y z w g := by
  funext i
  pointwise [val_main_v46, val_main_v45, val_main_call1_v2, val_main_call1_v1, val_main_call1_v0, val_main_v43, val_main_v42, ref_back, ref_logistic, ref_dlogistic, gradZ, atGated]

theorem ref_w : val_main_v47 (F := Ideal) y z g = gradW y z g := by
  funext i
  pointwise [val_main_v47, val_main_v26, val_main_v23, val_main_v22, val_main_v21, val_main_v16, val_main_v15, val_main_v14, val_main_v10, val_main_v20, val_main_cst_3, val_main_cst_4, ref_gated, ref_meanSq, gradW, weightTerm, scale]
  exact Fin.sum_univ_one _
end

/-- The host-only reference ends with its arguments unchanged and, having no semaphore, every counter at zero. -/
theorem frame_reference : @Cert.quiescent_RefMgateIdeal Cert.RefMgateIdeal.Gen.facts := fun m ρ _ =>
  (θ_run Cert.RefMgateIdeal.defs _ _).mono (fun r h => ⟨fun c => (h c).2.2.2, sem_eq_zero_of_no_sems (by decide) r.2⟩)
    (Cert.RefMgateIdeal.Value.run (F := Ideal) m ρ)

theorem algebraic : @Cert.algebraic_MgateIdeal_RefMgateIdeal Cert.MgateIdeal.Gen.facts Cert.RefMgateIdeal.Gen.facts := by
  intro m g m' g' _ hag
  refine ⟨fun c => gradY (m ((c : Thread nD τ).loc main_arg0)) (m ((c : Thread nD τ).loc main_arg1)) (m ((c : Thread nD τ).loc main_arg2)) (m ((c : Thread nD τ).loc main_arg3)),
    fun c => gradZ (m ((c : Thread nD τ).loc main_arg0)) (m ((c : Thread nD τ).loc main_arg1)) (m ((c : Thread nD τ).loc main_arg2)) (m ((c : Thread nD τ).loc main_arg3)),
    fun c => gradW (m ((c : Thread nD τ).loc main_arg0)) (m ((c : Thread nD τ).loc main_arg1)) (m ((c : Thread nD τ).loc main_arg3)),
    (θ_run defs _ _).mono (fun _ h c => ⟨(h c).1.trans (final_y m c), (h c).2.1.trans (final_z m c), (h c).2.2.1.trans (final_w m c), (h c).2.2.2⟩) (Value.run_blocks (F := Ideal) m g),
    (θ_run Cert.RefMgateIdeal.defs _ _).mono (fun _ h c => ?_) (Cert.RefMgateIdeal.Value.run (F := Ideal) m' g')⟩
  obtain ⟨e0, e1, e2, e3⟩ := hag c
  refine ⟨(h c).1.trans ?_, (h c).2.1.trans ?_, (h c).2.2.1.trans ?_, (h c).2.2.2⟩
  · rw [Cert.RefMgateIdeal.Read.val_main_v44_eq, e0, e1, e2, e3]
    exact ref_y _ _ _ _
  · rw [Cert.RefMgateIdeal.Read.val_main_v46_eq, e0, e1, e2, e3]
    exact ref_z _ _ _ _
  · rw [Cert.RefMgateIdeal.Read.val_main_v47_eq, e0, e1, e3]
    exact ref_w _ _ _

end Cert.MgateIdeal.Gate
end
-- ==== Proof.Rms.lean ====
/- The gradient of the layers' root-mean-square norm: the value claim. -/
module

public import proofs.«01_k».proof.Defs
public import proofs.«01_k».proof.Proof.Gen.RmsIdeal
public import proofs.«01_k».proof.Proof.Gen.RmsIdeal.Value
public import proofs.«01_k».proof.Proof.Gen.RefRmsIdeal
public import proofs.«01_k».proof.Proof.Gen.RefRmsIdeal.Run
public import proofs.«01_k».proof.Proof.Gen.RefRmsIdeal.Read
public import proofs.«01_k».proof.Proof.RmsNorm
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

namespace Cert.RmsIdeal.Norm

open Cert.RmsIdeal Cert.RmsIdeal.Gen Idealize.ShloMosaic Idealize.ShloMosaic.TcCoe Cert.RmsNorm
open Idealize.ShloMosaic.Pipeline (Dat)
open Idealize.SL.Sem

/-- The number of columns. -/
abbrev width : EReal := Ideal.ofBits .f32 0x45000000#32

theorem width_real : width = ((2048 : ℝ) : EReal) := by
  unfold width
  simp [Ideal.ofBits, Ideal.ieee]
  rw [← EReal.coe_mul]
  norm_num

section
variable (x : FVec Ideal S4096x2048 .f32) (w : FVec Ideal S2048 .f32) (g d : FVec Ideal S4096x2048 .f32)

abbrev row (r : Fin 4096) : Fin 2048 → EReal := fun k => x (ix2 r k)
abbrev weighted (r : Fin 4096) : Fin 2048 → EReal := fun k => g (ix2 r k) * w (ix1 k)

/-- The gradient at the norm's argument, added to what came round the block. -/
def gradX : FVec Ideal S4096x2048 .f32 := fun i => d i + projected width (row x (i 0)) (weighted w g (i 0)) (i 1)
/-- Row `r`'s summand of the gradient at the weight of column `q`. -/
abbrev term (r : Fin 4096) (q : Fin 2048) : EReal := g (ix2 r q) * (x (ix2 r q) * scale width (row x r))
/-- The gradient at the norm's weight. -/
def gradW : FVec Ideal S1x2048 .f32 := fun i => ∑ r : Fin 4096, term x g r (i 1)
end

/-! ## One block -/

section
variable (x : FVec Ideal S256x2048 .f32) (w : FVec Ideal S1x2048 .f32) (g d : FVec Ideal S256x2048 .f32)

abbrev rowB (r : Fin 256) : Fin 2048 → EReal := fun k => x (ix2 r k)
abbrev weightedB (r : Fin 256) : Fin 2048 → EReal := fun k => g (ix2 r k) * w (ix2 0 k)
abbrev outB (r : Fin 256) (q : Fin 2048) : EReal := d (ix2 r q) + projected width (rowB x r) (weightedB w g r) q
abbrev termB (r : Fin 256) (q : Fin 2048) : EReal := g (ix2 r q) * (x (ix2 r q) * scale width (rowB x r))
abbrev partW (j : S1x2048.Idx) : EReal := ∑ r : Fin 256, termB x g r (j 1)

theorem pay4_at (r : Fin 256) (q : Fin 2048) : k0_pay4 (F := Ideal) x g w d (ix2 r q) = d (ix2 r q) + projected width (rowB x r) (weightedB w g r) q := by
  pointwise [k0_pay4, k0_pay3, k0_pay2, projected, scale, meanSq]

theorem pay1_at (a : FVec Ideal S1x2048 .f32) (j : S1x2048.Idx) : k0_pay1 (F := Ideal) (k0_pay6 a) (k0_pay7 x g) j = a j + partW x g j := by
  pointwise [k0_pay1, k0_pay6, k0_pay7, k0_pay3, k0_pay2]
  rfl

theorem pay5_at (j : S1x2048.Idx) : k0_pay5 (F := Ideal) j = 0 := by pointwise [k0_pay5]
end

/-! ## The grid -/

variable (m : (ℓ : Loc nD τ sig) → Buf (Elt Ideal) ℓ)

/-- Point `t` reads and writes the block of rows `t`. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

theorem first (c : Dev nD) (t : Fin cfg0.N) (h : t.val % 16 = 0) (j : S1x2048.Idx) :
    (outsAt0 m c t.val t.isLt).2 j = (fun _ => (0 : EReal)) j + partW (iblk m c 0 t) (iblk m c 2 t) j := by
  rw [outsAt0_A m c t h]
  frame_open
  simp (disch := decide) only [↓ View.readCov_skip, ↓ View.readCov_cons_toLoadRect, ↓ View.readCov_fill]
  frame_out
  rw [pay1_at, pay5_at]

theorem next (c : Dev nD) (t : Fin cfg0.N) (h : ¬ t.val % 16 = 0) (j : S1x2048.Idx) :
    (outsAt0 m c t.val t.isLt).2 j = (outsAt0 m c (t.val - 1) (Nat.lt_of_le_of_lt (Nat.sub_le _ _) t.isLt)).2 j + partW (iblk m c 0 t) (iblk m c 2 t) j := by
  rw [outsAt0_B m c t h]
  frame_out
  rw [pay1_at]

theorem out_x (c : Dev nD) (t : Fin cfg0.N) (r : Fin 256) (q : Fin 2048) : (outsAt0 m c t.val t.isLt).1 (ix2 r q)
    = outB (iblk m c 0 t) (iblk m c 1 t) (iblk m c 2 t) (iblk m c 3 t) r q := by
  by_cases h : t.val % 16 = 0
  · rw [outsAt0_A m c t h]
    frame_out
    exact pay4_at _ _ _ _ r q
  · rw [outsAt0_B m c t h]
    frame_out
    exact pay4_at _ _ _ _ r q

section
variable (c : Dev nD) (t : Fin cfg0.N) (r : Fin 256) (q : Fin 2048) (R : Fin 4096) (hR : R.val = t.val * 256 + r.val)

theorem blk_w : (iblk m c 1 t : FVec Ideal S1x2048 .f32) (ix2 0 q) = m ((c : Thread nD τ).loc main_arg1) (ix1 q) := by
  blk_point [iblk, V, idx t]

include hR

theorem blk_x : (iblk m c 0 t : FVec Ideal S256x2048 .f32) (ix2 r q) = m ((c : Thread nD τ).loc main_arg0) (ix2 R q) := by
  blk_point [iblk, V, idx t]

theorem blk_g : (iblk m c 2 t : FVec Ideal S256x2048 .f32) (ix2 r q) = m ((c : Thread nD τ).loc main_arg2) (ix2 R q) := by
  blk_point [iblk, V, idx t]

theorem blk_d : (iblk m c 3 t : FVec Ideal S256x2048 .f32) (ix2 r q) = m ((c : Thread nD τ).loc main_arg3) (ix2 R q) := by
  blk_point [iblk, V, idx t]

theorem row_eq : rowB (iblk m c 0 t) r = row (m ((c : Thread nD τ).loc main_arg0)) R := funext fun k => blk_x m c t r k R hR

theorem weighted_eq : weightedB (iblk m c 1 t) (iblk m c 2 t) r = weighted (m ((c : Thread nD τ).loc main_arg1)) (m ((c : Thread nD τ).loc main_arg2)) R := by
  funext k
  rw [weighted, ← blk_w m c t k, ← blk_g m c t r k R hR]

theorem term_eq : termB (iblk m c 0 t) (iblk m c 2 t) r q = term (m ((c : Thread nD τ).loc main_arg0)) (m ((c : Thread nD τ).loc main_arg2)) R q := by
  rw [termB, row_eq m c t r R hR, blk_g m c t r q R hR, blk_x m c t r q R hR]
end

theorem final_x (c : Dev nD) : (dats m 0 c).arrAt 4 cfg0.N
    = gradX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 16 := lt_of_lt_of_eq t.isLt N_0
  blk_simp
  rw [after0_4]
  idx_vars y
  have e : ((View.whole main_v1_0).slice (win0_4.rect t)).emb (ix2 y0 y1) = ix2 ⟨t.val * 256 + y0.val, by omega⟩ y1 := by
    blk_ext [idx t]
  rw [e]
  refine (out_x m c t y0 y1).trans ?_
  rw [outB, row_eq m c t y0 ⟨t.val * 256 + y0.val, by omega⟩ rfl, weighted_eq m c t y0 ⟨t.val * 256 + y0.val, by omega⟩ rfl, blk_d m c t y0 y1 ⟨t.val * 256 + y0.val, by omega⟩ rfl]
  rfl

theorem final_w (c : Dev nD) : (dats m 0 c).arrAt 5 cfg0.N = gradW (m ((c : Thread nD τ).loc main_arg0)) (m ((c : Thread nD τ).loc main_arg2)) := by
  refine (dats m 0 c).arrAt_eq_of_covers 5 _ (by decide +kernel) fun t hf y => ?_
  have ht : t.val < 16 := lt_of_lt_of_eq t.isLt N_0
  have h15 := (flush0_5 t).mp hf
  blk_simp
  rw [after0_5]
  idx_vars y
  have e : ((View.whole main_v1_1).slice (win0_5.rect t)).emb (ix2 y0 y1) = ix2 0 y1 := by
    blk_ext [idx t]
  rw [e, Pipeline.eq_sum_fin_of_reset_step_apply_of_flush (fun n h => (outsAt0 m c n h).2) 16 (fun _ => 0) _ (first m c) (next m c) t h15 _, zero_add]
  refine Fin.sum_mul_add_congr fun s k hl => ?_
  exact term_eq m c ⟨_, Pipeline.run_point_lt_of_flush t h15 s⟩ k y1 ⟨_, hl⟩ (by show s.val * 256 + k.val = (16 * (t.val / 16) + s.val) * 256 + k.val; omega)

/-! ## The reference -/

section
open Cert.RefRmsIdeal.Read
variable (x : FVec Ideal S4096x2048 .f32) (w : FVec Ideal S2048 .f32) (g d : FVec Ideal S4096x2048 .f32)

theorem ref_meanSq (r : Fin 4096) (l : Fin 1) : val_main_v6 (F := Ideal) x (ix2 r l) = meanSq width (row x r) := by
  pointwise [val_main_v6, val_main_v5, val_main_v4, val_main_v3, val_main_v2, val_main_v1, val_main_v0, val_main_cst, val_main_cst_0, val_main_cst_1, meanSq]

theorem ref_back (r : Fin 4096) (q : Fin 2048) : val_main_v36 (F := Ideal) x w g d (ix2 r q) = d (ix2 r q) + back width (row x r) (weighted w g r) q := by
  pointwise [val_main_v36, val_main_v35, val_main_v34, val_main_v33, val_main_v32, val_main_v31, val_main_v30, val_main_v29, val_main_v28, val_main_cst_7, val_main_cst_6,
    val_main_v27, val_main_v26, val_main_v25, val_main_v24, val_main_v23, val_main_cst_5, val_main_v22, val_main_v20, val_main_v19, val_main_v13, val_main_v10, val_main_v9,
    val_main_v8, val_main_v7, val_main_cst_2, ref_meanSq, back, through, scale]

theorem ref_x : val_main_v36 (F := Ideal) x w g d = gradX x w g d := by
  funext i
  refine (congrArg _ (eq_ix2 i)).trans ((ref_back x w g d (i 0) (i 1)).trans (Eq.trans ?_ (congrArg (gradX x w g d) (eq_ix2 i)).symm))
  refine congrArg (d (ix2 (i 0) (i 1)) + ·) ?_
  rw [width_real]
  exact (projected_eq 2048 (by norm_num) _ _ _).symm

theorem ref_w : val_main_v37 (F := Ideal) x g = gradW x g := by
  funext i
  pointwise [val_main_v37, val_main_v21, val_main_cst_4, val_main_v18, val_main_v17, val_main_v16, val_main_v12, val_main_v11, val_main_cst_3, val_main_v7, ref_meanSq, gradW, scale]
  refine (Fin.sum_univ_one _).trans (Fin.sum_fin_congr fun k => mul_comm _ _)
end

/-- The host-only reference ends with its arguments unchanged and, having no semaphore, every counter at zero. -/
theorem frame_reference : @Cert.quiescent_RefRmsIdeal Cert.RefRmsIdeal.Gen.facts := fun m ρ _ =>
  (θ_run Cert.RefRmsIdeal.defs _ _).mono (fun r h => ⟨fun c => (h c).2.2, sem_eq_zero_of_no_sems (by decide) r.2⟩)
    (Cert.RefRmsIdeal.Value.run (F := Ideal) m ρ)

theorem algebraic : @Cert.algebraic_RmsIdeal_RefRmsIdeal Cert.RmsIdeal.Gen.facts Cert.RefRmsIdeal.Gen.facts := by
  intro m g m' g' _ hag
  refine ⟨fun c => gradX (m ((c : Thread nD τ).loc main_arg0)) (m ((c : Thread nD τ).loc main_arg1)) (m ((c : Thread nD τ).loc main_arg2)) (m ((c : Thread nD τ).loc main_arg3)),
    fun c => gradW (m ((c : Thread nD τ).loc main_arg0)) (m ((c : Thread nD τ).loc main_arg2)),
    (θ_run defs _ _).mono (fun _ h c => ⟨(h c).1.trans (final_x m c), (h c).2.1.trans (final_w m c), (h c).2.2⟩) (Value.run_blocks (F := Ideal) m g),
    (θ_run Cert.RefRmsIdeal.defs _ _).mono (fun _ h c => ?_) (Cert.RefRmsIdeal.Value.run (F := Ideal) m' g')⟩
  obtain ⟨e0, e1, e2, e3⟩ := hag c
  refine ⟨(h c).1.trans ?_, (h c).2.1.trans ?_, (h c).2.2⟩
  · rw [Cert.RefRmsIdeal.Read.val_main_v36_eq, e0, e1, e2, e3]
    exact ref_x _ _ _ _
  · rw [Cert.RefRmsIdeal.Read.val_main_v37_eq, e0, e2]
    exact ref_w _ _

end Cert.RmsIdeal.Norm
end
-- ==== Proof.UpX.lean ====
module

public import proofs.«01_k».proof.Defs
public import proofs.«01_k».proof.Proof.Gen.UpXIdeal
public import proofs.«01_k».proof.Proof.Gen.UpXIdeal.Value
public import proofs.«01_k».proof.Proof.Gen.RefUpXIdeal
public import proofs.«01_k».proof.Proof.Gen.RefUpXIdeal.Run
public import proofs.«01_k».proof.Proof.Gen.RefUpXIdeal.Read
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.UpXIdeal.Product

open Cert.UpXIdeal Cert.UpXIdeal.Gen Idealize.ShloMosaic Idealize.ShloMosaic.TcCoe
open Idealize.ShloMosaic.Pipeline (Dat)
open Idealize.SL.Sem

/-- Column `l` of the gradient, whose two halves lie one behind the other. -/
abbrev ref (X : FVec Ideal S2x4096x5632 .bf16) (W : FVec Ideal S8x2048x1408 .bf16) : FVec Ideal S4096x2048 .f32 := fun i =>
  ∑ l : Fin 11264, X (ix3 ⟨l.val / 5632, by omega⟩ (i 0) ⟨l.val % 5632, by omega⟩) * W (ix3 ⟨l.val / 1408, by omega⟩ (i 1) ⟨l.val % 1408, by omega⟩)

/-- The summand of one grid point: the product of the two blocks it reads. -/
abbrev part (x w : FVec Ideal S1x1024x1408 .bf16) (j : S1024x1024.Idx) : EReal := ∑ k : Fin 1408, x (ix3 0 (j 0) k) * w (ix3 0 (j 1) k)

theorem pay1_at (x w j) : k0_pay1 (F := Ideal) x w j = part x w j := by pointwise [k0_pay1]
theorem pay2_at (a x w j) : k0_pay2 (F := Ideal) a x w j = a j + part x w j := by pointwise [k0_pay2]
theorem pay3_at (a x w j) : k0_pay3 (F := Ideal) a x w j = a j + part x w j := by pointwise [k0_pay3]

variable (m : (ℓ : Loc nD τ sig) → Buf (Elt Ideal) ℓ)

theorem idx : ∀ t : Fin cfg0.N, win0_0.index t = ![t.val % 8 / 4, t.val / 16, t.val % 4] ∧ win0_1.index t = ![t.val % 8, t.val / 8 % 2, 0] ∧ win0_2.index t = ![t.val / 16, t.val / 8 % 2] :=
  (by decide +kernel : ∀ t : Fin grid0.N, _)

/-- What the run of eight points has gathered after point `n`: in the scratch, and at its last point in the result's block. -/
def gathered (c : Dev nD) (n : ℕ) (h : n < cfg0.N) : FVec Ideal S1024x1024 .f32 :=
  if n % 8 = 7 then (outsAt0 m c n h).1 else (outsAt0 m c n h).2

theorem first (c : Dev nD) (t : Fin cfg0.N) (h : t.val % 8 = 0) (j : S1024x1024.Idx) :
    gathered m c t.val t.isLt j = (fun _ => (0 : EReal)) j + part (iblk m c 0 t) (iblk m c 1 t) j := by
  rw [gathered, if_neg (by omega), outsAt0_A m c t h (by omega) (by omega)]
  frame_out
  rw [pay1_at, zero_add]

theorem next (c : Dev nD) (t : Fin cfg0.N) (h : ¬ t.val % 8 = 0) (j : S1024x1024.Idx) :
    gathered m c t.val t.isLt j = gathered m c (t.val - 1) (Nat.lt_of_le_of_lt (Nat.sub_le _ _) t.isLt) j + part (iblk m c 0 t) (iblk m c 1 t) j := by
  unfold gathered
  rw [if_neg (show ¬ (t.val - 1) % 8 = 7 by omega)]
  by_cases h7 : t.val % 8 = 7
  · rw [if_pos h7, outsAt0_C m c t h (by omega) h7]
    frame_out
    simp only [read_unread_whole]
    rw [pay3_at]
  · rw [if_neg h7, outsAt0_B m c t h (by omega) h7]
    frame_out
    simp only [read_unread_whole]
    rw [pay2_at]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2]
  have e : (outsAt0 m c t.val t.isLt).1 = gathered m c t.val t.isLt := (if_pos h7).symm
  rw [e, Pipeline.eq_sum_fin_of_reset_step_apply_of_flush (fun n h => gathered m c n h) 8 (fun _ => 0) _ (first m c) (next m c) t h7 _, zero_add]
  refine Fin.sum_mul_add_congr fun s k hl => ?_
  blk_point [iblk, V, idx t, idx ⟨_, Pipeline.run_point_lt_of_flush t h7 s⟩]

/-- The reference's result is the same product. -/
theorem reference_at (X : FVec Ideal S2x4096x5632 .bf16) (W : FVec Ideal S8x2048x1408 .bf16) : Cert.RefUpXIdeal.Read.val_main_v8 (F := Ideal) X W = ref X W := by
  funext i
  pointwise [Cert.RefUpXIdeal.Read.val_main_v0, Cert.RefUpXIdeal.Read.val_main_v1, Cert.RefUpXIdeal.Read.val_main_v2, Cert.RefUpXIdeal.Read.val_main_cst, Cert.RefUpXIdeal.Read.val_main_v3, Cert.RefUpXIdeal.Read.val_main_v4, Cert.RefUpXIdeal.Read.val_main_v5, Cert.RefUpXIdeal.Read.val_main_v6, Cert.RefUpXIdeal.Read.val_main_v7, Cert.RefUpXIdeal.Read.val_main_v8]

/-- The host-only reference ends with its arguments unchanged and, having no semaphore, every counter at zero. -/
theorem frame_reference : @Cert.quiescent_RefUpXIdeal Cert.RefUpXIdeal.Gen.facts := fun m ρ _ =>
  (θ_run Cert.RefUpXIdeal.defs _ _).mono (fun r h => ⟨fun c => (h c).2, sem_eq_zero_of_no_sems (by decide) r.2⟩)
    (Cert.RefUpXIdeal.Value.run (F := Ideal) m ρ)

theorem algebraic : @Cert.algebraic_UpXIdeal_RefUpXIdeal Cert.UpXIdeal.Gen.facts Cert.RefUpXIdeal.Gen.facts := by
  intro m g m' g' _ hag
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefUpXIdeal.defs _ _).mono (fun _ h c => ⟨(h c).1.trans ?_, (h c).2⟩) (Cert.RefUpXIdeal.Value.run (F := Ideal) m' g')⟩
  obtain ⟨e0, e1⟩ := hag c
  rw [Cert.RefUpXIdeal.Read.val_main_v8_eq, e0, e1]
  exact reference_at _ _

end Cert.UpXIdeal.Product
end
-- ==== Proof.Tiles.lean ====
module

public import Mathlib.Algebra.BigOperators.Fin
public import Idealize.ShloMosaic.Lib.Pipeline.ValueKit

@[expose] public section

noncomputable section

namespace Cert.Tiles

open Idealize.ShloMosaic

/-- Each column of `x` against each column of `y`: the product over the rows they share. The arrays of a weight's gradient
    are such a product, and so are the blocks one grid point multiplies. -/
abbrev columns {K M N : ℕ} (x : Shape.Idx ⟨2, ![K, M]⟩ → EReal) (y : Shape.Idx ⟨2, ![K, N]⟩ → EReal) (i : Shape.Idx ⟨2, ![M, N]⟩) : EReal :=
  ∑ l : Fin K, x (ix2 l (i 0)) * y (ix2 l (i 1))

/-- Each row of `x` against each row of `w`: the product of a gradient with a weight transposed, whole or of one grid point's blocks. -/
abbrev rows {K M N : ℕ} (x : Shape.Idx ⟨2, ![M, K]⟩ → EReal) (w : Shape.Idx ⟨2, ![N, K]⟩ → EReal) (i : Shape.Idx ⟨2, ![M, N]⟩) : EReal :=
  ∑ l : Fin K, x (ix2 (i 0) l) * w (ix2 (i 1) l)

/-- Each row of `x` against each column of `w`: the forward product, whole or of one grid point's blocks. -/
abbrev plain {K M N : ℕ} (x : Shape.Idx ⟨2, ![M, K]⟩ → EReal) (w : Shape.Idx ⟨2, ![K, N]⟩ → EReal) (i : Shape.Idx ⟨2, ![M, N]⟩) : EReal :=
  ∑ l : Fin K, x (ix2 (i 0) l) * w (ix2 l (i 1))

/-- One entry of a block, or of a whole array. -/
abbrev lane {M N : ℕ} (b : Shape.Idx ⟨2, ![M, N]⟩ → EReal) (i : Shape.Idx ⟨2, ![M, N]⟩) : EReal := b i

/-- The product added to what was there. -/
abbrev added {K M N : ℕ} (x : Shape.Idx ⟨2, ![M, K]⟩ → EReal) (w : Shape.Idx ⟨2, ![K, N]⟩ → EReal) (b : Shape.Idx ⟨2, ![M, N]⟩ → EReal)
    (i : Shape.Idx ⟨2, ![M, N]⟩) : EReal := lane b i + plain x w i

/-- A sum over two tiles of `n` lanes, one behind the other. -/
theorem sum_two {M : Type*} {_ : AddCommMonoid M} {n N : ℕ} (hN : N = n + n) {a b : Fin n → M} {f : Fin N → M}
    (ha : ∀ k : Fin n, a k = f ⟨k.val, by omega⟩) (hb : ∀ k : Fin n, b k = f ⟨n + k.val, by omega⟩) : ∑ k, a k + ∑ k, b k = ∑ l, f l := by
  subst hN
  rw [Fin.sum_univ_add]
  exact congrArg₂ _ (Finset.sum_congr rfl fun k _ => ha k) (Finset.sum_congr rfl fun k _ => hb k)

/-- A sum over three tiles of `n` lanes, one behind the other. -/
theorem sum_three {M : Type*} {_ : AddCommMonoid M} {n N : ℕ} (hN : N = n + n + n) {a b c : Fin n → M} {f : Fin N → M} (ha : ∀ k : Fin n, a k = f ⟨k.val, by omega⟩)
    (hb : ∀ k : Fin n, b k = f ⟨n + k.val, by omega⟩) (hc : ∀ k : Fin n, c k = f ⟨n + n + k.val, by omega⟩) : ∑ k, a k + ∑ k, b k + ∑ k, c k = ∑ l, f l := by
  subst hN
  rw [Fin.sum_univ_add, sum_two rfl (f := fun l : Fin (n + n) => f (Fin.castAdd n l)) ha hb]
  exact congrArg₂ _ rfl (Finset.sum_congr rfl fun k _ => hc k)

/-- A sum over four tiles of `n` lanes, one behind the other. -/
theorem sum_four {M : Type*} {_ : AddCommMonoid M} {n N : ℕ} (hN : N = n + n + n + n) {a b c d : Fin n → M} {f : Fin N → M} (ha : ∀ k : Fin n, a k = f ⟨k.val, by omega⟩)
    (hb : ∀ k : Fin n, b k = f ⟨n + k.val, by omega⟩) (hc : ∀ k : Fin n, c k = f ⟨n + n + k.val, by omega⟩) (hd : ∀ k : Fin n, d k = f ⟨n + n + n + k.val, by omega⟩) :
    ∑ k, a k + ∑ k, b k + ∑ k, c k + ∑ k, d k = ∑ l, f l := by
  subst hN
  rw [Fin.sum_univ_add, sum_three rfl (f := fun l : Fin (n + n + n) => f (Fin.castAdd n l)) ha hb hc]
  exact congrArg₂ _ rfl (Finset.sum_congr rfl fun k _ => hd k)

end Cert.Tiles
end
-- ==== Proof.UpW.lean ====
module

public import proofs.«01_k».proof.Defs
public import proofs.«01_k».proof.Proof.Gen.UpWIdeal
public import proofs.«01_k».proof.Proof.Gen.UpWIdeal.Value
public import proofs.«01_k».proof.Proof.Gen.RefUpWIdeal
public import proofs.«01_k».proof.Proof.Gen.RefUpWIdeal.Run
public import proofs.«01_k».proof.Proof.Gen.RefUpWIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.UpWIdeal.Product

open Cert.UpWIdeal Cert.UpWIdeal.Gen Idealize.ShloMosaic Idealize.ShloMosaic.TcCoe
open Idealize.ShloMosaic.Pipeline (Dat)
open Idealize.SL.Sem

/-- The gradient of the stacked weights: part `i 0`, row `i 1`, column `i 2` gathers the rows of `X` and the wide gradient `Y`, whose two halves are one behind the other. -/
abbrev ref (X : FVec Ideal S4096x2048 .bf16) (Y : FVec Ideal S2x4096x5632 .bf16) : FVec Ideal S8x2048x1408 .bf16 := fun i =>
  ∑ l : Fin 4096, X (ix2 l (i 1)) * Y (ix3 ⟨((i 0).val * 1408 + (i 2).val) / 5632, by have h0 : (i 0).val < 8 := (i 0).isLt; have h2 : (i 2).val < 1408 := (i 2).isLt; omega⟩ l ⟨((i 0).val * 1408 + (i 2).val) % 5632, by omega⟩)

/-- The summand of one grid point: the product of the two blocks it reads. -/
abbrev part (x : FVec Ideal S2048x1024 .bf16) (w : FVec Ideal S1x2048x1408 .bf16) (j : S1024x1408.Idx) : EReal := ∑ k : Fin 2048, x (ix2 k (j 0)) * w (ix3 0 k (j 1))

theorem pay1_at (x w j) : k0_pay1 (F := Ideal) x w j = part x w j := by pointwise [k0_pay1]
theorem pay3_at (a x w j) : k0_pay3 (F := Ideal) a x w j = a (ix2 (j 1) (j 2)) + part x w (ix2 (j 1) (j 2)) := by pointwise [k0_pay3, part]

variable (m : (ℓ : Loc nD τ sig) → Buf (Elt Ideal) ℓ)

theorem idx : ∀ t : Fin cfg0.N, win0_0.index t = ![t.val % 2, t.val / 16] ∧ win0_1.index t = ![t.val / 2 % 8 / 4, t.val % 2, t.val / 2 % 4] ∧ win0_2.index t = ![t.val / 2 % 8, t.val / 16, 0] :=
  (by decide +kernel : ∀ t : Fin grid0.N, _)

/-- The point before the last one of a run of two. -/
abbrev before (t : Fin cfg0.N) : Fin cfg0.N := ⟨t.val - 1, Nat.lt_of_le_of_lt (Nat.sub_le _ _) t.isLt⟩

theorem scratch (c : Dev nD) (t : Fin cfg0.N) (h : t.val % 2 = 0) (j : S1024x1408.Idx) :
    (outsAt0 m c t.val t.isLt).2 j = part (iblk m c 0 t) (iblk m c 1 t) j := by
  rw [outsAt0_A m c t h (by omega)]
  frame_out
  rw [pay1_at]

theorem result (c : Dev nD) (t : Fin cfg0.N) (h : t.val % 2 = 1) (j : S1x1024x1408.Idx) :
    (outsAt0 m c t.val t.isLt).1 j = part (iblk m c 0 (before t)) (iblk m c 1 (before t)) (ix2 (j 1) (j 2)) + part (iblk m c 0 t) (iblk m c 1 t) (ix2 (j 1) (j 2)) := by
  rw [outsAt0_B m c t (by omega) h]
  frame_out
  simp only [read_unread_whole]
  rw [pay3_at, scratch m c (before t) (by show (t.val - 1) % 2 = 0; omega)]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, result m c t h1]
  refine Tiles.sum_two (n := 2048) rfl (fun k => ?_) (fun k => ?_)
  · blk_point [iblk, V, idx t, idx (before t)]
  · blk_point [iblk, V, idx t]

/-- The reference's result is the same product. -/
theorem reference_at (X : FVec Ideal S4096x2048 .bf16) (Y : FVec Ideal S2x4096x5632 .bf16) : Cert.RefUpWIdeal.Read.val_main_v10 (F := Ideal) X Y = ref X Y := by
  funext i
  pointwise [Cert.RefUpWIdeal.Read.val_main_v0, Cert.RefUpWIdeal.Read.val_main_cst, Cert.RefUpWIdeal.Read.val_main_v1, Cert.RefUpWIdeal.Read.val_main_v2, Cert.RefUpWIdeal.Read.val_main_v3, Cert.RefUpWIdeal.Read.val_main_v4, Cert.RefUpWIdeal.Read.val_main_v5, Cert.RefUpWIdeal.Read.val_main_v6, Cert.RefUpWIdeal.Read.val_main_v7, Cert.RefUpWIdeal.Read.val_main_v8, Cert.RefUpWIdeal.Read.val_main_v9, Cert.RefUpWIdeal.Read.val_main_v10]
  exact Fin.sum_fin_congr fun k => mul_comm _ _

/-- The host-only reference ends with its arguments unchanged and, having no semaphore, every counter at zero. -/
theorem frame_reference : @Cert.quiescent_RefUpWIdeal Cert.RefUpWIdeal.Gen.facts := fun m ρ _ =>
  (θ_run Cert.RefUpWIdeal.defs _ _).mono (fun r h => ⟨fun c => (h c).2, sem_eq_zero_of_no_sems (by decide) r.2⟩)
    (Cert.RefUpWIdeal.Value.run (F := Ideal) m ρ)

theorem algebraic : @Cert.algebraic_UpWIdeal_RefUpWIdeal Cert.UpWIdeal.Gen.facts Cert.RefUpWIdeal.Gen.facts := by
  intro m g m' g' _ hag
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefUpWIdeal.defs _ _).mono (fun _ h c => ⟨(h c).1.trans ?_, (h c).2⟩) (Cert.RefUpWIdeal.Value.run (F := Ideal) m' g')⟩
  obtain ⟨e0, e1⟩ := hag c
  rw [Cert.RefUpWIdeal.Read.val_main_v10_eq, e0, e1]
  exact reference_at _ _

end Cert.UpWIdeal.Product
end
-- ==== Proof.DownX.lean ====
module

public import proofs.«01_k».proof.Defs
public import proofs.«01_k».proof.Proof.Gen.DownXIdeal
public import proofs.«01_k».proof.Proof.Gen.DownXIdeal.Value
public import proofs.«01_k».proof.Proof.Gen.RefDownXIdeal
public import proofs.«01_k».proof.Proof.Gen.RefDownXIdeal.Run
public import proofs.«01_k».proof.Proof.Gen.RefDownXIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.DownXIdeal.Product

open Cert.DownXIdeal Cert.DownXIdeal.Gen Idealize.ShloMosaic Idealize.ShloMosaic.TcCoe
open Idealize.ShloMosaic.Pipeline (Dat)
open Idealize.SL.Sem

theorem pay_at (x w j) : k0_pay1 (F := Ideal) x w j = ∑ k : Fin 2048, x (ix2 (j 0) k) * w (ix2 (j 1) k) := by pointwise [k0_pay1]

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem final (c : Dev nD) : (dats m 0 c).arrAt 2 cfg0.N = Tiles.rows (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  refine Fin.sum_fin_congr fun k => ?_
  blk_point [iblk, V, idx t]

/-- The reference's result is the same product. -/
theorem reference_at (X : FVec Ideal S4096x2048 .f32) (W : FVec Ideal S5632x2048 .bf16) : Cert.RefDownXIdeal.Read.val_main_v4 (F := Ideal) X W = Tiles.rows X W := by
  funext i
  pointwise [Cert.RefDownXIdeal.Read.val_main_v0, Cert.RefDownXIdeal.Read.val_main_cst, Cert.RefDownXIdeal.Read.val_main_v1, Cert.RefDownXIdeal.Read.val_main_v2, Cert.RefDownXIdeal.Read.val_main_v3, Cert.RefDownXIdeal.Read.val_main_v4]

/-- The host-only reference ends with its arguments unchanged and, having no semaphore, every counter at zero. -/
theorem frame_reference : @Cert.quiescent_RefDownXIdeal Cert.RefDownXIdeal.Gen.facts := fun m ρ _ =>
  (θ_run Cert.RefDownXIdeal.defs _ _).mono (fun r h => ⟨fun c => (h c).2, sem_eq_zero_of_no_sems (by decide) r.2⟩)
    (Cert.RefDownXIdeal.Value.run (F := Ideal) m ρ)

theorem algebraic : @Cert.algebraic_DownXIdeal_RefDownXIdeal Cert.DownXIdeal.Gen.facts Cert.RefDownXIdeal.Gen.facts := by
  intro m g m' g' _ hag
  refine ⟨fun c => Tiles.rows (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefDownXIdeal.defs _ _).mono (fun _ h c => ⟨(h c).1.trans ?_, (h c).2⟩) (Cert.RefDownXIdeal.Value.run (F := Ideal) m' g')⟩
  obtain ⟨e0, e1⟩ := hag c
  rw [Cert.RefDownXIdeal.Read.val_main_v4_eq, e0, e1]
  exact reference_at _ _

end Cert.DownXIdeal.Product
end
-- ==== Proof.DownW.lean ====
module

public import proofs.«01_k».proof.Defs
public import proofs.«01_k».proof.Proof.Gen.DownWIdeal
public import proofs.«01_k».proof.Proof.Gen.DownWIdeal.Value
public import proofs.«01_k».proof.Proof.Gen.RefDownWIdeal
public import proofs.«01_k».proof.Proof.Gen.RefDownWIdeal.Run
public import proofs.«01_k».proof.Proof.Gen.RefDownWIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.DownWIdeal.Product

open Cert.DownWIdeal Cert.DownWIdeal.Gen Idealize.ShloMosaic Idealize.ShloMosaic.TcCoe
open Idealize.ShloMosaic.Pipeline (Dat)
open Idealize.SL.Sem

theorem pay1_at (x w j) : k0_pay1 (F := Ideal) x w j = Tiles.columns x w j := by pointwise [k0_pay1]
theorem pay3_at (a x w j) : k0_pay3 (F := Ideal) a x w j = a j + Tiles.columns x w j := by pointwise [k0_pay3]

variable (m : (ℓ : Loc nD τ sig) → Buf (Elt Ideal) ℓ)

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

/-- The point before the last one of a run of two. -/
abbrev before (t : Fin cfg0.N) : Fin cfg0.N := ⟨t.val - 1, Nat.lt_of_le_of_lt (Nat.sub_le _ _) t.isLt⟩

theorem scratch (c : Dev nD) (t : Fin cfg0.N) (h : t.val % 2 = 0) (j : S1408x1024.Idx) :
    (outsAt0 m c t.val t.isLt).2 j = Tiles.columns (iblk m c 0 t) (iblk m c 1 t) j := by
  rw [outsAt0_A m c t h (by omega)]
  frame_out
  rw [pay1_at]

theorem result (c : Dev nD) (t : Fin cfg0.N) (h : t.val % 2 = 1) (j : S1408x1024.Idx) :
    (outsAt0 m c t.val t.isLt).1 j = Tiles.columns (iblk m c 0 (before t)) (iblk m c 1 (before t)) j + Tiles.columns (iblk m c 0 t) (iblk m c 1 t) j := by
  rw [outsAt0_B m c t (by omega) h]
  frame_out
  simp only [read_unread_whole]
  rw [pay3_at, scratch m c (before t) (by show (t.val - 1) % 2 = 0; omega)]

theorem final (c : Dev nD) : (dats m 0 c).arrAt 2 cfg0.N = Tiles.columns (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, result m c t h1]
  refine Tiles.sum_two (n := 2048) rfl (fun k => ?_) (fun k => ?_)
  · blk_point [iblk, V, idx t, idx (before t)]
  · blk_point [iblk, V, idx t]

/-- The reference's result is the same product. -/
theorem reference_at (X : FVec Ideal S4096x5632 .bf16) (Y : FVec Ideal S4096x2048 .f32) : Cert.RefDownWIdeal.Read.val_main_v5 (F := Ideal) X Y = Tiles.columns X Y := by
  funext i
  pointwise [Cert.RefDownWIdeal.Read.val_main_v0, Cert.RefDownWIdeal.Read.val_main_cst, Cert.RefDownWIdeal.Read.val_main_v1, Cert.RefDownWIdeal.Read.val_main_v2, Cert.RefDownWIdeal.Read.val_main_v3, Cert.RefDownWIdeal.Read.val_main_v4, Cert.RefDownWIdeal.Read.val_main_v5]
  exact Fin.sum_fin_congr fun k => mul_comm _ _

/-- The host-only reference ends with its arguments unchanged and, having no semaphore, every counter at zero. -/
theorem frame_reference : @Cert.quiescent_RefDownWIdeal Cert.RefDownWIdeal.Gen.facts := fun m ρ _ =>
  (θ_run Cert.RefDownWIdeal.defs _ _).mono (fun r h => ⟨fun c => (h c).2, sem_eq_zero_of_no_sems (by decide) r.2⟩)
    (Cert.RefDownWIdeal.Value.run (F := Ideal) m ρ)

theorem algebraic : @Cert.algebraic_DownWIdeal_RefDownWIdeal Cert.DownWIdeal.Gen.facts Cert.RefDownWIdeal.Gen.facts := by
  intro m g m' g' _ hag
  refine ⟨fun c => Tiles.columns (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefDownWIdeal.defs _ _).mono (fun _ h c => ⟨(h c).1.trans ?_, (h c).2⟩) (Cert.RefDownWIdeal.Value.run (F := Ideal) m' g')⟩
  obtain ⟨e0, e1⟩ := hag c
  rw [Cert.RefDownWIdeal.Read.val_main_v5_eq, e0, e1]
  exact reference_at _ _

end Cert.DownWIdeal.Product
end
-- ==== Proof.HgrnOutW.lean ====
module

public import proofs.«01_k».proof.Defs
public import proofs.«01_k».proof.Proof.Gen.HgrnOutWIdeal
public import proofs.«01_k».proof.Proof.Gen.HgrnOutWIdeal.Value
public import proofs.«01_k».proof.Proof.Gen.RefHgrnOutWIdeal
public import proofs.«01_k».proof.Proof.Gen.RefHgrnOutWIdeal.Run
public import proofs.«01_k».proof.Proof.Gen.RefHgrnOutWIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.HgrnOutWIdeal.Product

open Cert.HgrnOutWIdeal Cert.HgrnOutWIdeal.Gen Idealize.ShloMosaic Idealize.ShloMosaic.TcCoe
open Idealize.ShloMosaic.Pipeline (Dat)
open Idealize.SL.Sem

theorem pay1_at (x w j) : k0_pay1 (F := Ideal) x w j = Tiles.columns x w j := by pointwise [k0_pay1]
theorem pay3_at (a x w j) : k0_pay3 (F := Ideal) a x w j = a j + Tiles.columns x w j := by pointwise [k0_pay3]

variable (m : (ℓ : Loc nD τ sig) → Buf (Elt Ideal) ℓ)

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

/-- The point before the last one of a run of two. -/
abbrev before (t : Fin cfg0.N) : Fin cfg0.N := ⟨t.val - 1, Nat.lt_of_le_of_lt (Nat.sub_le _ _) t.isLt⟩

theorem scratch (c : Dev nD) (t : Fin cfg0.N) (h : t.val % 2 = 0) (j : S1024x1024.Idx) :
    (outsAt0 m c t.val t.isLt).2 j = Tiles.columns (iblk m c 0 t) (iblk m c 1 t) j := by
  rw [outsAt0_A m c t h (by omega)]
  frame_out
  rw [pay1_at]

theorem result (c : Dev nD) (t : Fin cfg0.N) (h : t.val % 2 = 1) (j : S1024x1024.Idx) :
    (outsAt0 m c t.val t.isLt).1 j = Tiles.columns (iblk m c 0 (before t)) (iblk m c 1 (before t)) j + Tiles.columns (iblk m c 0 t) (iblk m c 1 t) j := by
  rw [outsAt0_B m c t (by omega) h]
  frame_out
  simp only [read_unread_whole]
  rw [pay3_at, scratch m c (before t) (by show (t.val - 1) % 2 = 0; omega)]

theorem final (c : Dev nD) : (dats m 0 c).arrAt 2 cfg0.N = Tiles.columns (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, result m c t h1]
  refine Tiles.sum_two (n := 2048) rfl (fun k => ?_) (fun k => ?_)
  · blk_point [iblk, V, idx t, idx (before t)]
  · blk_point [iblk, V, idx t]

/-- The reference's result is the same product. -/
theorem reference_at (X : FVec Ideal S4096x2048 .bf16) (Y : FVec Ideal S4096x2048 .f32) : Cert.RefHgrnOutWIdeal.Read.val_main_v5 (F := Ideal) X Y = Tiles.columns X Y := by
  funext i
  pointwise [Cert.RefHgrnOutWIdeal.Read.val_main_v0, Cert.RefHgrnOutWIdeal.Read.val_main_cst, Cert.RefHgrnOutWIdeal.Read.val_main_v1, Cert.RefHgrnOutWIdeal.Read.val_main_v2, Cert.RefHgrnOutWIdeal.Read.val_main_v3, Cert.RefHgrnOutWIdeal.Read.val_main_v4, Cert.RefHgrnOutWIdeal.Read.val_main_v5]
  exact Fin.sum_fin_congr fun k => mul_comm _ _

/-- The host-only reference ends with its arguments unchanged and, having no semaphore, every counter at zero. -/
theorem frame_reference : @Cert.quiescent_RefHgrnOutWIdeal Cert.RefHgrnOutWIdeal.Gen.facts := fun m ρ _ =>
  (θ_run Cert.RefHgrnOutWIdeal.defs _ _).mono (fun r h => ⟨fun c => (h c).2, sem_eq_zero_of_no_sems (by decide) r.2⟩)
    (Cert.RefHgrnOutWIdeal.Value.run (F := Ideal) m ρ)

theorem algebraic : @Cert.algebraic_HgrnOutWIdeal_RefHgrnOutWIdeal Cert.HgrnOutWIdeal.Gen.facts Cert.RefHgrnOutWIdeal.Gen.facts := by
  intro m g m' g' _ hag
  refine ⟨fun c => Tiles.columns (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefHgrnOutWIdeal.defs _ _).mono (fun _ h c => ⟨(h c).1.trans ?_, (h c).2⟩) (Cert.RefHgrnOutWIdeal.Value.run (F := Ideal) m' g')⟩
  obtain ⟨e0, e1⟩ := hag c
  rw [Cert.RefHgrnOutWIdeal.Read.val_main_v5_eq, e0, e1]
  exact reference_at _ _

end Cert.HgrnOutWIdeal.Product
end
-- ==== Proof.HgrnOutX.lean ====
module

public import proofs.«01_k».proof.Defs
public import proofs.«01_k».proof.Proof.Gen.HgrnOutXIdeal
public import proofs.«01_k».proof.Proof.Gen.HgrnOutXIdeal.Value
public import proofs.«01_k».proof.Proof.Gen.RefHgrnOutXIdeal
public import proofs.«01_k».proof.Proof.Gen.RefHgrnOutXIdeal.Run
public import proofs.«01_k».proof.Proof.Gen.RefHgrnOutXIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.HgrnOutXIdeal.Product

open Cert.HgrnOutXIdeal Cert.HgrnOutXIdeal.Gen Idealize.ShloMosaic Idealize.ShloMosaic.TcCoe
open Idealize.ShloMosaic.Pipeline (Dat)
open Idealize.SL.Sem

theorem pay_at (x w j) : k0_pay1 (F := Ideal) x w j = ∑ k : Fin 2048, x (ix2 (j 0) k) * w (ix2 (j 1) k) := by pointwise [k0_pay1]

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem final (c : Dev nD) : (dats m 0 c).arrAt 2 cfg0.N = Tiles.rows (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  refine Fin.sum_fin_congr fun k => ?_
  blk_point [iblk, V, idx t]

/-- The reference's result is the same product. -/
theorem reference_at (X : FVec Ideal S4096x2048 .f32) (W : FVec Ideal S2048x2048 .bf16) : Cert.RefHgrnOutXIdeal.Read.val_main_v4 (F := Ideal) X W = Tiles.rows X W := by
  funext i
  pointwise [Cert.RefHgrnOutXIdeal.Read.val_main_v0, Cert.RefHgrnOutXIdeal.Read.val_main_cst, Cert.RefHgrnOutXIdeal.Read.val_main_v1, Cert.RefHgrnOutXIdeal.Read.val_main_v2, Cert.RefHgrnOutXIdeal.Read.val_main_v3, Cert.RefHgrnOutXIdeal.Read.val_main_v4]

/-- The host-only reference ends with its arguments unchanged and, having no semaphore, every counter at zero. -/
theorem frame_reference : @Cert.quiescent_RefHgrnOutXIdeal Cert.RefHgrnOutXIdeal.Gen.facts := fun m ρ _ =>
  (θ_run Cert.RefHgrnOutXIdeal.defs _ _).mono (fun r h => ⟨fun c => (h c).2, sem_eq_zero_of_no_sems (by decide) r.2⟩)
    (Cert.RefHgrnOutXIdeal.Value.run (F := Ideal) m ρ)

theorem algebraic : @Cert.algebraic_HgrnOutXIdeal_RefHgrnOutXIdeal Cert.HgrnOutXIdeal.Gen.facts Cert.RefHgrnOutXIdeal.Gen.facts := by
  intro m g m' g' _ hag
  refine ⟨fun c => Tiles.rows (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefHgrnOutXIdeal.defs _ _).mono (fun _ h c => ⟨(h c).1.trans ?_, (h c).2⟩) (Cert.RefHgrnOutXIdeal.Value.run (F := Ideal) m' g')⟩
  obtain ⟨e0, e1⟩ := hag c
  rw [Cert.RefHgrnOutXIdeal.Read.val_main_v4_eq, e0, e1]
  exact reference_at _ _

end Cert.HgrnOutXIdeal.Product
end
-- ==== Proof.HgrnInW.lean ====
module

public import proofs.«01_k».proof.Defs
public import proofs.«01_k».proof.Proof.Gen.HgrnInWIdeal
public import proofs.«01_k».proof.Proof.Gen.HgrnInWIdeal.Value
public import proofs.«01_k».proof.Proof.Gen.RefHgrnInWIdeal
public import proofs.«01_k».proof.Proof.Gen.RefHgrnInWIdeal.Run
public import proofs.«01_k».proof.Proof.Gen.RefHgrnInWIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.HgrnInWIdeal.Product

open Cert.HgrnInWIdeal Cert.HgrnInWIdeal.Gen Idealize.ShloMosaic Idealize.ShloMosaic.TcCoe
open Idealize.ShloMosaic.Pipeline (Dat)
open Idealize.SL.Sem

/-- The gradient of the stacked weights: part `i 0`, row `i 1`, column `i 2` gathers the rows of `X` and the wide gradient `Y`, whose four parts are one behind the other. -/
abbrev ref (X : FVec Ideal S4096x2048 .bf16) (Y : FVec Ideal S4x4096x2048 .bf16) : FVec Ideal S8x2048x1024 .bf16 := fun i =>
  ∑ l : Fin 4096, X (ix2 l (i 1)) * Y (ix3 ⟨((i 0).val * 1024 + (i 2).val) / 2048, by have h0 : (i 0).val < 8 := (i 0).isLt; have h2 : (i 2).val < 1024 := (i 2).isLt; omega⟩ l ⟨((i 0).val * 1024 + (i 2).val) % 2048, by omega⟩)

/-- The summand of one grid point: the product of the two blocks it reads. -/
abbrev part (x : FVec Ideal S2048x1024 .bf16) (w : FVec Ideal S1x2048x1024 .bf16) (j : S1024x1024.Idx) : EReal := ∑ k : Fin 2048, x (ix2 k (j 0)) * w (ix3 0 k (j 1))

theorem pay1_at (x w j) : k0_pay1 (F := Ideal) x w j = part x w j := by pointwise [k0_pay1]
theorem pay3_at (a x w j) : k0_pay3 (F := Ideal) a x w j = a (ix2 (j 1) (j 2)) + part x w (ix2 (j 1) (j 2)) := by pointwise [k0_pay3, part]

variable (m : (ℓ : Loc nD τ sig) → Buf (Elt Ideal) ℓ)

theorem idx : ∀ t : Fin cfg0.N, win0_0.index t = ![t.val % 2, t.val / 16] ∧ win0_1.index t = ![t.val / 4 % 4, t.val % 2, t.val / 2 % 2] ∧ win0_2.index t = ![t.val / 2 % 8, t.val / 16, 0] :=
  (by decide +kernel : ∀ t : Fin grid0.N, _)

/-- The point before the last one of a run of two. -/
abbrev before (t : Fin cfg0.N) : Fin cfg0.N := ⟨t.val - 1, Nat.lt_of_le_of_lt (Nat.sub_le _ _) t.isLt⟩

theorem scratch (c : Dev nD) (t : Fin cfg0.N) (h : t.val % 2 = 0) (j : S1024x1024.Idx) :
    (outsAt0 m c t.val t.isLt).2 j = part (iblk m c 0 t) (iblk m c 1 t) j := by
  rw [outsAt0_A m c t h (by omega)]
  frame_out
  rw [pay1_at]

theorem result (c : Dev nD) (t : Fin cfg0.N) (h : t.val % 2 = 1) (j : S1x1024x1024.Idx) :
    (outsAt0 m c t.val t.isLt).1 j = part (iblk m c 0 (before t)) (iblk m c 1 (before t)) (ix2 (j 1) (j 2)) + part (iblk m c 0 t) (iblk m c 1 t) (ix2 (j 1) (j 2)) := by
  rw [outsAt0_B m c t (by omega) h]
  frame_out
  simp only [read_unread_whole]
  rw [pay3_at, scratch m c (before t) (by show (t.val - 1) % 2 = 0; omega)]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, result m c t h1]
  refine Tiles.sum_two (n := 2048) rfl (fun k => ?_) (fun k => ?_)
  · blk_point [iblk, V, idx t, idx (before t)]
  · blk_point [iblk, V, idx t]

/-- The reference's result is the same product. -/
theorem reference_at (X : FVec Ideal S4096x2048 .bf16) (Y : FVec Ideal S4x4096x2048 .bf16) : Cert.RefHgrnInWIdeal.Read.val_main_v10 (F := Ideal) X Y = ref X Y := by
  funext i
  pointwise [Cert.RefHgrnInWIdeal.Read.val_main_v0, Cert.RefHgrnInWIdeal.Read.val_main_cst, Cert.RefHgrnInWIdeal.Read.val_main_v1, Cert.RefHgrnInWIdeal.Read.val_main_v2, Cert.RefHgrnInWIdeal.Read.val_main_v3, Cert.RefHgrnInWIdeal.Read.val_main_v4, Cert.RefHgrnInWIdeal.Read.val_main_v5, Cert.RefHgrnInWIdeal.Read.val_main_v6, Cert.RefHgrnInWIdeal.Read.val_main_v7, Cert.RefHgrnInWIdeal.Read.val_main_v8, Cert.RefHgrnInWIdeal.Read.val_main_v9, Cert.RefHgrnInWIdeal.Read.val_main_v10]
  exact Fin.sum_fin_congr fun k => mul_comm _ _

/-- The host-only reference ends with its arguments unchanged and, having no semaphore, every counter at zero. -/
theorem frame_reference : @Cert.quiescent_RefHgrnInWIdeal Cert.RefHgrnInWIdeal.Gen.facts := fun m ρ _ =>
  (θ_run Cert.RefHgrnInWIdeal.defs _ _).mono (fun r h => ⟨fun c => (h c).2, sem_eq_zero_of_no_sems (by decide) r.2⟩)
    (Cert.RefHgrnInWIdeal.Value.run (F := Ideal) m ρ)

theorem algebraic : @Cert.algebraic_HgrnInWIdeal_RefHgrnInWIdeal Cert.HgrnInWIdeal.Gen.facts Cert.RefHgrnInWIdeal.Gen.facts := by
  intro m g m' g' _ hag
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefHgrnInWIdeal.defs _ _).mono (fun _ h c => ⟨(h c).1.trans ?_, (h c).2⟩) (Cert.RefHgrnInWIdeal.Value.run (F := Ideal) m' g')⟩
  obtain ⟨e0, e1⟩ := hag c
  rw [Cert.RefHgrnInWIdeal.Read.val_main_v10_eq, e0, e1]
  exact reference_at _ _

end Cert.HgrnInWIdeal.Product
end
-- ==== Proof.HgrnInX.lean ====
module

public import proofs.«01_k».proof.Defs
public import proofs.«01_k».proof.Proof.Gen.HgrnInXIdeal
public import proofs.«01_k».proof.Proof.Gen.HgrnInXIdeal.Value
public import proofs.«01_k».proof.Proof.Gen.RefHgrnInXIdeal
public import proofs.«01_k».proof.Proof.Gen.RefHgrnInXIdeal.Run
public import proofs.«01_k».proof.Proof.Gen.RefHgrnInXIdeal.Read
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.HgrnInXIdeal.Product

open Cert.HgrnInXIdeal Cert.HgrnInXIdeal.Gen Idealize.ShloMosaic Idealize.ShloMosaic.TcCoe
open Idealize.ShloMosaic.Pipeline (Dat)
open Idealize.SL.Sem

/-- Column `l` of the gradient, whose four parts lie one behind the other. -/
abbrev ref (X : FVec Ideal S4x4096x2048 .bf16) (W : FVec Ideal S8x2048x1024 .bf16) : FVec Ideal S4096x2048 .f32 := fun i =>
  ∑ l : Fin 8192, X (ix3 ⟨l.val / 2048, by omega⟩ (i 0) ⟨l.val % 2048, by omega⟩) * W (ix3 ⟨l.val / 1024, by omega⟩ (i 1) ⟨l.val % 1024, by omega⟩)

/-- The summand of one grid point: the product of the two blocks it reads. -/
abbrev part (x w : FVec Ideal S1x1024x1024 .bf16) (j : S1024x1024.Idx) : EReal := ∑ k : Fin 1024, x (ix3 0 (j 0) k) * w (ix3 0 (j 1) k)

theorem pay1_at (x w j) : k0_pay1 (F := Ideal) x w j = part x w j := by pointwise [k0_pay1]
theorem pay2_at (a x w j) : k0_pay2 (F := Ideal) a x w j = a j + part x w j := by pointwise [k0_pay2]
theorem pay3_at (a x w j) : k0_pay3 (F := Ideal) a x w j = a j + part x w j := by pointwise [k0_pay3]

variable (m : (ℓ : Loc nD τ sig) → Buf (Elt Ideal) ℓ)

theorem idx : ∀ t : Fin cfg0.N, win0_0.index t = ![t.val % 8 / 2, t.val / 16, t.val % 2] ∧ win0_1.index t = ![t.val % 8, t.val / 8 % 2, 0] ∧ win0_2.index t = ![t.val / 16, t.val / 8 % 2] :=
  (by decide +kernel : ∀ t : Fin grid0.N, _)

/-- What the run of eight points has gathered after point `n`: in the scratch, and at its last point in the result's block. -/
def gathered (c : Dev nD) (n : ℕ) (h : n < cfg0.N) : FVec Ideal S1024x1024 .f32 :=
  if n % 8 = 7 then (outsAt0 m c n h).1 else (outsAt0 m c n h).2

theorem first (c : Dev nD) (t : Fin cfg0.N) (h : t.val % 8 = 0) (j : S1024x1024.Idx) :
    gathered m c t.val t.isLt j = (fun _ => (0 : EReal)) j + part (iblk m c 0 t) (iblk m c 1 t) j := by
  rw [gathered, if_neg (by omega), outsAt0_A m c t h (by omega) (by omega)]
  frame_out
  rw [pay1_at, zero_add]

theorem next (c : Dev nD) (t : Fin cfg0.N) (h : ¬ t.val % 8 = 0) (j : S1024x1024.Idx) :
    gathered m c t.val t.isLt j = gathered m c (t.val - 1) (Nat.lt_of_le_of_lt (Nat.sub_le _ _) t.isLt) j + part (iblk m c 0 t) (iblk m c 1 t) j := by
  unfold gathered
  rw [if_neg (show ¬ (t.val - 1) % 8 = 7 by omega)]
  by_cases h7 : t.val % 8 = 7
  · rw [if_pos h7, outsAt0_C m c t h (by omega) h7]
    frame_out
    simp only [read_unread_whole]
    rw [pay3_at]
  · rw [if_neg h7, outsAt0_B m c t h (by omega) h7]
    frame_out
    simp only [read_unread_whole]
    rw [pay2_at]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2]
  have e : (outsAt0 m c t.val t.isLt).1 = gathered m c t.val t.isLt := (if_pos h7).symm
  rw [e, Pipeline.eq_sum_fin_of_reset_step_apply_of_flush (fun n h => gathered m c n h) 8 (fun _ => 0) _ (first m c) (next m c) t h7 _, zero_add]
  refine Fin.sum_mul_add_congr fun s k hl => ?_
  blk_point [iblk, V, idx t, idx ⟨_, Pipeline.run_point_lt_of_flush t h7 s⟩]

/-- The reference's result is the same product. -/
theorem reference_at (X : FVec Ideal S4x4096x2048 .bf16) (W : FVec Ideal S8x2048x1024 .bf16) : Cert.RefHgrnInXIdeal.Read.val_main_v8 (F := Ideal) X W = ref X W := by
  funext i
  pointwise [Cert.RefHgrnInXIdeal.Read.val_main_v0, Cert.RefHgrnInXIdeal.Read.val_main_cst, Cert.RefHgrnInXIdeal.Read.val_main_v1, Cert.RefHgrnInXIdeal.Read.val_main_v2, Cert.RefHgrnInXIdeal.Read.val_main_v3, Cert.RefHgrnInXIdeal.Read.val_main_v4, Cert.RefHgrnInXIdeal.Read.val_main_v5, Cert.RefHgrnInXIdeal.Read.val_main_v6, Cert.RefHgrnInXIdeal.Read.val_main_v7, Cert.RefHgrnInXIdeal.Read.val_main_v8]

/-- The host-only reference ends with its arguments unchanged and, having no semaphore, every counter at zero. -/
theorem frame_reference : @Cert.quiescent_RefHgrnInXIdeal Cert.RefHgrnInXIdeal.Gen.facts := fun m ρ _ =>
  (θ_run Cert.RefHgrnInXIdeal.defs _ _).mono (fun r h => ⟨fun c => (h c).2, sem_eq_zero_of_no_sems (by decide) r.2⟩)
    (Cert.RefHgrnInXIdeal.Value.run (F := Ideal) m ρ)

theorem algebraic : @Cert.algebraic_HgrnInXIdeal_RefHgrnInXIdeal Cert.HgrnInXIdeal.Gen.facts Cert.RefHgrnInXIdeal.Gen.facts := by
  intro m g m' g' _ hag
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefHgrnInXIdeal.defs _ _).mono (fun _ h c => ⟨(h c).1.trans ?_, (h c).2⟩) (Cert.RefHgrnInXIdeal.Value.run (F := Ideal) m' g')⟩
  obtain ⟨e0, e1⟩ := hag c
  rw [Cert.RefHgrnInXIdeal.Read.val_main_v8_eq, e0, e1]
  exact reference_at _ _

end Cert.HgrnInXIdeal.Product
end
-- ==== Proof.MambaOutW.lean ====
module

public import proofs.«01_k».proof.Defs
public import proofs.«01_k».proof.Proof.Gen.MambaOutWIdeal
public import proofs.«01_k».proof.Proof.Gen.MambaOutWIdeal.Value
public import proofs.«01_k».proof.Proof.Gen.RefMambaOutWIdeal
public import proofs.«01_k».proof.Proof.Gen.RefMambaOutWIdeal.Run
public import proofs.«01_k».proof.Proof.Gen.RefMambaOutWIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaOutWIdeal.Product

open Cert.MambaOutWIdeal Cert.MambaOutWIdeal.Gen Idealize.ShloMosaic Idealize.ShloMosaic.TcCoe
open Idealize.ShloMosaic.Pipeline (Dat)
open Idealize.SL.Sem

theorem pay1_at (x w j) : k0_pay1 (F := Ideal) x w j = Tiles.columns x w j := by pointwise [k0_pay1]
theorem pay3_at (a x w j) : k0_pay3 (F := Ideal) a x w j = a j + Tiles.columns x w j := by pointwise [k0_pay3]

variable (m : (ℓ : Loc nD τ sig) → Buf (Elt Ideal) ℓ)

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

/-- The point before the last one of a run of two. -/
abbrev before (t : Fin cfg0.N) : Fin cfg0.N := ⟨t.val - 1, Nat.lt_of_le_of_lt (Nat.sub_le _ _) t.isLt⟩

theorem scratch (c : Dev nD) (t : Fin cfg0.N) (h : t.val % 2 = 0) (j : S1024x1024.Idx) :
    (outsAt0 m c t.val t.isLt).2 j = Tiles.columns (iblk m c 0 t) (iblk m c 1 t) j := by
  rw [outsAt0_A m c t h (by omega)]
  frame_out
  rw [pay1_at]

theorem result (c : Dev nD) (t : Fin cfg0.N) (h : t.val % 2 = 1) (j : S1024x1024.Idx) :
    (outsAt0 m c t.val t.isLt).1 j = Tiles.columns (iblk m c 0 (before t)) (iblk m c 1 (before t)) j + Tiles.columns (iblk m c 0 t) (iblk m c 1 t) j := by
  rw [outsAt0_B m c t (by omega) h]
  frame_out
  simp only [read_unread_whole]
  rw [pay3_at, scratch m c (before t) (by show (t.val - 1) % 2 = 0; omega)]

theorem final (c : Dev nD) : (dats m 0 c).arrAt 2 cfg0.N = Tiles.columns (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, result m c t h1]
  refine Tiles.sum_two (n := 2048) rfl (fun k => ?_) (fun k => ?_)
  · blk_point [iblk, V, idx t, idx (before t)]
  · blk_point [iblk, V, idx t]

/-- The reference's result is the same product. -/
theorem reference_at (X : FVec Ideal S4096x4096 .bf16) (Y : FVec Ideal S4096x2048 .f32) : Cert.RefMambaOutWIdeal.Read.val_main_v5 (F := Ideal) X Y = Tiles.columns X Y := by
  funext i
  pointwise [Cert.RefMambaOutWIdeal.Read.val_main_v0, Cert.RefMambaOutWIdeal.Read.val_main_cst, Cert.RefMambaOutWIdeal.Read.val_main_v1, Cert.RefMambaOutWIdeal.Read.val_main_v2, Cert.RefMambaOutWIdeal.Read.val_main_v3, Cert.RefMambaOutWIdeal.Read.val_main_v4, Cert.RefMambaOutWIdeal.Read.val_main_v5]
  exact Fin.sum_fin_congr fun k => mul_comm _ _

/-- The host-only reference ends with its arguments unchanged and, having no semaphore, every counter at zero. -/
theorem frame_reference : @Cert.quiescent_RefMambaOutWIdeal Cert.RefMambaOutWIdeal.Gen.facts := fun m ρ _ =>
  (θ_run Cert.RefMambaOutWIdeal.defs _ _).mono (fun r h => ⟨fun c => (h c).2, sem_eq_zero_of_no_sems (by decide) r.2⟩)
    (Cert.RefMambaOutWIdeal.Value.run (F := Ideal) m ρ)

theorem algebraic : @Cert.algebraic_MambaOutWIdeal_RefMambaOutWIdeal Cert.MambaOutWIdeal.Gen.facts Cert.RefMambaOutWIdeal.Gen.facts := by
  intro m g m' g' _ hag
  refine ⟨fun c => Tiles.columns (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefMambaOutWIdeal.defs _ _).mono (fun _ h c => ⟨(h c).1.trans ?_, (h c).2⟩) (Cert.RefMambaOutWIdeal.Value.run (F := Ideal) m' g')⟩
  obtain ⟨e0, e1⟩ := hag c
  rw [Cert.RefMambaOutWIdeal.Read.val_main_v5_eq, e0, e1]
  exact reference_at _ _

end Cert.MambaOutWIdeal.Product
end
-- ==== Proof.MambaOutX.lean ====
module

public import proofs.«01_k».proof.Defs
public import proofs.«01_k».proof.Proof.Gen.MambaOutXIdeal
public import proofs.«01_k».proof.Proof.Gen.MambaOutXIdeal.Value
public import proofs.«01_k».proof.Proof.Gen.RefMambaOutXIdeal
public import proofs.«01_k».proof.Proof.Gen.RefMambaOutXIdeal.Run
public import proofs.«01_k».proof.Proof.Gen.RefMambaOutXIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaOutXIdeal.Product

open Cert.MambaOutXIdeal Cert.MambaOutXIdeal.Gen Idealize.ShloMosaic Idealize.ShloMosaic.TcCoe
open Idealize.ShloMosaic.Pipeline (Dat)
open Idealize.SL.Sem

theorem pay_at (x w j) : k0_pay1 (F := Ideal) x w j = ∑ k : Fin 2048, x (ix2 (j 0) k) * w (ix2 (j 1) k) := by pointwise [k0_pay1]

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem final (c : Dev nD) : (dats m 0 c).arrAt 2 cfg0.N = Tiles.rows (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  refine Fin.sum_fin_congr fun k => ?_
  blk_point [iblk, V, idx t]

/-- The reference's result is the same product. -/
theorem reference_at (X : FVec Ideal S4096x2048 .f32) (W : FVec Ideal S4096x2048 .bf16) : Cert.RefMambaOutXIdeal.Read.val_main_v4 (F := Ideal) X W = Tiles.rows X W := by
  funext i
  pointwise [Cert.RefMambaOutXIdeal.Read.val_main_v0, Cert.RefMambaOutXIdeal.Read.val_main_cst, Cert.RefMambaOutXIdeal.Read.val_main_v1, Cert.RefMambaOutXIdeal.Read.val_main_v2, Cert.RefMambaOutXIdeal.Read.val_main_v3, Cert.RefMambaOutXIdeal.Read.val_main_v4]

/-- The host-only reference ends with its arguments unchanged and, having no semaphore, every counter at zero. -/
theorem frame_reference : @Cert.quiescent_RefMambaOutXIdeal Cert.RefMambaOutXIdeal.Gen.facts := fun m ρ _ =>
  (θ_run Cert.RefMambaOutXIdeal.defs _ _).mono (fun r h => ⟨fun c => (h c).2, sem_eq_zero_of_no_sems (by decide) r.2⟩)
    (Cert.RefMambaOutXIdeal.Value.run (F := Ideal) m ρ)

theorem algebraic : @Cert.algebraic_MambaOutXIdeal_RefMambaOutXIdeal Cert.MambaOutXIdeal.Gen.facts Cert.RefMambaOutXIdeal.Gen.facts := by
  intro m g m' g' _ hag
  refine ⟨fun c => Tiles.rows (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefMambaOutXIdeal.defs _ _).mono (fun _ h c => ⟨(h c).1.trans ?_, (h c).2⟩) (Cert.RefMambaOutXIdeal.Value.run (F := Ideal) m' g')⟩
  obtain ⟨e0, e1⟩ := hag c
  rw [Cert.RefMambaOutXIdeal.Read.val_main_v4_eq, e0, e1]
  exact reference_at _ _

end Cert.MambaOutXIdeal.Product
end
-- ==== Proof.MambaZW.lean ====
module

public import proofs.«01_k».proof.Defs
public import proofs.«01_k».proof.Proof.Gen.MambaZWIdeal
public import proofs.«01_k».proof.Proof.Gen.MambaZWIdeal.Value
public import proofs.«01_k».proof.Proof.Gen.RefMambaZWIdeal
public import proofs.«01_k».proof.Proof.Gen.RefMambaZWIdeal.Run
public import proofs.«01_k».proof.Proof.Gen.RefMambaZWIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaZWIdeal.Product

open Cert.MambaZWIdeal Cert.MambaZWIdeal.Gen Idealize.ShloMosaic Idealize.ShloMosaic.TcCoe
open Idealize.ShloMosaic.Pipeline (Dat)
open Idealize.SL.Sem

theorem pay1_at (x w j) : k0_pay1 (F := Ideal) x w j = Tiles.columns x w j := by pointwise [k0_pay1]
theorem pay3_at (a x w j) : k0_pay3 (F := Ideal) a x w j = a j + Tiles.columns x w j := by pointwise [k0_pay3]

variable (m : (ℓ : Loc nD τ sig) → Buf (Elt Ideal) ℓ)

theorem idx : ∀ t : Fin cfg0.N, win0_0.index t = ![t.val % 2, t.val / 8] ∧ win0_1.index t = ![t.val % 2, t.val / 2 % 4] ∧ win0_2.index t = ![t.val / 8, t.val / 2 % 4] :=
  (by decide +kernel : ∀ t : Fin grid0.N, _)

/-- The point before the last one of a run of two. -/
abbrev before (t : Fin cfg0.N) : Fin cfg0.N := ⟨t.val - 1, Nat.lt_of_le_of_lt (Nat.sub_le _ _) t.isLt⟩

theorem scratch (c : Dev nD) (t : Fin cfg0.N) (h : t.val % 2 = 0) (j : S1024x1024.Idx) :
    (outsAt0 m c t.val t.isLt).2 j = Tiles.columns (iblk m c 0 t) (iblk m c 1 t) j := by
  rw [outsAt0_A m c t h (by omega)]
  frame_out
  rw [pay1_at]

theorem result (c : Dev nD) (t : Fin cfg0.N) (h : t.val % 2 = 1) (j : S1024x1024.Idx) :
    (outsAt0 m c t.val t.isLt).1 j = Tiles.columns (iblk m c 0 (before t)) (iblk m c 1 (before t)) j + Tiles.columns (iblk m c 0 t) (iblk m c 1 t) j := by
  rw [outsAt0_B m c t (by omega) h]
  frame_out
  simp only [read_unread_whole]
  rw [pay3_at, scratch m c (before t) (by show (t.val - 1) % 2 = 0; omega)]

theorem final (c : Dev nD) : (dats m 0 c).arrAt 2 cfg0.N = Tiles.columns (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, result m c t h1]
  refine Tiles.sum_two (n := 2048) rfl (fun k => ?_) (fun k => ?_)
  · blk_point [iblk, V, idx t, idx (before t)]
  · blk_point [iblk, V, idx t]

/-- The reference's result is the same product. -/
theorem reference_at (X : FVec Ideal S4096x2048 .bf16) (Y : FVec Ideal S4096x4096 .bf16) : Cert.RefMambaZWIdeal.Read.val_main_v6 (F := Ideal) X Y = Tiles.columns X Y := by
  funext i
  pointwise [Cert.RefMambaZWIdeal.Read.val_main_v0, Cert.RefMambaZWIdeal.Read.val_main_cst, Cert.RefMambaZWIdeal.Read.val_main_v1, Cert.RefMambaZWIdeal.Read.val_main_v2, Cert.RefMambaZWIdeal.Read.val_main_v3, Cert.RefMambaZWIdeal.Read.val_main_v4, Cert.RefMambaZWIdeal.Read.val_main_v5, Cert.RefMambaZWIdeal.Read.val_main_v6]
  exact Fin.sum_fin_congr fun k => mul_comm _ _

/-- The host-only reference ends with its arguments unchanged and, having no semaphore, every counter at zero. -/
theorem frame_reference : @Cert.quiescent_RefMambaZWIdeal Cert.RefMambaZWIdeal.Gen.facts := fun m ρ _ =>
  (θ_run Cert.RefMambaZWIdeal.defs _ _).mono (fun r h => ⟨fun c => (h c).2, sem_eq_zero_of_no_sems (by decide) r.2⟩)
    (Cert.RefMambaZWIdeal.Value.run (F := Ideal) m ρ)

theorem algebraic : @Cert.algebraic_MambaZWIdeal_RefMambaZWIdeal Cert.MambaZWIdeal.Gen.facts Cert.RefMambaZWIdeal.Gen.facts := by
  intro m g m' g' _ hag
  refine ⟨fun c => Tiles.columns (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefMambaZWIdeal.defs _ _).mono (fun _ h c => ⟨(h c).1.trans ?_, (h c).2⟩) (Cert.RefMambaZWIdeal.Value.run (F := Ideal) m' g')⟩
  obtain ⟨e0, e1⟩ := hag c
  rw [Cert.RefMambaZWIdeal.Read.val_main_v6_eq, e0, e1]
  exact reference_at _ _

end Cert.MambaZWIdeal.Product
end
-- ==== Proof.MambaZX.lean ====
module

public import proofs.«01_k».proof.Defs
public import proofs.«01_k».proof.Proof.Gen.MambaZXIdeal
public import proofs.«01_k».proof.Proof.Gen.MambaZXIdeal.Value
public import proofs.«01_k».proof.Proof.Gen.RefMambaZXIdeal
public import proofs.«01_k».proof.Proof.Gen.RefMambaZXIdeal.Run
public import proofs.«01_k».proof.Proof.Gen.RefMambaZXIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaZXIdeal.Product

open Cert.MambaZXIdeal Cert.MambaZXIdeal.Gen Idealize.ShloMosaic Idealize.ShloMosaic.TcCoe
open Idealize.ShloMosaic.Pipeline (Dat)
open Idealize.SL.Sem

/-- Each row of the gradient at the gate against the first 4096 columns of each row of the weight, which are the gate's. -/
abbrev ref (X : FVec Ideal S4096x4096 .bf16) (W : FVec Ideal S2048x10304 .bf16) : FVec Ideal S4096x2048 .f32 := fun i =>
  ∑ l : Fin 4096, X (ix2 (i 0) l) * W (ix2 (i 1) ⟨l.val, by omega⟩)

theorem pay1_at (x w j) : k0_pay1 (F := Ideal) x w j = Tiles.rows x w j := by pointwise [k0_pay1]
theorem pay3_at (a x w j) : k0_pay3 (F := Ideal) a x w j = a j + Tiles.rows x w j := by pointwise [k0_pay3]

variable (m : (ℓ : Loc nD τ sig) → Buf (Elt Ideal) ℓ)

theorem idx : ∀ t : Fin cfg0.N, win0_0.index t = ![t.val / 4, t.val % 2] ∧ win0_1.index t = ![t.val / 2 % 2, t.val % 2] ∧ win0_2.index t = ![t.val / 4, t.val / 2 % 2] :=
  (by decide +kernel : ∀ t : Fin grid0.N, _)

/-- The point before the last one of a run of two. -/
abbrev before (t : Fin cfg0.N) : Fin cfg0.N := ⟨t.val - 1, Nat.lt_of_le_of_lt (Nat.sub_le _ _) t.isLt⟩

theorem scratch (c : Dev nD) (t : Fin cfg0.N) (h : t.val % 2 = 0) (j : S1024x1024.Idx) :
    (outsAt0 m c t.val t.isLt).2 j = Tiles.rows (iblk m c 0 t) (iblk m c 1 t) j := by
  rw [outsAt0_A m c t h (by omega)]
  frame_out
  rw [pay1_at]

theorem result (c : Dev nD) (t : Fin cfg0.N) (h : t.val % 2 = 1) (j : S1024x1024.Idx) :
    (outsAt0 m c t.val t.isLt).1 j = Tiles.rows (iblk m c 0 (before t)) (iblk m c 1 (before t)) j + Tiles.rows (iblk m c 0 t) (iblk m c 1 t) j := by
  rw [outsAt0_B m c t (by omega) h]
  frame_out
  simp only [read_unread_whole]
  rw [pay3_at, scratch m c (before t) (by show (t.val - 1) % 2 = 0; omega)]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, result m c t h1]
  refine Tiles.sum_two (n := 2048) rfl (fun k => ?_) (fun k => ?_)
  · blk_point [iblk, V, idx t, idx (before t)]
  · blk_point [iblk, V, idx t]

/-- The reference's result is the same product. -/
theorem reference_at (X : FVec Ideal S4096x4096 .bf16) (W : FVec Ideal S2048x10304 .bf16) : Cert.RefMambaZXIdeal.Read.val_main_v5 (F := Ideal) X W = ref X W := by
  funext i
  pointwise [Cert.RefMambaZXIdeal.Read.val_main_v0, Cert.RefMambaZXIdeal.Read.val_main_v1, Cert.RefMambaZXIdeal.Read.val_main_cst, Cert.RefMambaZXIdeal.Read.val_main_v2, Cert.RefMambaZXIdeal.Read.val_main_v3, Cert.RefMambaZXIdeal.Read.val_main_v4, Cert.RefMambaZXIdeal.Read.val_main_v5]

/-- The host-only reference ends with its arguments unchanged and, having no semaphore, every counter at zero. -/
theorem frame_reference : @Cert.quiescent_RefMambaZXIdeal Cert.RefMambaZXIdeal.Gen.facts := fun m ρ _ =>
  (θ_run Cert.RefMambaZXIdeal.defs _ _).mono (fun r h => ⟨fun c => (h c).2, sem_eq_zero_of_no_sems (by decide) r.2⟩)
    (Cert.RefMambaZXIdeal.Value.run (F := Ideal) m ρ)

theorem algebraic : @Cert.algebraic_MambaZXIdeal_RefMambaZXIdeal Cert.MambaZXIdeal.Gen.facts Cert.RefMambaZXIdeal.Gen.facts := by
  intro m g m' g' _ hag
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefMambaZXIdeal.defs _ _).mono (fun _ h c => ⟨(h c).1.trans ?_, (h c).2⟩) (Cert.RefMambaZXIdeal.Value.run (F := Ideal) m' g')⟩
  obtain ⟨e0, e1⟩ := hag c
  rw [Cert.RefMambaZXIdeal.Read.val_main_v5_eq, e0, e1]
  exact reference_at _ _

end Cert.MambaZXIdeal.Product
end
-- ==== Proof.MambaXbcW.lean ====
module

public import proofs.«01_k».proof.Defs
public import proofs.«01_k».proof.Proof.Gen.MambaXbcWIdeal
public import proofs.«01_k».proof.Proof.Gen.MambaXbcWIdeal.Value
public import proofs.«01_k».proof.Proof.Gen.RefMambaXbcWIdeal
public import proofs.«01_k».proof.Proof.Gen.RefMambaXbcWIdeal.Run
public import proofs.«01_k».proof.Proof.Gen.RefMambaXbcWIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaXbcWIdeal.Product

open Cert.MambaXbcWIdeal Cert.MambaXbcWIdeal.Gen Idealize.ShloMosaic Idealize.ShloMosaic.TcCoe
open Idealize.ShloMosaic.Pipeline (Dat)
open Idealize.SL.Sem

theorem pay1_at (x w j) : k0_pay1 (F := Ideal) x w j = Tiles.columns x w j := by pointwise [k0_pay1]
theorem pay3_at (a x w j) : k0_pay3 (F := Ideal) a x w j = a j + Tiles.columns x w j := by pointwise [k0_pay3]

variable (m : (ℓ : Loc nD τ sig) → Buf (Elt Ideal) ℓ)

theorem idx : ∀ t : Fin cfg0.N, win0_0.index t = ![t.val % 2, t.val / 12] ∧ win0_1.index t = ![t.val % 2, t.val / 2 % 6] ∧ win0_2.index t = ![t.val / 12, t.val / 2 % 6] :=
  (by decide +kernel : ∀ t : Fin grid0.N, _)

/-- The point before the last one of a run of two. -/
abbrev before (t : Fin cfg0.N) : Fin cfg0.N := ⟨t.val - 1, Nat.lt_of_le_of_lt (Nat.sub_le _ _) t.isLt⟩

theorem scratch (c : Dev nD) (t : Fin cfg0.N) (h : t.val % 2 = 0) (j : S1024x1024.Idx) :
    (outsAt0 m c t.val t.isLt).2 j = Tiles.columns (iblk m c 0 t) (iblk m c 1 t) j := by
  rw [outsAt0_A m c t h (by omega)]
  frame_out
  rw [pay1_at]

theorem result (c : Dev nD) (t : Fin cfg0.N) (h : t.val % 2 = 1) (j : S1024x1024.Idx) :
    (outsAt0 m c t.val t.isLt).1 j = Tiles.columns (iblk m c 0 (before t)) (iblk m c 1 (before t)) j + Tiles.columns (iblk m c 0 t) (iblk m c 1 t) j := by
  rw [outsAt0_B m c t (by omega) h]
  frame_out
  simp only [read_unread_whole]
  rw [pay3_at, scratch m c (before t) (by show (t.val - 1) % 2 = 0; omega)]

theorem final (c : Dev nD) : (dats m 0 c).arrAt 2 cfg0.N = Tiles.columns (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, result m c t h1]
  refine Tiles.sum_two (n := 2048) rfl (fun k => ?_) (fun k => ?_)
  · blk_point [iblk, V, idx t, idx (before t)]
  · blk_point [iblk, V, idx t]

/-- The reference's result is the same product. -/
theorem reference_at (X : FVec Ideal S4096x2048 .bf16) (Y : FVec Ideal S4096x6144 .bf16) : Cert.RefMambaXbcWIdeal.Read.val_main_v6 (F := Ideal) X Y = Tiles.columns X Y := by
  funext i
  pointwise [Cert.RefMambaXbcWIdeal.Read.val_main_v0, Cert.RefMambaXbcWIdeal.Read.val_main_cst, Cert.RefMambaXbcWIdeal.Read.val_main_v1, Cert.RefMambaXbcWIdeal.Read.val_main_v2, Cert.RefMambaXbcWIdeal.Read.val_main_v3, Cert.RefMambaXbcWIdeal.Read.val_main_v4, Cert.RefMambaXbcWIdeal.Read.val_main_v5, Cert.RefMambaXbcWIdeal.Read.val_main_v6]
  exact Fin.sum_fin_congr fun k => mul_comm _ _

/-- The host-only reference ends with its arguments unchanged and, having no semaphore, every counter at zero. -/
theorem frame_reference : @Cert.quiescent_RefMambaXbcWIdeal Cert.RefMambaXbcWIdeal.Gen.facts := fun m ρ _ =>
  (θ_run Cert.RefMambaXbcWIdeal.defs _ _).mono (fun r h => ⟨fun c => (h c).2, sem_eq_zero_of_no_sems (by decide) r.2⟩)
    (Cert.RefMambaXbcWIdeal.Value.run (F := Ideal) m ρ)

theorem algebraic : @Cert.algebraic_MambaXbcWIdeal_RefMambaXbcWIdeal Cert.MambaXbcWIdeal.Gen.facts Cert.RefMambaXbcWIdeal.Gen.facts := by
  intro m g m' g' _ hag
  refine ⟨fun c => Tiles.columns (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefMambaXbcWIdeal.defs _ _).mono (fun _ h c => ⟨(h c).1.trans ?_, (h c).2⟩) (Cert.RefMambaXbcWIdeal.Value.run (F := Ideal) m' g')⟩
  obtain ⟨e0, e1⟩ := hag c
  rw [Cert.RefMambaXbcWIdeal.Read.val_main_v6_eq, e0, e1]
  exact reference_at _ _

end Cert.MambaXbcWIdeal.Product
end
-- ==== Proof.MambaXbcX.lean ====
module

public import proofs.«01_k».proof.Defs
public import proofs.«01_k».proof.Proof.Gen.MambaXbcXIdeal
public import proofs.«01_k».proof.Proof.Gen.MambaXbcXIdeal.Value
public import proofs.«01_k».proof.Proof.Gen.RefMambaXbcXIdeal
public import proofs.«01_k».proof.Proof.Gen.RefMambaXbcXIdeal.Run
public import proofs.«01_k».proof.Proof.Gen.RefMambaXbcXIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaXbcXIdeal.Product

open Cert.MambaXbcXIdeal Cert.MambaXbcXIdeal.Gen Idealize.ShloMosaic Idealize.ShloMosaic.TcCoe
open Idealize.ShloMosaic.Pipeline (Dat)
open Idealize.SL.Sem

/-- Each row of the gradient at the convolution's argument against columns 4096 to 10240 of each row of the weight, on top of
    what the gate's part of the weight left. -/
abbrev ref (X : FVec Ideal S4096x6144 .bf16) (W : FVec Ideal S2048x10304 .bf16) (A : FVec Ideal S4096x2048 .f32) : FVec Ideal S4096x2048 .f32 := fun i =>
  A i + ∑ l : Fin 6144, X (ix2 (i 0) l) * W (ix2 (i 1) ⟨4096 + l.val, by omega⟩)

/-- One entry of the block that is added on. -/
abbrev lane (b : FVec Ideal S1024x1024 .f32) (j : S1024x1024.Idx) : EReal := b j

theorem pay1_at (x w j) : k0_pay1 (F := Ideal) x w j = Tiles.rows x w j := by pointwise [k0_pay1]
theorem pay2_at (a x w j) : k0_pay2 (F := Ideal) a x w j = a j + Tiles.rows x w j := by pointwise [k0_pay2]
theorem pay3_at (a x w b j) : k0_pay3 (F := Ideal) a x w b j = lane b j + (a j + Tiles.rows x w j) := by
  rw [add_comm]; pointwise [k0_pay3]

variable (m : (ℓ : Loc nD τ sig) → Buf (Elt Ideal) ℓ)

theorem idx : ∀ t : Fin cfg0.N, win0_0.index t = ![t.val / 6, t.val % 3] ∧ win0_1.index t = ![t.val / 3 % 2, t.val % 3] ∧
    win0_2.index t = ![t.val / 6, t.val / 3 % 2] ∧ win0_3.index t = ![t.val / 6, t.val / 3 % 2] :=
  (by decide +kernel : ∀ t : Fin grid0.N, _)

/-- The point before `t`, within its run of three. -/
abbrev before (t : Fin cfg0.N) : Fin cfg0.N := ⟨t.val - 1, Nat.lt_of_le_of_lt (Nat.sub_le _ _) t.isLt⟩

theorem scratch_first (c : Dev nD) (t : Fin cfg0.N) (h : t.val % 3 = 0) (j : S1024x1024.Idx) :
    (outsAt0 m c t.val t.isLt).2 j = Tiles.rows (iblk m c 0 t) (iblk m c 1 t) j := by
  rw [outsAt0_A m c t h (by omega) (by omega)]
  frame_out
  rw [pay1_at]

theorem scratch_next (c : Dev nD) (t : Fin cfg0.N) (h : t.val % 3 = 1) (j : S1024x1024.Idx) :
    (outsAt0 m c t.val t.isLt).2 j = Tiles.rows (iblk m c 0 (before t)) (iblk m c 1 (before t)) j + Tiles.rows (iblk m c 0 t) (iblk m c 1 t) j := by
  rw [outsAt0_B m c t (by omega) h (by omega)]
  frame_out
  simp only [read_unread_whole]
  rw [pay2_at, scratch_first m c (before t) (by show (t.val - 1) % 3 = 0; omega)]

theorem result (c : Dev nD) (t : Fin cfg0.N) (h : t.val % 3 = 2) (j : S1024x1024.Idx) :
    (outsAt0 m c t.val t.isLt).1 j =
      lane (iblk m c 2 t) j + (Tiles.rows (iblk m c 0 (before (before t))) (iblk m c 1 (before (before t))) j
        + Tiles.rows (iblk m c 0 (before t)) (iblk m c 1 (before t)) j + Tiles.rows (iblk m c 0 t) (iblk m c 1 t) j) := by
  rw [outsAt0_C m c t (by omega) (by omega) h]
  frame_out
  simp only [read_unread_whole]
  rw [pay3_at, scratch_next m c (before t) (by show (t.val - 1) % 3 = 1; omega)]

theorem final (c : Dev nD) : (dats m 0 c).arrAt 3 cfg0.N =
    ref (m ((c : Thread nD τ).loc main_arg0)) (m ((c : Thread nD τ).loc main_arg1)) (m ((c : Thread nD τ).loc main_arg2)) := by
  refine (dats m 0 c).arrAt_eq_of_covers 3 _ (by decide +kernel) fun t hf y => ?_
  have h2 := (flush0_3 t).mp hf
  blk_simp
  rw [after0_3, result m c t h2]
  refine congrArg₂ (HAdd.hAdd (α := EReal)) ?_ (Tiles.sum_three (n := 2048) rfl (fun k => ?_) (fun k => ?_) (fun k => ?_))
  · blk_point [iblk, V, idx t]
  · blk_point [iblk, V, idx t, idx (before (before t))]
  · blk_point [iblk, V, idx t, idx (before t)]
  · blk_point [iblk, V, idx t]

/-- The reference's result is the same product, added on. -/
theorem reference_at (X : FVec Ideal S4096x6144 .bf16) (W : FVec Ideal S2048x10304 .bf16) (A : FVec Ideal S4096x2048 .f32) :
    Cert.RefMambaXbcXIdeal.Read.val_main_v6 (F := Ideal) X W A = ref X W A := by
  funext i
  pointwise [Cert.RefMambaXbcXIdeal.Read.val_main_v0, Cert.RefMambaXbcXIdeal.Read.val_main_v1, Cert.RefMambaXbcXIdeal.Read.val_main_cst, Cert.RefMambaXbcXIdeal.Read.val_main_v2, Cert.RefMambaXbcXIdeal.Read.val_main_v3, Cert.RefMambaXbcXIdeal.Read.val_main_v4, Cert.RefMambaXbcXIdeal.Read.val_main_v5, Cert.RefMambaXbcXIdeal.Read.val_main_v6]

/-- The host-only reference ends with its arguments unchanged and, having no semaphore, every counter at zero. -/
theorem frame_reference : @Cert.quiescent_RefMambaXbcXIdeal Cert.RefMambaXbcXIdeal.Gen.facts := fun m ρ _ =>
  (θ_run Cert.RefMambaXbcXIdeal.defs _ _).mono (fun r h => ⟨fun c => (h c).2, sem_eq_zero_of_no_sems (by decide) r.2⟩)
    (Cert.RefMambaXbcXIdeal.Value.run (F := Ideal) m ρ)

theorem algebraic : @Cert.algebraic_MambaXbcXIdeal_RefMambaXbcXIdeal Cert.MambaXbcXIdeal.Gen.facts Cert.RefMambaXbcXIdeal.Gen.facts := by
  intro m g m' g' _ hag
  refine ⟨fun c => ref (m ((c : Thread nD τ).loc main_arg0)) (m ((c : Thread nD τ).loc main_arg1)) (m ((c : Thread nD τ).loc main_arg2)),
    (θ_run defs _ _).mono (fun _ h c => ⟨(h c).1.trans (final m c), (h c).2⟩) (Value.run_blocks (F := Ideal) m g),
    (θ_run Cert.RefMambaXbcXIdeal.defs _ _).mono (fun _ h c => ⟨(h c).1.trans ?_, (h c).2⟩) (Cert.RefMambaXbcXIdeal.Value.run (F := Ideal) m' g')⟩
  obtain ⟨e0, e1, e2⟩ := hag c
  rw [Cert.RefMambaXbcXIdeal.Read.val_main_v6_eq, e0, e1, e2]
  exact reference_at _ _ _

end Cert.MambaXbcXIdeal.Product
end
-- ==== Proof.MambaDtW.lean ====
module

public import proofs.«01_k».proof.Defs
public import proofs.«01_k».proof.Proof.Gen.MambaDtWIdeal
public import proofs.«01_k».proof.Proof.Gen.MambaDtWIdeal.Value
public import proofs.«01_k».proof.Proof.Gen.RefMambaDtWIdeal
public import proofs.«01_k».proof.Proof.Gen.RefMambaDtWIdeal.Run
public import proofs.«01_k».proof.Proof.Gen.RefMambaDtWIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaDtWIdeal.Product

open Cert.MambaDtWIdeal Cert.MambaDtWIdeal.Gen Idealize.ShloMosaic Idealize.ShloMosaic.TcCoe
open Idealize.ShloMosaic.Pipeline (Dat)
open Idealize.SL.Sem

theorem pay1_at (x w j) : k0_pay1 (F := Ideal) x w j = Tiles.columns x w j := by pointwise [k0_pay1]
theorem pay3_at (a x w j) : k0_pay3 (F := Ideal) a x w j = a j + Tiles.columns x w j := by pointwise [k0_pay3]

variable (m : (ℓ : Loc nD τ sig) → Buf (Elt Ideal) ℓ)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The point before `t`, within its run. -/
abbrev before (t : Fin cfg0.N) : Fin cfg0.N := ⟨t.val - 1, Nat.lt_of_le_of_lt (Nat.sub_le _ _) t.isLt⟩

theorem result (c : Dev nD) (t : Fin cfg0.N) (h : t.val % 2 = 1) (j : S1024x64.Idx) :
    (outsAt0 m c t.val t.isLt).1 j = Tiles.columns (iblk m c 0 (before t)) (iblk m c 1 (before t)) j + Tiles.columns (iblk m c 0 t) (iblk m c 1 t) j := by
  rw [outsAt0_B m c t (by omega) h]
  frame_out
  simp only [read_unread_whole]
  rw [pay3_at, outsAt0_A m c (before t) (by show (t.val - 1) % 2 = 0; omega) (by show ¬ (t.val - 1) % 2 = 1; omega)]
  frame_out
  rw [pay1_at]

theorem final (c : Dev nD) : (dats m 0 c).arrAt 2 cfg0.N = Tiles.columns (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, result m c t h1]
  refine Tiles.sum_two (n := 2048) rfl (fun k => ?_) (fun k => ?_)
  · blk_point [iblk, V, idx t, idx (before t)]
  · blk_point [iblk, V, idx t]

/-- The reference's result is the same product. -/
theorem reference_at (X : FVec Ideal S4096x2048 .bf16) (W : FVec Ideal S4096x64 .bf16) : Cert.RefMambaDtWIdeal.Read.val_main_v6 (F := Ideal) X W = Tiles.columns X W := by
  funext i
  pointwise [Cert.RefMambaDtWIdeal.Read.val_main_v0, Cert.RefMambaDtWIdeal.Read.val_main_cst, Cert.RefMambaDtWIdeal.Read.val_main_v1, Cert.RefMambaDtWIdeal.Read.val_main_v2, Cert.RefMambaDtWIdeal.Read.val_main_v3, Cert.RefMambaDtWIdeal.Read.val_main_v4, Cert.RefMambaDtWIdeal.Read.val_main_v5, Cert.RefMambaDtWIdeal.Read.val_main_v6]
  exact Fin.sum_fin_congr fun k => mul_comm _ _

/-- The host-only reference ends with its arguments unchanged and, having no semaphore, every counter at zero. -/
theorem frame_reference : @Cert.quiescent_RefMambaDtWIdeal Cert.RefMambaDtWIdeal.Gen.facts := fun m ρ _ =>
  (θ_run Cert.RefMambaDtWIdeal.defs _ _).mono (fun r h => ⟨fun c => (h c).2, sem_eq_zero_of_no_sems (by decide) r.2⟩)
    (Cert.RefMambaDtWIdeal.Value.run (F := Ideal) m ρ)

theorem algebraic : @Cert.algebraic_MambaDtWIdeal_RefMambaDtWIdeal Cert.MambaDtWIdeal.Gen.facts Cert.RefMambaDtWIdeal.Gen.facts := by
  intro m g m' g' _ hag
  refine ⟨fun c => Tiles.columns (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefMambaDtWIdeal.defs _ _).mono (fun _ h c => ⟨(h c).1.trans ?_, (h c).2⟩) (Cert.RefMambaDtWIdeal.Value.run (F := Ideal) m' g')⟩
  obtain ⟨e0, e1⟩ := hag c
  rw [Cert.RefMambaDtWIdeal.Read.val_main_v6_eq, e0, e1]
  exact reference_at _ _

end Cert.MambaDtWIdeal.Product
end
-- ==== Proof.MambaDtX.lean ====
module

public import proofs.«01_k».proof.Defs
public import proofs.«01_k».proof.Proof.Gen.MambaDtXIdeal
public import proofs.«01_k».proof.Proof.Gen.MambaDtXIdeal.Value
public import proofs.«01_k».proof.Proof.Gen.RefMambaDtXIdeal
public import proofs.«01_k».proof.Proof.Gen.RefMambaDtXIdeal.Run
public import proofs.«01_k».proof.Proof.Gen.RefMambaDtXIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaDtXIdeal.Product

open Cert.MambaDtXIdeal Cert.MambaDtXIdeal.Gen Idealize.ShloMosaic Idealize.ShloMosaic.TcCoe
open Idealize.ShloMosaic.Pipeline (Dat)
open Idealize.SL.Sem

/-- Each row of the gradient at the time steps against the last 64 columns of each row of the weight, added on. -/
abbrev ref (X : FVec Ideal S4096x64 .bf16) (W : FVec Ideal S2048x10304 .bf16) (A : FVec Ideal S4096x2048 .f32) : FVec Ideal S4096x2048 .f32 := fun i =>
  Tiles.lane A i + ∑ l : Fin 64, X (ix2 (i 0) l) * W (ix2 (i 1) ⟨10240 + l.val, by omega⟩)

theorem pay_at (x w b j) : k0_pay1 (F := Ideal) x w b j = Tiles.lane b j + Tiles.rows x w j := by rw [add_comm]; pointwise [k0_pay1]

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

theorem final (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay_at]
  refine congrArg₂ (HAdd.hAdd (α := EReal)) ?_ (Fin.sum_fin_congr fun k => ?_)
  · blk_point [iblk, V, idx t]
  · blk_point [iblk, V, idx t]

/-- The reference's result is the same product. -/
theorem reference_at (X : FVec Ideal S4096x64 .bf16) (W : FVec Ideal S2048x10304 .bf16) (A : FVec Ideal S4096x2048 .f32) : Cert.RefMambaDtXIdeal.Read.val_main_v6 (F := Ideal) X W A = ref X W A := by
  funext i
  pointwise [Cert.RefMambaDtXIdeal.Read.val_main_v0, Cert.RefMambaDtXIdeal.Read.val_main_v1, Cert.RefMambaDtXIdeal.Read.val_main_cst, Cert.RefMambaDtXIdeal.Read.val_main_v2, Cert.RefMambaDtXIdeal.Read.val_main_v3, Cert.RefMambaDtXIdeal.Read.val_main_v4, Cert.RefMambaDtXIdeal.Read.val_main_v5, Cert.RefMambaDtXIdeal.Read.val_main_v6]

/-- The host-only reference ends with its arguments unchanged and, having no semaphore, every counter at zero. -/
theorem frame_reference : @Cert.quiescent_RefMambaDtXIdeal Cert.RefMambaDtXIdeal.Gen.facts := fun m ρ _ =>
  (θ_run Cert.RefMambaDtXIdeal.defs _ _).mono (fun r h => ⟨fun c => (h c).2, sem_eq_zero_of_no_sems (by decide) r.2⟩)
    (Cert.RefMambaDtXIdeal.Value.run (F := Ideal) m ρ)

theorem algebraic : @Cert.algebraic_MambaDtXIdeal_RefMambaDtXIdeal Cert.MambaDtXIdeal.Gen.facts Cert.RefMambaDtXIdeal.Gen.facts := by
  intro m g m' g' _ hag
  refine ⟨fun c => ref (m ((c : Thread nD τ).loc main_arg0)) (m ((c : Thread nD τ).loc main_arg1)) (m ((c : Thread nD τ).loc main_arg2)),
    (θ_run defs _ _).mono (fun _ h c => ⟨(h c).1.trans (final m c), (h c).2⟩) (Value.run_blocks (F := Ideal) m g),
    (θ_run Cert.RefMambaDtXIdeal.defs _ _).mono (fun _ h c => ⟨(h c).1.trans ?_, (h c).2⟩) (Cert.RefMambaDtXIdeal.Value.run (F := Ideal) m' g')⟩
  obtain ⟨e0, e1, e2⟩ := hag c
  rw [Cert.RefMambaDtXIdeal.Read.val_main_v6_eq, e0, e1, e2]
  exact reference_at _ _ _

end Cert.MambaDtXIdeal.Product
end
-- ==== Proof.Shares.lean ====
/- The lower bounds of the recurrence's two layers, from their logits, and the gradient at the logits. -/
module

public import Idealize.ShloMosaic.PureOps.Ideal
public import Idealize.ShloMosaic.PureOps.Ideal.Laws
public import Idealize.ShloMosaic.Lib.Pointwise

@[expose] public section

noncomputable section

namespace Cert.Shares

open Idealize.ShloMosaic

abbrev S : Shape := ⟨2, ![2, 2048]⟩

variable (x d : S.Idx → EReal)

/-- Minus infinity, the least of all. -/
abbrev lowest : EReal := Ideal.ofBits .f32 0xFF800000#32

/-- The larger logit of column `j`. -/
abbrev top (j : Fin 2048) : EReal := max lowest (Finset.fold max lowest (fun k : Fin 2 => x (ix2 k j)) Finset.univ)

/-- A logit's exponential, measured from the larger one. -/
abbrev part (k : Fin 2) (j : Fin 2048) : EReal := Ideal.exp (x (ix2 k j) - top x j)

/-- A layer's share: its exponential over their sum. -/
abbrev share (k : Fin 2) (j : Fin 2048) : EReal := Ideal.div (part x k j) (∑ l : Fin 2, part x l j)

/-- The bound of a layer: the sum of the shares up to it, less the first share. -/
def bounds : S.Idx → EReal := fun i =>
  (if (i 0).val = 0 then share x 0 (i 1) else share x 0 (i 1) + share x 1 (i 1)) - share x 0 (i 1)

/-- The gradient at the shares, from the gradient `d` at the bounds. -/
def atShare (k : Fin 2) (j : Fin 2048) : EReal :=
  if k.val = 0 then -d (ix2 0 j) + -d (ix2 1 j) + d (ix2 1 j) + d (ix2 0 j) else d (ix2 1 j)

theorem share_order (a b : EReal) : -b + -a + (b + a) = -a + -b + b + a := by
  rw [← add_assoc, add_comm (-b)]

/-- The gradient at the logits. -/
def back : S.Idx → EReal := fun i =>
  (Ideal.div (atShare d (i 0) (i 1)) (∑ l : Fin 2, part x l (i 1))
    + -∑ k : Fin 2, atShare d k (i 1) * Ideal.div 1 ((∑ l : Fin 2, part x l (i 1)) * ∑ l : Fin 2, part x l (i 1)) * part x k (i 1))
  * part x (i 0) (i 1)

end Cert.Shares
end
-- ==== Proof.LbB.lean ====
/- The gradient of the lower bounds of the recurrence's layers: the value claim. -/
module

public import proofs.«01_k».proof.Defs
public import proofs.«01_k».proof.Proof.Gen.LbBIdeal
public import proofs.«01_k».proof.Proof.Gen.LbBIdeal.Value
public import proofs.«01_k».proof.Proof.Gen.RefLbBIdeal
public import proofs.«01_k».proof.Proof.Gen.RefLbBIdeal.Run
public import proofs.«01_k».proof.Proof.Gen.RefLbBIdeal.Read
public import proofs.«01_k».proof.Proof.Shares
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.LbBIdeal.Bounds

open Cert.LbBIdeal Cert.LbBIdeal.Gen Idealize.ShloMosaic Idealize.ShloMosaic.TcCoe Cert.Shares
open Idealize.ShloMosaic.Pipeline (Dat)
open Idealize.SL.Sem

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

/-- The gradient at the shares. -/
theorem pay4_at (d : FVec Ideal S2x2048 .f32) (k : Fin 2) (j : Fin 2048) : k0_pay4 (F := Ideal) d (ix2 k j) = atShare d k j := by
  match k with
  | ⟨0, _⟩ =>
    pointwise [k0_pay4]
    rw [zero_sub, zero_sub]
    exact share_order _ _
  | ⟨1, _⟩ =>
    pointwise [k0_pay4]
    rfl

theorem pay_at (x d : FVec Ideal S2x2048 .f32) (i : S2x2048.Idx) : k0_pay1 (F := Ideal) (k0_pay2 x) (k0_pay5 x d) (k0_pay6 x d) i = back x d i := by
  idx_vars i
  pointwise [k0_pay1, k0_pay2, k0_pay5, k0_pay6, k0_pay3, pay4_at]
  rw [Fin.sum_univ_one, zero_sub]
  rfl

theorem final (c : Dev nD) : (dats m 0 c).arrAt 2 cfg0.N = back (m ((c : Thread nD τ).loc main_arg0)) (m ((c : Thread nD τ).loc main_arg1)) := by
  refine (dats m 0 c).arrAt_eq_of_covers 2 _ (by decide +kernel) fun t hf y => ?_
  blk_simp
  rw [after0_2]
  frame_out
  have hx : iblk m c 0 t = m ((c : Thread nD τ).loc main_arg0) := by
    funext j
    blk_point [iblk, V, idx t]
  have hd : iblk m c 1 t = m ((c : Thread nD τ).loc main_arg1) := by
    funext j
    blk_point [iblk, V, idx t]
  rw [hx, hd, pay_at]
  refine congrArg _ ?_
  idx_vars y
  symm
  blk_ext [idx t]

section
open Cert.RefLbBIdeal.Read
variable (x d : FVec Ideal S2x2048 .f32)

theorem v62_at (k : Fin 2) (j : Fin 2048) : val_main_v62 (F := Ideal) d (ix2 k j) = atShare d k j := by
  match k with
  | ⟨0, _⟩ =>
    pointwise [val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_cst_9, val_main_cst_10, val_main_cst_11, val_main_cst_12, val_main_cst_13, val_main_cst_14]
    rw [Fin.sum_univ_one, Fin.sum_univ_two]
    rfl
  | ⟨1, _⟩ =>
    pointwise [val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_cst_9, val_main_cst_10, val_main_cst_11, val_main_cst_12, val_main_cst_13, val_main_cst_14]
    rfl

theorem v20_at (k : Fin 2) (j : Fin 2048) : val_main_v20 (F := Ideal) x (ix2 k j) = part x k j := by
  pointwise [val_main_v0, val_main_v6, val_main_v7, val_main_v17, val_main_v18, val_main_v19, val_main_v20, val_main_cst, val_main_cst_1]

theorem v22_at (k : Fin 1) (j : Fin 2048) : val_main_v22 (F := Ideal) x (ix2 k j) = ∑ l : Fin 2, part x l j := by
  pointwise [val_main_v22, val_main_v21, v20_at, val_main_cst_7]

theorem reference_at : val_main_v74 (F := Ideal) x d = back x d := by
  funext i
  idx_vars i
  pointwise [val_main_v25, val_main_v26, val_main_v27, val_main_v63, val_main_v64, val_main_v65, val_main_v66, val_main_v67, val_main_v68, val_main_v69, val_main_v70, val_main_v71, val_main_v72, val_main_v73, val_main_v74, val_main_cst_8, val_main_cst_15, val_main_cst_16, v62_at, v20_at, v22_at]
  rw [Fin.sum_univ_one]
  rfl
end

/-- The host-only reference ends with its arguments unchanged and, having no semaphore, every counter at zero. -/
theorem frame_reference : @Cert.quiescent_RefLbBIdeal Cert.RefLbBIdeal.Gen.facts := fun m ρ _ =>
  (θ_run Cert.RefLbBIdeal.defs _ _).mono (fun r h => ⟨fun c => (h c).2, sem_eq_zero_of_no_sems (by decide) r.2⟩)
    (Cert.RefLbBIdeal.Value.run (F := Ideal) m ρ)

theorem algebraic : @Cert.algebraic_LbBIdeal_RefLbBIdeal Cert.LbBIdeal.Gen.facts Cert.RefLbBIdeal.Gen.facts := by
  intro m g m' g' _ hag
  refine ⟨fun c => back (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefLbBIdeal.defs _ _).mono (fun _ h c => ⟨(h c).1.trans ?_, (h c).2⟩) (Cert.RefLbBIdeal.Value.run (F := Ideal) m' g')⟩
  obtain ⟨e0, e1⟩ := hag c
  rw [Cert.RefLbBIdeal.Read.val_main_v74_eq, e0, e1]
  exact reference_at _ _

end Cert.LbBIdeal.Bounds
end
-- ==== Proof.Up.lean ====
module

public import proofs.«01_k».proof.Defs
public import proofs.«01_k».proof.Proof.Gen.UpIdeal
public import proofs.«01_k».proof.Proof.Gen.UpIdeal.Value
public import proofs.«01_k».proof.Proof.Gen.RefUpIdeal
public import proofs.«01_k».proof.Proof.Gen.RefUpIdeal.Run
public import proofs.«01_k».proof.Proof.Gen.RefUpIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.UpIdeal.Product

open Cert.UpIdeal Cert.UpIdeal.Gen Idealize.ShloMosaic Idealize.ShloMosaic.TcCoe
open Idealize.ShloMosaic.Pipeline (Dat)
open Idealize.SL.Sem

/-- Each row of the layer's input against each column of the weight, whose columns lie in eight parts of 1408. -/
abbrev ref (X : FVec Ideal S4096x2048 .bf16) (W : FVec Ideal S8x2048x1408 .bf16) : FVec Ideal S4096x11264 .bf16 := fun i =>
  ∑ l : Fin 2048, X (ix2 (i 0) l) * W (ix3 ⟨(i 1).val / 1408, by have h : (i 1).val < 11264 := (i 1).isLt; omega⟩ l ⟨(i 1).val % 1408, by omega⟩)

theorem pay_at (x w) (j : S1024x1408.Idx) : k0_pay1 (F := Ideal) x w j = ∑ k : Fin 2048, x (ix2 (j 0) k) * w (ix3 0 k (j 1)) := by pointwise [k0_pay1]

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  refine Fin.sum_fin_congr fun k => ?_
  blk_point [iblk, V, idx t]

/-- The reference's result is the same product. -/
theorem reference_at (X : FVec Ideal S4096x2048 .bf16) (W : FVec Ideal S8x2048x1408 .bf16) : Cert.RefUpIdeal.Read.val_main_v5 (F := Ideal) X W = ref X W := by
  funext i
  pointwise [Cert.RefUpIdeal.Read.val_main_v0, Cert.RefUpIdeal.Read.val_main_v1, Cert.RefUpIdeal.Read.val_main_v2, Cert.RefUpIdeal.Read.val_main_v3, Cert.RefUpIdeal.Read.val_main_v4, Cert.RefUpIdeal.Read.val_main_v5]

/-- The host-only reference ends with its arguments unchanged and, having no semaphore, every counter at zero. -/
theorem frame_reference : @Cert.quiescent_RefUpIdeal Cert.RefUpIdeal.Gen.facts := fun m ρ _ =>
  (θ_run Cert.RefUpIdeal.defs _ _).mono (fun r h => ⟨fun c => (h c).2, sem_eq_zero_of_no_sems (by decide) r.2⟩)
    (Cert.RefUpIdeal.Value.run (F := Ideal) m ρ)

theorem algebraic : @Cert.algebraic_UpIdeal_RefUpIdeal Cert.UpIdeal.Gen.facts Cert.RefUpIdeal.Gen.facts := by
  intro m g m' g' _ hag
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefUpIdeal.defs _ _).mono (fun _ h c => ⟨(h c).1.trans ?_, (h c).2⟩) (Cert.RefUpIdeal.Value.run (F := Ideal) m' g')⟩
  obtain ⟨e0, e1⟩ := hag c
  rw [Cert.RefUpIdeal.Read.val_main_v5_eq, e0, e1]
  exact reference_at _ _

end Cert.UpIdeal.Product
end
-- ==== Proof.Down.lean ====
module

public import proofs.«01_k».proof.Defs
public import proofs.«01_k».proof.Proof.Gen.DownIdeal
public import proofs.«01_k».proof.Proof.Gen.DownIdeal.Value
public import proofs.«01_k».proof.Proof.Gen.RefDownIdeal
public import proofs.«01_k».proof.Proof.Gen.RefDownIdeal.Run
public import proofs.«01_k».proof.Proof.Gen.RefDownIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.DownIdeal.Product

open Cert.DownIdeal Cert.DownIdeal.Gen Idealize.ShloMosaic Idealize.ShloMosaic.TcCoe
open Idealize.ShloMosaic.Pipeline (Dat)
open Idealize.SL.Sem

theorem pay1_at (x w j) : k0_pay1 (F := Ideal) x w j = Tiles.plain x w j := by pointwise [k0_pay1]
theorem pay2_at (a x w j) : k0_pay2 (F := Ideal) a x w j = a j + Tiles.plain x w j := by pointwise [k0_pay2]
theorem pay3_at (a x w b j) : k0_pay3 (F := Ideal) a x w b j = Tiles.lane b j + (a j + Tiles.plain x w j) := by
  rw [add_comm]; pointwise [k0_pay3]

variable (m : (ℓ : Loc nD τ sig) → Buf (Elt Ideal) ℓ)

theorem idx : ∀ t : Fin cfg0.N, win0_0.index t = ![t.val / 8, t.val % 4] ∧ win0_1.index t = ![t.val % 4, t.val / 4 % 2] ∧
    win0_2.index t = ![t.val / 8, t.val / 4 % 2] ∧ win0_3.index t = ![t.val / 8, t.val / 4 % 2] :=
  (by decide +kernel : ∀ t : Fin grid0.N, _)

/-- The point before `t`, within its run. -/
abbrev before (t : Fin cfg0.N) : Fin cfg0.N := ⟨t.val - 1, Nat.lt_of_le_of_lt (Nat.sub_le _ _) t.isLt⟩

/-- The product of the two blocks point `t` reads. -/
abbrev part (c : Dev nD) (t : Fin cfg0.N) (j : S1024x1024.Idx) : EReal := Tiles.plain (iblk m c 0 t) (iblk m c 1 t) j

theorem scratch_first (c : Dev nD) (t : Fin cfg0.N) (h : t.val % 4 = 0) (j : S1024x1024.Idx) : Tiles.lane (outsAt0 m c t.val t.isLt).2 j = part m c t j := by
  unfold Tiles.lane
  rw [outsAt0_A m c t h (by omega) (by omega)]
  frame_out
  rw [pay1_at]

theorem scratch_next (c : Dev nD) (t : Fin cfg0.N) (h : 1 ≤ t.val % 4 ∧ t.val % 4 ≤ 2) (j : S1024x1024.Idx) :
    Tiles.lane (outsAt0 m c t.val t.isLt).2 j = Tiles.lane (outsAt0 m c (before t).val (before t).isLt).2 j + part m c t j := by
  unfold Tiles.lane
  rw [outsAt0_B m c t (by omega) h (by omega)]
  frame_out
  simp only [read_unread_whole]
  rw [pay2_at]

theorem result (c : Dev nD) (t : Fin cfg0.N) (h : t.val % 4 = 3) (j : S1024x1024.Idx) :
    (outsAt0 m c t.val t.isLt).1 j = Tiles.lane (iblk m c 2 t) j + (part m c (before (before (before t))) j + part m c (before (before t)) j + part m c (before t) j + part m c t j) := by
  rw [outsAt0_C m c t (by omega) (by omega) h]
  frame_out
  simp only [read_unread_whole]
  rw [pay3_at]
  change _ + (Tiles.lane (outsAt0 m c (before t).val (before t).isLt).2 j + part m c t j) = _
  rw [scratch_next m c (before t) (by show 1 ≤ (t.val - 1) % 4 ∧ (t.val - 1) % 4 ≤ 2; omega),
    scratch_next m c (before (before t)) (by show 1 ≤ (t.val - 1 - 1) % 4 ∧ (t.val - 1 - 1) % 4 ≤ 2; omega),
    scratch_first m c (before (before (before t))) (by show (t.val - 1 - 1 - 1) % 4 = 0; omega)]

theorem final (c : Dev nD) : (dats m 0 c).arrAt 3 cfg0.N = Tiles.added (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h3 := (flush0_3 t).mp hf
  rw [after0_3, result m c t h3]
  refine congrArg₂ (HAdd.hAdd (α := EReal)) ?_ (Tiles.sum_four (n := 1408) rfl (fun k => ?_) (fun k => ?_) (fun k => ?_) (fun k => ?_))
  · blk_point [iblk, V, idx t]
  · blk_point [iblk, V, idx t, idx (before (before (before t)))]
  · blk_point [iblk, V, idx t, idx (before (before t))]
  · blk_point [iblk, V, idx t, idx (before t)]
  · blk_point [iblk, V, idx t]

/-- The reference's result is the same product. -/
theorem reference_at (X : FVec Ideal S4096x5632 .bf16) (W : FVec Ideal S5632x2048 .bf16) (A : FVec Ideal S4096x2048 .f32) : Cert.RefDownIdeal.Read.val_main_v3 (F := Ideal) X W A = Tiles.added X W A := by
  funext i
  pointwise [Cert.RefDownIdeal.Read.val_main_v0, Cert.RefDownIdeal.Read.val_main_v1, Cert.RefDownIdeal.Read.val_main_v2, Cert.RefDownIdeal.Read.val_main_v3]

/-- The host-only reference ends with its arguments unchanged and, having no semaphore, every counter at zero. -/
theorem frame_reference : @Cert.quiescent_RefDownIdeal Cert.RefDownIdeal.Gen.facts := fun m ρ _ =>
  (θ_run Cert.RefDownIdeal.defs _ _).mono (fun r h => ⟨fun c => (h c).2, sem_eq_zero_of_no_sems (by decide) r.2⟩)
    (Cert.RefDownIdeal.Value.run (F := Ideal) m ρ)

theorem algebraic : @Cert.algebraic_DownIdeal_RefDownIdeal Cert.DownIdeal.Gen.facts Cert.RefDownIdeal.Gen.facts := by
  intro m g m' g' _ hag
  refine ⟨fun c => Tiles.added (m ((c : Thread nD τ).loc main_arg0)) (m ((c : Thread nD τ).loc main_arg1)) (m ((c : Thread nD τ).loc main_arg2)),
    (θ_run defs _ _).mono (fun _ h c => ⟨(h c).1.trans (final m c), (h c).2⟩) (Value.run_blocks (F := Ideal) m g),
    (θ_run Cert.RefDownIdeal.defs _ _).mono (fun _ h c => ⟨(h c).1.trans ?_, (h c).2⟩) (Cert.RefDownIdeal.Value.run (F := Ideal) m' g')⟩
  obtain ⟨e0, e1, e2⟩ := hag c
  rw [Cert.RefDownIdeal.Read.val_main_v3_eq, e0, e1, e2]
  exact reference_at _ _ _

end Cert.DownIdeal.Product
end
-- ==== Proof.HgrnIn.lean ====
module

public import proofs.«01_k».proof.Defs
public import proofs.«01_k».proof.Proof.Gen.HgrnInIdeal
public import proofs.«01_k».proof.Proof.Gen.HgrnInIdeal.Value
public import proofs.«01_k».proof.Proof.Gen.RefHgrnInIdeal
public import proofs.«01_k».proof.Proof.Gen.RefHgrnInIdeal.Run
public import proofs.«01_k».proof.Proof.Gen.RefHgrnInIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.HgrnInIdeal.Product

open Cert.HgrnInIdeal Cert.HgrnInIdeal.Gen Idealize.ShloMosaic Idealize.ShloMosaic.TcCoe
open Idealize.ShloMosaic.Pipeline (Dat)
open Idealize.SL.Sem

/-- Each row of the layer's input against each column of the weight, whose columns lie in eight parts of 1024. -/
abbrev ref (X : FVec Ideal S4096x2048 .bf16) (W : FVec Ideal S8x2048x1024 .bf16) : FVec Ideal S4096x8192 .f32 := fun i =>
  ∑ l : Fin 2048, X (ix2 (i 0) l) * W (ix3 ⟨(i 1).val / 1024, by have h : (i 1).val < 8192 := (i 1).isLt; omega⟩ l ⟨(i 1).val % 1024, by omega⟩)

theorem pay_at (x w) (j : S1024x1024.Idx) : k0_pay1 (F := Ideal) x w j = ∑ k : Fin 2048, x (ix2 (j 0) k) * w (ix3 0 k (j 1)) := by pointwise [k0_pay1]

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  refine Fin.sum_fin_congr fun k => ?_
  blk_point [iblk, V, idx t]

/-- The reference's result is the same product. -/
theorem reference_at (X : FVec Ideal S4096x2048 .bf16) (W : FVec Ideal S8x2048x1024 .bf16) : Cert.RefHgrnInIdeal.Read.val_main_v4 (F := Ideal) X W = ref X W := by
  funext i
  pointwise [Cert.RefHgrnInIdeal.Read.val_main_v0, Cert.RefHgrnInIdeal.Read.val_main_v1, Cert.RefHgrnInIdeal.Read.val_main_v2, Cert.RefHgrnInIdeal.Read.val_main_v3, Cert.RefHgrnInIdeal.Read.val_main_v4]

/-- The host-only reference ends with its arguments unchanged and, having no semaphore, every counter at zero. -/
theorem frame_reference : @Cert.quiescent_RefHgrnInIdeal Cert.RefHgrnInIdeal.Gen.facts := fun m ρ _ =>
  (θ_run Cert.RefHgrnInIdeal.defs _ _).mono (fun r h => ⟨fun c => (h c).2, sem_eq_zero_of_no_sems (by decide) r.2⟩)
    (Cert.RefHgrnInIdeal.Value.run (F := Ideal) m ρ)

theorem algebraic : @Cert.algebraic_HgrnInIdeal_RefHgrnInIdeal Cert.HgrnInIdeal.Gen.facts Cert.RefHgrnInIdeal.Gen.facts := by
  intro m g m' g' _ hag
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefHgrnInIdeal.defs _ _).mono (fun _ h c => ⟨(h c).1.trans ?_, (h c).2⟩) (Cert.RefHgrnInIdeal.Value.run (F := Ideal) m' g')⟩
  obtain ⟨e0, e1⟩ := hag c
  rw [Cert.RefHgrnInIdeal.Read.val_main_v4_eq, e0, e1]
  exact reference_at _ _

end Cert.HgrnInIdeal.Product
end
-- ==== Proof.HgrnOut.lean ====
module

public import proofs.«01_k».proof.Defs
public import proofs.«01_k».proof.Proof.Gen.HgrnOutIdeal
public import proofs.«01_k».proof.Proof.Gen.HgrnOutIdeal.Value
public import proofs.«01_k».proof.Proof.Gen.RefHgrnOutIdeal
public import proofs.«01_k».proof.Proof.Gen.RefHgrnOutIdeal.Run
public import proofs.«01_k».proof.Proof.Gen.RefHgrnOutIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.HgrnOutIdeal.Product

open Cert.HgrnOutIdeal Cert.HgrnOutIdeal.Gen Idealize.ShloMosaic Idealize.ShloMosaic.TcCoe
open Idealize.ShloMosaic.Pipeline (Dat)
open Idealize.SL.Sem

theorem pay_at (x w b j) : k0_pay1 (F := Ideal) x w b j = Tiles.added x w b j := by rw [Tiles.added, add_comm]; pointwise [k0_pay1]

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

theorem final (c : Dev nD) : (dats m 0 c).arrAt 3 cfg0.N = Tiles.added (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay_at]
  refine congrArg₂ (HAdd.hAdd (α := EReal)) ?_ (Fin.sum_fin_congr fun k => ?_)
  · blk_point [iblk, V, idx t]
  · blk_point [iblk, V, idx t]

/-- The reference's result is the same product. -/
theorem reference_at (X : FVec Ideal S4096x2048 .bf16) (W : FVec Ideal S2048x2048 .bf16) (A : FVec Ideal S4096x2048 .f32) : Cert.RefHgrnOutIdeal.Read.val_main_v3 (F := Ideal) X W A = Tiles.added X W A := by
  funext i
  pointwise [Cert.RefHgrnOutIdeal.Read.val_main_v0, Cert.RefHgrnOutIdeal.Read.val_main_v1, Cert.RefHgrnOutIdeal.Read.val_main_v2, Cert.RefHgrnOutIdeal.Read.val_main_v3]

/-- The host-only reference ends with its arguments unchanged and, having no semaphore, every counter at zero. -/
theorem frame_reference : @Cert.quiescent_RefHgrnOutIdeal Cert.RefHgrnOutIdeal.Gen.facts := fun m ρ _ =>
  (θ_run Cert.RefHgrnOutIdeal.defs _ _).mono (fun r h => ⟨fun c => (h c).2, sem_eq_zero_of_no_sems (by decide) r.2⟩)
    (Cert.RefHgrnOutIdeal.Value.run (F := Ideal) m ρ)

theorem algebraic : @Cert.algebraic_HgrnOutIdeal_RefHgrnOutIdeal Cert.HgrnOutIdeal.Gen.facts Cert.RefHgrnOutIdeal.Gen.facts := by
  intro m g m' g' _ hag
  refine ⟨fun c => Tiles.added (m ((c : Thread nD τ).loc main_arg0)) (m ((c : Thread nD τ).loc main_arg1)) (m ((c : Thread nD τ).loc main_arg2)),
    (θ_run defs _ _).mono (fun _ h c => ⟨(h c).1.trans (final m c), (h c).2⟩) (Value.run_blocks (F := Ideal) m g),
    (θ_run Cert.RefHgrnOutIdeal.defs _ _).mono (fun _ h c => ⟨(h c).1.trans ?_, (h c).2⟩) (Cert.RefHgrnOutIdeal.Value.run (F := Ideal) m' g')⟩
  obtain ⟨e0, e1, e2⟩ := hag c
  rw [Cert.RefHgrnOutIdeal.Read.val_main_v3_eq, e0, e1, e2]
  exact reference_at _ _ _

end Cert.HgrnOutIdeal.Product
end
-- ==== Proof.MambaZ.lean ====
module

public import proofs.«01_k».proof.Defs
public import proofs.«01_k».proof.Proof.Gen.MambaZIdeal
public import proofs.«01_k».proof.Proof.Gen.MambaZIdeal.Value
public import proofs.«01_k».proof.Proof.Gen.RefMambaZIdeal
public import proofs.«01_k».proof.Proof.Gen.RefMambaZIdeal.Run
public import proofs.«01_k».proof.Proof.Gen.RefMambaZIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaZIdeal.Product

open Cert.MambaZIdeal Cert.MambaZIdeal.Gen Idealize.ShloMosaic Idealize.ShloMosaic.TcCoe
open Idealize.ShloMosaic.Pipeline (Dat)
open Idealize.SL.Sem

/-- Each row of the layer's input against the first 4096 columns of the weight, which are the gate's. -/
abbrev ref (X : FVec Ideal S4096x2048 .bf16) (W : FVec Ideal S2048x10304 .bf16) : FVec Ideal S4096x4096 .f32 := fun i =>
  ∑ l : Fin 2048, X (ix2 (i 0) l) * W (ix2 l ⟨(i 1).val, by have h : (i 1).val < 4096 := (i 1).isLt; omega⟩)

theorem pay_at (x w j) : k0_pay1 (F := Ideal) x w j = Tiles.plain x w j := by pointwise [k0_pay1]

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  refine Fin.sum_fin_congr fun k => ?_
  blk_point [iblk, V, idx t]

/-- The reference's result is the same product. -/
theorem reference_at (X : FVec Ideal S4096x2048 .bf16) (W : FVec Ideal S2048x10304 .bf16) : Cert.RefMambaZIdeal.Read.val_main_v3 (F := Ideal) X W = ref X W := by
  funext i
  pointwise [Cert.RefMambaZIdeal.Read.val_main_v0, Cert.RefMambaZIdeal.Read.val_main_v1, Cert.RefMambaZIdeal.Read.val_main_v2, Cert.RefMambaZIdeal.Read.val_main_v3]

/-- The host-only reference ends with its arguments unchanged and, having no semaphore, every counter at zero. -/
theorem frame_reference : @Cert.quiescent_RefMambaZIdeal Cert.RefMambaZIdeal.Gen.facts := fun m ρ _ =>
  (θ_run Cert.RefMambaZIdeal.defs _ _).mono (fun r h => ⟨fun c => (h c).2, sem_eq_zero_of_no_sems (by decide) r.2⟩)
    (Cert.RefMambaZIdeal.Value.run (F := Ideal) m ρ)

theorem algebraic : @Cert.algebraic_MambaZIdeal_RefMambaZIdeal Cert.MambaZIdeal.Gen.facts Cert.RefMambaZIdeal.Gen.facts := by
  intro m g m' g' _ hag
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefMambaZIdeal.defs _ _).mono (fun _ h c => ⟨(h c).1.trans ?_, (h c).2⟩) (Cert.RefMambaZIdeal.Value.run (F := Ideal) m' g')⟩
  obtain ⟨e0, e1⟩ := hag c
  rw [Cert.RefMambaZIdeal.Read.val_main_v3_eq, e0, e1]
  exact reference_at _ _

end Cert.MambaZIdeal.Product
end
-- ==== Proof.MambaXbc.lean ====
module

public import proofs.«01_k».proof.Defs
public import proofs.«01_k».proof.Proof.Gen.MambaXbcIdeal
public import proofs.«01_k».proof.Proof.Gen.MambaXbcIdeal.Value
public import proofs.«01_k».proof.Proof.Gen.RefMambaXbcIdeal
public import proofs.«01_k».proof.Proof.Gen.RefMambaXbcIdeal.Run
public import proofs.«01_k».proof.Proof.Gen.RefMambaXbcIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaXbcIdeal.Product

open Cert.MambaXbcIdeal Cert.MambaXbcIdeal.Gen Idealize.ShloMosaic Idealize.ShloMosaic.TcCoe
open Idealize.ShloMosaic.Pipeline (Dat)
open Idealize.SL.Sem

/-- Each row of the layer's input against columns 4096 to 10240 of the weight, which lead to the convolution. -/
abbrev ref (X : FVec Ideal S4096x2048 .bf16) (W : FVec Ideal S2048x10304 .bf16) : FVec Ideal S4096x6144 .f32 := fun i =>
  ∑ l : Fin 2048, X (ix2 (i 0) l) * W (ix2 l ⟨4096 + (i 1).val, by have h : (i 1).val < 6144 := (i 1).isLt; omega⟩)

theorem pay_at (x w j) : k0_pay1 (F := Ideal) x w j = Tiles.plain x w j := by pointwise [k0_pay1]

variable (m : (ℓ : Loc nD τ sig) → Buf (Elt Ideal) ℓ)

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  refine Fin.sum_fin_congr fun k => ?_
  blk_point [iblk, V, idx t]

/-- The reference's result is the same product. -/
theorem reference_at (X : FVec Ideal S4096x2048 .bf16) (W : FVec Ideal S2048x10304 .bf16) : Cert.RefMambaXbcIdeal.Read.val_main_v3 (F := Ideal) X W = ref X W := by
  funext i
  pointwise [Cert.RefMambaXbcIdeal.Read.val_main_v0, Cert.RefMambaXbcIdeal.Read.val_main_v1, Cert.RefMambaXbcIdeal.Read.val_main_v2, Cert.RefMambaXbcIdeal.Read.val_main_v3]

/-- The host-only reference ends with its arguments unchanged and, having no semaphore, every counter at zero. -/
theorem frame_reference : @Cert.quiescent_RefMambaXbcIdeal Cert.RefMambaXbcIdeal.Gen.facts := fun m ρ _ =>
  (θ_run Cert.RefMambaXbcIdeal.defs _ _).mono (fun r h => ⟨fun c => (h c).2, sem_eq_zero_of_no_sems (by decide) r.2⟩)
    (Cert.RefMambaXbcIdeal.Value.run (F := Ideal) m ρ)

theorem algebraic : @Cert.algebraic_MambaXbcIdeal_RefMambaXbcIdeal Cert.MambaXbcIdeal.Gen.facts Cert.RefMambaXbcIdeal.Gen.facts := by
  intro m g m' g' _ hag
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefMambaXbcIdeal.defs _ _).mono (fun _ h c => ⟨(h c).1.trans ?_, (h c).2⟩) (Cert.RefMambaXbcIdeal.Value.run (F := Ideal) m' g')⟩
  obtain ⟨e0, e1⟩ := hag c
  rw [Cert.RefMambaXbcIdeal.Read.val_main_v3_eq, e0, e1]
  exact reference_at _ _

end Cert.MambaXbcIdeal.Product
end
-- ==== Proof.MambaDt.lean ====
module

public import proofs.«01_k».proof.Defs
public import proofs.«01_k».proof.Proof.Gen.MambaDtIdeal
public import proofs.«01_k».proof.Proof.Gen.MambaDtIdeal.Value
public import proofs.«01_k».proof.Proof.Gen.RefMambaDtIdeal
public import proofs.«01_k».proof.Proof.Gen.RefMambaDtIdeal.Run
public import proofs.«01_k».proof.Proof.Gen.RefMambaDtIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaDtIdeal.Product

open Cert.MambaDtIdeal Cert.MambaDtIdeal.Gen Idealize.ShloMosaic Idealize.ShloMosaic.TcCoe
open Idealize.ShloMosaic.Pipeline (Dat)
open Idealize.SL.Sem

/-- Each row of the layer's input against the last 64 columns of the weight, which give the time steps. -/
abbrev ref (X : FVec Ideal S4096x2048 .bf16) (W : FVec Ideal S2048x10304 .bf16) : FVec Ideal S4096x64 .f32 := fun i =>
  ∑ l : Fin 2048, X (ix2 (i 0) l) * W (ix2 l ⟨10240 + (i 1).val, by have h : (i 1).val < 64 := (i 1).isLt; omega⟩)

theorem pay_at (x w j) : k0_pay1 (F := Ideal) x w j = Tiles.plain x w j := by pointwise [k0_pay1]

variable (m : (ℓ : Loc nD τ sig) → Buf (Elt Ideal) ℓ)

theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  refine Fin.sum_fin_congr fun k => ?_
  blk_point [iblk, V, idx t]

/-- The reference's result is the same product. -/
theorem reference_at (X : FVec Ideal S4096x2048 .bf16) (W : FVec Ideal S2048x10304 .bf16) : Cert.RefMambaDtIdeal.Read.val_main_v3 (F := Ideal) X W = ref X W := by
  funext i
  pointwise [Cert.RefMambaDtIdeal.Read.val_main_v0, Cert.RefMambaDtIdeal.Read.val_main_v1, Cert.RefMambaDtIdeal.Read.val_main_v2, Cert.RefMambaDtIdeal.Read.val_main_v3]

/-- The host-only reference ends with its arguments unchanged and, having no semaphore, every counter at zero. -/
theorem frame_reference : @Cert.quiescent_RefMambaDtIdeal Cert.RefMambaDtIdeal.Gen.facts := fun m ρ _ =>
  (θ_run Cert.RefMambaDtIdeal.defs _ _).mono (fun r h => ⟨fun c => (h c).2, sem_eq_zero_of_no_sems (by decide) r.2⟩)
    (Cert.RefMambaDtIdeal.Value.run (F := Ideal) m ρ)

theorem algebraic : @Cert.algebraic_MambaDtIdeal_RefMambaDtIdeal Cert.MambaDtIdeal.Gen.facts Cert.RefMambaDtIdeal.Gen.facts := by
  intro m g m' g' _ hag
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefMambaDtIdeal.defs _ _).mono (fun _ h c => ⟨(h c).1.trans ?_, (h c).2⟩) (Cert.RefMambaDtIdeal.Value.run (F := Ideal) m' g')⟩
  obtain ⟨e0, e1⟩ := hag c
  rw [Cert.RefMambaDtIdeal.Read.val_main_v3_eq, e0, e1]
  exact reference_at _ _

end Cert.MambaDtIdeal.Product
end
-- ==== Proof.MambaOut.lean ====
module

public import proofs.«01_k».proof.Defs
public import proofs.«01_k».proof.Proof.Gen.MambaOutIdeal
public import proofs.«01_k».proof.Proof.Gen.MambaOutIdeal.Value
public import proofs.«01_k».proof.Proof.Gen.RefMambaOutIdeal
public import proofs.«01_k».proof.Proof.Gen.RefMambaOutIdeal.Run
public import proofs.«01_k».proof.Proof.Gen.RefMambaOutIdeal.Read
public import proofs.«01_k».proof.Proof.Tiles
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MambaOutIdeal.Product

open Cert.MambaOutIdeal Cert.MambaOutIdeal.Gen Idealize.ShloMosaic Idealize.ShloMosaic.TcCoe
open Idealize.ShloMosaic.Pipeline (Dat)
open Idealize.SL.Sem

theorem pay1_at (x w j) : k0_pay1 (F := Ideal) x w j = Tiles.plain x w j := by pointwise [k0_pay1]
theorem pay3_at (a x w b j) : k0_pay3 (F := Ideal) a x w b j = Tiles.lane b j + (a j + Tiles.plain x w j) := by
  rw [add_comm]; pointwise [k0_pay3]

variable (m : (ℓ : Loc nD τ sig) → Buf (Elt Ideal) ℓ)

theorem idx : ∀ t : Fin cfg0.N, win0_0.index t = ![t.val / 4, t.val % 2] ∧ win0_1.index t = ![t.val % 2, t.val / 2 % 2] ∧
    win0_2.index t = ![t.val / 4, t.val / 2 % 2] ∧ win0_3.index t = ![t.val / 4, t.val / 2 % 2] :=
  (by decide +kernel : ∀ t : Fin grid0.N, _)

/-- The point before `t`, within its run. -/
abbrev before (t : Fin cfg0.N) : Fin cfg0.N := ⟨t.val - 1, Nat.lt_of_le_of_lt (Nat.sub_le _ _) t.isLt⟩

theorem result (c : Dev nD) (t : Fin cfg0.N) (h : t.val % 2 = 1) (j : S1024x1024.Idx) :
    (outsAt0 m c t.val t.isLt).1 j = Tiles.lane (iblk m c 2 t) j +
      (Tiles.plain (iblk m c 0 (before t)) (iblk m c 1 (before t)) j + Tiles.plain (iblk m c 0 t) (iblk m c 1 t) j) := by
  rw [outsAt0_B m c t (by omega) h]
  frame_out
  simp only [read_unread_whole]
  rw [pay3_at, outsAt0_A m c (before t) (by show (t.val - 1) % 2 = 0; omega) (by show ¬ (t.val - 1) % 2 = 1; omega)]
  frame_out
  rw [pay1_at]

theorem final (c : Dev nD) : (dats m 0 c).arrAt 3 cfg0.N = Tiles.added (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h1 := (flush0_3 t).mp hf
  rw [after0_3, result m c t h1]
  refine congrArg₂ (HAdd.hAdd (α := EReal)) ?_ (Tiles.sum_two (n := 2048) rfl (fun k => ?_) (fun k => ?_))
  · blk_point [iblk, V, idx t]
  · blk_point [iblk, V, idx t, idx (before t)]
  · blk_point [iblk, V, idx t]

/-- The reference's result is the same product. -/
theorem reference_at (X : FVec Ideal S4096x4096 .bf16) (W : FVec Ideal S4096x2048 .bf16) (A : FVec Ideal S4096x2048 .f32) : Cert.RefMambaOutIdeal.Read.val_main_v3 (F := Ideal) X W A = Tiles.added X W A := by
  funext i
  pointwise [Cert.RefMambaOutIdeal.Read.val_main_v0, Cert.RefMambaOutIdeal.Read.val_main_v1, Cert.RefMambaOutIdeal.Read.val_main_v2, Cert.RefMambaOutIdeal.Read.val_main_v3]

/-- The host-only reference ends with its arguments unchanged and, having no semaphore, every counter at zero. -/
theorem frame_reference : @Cert.quiescent_RefMambaOutIdeal Cert.RefMambaOutIdeal.Gen.facts := fun m ρ _ =>
  (θ_run Cert.RefMambaOutIdeal.defs _ _).mono (fun r h => ⟨fun c => (h c).2, sem_eq_zero_of_no_sems (by decide) r.2⟩)
    (Cert.RefMambaOutIdeal.Value.run (F := Ideal) m ρ)

theorem algebraic : @Cert.algebraic_MambaOutIdeal_RefMambaOutIdeal Cert.MambaOutIdeal.Gen.facts Cert.RefMambaOutIdeal.Gen.facts := by
  intro m g m' g' _ hag
  refine ⟨fun c => Tiles.added (m ((c : Thread nD τ).loc main_arg0)) (m ((c : Thread nD τ).loc main_arg1)) (m ((c : Thread nD τ).loc main_arg2)),
    (θ_run defs _ _).mono (fun _ h c => ⟨(h c).1.trans (final m c), (h c).2⟩) (Value.run_blocks (F := Ideal) m g),
    (θ_run Cert.RefMambaOutIdeal.defs _ _).mono (fun _ h c => ⟨(h c).1.trans ?_, (h c).2⟩) (Cert.RefMambaOutIdeal.Value.run (F := Ideal) m' g')⟩
  obtain ⟨e0, e1, e2⟩ := hag c
  rw [Cert.RefMambaOutIdeal.Read.val_main_v3_eq, e0, e1, e2]
  exact reference_at _ _ _

end Cert.MambaOutIdeal.Product
end
-- ==== Proof.RmsF.lean ====
/- The root-mean-square norm of the layers, forward: the value claim. -/
module

public import proofs.«01_k».proof.Defs
public import proofs.«01_k».proof.Proof.Gen.RmsFIdeal
public import proofs.«01_k».proof.Proof.Gen.RmsFIdeal.Value
public import proofs.«01_k».proof.Proof.Gen.RefRmsFIdeal
public import proofs.«01_k».proof.Proof.Gen.RefRmsFIdeal.Run
public import proofs.«01_k».proof.Proof.Gen.RefRmsFIdeal.Read
public import proofs.«01_k».proof.Proof.RmsNorm
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.RmsFIdeal.Norm

open Cert.RmsFIdeal Cert.RmsFIdeal.Gen Idealize.ShloMosaic Idealize.ShloMosaic.TcCoe Cert.RmsNorm
open Idealize.ShloMosaic.Pipeline (Dat)
open Idealize.SL.Sem

/-- The number of columns. -/
abbrev width : EReal := Ideal.ofBits .f32 0x45000000#32

/-- Each entry over its row's root mean square, times the weight of its column. -/
abbrev normed (x : FVec Ideal S4096x2048 .f32) (w : FVec Ideal S2048 .f32) : FVec Ideal S4096x2048 .bf16 := fun i =>
  x i * scale width (fun k : Fin 2048 => x (ix2 (i 0) k)) * w (ix1 (i 1))

theorem pay_at (x : FVec Ideal S256x2048 .f32) (w : FVec Ideal S1x2048 .f32) (j : S256x2048.Idx) :
    k0_pay1 (F := Ideal) x w j = x j * scale width (fun k : Fin 2048 => x (ix2 (j 0) k)) * w (ix2 0 (j 1)) := by
  pointwise [k0_pay1, scale, meanSq]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  refine congrArg₂ (HMul.hMul (α := EReal)) (congrArg₂ (HMul.hMul (α := EReal)) ?_ (congrArg (scale width) (funext fun k => ?_))) ?_ <;> blk_point [iblk, V, idx t]

open Cert.RefRmsFIdeal.Read in
theorem reference_at (x : FVec Ideal S4096x2048 .f32) (w : FVec Ideal S2048 .f32) : val_main_v13 (F := Ideal) x w = normed x w := by
  funext i
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

/-- The host-only reference ends with its arguments unchanged and, having no semaphore, every counter at zero. -/
theorem frame_reference : @Cert.quiescent_RefRmsFIdeal Cert.RefRmsFIdeal.Gen.facts := fun m ρ _ =>
  (θ_run Cert.RefRmsFIdeal.defs _ _).mono (fun r h => ⟨fun c => (h c).2, sem_eq_zero_of_no_sems (by decide) r.2⟩)
    (Cert.RefRmsFIdeal.Value.run (F := Ideal) m ρ)

theorem algebraic : @Cert.algebraic_RmsFIdeal_RefRmsFIdeal Cert.RmsFIdeal.Gen.facts Cert.RefRmsFIdeal.Gen.facts := by
  intro m g m' g' _ hag
  refine ⟨fun c => normed (m ((c : Thread nD τ).loc main_arg0)) (m ((c : Thread nD τ).loc main_arg1)),
    (θ_run defs _ _).mono (fun _ h c => ⟨(h c).1.trans (final m c), (h c).2⟩) (Value.run_blocks (F := Ideal) m g),
    (θ_run Cert.RefRmsFIdeal.defs _ _).mono (fun _ h c => ⟨(h c).1.trans ?_, (h c).2⟩) (Cert.RefRmsFIdeal.Value.run (F := Ideal) m' g')⟩
  obtain ⟨e0, e1⟩ := hag c
  rw [Cert.RefRmsFIdeal.Read.val_main_v13_eq, e0, e1]
  exact reference_at _ _

end Cert.RmsFIdeal.Norm
end
-- ==== Proof.MgateF.lean ====
/- The gated grouped norm behind the state-space scan, forward: the value claim. -/
module

public import proofs.«01_k».proof.Defs
public import proofs.«01_k».proof.Proof.Gen.MgateFIdeal
public import proofs.«01_k».proof.Proof.Gen.MgateFIdeal.Value
public import proofs.«01_k».proof.Proof.Gen.RefMgateFIdeal
public import proofs.«01_k».proof.Proof.Gen.RefMgateFIdeal.Run
public import proofs.«01_k».proof.Proof.Gen.RefMgateFIdeal.Read
public import proofs.«01_k».proof.Proof.RmsNorm
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.MgateFIdeal.Gate

open Cert.MgateFIdeal Cert.MgateFIdeal.Gen Idealize.ShloMosaic Idealize.ShloMosaic.TcCoe Cert.RmsNorm
open Idealize.ShloMosaic.Pipeline (Dat)
open Idealize.SL.Sem

/-- The number of columns of a group. -/
abbrev width : EReal := Ideal.ofBits .f32 0x44000000#32

/-- The gate's factor. -/
abbrev silu (z : EReal) : EReal := z * Ideal.logistic z

/-- Each gated entry over the root mean square of its row's group of 512 columns, times the weight of its column. -/
abbrev normed (y z : FVec Ideal S4096x4096 .f32) (w : FVec Ideal S4096 .f32) : FVec Ideal S4096x4096 .bf16 := fun i =>
  y i * silu (z i) * scale width (fun k : Fin 512 =>
    y (ix2 (i 0) ⟨(i 1).val / 512 * 512 + k.val, by have h : (i 1).val < 4096 := (i 1).isLt; omega⟩)
      * silu (z (ix2 (i 0) ⟨(i 1).val / 512 * 512 + k.val, by have h : (i 1).val < 4096 := (i 1).isLt; omega⟩))) * w (ix1 (i 1))

theorem pay_at (y z : FVec Ideal S512x512 .f32) (w : FVec Ideal S1x512 .f32) (j : S512x512.Idx) : k0_pay1 (F := Ideal) y z w j
    = y j * silu (z j) * scale width (fun k : Fin 512 => y (ix2 (j 0) k) * silu (z (ix2 (j 0) k))) * w (ix2 0 (j 1)) := by
  pointwise [k0_pay1, scale, meanSq]

variable (m : (ℓ : Loc nD τ sig) → Buf (Elt Ideal) ℓ)

theorem idx : ∀ t : Fin cfg0.N, win0_0.index t = ![t.val / 8, t.val % 8] ∧ win0_1.index t = ![t.val / 8, t.val % 8] ∧ win0_2.index t = ![0, t.val % 8] ∧ win0_3.index t = ![t.val / 8, t.val % 8] :=
  (by decide +kernel : ∀ t : Fin grid0.N, _)

theorem final (c : Dev nD) : (dats m 0 c).arrAt 3 cfg0.N = normed (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay_at]
  refine congrArg₂ (HMul.hMul (α := EReal)) (congrArg₂ (HMul.hMul (α := EReal)) (congrArg₂ (HMul.hMul (α := EReal)) ?_ (congrArg silu ?_))
    (congrArg (scale width) (funext fun k => congrArg₂ (HMul.hMul (α := EReal)) ?_ (congrArg silu ?_)))) ?_ <;> blk_point [iblk, V, idx t]

open Cert.RefMgateFIdeal.Read in
theorem ref_silu (z : FVec Ideal S4096x4096 .f32) (i) : val_main_v0 (F := Ideal) z i = silu (z i) := by
  pointwise [val_main_v0, val_main_call0_v0, val_main_call0_v1, val_main_call0_cst, val_main_call0_v2, val_main_call0_v3, val_main_call0_cst_0, val_main_call0_v4, val_main_call0_v5]
  rfl

open Cert.RefMgateFIdeal.Read in
theorem reference_at (y z : FVec Ideal S4096x4096 .f32) (w : FVec Ideal S4096 .f32) : val_main_v17 (F := Ideal) y z w = normed y z w := by
  funext i
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1, ref_silu]
  rfl

/-- The host-only reference ends with its arguments unchanged and, having no semaphore, every counter at zero. -/
theorem frame_reference : @Cert.quiescent_RefMgateFIdeal Cert.RefMgateFIdeal.Gen.facts := fun m ρ _ =>
  (θ_run Cert.RefMgateFIdeal.defs _ _).mono (fun r h => ⟨fun c => (h c).2, sem_eq_zero_of_no_sems (by decide) r.2⟩)
    (Cert.RefMgateFIdeal.Value.run (F := Ideal) m ρ)

theorem algebraic : @Cert.algebraic_MgateFIdeal_RefMgateFIdeal Cert.MgateFIdeal.Gen.facts Cert.RefMgateFIdeal.Gen.facts := by
  intro m g m' g' _ hag
  refine ⟨fun c => normed (m ((c : Thread nD τ).loc main_arg0)) (m ((c : Thread nD τ).loc main_arg1)) (m ((c : Thread nD τ).loc main_arg2)),
    (θ_run defs _ _).mono (fun _ h c => ⟨(h c).1.trans (final m c), (h c).2⟩) (Value.run_blocks (F := Ideal) m g),
    (θ_run Cert.RefMgateFIdeal.defs _ _).mono (fun _ h c => ⟨(h c).1.trans ?_, (h c).2⟩) (Cert.RefMgateFIdeal.Value.run (F := Ideal) m' g')⟩
  obtain ⟨e0, e1, e2⟩ := hag c
  rw [Cert.RefMgateFIdeal.Read.val_main_v17_eq, e0, e1, e2]
  exact reference_at _ _ _

end Cert.MgateFIdeal.Gate
end
-- ==== Proof.ConvF.lean ====
/- The causal convolution with its activation, forward: the value claim. -/
module

public import proofs.«01_k».proof.Defs
public import proofs.«01_k».proof.Proof.Gen.ConvFIdeal
public import proofs.«01_k».proof.Proof.Gen.ConvFIdeal.Value
public import proofs.«01_k».proof.Proof.Gen.RefConvFIdeal
public import proofs.«01_k».proof.Proof.Gen.RefConvFIdeal.Run
public import proofs.«01_k».proof.Proof.Gen.RefConvFIdeal.Read
public import proofs.«01_k».proof.Proof.Conv
public import proofs.«01_k».proof.Proof.Taps
public import proofs.«01_k».proof.Proof.ConvRef
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.ConvFIdeal.Conv

open Cert.ConvFIdeal Cert.ConvFIdeal.Gen Idealize.ShloMosaic Idealize.ShloMosaic.TcCoe Cert.Conv
open Cert.Taps (silu)
open Idealize.ShloMosaic.Pipeline (Dat)
open Idealize.SL.Sem

section
variable (a : FVec Ideal S2048x256 .f32) (w0 w1 w2 w3 b : FVec Ideal S1x256 .f32) (q : Fin 256)

theorem pay1_at (r : Fin 2048) : k0_pay1 (F := Ideal) (k0_pay2 a b w3 w0 w1) (k0_pay3 a w2) (ix2 r q)
    = silu (pre ![w0 (ix2 0 q), w1 (ix2 0 q), w2 (ix2 0 q), w3 (ix2 0 q)] (b (ix2 0 q)) (col a 0 q) r) := by
  pointwise [k0_pay1, k0_pay2, k0_pay3]
  have h3 := fun h => select_past (w0 (ix2 0 q)) a r q 3 (by omega) h
  have h2 := fun h => select_past (w1 (ix2 0 q)) a r q 2 (by omega) h
  have h1 := fun h => select_past (w2 (ix2 0 q)) a r q 1 (by omega) h
  simp only [h3, h2, h1]
  simp only [silu, pre, col_zero]
  rfl

/-- Row `k` of a block of taps. -/
abbrev wrow (w : S4x256.Idx → EReal) (k : Fin 4) : FVec Ideal S1x256 .f32 := fun i => w (ix2 k (i 1))

theorem ld_w (w : S4x256.Idx → EReal) (k : ℕ) (hk : k < 4) (inb : ∀ a : Fin 2, (![k, 0] : Fin 2 → ℕ) a + (![1, 256] : Fin 2 → ℕ) a ≤ (![4, 256] : Fin 2 → ℕ) a) :
    View.ld (Val := Elt Ideal) (e' := .f32) w (Rect.unit (s := S4x256) ![k, 0] ![1, 256] inb) = wrow w ⟨k, hk⟩ := by
  funext i
  refine congrArg w (funext (Fin.forall_fin_two.mpr ⟨Fin.ext ?_, Fin.ext ?_⟩))
  · show k + 1 * (i 0).val = k
    have : (i 0).val < 1 := (i 0).isLt
    omega
  · show 0 + 1 * (i 1).val = (i 1).val
    omega

theorem taps_eq (w : S4x256.Idx → EReal) : (![wrow w 0 (ix2 0 q), wrow w 1 (ix2 0 q), wrow w 2 (ix2 0 q), wrow w 3 (ix2 0 q)] : Fin 4 → EReal) = fun k => w (ix2 k q) := by
  funext k
  match k with
  | ⟨0, _⟩ => rfl
  | ⟨1, _⟩ => rfl
  | ⟨2, _⟩ => rfl
  | ⟨3, _⟩ => rfl
end

/-- Each row and channel of the convolution, times its activation: row `2048 b + t` is step `t` of sequence `b`. -/
def rows (X : FVec Ideal S4096x6144 .f32) (W : FVec Ideal S4x6144 .f32) (B : FVec Ideal S6144 .f32) : FVec Ideal S4096x6144 .f32 := fun i =>
  silu (pre (fun k => W (ix2 k (i 1))) (B (ix1 (i 1))) (col X ((i 0).val / 2048) (i 1)) ((i 0).val % 2048))

variable (m : (ℓ : Loc nD τ sig) → Buf (Elt Ideal) ℓ)

theorem idx : ∀ t : Fin cfg0.N, win0_0.index t = ![t.val / 24, t.val % 24] ∧ win0_1.index t = ![0, t.val % 24] ∧ win0_2.index t = ![0, t.val % 24] ∧ win0_3.index t = ![t.val / 24, t.val % 24] :=
  (by decide +kernel : ∀ t : Fin grid0.N, _)

/-- The three arguments on core `c`. -/
abbrev argX (c : Dev nD) : FVec Ideal S4096x6144 .f32 := m ((c : Thread nD τ).loc main_arg0)
abbrev argW (c : Dev nD) : FVec Ideal S4x6144 .f32 := m ((c : Thread nD τ).loc main_arg1)
abbrev argB (c : Dev nD) : FVec Ideal S6144 .f32 := m ((c : Thread nD τ).loc main_arg2)

theorem final (c : Dev nD) : (dats m 0 c).arrAt 3 cfg0.N = rows (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 48 := lt_of_lt_of_eq t.isLt N_0
  blk_simp
  rw [after0_3]
  idx_vars y
  have e : ((View.whole main_v1).slice (win0_3.rect t)).emb (ix2 y0 y1) = ix2 ⟨t.val / 24 * 2048 + y0.val, by omega⟩ ⟨t.val % 24 * 256 + y1.val, by omega⟩ := by
    blk_ext [idx t]
  rw [e]
  frame_out
  rw [ld_w _ 3 (by omega), ld_w _ 0 (by omega), ld_w _ 1 (by omega), ld_w _ 2 (by omega)]
  refine (pay1_at _ _ _ _ _ _ y1 y0).trans ?_
  rw [show (![wrow (iblk m c 1 t) ⟨0, by omega⟩ (ix2 0 y1), wrow (iblk m c 1 t) ⟨1, by omega⟩ (ix2 0 y1), wrow (iblk m c 1 t) ⟨2, by omega⟩ (ix2 0 y1), wrow (iblk m c 1 t) ⟨3, by omega⟩ (ix2 0 y1)] : Fin 4 → EReal)
    = fun k => iblk m c 1 t (ix2 k y1) from taps_eq y1 _]
  have h0 : col (iblk m c 0 t) 0 y1 = col (argX m c) (t.val / 24) ⟨t.val % 24 * 256 + y1.val, by omega⟩ := by
    funext s
    by_cases hs : s < 2048
    · rw [col_at _ _ _ _ (by omega) (by omega), col_at _ _ _ _ (by omega) (by omega)]
      blk_point [iblk, V, idx t]
    · rw [col, col, dif_neg (by omega), dif_neg (by omega)]
  have h1 : ∀ k : Fin 4, iblk m c 1 t (ix2 k y1) = argW m c (ix2 k ⟨t.val % 24 * 256 + y1.val, by omega⟩) := by
    intro k
    blk_point [iblk, V, idx t]
  have h2 : iblk m c 2 t (ix2 0 y1) = argB m c (ix1 ⟨t.val % 24 * 256 + y1.val, by omega⟩) := by
    blk_point [iblk, V, idx t]
  rw [h0, h2, funext h1]
  have e1 : (t.val / 24 * 2048 + y0.val) / 2048 = t.val / 24 := by omega
  have e2 : (t.val / 24 * 2048 + y0.val) % 2048 = y0.val := by omega
  show _ = silu (pre _ _ (col _ ((t.val / 24 * 2048 + y0.val) / 2048) _) ((t.val / 24 * 2048 + y0.val) % 2048))
  rw [e1, e2]
  rfl

section
open Cert.RefConvFIdeal.Read
variable (X : FVec Ideal S4096x6144 .f32) (W : FVec Ideal S4x6144 .f32) (B : FVec Ideal S6144 .f32)

theorem past_at (b : Fin 2) (t : Fin 2048) (C : Fin 6144) :
    val_main_v5 (F := Ideal) X (ix3 b t C) = past (col X b C) 3 t ∧ val_main_v13 (F := Ideal) X (ix3 b t C) = past (col X b C) 2 t
    ∧ val_main_v20 (F := Ideal) X (ix3 b t C) = past (col X b C) 1 t ∧ val_main_v27 (F := Ideal) X (ix3 b t C) = col X b C t :=
  Cert.ReferenceIdeal.Conv.past_at X b t C

theorem pre_at (b : Fin 2) (t : Fin 2048) (C : Fin 6144) : val_main_v34 (F := Ideal) X W B (ix3 b t C) = pre (tap W C) (B (ix1 C)) (col X b C) t := by
  obtain ⟨e0, e1, e2, e3⟩ := past_at X b t C
  pointwise [val_main_v34, val_main_v31, val_main_v24, val_main_v17, val_main_v10, val_main_v9, val_main_cst_0, val_main_v8, val_main_v16, val_main_v23, val_main_v30, val_main_v33, val_main_v32, val_main_v7, val_main_v6, val_main_v4, val_main_v3,
    val_main_v15, val_main_v14, val_main_v12, val_main_v11, val_main_v22, val_main_v21, val_main_v19, val_main_v18, val_main_v29, val_main_v28, val_main_v26, val_main_v25]
  rw [e0, e1, e2, e3]
  exact Cert.ReferenceIdeal.Conv.pre_order _ _ _ _ _

theorem row_at (R : Fin 4096) (C : Fin 6144) : val_main_v36 (F := Ideal) X W B (ix2 R C) = rows X W B (ix2 R C) := by
  have hR := R.isLt
  have e := pre_at X W B ⟨R.val / 2048, by omega⟩ ⟨R.val % 2048, by omega⟩ C
  pointwise [val_main_v36, val_main_v35, val_main_call0_v5, val_main_call0_v4, val_main_call0_v3, val_main_call0_v2, val_main_call0_v1, val_main_call0_v0, val_main_call0_cst,
    val_main_call0_cst_0]
  rw [e]
  rfl

theorem rows_eq : val_main_v36 (F := Ideal) X W B = rows X W B :=
  funext fun i => (congrArg _ (eq_ix2 i)).trans ((row_at X W B (i 0) (i 1)).trans (congrArg _ (eq_ix2 i)).symm)
end

/-- The host-only reference ends with its arguments unchanged and, having no semaphore, every counter at zero. -/
theorem frame_reference : @Cert.quiescent_RefConvFIdeal Cert.RefConvFIdeal.Gen.facts := fun m ρ _ =>
  (θ_run Cert.RefConvFIdeal.defs _ _).mono (fun r h => ⟨fun c => (h c).2, sem_eq_zero_of_no_sems (by decide) r.2⟩)
    (Cert.RefConvFIdeal.Value.run (F := Ideal) m ρ)

theorem algebraic : @Cert.algebraic_ConvFIdeal_RefConvFIdeal Cert.ConvFIdeal.Gen.facts Cert.RefConvFIdeal.Gen.facts := by
  intro m g m' g' _ hag
  refine ⟨fun c => rows (m ((c : Thread nD τ).loc main_arg0)) (m ((c : Thread nD τ).loc main_arg1)) (m ((c : Thread nD τ).loc main_arg2)),
    (θ_run defs _ _).mono (fun _ h c => ⟨(h c).1.trans (final m c), (h c).2⟩) (Value.run_blocks (F := Ideal) m g),
    (θ_run Cert.RefConvFIdeal.defs _ _).mono (fun _ h c => ⟨(h c).1.trans ?_, (h c).2⟩) (Cert.RefConvFIdeal.Value.run (F := Ideal) m' g')⟩
  obtain ⟨e0, e1, e2⟩ := hag c
  rw [Cert.RefConvFIdeal.Read.val_main_v36_eq, e0, e1, e2]
  exact rows_eq _ _ _

end Cert.ConvFIdeal.Conv
end
-- ==== Proof.GateF.lean ====
/- The feed-forward gate forward, convolution and gate: the value claim. -/
module

public import proofs.«01_k».proof.Defs
public import proofs.«01_k».proof.Proof.Gen.GateFIdeal
public import proofs.«01_k».proof.Proof.Gen.GateFIdeal.Value
public import proofs.«01_k».proof.Proof.Gen.RefGateFIdeal
public import proofs.«01_k».proof.Proof.Gen.RefGateFIdeal.Run
public import proofs.«01_k».proof.Proof.Gen.RefGateFIdeal.Read
public import proofs.«01_k».proof.Proof.Taps
public import proofs.«01_k».proof.Proof.Rows
public import proofs.«01_k».proof.Proof.GateConv
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.GateFIdeal.Taps

open Cert.GateFIdeal Cert.GateFIdeal.Gen Idealize.ShloMosaic Idealize.ShloMosaic.TcCoe Cert.Taps Cert.Rows
open Cert.Conv hiding pre dx dw tap gradX gradW
open Idealize.ShloMosaic.Pipeline (Dat)
open Idealize.SL.Sem

section
variable (a : FVec Ideal S2048x256 .bf16) (w0 w1 w2 b : FVec Ideal S1x256 .f32) (q : Fin 256)

/-- The three taps of channel `q`. -/
abbrev taps : Fin 3 → EReal := ![w0 (ix2 0 q), w1 (ix2 0 q), w2 (ix2 0 q)]

/-- The convolution's block in the gate's half. -/
theorem pay5_at (r : Fin 2048) : k0_pay5 (F := Ideal) a b w2 w0 w1 (ix2 r q) = pre (taps w0 w1 w2 q) (b (ix2 0 q)) (col a 0 q) r := by
  pointwise [k0_pay5]
  have h2 := fun h => select_past (w0 (ix2 0 q)) a r q 2 (by omega) h
  have h1 := fun h => select_past (w1 (ix2 0 q)) a r q 1 (by omega) h
  simp only [h2, h1]
  simp only [pre, col_zero]
  rfl

/-- The convolution's block in the other half. -/
theorem pay1_at (r : Fin 2048) : k0_pay1 (F := Ideal) (k0_pay6 a) (k0_pay7 b) (k0_pay8 a w2) w0 w1 (ix2 r q)
    = pre (taps w0 w1 w2 q) (b (ix2 0 q)) (col a 0 q) r := by
  pointwise [k0_pay1, k0_pay6, k0_pay7, k0_pay8]
  have h2 := fun h => select_past (w0 (ix2 0 q)) a r q 2 (by omega) h
  have h1 := fun h => select_past (w1 (ix2 0 q)) a r q 1 (by omega) h
  simp only [h2, h1]
  simp only [pre, col_zero]
  rfl

/-- Row `k` of a block of taps. -/
abbrev wrow (w : S3x256.Idx → EReal) (k : Fin 3) : FVec Ideal S1x256 .f32 := fun i => w (ix2 k (i 1))

theorem ld_w (w : S3x256.Idx → EReal) (k : ℕ) (hk : k < 3) (inb : ∀ a : Fin 2, (![k, 0] : Fin 2 → ℕ) a + (![1, 256] : Fin 2 → ℕ) a ≤ (![3, 256] : Fin 2 → ℕ) a) :
    View.ld (Val := Elt Ideal) (e' := .f32) w (Rect.unit (s := S3x256) ![k, 0] ![1, 256] inb) = wrow w ⟨k, hk⟩ := by
  funext i
  refine congrArg w (funext (Fin.forall_fin_two.mpr ⟨Fin.ext ?_, Fin.ext ?_⟩))
  · show k + 1 * (i 0).val = k
    have : (i 0).val < 1 := (i 0).isLt
    omega
  · show 0 + 1 * (i 1).val = (i 1).val
    omega

/-- One channel of the convolution's block, from a block of taps and of biases. -/
abbrev chan (a : S2048x256.Idx → EReal) (w : S3x256.Idx → EReal) (b : S1x256.Idx → EReal) (q : Fin 256) : ℕ → EReal :=
  pre (fun k => w (ix2 k q)) (b (ix2 0 q)) (col a 0 q)

theorem taps_eq (w : S3x256.Idx → EReal) (q : Fin 256) : taps (wrow w 0) (wrow w 1) (wrow w 2) q = fun k => w (ix2 k q) := by
  funext k
  match k with
  | ⟨0, _⟩ => rfl
  | ⟨1, _⟩ => rfl
  | ⟨2, _⟩ => rfl

variable (x0 x1 : FVec Ideal S2048x256 .bf16) (x2 x3 : FVec Ideal S3x256 .f32) (x4 x5 : FVec Ideal S1x256 .f32)

theorem lo_at (r : Fin 2048) : k0_pay9 (F := Ideal) x0 x1 x2 x3 x4 x5 (ix2 r q) = chan x0 x2 x4 q r := by
  rw [k0_pay9, show View.ld (Val := Elt Ideal) (e' := .bf16) x0 r0_0 = x0 from View.ld_unit_lit _ _ (by decide), show View.ld (Val := Elt Ideal) (e' := .f32) x4 r0_1 = x4 from View.ld_unit_lit _ _ (by decide), ld_w x2 2 (by omega), ld_w x2 0 (by omega), ld_w x2 1 (by omega), pay5_at, chan, ← taps_eq]
  rfl

theorem hi_at (r : Fin 2048) : k0_pay1 (F := Ideal) (k0_pay10 x0 x1 x2 x3 x4 x5) (k0_pay11 x0 x1 x2 x3 x4 x5) (k0_pay12 x0 x1 x2 x3 x4 x5)
    (View.ld x3 r0_3) (View.ld x3 r0_4) (ix2 r q) = chan x1 x3 x5 q r := by
  rw [k0_pay10, k0_pay11, k0_pay12, show View.ld (Val := Elt Ideal) (e' := .bf16) x1 r0_0 = x1 from View.ld_unit_lit _ _ (by decide), show View.ld (Val := Elt Ideal) (e' := .f32) x5 r0_1 = x5 from View.ld_unit_lit _ _ (by decide), ld_w x3 2 (by omega), ld_w x3 0 (by omega), ld_w x3 1 (by omega), pay1_at, chan, ← taps_eq]
  rfl

theorem pay2_at (r : Fin 2048) : k0_pay2 (F := Ideal) (k0_pay9 x0 x1 x2 x3 x4 x5) (k0_pay10 x0 x1 x2 x3 x4 x5) (k0_pay11 x0 x1 x2 x3 x4 x5)
    (k0_pay12 x0 x1 x2 x3 x4 x5) (View.ld x3 r0_3) (View.ld x3 r0_4) (ix2 r q) = silu (chan x0 x2 x4 q r) * chan x1 x3 x5 q r := by
  rw [← lo_at q x0 x1 x2 x3 x4 x5 r, ← hi_at q x0 x1 x2 x3 x4 x5 r]
  pointwise [k0_pay2]
end

variable (m : (ℓ : Loc nD τ sig) → Buf (Elt Ideal) ℓ)

theorem idx : ∀ t : Fin cfg0.N, win0_0.index t = ![t.val / 22, t.val % 22] ∧ win0_1.index t = ![t.val / 22, t.val % 22 + 22] ∧ win0_2.index t = ![0, t.val % 22] ∧ win0_3.index t = ![0, t.val % 22 + 22] ∧ win0_4.index t = ![0, t.val % 22] ∧ win0_5.index t = ![0, t.val % 22 + 22] ∧ win0_6.index t = ![t.val / 22, t.val % 22] ∧ win0_7.index t = ![0, t.val / 22, t.val % 22] :=
  (by decide +kernel : ∀ t : Fin grid0.N, _)

/-- The three arguments on core `c`. -/
abbrev argA (c : Dev nD) : FVec Ideal S4096x11264 .bf16 := m ((c : Thread nD τ).loc main_arg0)
abbrev argW (c : Dev nD) : FVec Ideal S3x11264 .f32 := m ((c : Thread nD τ).loc main_arg1)
abbrev argB (c : Dev nD) : FVec Ideal S11264 .f32 := m ((c : Thread nD τ).loc main_arg2)

section
variable (c : Dev nD) (t : Fin cfg0.N) (q : Fin 256) (j : Fin 5632) (hj : j.val = t.val % 22 * 256 + q.val)
include hj

/-- One channel of a point's block is a channel of the whole convolution, in the gate's half and in the other. -/
theorem chan_lo : chan (iblk m c 0 t) (iblk m c 2 t) (iblk m c 4 t) q = conv (argA m c) (argW m c) (argB m c) (t.val / 22) (lo j) := by
  have ht : t.val < 44 := lt_of_lt_of_eq t.isLt N_0
  have h0 : col (iblk m c 0 t) 0 q = col (argA m c) (t.val / 22) (lo j) := by
    funext s
    by_cases hs : s < 2048
    · rw [col_at _ _ _ _ (by omega) (by omega), col_at _ _ _ _ (by omega) (by omega)]
      blk_point [iblk, V, idx t]
    · rw [col, col, dif_neg (by omega), dif_neg (by omega)]
  have h2 : ∀ k : Fin 3, iblk m c 2 t (ix2 k q) = argW m c (ix2 k (lo j)) := by
    intro k
    blk_point [iblk, V, idx t]
  have h4 : iblk m c 4 t (ix2 0 q) = argB m c (ix1 (lo j)) := by
    blk_point [iblk, V, idx t]
  rw [chan, conv, h0, h4, funext h2]

theorem chan_hi : chan (iblk m c 1 t) (iblk m c 3 t) (iblk m c 5 t) q = conv (argA m c) (argW m c) (argB m c) (t.val / 22) (hi j) := by
  have ht : t.val < 44 := lt_of_lt_of_eq t.isLt N_0
  have h0 : col (iblk m c 1 t) 0 q = col (argA m c) (t.val / 22) (hi j) := by
    funext s
    by_cases hs : s < 2048
    · rw [col_at _ _ _ _ (by omega) (by omega), col_at _ _ _ _ (by omega) (by omega)]
      blk_point [iblk, V, idx t]
    · rw [col, col, dif_neg (by omega), dif_neg (by omega)]
  have h2 : ∀ k : Fin 3, iblk m c 3 t (ix2 k q) = argW m c (ix2 k (hi j)) := by
    intro k
    blk_point [iblk, V, idx t]
  have h4 : iblk m c 5 t (ix2 0 q) = argB m c (ix1 (hi j)) := by
    blk_point [iblk, V, idx t]
  rw [chan, conv, h0, h4, funext h2]
end

theorem final6 (c : Dev nD) : (dats m 0 c).arrAt 6 cfg0.N = gated (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht : t.val < 44 := lt_of_lt_of_eq t.isLt N_0
  blk_simp
  rw [after0_6]
  idx_vars y
  have e : ((View.whole main_v2_0).slice (win0_6.rect t)).emb (ix2 y0 y1) = ix2 ⟨t.val / 22 * 2048 + y0.val, by omega⟩ ⟨t.val % 22 * 256 + y1.val, by omega⟩ := by
    blk_ext [idx t]
  rw [e]
  frame_out
  rw [pay2_at, chan_lo m c t y1 ⟨t.val % 22 * 256 + y1.val, by omega⟩ rfl, chan_hi m c t y1 ⟨t.val % 22 * 256 + y1.val, by omega⟩ rfl]
  have e1 : (t.val / 22 * 2048 + y0.val) / 2048 = t.val / 22 := by omega
  have e2 : (t.val / 22 * 2048 + y0.val) % 2048 = y0.val := by omega
  show _ = silu (conv _ _ _ ((t.val / 22 * 2048 + y0.val) / 2048) _ ((t.val / 22 * 2048 + y0.val) % 2048))
    * conv _ _ _ ((t.val / 22 * 2048 + y0.val) / 2048) _ ((t.val / 22 * 2048 + y0.val) % 2048)
  rw [e1, e2]
  rfl

theorem pay3_at (v : FVec Ideal S2048x256 .f32) (r : Fin 2048) (q : Fin 256) : k0_pay3 (F := Ideal) v (ix3 0 r q) = v (ix2 r q) := by
  pointwise [k0_pay3]

theorem pay4_at (v p : FVec Ideal S2048x256 .f32) (b w0 w1 : FVec Ideal S1x256 .f32) (r : Fin 2048) (q : Fin 256) :
    k0_pay4 (F := Ideal) v b p w0 w1 (ix3 0 r q) = k0_pay1 (F := Ideal) v b p w0 w1 (ix2 r q) := by
  pointwise [k0_pay4]

theorem final7 (c : Dev nD) : (dats m 0 c).arrAt 7 cfg0.N = convRows (m ((c : Thread nD τ).loc main_arg0)) (m ((c : Thread nD τ).loc main_arg1)) (m ((c : Thread nD τ).loc main_arg2)) := by
  refine (dats m 0 c).arrAt_eq_of_covers 7 _ (by decide +kernel) fun t hf y => ?_
  have ht : t.val < 44 := lt_of_lt_of_eq t.isLt N_0
  blk_simp
  rw [after0_7]
  idx_vars y
  have e : ((View.whole main_v2_1).slice (win0_7.rect t)).emb (ix3 y0 y1 y2) = ix3 y0 ⟨t.val / 22 * 2048 + y1.val, by omega⟩ ⟨t.val % 22 * 256 + y2.val, by omega⟩ := by
    blk_ext [idx t]
  rw [e, out0_7, ← View.read_writes_junk_apply_eq_canon (Memref.whole cc0_stg7_0 : Memref sig .tc .vmem S2x2048x256 .bf16).view, slabs, pay3_at, pay4_at, lo_at, hi_at,
    chan_lo m c t y2 ⟨t.val % 22 * 256 + y2.val, by omega⟩ rfl, chan_hi m c t y2 ⟨t.val % 22 * 256 + y2.val, by omega⟩ rfl]
  have e1 : (t.val / 22 * 2048 + y1.val) / 2048 = t.val / 22 := by omega
  have e2 : (t.val / 22 * 2048 + y1.val) % 2048 = y1.val := by omega
  show _ = if y0.val = 0 then conv _ _ _ ((t.val / 22 * 2048 + y1.val) / 2048) _ ((t.val / 22 * 2048 + y1.val) % 2048)
    else conv _ _ _ ((t.val / 22 * 2048 + y1.val) / 2048) _ ((t.val / 22 * 2048 + y1.val) % 2048)
  rw [e1, e2]
  rfl

open Cert.RefGateFIdeal.Read in
theorem gated_eq (X : FVec Ideal S4096x11264 .bf16) (W : FVec Ideal S3x11264 .f32) (B : FVec Ideal S11264 .f32) :
    val_main_v34 (F := Ideal) X W B = gated X W B :=
  funext fun i => (congrArg _ (eq_ix2 i)).trans ((Cert.RefGateFIdeal.Taps.gated_at X W B (i 0) (i 1)).trans (congrArg _ (eq_ix2 i)).symm)

open Cert.RefGateFIdeal.Read in
theorem convRows_eq (X : FVec Ideal S4096x11264 .bf16) (W : FVec Ideal S3x11264 .f32) (B : FVec Ideal S11264 .f32) :
    val_main_v38 (F := Ideal) X W B = convRows X W B :=
  funext fun i => (congrArg _ (eq_ix3 i)).trans ((Cert.RefGateFIdeal.Taps.convRows_at X W B (i 0) (i 1) (i 2)).trans (congrArg _ (eq_ix3 i)).symm)

/-- The host-only reference ends with its arguments unchanged and, having no semaphore, every counter at zero. -/
theorem frame_reference : @Cert.quiescent_RefGateFIdeal Cert.RefGateFIdeal.Gen.facts := fun m ρ _ =>
  (θ_run Cert.RefGateFIdeal.defs _ _).mono (fun r h => ⟨fun c => (h c).2.2, sem_eq_zero_of_no_sems (by decide) r.2⟩)
    (Cert.RefGateFIdeal.Value.run (F := Ideal) m ρ)

theorem algebraic : @Cert.algebraic_GateFIdeal_RefGateFIdeal Cert.GateFIdeal.Gen.facts Cert.RefGateFIdeal.Gen.facts := by
  intro m g m' g' _ hag
  refine ⟨fun c => gated (m ((c : Thread nD τ).loc main_arg0)) (m ((c : Thread nD τ).loc main_arg1)) (m ((c : Thread nD τ).loc main_arg2)),
    fun c => convRows (m ((c : Thread nD τ).loc main_arg0)) (m ((c : Thread nD τ).loc main_arg1)) (m ((c : Thread nD τ).loc main_arg2)),
    (θ_run defs _ _).mono (fun _ h c => ⟨(h c).1.trans (final6 m c), (h c).2.1.trans (final7 m c), (h c).2.2⟩) (Value.run_blocks (F := Ideal) m g),
    (θ_run Cert.RefGateFIdeal.defs _ _).mono (fun _ h c => ?_) (Cert.RefGateFIdeal.Value.run (F := Ideal) m' g')⟩
  obtain ⟨e0, e1, e2⟩ := hag c
  refine ⟨(h c).1.trans ?_, (h c).2.1.trans ?_, (h c).2.2⟩
  · rw [Cert.RefGateFIdeal.Read.val_main_v34_eq, e0, e1, e2]
    exact gated_eq _ _ _
  · rw [Cert.RefGateFIdeal.Read.val_main_v38_eq, e0, e1, e2]
    exact convRows_eq _ _ _

end Cert.GateFIdeal.Taps
end
-- ==== Proof.HgrnHead.lean ====
/- The forward HGRN2 scan, one head of one chunk of 128 rows, as the kernel computes it: the chunk is
   cut in four blocks of 32 rows, a block is compared with itself row by row (`near`) and with the
   rows before it through the row just before the block (`far`). Both heads of a grid point run these
   same operations; the two `rfl` theorems say so. -/
module

public import proofs.«01_k».proof.Proof.Gen.HgrnFIdeal.Value
public import Idealize.ShloMosaic.PureOps.Ideal
public import Idealize.ShloMosaic.Lib.Pipeline.ValueKit
public import Idealize.ShloMosaic.Lib.Pointwise

@[expose] public section

set_option maxRecDepth 16384

noncomputable section

namespace Cert.HgrnFIdeal.Hgrn

open Cert.HgrnFIdeal Cert.HgrnFIdeal.Gen Idealize.ShloMosaic Idealize.ShloMosaic.TcCoe

/-- A block's rows against themselves: the scores on and under the diagonal, times the values. -/
def near (b q k v : FVec Ideal S32x128 .f32) : FVec Ideal S32x128 .f32 :=
  matmul dot_S32x32_S32x128_S32x128_1_0_0_1_n_n none
    (truncf .bf16
      (select k0_pay14
        (multiReduction .add [2] S32x32
          (mulf
            (mulf (broadcastTo S32x32x128 (shapeCast S32x1x128 q shapeCasts_S32x128_S32x1x128) broadcasts_S32x1x128_S32x32x128)
              (broadcastTo S32x32x128 (shapeCast S1x32x128 k shapeCasts_S32x128_S1x32x128) broadcasts_S1x32x128_S32x32x128))
            (exp
              (minimumf
                (subf (broadcastTo S32x32x128 (shapeCast S32x1x128 b shapeCasts_S32x128_S32x1x128) broadcasts_S32x1x128_S32x32x128)
                  (broadcastTo S32x32x128 (shapeCast S1x32x128 b shapeCasts_S32x128_S1x32x128) broadcasts_S1x32x128_S32x32x128))
                (broadcast S32x32x128 (Scalar.ofBits (F := Ideal) .f32 0x00000000#32)))))
          0x00000000#32 reduces_S32x32x128_S32x32 (.inl rfl) rfl)
        (broadcast S32x32 (Scalar.ofBits (F := Ideal) .f32 0x00000000#32)))
      bitsLt_bf16_f32)
    (truncf .bf16 v bitsLt_bf16_f32) (constant S32x128 .f32 0x00000000#32)

/-- A block's rows against the `n` rows before it: both sides are scaled by their distance from the
    row `r` just before the block. -/
def far (n : BitVec 32) (r : FVec Ideal S1x128 .f32) (b q : FVec Ideal S32x128 .f32) (B k v : FVec Ideal S128x128 .f32) : FVec Ideal S32x128 .f32 :=
  matmul dot_S32x128_S128x128_S32x128_1_0_0_1_n_n none
    (truncf .bf16
      (select (cmpi .slt (iota .tc S32x128 32 [1] iota_S32x128_d1_w32) (broadcast S32x128 n))
        (matmul dot_S32x128_S128x128_S32x128_1_1_0_0_n_n none
          (truncf .bf16 (mulf q (exp (subf b (broadcastTo S32x128 r broadcasts_S1x128_S32x128)))) bitsLt_bf16_f32)
          (truncf .bf16 (mulf k (exp (minimumf (subf (broadcastTo S128x128 r broadcasts_S1x128_S128x128) B)
            (broadcast S128x128 (Scalar.ofBits (F := Ideal) .f32 0x00000000#32))))) bitsLt_bf16_f32)
          (constant S32x128 .f32 0x00000000#32))
        (broadcast S32x128 (Scalar.ofBits (F := Ideal) .f32 0x00000000#32)))
      bitsLt_bf16_f32)
    (truncf .bf16 v bitsLt_bf16_f32) (constant S32x128 .f32 0x00000000#32)

/-- The queries against the state the chunk begins with. -/
def inter (S q B : FVec Ideal S128x128 .f32) : FVec Ideal S128x128 .f32 :=
  matmul dot_S128x128_S128x128_S128x128_1_1_0_0_n_n none (truncf .bf16 (mulf q (exp B)) bitsLt_bf16_f32)
    (truncf .bf16 S bitsLt_bf16_f32) (constant S128x128 .f32 0x00000000#32)

/-- The four blocks of a chunk, one under the other. -/
def intra (B q k v : FVec Ideal S128x128 .f32) : FVec Ideal S128x128 .f32 :=
  concatenate S128x128 0
    [⟨S32x128, near (extractStridedSlice S32x128 ![0, 0] B slices_S128x128_o0_0_S32x128) (extractStridedSlice S32x128 ![0, 0] q slices_S128x128_o0_0_S32x128)
        (extractStridedSlice S32x128 ![0, 0] k slices_S128x128_o0_0_S32x128) (extractStridedSlice S32x128 ![0, 0] v slices_S128x128_o0_0_S32x128)⟩,
      ⟨S32x128, addf
        (near (extractStridedSlice S32x128 ![32, 0] B slices_S128x128_o32_0_S32x128) (extractStridedSlice S32x128 ![32, 0] q slices_S128x128_o32_0_S32x128)
          (extractStridedSlice S32x128 ![32, 0] k slices_S128x128_o32_0_S32x128) (extractStridedSlice S32x128 ![32, 0] v slices_S128x128_o32_0_S32x128))
        (far 32#32 (extractStridedSlice S1x128 ![31, 0] B slices_S128x128_o31_0_S1x128) (extractStridedSlice S32x128 ![32, 0] B slices_S128x128_o32_0_S32x128)
          (extractStridedSlice S32x128 ![32, 0] q slices_S128x128_o32_0_S32x128) B k v)⟩,
      ⟨S32x128, addf
        (near (extractStridedSlice S32x128 ![64, 0] B slices_S128x128_o64_0_S32x128) (extractStridedSlice S32x128 ![64, 0] q slices_S128x128_o64_0_S32x128)
          (extractStridedSlice S32x128 ![64, 0] k slices_S128x128_o64_0_S32x128) (extractStridedSlice S32x128 ![64, 0] v slices_S128x128_o64_0_S32x128))
        (far 64#32 (extractStridedSlice S1x128 ![63, 0] B slices_S128x128_o63_0_S1x128) (extractStridedSlice S32x128 ![64, 0] B slices_S128x128_o64_0_S32x128)
          (extractStridedSlice S32x128 ![64, 0] q slices_S128x128_o64_0_S32x128) B k v)⟩,
      ⟨S32x128, addf
        (near (extractStridedSlice S32x128 ![96, 0] B slices_S128x128_o96_0_S32x128) (extractStridedSlice S32x128 ![96, 0] q slices_S128x128_o96_0_S32x128)
          (extractStridedSlice S32x128 ![96, 0] k slices_S128x128_o96_0_S32x128) (extractStridedSlice S32x128 ![96, 0] v slices_S128x128_o96_0_S32x128))
        (far 96#32 (extractStridedSlice S1x128 ![95, 0] B slices_S128x128_o95_0_S1x128) (extractStridedSlice S32x128 ![96, 0] B slices_S128x128_o96_0_S32x128)
          (extractStridedSlice S32x128 ![96, 0] q slices_S128x128_o96_0_S32x128) B k v)⟩]
    concatenates_S32x128_S32x128_S32x128_S32x128_S128x128_d0

/-- The head's output before it is stored: the mean square normalised to one, times the weight and the gate. -/
def gated (o g : FVec Ideal S128x128 .f32) (w : FVec Ideal S1x128 .f32) : FVec Ideal S128x128 .bf16 :=
  truncf .bf16
    (mulf
      (mulf
        (mulf o
          (broadcastTo S128x128
            (rsqrt
              (addf
                (divf (shapeCast S128x1 (multiReduction .add [1] S128 (mulf o o) 0x00000000#32 reduces_S128x128_S128 (.inl rfl) rfl) shapeCasts_S128_S128x1)
                  (broadcast S128x1 (Scalar.ofBits (F := Ideal) .f32 0x43000000#32)))
                (broadcast S128x1 (Scalar.ofBits (F := Ideal) .f32 0x3727C5AC#32))))
            broadcasts_S128x1_S128x128))
        (broadcastTo S128x128 (k0_pay1 w) broadcasts_S1x128_S128x128))
      (mulf g (logistic g)))
    bitsLt_bf16_f32

/-- A head's output rows in one chunk, of the state before the chunk and the five rows read. -/
def headOut (S q f v g : FVec Ideal S128x128 .f32) (lb w : FVec Ideal S1x128 .f32) : FVec Ideal S128x128 .bf16 :=
  gated (addf (inter S (k0_pay8 q) (k0_pay10 f lb)) (intra (k0_pay10 f lb) (k0_pay8 q) (k0_pay9 f lb) v)) g w

/-- A head's state after the chunk. -/
def headState (S f v : FVec Ideal S128x128 .f32) (lb : FVec Ideal S1x128 .f32) : FVec Ideal S128x128 .f32 :=
  k0_pay33 S v (k0_pay9 f lb) (k0_pay10 f lb)

/-- The first head stores `headOut`. -/
theorem first_out (S q f v g : FVec Ideal S128x128 .f32) (lb w : FVec Ideal S1x128 .f32) :
    k0_pay34 (k0_pay1 w) v g (k0_pay9 f lb) (k0_pay13 (k0_pay11 q f lb) (k0_pay12 S))
          (iota .tc S32x128 32 [1] iota_S32x128_d1_w32)
          (k0_pay15 v (k0_pay8 q) (k0_pay9 f lb) (k0_pay10 f lb))
          (k0_pay20 v (k0_pay9 f lb) (k0_pay10 f lb) (iota .tc S32x128 32 [1] iota_S32x128_d1_w32)
            (k0_pay16 (k0_pay10 f lb)) (k0_pay17 (k0_pay8 q))
            (k0_pay18 (k0_pay8 q) (k0_pay9 f lb) (k0_pay10 f lb)) (k0_pay19 v))
          (k0_pay26 v (k0_pay9 f lb) (k0_pay10 f lb) (iota .tc S32x128 32 [1] iota_S32x128_d1_w32)
            (k0_pay22 (k0_pay8 q)) (k0_pay23 v (k0_pay8 q) (k0_pay9 f lb) (k0_pay10 f lb) k0_pay14)
            (k0_pay24 (k0_pay10 f lb)) (k0_pay25 (k0_pay10 f lb)))
          (k0_pay29 v (k0_pay8 q) (k0_pay9 f lb) (k0_pay10 f lb) k0_pay14)
          (k0_pay31 (k0_pay8 q) (k0_pay10 f lb)) (k0_pay32 (k0_pay10 f lb)) (FloatOps.ofBits .f32 0#32)
      = headOut S q f v g lb w := rfl

/-- The second head stores `headOut`. -/
theorem second_out (S q f v g : FVec Ideal S128x128 .f32) (lb w : FVec Ideal S1x128 .f32) :
    k0_pay5 w v g (k0_pay40 S q f lb) (iota .tc S32x128 32 [1] iota_S32x128_d1_w32)
          (k0_pay43 v (k0_pay37 q) (k0_pay38 f lb) k0_pay41 (k0_pay42 f lb))
          (k0_pay49 v (k0_pay38 f lb) (k0_pay39 f lb) (iota .tc S32x128 32 [1] iota_S32x128_d1_w32)
            (k0_pay46 v (k0_pay37 q) (k0_pay38 f lb) (k0_pay39 f lb) k0_pay41) (k0_pay47 (k0_pay39 f lb))
            (k0_pay48 (k0_pay37 q) (k0_pay39 f lb)))
          (k0_pay56 v (k0_pay38 f lb) (iota .tc S32x128 32 [1] iota_S32x128_d1_w32)
            (k0_pay52 v (k0_pay37 q) (k0_pay38 f lb) (k0_pay39 f lb) k0_pay41)
            (k0_pay54 (k0_pay37 q) (k0_pay39 f lb)) (k0_pay55 (k0_pay39 f lb)))
          (k0_pay59 v (k0_pay37 q) (k0_pay38 f lb) (k0_pay39 f lb) k0_pay41)
          (k0_pay61 (k0_pay37 q) (k0_pay39 f lb)) (k0_pay62 (k0_pay38 f lb) (k0_pay39 f lb))
          (constant S32x128 .f32 0#32)
      = headOut S q f v g lb w := rfl

/-- The second head's state is `headState`. -/
theorem second_state (S f v : FVec Ideal S128x128 .f32) (lb : FVec Ideal S1x128 .f32) :
    k0_pay4 S v (k0_pay38 f lb) (k0_pay39 f lb) = headState S f v lb := rfl

end Cert.HgrnFIdeal.Hgrn

end
-- ==== Proof.HgrnReal.lean ====
/- The HGRN2 recurrence of one head, over the reals: every row of the output as one sum over the rows
   up to it, and the same sum cut at the beginning of a chunk — the rows before it gathered in a state. -/
module

public import Mathlib.Analysis.SpecialFunctions.Log.Basic
public import Mathlib.Algebra.BigOperators.Ring.Finset
public import Mathlib.Algebra.BigOperators.Intervals
public import Mathlib.Algebra.Order.BigOperators.Group.Finset

@[expose] public section

noncomputable section

namespace Cert.Hgrn

open Finset

/-- The sigmoid. -/
def sig (x : ℝ) : ℝ := (1 + Real.exp (-x))⁻¹

theorem sig_pos (x : ℝ) : 0 < sig x := inv_pos.mpr (by positivity)

theorem sig_le_one (x : ℝ) : sig x ≤ 1 := inv_le_one_of_one_le₀ (by linarith [Real.exp_pos (-x)])

/-- The forget gate: between its lower bound and one. -/
def gate (l y : ℝ) : ℝ := l + (1 - l) * sig y

theorem gate_pos {l : ℝ} (y : ℝ) (h0 : 0 ≤ l) (h1 : l ≤ 1) : 0 < gate l y := by
  have hs := sig_pos y
  have hs1 := sig_le_one y
  unfold gate
  rcases h1.lt_or_eq with h | rfl
  · have := mul_pos (sub_pos.mpr h) hs
    linarith
  · norm_num

theorem gate_le_one {l : ℝ} (y : ℝ) (h1 : l ≤ 1) : gate l y ≤ 1 := by
  have := mul_le_mul_of_nonneg_left (sig_le_one y) (sub_nonneg.mpr h1)
  unfold gate
  linarith

section

variable (x y z : ℕ → Fin 128 → ℝ) (l : Fin 128 → ℝ)

/-- The queries. -/
def qry (t : ℕ) (d : Fin 128) : ℝ := x t d * sig (x t d)
/-- The keys. -/
def key (t : ℕ) (d : Fin 128) : ℝ := (1 - l d) * sig (-(y t d))
/-- The log of the forget gate, summed over the first `n` rows. -/
def pre (n : ℕ) (d : Fin 128) : ℝ := ∑ s ∈ range n, Real.log (gate (l d) (y s d))
/-- The score of row `s` in row `t`. -/
def score (t s : ℕ) : ℝ := ∑ d, qry x t d * key y l s d * Real.exp (pre y l (t + 1) d - pre y l (s + 1) d)
/-- A row of the output: the values up to it, each with its score. -/
def mix (t : ℕ) (e : Fin 128) : ℝ := ∑ s ∈ range (t + 1), score x y l t s * z s e
/-- What the first `n` rows leave: value `e` against key `d`. -/
def state (n : ℕ) (e d : Fin 128) : ℝ := ∑ s ∈ range n, z s e * (key y l s d * Real.exp (pre y l n d - pre y l (s + 1) d))

/-- The log gates summed from row `n` on. -/
theorem pre_add (n m : ℕ) (d : Fin 128) : pre y l (n + m) d - pre y l n d = ∑ i ∈ range m, Real.log (gate (l d) (y (n + i) d)) := by
  unfold pre
  rw [sum_range_add, add_sub_cancel_left]

theorem pre_anti {d : Fin 128} (h0 : 0 ≤ l d) (h1 : l d ≤ 1) {n m : ℕ} (h : n ≤ m) : pre y l m d ≤ pre y l n d := by
  obtain ⟨k, rfl⟩ := Nat.exists_eq_add_of_le h
  have := pre_add y l n k d
  have h2 : ∑ i ∈ range k, Real.log (gate (l d) (y (n + i) d)) ≤ 0 :=
    sum_nonpos fun i _ => Real.log_nonpos (gate_pos _ h0 h1).le (gate_le_one _ h1)
  linarith

theorem state_zero (e d : Fin 128) : state y z l 0 e d = 0 := by simp [state]

/-- A chunk of `m` rows: the state before it decays, and each of its rows adds its own. -/
theorem state_add (n m : ℕ) (e d : Fin 128) :
    state y z l (n + m) e d = state y z l n e d * Real.exp (pre y l (n + m) d - pre y l n d)
      + ∑ j ∈ range m, z (n + j) e * (key y l (n + j) d * Real.exp ((pre y l (n + m) d - pre y l n d) - (pre y l (n + j + 1) d - pre y l n d))) := by
  unfold state
  rw [sum_range_add, sum_mul]
  congr 1
  · refine sum_congr rfl fun s _ => ?_
    rw [show pre y l (n + m) d - pre y l (s + 1) d = (pre y l n d - pre y l (s + 1) d) + (pre y l (n + m) d - pre y l n d) by ring, Real.exp_add]
    ring
  · refine sum_congr rfl fun j _ => ?_
    rw [sub_sub_sub_cancel_right]

/-- A row of a chunk: the state before the chunk, and the chunk's rows up to it. -/
theorem mix_add (n i : ℕ) (e : Fin 128) :
    mix x y z l (n + i) e = (∑ d, (qry x (n + i) d * Real.exp (pre y l (n + i + 1) d - pre y l n d)) * state y z l n e d)
      + ∑ j ∈ range (i + 1), score x y l (n + i) (n + j) * z (n + j) e := by
  unfold mix
  rw [add_assoc n i 1, sum_range_add]
  congr 1
  unfold state score
  simp_rw [mul_sum, sum_mul]
  rw [sum_comm]
  refine sum_congr rfl fun d _ => sum_congr rfl fun s _ => ?_
  rw [show pre y l (n + i + 1) d - pre y l (s + 1) d = (pre y l (n + i + 1) d - pre y l n d) + (pre y l n d - pre y l (s + 1) d) by ring, Real.exp_add]
  ring_nf

end

/-- A sum up to a bound, written over the rows there are. -/
theorem sum_below {N M : ℕ} (h : M ≤ N) (G : ℕ → ℝ) : ∑ j : Fin N, (if j.val < M then G j.val else 0) = ∑ j ∈ range M, G j := by
  rw [Fin.sum_univ_eq_sum_range (fun j => if j < M then G j else 0) N, ← sum_filter]
  refine sum_congr ?_ fun _ _ => rfl
  ext j
  simp only [mem_filter, mem_range]
  omega

end Cert.Hgrn

end
-- ==== Proof.HgrnResult.lean ====
/- The results of the forward HGRN2 scan on real arguments: head by head, the causal mixture of the values
   by the decayed scores, normalised, scaled and gated; and what the rows before each chunk of 128 leave. -/
module

public import proofs.«01_k».proof.Proof.HgrnReal
public import proofs.«01_k».proof.Proof.RmsNorm
public import Idealize.ShloMosaic.Lib.ValueIdxCore

@[expose] public section

noncomputable section

namespace Cert.Hgrn

open Idealize.ShloMosaic Idealize.ShloMosaic.ValueIdx Cert.RmsNorm

/-- Head `h` of sequence `b` in the `p`-th quarter of the projection's columns, as reals. -/
def part (P : (⟨2, ![4096, 8192]⟩ : Shape).Idx → EReal) (p : Fin 4) (b : Fin 2) (h : Fin 16) : ℕ → Fin 128 → ℝ :=
  fun t d => (P (ix2 (⟨b.val * 2048 + t % 2048, by omega⟩ : Fin 4096) (⟨p.val * 2048 + (h.val * 128 + d.val), by omega⟩ : Fin 8192))).toReal

/-- The lower bounds of head `h`, as reals. -/
def low (lb : (⟨1, ![2048]⟩ : Shape).Idx → EReal) (h : Fin 16) : Fin 128 → ℝ := fun d => (lb (ix1 (⟨h.val * 128 + d.val, by omega⟩ : Fin 2048))).toReal

/-- The mixed values `o` of a row, normalised over the head, scaled by `w` and gated by `g`. -/
def normed (o : Fin 128 → EReal) (w g : EReal) (e : Fin 128) : EReal :=
  o e * scale (Ideal.ofBits .f32 0x43000000#32) o * w * (g * Ideal.logistic g)

/-- The scan's result at row `t` of sequence `b`, column `e` of head `h`. -/
def resultAt (P : (⟨2, ![4096, 8192]⟩ : Shape).Idx → EReal) (lb : (⟨1, ![2048]⟩ : Shape).Idx → EReal) (gn : (⟨1, ![128]⟩ : Shape).Idx → EReal) (b : Fin 2) (h : Fin 16) (t : Fin 2048) (e : Fin 128) : EReal :=
  normed (fun e => ((mix (part P 0 b h) (part P 1 b h) (part P 2 b h) (low lb h) t.val e : ℝ) : EReal)) (gn (ix1 e))
    (P (ix2 (⟨b.val * 2048 + t.val, by omega⟩ : Fin 4096) (⟨6144 + (h.val * 128 + e.val), by omega⟩ : Fin 8192))) e

/-- The scan's result. -/
def result (P : (⟨2, ![4096, 8192]⟩ : Shape).Idx → EReal) (lb : (⟨1, ![2048]⟩ : Shape).Idx → EReal) (gn : (⟨1, ![128]⟩ : Shape).Idx → EReal) : (⟨2, ![4096, 2048]⟩ : Shape).Idx → EReal :=
  fun i => resultAt P lb gn ⟨(i 0).val / 2048, by have : (i 0).val < 4096 := (i 0).isLt; omega⟩ ⟨(i 1).val / 128, by have : (i 1).val < 2048 := (i 1).isLt; omega⟩
    ⟨(i 0).val % 2048, by omega⟩ ⟨(i 1).val % 128, by omega⟩

/-- What the rows of sequence `b` before chunk `n` leave in head `h`: value `e` against key `d`. -/
def savedAt (P : (⟨2, ![4096, 8192]⟩ : Shape).Idx → EReal) (lb : (⟨1, ![2048]⟩ : Shape).Idx → EReal) (b : Fin 2) (h n : Fin 16) (e d : Fin 128) : EReal :=
  ((state (part P 1 b h) (part P 2 b h) (low lb h) (128 * n.val) e d : ℝ) : EReal)

/-- The states the scan saves, one at the beginning of each chunk. -/
def saved (P : (⟨2, ![4096, 8192]⟩ : Shape).Idx → EReal) (lb : (⟨1, ![2048]⟩ : Shape).Idx → EReal) : (⟨5, ![2, 16, 16, 128, 128]⟩ : Shape).Idx → EReal :=
  fun i => savedAt P lb (i 0) (i 1) (i 2) (i 3) (i 4)

/-- The arguments the scan is stated on: real queries, gates and values, lower bounds between 0 and 1. -/
structure Tame (P : (⟨2, ![4096, 8192]⟩ : Shape).Idx → EReal) (lb : (⟨1, ![2048]⟩ : Shape).Idx → EReal) : Prop where
  real : ∀ (r : Fin 4096) (c : Fin 8192), c.val < 6144 → ∃ a : ℝ, P (ix2 r c) = (a : EReal)
  low : ∀ d : Fin 2048, ∃ a : ℝ, lb (ix1 d) = (a : EReal) ∧ 0 ≤ a ∧ a ≤ 1

section

variable {P : (⟨2, ![4096, 8192]⟩ : Shape).Idx → EReal} {lb : (⟨1, ![2048]⟩ : Shape).Idx → EReal} (tame : Tame P lb)

include tame

theorem part_eq (p : Fin 4) (hp : p.val < 3) (b : Fin 2) (h : Fin 16) (t : ℕ) (ht : t < 2048) (d : Fin 128) (r : Fin 4096) (c : Fin 8192)
    (hr : r.val = b.val * 2048 + t) (hc : c.val = p.val * 2048 + (h.val * 128 + d.val)) : P (ix2 r c) = ((part P p b h t d : ℝ) : EReal) := by
  have er : r = ⟨b.val * 2048 + t % 2048, by omega⟩ := Fin.ext (by show r.val = b.val * 2048 + t % 2048; omega)
  have ec : c = ⟨p.val * 2048 + (h.val * 128 + d.val), by omega⟩ := Fin.ext hc
  obtain ⟨a, ha⟩ := tame.real r c (by omega)
  rw [part, ← er, ← ec, ha, EReal.toReal_coe]

theorem low_eq (h : Fin 16) (d : Fin 128) (c : Fin 2048) (hc : c.val = h.val * 128 + d.val) : lb (ix1 c) = ((low lb h d : ℝ) : EReal) := by
  have ec : c = ⟨h.val * 128 + d.val, by omega⟩ := Fin.ext hc
  obtain ⟨a, ha, _⟩ := tame.low c
  rw [low, ← ec, ha, EReal.toReal_coe]

theorem low_between (h : Fin 16) (d : Fin 128) : 0 ≤ low lb h d ∧ low lb h d ≤ 1 := by
  obtain ⟨a, ha, h0, h1⟩ := tame.low ⟨h.val * 128 + d.val, by omega⟩
  rw [low, ha, EReal.toReal_coe]
  exact ⟨h0, h1⟩

end

end Cert.Hgrn

end
-- ==== Proof.HgrnChunk.lean ====
/- One head of one chunk of the forward HGRN2 scan, read at an index and then at real entries: the
   four blocks together are one sum over the chunk's rows up to the row asked for. -/
module

public import proofs.«01_k».proof.Proof.HgrnHead
public import proofs.«01_k».proof.Proof.HgrnReal
public import proofs.«01_k».proof.Proof.HgrnResult
public import Idealize.ShloMosaic.Lib.Pointwise

@[expose] public section

set_option maxRecDepth 16384

noncomputable section

namespace Cert.HgrnFIdeal.Hgrn

open Cert.HgrnFIdeal Cert.HgrnFIdeal.Gen Idealize.ShloMosaic Idealize.ShloMosaic.TcCoe Cert.Hgrn Cert.RmsNorm

/-! ## The operations at an index -/

theorem near_at (b q k v : FVec Ideal S32x128 .f32) (i : Fin 32) (e : Fin 128) :
    near b q k v (ix2 i e) = ∑ j : Fin 32, Scalar.select (IntOp.cmpi .sge (BitVec.ofNat 32 i.val) (BitVec.ofNat 32 j.val))
      ((∑ d : Fin 128, q (ix2 i d) * k (ix2 j d) * Ideal.exp (min (b (ix2 i d) - b (ix2 j d)) 0)) * v (ix2 j e)) 0 := by
  pointwise [near, k0_pay14]

theorem far_at (n : BitVec 32) (r : FVec Ideal S1x128 .f32) (b q : FVec Ideal S32x128 .f32) (B k v : FVec Ideal S128x128 .f32) (i : Fin 32) (e : Fin 128) :
    far n r b q B k v (ix2 i e) = ∑ j : Fin 128, Scalar.select (IntOp.cmpi .slt (BitVec.ofNat 32 j.val) n)
      ((∑ d : Fin 128, q (ix2 i d) * Ideal.exp (b (ix2 i d) - r (ix2 0 d)) * (k (ix2 j d) * Ideal.exp (min (r (ix2 0 d) - B (ix2 j d)) 0))) * v (ix2 j e)) 0 := by
  pointwise [far]

theorem inter_at (S q B : FVec Ideal S128x128 .f32) (i e : Fin 128) :
    inter S q B (ix2 i e) = ∑ d : Fin 128, q (ix2 i d) * Ideal.exp (B (ix2 i d)) * S (ix2 e d) := by
  pointwise [inter]

theorem gated_at (o g : FVec Ideal S128x128 .f32) (w : FVec Ideal S1x128 .f32) (i e : Fin 128) :
    gated o g w (ix2 i e) = normed (fun d => o (ix2 i d)) (w (ix2 0 e)) (g (ix2 i e)) e := by
  unfold normed scale meanSq
  pointwise [gated, k0_pay1]

theorem state_at (S v k B : FVec Ideal S128x128 .f32) (e d : Fin 128) :
    k0_pay33 (F := Ideal) S v k B (ix2 e d) = S (ix2 e d) * Ideal.exp (B (ix2 127 d))
      + ∑ j : Fin 128, v (ix2 j e) * (k (ix2 j d) * Ideal.exp (B (ix2 127 d) - B (ix2 j d))) := by
  pointwise [k0_pay33]

theorem query_at (q : FVec Ideal S128x128 .f32) (i d : Fin 128) : k0_pay8 (F := Ideal) q (ix2 i d) = q (ix2 i d) * Ideal.logistic (q (ix2 i d)) := by
  pointwise [k0_pay8]

theorem key_at (f : FVec Ideal S128x128 .f32) (lb : FVec Ideal S1x128 .f32) (i d : Fin 128) :
    k0_pay9 (F := Ideal) f lb (ix2 i d) = (1 - lb (ix2 0 d)) * Ideal.logistic (0 - f (ix2 i d)) := by
  pointwise [k0_pay9, k0_pay7]

/-- The triangle of ones the kernel multiplies by to sum the rows up to one. -/
theorem triangle (i j : Fin 128) :
    FloatOps.sitofp (F := Ideal) .f32 (BitVec.setWidth 32 (IntOp.cmpi .sge (BitVec.ofNat 32 i.val) (BitVec.ofNat 32 j.val))) = if j.val < i.val + 1 then 1 else 0 := by
  have hi := i.isLt
  have hj := j.isLt
  by_cases h : j.val ≤ i.val
  · rw [if_pos (by omega), show IntOp.cmpi .sge (BitVec.ofNat 32 i.val) (BitVec.ofNat 32 j.val) = 1#1 by simp (disch := omega) only [hlo_ix]; exact h]
    simp [FloatOps.sitofp]
  · rw [if_neg (by omega), show IntOp.cmpi .sge (BitVec.ofNat 32 i.val) (BitVec.ofNat 32 j.val) = 0#1 by simp (disch := omega) only [hlo_ix]; omega]
    simp [FloatOps.sitofp]

theorem prefix_at (f : FVec Ideal S128x128 .f32) (lb : FVec Ideal S1x128 .f32) (i d : Fin 128) :
    k0_pay10 (F := Ideal) f lb (ix2 i d) = ∑ j : Fin 128, (if j.val < i.val + 1 then 1 else 0) * Ideal.log (lb (ix2 0 d) + (1 - lb (ix2 0 d)) * Ideal.logistic (f (ix2 j d))) := by
  simp only [← triangle]
  pointwise [k0_pay10, k0_pay7]

/-! ## At real entries -/

/-- The rows of `A` are the rows of `a` from row `n` on. -/
def Rows {N : ℕ} (A : (⟨2, ![N, 128]⟩ : Shape).Idx → EReal) (a : ℕ → Fin 128 → ℝ) (n : ℕ) : Prop := ∀ (i : Fin N) (d : Fin 128), A (ix2 i d) = ((a (n + i.val) d : ℝ) : EReal)

theorem select_sge {N : ℕ} (hN : N ≤ 128) (r j : Fin N) (v : EReal) :
    Scalar.select (IntOp.cmpi .sge (BitVec.ofNat 32 r.val) (BitVec.ofNat 32 j.val)) v 0 = if j.val < r.val + 1 then v else 0 := by
  have hr := r.isLt
  have hj := j.isLt
  simp (disch := omega) only [hlo_ix]
  split <;> split <;> first | rfl | omega

theorem select_slt (r : Fin 128) (k : ℕ) (hk : k ≤ 128) (v : EReal) :
    Scalar.select (IntOp.cmpi .slt (BitVec.ofNat 32 r.val) (BitVec.ofNat 32 k)) v 0 = if r.val < k then v else 0 := by
  have hr := r.isLt
  simp (disch := omega) only [hlo_ix]

/-- A slice of 32 rows from row `o` on. -/
theorem rows_slice {A : FVec Ideal S128x128 .f32} {a : ℕ → Fin 128 → ℝ} (hA : Rows A a 0) :
    Rows (extractStridedSlice S32x128 ![0, 0] A slices_S128x128_o0_0_S32x128) a 0 ∧ Rows (extractStridedSlice S32x128 ![32, 0] A slices_S128x128_o32_0_S32x128) a 32
    ∧ Rows (extractStridedSlice S32x128 ![64, 0] A slices_S128x128_o64_0_S32x128) a 64 ∧ Rows (extractStridedSlice S32x128 ![96, 0] A slices_S128x128_o96_0_S32x128) a 96
    ∧ Rows (extractStridedSlice S1x128 ![31, 0] A slices_S128x128_o31_0_S1x128) a 31 ∧ Rows (extractStridedSlice S1x128 ![63, 0] A slices_S128x128_o63_0_S1x128) a 63
    ∧ Rows (extractStridedSlice S1x128 ![95, 0] A slices_S128x128_o95_0_S1x128) a 95 := by
  refine ⟨fun i d => ?_, fun i d => ?_, fun i d => ?_, fun i d => ?_, fun i d => ?_, fun i d => ?_, fun i d => ?_⟩ <;>
    have hi := i.isLt <;> (pointwise []; exact (hA _ d).trans (by simp))

section

variable {β θ κ ν : ℕ → Fin 128 → ℝ} (anti : ∀ d, ∀ {n m : ℕ}, n ≤ m → β m d ≤ β n d)

/-- The score of row `s` in row `t`, of queries `θ`, keys `κ` and summed log gates `β`. -/
def sc (β θ κ : ℕ → Fin 128 → ℝ) (t s : ℕ) : ℝ := ∑ d, θ t d * κ s d * Real.exp (β t d - β s d)

include anti

theorem near_real {b q k v : FVec Ideal S32x128 .f32} {o : ℕ} (hb : Rows b β o) (hq : Rows q θ o) (hk : Rows k κ o) (hv : Rows v ν o) (i : Fin 32) (e : Fin 128) :
    near b q k v (ix2 i e) = ((∑ j ∈ Finset.range (i.val + 1), sc β θ κ (o + i.val) (o + j) * ν (o + j) e : ℝ) : EReal) := by
  have hi := i.isLt
  rw [near_at, ← sum_below (N := 32) (by omega) (fun j => sc β θ κ (o + i.val) (o + j) * ν (o + j) e), ← sum_coe]
  refine Finset.sum_congr rfl fun j _ => ?_
  rw [select_sge (by omega)]
  by_cases h : j.val < i.val + 1
  · rw [if_pos h, if_pos h, hv j e, EReal.coe_mul, sc, ← sum_coe]
    refine congrArg (· * _) (Finset.sum_congr rfl fun d _ => ?_)
    rw [hq i d, hk j d, hb i d, hb j d, ← EReal.coe_sub, min_eq_left (by exact_mod_cast sub_nonpos.mpr (anti d (by omega))), Ideal.exp_coe,
      EReal.coe_mul, EReal.coe_mul]
  · rw [if_neg h, if_neg h, EReal.coe_zero]

theorem far_real {o : ℕ} (ho : 0 < o) (ho' : o ≤ 128) {r : FVec Ideal S1x128 .f32} {b q : FVec Ideal S32x128 .f32} {B k v : FVec Ideal S128x128 .f32}
    (hr : Rows r β (o - 1)) (hb : Rows b β o) (hq : Rows q θ o) (hB : Rows B β 0) (hk : Rows k κ 0) (hv : Rows v ν 0) (i : Fin 32) (e : Fin 128) :
    far (BitVec.ofNat 32 o) r b q B k v (ix2 i e) = ((∑ j ∈ Finset.range o, sc β θ κ (o + i.val) j * ν j e : ℝ) : EReal) := by
  rw [far_at, ← sum_below (N := 128) ho' (fun j => sc β θ κ (o + i.val) j * ν j e), ← sum_coe]
  refine Finset.sum_congr rfl fun j _ => ?_
  rw [select_slt j o ho']
  by_cases h : j.val < o
  · rw [if_pos h, if_pos h, hv j e, EReal.coe_mul, sc, ← sum_coe, zero_add]
    refine congrArg (· * _) (Finset.sum_congr rfl fun d _ => ?_)
    rw [hq i d, hk j d, hb i d, hB j d, hr 0 d, zero_add, Fin.val_zero, add_zero, ← EReal.coe_sub, ← EReal.coe_sub,
      min_eq_left (by exact_mod_cast sub_nonpos.mpr (anti d (by omega))), Ideal.exp_coe, Ideal.exp_coe]
    norm_cast
    rw [show β (o + i.val) d - β j.val d = (β (o + i.val) d - β (o - 1) d) + (β (o - 1) d - β j.val d) by ring, Real.exp_add]
    ring
  · rw [if_neg h, if_neg h, EReal.coe_zero]

theorem intra_real {B q k v : FVec Ideal S128x128 .f32} (hB : Rows B β 0) (hq : Rows q θ 0) (hk : Rows k κ 0) (hv : Rows v ν 0) (i e : Fin 128) :
    intra B q k v (ix2 i e) = ((∑ j ∈ Finset.range (i.val + 1), sc β θ κ i.val j * ν j e : ℝ) : EReal) := by
  have hi := i.isLt
  obtain ⟨b0, b1, b2, b3, r1, r2, r3⟩ := rows_slice hB
  obtain ⟨q0, q1, q2, q3, -⟩ := rows_slice hq
  obtain ⟨k0, k1, k2, k3, -⟩ := rows_slice hk
  obtain ⟨v0, v1, v2, v3, -⟩ := rows_slice hv
  have cut : ∀ (o : ℕ) (p : Fin 32), o + p.val = i.val →
      ((∑ j ∈ Finset.range (p.val + 1), sc β θ κ (o + p.val) (o + j) * ν (o + j) e : ℝ) : EReal) + ((∑ j ∈ Finset.range o, sc β θ κ (o + p.val) j * ν j e : ℝ) : EReal)
        = ((∑ j ∈ Finset.range (i.val + 1), sc β θ κ i.val j * ν j e : ℝ) : EReal) := by
    intro o p h
    rw [← h, add_assoc o p.val 1, Finset.sum_range_add _ o (p.val + 1), ← EReal.coe_add, add_comm]
  pointwise [intra]
  by_cases h0 : i.val < 32
  · rw [dif_pos h0, near_real anti b0 q0 k0 v0]
    simp only [zero_add]
  rw [dif_neg h0]
  by_cases h1 : i.val - 32 < 32
  · rw [dif_pos h1, near_real anti b1 q1 k1 v1, far_real anti (o := 32) (by omega) (by omega) r1 b1 q1 hB hk hv]
    exact cut 32 ⟨i.val - 32, h1⟩ (by dsimp only; omega)
  rw [dif_neg h1]
  by_cases h2 : i.val - 32 - 32 < 32
  · rw [dif_pos h2, near_real anti b2 q2 k2 v2, far_real anti (o := 64) (by omega) (by omega) r2 b2 q2 hB hk hv]
    exact cut 64 ⟨i.val - 32 - 32, h2⟩ (by dsimp only; omega)
  · rw [dif_neg h2, near_real anti b3 q3 k3 v3, far_real anti (o := 96) (by omega) (by omega) r3 b3 q3 hB hk hv]
    exact cut 96 ⟨i.val - 32 - 32 - 32, by omega⟩ (by dsimp only; omega)

end

/-! ## One head of one chunk -/

section

variable {x y z : ℕ → Fin 128 → ℝ} {l : Fin 128 → ℝ} (hl : ∀ d, 0 ≤ l d ∧ l d ≤ 1) {n : ℕ}
  {q f v : FVec Ideal S128x128 .f32} {lb : FVec Ideal S1x128 .f32}
  (hq : Rows q x n) (hf : Rows f y n) (hv : Rows v z n) (hlb : ∀ d, lb (ix2 0 d) = ((l d : ℝ) : EReal))

include hq in
theorem query_real : Rows (k0_pay8 (F := Ideal) q) (fun i => qry x (n + i)) 0 := by
  intro i d
  rw [query_at, hq i d, Ideal.logistic_coe, zero_add, ← EReal.coe_mul]
  rfl

include hf hlb in
theorem key_real : Rows (k0_pay9 (F := Ideal) f lb) (fun i => key y l (n + i)) 0 := by
  intro i d
  rw [key_at, hf i d, hlb d, zero_sub, ← EReal.coe_neg, Ideal.logistic_coe, zero_add, ← EReal.coe_one, ← EReal.coe_sub, ← EReal.coe_mul]
  rfl

include hl hf hlb in
theorem prefix_real : Rows (k0_pay10 (F := Ideal) f lb) (fun i d => pre y l (n + i + 1) d - pre y l n d) 0 := by
  intro i d
  have hi := i.isLt
  rw [prefix_at, zero_add]
  dsimp only
  rw [add_assoc n i.val 1, pre_add, ← sum_below (N := 128) (by omega) (fun j => Real.log (gate (l d) (y (n + j) d))), ← sum_coe]
  refine Finset.sum_congr rfl fun j _ => ?_
  split
  · rw [one_mul, hf j d, hlb d, Ideal.logistic_coe, ← EReal.coe_one, ← EReal.coe_sub, ← EReal.coe_mul, ← EReal.coe_add, Ideal.log_coe]
    exact if_neg (not_le.mpr (gate_pos _ (hl d).1 (hl d).2))
  · rw [zero_mul, EReal.coe_zero]

include hl hq hf hv hlb

/-- What a head stores for a chunk is what the recurrence gives at its rows. -/
theorem out_real {S g : FVec Ideal S128x128 .f32} {w : FVec Ideal S1x128 .f32} (hS : ∀ e d, S (ix2 e d) = ((state y z l n e d : ℝ) : EReal)) (i e : Fin 128) :
    headOut S q f v g lb w (ix2 i e) = normed (fun e => ((mix x y z l (n + i.val) e : ℝ) : EReal)) (w (ix2 0 e)) (g (ix2 i e)) e := by
  rw [headOut, gated_at]
  refine congrArg (fun o => normed o _ _ e) (funext fun a => ?_)
  have hv' : Rows v (fun i => z (n + i)) 0 := fun i d => by rw [hv i d, zero_add]
  have anti : ∀ d, ∀ {j m : ℕ}, j ≤ m → pre y l (n + m + 1) d - pre y l n d ≤ pre y l (n + j + 1) d - pre y l n d :=
    fun d _ _ h => sub_le_sub_right (pre_anti y l (hl d).1 (hl d).2 (by omega)) _
  have hB := prefix_real hl hf hlb
  have hQ := query_real hq
  rw [addf_apply, Ideal.addf_def, inter_at, intra_real anti hB hQ (key_real hf hlb) hv' i a, mix_add, EReal.coe_add, ← sum_coe]
  refine congrArg₂ _ (Finset.sum_congr rfl fun d _ => ?_) (congrArg _ (Finset.sum_congr rfl fun j _ => congrArg (· * _) ?_))
  · rw [hQ i d, hB i d, hS a d, zero_add, Ideal.exp_coe, ← EReal.coe_mul, ← EReal.coe_mul]
  · unfold sc score
    refine Finset.sum_congr rfl fun d _ => ?_
    dsimp only
    rw [sub_sub_sub_cancel_right]

omit hq in
/-- The state after the chunk is the recurrence's. -/
theorem next_real {S : FVec Ideal S128x128 .f32} (hS : ∀ e d, S (ix2 e d) = ((state y z l n e d : ℝ) : EReal)) (e d : Fin 128) :
    headState S f v lb (ix2 e d) = ((state y z l (n + 128) e d : ℝ) : EReal) := by
  have hB := prefix_real hl hf hlb
  have hK := key_real hf hlb
  rw [headState, state_at, state_add, EReal.coe_add, EReal.coe_mul, hS e d, hB 127 d, Ideal.exp_coe,
    ← Fin.sum_univ_eq_sum_range (fun j => z (n + j) e * (key y l (n + j) d * Real.exp ((pre y l (n + 128) d - pre y l n d) - (pre y l (n + j + 1) d - pre y l n d)))) 128, ← sum_coe]
  refine congrArg₂ _ rfl (Finset.sum_congr rfl fun j _ => ?_)
  rw [hv j e, hK j d, hB j d, ← EReal.coe_sub, Ideal.exp_coe, ← EReal.coe_mul, ← EReal.coe_mul, zero_add]
  rfl

end

end Cert.HgrnFIdeal.Hgrn

end
-- ==== Proof.HgrnTrip.lean ====
/- The loop of one grid point of the forward HGRN2 scan: sixteen chunks, two heads. What a trip stores
   and carries is `headOut` and `headState`; by induction on the trips, the carried states and the rows
   stored so far are the recurrence's. -/
module

public import proofs.«01_k».proof.Proof.HgrnChunk
public import Idealize.ShloMosaic.Lib.WritesUnit

@[expose] public section

set_option maxRecDepth 16384

noncomputable section

namespace Cert.HgrnFIdeal.Hgrn

open Cert.HgrnFIdeal Cert.HgrnFIdeal.Gen Idealize.ShloMosaic Idealize.ShloMosaic.TcCoe Cert.Hgrn

/-- Column `d` of head `h` in a block of two heads. -/
abbrev lane (h : Fin 2) (d : Fin 128) : Fin 256 := ⟨128 * h.val + d.val, by omega⟩

/-- The rows of head `h` in chunk `k` of a block. -/
abbrev chunk (A : Vec Ideal S2048x256 .f32) (k : Fin 16) (h : Fin 2) : FVec Ideal S128x128 .f32 :=
  fun i => A (ix2 (⟨128 * k.val + (i 0).val, by have := (i 0).isLt; have : (i 0).val < 128 := this; omega⟩ : Fin 2048) (lane h (i 1)))

/-- The lower bounds of head `h`. -/
abbrev bound (A : Vec Ideal S1x256 .f32) (h : Fin 2) : FVec Ideal S1x128 .f32 := fun i => A (ix2 0 (lane h (i 1)))

theorem trips_eq : k0_t1_loop.trips = 16 := by decide +kernel

/-- The chunk a trip works on. -/
abbrev at16 (k : Fin k0_t1_loop.trips) : Fin 16 := ⟨k.val, k.isLt.trans_eq trips_eq⟩

theorem ld_chunk (A : Vec Ideal S2048x256 .f32) (k : Fin 16) (h : Fin 2) {off : Fin 2 → ℕ} (ho : off = ![128 * k.val, 128 * h.val])
    (inb : ∀ a : Fin 2, off a + S128x128.size a ≤ S2048x256.size a) :
    View.ld (Val := Elt Ideal) (e' := .f32) A (Rect.unit (s := S2048x256) off S128x128.size inb) = chunk A k h := by
  funext i
  subst ho
  refine congrArg A (funext (Fin.forall_fin_two.mpr ⟨Fin.ext ?_, Fin.ext ?_⟩))
  · show 128 * k.val + 1 * (i 0).val = 128 * k.val + (i 0).val
    omega
  · show 128 * h.val + 1 * (i 1).val = 128 * h.val + (i 1).val
    omega

theorem ld_bound (A : Vec Ideal S1x256 .f32) (h : Fin 2) {p : ℕ} (hp : p = 128 * h.val)
    (inb : ∀ a : Fin 2, (![0, p] : Fin 2 → ℕ) a + (![1, 128] : Fin 2 → ℕ) a ≤ (![1, 256] : Fin 2 → ℕ) a) :
    View.ld (Val := Elt Ideal) (e' := .f32) A (Rect.unit (s := S1x256) ![0, p] ![1, 128] inb) = bound A h := by
  funext i
  subst hp
  refine congrArg A (funext (Fin.forall_fin_two.mpr ⟨Fin.ext ?_, Fin.ext ?_⟩))
  · show 0 + 1 * (i 0).val = 0
    have : (i 0).val < 1 := (i 0).isLt
    omega
  · show 128 * h.val + 1 * (i 1).val = 128 * h.val + (i 1).val
    omega

/-- Two tiles stored side by side, read at an index: a row under them reads its head's tile, another row what was there. -/
theorem two_tiles (V : View sig .tc .vmem S2048x256 .bf16) (F : V.ty.Contents (Elt Ideal)) (L : List (View.Piece (Elt Ideal) S2048x256 .bf16)) (k : ℕ) {off0 off1 : Fin 2 → ℕ}
    (h0 : off0 = ![128 * k, 0]) (h1 : off1 = ![128 * k, 128]) (inb0 : ∀ a : Fin 2, off0 a + S128x128.size a ≤ S2048x256.size a) (inb1 : ∀ a : Fin 2, off1 a + S128x128.size a ≤ S2048x256.size a)
    (P0 P1 : FVec Ideal S128x128 .bf16) (t : Fin 2048) (h : Fin 2) (e : Fin 128) :
    V.read (Elt Ideal) (V.writes (Elt Ideal) F (⟨Rect.unit (s := S2048x256) off1 S128x128.size inb1, P1⟩ :: ⟨Rect.unit (s := S2048x256) off0 S128x128.size inb0, P0⟩ :: L)) (ix2 t (lane h e))
      = if hk : 128 * k ≤ t.val ∧ t.val < 128 * k + 128 then (if h.val = 0 then P0 else P1) (ix2 ⟨t.val - 128 * k, by omega⟩ e)
        else V.read (Elt Ideal) (V.writes (Elt Ideal) F L) (ix2 t (lane h e)) := by
  have he := e.isLt
  split
  · rename_i hk
    match h with
    | ⟨0, _⟩ =>
      refine (View.read_writes_cons_unit_of_not_mem V F inb1 P1 _ (ix2 t (lane 0 e)) h1 (1 : Fin 2) (Or.inl (by show 128 * 0 + e.val < 128; omega))).trans
        (View.read_writes_cons_unit_of_mem V F inb0 P0 _ (ix2 t (lane 0 e)) (ix2 (⟨t.val - 128 * k, by omega⟩ : Fin 128) e) h0 (Fin.forall_fin_two.mpr ⟨?_, ?_⟩))
      · show t.val = 128 * k + (t.val - 128 * k)
        omega
      · show 128 * 0 + e.val = 0 + e.val
        omega
    | ⟨1, _⟩ =>
      refine View.read_writes_cons_unit_of_mem V F inb1 P1 _ (ix2 t (lane 1 e)) (ix2 (⟨t.val - 128 * k, by omega⟩ : Fin 128) e) h1 (Fin.forall_fin_two.mpr ⟨?_, ?_⟩)
      · show t.val = 128 * k + (t.val - 128 * k)
        omega
      · show 128 * 1 + e.val = 128 + e.val
        omega
  · rename_i hk
    have miss : t.val < 128 * k ∨ 128 * k + 128 ≤ t.val := by omega
    exact (View.read_writes_cons_unit_of_not_mem V F inb1 P1 _ (ix2 t (lane h e)) h1 (0 : Fin 2) miss).trans
      (View.read_writes_cons_unit_of_not_mem V F inb0 P0 _ (ix2 t (lane h e)) h0 (0 : Fin 2) miss)

/-- Two states stored in slot `k` of the two heads, read at an index: slot `k` reads its head's, another slot what was there. -/
theorem two_states (V : View sig .tc .vmem S1x2x16x128x128 .f32) (F : V.ty.Contents (Elt Ideal)) (L : List (View.Piece (Elt Ideal) S1x2x16x128x128 .f32)) (k : ℕ) {off0 off1 : Fin 5 → ℕ}
    (h0 : off0 = ![0, 0, k, 0, 0]) (h1 : off1 = ![0, 1, k, 0, 0]) (inb0 : ∀ a : Fin 5, off0 a + S1x1x1x128x128.size a ≤ S1x2x16x128x128.size a) (inb1 : ∀ a : Fin 5, off1 a + S1x1x1x128x128.size a ≤ S1x2x16x128x128.size a)
    (P0 P1 : FVec Ideal S1x1x1x128x128 .f32) (h : Fin 2) (n : Fin 16) (e d : Fin 128) :
    V.read (Elt Ideal) (V.writes (Elt Ideal) F (⟨Rect.unit (s := S1x2x16x128x128) off1 S1x1x1x128x128.size inb1, P1⟩ :: ⟨Rect.unit (s := S1x2x16x128x128) off0 S1x1x1x128x128.size inb0, P0⟩ :: L)) (ix5 0 h n e d)
      = if n.val = k then (if h.val = 0 then P0 else P1) (ix5 0 0 0 e d) else V.read (Elt Ideal) (V.writes (Elt Ideal) F L) (ix5 0 h n e d) := by
  have here : ∀ (p : ℕ) (hp : h.val = p) (a : Fin 5), ((ix5 0 h n e d : S1x2x16x128x128.Idx) a).val = (![0, p, n.val, 0, 0] : Fin 5 → ℕ) a + ((ix5 0 0 0 e d : S1x1x1x128x128.Idx) a).val := by
    intro p hp a
    match a with
    | ⟨0, _⟩ => rfl
    | ⟨1, _⟩ => exact hp.trans (Nat.add_zero _).symm
    | ⟨2, _⟩ => rfl
    | ⟨3, _⟩ => exact (Nat.zero_add _).symm
    | ⟨4, _⟩ => exact (Nat.zero_add _).symm
  split
  · rename_i hk
    subst hk
    match h, here with
    | ⟨0, _⟩, here =>
      exact (View.read_writes_cons_unit_of_not_mem V F inb1 P1 _ (ix5 0 0 n e d) h1 (1 : Fin 5) (Or.inl (by show 0 < 1; omega))).trans
        (View.read_writes_cons_unit_of_mem V F inb0 P0 _ (ix5 0 0 n e d) (ix5 0 0 0 e d) h0 (here 0 rfl))
    | ⟨1, _⟩, here => exact View.read_writes_cons_unit_of_mem V F inb1 P1 _ (ix5 0 1 n e d) (ix5 0 0 0 e d) h1 (here 1 rfl)
  · rename_i hk
    have miss : n.val < k ∨ k + 1 ≤ n.val := by omega
    exact (View.read_writes_cons_unit_of_not_mem V F inb1 P1 _ (ix5 0 h n e d) h1 (2 : Fin 5) miss).trans
      (View.read_writes_cons_unit_of_not_mem V F inb0 P0 _ (ix5 0 h n e d) h0 (2 : Fin 5) miss)

section

variable (c : Dev nD) (i : grid0.Coords) (arg2 : Memref sig .tc .vmem S2048x256 .f32) (harg2 : arg2.IsWhole) (arg3 : Memref sig .tc .vmem S2048x256 .f32) (harg3 : arg3.IsWhole)
  (arg4 : Memref sig .tc .vmem S2048x256 .f32) (harg4 : arg4.IsWhole) (arg5 : Memref sig .tc .vmem S2048x256 .f32) (harg5 : arg5.IsWhole) (arg6 : Memref sig .tc .vmem S1x256 .f32) (harg6 : arg6.IsWhole)
  (arg7 : Memref sig .tc .vmem S1x128 .f32) (harg7 : arg7.IsWhole) (arg8 : Memref sig .tc .vmem S2048x256 .bf16) (harg8 : arg8.IsWhole) (arg9 : Memref sig .tc .vmem S1x2x16x128x128 .f32) (harg9 : arg9.IsWhole)
  (w : Vec Ideal S1x128 .f32) (q f v g : Vec Ideal S2048x256 .f32) (lb : Vec Ideal S1x256 .f32)

/-- The states a trip passes on. -/
theorem trip_states (k : Fin k0_t1_loop.trips) (acc : FVec Ideal S128x128 .f32 × FVec Ideal S128x128 .f32) :
    tripR_k0_t1 (F := Ideal) Variants.none c none i arg2 harg2 arg3 harg3 arg4 harg4 arg5 harg5 arg6 harg6 arg7 harg7 arg8 harg8 arg9 harg9 w (harg2.unread q) (harg3.unread f) (harg4.unread v) (harg5.unread g) (harg6.unread lb) k acc
      = (headState acc.1 (chunk f (at16 k) 0) (chunk v (at16 k) 0) (bound lb 0), headState acc.2 (chunk f (at16 k) 1) (chunk v (at16 k) 1) (bound lb 1)) := by
  unfold tripR_k0_t1 trip_k0_t1
  dsimp only
  sl_unfold_words
  simp only [View.readAt_eq_ld, harg2.read_unread, harg3.read_unread, harg4.read_unread, harg5.read_unread, harg6.read_unread]
  have all : ∀ (f0 f1 v0 v1 : FVec Ideal S128x128 .f32) (l0 l1 : FVec Ideal S1x128 .f32), f0 = chunk f (at16 k) 0 → f1 = chunk f (at16 k) 1 → v0 = chunk v (at16 k) 0 → v1 = chunk v (at16 k) 1 →
      l0 = bound lb 0 → l1 = bound lb 1 → (k0_pay33 (F := Ideal) acc.1 v0 (k0_pay9 f0 l0) (k0_pay10 f0 l0), k0_pay4 (F := Ideal) acc.2 v1 (k0_pay38 f1 l1) (k0_pay39 f1 l1))
        = (headState acc.1 (chunk f (at16 k) 0) (chunk v (at16 k) 0) (bound lb 0), headState acc.2 (chunk f (at16 k) 1) (chunk v (at16 k) 1) (bound lb 1)) := by
    rintro _ _ _ _ _ _ rfl rfl rfl rfl rfl rfl
    rfl
  exact all _ _ _ _ _ _ (ld_chunk f (at16 k) 0 (k0_off2_eq k) _) (ld_chunk f (at16 k) 1 (k0_off4_eq k) _) (ld_chunk v (at16 k) 0 (k0_off2_eq k) _) (ld_chunk v (at16 k) 1 (k0_off4_eq k) _)
    (ld_bound lb 0 rfl _) (ld_bound lb 1 rfl _)

/-- The rows a trip stores, the second head's over the first's. -/
theorem trip_rows (V : View sig .tc .vmem S2048x256 .bf16) (F : V.ty.Contents (Elt Ideal)) (L : List (View.Piece (Elt Ideal) S2048x256 .bf16))
    (k : Fin k0_t1_loop.trips) (acc : FVec Ideal S128x128 .f32 × FVec Ideal S128x128 .f32) (t : Fin 2048) (h : Fin 2) (e : Fin 128) :
    V.read (Elt Ideal) (V.writes (Elt Ideal) F ((tripL_k0_t1 (F := Ideal) Variants.none c none i arg2 harg2 arg3 harg3 arg4 harg4 arg5 harg5 arg6 harg6 arg7 harg7 arg8 harg8 arg9 harg9 w (harg2.unread q) (harg3.unread f) (harg4.unread v) (harg5.unread g) (harg6.unread lb) k acc).1 ++ L)) (ix2 t (lane h e))
      = if hk : 128 * k.val ≤ t.val ∧ t.val < 128 * k.val + 128 then
          headOut (if h.val = 0 then acc.1 else acc.2) (chunk q (at16 k) h) (chunk f (at16 k) h) (chunk v (at16 k) h) (chunk g (at16 k) h) (bound lb h) w (ix2 ⟨t.val - 128 * k.val, by omega⟩ e)
        else V.read (Elt Ideal) (V.writes (Elt Ideal) F L) (ix2 t (lane h e)) := by
  unfold tripL_k0_t1 trip_k0_t1
  dsimp only
  sl_unfold_words
  simp only [View.readAt_eq_ld, harg2.read_unread, harg3.read_unread, harg4.read_unread, harg5.read_unread, harg6.read_unread]
  refine (two_tiles V F L k.val (k0_off2_eq k) (k0_off4_eq k) _ _ _ _ t h e).trans ?_
  split
  · have same : ∀ (S q1 f1 v1 g1 q2 f2 v2 g2 : FVec Ideal S128x128 .f32) (l1 l2 : FVec Ideal S1x128 .f32) (y : S128x128.Idx), q1 = q2 → f1 = f2 → v1 = v2 → g1 = g2 → l1 = l2 →
        headOut S q1 f1 v1 g1 l1 w y = headOut S q2 f2 v2 g2 l2 w y := by
      rintro _ _ _ _ _ _ _ _ _ _ _ _ rfl rfl rfl rfl rfl
      rfl
    match h with
    | ⟨0, _⟩ =>
      exact (congrFun (first_out acc.1 _ _ _ _ _ w) _).trans (same _ _ _ _ _ _ _ _ _ _ _ _ (ld_chunk q (at16 k) 0 (k0_off2_eq k) _) (ld_chunk f (at16 k) 0 (k0_off2_eq k) _)
        (ld_chunk v (at16 k) 0 (k0_off2_eq k) _) (ld_chunk g (at16 k) 0 (k0_off2_eq k) _) (ld_bound lb 0 rfl _))
    | ⟨1, _⟩ =>
      exact (congrFun (second_out acc.2 _ _ _ _ _ w) _).trans (same _ _ _ _ _ _ _ _ _ _ _ _ (ld_chunk q (at16 k) 1 (k0_off4_eq k) _) (ld_chunk f (at16 k) 1 (k0_off4_eq k) _)
        (ld_chunk v (at16 k) 1 (k0_off4_eq k) _) (ld_chunk g (at16 k) 1 (k0_off4_eq k) _) (ld_bound lb 1 rfl _))
  · rfl

/-- The states a trip saves: those it was given, in its own slot. -/
theorem trip_saved (V : View sig .tc .vmem S1x2x16x128x128 .f32) (F : V.ty.Contents (Elt Ideal)) (L : List (View.Piece (Elt Ideal) S1x2x16x128x128 .f32))
    (k : Fin k0_t1_loop.trips) (acc : FVec Ideal S128x128 .f32 × FVec Ideal S128x128 .f32) (h : Fin 2) (n : Fin 16) (e d : Fin 128) :
    V.read (Elt Ideal) (V.writes (Elt Ideal) F ((tripL_k0_t1 (F := Ideal) Variants.none c none i arg2 harg2 arg3 harg3 arg4 harg4 arg5 harg5 arg6 harg6 arg7 harg7 arg8 harg8 arg9 harg9 w (harg2.unread q) (harg3.unread f) (harg4.unread v) (harg5.unread g) (harg6.unread lb) k acc).2 ++ L)) (ix5 0 h n e d)
      = if n.val = k.val then (if h.val = 0 then acc.1 else acc.2) (ix2 e d) else V.read (Elt Ideal) (V.writes (Elt Ideal) F L) (ix5 0 h n e d) := by
  unfold tripL_k0_t1 trip_k0_t1
  dsimp only
  sl_unfold_words
  refine (two_states V F L k.val (k0_off1_eq k) (k0_off3_eq k) _ _ _ _ h n e d).trans ?_
  have first : k0_pay6 (F := Ideal) acc.1 (ix5 0 0 0 e d) = acc.1 (ix2 e d) := by pointwise [k0_pay6]
  have second : k0_pay35 (F := Ideal) acc.2 (ix5 0 0 0 e d) = acc.2 (ix2 e d) := by pointwise [k0_pay35]
  split
  · match h with
    | ⟨0, _⟩ => exact first
    | ⟨1, _⟩ => exact second
  · rfl

end

end Cert.HgrnFIdeal.Hgrn

end
-- ==== Proof.HgrnLoop.lean ====
/- The loop of one grid point of the forward HGRN2 scan, by induction on its trips: the states it carries
   and saves and the rows it has stored are the recurrence's. -/
module

public import proofs.«01_k».proof.Proof.HgrnTrip

@[expose] public section

set_option maxRecDepth 16384

noncomputable section

namespace Cert.HgrnFIdeal.Hgrn

open Cert.HgrnFIdeal Cert.HgrnFIdeal.Gen Idealize.ShloMosaic Idealize.ShloMosaic.TcCoe Cert.Hgrn

/-- The columns of head `h` in a block of two heads are real. -/
abbrev Lanes (A : Vec Ideal S2048x256 .f32) (h : Fin 2) (a : ℕ → Fin 128 → ℝ) : Prop := ∀ (t : Fin 2048) (d : Fin 128), A (ix2 t (lane h d)) = ((a t.val d : ℝ) : EReal)

theorem rows_chunk {A : Vec Ideal S2048x256 .f32} {h : Fin 2} {a : ℕ → Fin 128 → ℝ} (hA : Lanes A h a) (k : Fin 16) : Rows (chunk A k h) a (128 * k.val) :=
  fun i d => hA ⟨128 * k.val + i.val, by omega⟩ d

theorem start_zero (i : S128x128.Idx) : k0_pay2 (F := Ideal) i = 0 ∧ k0_pay3 (F := Ideal) i = 0 := by
  constructor
  · pointwise [k0_pay2]
  · pointwise [k0_pay3]

section

variable (c : Dev nD) (i : grid0.Coords) (arg2 : Memref sig .tc .vmem S2048x256 .f32) (harg2 : arg2.IsWhole) (arg3 : Memref sig .tc .vmem S2048x256 .f32) (harg3 : arg3.IsWhole)
  (arg4 : Memref sig .tc .vmem S2048x256 .f32) (harg4 : arg4.IsWhole) (arg5 : Memref sig .tc .vmem S2048x256 .f32) (harg5 : arg5.IsWhole) (arg6 : Memref sig .tc .vmem S1x256 .f32) (harg6 : arg6.IsWhole)
  (arg7 : Memref sig .tc .vmem S1x128 .f32) (harg7 : arg7.IsWhole) (arg8 : Memref sig .tc .vmem S2048x256 .bf16) (harg8 : arg8.IsWhole) (arg9 : Memref sig .tc .vmem S1x2x16x128x128 .f32) (harg9 : arg9.IsWhole)
  (w : Vec Ideal S1x128 .f32) (q f v g : Vec Ideal S2048x256 .f32) (lb : Vec Ideal S1x256 .f32)
  {x y z : Fin 2 → ℕ → Fin 128 → ℝ} {l : Fin 2 → Fin 128 → ℝ} (hl : ∀ h d, 0 ≤ l h d ∧ l h d ≤ 1)
  (hq : ∀ h, Lanes q h (x h)) (hf : ∀ h, Lanes f h (y h)) (hv : ∀ h, Lanes v h (z h)) (hlb : ∀ h d, lb (ix2 0 (lane h d)) = ((l h d : ℝ) : EReal))

include hl hf hv hlb

/-- The states carried into trip `n`. -/
theorem loop_states (n : ℕ) (hn : n ≤ 16) (h : Fin 2) (e d : Fin 128) :
    (if h.val = 0 then (st_k0_t1 (F := Ideal) Variants.none c none i arg2 harg2 arg3 harg3 arg4 harg4 arg5 harg5 arg6 harg6 arg7 harg7 arg8 harg8 arg9 harg9 w (harg2.unread q) (harg3.unread f) (harg4.unread v) (harg5.unread g) (harg6.unread lb) (k0_pay2, k0_pay3) n).1.1 else (st_k0_t1 (F := Ideal) Variants.none c none i arg2 harg2 arg3 harg3 arg4 harg4 arg5 harg5 arg6 harg6 arg7 harg7 arg8 harg8 arg9 harg9 w (harg2.unread q) (harg3.unread f) (harg4.unread v) (harg5.unread g) (harg6.unread lb) (k0_pay2, k0_pay3) n).1.2) (ix2 e d) = ((state (y h) (z h) (l h) (128 * n) e d : ℝ) : EReal) := by
  induction n generalizing e d with
  | zero =>
    rw [Nat.mul_zero, state_zero, EReal.coe_zero, st_k0_t1_zero]
    split
    · exact (start_zero (ix2 e d)).1
    · exact (start_zero (ix2 e d)).2
  | succ n ih =>
    have hk : n < k0_t1_loop.trips := by rw [trips_eq]; omega
    have step := fun e d => next_real (hl h) (rows_chunk (hf h) (at16 ⟨n, hk⟩)) (rows_chunk (hv h) (at16 ⟨n, hk⟩)) (lb := bound lb h) (hlb h) (ih (by omega)) e d
    have run := (congrArg Prod.fst (st_k0_t1_succ (F := Ideal) Variants.none c none i arg2 harg2 arg3 harg3 arg4 harg4 arg5 harg5 arg6 harg6 arg7 harg7 arg8 harg8 arg9 harg9 w (harg2.unread q) (harg3.unread f) (harg4.unread v) (harg5.unread g) (harg6.unread lb) (k0_pay2, k0_pay3) ⟨n, hk⟩)).trans
      (trip_states c i arg2 harg2 arg3 harg3 arg4 harg4 arg5 harg5 arg6 harg6 arg7 harg7 arg8 harg8 arg9 harg9 w q f v g lb ⟨n, hk⟩ _)
    rw [run, Nat.mul_add, ← step e d]
    match h with
    | ⟨0, _⟩ => rfl
    | ⟨1, _⟩ => rfl

/-- The states saved before trip `n`. -/
theorem loop_saved (V : View sig .tc .vmem S1x2x16x128x128 .f32) (F : V.ty.Contents (Elt Ideal)) (n : ℕ) (hn : n ≤ 16) (j : Fin 16) (hj : j.val < n) (h : Fin 2) (e d : Fin 128) :
    V.read (Elt Ideal) (V.writes (Elt Ideal) F (st_k0_t1 (F := Ideal) Variants.none c none i arg2 harg2 arg3 harg3 arg4 harg4 arg5 harg5 arg6 harg6 arg7 harg7 arg8 harg8 arg9 harg9 w (harg2.unread q) (harg3.unread f) (harg4.unread v) (harg5.unread g) (harg6.unread lb) (k0_pay2, k0_pay3) n).2.2) (ix5 0 h j e d) = ((state (y h) (z h) (l h) (128 * j.val) e d : ℝ) : EReal) := by
  induction n with
  | zero => omega
  | succ n ih =>
    have hk : n < k0_t1_loop.trips := by rw [trips_eq]; omega
    have run := congrArg (fun p => p.2.2) (st_k0_t1_succ (F := Ideal) Variants.none c none i arg2 harg2 arg3 harg3 arg4 harg4 arg5 harg5 arg6 harg6 arg7 harg7 arg8 harg8 arg9 harg9 w (harg2.unread q) (harg3.unread f) (harg4.unread v) (harg5.unread g) (harg6.unread lb) (k0_pay2, k0_pay3) ⟨n, hk⟩)
    dsimp only at run
    rw [run]
    refine (trip_saved c i arg2 harg2 arg3 harg3 arg4 harg4 arg5 harg5 arg6 harg6 arg7 harg7 arg8 harg8 arg9 harg9 w q f v g lb V F _ ⟨n, hk⟩ _ h j e d).trans ?_
    split
    · rename_i here
      have here : j.val = n := here
      rw [here]
      exact loop_states c i arg2 harg2 arg3 harg3 arg4 harg4 arg5 harg5 arg6 harg6 arg7 harg7 arg8 harg8 arg9 harg9 w q f v g lb hl hf hv hlb n (by omega) h e d
    · rename_i other
      have other : ¬j.val = n := other
      exact ih (by omega) (by omega)

include hq

/-- The rows stored before trip `n`. -/
theorem loop_rows (V : View sig .tc .vmem S2048x256 .bf16) (F : V.ty.Contents (Elt Ideal)) (n : ℕ) (hn : n ≤ 16) (t : Fin 2048) (ht : t.val < 128 * n) (h : Fin 2) (e : Fin 128) :
    V.read (Elt Ideal) (V.writes (Elt Ideal) F (st_k0_t1 (F := Ideal) Variants.none c none i arg2 harg2 arg3 harg3 arg4 harg4 arg5 harg5 arg6 harg6 arg7 harg7 arg8 harg8 arg9 harg9 w (harg2.unread q) (harg3.unread f) (harg4.unread v) (harg5.unread g) (harg6.unread lb) (k0_pay2, k0_pay3) n).2.1) (ix2 t (lane h e))
      = normed (fun e => ((mix (x h) (y h) (z h) (l h) t.val e : ℝ) : EReal)) (w (ix2 0 e)) (g (ix2 t (lane h e))) e := by
  induction n with
  | zero => omega
  | succ n ih =>
    have hk : n < k0_t1_loop.trips := by rw [trips_eq]; omega
    have run := congrArg (fun p => p.2.1) (st_k0_t1_succ (F := Ideal) Variants.none c none i arg2 harg2 arg3 harg3 arg4 harg4 arg5 harg5 arg6 harg6 arg7 harg7 arg8 harg8 arg9 harg9 w (harg2.unread q) (harg3.unread f) (harg4.unread v) (harg5.unread g) (harg6.unread lb) (k0_pay2, k0_pay3) ⟨n, hk⟩)
    dsimp only at run
    rw [run]
    refine (trip_rows c i arg2 harg2 arg3 harg3 arg4 harg4 arg5 harg5 arg6 harg6 arg7 harg7 arg8 harg8 arg9 harg9 w q f v g lb V F _ ⟨n, hk⟩ _ t h e).trans ?_
    split
    · rename_i hin
      have hin : 128 * n ≤ t.val ∧ t.val < 128 * n + 128 := hin
      have row : 128 * n + (t.val - 128 * n) = t.val := by omega
      refine (out_real (hl h) (rows_chunk (hq h) (at16 ⟨n, hk⟩)) (rows_chunk (hf h) (at16 ⟨n, hk⟩)) (rows_chunk (hv h) (at16 ⟨n, hk⟩)) (lb := bound lb h) (hlb h)
        (loop_states c i arg2 harg2 arg3 harg3 arg4 harg4 arg5 harg5 arg6 harg6 arg7 harg7 arg8 harg8 arg9 harg9 w q f v g lb hl hf hv hlb n (by omega) h) ⟨t.val - 128 * n, by omega⟩ e).trans ?_
      have at_row : chunk g (at16 ⟨n, hk⟩) h (ix2 ⟨t.val - 128 * n, by omega⟩ e) = g (ix2 t (lane h e)) := congrArg (fun r => g (ix2 r (lane h e))) (Fin.ext row)
      rw [at_row]
      refine congrArg (fun r => normed (fun e => ((mix (x h) (y h) (z h) (l h) r e : ℝ) : EReal)) _ _ e) row
    · rename_i hout
      have hout : ¬(128 * n ≤ t.val ∧ t.val < 128 * n + 128) := hout
      exact ih (by omega) (by omega)

end

end Cert.HgrnFIdeal.Hgrn

end
-- ==== Proof.HgrnKernel.lean ====
/- The forward HGRN2 scan's call: each grid point holds one sequence's columns of two heads, and the
   call's results are the recurrence's. -/
module

public import proofs.«01_k».proof.Proof.HgrnLoop
public import proofs.«01_k».proof.Proof.Gen.HgrnFIdeal.Value
public import Idealize.ShloMosaic.Lib.Pipeline.ValueKit

@[expose] public section

set_option maxRecDepth 16384

noncomputable section

namespace Cert.HgrnFIdeal.Hgrn

open Cert.HgrnFIdeal Cert.HgrnFIdeal.Gen Idealize.ShloMosaic Idealize.ShloMosaic.TcCoe Cert.Hgrn
open Idealize.ShloMosaic.Pipeline (Dat)

/-- The blocks that each window holds at point `t`: heads `2 (t % 8)` and `2 (t % 8) + 1` of sequence `t / 8`. -/
theorem idx : ∀ t : Fin cfg0.N, win0_0.index t = ![t.val / 8, t.val % 8] ∧ win0_1.index t = ![t.val / 8, 8 + t.val % 8] ∧ win0_2.index t = ![t.val / 8, 16 + t.val % 8]
    ∧ win0_3.index t = ![t.val / 8, 24 + t.val % 8] ∧ win0_4.index t = ![0, t.val % 8] ∧ win0_5.index t = ![0, 0] ∧ win0_6.index t = ![t.val / 8, t.val % 8] :=
  (by decide +kernel : ∀ t : Fin grid0.N, _)

theorem idx_saved : ∀ t : Fin cfg0.N, win0_7.index t = ![t.val / 8, t.val % 8, 0, 0, 0] :=
  (by decide +kernel : ∀ t : Fin grid0.N, _)

theorem ld_all (A : Vec Ideal S1x128 .f32) (inb : ∀ a : Fin 2, (![0, 0] : Fin 2 → ℕ) a + (![1, 128] : Fin 2 → ℕ) a ≤ (![1, 128] : Fin 2 → ℕ) a) :
    View.ld (Val := Elt Ideal) (e' := .f32) A (Rect.unit (s := S1x128) ![0, 0] ![1, 128] inb) = A := by
  funext i
  refine congrArg A (funext (Fin.forall_fin_two.mpr ⟨Fin.ext ?_, Fin.ext ?_⟩))
  · show 0 + 1 * (i 0).val = (i 0).val
    omega
  · show 0 + 1 * (i 1).val = (i 1).val
    omega

variable (m : (ℓ : Loc nD τ sig) → Buf (Elt Ideal) ℓ)

/-- The call's three arguments. -/
abbrev argP (c : Dev nD) := m ((c : Thread nD τ).loc main_arg0)
abbrev argL (c : Dev nD) := m ((c : Thread nD τ).loc main_arg1)
abbrev argG (c : Dev nD) := m ((c : Thread nD τ).loc main_arg2)

theorem blk0 (c : Dev nD) (t : Fin cfg0.N) (s : Fin 2048) (y : Fin 256) (r : Fin 4096) (q : Fin 8192) (hr : r.val = t.val / 8 * 2048 + s.val) (hq : q.val = t.val % 8 * 256 + y.val) :
    iblk m c 0 t (ix2 s y) = argP m c (ix2 r q) := by
  blk_point [iblk, V, idx t]

theorem blk1 (c : Dev nD) (t : Fin cfg0.N) (s : Fin 2048) (y : Fin 256) (r : Fin 4096) (q : Fin 8192) (hr : r.val = t.val / 8 * 2048 + s.val) (hq : q.val = (8 + t.val % 8) * 256 + y.val) :
    iblk m c 1 t (ix2 s y) = argP m c (ix2 r q) := by
  blk_point [iblk, V, idx t]

theorem blk2 (c : Dev nD) (t : Fin cfg0.N) (s : Fin 2048) (y : Fin 256) (r : Fin 4096) (q : Fin 8192) (hr : r.val = t.val / 8 * 2048 + s.val) (hq : q.val = (16 + t.val % 8) * 256 + y.val) :
    iblk m c 2 t (ix2 s y) = argP m c (ix2 r q) := by
  blk_point [iblk, V, idx t]

theorem blk3 (c : Dev nD) (t : Fin cfg0.N) (s : Fin 2048) (y : Fin 256) (r : Fin 4096) (q : Fin 8192) (hr : r.val = t.val / 8 * 2048 + s.val) (hq : q.val = (24 + t.val % 8) * 256 + y.val) :
    iblk m c 3 t (ix2 s y) = argP m c (ix2 r q) := by
  blk_point [iblk, V, idx t]

theorem blk4 (c : Dev nD) (t : Fin cfg0.N) (y : Fin 256) (q : Fin 2048) (hq : q.val = t.val % 8 * 256 + y.val) : iblk m c 4 t (ix2 0 y) = argL m c (ix1 q) := by
  blk_point [iblk, V, idx t]

theorem blk5 (c : Dev nD) (t : Fin cfg0.N) (e : Fin 128) : iblk m c 5 t (ix2 0 e) = argG m c (ix1 e) := by
  blk_point [iblk, V, idx t]

/-- The sequence and the heads of a grid point. -/
abbrev seqOf (t : Fin cfg0.N) : Fin 2 := ⟨t.val / 8, by have : t.val < 16 := lt_of_lt_of_eq t.isLt N_0; omega⟩
abbrev headOf (t : Fin cfg0.N) (h : Fin 2) : Fin 16 := ⟨t.val % 8 * 2 + h.val, by omega⟩

theorem queries (c : Dev nD) (tame : Tame (argP m c) (argL m c)) (t : Fin cfg0.N) (h : Fin 2) : Lanes (iblk m c 0 t) h (part (argP m c) 0 (seqOf t) (headOf t h)) := fun s d => by
  have ht : t.val < 16 := lt_of_lt_of_eq t.isLt N_0
  exact (blk0 m c t s (lane h d) ⟨t.val / 8 * 2048 + s.val, by omega⟩ ⟨t.val % 8 * 256 + (128 * h.val + d.val), by omega⟩ rfl rfl).trans
      (part_eq tame 0 (by decide) (seqOf t) (headOf t h) s.val s.isLt d _ _ rfl (by show t.val % 8 * 256 + (128 * h.val + d.val) = 0 * 2048 + ((t.val % 8 * 2 + h.val) * 128 + d.val); omega))

theorem gates (c : Dev nD) (tame : Tame (argP m c) (argL m c)) (t : Fin cfg0.N) (h : Fin 2) : Lanes (iblk m c 1 t) h (part (argP m c) 1 (seqOf t) (headOf t h)) := fun s d => by
  have ht : t.val < 16 := lt_of_lt_of_eq t.isLt N_0
  exact (blk1 m c t s (lane h d) ⟨t.val / 8 * 2048 + s.val, by omega⟩ ⟨(8 + t.val % 8) * 256 + (128 * h.val + d.val), by omega⟩ rfl rfl).trans
      (part_eq tame 1 (by decide) (seqOf t) (headOf t h) s.val s.isLt d _ _ rfl (by show (8 + t.val % 8) * 256 + (128 * h.val + d.val) = 1 * 2048 + ((t.val % 8 * 2 + h.val) * 128 + d.val); omega))

theorem values (c : Dev nD) (tame : Tame (argP m c) (argL m c)) (t : Fin cfg0.N) (h : Fin 2) : Lanes (iblk m c 2 t) h (part (argP m c) 2 (seqOf t) (headOf t h)) := fun s d => by
  have ht : t.val < 16 := lt_of_lt_of_eq t.isLt N_0
  exact (blk2 m c t s (lane h d) ⟨t.val / 8 * 2048 + s.val, by omega⟩ ⟨(16 + t.val % 8) * 256 + (128 * h.val + d.val), by omega⟩ rfl rfl).trans
      (part_eq tame 2 (by decide) (seqOf t) (headOf t h) s.val s.isLt d _ _ rfl (by show (16 + t.val % 8) * 256 + (128 * h.val + d.val) = 2 * 2048 + ((t.val % 8 * 2 + h.val) * 128 + d.val); omega))

theorem bounds (c : Dev nD) (tame : Tame (argP m c) (argL m c)) (t : Fin cfg0.N) (h : Fin 2) (d : Fin 128) : iblk m c 4 t (ix2 0 (lane h d)) = ((low (argL m c) (headOf t h) d : ℝ) : EReal) := by
  have ht : t.val < 16 := lt_of_lt_of_eq t.isLt N_0
  exact (blk4 m c t (lane h d) ⟨t.val % 8 * 256 + (128 * h.val + d.val), by omega⟩ rfl).trans
      (low_eq tame (headOf t h) d _ (by show t.val % 8 * 256 + (128 * h.val + d.val) = (t.val % 8 * 2 + h.val) * 128 + d.val; omega))

theorem out_at (c : Dev nD) (tame : Tame (argP m c) (argL m c)) (t : Fin cfg0.N) (s : Fin 2048) (h : Fin 2) (e : Fin 128) :
    (outsAt0 m c t).1 (ix2 s (lane h e)) = resultAt (argP m c) (argL m c) (argG m c) (seqOf t) (headOf t h) s e := by
  have ht : t.val < 16 := lt_of_lt_of_eq t.isLt N_0
  unfold outsAt0
  dsimp only
  unfold out0_A_6
  unfold kernelRun0_A
  dsimp only
  refine (loop_rows c (grid0.coords t) _ _ _ _ _ _ _ _ _ _ _ _ _ _ _ _ _ (iblk m c 0 t) (iblk m c 1 t) (iblk m c 2 t) (iblk m c 3 t) (iblk m c 4 t)
    (fun h d => low_between tame (headOf t h) d) (queries m c tame t) (gates m c tame t) (values m c tame t) (bounds m c tame t) VO0_6 (VO0_6.junk) k0_t1_loop.trips trips_eq.le s (by rw [trips_eq]; omega) h e).trans ?_
  rw [View.readAt_eq_ld, Memref.IsWhole.read_unread, ld_all, blk5,
    blk3 m c t s (lane h e) ⟨t.val / 8 * 2048 + s.val, by omega⟩ ⟨6144 + ((t.val % 8 * 2 + h.val) * 128 + e.val), by omega⟩ rfl
      (by show 6144 + ((t.val % 8 * 2 + h.val) * 128 + e.val) = (24 + t.val % 8) * 256 + (128 * h.val + e.val); omega)]
  rfl

/-- The call's first result. -/
theorem final (c : Dev nD) (tame : Tame (argP m c) (argL m c)) : (dats m 0 c).arrAt 6 cfg0.N = result (argP m c) (argL m c) (argG m c) := by
  refine (dats m 0 c).arrAt_eq_of_covers 6 _ (by decide +kernel) fun t hf y => ?_
  have ht : t.val < 16 := lt_of_lt_of_eq t.isLt N_0
  blk_simp
  rw [after0_6]
  idx_vars y
  have e : ((View.whole main_v2_0).slice (win0_6.rect t)).emb (ix2 y0 y1) = ix2 ⟨t.val / 8 * 2048 + y0.val, by omega⟩ ⟨t.val % 8 * 256 + y1.val, by omega⟩ := by
    blk_ext [idx t]
  rw [e]
  have ey : y1 = lane ⟨y1.val / 128, by omega⟩ ⟨y1.val % 128, by omega⟩ := Fin.ext (by show y1.val = 128 * (y1.val / 128) + y1.val % 128; omega)
  rw [ey]
  refine (out_at m c tame t y0 _ _).trans ?_
  refine congr (congr (congr (congrArg (resultAt _ _ _) (Fin.ext ?_)) (Fin.ext ?_)) (Fin.ext ?_)) (Fin.ext ?_)
  · show t.val / 8 = (t.val / 8 * 2048 + y0.val) / 2048
    omega
  · show t.val % 8 * 2 + y1.val / 128 = (t.val % 8 * 256 + (128 * (y1.val / 128) + y1.val % 128)) / 128
    omega
  · show y0.val = (t.val / 8 * 2048 + y0.val) % 2048
    omega
  · show y1.val % 128 = (t.val % 8 * 256 + (128 * (y1.val / 128) + y1.val % 128)) % 128
    omega

theorem saved_at (c : Dev nD) (tame : Tame (argP m c) (argL m c)) (t : Fin cfg0.N) (h : Fin 2) (n : Fin 16) (e d : Fin 128) :
    (outsAt0 m c t).2 (ix5 0 h n e d) = savedAt (argP m c) (argL m c) (seqOf t) (headOf t h) n e d := by
  unfold outsAt0
  dsimp only
  unfold out0_A_7
  unfold kernelRun0_A
  dsimp only
  exact loop_saved c (grid0.coords t) _ _ _ _ _ _ _ _ _ _ _ _ _ _ _ _ _ (iblk m c 0 t) (iblk m c 1 t) (iblk m c 2 t) (iblk m c 3 t) (iblk m c 4 t)
    (fun h d => low_between tame (headOf t h) d) (gates m c tame t) (values m c tame t) (bounds m c tame t) VO0_7 (VO0_7.junk) k0_t1_loop.trips trips_eq.le n (by rw [trips_eq]; exact n.isLt) h e d

/-- The call's second result. -/
theorem final_saved (c : Dev nD) (tame : Tame (argP m c) (argL m c)) : (dats m 0 c).arrAt 7 cfg0.N = saved (argP m c) (argL m c) := by
  refine (dats m 0 c).arrAt_eq_of_covers 7 _ (by decide +kernel) fun t hf y => ?_
  have ht : t.val < 16 := lt_of_lt_of_eq t.isLt N_0
  blk_simp
  rw [after0_7]
  idx_vars y
  have e : ((View.whole main_v2_1).slice (win0_7.rect t)).emb (ix5 y0 y1 y2 y3 y4) = ix5 ⟨t.val / 8, by omega⟩ ⟨t.val % 8 * 2 + y1.val, by omega⟩ y2 y3 y4 := by
    blk_ext [idx_saved t]
  rw [e]
  have e0 : y0 = 0 := Fin.ext (by omega)
  rw [e0]
  exact saved_at m c tame t y1 y2 y3 y4

end Cert.HgrnFIdeal.Hgrn

end
-- ==== Proof.HgrnRef.lean ====
/- The forward HGRN2 scan as the reference states it, read at an index. -/
module

public import proofs.«01_k».proof.Proof.Gen.RefHgrnFIdeal.Read
public import proofs.«01_k».proof.Proof.HgrnResult
public import Idealize.ShloMosaic.Lib.Pointwise
public import Idealize.ShloMosaic.Lib.WordCmp

@[expose] public section

set_option maxRecDepth 16384

noncomputable section

namespace Cert.RefHgrnFIdeal.Hgrn

open Cert.RefHgrnFIdeal Cert.RefHgrnFIdeal.Read Idealize.ShloMosaic Idealize.ShloMosaic.TcCoe Cert.Hgrn Cert.RmsNorm

variable (P : FVec Ideal S4096x8192 .f32) (lb : FVec Ideal S2048 .f32) (gn : FVec Ideal S128 .f32)

/-! ## The causal mask -/

theorem v42_at (i j : Fin 2048) : val_main_v42 (F := Ideal) (ix2 i j) = if j.val < i.val + 1 then 1#1 else 0#1 := by
  have hi := i.isLt
  have hj := j.isLt
  pointwise [val_main_v42, val_main_v41, val_main_v40]
  by_cases h : j.val ≤ i.val
  · rw [if_pos (by omega)]
    simp (disch := omega) only [hlo_ix]
    exact h
  · rw [if_neg (by omega)]
    simp (disch := omega) only [hlo_ix]
    omega

theorem v43_at (i j : Fin 2048) : val_main_v43 (F := Ideal) (ix2 i j) = if j.val < i.val + 1 then 1 else 0 := by
  rw [val_main_v43_apply, v42_at]
  split <;> simp [FloatOps.uitofp]

/-- The rows before chunk `n`. -/
theorem v85_at (n : Fin 16) (j : Fin 2048) : val_main_v85 (F := Ideal) (ix2 n j) = if j.val < 128 * n.val then 1#1 else 0#1 := by
  have hn := n.isLt
  have hj := j.isLt
  pointwise [val_main_v85, val_main_v84, val_main_v83, val_main_v82, val_main_v81, val_main_c]
  have scaled : IntOp.muli (128#32) (BitVec.ofNat 32 n.val) = BitVec.ofNat 32 (128 * n.val) := by
    rw [BitVec.ofNat_mul]
    rfl
  rw [scaled]
  by_cases h : j.val < 128 * n.val
  · rw [if_pos h]
    simp (disch := omega) only [hlo_ix]
    exact h
  · rw [if_neg h]
    simp (disch := omega) only [hlo_ix]
    omega

theorem v86_at (n : Fin 16) (j : Fin 2048) : val_main_v86 (F := Ideal) (ix2 n j) = if j.val < 128 * n.val then 1 else 0 := by
  rw [val_main_v86_apply, v85_at]
  split <;> simp [FloatOps.uitofp]

/-! ## Queries, keys, values and gates -/

section

variable {P lb} (tame : Tame P lb) (b : Fin 2) (h : Fin 16)

include tame

theorem v23_at (t : Fin 2048) (d : Fin 128) : val_main_v23 (F := Ideal) P (ix4 b h t d) = ((qry (part P 0 b h) t.val d : ℝ) : EReal) := by
  pointwise [val_main_v23, val_main_v22, val_main_v21, val_main_v0, val_main_call0_v5, val_main_call0_v4, val_main_call0_v3, val_main_call0_v2, val_main_call0_v1, val_main_call0_v0,
    val_main_call0_cst, val_main_call0_cst_0]
  refine (congrArg (fun p => p * Ideal.div 1 (1 + Ideal.exp (-p))) (part_eq tame 0 (by decide) b h t.val t.isLt d _ _ rfl (by show h.val * 128 + d.val = 0 * 2048 + (h.val * 128 + d.val); omega))).trans ?_
  rw [qry, EReal.coe_mul]
  exact congrArg _ (Ideal.logistic_coe _)

theorem v37_at (t : Fin 2048) (d : Fin 128) : val_main_v37 (F := Ideal) P lb (ix4 b h t d) = ((key (part P 1 b h) (low lb h) t.val d : ℝ) : EReal) := by
  pointwise [val_main_v37, val_main_v36, val_main_v35, val_main_v34, val_main_v33, val_main_v32, val_main_v31, val_main_v30, val_main_v29, val_main_v28, val_main_v27, val_main_v26,
    val_main_v25, val_main_v24, val_main_v1, val_main_cst_2, val_main_cst_3, val_main_cst_4]
  refine (congrArg₂ (fun l p => (1 - l) * Ideal.div 1 (1 + Ideal.exp (- -p))) (low_eq tame h d _ rfl)
    (part_eq tame 1 (by decide) b h t.val t.isLt d _ _ rfl (by show 2048 + (h.val * 128 + d.val) = 1 * 2048 + (h.val * 128 + d.val); omega))).trans ?_
  rw [key, EReal.coe_mul, EReal.coe_sub, EReal.coe_one, ← EReal.coe_neg (part P 1 b h t.val d)]
  exact congrArg _ (Ideal.logistic_coe _)

theorem v39_at (t : Fin 2048) (d : Fin 128) : val_main_v39 (F := Ideal) P (ix4 b h t d) = ((part P 2 b h t.val d : ℝ) : EReal) := by
  pointwise [val_main_v39, val_main_v38, val_main_v2]
  exact part_eq tame 2 (by decide) b h t.val t.isLt d _ _ rfl (by show 4096 + (h.val * 128 + d.val) = 2 * 2048 + (h.val * 128 + d.val); omega)

theorem v20_at (t : Fin 2048) (d : Fin 128) : val_main_v20 (F := Ideal) P lb (ix4 b h t d) = ((Real.log (gate (low lb h d) (part P 1 b h t.val d)) : ℝ) : EReal) := by
  pointwise [val_main_v20, val_main_v19, val_main_v18, val_main_v17, val_main_v16, val_main_v15, val_main_v14, val_main_v13, val_main_v12, val_main_v11, val_main_v10, val_main_v9, val_main_v8,
    val_main_v7, val_main_v6, val_main_v5, val_main_v4, val_main_v1, val_main_cst, val_main_cst_0, val_main_cst_1]
  refine (congrArg₂ (fun l p => Ideal.log (l + (1 - l) * Ideal.div 1 (1 + Ideal.exp (-p)))) (low_eq tame h d _ rfl)
    (part_eq tame 1 (by decide) b h t.val t.isLt d _ _ rfl (by show 2048 + (h.val * 128 + d.val) = 1 * 2048 + (h.val * 128 + d.val); omega))).trans ?_
  have hs : Ideal.div 1 (1 + Ideal.exp (-((part P 1 b h t.val d : ℝ) : EReal))) = ((Cert.Hgrn.sig (part P 1 b h t.val d) : ℝ) : EReal) := Ideal.logistic_coe _
  rw [hs, ← EReal.coe_one, ← EReal.coe_sub, ← EReal.coe_mul, ← EReal.coe_add, Ideal.log_coe]
  exact if_neg (not_le.mpr (gate_pos _ (low_between tame h d).1 (low_between tame h d).2))

/-! ## The decayed scores and the mixture -/

theorem v45_at (t : Fin 2048) (d : Fin 128) : val_main_v45 (F := Ideal) P lb (ix4 b h t d) = ((pre (part P 1 b h) (low lb h) (t.val + 1) d : ℝ) : EReal) := by
  pointwise [val_main_v45, val_main_v44]
  rw [pre, ← sum_below (N := 2048) (by omega) (fun j => Real.log (gate (low lb h d) (part P 1 b h j d))), ← sum_coe]
  refine Finset.sum_congr rfl fun j _ => ?_
  rw [v20_at tame b h j d, v43_at]
  split
  · rw [mul_one]
  · rw [mul_zero, EReal.coe_zero]

theorem v62_at (t s : Fin 2048) : val_main_v62 (F := Ideal) P lb (ix4 b h t s)
    = (((if s.val < t.val + 1 then score (part P 0 b h) (part P 1 b h) (low lb h) t.val s.val else 0 : ℝ)) : EReal) := by
  pointwise [val_main_v62, val_main_v61, val_main_v60, val_main_v59, val_main_v58, val_main_v57, val_main_v56, val_main_v55, val_main_v54, val_main_v53, val_main_v52, val_main_v51, val_main_v50,
    val_main_v49, val_main_v48, val_main_v47, val_main_v46, val_main_call1_v0, val_main_call1_v1, val_main_call1_v2, val_main_call2_v0, val_main_call2_v1, val_main_call2_v2,
    val_main_cst_5, val_main_cst_6, val_main_cst_7]
  rw [v42_at]
  split
  · rw [score, ← sum_coe]
    refine Finset.sum_congr rfl fun d _ => ?_
    rw [v23_at tame b h t d, v37_at tame b h s d, v45_at tame b h t d, v45_at tame b h s d, EReal.coe_mul, EReal.coe_mul, ← Ideal.exp_coe, EReal.coe_sub]
    rfl
  · rw [EReal.coe_zero]
    refine Finset.sum_eq_zero fun d _ => ?_
    have zero : val_main_cst_6 (F := Ideal) ix0 = (0 : EReal) := by pointwise [val_main_cst_6]
    exact (congrArg (fun a : EReal => val_main_v23 (F := Ideal) P (ix4 b h t d) * val_main_v37 (F := Ideal) P lb (ix4 b h s d) * a) zero).trans (mul_zero _)

theorem v64_at (t : Fin 2048) (e : Fin 128) : val_main_v64 (F := Ideal) P lb (ix4 b t h e)
    = ((mix (part P 0 b h) (part P 1 b h) (part P 2 b h) (low lb h) t.val e : ℝ) : EReal) := by
  pointwise [val_main_v64, val_main_v63]
  rw [mix, ← sum_below (N := 2048) (by omega) (fun s => score (part P 0 b h) (part P 1 b h) (low lb h) t.val s * part P 2 b h s e), ← sum_coe]
  refine Finset.sum_congr rfl fun s _ => ?_
  rw [v62_at tame b h t s, v39_at tame b h s e, ← EReal.coe_mul]
  split
  · rfl
  · rw [zero_mul]

/-! ## The states -/

theorem v88_at (n : Fin 16) (d : Fin 128) : val_main_v88 (F := Ideal) P lb (ix4 b h n d) = ((pre (part P 1 b h) (low lb h) (128 * n.val) d : ℝ) : EReal) := by
  pointwise [val_main_v88, val_main_v87]
  rw [pre, ← sum_below (N := 2048) (by omega) (fun j => Real.log (gate (low lb h d) (part P 1 b h j d))), ← sum_coe]
  refine Finset.sum_congr rfl fun j _ => ?_
  rw [v20_at tame b h j d, v86_at]
  split
  · rw [mul_one]
  · rw [mul_zero, EReal.coe_zero]

theorem v103_at (n : Fin 16) (e d : Fin 128) : val_main_v103 (F := Ideal) P lb (ix5 b h n e d) = savedAt P lb b h n e d := by
  pointwise [val_main_v103, val_main_v102]
  rw [savedAt, state, ← sum_below (N := 2048) (by omega) (fun s => part P 2 b h s e * (key (part P 1 b h) (low lb h) s d * Real.exp (pre (part P 1 b h) (low lb h) (128 * n.val) d - pre (part P 1 b h) (low lb h) (s + 1) d))), ← sum_coe]
  refine Finset.sum_congr rfl fun s _ => ?_
  rw [v39_at tame b h s e]
  have left : val_main_v101 (F := Ideal) P lb (ix5 b h n s d)
      = ((if s.val < 128 * n.val then key (part P 1 b h) (low lb h) s.val d * Real.exp (pre (part P 1 b h) (low lb h) (128 * n.val) d - pre (part P 1 b h) (low lb h) (s.val + 1) d) else 0 : ℝ) : EReal) := by
    pointwise [val_main_v101, val_main_v100, val_main_v99, val_main_v98, val_main_v97, val_main_v96, val_main_v95, val_main_v94, val_main_v93, val_main_v92, val_main_v91, val_main_v90, val_main_v89,
      val_main_call4_v0, val_main_call4_v1, val_main_call4_v2, val_main_call5_v0, val_main_call5_v1, val_main_call5_v2, val_main_cst_11, val_main_cst_12]
    rw [v85_at]
    split
    · rw [v37_at tame b h s d, v88_at tame b h n d, v45_at tame b h s d, EReal.coe_mul, ← Ideal.exp_coe, EReal.coe_sub]
      rfl
    · rw [EReal.coe_zero]
      have zero : val_main_cst_11 (F := Ideal) ix0 = (0 : EReal) := by pointwise [val_main_cst_11]
      exact (congrArg (fun a : EReal => val_main_v37 (F := Ideal) P lb (ix4 b h s d) * a) zero).trans (mul_zero _)
  rw [left, ← EReal.coe_mul]
  split
  · rw [mul_comm]
  · rw [zero_mul]

/-! ## The first result -/

theorem v80_at (t : Fin 2048) (e : Fin 128) : val_main_v80 (F := Ideal) P lb gn (ix4 b t h e) = resultAt P lb gn b h t e := by
  pointwise [val_main_v80, val_main_v79, val_main_v78, val_main_v77, val_main_v76, val_main_v75, val_main_v74, val_main_v73, val_main_v72, val_main_v71, val_main_v70, val_main_v69, val_main_v68, val_main_v67, val_main_v66, val_main_v65,
    val_main_v3, val_main_call3_v5, val_main_call3_v4, val_main_call3_v3, val_main_call3_v2, val_main_call3_v1, val_main_call3_v0, val_main_call3_cst, val_main_call3_cst_0, val_main_cst_8, val_main_cst_9, val_main_cst_10]
  simp only [v64_at tame b h t]
  rfl

end

/-- The reference's first result on tame arguments. -/
theorem v105_at {P : FVec Ideal S4096x8192 .f32} {lb : FVec Ideal S2048 .f32} (tame : Tame P lb) (R : Fin 4096) (C : Fin 2048) : val_main_v105 (F := Ideal) P lb gn (ix2 R C) = result P lb gn (ix2 R C) := by
  refine Eq.trans ?_ (v80_at gn tame ⟨R.val / 2048, by omega⟩ ⟨C.val / 128, by omega⟩ ⟨R.val % 2048, by omega⟩ ⟨C.val % 128, by omega⟩)
  pointwise [val_main_v105, val_main_v104]

end Cert.RefHgrnFIdeal.Hgrn

end
-- ==== Proof.HgrnF.lean ====
/- The forward HGRN2 scan: the value claim. -/
module

public import proofs.«01_k».proof.Defs
public import proofs.«01_k».proof.Proof.Gen.HgrnFIdeal
public import proofs.«01_k».proof.Proof.Gen.HgrnFIdeal.Value
public import proofs.«01_k».proof.Proof.Gen.RefHgrnFIdeal
public import proofs.«01_k».proof.Proof.Gen.RefHgrnFIdeal.Run
public import proofs.«01_k».proof.Proof.Gen.RefHgrnFIdeal.Read
public import proofs.«01_k».proof.Proof.Gen.Pre_bounded_hgrn_f
public import proofs.«01_k».proof.Proof.Finite
public import proofs.«01_k».proof.Proof.HgrnKernel
public import proofs.«01_k».proof.Proof.HgrnRef
public import Idealize.ShloMosaic.Adequacy
public import Idealize.ShloMosaic.Init

@[expose] public section

noncomputable section

namespace Cert.HgrnFIdeal.Hgrn

open Cert.HgrnFIdeal Cert.HgrnFIdeal.Gen Idealize.ShloMosaic Idealize.ShloMosaic.TcCoe Idealize.SL.Sem Cert.Hgrn

/-- The host-only reference ends with its arguments unchanged and, having no semaphore, every counter at zero. -/
theorem frame_reference : @Cert.quiescent_RefHgrnFIdeal Cert.RefHgrnFIdeal.Gen.facts := fun m ρ _ =>
  (θ_run Cert.RefHgrnFIdeal.defs _ _).mono (fun r h => ⟨fun c => (h c).2.2, sem_eq_zero_of_no_sems (by decide) r.2⟩)
    (Cert.RefHgrnFIdeal.Value.run (F := Ideal) m ρ)

/-- What lies between 0 and 1 is a real between 0 and 1. -/
theorem real_of_unit {x : Ideal .f32}
    (h : IntOp.andi (FloatOps.cmpf .oge x (FloatOps.ofBits (F := Ideal) .f32 0x00000000#32)) (FloatOps.cmpf .ole x (FloatOps.ofBits (F := Ideal) .f32 0x3F800000#32)) = 1#1) :
    ∃ a : ℝ, x = (a : EReal) ∧ 0 ≤ a ∧ a ≤ 1 := by
  have h0 : Ideal.ofBits .f32 0x00000000#32 = 0 := by simp [Ideal.ofBits, Ideal.ieee]
  have h1 : Ideal.ofBits .f32 0x3F800000#32 = 1 := Ideal.ofBits_one_f32
  replace h : IntOp.andi (Ideal.cmp .oge x (Ideal.ofBits .f32 0x00000000#32)) (Ideal.cmp .ole x (Ideal.ofBits .f32 0x3F800000#32)) = 1#1 := h
  rw [h0, h1] at h
  have between : (0 : EReal) ≤ x ∧ x ≤ (1 : EReal) := by
    by_contra hn
    rcases not_and_or.mp hn with hn | hn <;> simp [Ideal.cmp, IntOp.andi, hn] at h
  have hx : (EReal.toReal x : EReal) = x := EReal.coe_toReal (fun e => by rw [e] at between; exact absurd (top_le_iff.mp between.2) (EReal.coe_ne_top 1)) (fun e => by rw [e] at between; exact absurd between.1 (by simp))
  refine ⟨EReal.toReal x, hx.symm, ?_, ?_⟩
  · rw [← EReal.coe_le_coe_iff, hx]
    exact between.1
  · rw [← EReal.coe_le_coe_iff, hx]
    exact between.2

/-- The precondition, read. -/
theorem tame (m : (ℓ : Loc nD τ sig) → Buf (Elt Ideal) ℓ) (h : @Cert.Pre_HgrnFIdeal_bounded_hgrn_f Cert.Pre_bounded_hgrn_f.Gen.facts m) (c : Dev nD) : Tame (argP m c) (argL m c) where
  real r q hq := by
    have at_entry := congrFun (h c).1 (ix2 r (⟨q.val, hq⟩ : Fin 6144))
    have e : extractStridedSlice Cert.Pre_bounded_hgrn_f.S4096x6144 ![0, 0] (argP m c) Cert.Pre_bounded_hgrn_f.Gen.slices_S4096x8192_S4096x6144_0_0 (ix2 r (⟨q.val, hq⟩ : Fin 6144)) = argP m c (ix2 r q) := by
      pointwise []
    obtain ⟨a, ha⟩ := Cert.Finite.real_of_between at_entry
    exact ⟨a, e.symm.trans ha⟩
  low d := real_of_unit (congrFun (h c).2 (ix1 d))

theorem algebraic : @Cert.algebraic_HgrnFIdeal_RefHgrnFIdeal_pre_bounded_hgrn_f Cert.HgrnFIdeal.Gen.facts Cert.RefHgrnFIdeal.Gen.facts Cert.Pre_bounded_hgrn_f.Gen.facts := by
  intro m g m' g' hpre hag
  refine ⟨fun c => result (argP m c) (argL m c) (argG m c), fun c => saved (argP m c) (argL m c),
    (θ_run defs _ _).mono (fun _ h c => ⟨(h c).1.trans (final m c (tame m hpre c)), (h c).2.1.trans (final_saved m c (tame m hpre c)), (h c).2.2⟩) (Value.run_blocks (F := Ideal) m g),
    (θ_run Cert.RefHgrnFIdeal.defs _ _).mono (fun _ h c => ?_) (Cert.RefHgrnFIdeal.Value.run (F := Ideal) m' g')⟩
  obtain ⟨e0, e1, e2⟩ := hag c
  refine ⟨(h c).1.trans ?_, (h c).2.1.trans ?_, (h c).2.2⟩
  · rw [Cert.RefHgrnFIdeal.Read.val_main_v105_eq]
    change Cert.RefHgrnFIdeal.Read.val_main_v105 (F := Ideal) (m' ((c : Thread Cert.RefHgrnFIdeal.nD Cert.RefHgrnFIdeal.τ).loc Cert.RefHgrnFIdeal.main_arg0)) (m' ((c : Thread Cert.RefHgrnFIdeal.nD Cert.RefHgrnFIdeal.τ).loc Cert.RefHgrnFIdeal.main_arg1))
      (m' ((c : Thread Cert.RefHgrnFIdeal.nD Cert.RefHgrnFIdeal.τ).loc Cert.RefHgrnFIdeal.main_arg2)) = _
    rw [e0, e1, e2]
    funext i
    exact (congrArg _ (eq_ix2 i)).trans ((Cert.RefHgrnFIdeal.Hgrn.v105_at _ (tame m hpre c) (i 0) (i 1)).trans (congrArg _ (eq_ix2 i).symm))
  · rw [Cert.RefHgrnFIdeal.Read.val_main_v103_eq]
    change Cert.RefHgrnFIdeal.Read.val_main_v103 (F := Ideal) (m' ((c : Thread Cert.RefHgrnFIdeal.nD Cert.RefHgrnFIdeal.τ).loc Cert.RefHgrnFIdeal.main_arg0)) (m' ((c : Thread Cert.RefHgrnFIdeal.nD Cert.RefHgrnFIdeal.τ).loc Cert.RefHgrnFIdeal.main_arg1)) = _
    rw [e0, e1]
    funext i
    exact (congrArg _ (eq_ix5 i)).trans (Cert.RefHgrnFIdeal.Hgrn.v103_at (tame m hpre c) (i 0) (i 1) (i 2) (i 3) (i 4))

end Cert.HgrnFIdeal.Hgrn

end
-- ==== Proof.LbF.lean ====
/- The lower bounds of the recurrence's layers, forward: the value claim. -/
module

public import proofs.«01_k».proof.Defs
public import proofs.«01_k».proof.Proof.Gen.LbFIdeal
public import proofs.«01_k».proof.Proof.Gen.LbFIdeal.Value
public import proofs.«01_k».proof.Proof.Gen.RefLbFIdeal
public import proofs.«01_k».proof.Proof.Gen.RefLbFIdeal.Run
public import proofs.«01_k».proof.Proof.Gen.RefLbFIdeal.Read
public import proofs.«01_k».proof.Proof.Shares
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.LbFIdeal.Bounds

open Cert.LbFIdeal Cert.LbFIdeal.Gen Idealize.ShloMosaic Idealize.ShloMosaic.TcCoe Cert.Shares
open Idealize.ShloMosaic.Pipeline (Dat)
open Idealize.SL.Sem

variable (m : (ℓ : Loc nD τ sig) → Buf (Elt Ideal) ℓ)

theorem idx : ∀ t : Fin cfg0.N, win0_0.index t = ![0, 0] ∧ win0_1.index t = ![0, 0] :=
  (by decide +kernel : ∀ t : Fin grid0.N, _)

theorem pay_at (x : FVec Ideal S2x2048 .f32) (j : S2x2048.Idx) : k0_pay1 (F := Ideal) x j = bounds x j := by
  idx_vars j
  match j0 with
  | ⟨0, _⟩ =>
    pointwise [k0_pay1]
    rfl
  | ⟨1, _⟩ =>
    pointwise [k0_pay1]
    rfl

theorem final (c : Dev nD) : (dats m 0 c).arrAt 1 cfg0.N = bounds (m ((c : Thread nD τ).loc main_arg0)) := by
  refine (dats m 0 c).arrAt_eq_of_covers 1 _ (by decide +kernel) fun t hf y => ?_
  blk_simp
  rw [after0_1]
  frame_out
  have hx : iblk m c 0 t = m ((c : Thread nD τ).loc main_arg0) := by
    funext j
    blk_point [iblk, V, idx t]
  rw [hx, pay_at]
  refine congrArg _ ?_
  idx_vars y
  symm
  blk_ext [idx t]

open Cert.RefLbFIdeal.Read in
theorem reference_at (x : FVec Ideal S2x2048 .f32) : val_main_v25 (F := Ideal) x = bounds x := by
  funext j
  idx_vars j
  match j0 with
  | ⟨0, _⟩ =>
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1]
    rfl
  | ⟨1, _⟩ =>
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1]
    rfl

/-- The host-only reference ends with its arguments unchanged and, having no semaphore, every counter at zero. -/
theorem frame_reference : @Cert.quiescent_RefLbFIdeal Cert.RefLbFIdeal.Gen.facts := fun m ρ _ =>
  (θ_run Cert.RefLbFIdeal.defs _ _).mono (fun r h => ⟨fun c => (h c).2, sem_eq_zero_of_no_sems (by decide) r.2⟩)
    (Cert.RefLbFIdeal.Value.run (F := Ideal) m ρ)

theorem algebraic : @Cert.algebraic_LbFIdeal_RefLbFIdeal Cert.LbFIdeal.Gen.facts Cert.RefLbFIdeal.Gen.facts := by
  intro m g m' g' _ hag
  refine ⟨fun c => bounds (m ((c : Thread nD τ).loc main_arg0)),
    (θ_run defs _ _).mono (fun _ h c => ⟨(h c).1.trans (final m c), (h c).2⟩) (Value.run_blocks (F := Ideal) m g),
    (θ_run Cert.RefLbFIdeal.defs _ _).mono (fun _ h c => ⟨(h c).1.trans ?_, (h c).2⟩) (Cert.RefLbFIdeal.Value.run (F := Ideal) m' g')⟩
  have e0 := hag c
  rw [Cert.RefLbFIdeal.Read.val_main_v25_eq, e0]
  exact reference_at _

end Cert.LbFIdeal.Bounds
end
-- ==== Proof.Loss.lean ====
/- The loss head, the last norm with the squared error and its gradient: the value claim. -/
module

public import proofs.«01_k».proof.Defs
public import proofs.«01_k».proof.Proof.Gen.LossIdeal
public import proofs.«01_k».proof.Proof.Gen.LossIdeal.Value
public import proofs.«01_k».proof.Proof.Gen.RefLossIdeal
public import proofs.«01_k».proof.Proof.Gen.RefLossIdeal.Run
public import proofs.«01_k».proof.Proof.Gen.RefLossIdeal.Read
public import proofs.«01_k».proof.Proof.RmsNorm
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.LossIdeal.Head

open Cert.LossIdeal Cert.LossIdeal.Gen Idealize.ShloMosaic Idealize.ShloMosaic.TcCoe Cert.RmsNorm
open Idealize.ShloMosaic.Pipeline (Dat)
open Idealize.SL.Sem

/-- The number of columns. -/
abbrev width : EReal := Ideal.ofBits .f32 0x45000000#32

/-- One over the number of columns, and half of that. -/
abbrev inv : EReal := Ideal.ofBits .f32 0x3A000000#32
abbrev halfInv : EReal := Ideal.ofBits .f32 0x39800000#32

theorem width_real : width = ((2048 : ℝ) : EReal) := by
  unfold width
  simp [Ideal.ofBits, Ideal.ieee]
  rw [← EReal.coe_mul]
  norm_num

theorem inv_real : inv = ((1 / 2048 : ℝ) : EReal) := by
  unfold inv
  simp [Ideal.ofBits, Ideal.ieee]
  rw [← EReal.coe_mul]
  norm_num

theorem halfInv_real : halfInv = ((1 / 4096 : ℝ) : EReal) := by
  unfold halfInv
  simp [Ideal.ofBits, Ideal.ieee]
  rw [← EReal.coe_mul]
  norm_num

theorem half_pos : Ideal.ofBits .f32 0x3F000000#32 = ((1 / 2 : ℝ) : EReal) := by
  simp [Ideal.ofBits, Ideal.ieee]
  rw [← EReal.coe_mul]
  norm_num

theorem two_real : Ideal.ofBits .f32 0x40000000#32 = ((2 : ℝ) : EReal) := by
  simp [Ideal.ofBits, Ideal.ieee]
  rw [← EReal.coe_mul]
  norm_num

section
variable {n : ℕ} (x : (⟨2, ![n, 2048]⟩ : Shape).Idx → EReal) (w : Fin 2048 → EReal) (y : (⟨2, ![n, 2048]⟩ : Shape).Idx → EReal) (r : Fin n) (q : Fin 2048)

/-- Row `r`, and its entries over the row's root mean square. -/
abbrev row : Fin 2048 → EReal := fun k => x (ix2 r k)
abbrev unit : EReal := x (ix2 r q) * scale width (row x r)
/-- The error of an entry, the gradient of the loss at it, and the same times the weight of the column. -/
abbrev err : EReal := unit x r q * w q - y (ix2 r q)
abbrev grad : EReal := err x w y r q * inv
abbrev weighted : Fin 2048 → EReal := fun k => grad x w y r k * w k
/-- A row's summands of the loss, of the gradient at the row, and of the gradient at the weight. -/
abbrev lossTerm : EReal := halfInv * ∑ k : Fin 2048, err x w y r k * err x w y r k
abbrev backRow : EReal := projected width (row x r) (weighted x w y r) q
abbrev term : EReal := grad x w y r q * unit x r q
end

section
variable (x : FVec Ideal S4096x2048 .f32) (w : FVec Ideal S2048 .f32) (y : FVec Ideal S4096x2048 .f32)

/-- The weights by column. -/
abbrev cols : Fin 2048 → EReal := fun k => w (ix1 k)

/-- The loss: half the mean square of each row's error, summed over the rows; its gradients at the rows and at the weight. -/
def loss : FVec Ideal S1x1 .f32 := fun _ => ∑ r : Fin 4096, lossTerm x (cols w) y r
def gradX : FVec Ideal S4096x2048 .f32 := fun i => backRow x (cols w) y (i 0) (i 1)
def gradW : FVec Ideal S1x2048 .f32 := fun i => ∑ r : Fin 4096, term x (cols w) y r (i 1)
end

/-- A real factor that is not negative goes into a sum of squares. -/
theorem mul_sum_coe {n : ℕ} (f : Fin n → EReal) {a : EReal} {r : ℝ} (ha : a = (r : EReal)) (hr : 0 ≤ r) : a * ∑ k, f k = ∑ k, a * f k := by
  subst ha
  rw [mul_comm, ← sum_mul_coe f hr]
  exact Finset.sum_congr rfl fun k _ => mul_comm _ _

/-! ## One block -/

section
variable (x : FVec Ideal S256x2048 .f32) (w : FVec Ideal S1x2048 .f32) (y : FVec Ideal S256x2048 .f32) (r : Fin 256) (q : Fin 2048)

abbrev colsB : Fin 2048 → EReal := fun k => w (ix2 0 k)

theorem pay3_at (l : Fin 1) : k0_pay3 (F := Ideal) x (ix2 r l) = scale width (row x r) := by
  pointwise [k0_pay3, scale, meanSq]

theorem pay4_at : k0_pay4 (F := Ideal) x (ix2 r q) = unit x r q := by
  pointwise [k0_pay4, pay3_at]

theorem pay5_at : k0_pay5 (F := Ideal) x w y (ix2 r q) = err x (colsB w) y r q := by
  pointwise [k0_pay5, pay4_at]

theorem pay6_at : k0_pay6 (F := Ideal) x w y (ix2 r q) = grad x (colsB w) y r q := by
  pointwise [k0_pay6, pay5_at]

theorem pay7_at : k0_pay7 (F := Ideal) x w y w (ix2 r q) = backRow x (colsB w) y r q := by
  pointwise [k0_pay7, pay3_at, pay4_at, pay6_at, projected]

abbrev partW (j : S1x2048.Idx) : EReal := ∑ r : Fin 256, term x (colsB w) y r (j 1)
abbrev partL : EReal := ∑ r : Fin 256, lossTerm x (colsB w) y r

theorem pay1_at (a : FVec Ideal S1x2048 .f32) (j : S1x2048.Idx) : k0_pay1 (F := Ideal) (k0_pay4 x) (k0_pay6 x w y) a j = a j + partW x w y j := by
  idx_vars j
  pointwise [k0_pay1, pay4_at, pay6_at]
  rfl

theorem pay2_at (a : FVec Ideal S1x1 .f32) (j : S1x1.Idx) : k0_pay2 (F := Ideal) (k0_pay5 x w y) a j = a j + partL x w y := by
  idx_vars j
  pointwise [k0_pay2, pay5_at]
  exact congrArg (a (ix2 j0 j1) + ·) (mul_sum_coe _ halfInv_real (by norm_num))

theorem pay8_at (j : S1x2048.Idx) : k0_pay8 (F := Ideal) j = 0 := by pointwise [k0_pay8]
theorem pay9_at (j : S1x1.Idx) : k0_pay9 (F := Ideal) j = 0 := by pointwise [k0_pay9]
end

/-! ## The grid -/

variable (m : (ℓ : Loc nD τ sig) → Buf (Elt Ideal) ℓ)

/-- Point `t` reads and writes the block of rows `t`. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

theorem first_w (c : Dev nD) (t : Fin cfg0.N) (h : t.val % 16 = 0) (j : S1x2048.Idx) :
    (outsAt0 m c t.val t.isLt).2.2 j = (fun _ => (0 : EReal)) j + partW (iblk m c 0 t) (iblk m c 1 t) (iblk m c 2 t) j := by
  rw [outsAt0_A m c t h]
  frame_open
  simp (disch := decide) only [↓ View.readCov_skip, ↓ View.readCov_cons_toLoadRect, ↓ View.readCov_fill]
  frame_out
  rw [pay1_at, pay8_at]

theorem next_w (c : Dev nD) (t : Fin cfg0.N) (h : ¬ t.val % 16 = 0) (j : S1x2048.Idx) :
    (outsAt0 m c t.val t.isLt).2.2 j = (outsAt0 m c (t.val - 1) (Nat.lt_of_le_of_lt (Nat.sub_le _ _) t.isLt)).2.2 j
      + partW (iblk m c 0 t) (iblk m c 1 t) (iblk m c 2 t) j := by
  rw [outsAt0_B m c t h]
  frame_out
  rw [pay1_at]

theorem first_l (c : Dev nD) (t : Fin cfg0.N) (h : t.val % 16 = 0) (j : S1x1.Idx) :
    (outsAt0 m c t.val t.isLt).1 j = (fun _ => (0 : EReal)) j + partL (iblk m c 0 t) (iblk m c 1 t) (iblk m c 2 t) := by
  rw [outsAt0_A m c t h]
  frame_open
  simp (disch := decide) only [↓ View.readCov_skip, ↓ View.readCov_cons_toLoadRect, ↓ View.readCov_fill]
  frame_out
  rw [pay2_at, pay9_at]

theorem next_l (c : Dev nD) (t : Fin cfg0.N) (h : ¬ t.val % 16 = 0) (j : S1x1.Idx) :
    (outsAt0 m c t.val t.isLt).1 j = (outsAt0 m c (t.val - 1) (Nat.lt_of_le_of_lt (Nat.sub_le _ _) t.isLt)).1 j
      + partL (iblk m c 0 t) (iblk m c 1 t) (iblk m c 2 t) := by
  rw [outsAt0_B m c t h]
  frame_out
  rw [pay2_at]

theorem out_x (c : Dev nD) (t : Fin cfg0.N) (r : Fin 256) (q : Fin 2048) : (outsAt0 m c t.val t.isLt).2.1 (ix2 r q)
    = backRow (iblk m c 0 t) (colsB (iblk m c 1 t)) (iblk m c 2 t) r q := by
  by_cases h : t.val % 16 = 0
  · rw [outsAt0_A m c t h]
    frame_out
    exact pay7_at _ _ _ r q
  · rw [outsAt0_B m c t h]
    frame_out
    exact pay7_at _ _ _ r q

/-- The three arguments on core `c`. -/
abbrev argX (c : Dev nD) : FVec Ideal S4096x2048 .f32 := m ((c : Thread nD τ).loc main_arg0)
abbrev argW (c : Dev nD) : FVec Ideal S2048 .f32 := m ((c : Thread nD τ).loc main_arg1)
abbrev argY (c : Dev nD) : FVec Ideal S4096x2048 .f32 := m ((c : Thread nD τ).loc main_arg2)

section
variable (c : Dev nD) (t : Fin cfg0.N) (r : Fin 256) (q : Fin 2048) (R : Fin 4096) (hR : R.val = t.val * 256 + r.val)

theorem cols_eq : colsB (iblk m c 1 t) = cols (argW m c) := by
  funext k
  show (iblk m c 1 t : FVec Ideal S1x2048 .f32) (ix2 0 k) = m ((c : Thread nD τ).loc main_arg1) (ix1 k)
  blk_point [iblk, V, idx t]

include hR

theorem blk_x : (iblk m c 0 t : FVec Ideal S256x2048 .f32) (ix2 r q) = argX m c (ix2 R q) := by
  blk_point [iblk, V, idx t]

theorem blk_y : (iblk m c 2 t : FVec Ideal S256x2048 .f32) (ix2 r q) = argY m c (ix2 R q) := by
  blk_point [iblk, V, idx t]

theorem row_eq : row (iblk m c 0 t : FVec Ideal S256x2048 .f32) r = row (argX m c) R := funext fun k => blk_x m c t r k R hR

theorem err_eq : err (iblk m c 0 t : FVec Ideal S256x2048 .f32) (colsB (iblk m c 1 t)) (iblk m c 2 t : FVec Ideal S256x2048 .f32) r q
    = err (argX m c) (cols (argW m c)) (argY m c) R q := by
  rw [err, unit, row_eq m c t r R hR, blk_x m c t r q R hR, blk_y m c t r q R hR, cols_eq m c t]

theorem term_eq : term (iblk m c 0 t : FVec Ideal S256x2048 .f32) (colsB (iblk m c 1 t)) (iblk m c 2 t : FVec Ideal S256x2048 .f32) r q
    = term (argX m c) (cols (argW m c)) (argY m c) R q := by
  rw [term, grad, err_eq m c t r q R hR, unit, row_eq m c t r R hR, blk_x m c t r q R hR]

theorem back_eq : backRow (iblk m c 0 t : FVec Ideal S256x2048 .f32) (colsB (iblk m c 1 t)) (iblk m c 2 t : FVec Ideal S256x2048 .f32) r q
    = backRow (argX m c) (cols (argW m c)) (argY m c) R q := by
  have e : weighted (iblk m c 0 t : FVec Ideal S256x2048 .f32) (colsB (iblk m c 1 t)) (iblk m c 2 t : FVec Ideal S256x2048 .f32) r
      = weighted (argX m c) (cols (argW m c)) (argY m c) R := by
    funext k
    rw [weighted, grad, err_eq m c t r k R hR, cols_eq m c t]
  rw [backRow, e, row_eq m c t r R hR]

theorem loss_eq : lossTerm (iblk m c 0 t : FVec Ideal S256x2048 .f32) (colsB (iblk m c 1 t)) (iblk m c 2 t : FVec Ideal S256x2048 .f32) r
    = lossTerm (argX m c) (cols (argW m c)) (argY m c) R := by
  refine congrArg (halfInv * ·) (Finset.sum_congr rfl fun k _ => ?_)
  rw [err_eq m c t r k R hR]
end

theorem final_l (c : Dev nD) : (dats m 0 c).arrAt 3 cfg0.N
    = loss (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 16 := lt_of_lt_of_eq t.isLt N_0
  have h15 := (flush0_3 t).mp hf
  blk_simp
  rw [after0_3]
  idx_vars y
  rw [Pipeline.eq_sum_fin_of_reset_step_apply_of_flush (fun n h => (outsAt0 m c n h).1) 16 (fun _ => 0) _ (first_l m c) (next_l m c) t h15 _, zero_add]
  refine Fin.sum_mul_add_congr fun s k hl => ?_
  exact loss_eq m c ⟨_, Pipeline.run_point_lt_of_flush t h15 s⟩ k ⟨_, hl⟩ (by show s.val * 256 + k.val = (16 * (t.val / 16) + s.val) * 256 + k.val; omega)

theorem final_x (c : Dev nD) : (dats m 0 c).arrAt 4 cfg0.N
    = gradX (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val < 16 := lt_of_lt_of_eq t.isLt N_0
  blk_simp
  rw [after0_4]
  idx_vars y
  have e : ((View.whole main_v1_1).slice (win0_4.rect t)).emb (ix2 y0 y1) = ix2 ⟨t.val * 256 + y0.val, by omega⟩ y1 := by
    blk_ext [idx t]
  rw [e]
  refine (out_x m c t y0 y1).trans ?_
  rw [back_eq m c t y0 y1 ⟨t.val * 256 + y0.val, by omega⟩ rfl]
  rfl

theorem final_w (c : Dev nD) : (dats m 0 c).arrAt 5 cfg0.N
    = gradW (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht : t.val < 16 := lt_of_lt_of_eq t.isLt N_0
  have h15 := (flush0_5 t).mp hf
  blk_simp
  rw [after0_5]
  idx_vars y
  have e : ((View.whole main_v1_2).slice (win0_5.rect t)).emb (ix2 y0 y1) = ix2 0 y1 := by
    blk_ext [idx t]
  rw [e, Pipeline.eq_sum_fin_of_reset_step_apply_of_flush (fun n h => (outsAt0 m c n h).2.2) 16 (fun _ => 0) _ (first_w m c) (next_w m c) t h15 _, zero_add]
  refine Fin.sum_mul_add_congr fun s k hl => ?_
  exact term_eq m c ⟨_, Pipeline.run_point_lt_of_flush t h15 s⟩ k y1 ⟨_, hl⟩ (by show s.val * 256 + k.val = (16 * (t.val / 16) + s.val) * 256 + k.val; omega)

/-! ## The reference -/

section
open Cert.RefLossIdeal.Read
variable (x : FVec Ideal S4096x2048 .f32) (w : FVec Ideal S2048 .f32) (y : FVec Ideal S4096x2048 .f32)

theorem ref_meanSq (r : Fin 4096) (l : Fin 1) : val_main_v6 (F := Ideal) x (ix2 r l) = meanSq width (row x r) := by
  pointwise [val_main_v6, val_main_v5, val_main_v4, val_main_v3, val_main_v2, val_main_v1, val_main_v0, val_main_cst, val_main_cst_0, val_main_cst_1, meanSq]

theorem ref_unit (r : Fin 4096) (q : Fin 2048) : val_main_v12 (F := Ideal) x (ix2 r q) = unit x r q := by
  pointwise [val_main_v12, val_main_v11, val_main_v7, ref_meanSq, scale]
  rfl

theorem ref_err (r : Fin 4096) (q : Fin 2048) : val_main_v16 (F := Ideal) x w y (ix2 r q) = err x (cols w) y r q := by
  pointwise [val_main_v16, val_main_v15, val_main_v14, val_main_v13, ref_unit]

theorem ref_grad (r : Fin 4096) (q : Fin 2048) : val_main_v30 (F := Ideal) x w y (ix2 r q) = grad x (cols w) y r q := by
  pointwise [val_main_v30, val_main_v29, val_main_v28, val_main_v27, val_main_v26, val_main_v25, val_main_cst_10, val_main_cst_9, val_main_cst_8, val_main_v19, val_main_v18, val_main_cst_3, ref_err]
  rw [half_pos, show Ideal.ofBits .f32 0x45000000#32 = ((2048 : ℝ) : EReal) from width_real, two_real, Ideal.div_coe (by norm_num), ← EReal.coe_mul, ← mul_assoc, ← EReal.coe_mul, mul_comm]
  refine congrArg (err x (cols w) y r q * ·) (Eq.trans ?_ inv_real.symm)
  norm_num

theorem ref_loss : val_main_v51 (F := Ideal) x w y = loss x w y := by
  funext i
  idx_vars i
  pointwise [val_main_v51, val_main_v24, val_main_v23, val_main_v22, val_main_v21, val_main_v20, val_main_v17, val_main_cst_4, val_main_cst_5, val_main_cst_6, val_main_cst_7, ref_err]
  rw [show Ideal.ofBits .f32 0x45000000#32 = ((2048 : ℝ) : EReal) from width_real, mul_sum_coe _ half_pos (by norm_num)]
  refine Finset.sum_congr rfl fun r _ => ?_
  show _ = halfInv * _
  rw [half_pos, halfInv_real, Ideal.div_coe (by norm_num), mul_left_comm, ← EReal.coe_mul, mul_comm]
  norm_num

theorem ref_back (r : Fin 4096) (q : Fin 2048) : val_main_v50 (F := Ideal) x w y (ix2 r q) = back width (row x r) (weighted x (cols w) y r) q := by
  pointwise [val_main_v50, val_main_v49, val_main_v48, val_main_v47, val_main_v46, val_main_v45, val_main_v44, val_main_v43, val_main_v42, val_main_v41, val_main_v40, val_main_v39,
    val_main_v38, val_main_v37, val_main_v35, val_main_v34, val_main_v13, val_main_v10, val_main_v9, val_main_v8, val_main_v7, val_main_cst_2, val_main_cst_13, val_main_cst_14, val_main_cst_15,
    ref_grad, ref_meanSq, back, through, scale]

theorem ref_x : val_main_v50 (F := Ideal) x w y = gradX x w y := by
  funext i
  refine (congrArg _ (eq_ix2 i)).trans ((ref_back x w y (i 0) (i 1)).trans (Eq.trans ?_ (congrArg (gradX x w y) (eq_ix2 i)).symm))
  show _ = projected _ _ _ _
  rw [width_real]
  exact (projected_eq 2048 (by norm_num) _ _ _).symm

theorem ref_w : val_main_v52 (F := Ideal) x w y = gradW x w y := by
  funext i
  pointwise [val_main_v52, val_main_v36, val_main_v33, val_main_v32, val_main_v31, val_main_cst_11, val_main_cst_12, ref_grad, ref_unit, gradW]
  refine (Fin.sum_univ_one _).trans (Fin.sum_fin_congr fun k => mul_comm _ _)
end

/-- The host-only reference ends with its arguments unchanged and, having no semaphore, every counter at zero. -/
theorem frame_reference : @Cert.quiescent_RefLossIdeal Cert.RefLossIdeal.Gen.facts := fun m ρ _ =>
  (θ_run Cert.RefLossIdeal.defs _ _).mono (fun r h => ⟨fun c => (h c).2.2.2, sem_eq_zero_of_no_sems (by decide) r.2⟩)
    (Cert.RefLossIdeal.Value.run (F := Ideal) m ρ)

theorem algebraic : @Cert.algebraic_LossIdeal_RefLossIdeal Cert.LossIdeal.Gen.facts Cert.RefLossIdeal.Gen.facts := by
  intro m g m' g' _ hag
  refine ⟨fun c => loss (m ((c : Thread nD τ).loc main_arg0)) (m ((c : Thread nD τ).loc main_arg1)) (m ((c : Thread nD τ).loc main_arg2)),
    fun c => gradX (m ((c : Thread nD τ).loc main_arg0)) (m ((c : Thread nD τ).loc main_arg1)) (m ((c : Thread nD τ).loc main_arg2)),
    fun c => gradW (m ((c : Thread nD τ).loc main_arg0)) (m ((c : Thread nD τ).loc main_arg1)) (m ((c : Thread nD τ).loc main_arg2)),
    (θ_run defs _ _).mono (fun _ h c => ⟨(h c).1.trans (final_l m c), (h c).2.1.trans (final_x m c), (h c).2.2.1.trans (final_w m c), (h c).2.2.2⟩) (Value.run_blocks (F := Ideal) m g),
    (θ_run Cert.RefLossIdeal.defs _ _).mono (fun _ h c => ?_) (Cert.RefLossIdeal.Value.run (F := Ideal) m' g')⟩
  obtain ⟨e0, e1, e2⟩ := hag c
  refine ⟨(h c).1.trans ?_, (h c).2.1.trans ?_, (h c).2.2.1.trans ?_, (h c).2.2.2⟩
  · rw [Cert.RefLossIdeal.Read.val_main_v51_eq, e0, e1, e2]
    exact ref_loss _ _ _
  · rw [Cert.RefLossIdeal.Read.val_main_v50_eq, e0, e1, e2]
    exact ref_x _ _ _
  · rw [Cert.RefLossIdeal.Read.val_main_v52_eq, e0, e1, e2]
    exact ref_w _ _ _

end Cert.LossIdeal.Head
end
-- ==== Proof.Adam.lean ====
/- One step of AdamW at one entry, and a sum over eight devices: stated once for every weight. -/
module

public import Idealize.ShloMosaic.PureOps.Ideal
public import Idealize.ShloMosaic.Lib.Pointwise

@[expose] public section

noncomputable section

namespace Cert.Adam

open Idealize.ShloMosaic

/-- The first moment after the gradient `g`. -/
abbrev moment (g m : EReal) : EReal := Ideal.ofBits .f32 0x3F666666#32 * m + Ideal.ofBits .f32 0x3DCCCCCD#32 * g

/-- The second moment after the gradient `g`. -/
abbrev square (g v : EReal) : EReal := Ideal.ofBits .f32 0x3F7FBE77#32 * v + Ideal.ofBits .f32 0x3A83126F#32 * (g * g)

/-- The weight's change: the corrected first moment over the root of the corrected second, and the weight's decay, times the learning rate. -/
abbrev delta (w g m v : EReal) : EReal :=
  Ideal.ofBits .f32 0xBA83126F#32
    * (Ideal.div (Ideal.div (moment g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

theorem delta_congr {w w' g g' m m' v v' : EReal} (hw : w = w') (hg : g = g') (hm : m = m') (hv : v = v') : delta w g m v = delta w' g' m' v' := by
  rw [hw, hg, hm, hv]

/-- The gradient at one entry, summed over the eight devices. -/
abbrev total {M N : ℕ} (l : Shape.Idx ⟨3, ![8, M, N]⟩ → EReal) (i : Shape.Idx ⟨2, ![M, N]⟩) : EReal := ∑ d : Fin 8, l (ix3 d (i 0) (i 1))

end Cert.Adam
end
-- ==== Proof.AdamSmall.lean ====
/- One AdamW step of the small weights, packed in rows of 128: the value claim. -/
module

public import proofs.«01_k».proof.Defs
public import proofs.«01_k».proof.Proof.Gen.AdamSmallIdeal
public import proofs.«01_k».proof.Proof.Gen.AdamSmallIdeal.Value
public import proofs.«01_k».proof.Proof.Gen.RefAdamSmallIdeal
public import proofs.«01_k».proof.Proof.Gen.RefAdamSmallIdeal.Run
public import proofs.«01_k».proof.Proof.Gen.RefAdamSmallIdeal.Read
public import proofs.«01_k».proof.Proof.Adam
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.AdamSmallIdeal.Step

open Cert.AdamSmallIdeal Cert.AdamSmallIdeal.Gen Idealize.ShloMosaic Idealize.ShloMosaic.TcCoe Cert.Adam
open Idealize.ShloMosaic.Pipeline (Dat)
open Idealize.SL.Sem

/-- The weights' changes, and the two moments after the step. -/
abbrev newDelta (g w m v : FVec Ideal S768x128 .f32) : FVec Ideal S768x128 .f32 := fun i => delta (w i) (g i) (m i) (v i)
abbrev newMoment (g m : FVec Ideal S768x128 .f32) : FVec Ideal S768x128 .f32 := fun i => moment (g i) (m i)
abbrev newSquare (g v : FVec Ideal S768x128 .f32) : FVec Ideal S768x128 .f32 := fun i => square (g i) (v i)

section
variable (g w a b : FVec Ideal S384x128 .f32) (j : S384x128.Idx)
theorem moment_at : k0_pay1 (F := Ideal) g a j = moment (g j) (a j) := by pointwise [k0_pay1]
theorem square_at : k0_pay2 (F := Ideal) g b j = square (g j) (b j) := by pointwise [k0_pay2]
theorem delta_at : k0_pay3 (F := Ideal) w g a b j = delta (w j) (g j) (a j) (b j) := by pointwise [k0_pay3, moment_at, square_at]
end

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem final_delta (c : Dev nD) : (dats m 0 c).arrAt 4 cfg0.N = newDelta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [delta_at]
  refine delta_congr ?_ ?_ ?_ ?_ <;> blk_point [iblk, V, idx t]

theorem final_moment (c : Dev nD) : (dats m 0 c).arrAt 5 cfg0.N = newMoment (m ((c : Thread nD τ).loc main_arg0)) (m ((c : Thread nD τ).loc main_arg2)) := by
  refine (dats m 0 c).arrAt_eq_of_covers 5 _ (by decide +kernel) fun t hf y => ?_
  blk_simp
  rw [after0_5]
  frame_out
  rw [moment_at]
  refine congrArg₂ moment ?_ ?_ <;> blk_point [iblk, V, idx t]

theorem final_square (c : Dev nD) : (dats m 0 c).arrAt 6 cfg0.N = newSquare (m ((c : Thread nD τ).loc main_arg0)) (m ((c : Thread nD τ).loc main_arg3)) := by
  refine (dats m 0 c).arrAt_eq_of_covers 6 _ (by decide +kernel) fun t hf y => ?_
  blk_simp
  rw [after0_6]
  frame_out
  rw [square_at]
  refine congrArg₂ square ?_ ?_ <;> blk_point [iblk, V, idx t]

section
open Cert.RefAdamSmallIdeal.Read
variable (g w a b : FVec Ideal S768x128 .f32)
theorem ref_moment : val_main_v4 (F := Ideal) g a = newMoment g a := by
  funext i
  pointwise [val_main_v0, val_main_v1, val_main_v2, val_main_v3, val_main_v4, val_main_cst, val_main_cst_0]
theorem ref_square : val_main_v10 (F := Ideal) g b = newSquare g b := by
  funext i
  pointwise [val_main_v5, val_main_v6, val_main_v7, val_main_v8, val_main_v9, val_main_v10, val_main_cst_1, val_main_cst_2]
theorem ref_delta : val_main_v23 (F := Ideal) g w a b = newDelta g w a b := by
  funext i
  pointwise [val_main_v11, val_main_v12, val_main_v13, val_main_v14, val_main_v15, val_main_v16, val_main_v17, val_main_v18, val_main_v19, val_main_v20, val_main_v21, val_main_v22, val_main_v23, val_main_cst_3, val_main_cst_4, val_main_cst_5, val_main_cst_6, val_main_cst_7, ref_moment, ref_square]
end

/-- The host-only reference ends with its arguments unchanged and, having no semaphore, every counter at zero. -/
theorem frame_reference : @Cert.quiescent_RefAdamSmallIdeal Cert.RefAdamSmallIdeal.Gen.facts := fun m ρ _ =>
  (θ_run Cert.RefAdamSmallIdeal.defs _ _).mono (fun r h => ⟨fun c => (h c).2.2.2, sem_eq_zero_of_no_sems (by decide) r.2⟩)
    (Cert.RefAdamSmallIdeal.Value.run (F := Ideal) m ρ)

theorem algebraic : @Cert.algebraic_AdamSmallIdeal_RefAdamSmallIdeal Cert.AdamSmallIdeal.Gen.facts Cert.RefAdamSmallIdeal.Gen.facts := by
  intro m g m' g' _ hag
  refine ⟨fun c => newDelta (m ((c : Thread nD τ).loc main_arg0)) (m ((c : Thread nD τ).loc main_arg1)) (m ((c : Thread nD τ).loc main_arg2)) (m ((c : Thread nD τ).loc main_arg3)),
    fun c => newMoment (m ((c : Thread nD τ).loc main_arg0)) (m ((c : Thread nD τ).loc main_arg2)),
    fun c => newSquare (m ((c : Thread nD τ).loc main_arg0)) (m ((c : Thread nD τ).loc main_arg3)),
    (θ_run defs _ _).mono (fun _ h c => ⟨(h c).1.trans (final_delta m c), (h c).2.1.trans (final_moment m c), (h c).2.2.1.trans (final_square m c), (h c).2.2.2⟩) (Value.run_blocks (F := Ideal) m g),
    (θ_run Cert.RefAdamSmallIdeal.defs _ _).mono (fun _ h c => ?_) (Cert.RefAdamSmallIdeal.Value.run (F := Ideal) m' g')⟩
  obtain ⟨e0, e1, e2, e3⟩ := hag c
  refine ⟨(h c).1.trans ?_, (h c).2.1.trans ?_, (h c).2.2.1.trans ?_, (h c).2.2.2⟩
  · rw [Cert.RefAdamSmallIdeal.Read.val_main_v23_eq, e0, e1, e2, e3]
    exact ref_delta _ _ _ _
  · rw [Cert.RefAdamSmallIdeal.Read.val_main_v4_eq, e0, e2]
    exact ref_moment _ _
  · rw [Cert.RefAdamSmallIdeal.Read.val_main_v10_eq, e0, e3]
    exact ref_square _ _

end Cert.AdamSmallIdeal.Step
end
-- ==== Proof.AdamHgrnIn.lean ====
/- One AdamW step of the HGRN layers' input weight, after the sum of the eight devices' gradients: the value claim. -/
module

public import proofs.«01_k».proof.Defs
public import proofs.«01_k».proof.Proof.Gen.AdamHgrnInIdeal
public import proofs.«01_k».proof.Proof.Gen.AdamHgrnInIdeal.Value
public import proofs.«01_k».proof.Proof.Gen.RefAdamHgrnInIdeal
public import proofs.«01_k».proof.Proof.Gen.RefAdamHgrnInIdeal.Run
public import proofs.«01_k».proof.Proof.Gen.RefAdamHgrnInIdeal.Read
public import proofs.«01_k».proof.Proof.Adam
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.AdamHgrnInIdeal.Step

open Cert.AdamHgrnInIdeal Cert.AdamHgrnInIdeal.Gen Idealize.ShloMosaic Idealize.ShloMosaic.TcCoe Cert.Adam
open Idealize.ShloMosaic.Pipeline (Dat)
open Idealize.SL.Sem

/-- The gradient summed over the devices, the weight's change, and the two moments after the step. -/
abbrev grad (l : FVec Ideal S8x4096x1024 .bf16) : FVec Ideal S4096x1024 .f32 := fun i => total l i
abbrev newDelta (l : FVec Ideal S8x4096x1024 .bf16) (w m v : FVec Ideal S4096x1024 .f32) : FVec Ideal S4096x1024 .f32 := fun i => delta (w i) (total l i) (m i) (v i)
abbrev newMoment (l : FVec Ideal S8x4096x1024 .bf16) (m : FVec Ideal S4096x1024 .f32) : FVec Ideal S4096x1024 .f32 := fun i => moment (total l i) (m i)
abbrev newSquare (l : FVec Ideal S8x4096x1024 .bf16) (v : FVec Ideal S4096x1024 .f32) : FVec Ideal S4096x1024 .f32 := fun i => square (total l i) (v i)

section
variable (g w a b : FVec Ideal S128x1024 .f32) (j : S128x1024.Idx)
theorem moment_at : k0_pay1 (F := Ideal) g a j = moment (g j) (a j) := by pointwise [k0_pay1]
theorem square_at : k0_pay2 (F := Ideal) g b j = square (g j) (b j) := by pointwise [k0_pay2]
theorem delta_at : k0_pay3 (F := Ideal) g w a b j = delta (w j) (g j) (a j) (b j) := by pointwise [k0_pay3, moment_at, square_at]
theorem sum_at (l : FVec Ideal S8x128x1024 .bf16) : k0_pay5 (F := Ideal) l w a b j = total l j := by
  rw [total, Fin.sum_univ_eight]
  pointwise [k0_pay5, k0_pay4, r0_0, r0_1, r0_2, r0_3, r0_4, r0_5, r0_6, r0_7]
end

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem sum_eq (c : Dev nD) (t : Fin cfg0.N) (i : S128x1024.Idx) (I : S4096x1024.Idx) (h0 : (I 0).val = t.val * 128 + (i 0).val) (h1 : (I 1).val = (i 1).val) :
    k0_pay5 (F := Ideal) (iblk m c 0 t) (iblk m c 1 t) (iblk m c 2 t) (iblk m c 3 t) i = total (m ((c : Thread nD τ).loc main_arg0)) I := by
  rw [sum_at]
  refine Fin.sum_fin_congr fun d => ?_
  blk_point [iblk, V, idx t]

theorem final_grad (c : Dev nD) : (dats m 0 c).arrAt 4 cfg0.N = grad (m ((c : Thread nD τ).loc main_arg0)) := by
  refine (dats m 0 c).arrAt_eq_of_covers 4 _ (by decide +kernel) fun t hf y => ?_
  blk_simp
  rw [after0_4]
  frame_out
  rw [sum_at]
  refine Fin.sum_fin_congr fun d => ?_
  blk_point [iblk, V, idx t]

theorem final_delta (c : Dev nD) : (dats m 0 c).arrAt 5 cfg0.N = newDelta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [delta_at]
  refine delta_congr ?_ (sum_eq m c t _ _ ?_ ?_) ?_ ?_ <;> blk_point [iblk, V, idx t]

theorem final_moment (c : Dev nD) : (dats m 0 c).arrAt 6 cfg0.N = newMoment (m ((c : Thread nD τ).loc main_arg0)) (m ((c : Thread nD τ).loc main_arg2)) := by
  refine (dats m 0 c).arrAt_eq_of_covers 6 _ (by decide +kernel) fun t hf y => ?_
  blk_simp
  rw [after0_6]
  frame_out
  rw [moment_at]
  refine congrArg₂ moment (sum_eq m c t _ _ ?_ ?_) ?_ <;> blk_point [iblk, V, idx t]

theorem final_square (c : Dev nD) : (dats m 0 c).arrAt 7 cfg0.N = newSquare (m ((c : Thread nD τ).loc main_arg0)) (m ((c : Thread nD τ).loc main_arg3)) := by
  refine (dats m 0 c).arrAt_eq_of_covers 7 _ (by decide +kernel) fun t hf y => ?_
  blk_simp
  rw [after0_7]
  frame_out
  rw [square_at]
  refine congrArg₂ square (sum_eq m c t _ _ ?_ ?_) ?_ <;> blk_point [iblk, V, idx t]

section
open Cert.RefAdamHgrnInIdeal.Read
variable (l : FVec Ideal S8x4096x1024 .bf16) (w a b : FVec Ideal S4096x1024 .f32)
theorem ref_grad : val_main_v1 (F := Ideal) l = grad l := by
  funext i
  pointwise [val_main_v0, val_main_v1, val_main_cst]
theorem ref_moment : val_main_v6 (F := Ideal) l a = newMoment l a := by
  funext i
  pointwise [val_main_v2, val_main_v3, val_main_v4, val_main_v5, val_main_v6, val_main_cst_0, val_main_cst_1, ref_grad]
theorem ref_square : val_main_v12 (F := Ideal) l b = newSquare l b := by
  funext i
  pointwise [val_main_v7, val_main_v8, val_main_v9, val_main_v10, val_main_v11, val_main_v12, val_main_cst_2, val_main_cst_3, ref_grad]
theorem ref_delta : val_main_v25 (F := Ideal) l w a b = newDelta l w a b := by
  funext i
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8, ref_moment, ref_square]
end

/-- The host-only reference ends with its arguments unchanged and, having no semaphore, every counter at zero. -/
theorem frame_reference : @Cert.quiescent_RefAdamHgrnInIdeal Cert.RefAdamHgrnInIdeal.Gen.facts := fun m ρ _ =>
  (θ_run Cert.RefAdamHgrnInIdeal.defs _ _).mono (fun r h => ⟨fun c => (h c).2.2.2.2, sem_eq_zero_of_no_sems (by decide) r.2⟩)
    (Cert.RefAdamHgrnInIdeal.Value.run (F := Ideal) m ρ)

theorem algebraic : @Cert.algebraic_AdamHgrnInIdeal_RefAdamHgrnInIdeal Cert.AdamHgrnInIdeal.Gen.facts Cert.RefAdamHgrnInIdeal.Gen.facts := by
  intro m g m' g' _ hag
  refine ⟨fun c => grad (m ((c : Thread nD τ).loc main_arg0)),
    fun c => newDelta (m ((c : Thread nD τ).loc main_arg0)) (m ((c : Thread nD τ).loc main_arg1)) (m ((c : Thread nD τ).loc main_arg2)) (m ((c : Thread nD τ).loc main_arg3)),
    fun c => newMoment (m ((c : Thread nD τ).loc main_arg0)) (m ((c : Thread nD τ).loc main_arg2)),
    fun c => newSquare (m ((c : Thread nD τ).loc main_arg0)) (m ((c : Thread nD τ).loc main_arg3)),
    (θ_run defs _ _).mono (fun _ h c => ⟨(h c).1.trans (final_grad m c), (h c).2.1.trans (final_delta m c), (h c).2.2.1.trans (final_moment m c), (h c).2.2.2.1.trans (final_square m c), (h c).2.2.2.2⟩) (Value.run_blocks (F := Ideal) m g),
    (θ_run Cert.RefAdamHgrnInIdeal.defs _ _).mono (fun _ h c => ?_) (Cert.RefAdamHgrnInIdeal.Value.run (F := Ideal) m' g')⟩
  obtain ⟨e0, e1, e2, e3⟩ := hag c
  refine ⟨(h c).1.trans ?_, (h c).2.1.trans ?_, (h c).2.2.1.trans ?_, (h c).2.2.2.1.trans ?_, (h c).2.2.2.2⟩
  · rw [Cert.RefAdamHgrnInIdeal.Read.val_main_v1_eq, e0]
    exact ref_grad _
  · rw [Cert.RefAdamHgrnInIdeal.Read.val_main_v25_eq, e0, e1, e2, e3]
    exact ref_delta _ _ _ _
  · rw [Cert.RefAdamHgrnInIdeal.Read.val_main_v6_eq, e0, e2]
    exact ref_moment _ _
  · rw [Cert.RefAdamHgrnInIdeal.Read.val_main_v12_eq, e0, e3]
    exact ref_square _ _

end Cert.AdamHgrnInIdeal.Step
end
-- ==== Proof.AdamHgrnOut.lean ====
/- One AdamW step of the HGRN layers' output weight, after the sum of the eight devices' gradients: the value claim. -/
module

public import proofs.«01_k».proof.Defs
public import proofs.«01_k».proof.Proof.Gen.AdamHgrnOutIdeal
public import proofs.«01_k».proof.Proof.Gen.AdamHgrnOutIdeal.Value
public import proofs.«01_k».proof.Proof.Gen.RefAdamHgrnOutIdeal
public import proofs.«01_k».proof.Proof.Gen.RefAdamHgrnOutIdeal.Run
public import proofs.«01_k».proof.Proof.Gen.RefAdamHgrnOutIdeal.Read
public import proofs.«01_k».proof.Proof.Adam
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.AdamHgrnOutIdeal.Step

open Cert.AdamHgrnOutIdeal Cert.AdamHgrnOutIdeal.Gen Idealize.ShloMosaic Idealize.ShloMosaic.TcCoe Cert.Adam
open Idealize.ShloMosaic.Pipeline (Dat)
open Idealize.SL.Sem

/-- The gradient summed over the devices, the weight's change, and the two moments after the step. -/
abbrev grad (l : FVec Ideal S8x512x2048 .bf16) : FVec Ideal S512x2048 .f32 := fun i => total l i
abbrev newDelta (l : FVec Ideal S8x512x2048 .bf16) (w m v : FVec Ideal S512x2048 .f32) : FVec Ideal S512x2048 .f32 := fun i => delta (w i) (total l i) (m i) (v i)
abbrev newMoment (l : FVec Ideal S8x512x2048 .bf16) (m : FVec Ideal S512x2048 .f32) : FVec Ideal S512x2048 .f32 := fun i => moment (total l i) (m i)
abbrev newSquare (l : FVec Ideal S8x512x2048 .bf16) (v : FVec Ideal S512x2048 .f32) : FVec Ideal S512x2048 .f32 := fun i => square (total l i) (v i)

section
variable (g w a b : FVec Ideal S128x2048 .f32) (j : S128x2048.Idx)
theorem moment_at : k0_pay1 (F := Ideal) g a j = moment (g j) (a j) := by pointwise [k0_pay1]
theorem square_at : k0_pay2 (F := Ideal) g b j = square (g j) (b j) := by pointwise [k0_pay2]
theorem delta_at : k0_pay3 (F := Ideal) g w a b j = delta (w j) (g j) (a j) (b j) := by pointwise [k0_pay3, moment_at, square_at]
theorem sum_at (l : FVec Ideal S8x128x2048 .bf16) : k0_pay5 (F := Ideal) l w a b j = total l j := by
  rw [total, Fin.sum_univ_eight]
  pointwise [k0_pay5, k0_pay4, r0_0, r0_1, r0_2, r0_3, r0_4, r0_5, r0_6, r0_7]
end

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem sum_eq (c : Dev nD) (t : Fin cfg0.N) (i : S128x2048.Idx) (I : S512x2048.Idx) (h0 : (I 0).val = t.val * 128 + (i 0).val) (h1 : (I 1).val = (i 1).val) :
    k0_pay5 (F := Ideal) (iblk m c 0 t) (iblk m c 1 t) (iblk m c 2 t) (iblk m c 3 t) i = total (m ((c : Thread nD τ).loc main_arg0)) I := by
  rw [sum_at]
  refine Fin.sum_fin_congr fun d => ?_
  blk_point [iblk, V, idx t]

theorem final_grad (c : Dev nD) : (dats m 0 c).arrAt 4 cfg0.N = grad (m ((c : Thread nD τ).loc main_arg0)) := by
  refine (dats m 0 c).arrAt_eq_of_covers 4 _ (by decide +kernel) fun t hf y => ?_
  blk_simp
  rw [after0_4]
  frame_out
  rw [sum_at]
  refine Fin.sum_fin_congr fun d => ?_
  blk_point [iblk, V, idx t]

theorem final_delta (c : Dev nD) : (dats m 0 c).arrAt 5 cfg0.N = newDelta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [delta_at]
  refine delta_congr ?_ (sum_eq m c t _ _ ?_ ?_) ?_ ?_ <;> blk_point [iblk, V, idx t]

theorem final_moment (c : Dev nD) : (dats m 0 c).arrAt 6 cfg0.N = newMoment (m ((c : Thread nD τ).loc main_arg0)) (m ((c : Thread nD τ).loc main_arg2)) := by
  refine (dats m 0 c).arrAt_eq_of_covers 6 _ (by decide +kernel) fun t hf y => ?_
  blk_simp
  rw [after0_6]
  frame_out
  rw [moment_at]
  refine congrArg₂ moment (sum_eq m c t _ _ ?_ ?_) ?_ <;> blk_point [iblk, V, idx t]

theorem final_square (c : Dev nD) : (dats m 0 c).arrAt 7 cfg0.N = newSquare (m ((c : Thread nD τ).loc main_arg0)) (m ((c : Thread nD τ).loc main_arg3)) := by
  refine (dats m 0 c).arrAt_eq_of_covers 7 _ (by decide +kernel) fun t hf y => ?_
  blk_simp
  rw [after0_7]
  frame_out
  rw [square_at]
  refine congrArg₂ square (sum_eq m c t _ _ ?_ ?_) ?_ <;> blk_point [iblk, V, idx t]

section
open Cert.RefAdamHgrnOutIdeal.Read
variable (l : FVec Ideal S8x512x2048 .bf16) (w a b : FVec Ideal S512x2048 .f32)
theorem ref_grad : val_main_v1 (F := Ideal) l = grad l := by
  funext i
  pointwise [val_main_v0, val_main_v1, val_main_cst]
theorem ref_moment : val_main_v6 (F := Ideal) l a = newMoment l a := by
  funext i
  pointwise [val_main_v2, val_main_v3, val_main_v4, val_main_v5, val_main_v6, val_main_cst_0, val_main_cst_1, ref_grad]
theorem ref_square : val_main_v12 (F := Ideal) l b = newSquare l b := by
  funext i
  pointwise [val_main_v7, val_main_v8, val_main_v9, val_main_v10, val_main_v11, val_main_v12, val_main_cst_2, val_main_cst_3, ref_grad]
theorem ref_delta : val_main_v25 (F := Ideal) l w a b = newDelta l w a b := by
  funext i
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8, ref_moment, ref_square]
end

/-- The host-only reference ends with its arguments unchanged and, having no semaphore, every counter at zero. -/
theorem frame_reference : @Cert.quiescent_RefAdamHgrnOutIdeal Cert.RefAdamHgrnOutIdeal.Gen.facts := fun m ρ _ =>
  (θ_run Cert.RefAdamHgrnOutIdeal.defs _ _).mono (fun r h => ⟨fun c => (h c).2.2.2.2, sem_eq_zero_of_no_sems (by decide) r.2⟩)
    (Cert.RefAdamHgrnOutIdeal.Value.run (F := Ideal) m ρ)

theorem algebraic : @Cert.algebraic_AdamHgrnOutIdeal_RefAdamHgrnOutIdeal Cert.AdamHgrnOutIdeal.Gen.facts Cert.RefAdamHgrnOutIdeal.Gen.facts := by
  intro m g m' g' _ hag
  refine ⟨fun c => grad (m ((c : Thread nD τ).loc main_arg0)),
    fun c => newDelta (m ((c : Thread nD τ).loc main_arg0)) (m ((c : Thread nD τ).loc main_arg1)) (m ((c : Thread nD τ).loc main_arg2)) (m ((c : Thread nD τ).loc main_arg3)),
    fun c => newMoment (m ((c : Thread nD τ).loc main_arg0)) (m ((c : Thread nD τ).loc main_arg2)),
    fun c => newSquare (m ((c : Thread nD τ).loc main_arg0)) (m ((c : Thread nD τ).loc main_arg3)),
    (θ_run defs _ _).mono (fun _ h c => ⟨(h c).1.trans (final_grad m c), (h c).2.1.trans (final_delta m c), (h c).2.2.1.trans (final_moment m c), (h c).2.2.2.1.trans (final_square m c), (h c).2.2.2.2⟩) (Value.run_blocks (F := Ideal) m g),
    (θ_run Cert.RefAdamHgrnOutIdeal.defs _ _).mono (fun _ h c => ?_) (Cert.RefAdamHgrnOutIdeal.Value.run (F := Ideal) m' g')⟩
  obtain ⟨e0, e1, e2, e3⟩ := hag c
  refine ⟨(h c).1.trans ?_, (h c).2.1.trans ?_, (h c).2.2.1.trans ?_, (h c).2.2.2.1.trans ?_, (h c).2.2.2.2⟩
  · rw [Cert.RefAdamHgrnOutIdeal.Read.val_main_v1_eq, e0]
    exact ref_grad _
  · rw [Cert.RefAdamHgrnOutIdeal.Read.val_main_v25_eq, e0, e1, e2, e3]
    exact ref_delta _ _ _ _
  · rw [Cert.RefAdamHgrnOutIdeal.Read.val_main_v6_eq, e0, e2]
    exact ref_moment _ _
  · rw [Cert.RefAdamHgrnOutIdeal.Read.val_main_v12_eq, e0, e3]
    exact ref_square _ _

end Cert.AdamHgrnOutIdeal.Step
end
-- ==== Proof.AdamMambaIn.lean ====
/- One AdamW step of the state-space layers' input weight, after the sum of the eight devices' gradients: the value claim. -/
module

public import proofs.«01_k».proof.Defs
public import proofs.«01_k».proof.Proof.Gen.AdamMambaInIdeal
public import proofs.«01_k».proof.Proof.Gen.AdamMambaInIdeal.Value
public import proofs.«01_k».proof.Proof.Gen.RefAdamMambaInIdeal
public import proofs.«01_k».proof.Proof.Gen.RefAdamMambaInIdeal.Run
public import proofs.«01_k».proof.Proof.Gen.RefAdamMambaInIdeal.Read
public import proofs.«01_k».proof.Proof.Adam
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.AdamMambaInIdeal.Step

open Cert.AdamMambaInIdeal Cert.AdamMambaInIdeal.Gen Idealize.ShloMosaic Idealize.ShloMosaic.TcCoe Cert.Adam
open Idealize.ShloMosaic.Pipeline (Dat)
open Idealize.SL.Sem

/-- The gradient summed over the devices, the weight's change, and the two moments after the step. -/
abbrev grad (l : FVec Ideal S8x4096x1288 .bf16) : FVec Ideal S4096x1288 .f32 := fun i => total l i
abbrev newDelta (l : FVec Ideal S8x4096x1288 .bf16) (w m v : FVec Ideal S4096x1288 .f32) : FVec Ideal S4096x1288 .f32 := fun i => delta (w i) (total l i) (m i) (v i)
abbrev newMoment (l : FVec Ideal S8x4096x1288 .bf16) (m : FVec Ideal S4096x1288 .f32) : FVec Ideal S4096x1288 .f32 := fun i => moment (total l i) (m i)
abbrev newSquare (l : FVec Ideal S8x4096x1288 .bf16) (v : FVec Ideal S4096x1288 .f32) : FVec Ideal S4096x1288 .f32 := fun i => square (total l i) (v i)

section
variable (g w a b : FVec Ideal S128x1288 .f32) (j : S128x1288.Idx)
theorem moment_at : k0_pay1 (F := Ideal) g a j = moment (g j) (a j) := by pointwise [k0_pay1]
theorem square_at : k0_pay2 (F := Ideal) g b j = square (g j) (b j) := by pointwise [k0_pay2]
theorem delta_at : k0_pay3 (F := Ideal) g w a b j = delta (w j) (g j) (a j) (b j) := by pointwise [k0_pay3, moment_at, square_at]
theorem sum_at (l : FVec Ideal S8x128x1288 .bf16) : k0_pay5 (F := Ideal) l w a b j = total l j := by
  rw [total, Fin.sum_univ_eight]
  pointwise [k0_pay5, k0_pay4, r0_0, r0_1, r0_2, r0_3, r0_4, r0_5, r0_6, r0_7]
end

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem sum_eq (c : Dev nD) (t : Fin cfg0.N) (i : S128x1288.Idx) (I : S4096x1288.Idx) (h0 : (I 0).val = t.val * 128 + (i 0).val) (h1 : (I 1).val = (i 1).val) :
    k0_pay5 (F := Ideal) (iblk m c 0 t) (iblk m c 1 t) (iblk m c 2 t) (iblk m c 3 t) i = total (m ((c : Thread nD τ).loc main_arg0)) I := by
  rw [sum_at]
  refine Fin.sum_fin_congr fun d => ?_
  blk_point [iblk, V, idx t]

theorem final_grad (c : Dev nD) : (dats m 0 c).arrAt 4 cfg0.N = grad (m ((c : Thread nD τ).loc main_arg0)) := by
  refine (dats m 0 c).arrAt_eq_of_covers 4 _ (by decide +kernel) fun t hf y => ?_
  blk_simp
  rw [after0_4]
  frame_out
  rw [sum_at]
  refine Fin.sum_fin_congr fun d => ?_
  blk_point [iblk, V, idx t]

theorem final_delta (c : Dev nD) : (dats m 0 c).arrAt 5 cfg0.N = newDelta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [delta_at]
  refine delta_congr ?_ (sum_eq m c t _ _ ?_ ?_) ?_ ?_ <;> blk_point [iblk, V, idx t]

theorem final_moment (c : Dev nD) : (dats m 0 c).arrAt 6 cfg0.N = newMoment (m ((c : Thread nD τ).loc main_arg0)) (m ((c : Thread nD τ).loc main_arg2)) := by
  refine (dats m 0 c).arrAt_eq_of_covers 6 _ (by decide +kernel) fun t hf y => ?_
  blk_simp
  rw [after0_6]
  frame_out
  rw [moment_at]
  refine congrArg₂ moment (sum_eq m c t _ _ ?_ ?_) ?_ <;> blk_point [iblk, V, idx t]

theorem final_square (c : Dev nD) : (dats m 0 c).arrAt 7 cfg0.N = newSquare (m ((c : Thread nD τ).loc main_arg0)) (m ((c : Thread nD τ).loc main_arg3)) := by
  refine (dats m 0 c).arrAt_eq_of_covers 7 _ (by decide +kernel) fun t hf y => ?_
  blk_simp
  rw [after0_7]
  frame_out
  rw [square_at]
  refine congrArg₂ square (sum_eq m c t _ _ ?_ ?_) ?_ <;> blk_point [iblk, V, idx t]

section
open Cert.RefAdamMambaInIdeal.Read
variable (l : FVec Ideal S8x4096x1288 .bf16) (w a b : FVec Ideal S4096x1288 .f32)
theorem ref_grad : val_main_v1 (F := Ideal) l = grad l := by
  funext i
  pointwise [val_main_v0, val_main_v1, val_main_cst]
theorem ref_moment : val_main_v6 (F := Ideal) l a = newMoment l a := by
  funext i
  pointwise [val_main_v2, val_main_v3, val_main_v4, val_main_v5, val_main_v6, val_main_cst_0, val_main_cst_1, ref_grad]
theorem ref_square : val_main_v12 (F := Ideal) l b = newSquare l b := by
  funext i
  pointwise [val_main_v7, val_main_v8, val_main_v9, val_main_v10, val_main_v11, val_main_v12, val_main_cst_2, val_main_cst_3, ref_grad]
theorem ref_delta : val_main_v25 (F := Ideal) l w a b = newDelta l w a b := by
  funext i
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8, ref_moment, ref_square]
end

/-- The host-only reference ends with its arguments unchanged and, having no semaphore, every counter at zero. -/
theorem frame_reference : @Cert.quiescent_RefAdamMambaInIdeal Cert.RefAdamMambaInIdeal.Gen.facts := fun m ρ _ =>
  (θ_run Cert.RefAdamMambaInIdeal.defs _ _).mono (fun r h => ⟨fun c => (h c).2.2.2.2, sem_eq_zero_of_no_sems (by decide) r.2⟩)
    (Cert.RefAdamMambaInIdeal.Value.run (F := Ideal) m ρ)

theorem algebraic : @Cert.algebraic_AdamMambaInIdeal_RefAdamMambaInIdeal Cert.AdamMambaInIdeal.Gen.facts Cert.RefAdamMambaInIdeal.Gen.facts := by
  intro m g m' g' _ hag
  refine ⟨fun c => grad (m ((c : Thread nD τ).loc main_arg0)),
    fun c => newDelta (m ((c : Thread nD τ).loc main_arg0)) (m ((c : Thread nD τ).loc main_arg1)) (m ((c : Thread nD τ).loc main_arg2)) (m ((c : Thread nD τ).loc main_arg3)),
    fun c => newMoment (m ((c : Thread nD τ).loc main_arg0)) (m ((c : Thread nD τ).loc main_arg2)),
    fun c => newSquare (m ((c : Thread nD τ).loc main_arg0)) (m ((c : Thread nD τ).loc main_arg3)),
    (θ_run defs _ _).mono (fun _ h c => ⟨(h c).1.trans (final_grad m c), (h c).2.1.trans (final_delta m c), (h c).2.2.1.trans (final_moment m c), (h c).2.2.2.1.trans (final_square m c), (h c).2.2.2.2⟩) (Value.run_blocks (F := Ideal) m g),
    (θ_run Cert.RefAdamMambaInIdeal.defs _ _).mono (fun _ h c => ?_) (Cert.RefAdamMambaInIdeal.Value.run (F := Ideal) m' g')⟩
  obtain ⟨e0, e1, e2, e3⟩ := hag c
  refine ⟨(h c).1.trans ?_, (h c).2.1.trans ?_, (h c).2.2.1.trans ?_, (h c).2.2.2.1.trans ?_, (h c).2.2.2.2⟩
  · rw [Cert.RefAdamMambaInIdeal.Read.val_main_v1_eq, e0]
    exact ref_grad _
  · rw [Cert.RefAdamMambaInIdeal.Read.val_main_v25_eq, e0, e1, e2, e3]
    exact ref_delta _ _ _ _
  · rw [Cert.RefAdamMambaInIdeal.Read.val_main_v6_eq, e0, e2]
    exact ref_moment _ _
  · rw [Cert.RefAdamMambaInIdeal.Read.val_main_v12_eq, e0, e3]
    exact ref_square _ _

end Cert.AdamMambaInIdeal.Step
end
-- ==== Proof.AdamMambaOut.lean ====
/- One AdamW step of the state-space layers' output weight, after the sum of the eight devices' gradients: the value claim. -/
module

public import proofs.«01_k».proof.Defs
public import proofs.«01_k».proof.Proof.Gen.AdamMambaOutIdeal
public import proofs.«01_k».proof.Proof.Gen.AdamMambaOutIdeal.Value
public import proofs.«01_k».proof.Proof.Gen.RefAdamMambaOutIdeal
public import proofs.«01_k».proof.Proof.Gen.RefAdamMambaOutIdeal.Run
public import proofs.«01_k».proof.Proof.Gen.RefAdamMambaOutIdeal.Read
public import proofs.«01_k».proof.Proof.Adam
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.AdamMambaOutIdeal.Step

open Cert.AdamMambaOutIdeal Cert.AdamMambaOutIdeal.Gen Idealize.ShloMosaic Idealize.ShloMosaic.TcCoe Cert.Adam
open Idealize.ShloMosaic.Pipeline (Dat)
open Idealize.SL.Sem

/-- The gradient summed over the devices, the weight's change, and the two moments after the step. -/
abbrev grad (l : FVec Ideal S8x1024x2048 .bf16) : FVec Ideal S1024x2048 .f32 := fun i => total l i
abbrev newDelta (l : FVec Ideal S8x1024x2048 .bf16) (w m v : FVec Ideal S1024x2048 .f32) : FVec Ideal S1024x2048 .f32 := fun i => delta (w i) (total l i) (m i) (v i)
abbrev newMoment (l : FVec Ideal S8x1024x2048 .bf16) (m : FVec Ideal S1024x2048 .f32) : FVec Ideal S1024x2048 .f32 := fun i => moment (total l i) (m i)
abbrev newSquare (l : FVec Ideal S8x1024x2048 .bf16) (v : FVec Ideal S1024x2048 .f32) : FVec Ideal S1024x2048 .f32 := fun i => square (total l i) (v i)

section
variable (g w a b : FVec Ideal S128x2048 .f32) (j : S128x2048.Idx)
theorem moment_at : k0_pay1 (F := Ideal) g a j = moment (g j) (a j) := by pointwise [k0_pay1]
theorem square_at : k0_pay2 (F := Ideal) g b j = square (g j) (b j) := by pointwise [k0_pay2]
theorem delta_at : k0_pay3 (F := Ideal) g w a b j = delta (w j) (g j) (a j) (b j) := by pointwise [k0_pay3, moment_at, square_at]
theorem sum_at (l : FVec Ideal S8x128x2048 .bf16) : k0_pay5 (F := Ideal) l w a b j = total l j := by
  rw [total, Fin.sum_univ_eight]
  pointwise [k0_pay5, k0_pay4, r0_0, r0_1, r0_2, r0_3, r0_4, r0_5, r0_6, r0_7]
end

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem sum_eq (c : Dev nD) (t : Fin cfg0.N) (i : S128x2048.Idx) (I : S1024x2048.Idx) (h0 : (I 0).val = t.val * 128 + (i 0).val) (h1 : (I 1).val = (i 1).val) :
    k0_pay5 (F := Ideal) (iblk m c 0 t) (iblk m c 1 t) (iblk m c 2 t) (iblk m c 3 t) i = total (m ((c : Thread nD τ).loc main_arg0)) I := by
  rw [sum_at]
  refine Fin.sum_fin_congr fun d => ?_
  blk_point [iblk, V, idx t]

theorem final_grad (c : Dev nD) : (dats m 0 c).arrAt 4 cfg0.N = grad (m ((c : Thread nD τ).loc main_arg0)) := by
  refine (dats m 0 c).arrAt_eq_of_covers 4 _ (by decide +kernel) fun t hf y => ?_
  blk_simp
  rw [after0_4]
  frame_out
  rw [sum_at]
  refine Fin.sum_fin_congr fun d => ?_
  blk_point [iblk, V, idx t]

theorem final_delta (c : Dev nD) : (dats m 0 c).arrAt 5 cfg0.N = newDelta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [delta_at]
  refine delta_congr ?_ (sum_eq m c t _ _ ?_ ?_) ?_ ?_ <;> blk_point [iblk, V, idx t]

theorem final_moment (c : Dev nD) : (dats m 0 c).arrAt 6 cfg0.N = newMoment (m ((c : Thread nD τ).loc main_arg0)) (m ((c : Thread nD τ).loc main_arg2)) := by
  refine (dats m 0 c).arrAt_eq_of_covers 6 _ (by decide +kernel) fun t hf y => ?_
  blk_simp
  rw [after0_6]
  frame_out
  rw [moment_at]
  refine congrArg₂ moment (sum_eq m c t _ _ ?_ ?_) ?_ <;> blk_point [iblk, V, idx t]

theorem final_square (c : Dev nD) : (dats m 0 c).arrAt 7 cfg0.N = newSquare (m ((c : Thread nD τ).loc main_arg0)) (m ((c : Thread nD τ).loc main_arg3)) := by
  refine (dats m 0 c).arrAt_eq_of_covers 7 _ (by decide +kernel) fun t hf y => ?_
  blk_simp
  rw [after0_7]
  frame_out
  rw [square_at]
  refine congrArg₂ square (sum_eq m c t _ _ ?_ ?_) ?_ <;> blk_point [iblk, V, idx t]

section
open Cert.RefAdamMambaOutIdeal.Read
variable (l : FVec Ideal S8x1024x2048 .bf16) (w a b : FVec Ideal S1024x2048 .f32)
theorem ref_grad : val_main_v1 (F := Ideal) l = grad l := by
  funext i
  pointwise [val_main_v0, val_main_v1, val_main_cst]
theorem ref_moment : val_main_v6 (F := Ideal) l a = newMoment l a := by
  funext i
  pointwise [val_main_v2, val_main_v3, val_main_v4, val_main_v5, val_main_v6, val_main_cst_0, val_main_cst_1, ref_grad]
theorem ref_square : val_main_v12 (F := Ideal) l b = newSquare l b := by
  funext i
  pointwise [val_main_v7, val_main_v8, val_main_v9, val_main_v10, val_main_v11, val_main_v12, val_main_cst_2, val_main_cst_3, ref_grad]
theorem ref_delta : val_main_v25 (F := Ideal) l w a b = newDelta l w a b := by
  funext i
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8, ref_moment, ref_square]
end

/-- The host-only reference ends with its arguments unchanged and, having no semaphore, every counter at zero. -/
theorem frame_reference : @Cert.quiescent_RefAdamMambaOutIdeal Cert.RefAdamMambaOutIdeal.Gen.facts := fun m ρ _ =>
  (θ_run Cert.RefAdamMambaOutIdeal.defs _ _).mono (fun r h => ⟨fun c => (h c).2.2.2.2, sem_eq_zero_of_no_sems (by decide) r.2⟩)
    (Cert.RefAdamMambaOutIdeal.Value.run (F := Ideal) m ρ)

theorem algebraic : @Cert.algebraic_AdamMambaOutIdeal_RefAdamMambaOutIdeal Cert.AdamMambaOutIdeal.Gen.facts Cert.RefAdamMambaOutIdeal.Gen.facts := by
  intro m g m' g' _ hag
  refine ⟨fun c => grad (m ((c : Thread nD τ).loc main_arg0)),
    fun c => newDelta (m ((c : Thread nD τ).loc main_arg0)) (m ((c : Thread nD τ).loc main_arg1)) (m ((c : Thread nD τ).loc main_arg2)) (m ((c : Thread nD τ).loc main_arg3)),
    fun c => newMoment (m ((c : Thread nD τ).loc main_arg0)) (m ((c : Thread nD τ).loc main_arg2)),
    fun c => newSquare (m ((c : Thread nD τ).loc main_arg0)) (m ((c : Thread nD τ).loc main_arg3)),
    (θ_run defs _ _).mono (fun _ h c => ⟨(h c).1.trans (final_grad m c), (h c).2.1.trans (final_delta m c), (h c).2.2.1.trans (final_moment m c), (h c).2.2.2.1.trans (final_square m c), (h c).2.2.2.2⟩) (Value.run_blocks (F := Ideal) m g),
    (θ_run Cert.RefAdamMambaOutIdeal.defs _ _).mono (fun _ h c => ?_) (Cert.RefAdamMambaOutIdeal.Value.run (F := Ideal) m' g')⟩
  obtain ⟨e0, e1, e2, e3⟩ := hag c
  refine ⟨(h c).1.trans ?_, (h c).2.1.trans ?_, (h c).2.2.1.trans ?_, (h c).2.2.2.1.trans ?_, (h c).2.2.2.2⟩
  · rw [Cert.RefAdamMambaOutIdeal.Read.val_main_v1_eq, e0]
    exact ref_grad _
  · rw [Cert.RefAdamMambaOutIdeal.Read.val_main_v25_eq, e0, e1, e2, e3]
    exact ref_delta _ _ _ _
  · rw [Cert.RefAdamMambaOutIdeal.Read.val_main_v6_eq, e0, e2]
    exact ref_moment _ _
  · rw [Cert.RefAdamMambaOutIdeal.Read.val_main_v12_eq, e0, e3]
    exact ref_square _ _

end Cert.AdamMambaOutIdeal.Step
end
-- ==== Proof.AdamUp.lean ====
/- One AdamW step of the feed-forward up weight, after the sum of the eight devices' gradients: the value claim. -/
module

public import proofs.«01_k».proof.Defs
public import proofs.«01_k».proof.Proof.Gen.AdamUpIdeal
public import proofs.«01_k».proof.Proof.Gen.AdamUpIdeal.Value
public import proofs.«01_k».proof.Proof.Gen.RefAdamUpIdeal
public import proofs.«01_k».proof.Proof.Gen.RefAdamUpIdeal.Run
public import proofs.«01_k».proof.Proof.Gen.RefAdamUpIdeal.Read
public import proofs.«01_k».proof.Proof.Adam
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.AdamUpIdeal.Step

open Cert.AdamUpIdeal Cert.AdamUpIdeal.Gen Idealize.ShloMosaic Idealize.ShloMosaic.TcCoe Cert.Adam
open Idealize.ShloMosaic.Pipeline (Dat)
open Idealize.SL.Sem

/-- The gradient summed over the devices, the weight's change, and the two moments after the step. -/
abbrev grad (l : FVec Ideal S8x8192x1408 .bf16) : FVec Ideal S8192x1408 .f32 := fun i => total l i
abbrev newDelta (l : FVec Ideal S8x8192x1408 .bf16) (w m v : FVec Ideal S8192x1408 .f32) : FVec Ideal S8192x1408 .f32 := fun i => delta (w i) (total l i) (m i) (v i)
abbrev newMoment (l : FVec Ideal S8x8192x1408 .bf16) (m : FVec Ideal S8192x1408 .f32) : FVec Ideal S8192x1408 .f32 := fun i => moment (total l i) (m i)
abbrev newSquare (l : FVec Ideal S8x8192x1408 .bf16) (v : FVec Ideal S8192x1408 .f32) : FVec Ideal S8192x1408 .f32 := fun i => square (total l i) (v i)

section
variable (g w a b : FVec Ideal S128x1408 .f32) (j : S128x1408.Idx)
theorem moment_at : k0_pay1 (F := Ideal) g a j = moment (g j) (a j) := by pointwise [k0_pay1]
theorem square_at : k0_pay2 (F := Ideal) g b j = square (g j) (b j) := by pointwise [k0_pay2]
theorem delta_at : k0_pay3 (F := Ideal) g w a b j = delta (w j) (g j) (a j) (b j) := by pointwise [k0_pay3, moment_at, square_at]
theorem sum_at (l : FVec Ideal S8x128x1408 .bf16) : k0_pay5 (F := Ideal) l w a b j = total l j := by
  rw [total, Fin.sum_univ_eight]
  pointwise [k0_pay5, k0_pay4, r0_0, r0_1, r0_2, r0_3, r0_4, r0_5, r0_6, r0_7]
end

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem sum_eq (c : Dev nD) (t : Fin cfg0.N) (i : S128x1408.Idx) (I : S8192x1408.Idx) (h0 : (I 0).val = t.val * 128 + (i 0).val) (h1 : (I 1).val = (i 1).val) :
    k0_pay5 (F := Ideal) (iblk m c 0 t) (iblk m c 1 t) (iblk m c 2 t) (iblk m c 3 t) i = total (m ((c : Thread nD τ).loc main_arg0)) I := by
  rw [sum_at]
  refine Fin.sum_fin_congr fun d => ?_
  blk_point [iblk, V, idx t]

theorem final_grad (c : Dev nD) : (dats m 0 c).arrAt 4 cfg0.N = grad (m ((c : Thread nD τ).loc main_arg0)) := by
  refine (dats m 0 c).arrAt_eq_of_covers 4 _ (by decide +kernel) fun t hf y => ?_
  blk_simp
  rw [after0_4]
  frame_out
  rw [sum_at]
  refine Fin.sum_fin_congr fun d => ?_
  blk_point [iblk, V, idx t]

theorem final_delta (c : Dev nD) : (dats m 0 c).arrAt 5 cfg0.N = newDelta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [delta_at]
  refine delta_congr ?_ (sum_eq m c t _ _ ?_ ?_) ?_ ?_ <;> blk_point [iblk, V, idx t]

theorem final_moment (c : Dev nD) : (dats m 0 c).arrAt 6 cfg0.N = newMoment (m ((c : Thread nD τ).loc main_arg0)) (m ((c : Thread nD τ).loc main_arg2)) := by
  refine (dats m 0 c).arrAt_eq_of_covers 6 _ (by decide +kernel) fun t hf y => ?_
  blk_simp
  rw [after0_6]
  frame_out
  rw [moment_at]
  refine congrArg₂ moment (sum_eq m c t _ _ ?_ ?_) ?_ <;> blk_point [iblk, V, idx t]

theorem final_square (c : Dev nD) : (dats m 0 c).arrAt 7 cfg0.N = newSquare (m ((c : Thread nD τ).loc main_arg0)) (m ((c : Thread nD τ).loc main_arg3)) := by
  refine (dats m 0 c).arrAt_eq_of_covers 7 _ (by decide +kernel) fun t hf y => ?_
  blk_simp
  rw [after0_7]
  frame_out
  rw [square_at]
  refine congrArg₂ square (sum_eq m c t _ _ ?_ ?_) ?_ <;> blk_point [iblk, V, idx t]

section
open Cert.RefAdamUpIdeal.Read
variable (l : FVec Ideal S8x8192x1408 .bf16) (w a b : FVec Ideal S8192x1408 .f32)
theorem ref_grad : val_main_v1 (F := Ideal) l = grad l := by
  funext i
  pointwise [val_main_v0, val_main_v1, val_main_cst]
theorem ref_moment : val_main_v6 (F := Ideal) l a = newMoment l a := by
  funext i
  pointwise [val_main_v2, val_main_v3, val_main_v4, val_main_v5, val_main_v6, val_main_cst_0, val_main_cst_1, ref_grad]
theorem ref_square : val_main_v12 (F := Ideal) l b = newSquare l b := by
  funext i
  pointwise [val_main_v7, val_main_v8, val_main_v9, val_main_v10, val_main_v11, val_main_v12, val_main_cst_2, val_main_cst_3, ref_grad]
theorem ref_delta : val_main_v25 (F := Ideal) l w a b = newDelta l w a b := by
  funext i
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8, ref_moment, ref_square]
end

/-- The host-only reference ends with its arguments unchanged and, having no semaphore, every counter at zero. -/
theorem frame_reference : @Cert.quiescent_RefAdamUpIdeal Cert.RefAdamUpIdeal.Gen.facts := fun m ρ _ =>
  (θ_run Cert.RefAdamUpIdeal.defs _ _).mono (fun r h => ⟨fun c => (h c).2.2.2.2, sem_eq_zero_of_no_sems (by decide) r.2⟩)
    (Cert.RefAdamUpIdeal.Value.run (F := Ideal) m ρ)

theorem algebraic : @Cert.algebraic_AdamUpIdeal_RefAdamUpIdeal Cert.AdamUpIdeal.Gen.facts Cert.RefAdamUpIdeal.Gen.facts := by
  intro m g m' g' _ hag
  refine ⟨fun c => grad (m ((c : Thread nD τ).loc main_arg0)),
    fun c => newDelta (m ((c : Thread nD τ).loc main_arg0)) (m ((c : Thread nD τ).loc main_arg1)) (m ((c : Thread nD τ).loc main_arg2)) (m ((c : Thread nD τ).loc main_arg3)),
    fun c => newMoment (m ((c : Thread nD τ).loc main_arg0)) (m ((c : Thread nD τ).loc main_arg2)),
    fun c => newSquare (m ((c : Thread nD τ).loc main_arg0)) (m ((c : Thread nD τ).loc main_arg3)),
    (θ_run defs _ _).mono (fun _ h c => ⟨(h c).1.trans (final_grad m c), (h c).2.1.trans (final_delta m c), (h c).2.2.1.trans (final_moment m c), (h c).2.2.2.1.trans (final_square m c), (h c).2.2.2.2⟩) (Value.run_blocks (F := Ideal) m g),
    (θ_run Cert.RefAdamUpIdeal.defs _ _).mono (fun _ h c => ?_) (Cert.RefAdamUpIdeal.Value.run (F := Ideal) m' g')⟩
  obtain ⟨e0, e1, e2, e3⟩ := hag c
  refine ⟨(h c).1.trans ?_, (h c).2.1.trans ?_, (h c).2.2.1.trans ?_, (h c).2.2.2.1.trans ?_, (h c).2.2.2.2⟩
  · rw [Cert.RefAdamUpIdeal.Read.val_main_v1_eq, e0]
    exact ref_grad _
  · rw [Cert.RefAdamUpIdeal.Read.val_main_v25_eq, e0, e1, e2, e3]
    exact ref_delta _ _ _ _
  · rw [Cert.RefAdamUpIdeal.Read.val_main_v6_eq, e0, e2]
    exact ref_moment _ _
  · rw [Cert.RefAdamUpIdeal.Read.val_main_v12_eq, e0, e3]
    exact ref_square _ _

end Cert.AdamUpIdeal.Step
end
-- ==== Proof.AdamDown.lean ====
/- One AdamW step of the feed-forward down weight, after the sum of the eight devices' gradients: the value claim. -/
module

public import proofs.«01_k».proof.Defs
public import proofs.«01_k».proof.Proof.Gen.AdamDownIdeal
public import proofs.«01_k».proof.Proof.Gen.AdamDownIdeal.Value
public import proofs.«01_k».proof.Proof.Gen.RefAdamDownIdeal
public import proofs.«01_k».proof.Proof.Gen.RefAdamDownIdeal.Run
public import proofs.«01_k».proof.Proof.Gen.RefAdamDownIdeal.Read
public import proofs.«01_k».proof.Proof.Adam
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.AdamDownIdeal.Step

open Cert.AdamDownIdeal Cert.AdamDownIdeal.Gen Idealize.ShloMosaic Idealize.ShloMosaic.TcCoe Cert.Adam
open Idealize.ShloMosaic.Pipeline (Dat)
open Idealize.SL.Sem

/-- The gradient summed over the devices, the weight's change, and the two moments after the step. -/
abbrev grad (l : FVec Ideal S8x2816x2048 .bf16) : FVec Ideal S2816x2048 .f32 := fun i => total l i
abbrev newDelta (l : FVec Ideal S8x2816x2048 .bf16) (w m v : FVec Ideal S2816x2048 .f32) : FVec Ideal S2816x2048 .f32 := fun i => delta (w i) (total l i) (m i) (v i)
abbrev newMoment (l : FVec Ideal S8x2816x2048 .bf16) (m : FVec Ideal S2816x2048 .f32) : FVec Ideal S2816x2048 .f32 := fun i => moment (total l i) (m i)
abbrev newSquare (l : FVec Ideal S8x2816x2048 .bf16) (v : FVec Ideal S2816x2048 .f32) : FVec Ideal S2816x2048 .f32 := fun i => square (total l i) (v i)

section
variable (g w a b : FVec Ideal S128x2048 .f32) (j : S128x2048.Idx)
theorem moment_at : k0_pay1 (F := Ideal) g a j = moment (g j) (a j) := by pointwise [k0_pay1]
theorem square_at : k0_pay2 (F := Ideal) g b j = square (g j) (b j) := by pointwise [k0_pay2]
theorem delta_at : k0_pay3 (F := Ideal) g w a b j = delta (w j) (g j) (a j) (b j) := by pointwise [k0_pay3, moment_at, square_at]
theorem sum_at (l : FVec Ideal S8x128x2048 .bf16) : k0_pay5 (F := Ideal) l w a b j = total l j := by
  rw [total, Fin.sum_univ_eight]
  pointwise [k0_pay5, k0_pay4, r0_0, r0_1, r0_2, r0_3, r0_4, r0_5, r0_6, r0_7]
end

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem sum_eq (c : Dev nD) (t : Fin cfg0.N) (i : S128x2048.Idx) (I : S2816x2048.Idx) (h0 : (I 0).val = t.val * 128 + (i 0).val) (h1 : (I 1).val = (i 1).val) :
    k0_pay5 (F := Ideal) (iblk m c 0 t) (iblk m c 1 t) (iblk m c 2 t) (iblk m c 3 t) i = total (m ((c : Thread nD τ).loc main_arg0)) I := by
  rw [sum_at]
  refine Fin.sum_fin_congr fun d => ?_
  blk_point [iblk, V, idx t]

theorem final_grad (c : Dev nD) : (dats m 0 c).arrAt 4 cfg0.N = grad (m ((c : Thread nD τ).loc main_arg0)) := by
  refine (dats m 0 c).arrAt_eq_of_covers 4 _ (by decide +kernel) fun t hf y => ?_
  blk_simp
  rw [after0_4]
  frame_out
  rw [sum_at]
  refine Fin.sum_fin_congr fun d => ?_
  blk_point [iblk, V, idx t]

theorem final_delta (c : Dev nD) : (dats m 0 c).arrAt 5 cfg0.N = newDelta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [delta_at]
  refine delta_congr ?_ (sum_eq m c t _ _ ?_ ?_) ?_ ?_ <;> blk_point [iblk, V, idx t]

theorem final_moment (c : Dev nD) : (dats m 0 c).arrAt 6 cfg0.N = newMoment (m ((c : Thread nD τ).loc main_arg0)) (m ((c : Thread nD τ).loc main_arg2)) := by
  refine (dats m 0 c).arrAt_eq_of_covers 6 _ (by decide +kernel) fun t hf y => ?_
  blk_simp
  rw [after0_6]
  frame_out
  rw [moment_at]
  refine congrArg₂ moment (sum_eq m c t _ _ ?_ ?_) ?_ <;> blk_point [iblk, V, idx t]

theorem final_square (c : Dev nD) : (dats m 0 c).arrAt 7 cfg0.N = newSquare (m ((c : Thread nD τ).loc main_arg0)) (m ((c : Thread nD τ).loc main_arg3)) := by
  refine (dats m 0 c).arrAt_eq_of_covers 7 _ (by decide +kernel) fun t hf y => ?_
  blk_simp
  rw [after0_7]
  frame_out
  rw [square_at]
  refine congrArg₂ square (sum_eq m c t _ _ ?_ ?_) ?_ <;> blk_point [iblk, V, idx t]

section
open Cert.RefAdamDownIdeal.Read
variable (l : FVec Ideal S8x2816x2048 .bf16) (w a b : FVec Ideal S2816x2048 .f32)
theorem ref_grad : val_main_v1 (F := Ideal) l = grad l := by
  funext i
  pointwise [val_main_v0, val_main_v1, val_main_cst]
theorem ref_moment : val_main_v6 (F := Ideal) l a = newMoment l a := by
  funext i
  pointwise [val_main_v2, val_main_v3, val_main_v4, val_main_v5, val_main_v6, val_main_cst_0, val_main_cst_1, ref_grad]
theorem ref_square : val_main_v12 (F := Ideal) l b = newSquare l b := by
  funext i
  pointwise [val_main_v7, val_main_v8, val_main_v9, val_main_v10, val_main_v11, val_main_v12, val_main_cst_2, val_main_cst_3, ref_grad]
theorem ref_delta : val_main_v25 (F := Ideal) l w a b = newDelta l w a b := by
  funext i
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8, ref_moment, ref_square]
end

/-- The host-only reference ends with its arguments unchanged and, having no semaphore, every counter at zero. -/
theorem frame_reference : @Cert.quiescent_RefAdamDownIdeal Cert.RefAdamDownIdeal.Gen.facts := fun m ρ _ =>
  (θ_run Cert.RefAdamDownIdeal.defs _ _).mono (fun r h => ⟨fun c => (h c).2.2.2.2, sem_eq_zero_of_no_sems (by decide) r.2⟩)
    (Cert.RefAdamDownIdeal.Value.run (F := Ideal) m ρ)

theorem algebraic : @Cert.algebraic_AdamDownIdeal_RefAdamDownIdeal Cert.AdamDownIdeal.Gen.facts Cert.RefAdamDownIdeal.Gen.facts := by
  intro m g m' g' _ hag
  refine ⟨fun c => grad (m ((c : Thread nD τ).loc main_arg0)),
    fun c => newDelta (m ((c : Thread nD τ).loc main_arg0)) (m ((c : Thread nD τ).loc main_arg1)) (m ((c : Thread nD τ).loc main_arg2)) (m ((c : Thread nD τ).loc main_arg3)),
    fun c => newMoment (m ((c : Thread nD τ).loc main_arg0)) (m ((c : Thread nD τ).loc main_arg2)),
    fun c => newSquare (m ((c : Thread nD τ).loc main_arg0)) (m ((c : Thread nD τ).loc main_arg3)),
    (θ_run defs _ _).mono (fun _ h c => ⟨(h c).1.trans (final_grad m c), (h c).2.1.trans (final_delta m c), (h c).2.2.1.trans (final_moment m c), (h c).2.2.2.1.trans (final_square m c), (h c).2.2.2.2⟩) (Value.run_blocks (F := Ideal) m g),
    (θ_run Cert.RefAdamDownIdeal.defs _ _).mono (fun _ h c => ?_) (Cert.RefAdamDownIdeal.Value.run (F := Ideal) m' g')⟩
  obtain ⟨e0, e1, e2, e3⟩ := hag c
  refine ⟨(h c).1.trans ?_, (h c).2.1.trans ?_, (h c).2.2.1.trans ?_, (h c).2.2.2.1.trans ?_, (h c).2.2.2.2⟩
  · rw [Cert.RefAdamDownIdeal.Read.val_main_v1_eq, e0]
    exact ref_grad _
  · rw [Cert.RefAdamDownIdeal.Read.val_main_v25_eq, e0, e1, e2, e3]
    exact ref_delta _ _ _ _
  · rw [Cert.RefAdamDownIdeal.Read.val_main_v6_eq, e0, e2]
    exact ref_moment _ _
  · rw [Cert.RefAdamDownIdeal.Read.val_main_v12_eq, e0, e3]
    exact ref_square _ _

end Cert.AdamDownIdeal.Step
end
-- ==== Proof.SumDev.lean ====
/- The sum of the eight devices' packed gradients: the value claim. -/
module

public import proofs.«01_k».proof.Defs
public import proofs.«01_k».proof.Proof.Gen.SumDevIdeal
public import proofs.«01_k».proof.Proof.Gen.SumDevIdeal.Value
public import proofs.«01_k».proof.Proof.Gen.RefSumDevIdeal
public import proofs.«01_k».proof.Proof.Gen.RefSumDevIdeal.Run
public import proofs.«01_k».proof.Proof.Gen.RefSumDevIdeal.Read
public import proofs.«01_k».proof.Proof.Adam
public import Idealize.ShloMosaic.Lib.Pipeline.ValueKit
public import Idealize.ShloMosaic.Lib.Pointwise
public import Idealize.ShloMosaic.Adequacy
public import Idealize.ShloMosaic.Lib.Pipeline.ReadBack

@[expose] public section

set_option maxRecDepth 16384

noncomputable section

namespace Cert.SumDevIdeal.Sum

open Cert.SumDevIdeal Cert.SumDevIdeal.Gen Idealize.ShloMosaic Idealize.ShloMosaic.TcCoe
open Idealize.ShloMosaic.Pipeline (Dat)
open Idealize.SL.Sem

/-- The sum over the eight devices. -/
abbrev total (p : FVec Ideal S8x2168x128 .f32) : FVec Ideal S2168x128 .f32 := fun i => ∑ d : Fin 8, p (ix3 d (i 0) (i 1))

theorem pay_at (p : FVec Ideal S8x8x128 .f32) (j : S8x128.Idx) : k0_pay1 (F := Ideal) (View.ld p r0_0) (View.ld p r0_1) (View.ld p r0_2) (View.ld p r0_3)
    (View.ld p r0_4) (View.ld p r0_5) (View.ld p r0_6) (View.ld p r0_7) j = Cert.Adam.total p j := by
  rw [Cert.Adam.total, Fin.sum_univ_eight]
  pointwise [k0_pay1, r0_0, r0_1, r0_2, r0_3, r0_4, r0_5, r0_6, r0_7]

variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

theorem final (c : Dev nD) : (dats m 0 c).arrAt 1 cfg0.N = total (m ((c : Thread nD τ).loc main_arg0)) := by
  refine (dats m 0 c).arrAt_eq_of_covers 1 _ (by decide +kernel) fun t hf y => ?_
  blk_simp
  rw [after0_1]
  frame_out
  rw [pay_at]
  refine Fin.sum_fin_congr fun d => ?_
  blk_point [iblk, V, idx t]

open Cert.RefSumDevIdeal.Read in
theorem reference_at (p : FVec Ideal S8x2168x128 .f32) : val_main_v0 (F := Ideal) p = total p := by
  funext i
  pointwise [val_main_v0, val_main_cst]

/-- The host-only reference ends with its arguments unchanged and, having no semaphore, every counter at zero. -/
theorem frame_reference : @Cert.quiescent_RefSumDevIdeal Cert.RefSumDevIdeal.Gen.facts := fun m ρ _ =>
  (θ_run Cert.RefSumDevIdeal.defs _ _).mono (fun r h => ⟨fun c => (h c).2, sem_eq_zero_of_no_sems (by decide) r.2⟩)
    (Cert.RefSumDevIdeal.Value.run (F := Ideal) m ρ)

theorem algebraic : @Cert.algebraic_SumDevIdeal_RefSumDevIdeal Cert.SumDevIdeal.Gen.facts Cert.RefSumDevIdeal.Gen.facts := by
  intro m g m' g' _ hag
  refine ⟨fun c => total (m ((c : Thread nD τ).loc main_arg0)),
    (θ_run defs _ _).mono (fun _ h c => ⟨(h c).1.trans (final m c), (h c).2⟩) (Value.run_blocks (F := Ideal) m g),
    (θ_run Cert.RefSumDevIdeal.defs _ _).mono (fun _ h c => ⟨(h c).1.trans ?_, (h c).2⟩) (Cert.RefSumDevIdeal.Value.run (F := Ideal) m' g')⟩
  have e0 := hag c
  rw [Cert.RefSumDevIdeal.Read.val_main_v0_eq, e0]
  exact reference_at _

end Cert.SumDevIdeal.Sum
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.RefGateIdeal
public import proofs.«01_k».proof.Proof.Gen.Mgate
public import proofs.«01_k».proof.Proof.Gen.Mgate.Skeleton
public import proofs.«01_k».proof.Proof.Gen.Mgate.Launch
public import proofs.«01_k».proof.Proof.Gen.Mgate.Points
public import proofs.«01_k».proof.Proof.Gen.Mgate.Frame
public import proofs.«01_k».proof.Proof.Gen.MgateIdeal
public import proofs.«01_k».proof.Proof.Gen.MgateIdeal.Skeleton
public import proofs.«01_k».proof.Proof.Gen.MgateIdeal.Launch
public import proofs.«01_k».proof.Proof.Gen.MgateIdeal.Points
public import proofs.«01_k».proof.Proof.Gen.MgateIdeal.Frame
public import proofs.«01_k».proof.Proof.Gen.RefMgateIdeal
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RefRmsIdeal
public import proofs.«01_k».proof.Proof.Gen.UpX
public import proofs.«01_k».proof.Proof.Gen.UpX.Skeleton
public import proofs.«01_k».proof.Proof.Gen.UpX.Launch
public import proofs.«01_k».proof.Proof.Gen.UpX.Points
public import proofs.«01_k».proof.Proof.Gen.UpX.Frame
public import proofs.«01_k».proof.Proof.Gen.UpXIdeal
public import proofs.«01_k».proof.Proof.Gen.UpXIdeal.Skeleton
public import proofs.«01_k».proof.Proof.Gen.UpXIdeal.Launch
public import proofs.«01_k».proof.Proof.Gen.UpXIdeal.Points
public import proofs.«01_k».proof.Proof.Gen.UpXIdeal.Frame
public import proofs.«01_k».proof.Proof.Gen.RefUpXIdeal
public import proofs.«01_k».proof.Proof.Gen.UpW
public import proofs.«01_k».proof.Proof.Gen.UpW.Skeleton
public import proofs.«01_k».proof.Proof.Gen.UpW.Launch
public import proofs.«01_k».proof.Proof.Gen.UpW.Points
public import proofs.«01_k».proof.Proof.Gen.UpW.Frame
public import proofs.«01_k».proof.Proof.Gen.UpWIdeal
public import proofs.«01_k».proof.Proof.Gen.UpWIdeal.Skeleton
public import proofs.«01_k».proof.Proof.Gen.UpWIdeal.Launch
public import proofs.«01_k».proof.Proof.Gen.UpWIdeal.Points
public import proofs.«01_k».proof.Proof.Gen.UpWIdeal.Frame
public import proofs.«01_k».proof.Proof.Gen.RefUpWIdeal
public import proofs.«01_k».proof.Proof.Gen.DownX
public import proofs.«01_k».proof.Proof.Gen.DownX.Skeleton
public import proofs.«01_k».proof.Proof.Gen.DownX.Launch
public import proofs.«01_k».proof.Proof.Gen.DownX.Points
public import proofs.«01_k».proof.Proof.Gen.DownX.Frame
public import proofs.«01_k».proof.Proof.Gen.DownXIdeal
public import proofs.«01_k».proof.Proof.Gen.DownXIdeal.Skeleton
public import proofs.«01_k».proof.Proof.Gen.DownXIdeal.Launch
public import proofs.«01_k».proof.Proof.Gen.DownXIdeal.Points
public import proofs.«01_k».proof.Proof.Gen.DownXIdeal.Frame
public import proofs.«01_k».proof.Proof.Gen.RefDownXIdeal
public import proofs.«01_k».proof.Proof.Gen.DownW
public import proofs.«01_k».proof.Proof.Gen.DownW.Skeleton
public import proofs.«01_k».proof.Proof.Gen.DownW.Launch
public import proofs.«01_k».proof.Proof.Gen.DownW.Points
public import proofs.«01_k».proof.Proof.Gen.DownW.Frame
public import proofs.«01_k».proof.Proof.Gen.DownWIdeal
public import proofs.«01_k».proof.Proof.Gen.DownWIdeal.Skeleton
public import proofs.«01_k».proof.Proof.Gen.DownWIdeal.Launch
public import proofs.«01_k».proof.Proof.Gen.DownWIdeal.Points
public import proofs.«01_k».proof.Proof.Gen.DownWIdeal.Frame
public import proofs.«01_k».proof.Proof.Gen.RefDownWIdeal
public import proofs.«01_k».proof.Proof.Gen.HgrnOutW
public import proofs.«01_k».proof.Proof.Gen.HgrnOutW.Skeleton
public import proofs.«01_k».proof.Proof.Gen.HgrnOutW.Launch
public import proofs.«01_k».proof.Proof.Gen.HgrnOutW.Points
public import proofs.«01_k».proof.Proof.Gen.HgrnOutW.Frame
public import proofs.«01_k».proof.Proof.Gen.HgrnOutWIdeal
public import proofs.«01_k».proof.Proof.Gen.HgrnOutWIdeal.Skeleton
public import proofs.«01_k».proof.Proof.Gen.HgrnOutWIdeal.Launch
public import proofs.«01_k».proof.Proof.Gen.HgrnOutWIdeal.Points
public import proofs.«01_k».proof.Proof.Gen.HgrnOutWIdeal.Frame
public import proofs.«01_k».proof.Proof.Gen.RefHgrnOutWIdeal
public import proofs.«01_k».proof.Proof.Gen.HgrnOutX
public import proofs.«01_k».proof.Proof.Gen.HgrnOutX.Skeleton
public import proofs.«01_k».proof.Proof.Gen.HgrnOutX.Launch
public import proofs.«01_k».proof.Proof.Gen.HgrnOutX.Points
public import proofs.«01_k».proof.Proof.Gen.HgrnOutX.Frame
public import proofs.«01_k».proof.Proof.Gen.HgrnOutXIdeal
public import proofs.«01_k».proof.Proof.Gen.HgrnOutXIdeal.Skeleton
public import proofs.«01_k».proof.Proof.Gen.HgrnOutXIdeal.Launch
public import proofs.«01_k».proof.Proof.Gen.HgrnOutXIdeal.Points
public import proofs.«01_k».proof.Proof.Gen.HgrnOutXIdeal.Frame
public import proofs.«01_k».proof.Proof.Gen.RefHgrnOutXIdeal
public import proofs.«01_k».proof.Proof.Gen.HgrnInW
public import proofs.«01_k».proof.Proof.Gen.HgrnInW.Skeleton
public import proofs.«01_k».proof.Proof.Gen.HgrnInW.Launch
public import proofs.«01_k».proof.Proof.Gen.HgrnInW.Points
public import proofs.«01_k».proof.Proof.Gen.HgrnInW.Frame
public import proofs.«01_k».proof.Proof.Gen.HgrnInWIdeal
public import proofs.«01_k».proof.Proof.Gen.HgrnInWIdeal.Skeleton
public import proofs.«01_k».proof.Proof.Gen.HgrnInWIdeal.Launch
public import proofs.«01_k».proof.Proof.Gen.HgrnInWIdeal.Points
public import proofs.«01_k».proof.Proof.Gen.HgrnInWIdeal.Frame
public import proofs.«01_k».proof.Proof.Gen.RefHgrnInWIdeal
public import proofs.«01_k».proof.Proof.Gen.HgrnInX
public import proofs.«01_k».proof.Proof.Gen.HgrnInX.Skeleton
public import proofs.«01_k».proof.Proof.Gen.HgrnInX.Launch
public import proofs.«01_k».proof.Proof.Gen.HgrnInX.Points
public import proofs.«01_k».proof.Proof.Gen.HgrnInX.Frame
public import proofs.«01_k».proof.Proof.Gen.HgrnInXIdeal
public import proofs.«01_k».proof.Proof.Gen.HgrnInXIdeal.Skeleton
public import proofs.«01_k».proof.Proof.Gen.HgrnInXIdeal.Launch
public import proofs.«01_k».proof.Proof.Gen.HgrnInXIdeal.Points
public import proofs.«01_k».proof.Proof.Gen.HgrnInXIdeal.Frame
public import proofs.«01_k».proof.Proof.Gen.RefHgrnInXIdeal
public import proofs.«01_k».proof.Proof.Gen.MambaOutW
public import proofs.«01_k».proof.Proof.Gen.MambaOutW.Skeleton
public import proofs.«01_k».proof.Proof.Gen.MambaOutW.Launch
public import proofs.«01_k».proof.Proof.Gen.MambaOutW.Points
public import proofs.«01_k».proof.Proof.Gen.MambaOutW.Frame
public import proofs.«01_k».proof.Proof.Gen.MambaOutWIdeal
public import proofs.«01_k».proof.Proof.Gen.MambaOutWIdeal.Skeleton
public import proofs.«01_k».proof.Proof.Gen.MambaOutWIdeal.Launch
public import proofs.«01_k».proof.Proof.Gen.MambaOutWIdeal.Points
public import proofs.«01_k».proof.Proof.Gen.MambaOutWIdeal.Frame
public import proofs.«01_k».proof.Proof.Gen.RefMambaOutWIdeal
public import proofs.«01_k».proof.Proof.Gen.MambaOutX
public import proofs.«01_k».proof.Proof.Gen.MambaOutX.Skeleton
public import proofs.«01_k».proof.Proof.Gen.MambaOutX.Launch
public import proofs.«01_k».proof.Proof.Gen.MambaOutX.Points
public import proofs.«01_k».proof.Proof.Gen.MambaOutX.Frame
public import proofs.«01_k».proof.Proof.Gen.MambaOutXIdeal
public import proofs.«01_k».proof.Proof.Gen.MambaOutXIdeal.Skeleton
public import proofs.«01_k».proof.Proof.Gen.MambaOutXIdeal.Launch
public import proofs.«01_k».proof.Proof.Gen.MambaOutXIdeal.Points
public import proofs.«01_k».proof.Proof.Gen.MambaOutXIdeal.Frame
public import proofs.«01_k».proof.Proof.Gen.RefMambaOutXIdeal
public import proofs.«01_k».proof.Proof.Gen.MambaZW
public import proofs.«01_k».proof.Proof.Gen.MambaZW.Skeleton
public import proofs.«01_k».proof.Proof.Gen.MambaZW.Launch
public import proofs.«01_k».proof.Proof.Gen.MambaZW.Points
public import proofs.«01_k».proof.Proof.Gen.MambaZW.Frame
public import proofs.«01_k».proof.Proof.Gen.MambaZWIdeal
public import proofs.«01_k».proof.Proof.Gen.MambaZWIdeal.Skeleton
public import proofs.«01_k».proof.Proof.Gen.MambaZWIdeal.Launch
public import proofs.«01_k».proof.Proof.Gen.MambaZWIdeal.Points
public import proofs.«01_k».proof.Proof.Gen.MambaZWIdeal.Frame
public import proofs.«01_k».proof.Proof.Gen.RefMambaZWIdeal
public import proofs.«01_k».proof.Proof.Gen.MambaZX
public import proofs.«01_k».proof.Proof.Gen.MambaZX.Skeleton
public import proofs.«01_k».proof.Proof.Gen.MambaZX.Launch
public import proofs.«01_k».proof.Proof.Gen.MambaZX.Points
public import proofs.«01_k».proof.Proof.Gen.MambaZX.Frame
public import proofs.«01_k».proof.Proof.Gen.MambaZXIdeal
public import proofs.«01_k».proof.Proof.Gen.MambaZXIdeal.Skeleton
public import proofs.«01_k».proof.Proof.Gen.MambaZXIdeal.Launch
public import proofs.«01_k».proof.Proof.Gen.MambaZXIdeal.Points
public import proofs.«01_k».proof.Proof.Gen.MambaZXIdeal.Frame
public import proofs.«01_k».proof.Proof.Gen.RefMambaZXIdeal
public import proofs.«01_k».proof.Proof.Gen.MambaXbcW
public import proofs.«01_k».proof.Proof.Gen.MambaXbcW.Skeleton
public import proofs.«01_k».proof.Proof.Gen.MambaXbcW.Launch
public import proofs.«01_k».proof.Proof.Gen.MambaXbcW.Points
public import proofs.«01_k».proof.Proof.Gen.MambaXbcW.Frame
public import proofs.«01_k».proof.Proof.Gen.MambaXbcWIdeal
public import proofs.«01_k».proof.Proof.Gen.MambaXbcWIdeal.Skeleton
public import proofs.«01_k».proof.Proof.Gen.MambaXbcWIdeal.Launch
public import proofs.«01_k».proof.Proof.Gen.MambaXbcWIdeal.Points
public import proofs.«01_k».proof.Proof.Gen.MambaXbcWIdeal.Frame
public import proofs.«01_k».proof.Proof.Gen.RefMambaXbcWIdeal
public import proofs.«01_k».proof.Proof.Gen.MambaXbcX
public import proofs.«01_k».proof.Proof.Gen.MambaXbcX.Skeleton
public import proofs.«01_k».proof.Proof.Gen.MambaXbcX.Launch
public import proofs.«01_k».proof.Proof.Gen.MambaXbcX.Points
public import proofs.«01_k».proof.Proof.Gen.MambaXbcX.Frame
public import proofs.«01_k».proof.Proof.Gen.MambaXbcXIdeal
public import proofs.«01_k».proof.Proof.Gen.MambaXbcXIdeal.Skeleton
public import proofs.«01_k».proof.Proof.Gen.MambaXbcXIdeal.Launch
public import proofs.«01_k».proof.Proof.Gen.MambaXbcXIdeal.Points
public import proofs.«01_k».proof.Proof.Gen.MambaXbcXIdeal.Frame
public import proofs.«01_k».proof.Proof.Gen.RefMambaXbcXIdeal
public import proofs.«01_k».proof.Proof.Gen.MambaDtW
public import proofs.«01_k».proof.Proof.Gen.MambaDtW.Skeleton
public import proofs.«01_k».proof.Proof.Gen.MambaDtW.Launch
public import proofs.«01_k».proof.Proof.Gen.MambaDtW.Points
public import proofs.«01_k».proof.Proof.Gen.MambaDtW.Frame
public import proofs.«01_k».proof.Proof.Gen.MambaDtWIdeal
public import proofs.«01_k».proof.Proof.Gen.MambaDtWIdeal.Skeleton
public import proofs.«01_k».proof.Proof.Gen.MambaDtWIdeal.Launch
public import proofs.«01_k».proof.Proof.Gen.MambaDtWIdeal.Points
public import proofs.«01_k».proof.Proof.Gen.MambaDtWIdeal.Frame
public import proofs.«01_k».proof.Proof.Gen.RefMambaDtWIdeal
public import proofs.«01_k».proof.Proof.Gen.MambaDtX
public import proofs.«01_k».proof.Proof.Gen.MambaDtX.Skeleton
public import proofs.«01_k».proof.Proof.Gen.MambaDtX.Launch
public import proofs.«01_k».proof.Proof.Gen.MambaDtX.Points
public import proofs.«01_k».proof.Proof.Gen.MambaDtX.Frame
public import proofs.«01_k».proof.Proof.Gen.MambaDtXIdeal
public import proofs.«01_k».proof.Proof.Gen.MambaDtXIdeal.Skeleton
public import proofs.«01_k».proof.Proof.Gen.MambaDtXIdeal.Launch
public import proofs.«01_k».proof.Proof.Gen.MambaDtXIdeal.Points
public import proofs.«01_k».proof.Proof.Gen.MambaDtXIdeal.Frame
public import proofs.«01_k».proof.Proof.Gen.RefMambaDtXIdeal
public import proofs.«01_k».proof.Proof.Gen.LbB
public import proofs.«01_k».proof.Proof.Gen.LbB.Skeleton
public import proofs.«01_k».proof.Proof.Gen.LbB.Launch
public import proofs.«01_k».proof.Proof.Gen.LbB.Points
public import proofs.«01_k».proof.Proof.Gen.LbB.Frame
public import proofs.«01_k».proof.Proof.Gen.LbBIdeal
public import proofs.«01_k».proof.Proof.Gen.LbBIdeal.Skeleton
public import proofs.«01_k».proof.Proof.Gen.LbBIdeal.Launch
public import proofs.«01_k».proof.Proof.Gen.LbBIdeal.Points
public import proofs.«01_k».proof.Proof.Gen.LbBIdeal.Frame
public import proofs.«01_k».proof.Proof.Gen.RefLbBIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.RefUpIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.RefDownIdeal
public import proofs.«01_k».proof.Proof.Gen.HgrnIn
public import proofs.«01_k».proof.Proof.Gen.HgrnIn.Skeleton
public import proofs.«01_k».proof.Proof.Gen.HgrnIn.Launch
public import proofs.«01_k».proof.Proof.Gen.HgrnIn.Points
public import proofs.«01_k».proof.Proof.Gen.HgrnIn.Frame
public import proofs.«01_k».proof.Proof.Gen.HgrnInIdeal
public import proofs.«01_k».proof.Proof.Gen.HgrnInIdeal.Skeleton
public import proofs.«01_k».proof.Proof.Gen.HgrnInIdeal.Launch
public import proofs.«01_k».proof.Proof.Gen.HgrnInIdeal.Points
public import proofs.«01_k».proof.Proof.Gen.HgrnInIdeal.Frame
public import proofs.«01_k».proof.Proof.Gen.RefHgrnInIdeal
public import proofs.«01_k».proof.Proof.Gen.HgrnOut
public import proofs.«01_k».proof.Proof.Gen.HgrnOut.Skeleton
public import proofs.«01_k».proof.Proof.Gen.HgrnOut.Launch
public import proofs.«01_k».proof.Proof.Gen.HgrnOut.Points
public import proofs.«01_k».proof.Proof.Gen.HgrnOut.Frame
public import proofs.«01_k».proof.Proof.Gen.HgrnOutIdeal
public import proofs.«01_k».proof.Proof.Gen.HgrnOutIdeal.Skeleton
public import proofs.«01_k».proof.Proof.Gen.HgrnOutIdeal.Launch
public import proofs.«01_k».proof.Proof.Gen.HgrnOutIdeal.Points
public import proofs.«01_k».proof.Proof.Gen.HgrnOutIdeal.Frame
public import proofs.«01_k».proof.Proof.Gen.RefHgrnOutIdeal
public import proofs.«01_k».proof.Proof.Gen.MambaZ
public import proofs.«01_k».proof.Proof.Gen.MambaZ.Skeleton
public import proofs.«01_k».proof.Proof.Gen.MambaZ.Launch
public import proofs.«01_k».proof.Proof.Gen.MambaZ.Points
public import proofs.«01_k».proof.Proof.Gen.MambaZ.Frame
public import proofs.«01_k».proof.Proof.Gen.MambaZIdeal
public import proofs.«01_k».proof.Proof.Gen.MambaZIdeal.Skeleton
public import proofs.«01_k».proof.Proof.Gen.MambaZIdeal.Launch
public import proofs.«01_k».proof.Proof.Gen.MambaZIdeal.Points
public import proofs.«01_k».proof.Proof.Gen.MambaZIdeal.Frame
public import proofs.«01_k».proof.Proof.Gen.RefMambaZIdeal
public import proofs.«01_k».proof.Proof.Gen.MambaXbc
public import proofs.«01_k».proof.Proof.Gen.MambaXbc.Skeleton
public import proofs.«01_k».proof.Proof.Gen.MambaXbc.Launch
public import proofs.«01_k».proof.Proof.Gen.MambaXbc.Points
public import proofs.«01_k».proof.Proof.Gen.MambaXbc.Frame
public import proofs.«01_k».proof.Proof.Gen.MambaXbcIdeal
public import proofs.«01_k».proof.Proof.Gen.MambaXbcIdeal.Skeleton
public import proofs.«01_k».proof.Proof.Gen.MambaXbcIdeal.Launch
public import proofs.«01_k».proof.Proof.Gen.MambaXbcIdeal.Points
public import proofs.«01_k».proof.Proof.Gen.MambaXbcIdeal.Frame
public import proofs.«01_k».proof.Proof.Gen.RefMambaXbcIdeal
public import proofs.«01_k».proof.Proof.Gen.MambaDt
public import proofs.«01_k».proof.Proof.Gen.MambaDt.Skeleton
public import proofs.«01_k».proof.Proof.Gen.MambaDt.Launch
public import proofs.«01_k».proof.Proof.Gen.MambaDt.Points
public import proofs.«01_k».proof.Proof.Gen.MambaDt.Frame
public import proofs.«01_k».proof.Proof.Gen.MambaDtIdeal
public import proofs.«01_k».proof.Proof.Gen.MambaDtIdeal.Skeleton
public import proofs.«01_k».proof.Proof.Gen.MambaDtIdeal.Launch
public import proofs.«01_k».proof.Proof.Gen.MambaDtIdeal.Points
public import proofs.«01_k».proof.Proof.Gen.MambaDtIdeal.Frame
public import proofs.«01_k».proof.Proof.Gen.RefMambaDtIdeal
public import proofs.«01_k».proof.Proof.Gen.MambaOut
public import proofs.«01_k».proof.Proof.Gen.MambaOut.Skeleton
public import proofs.«01_k».proof.Proof.Gen.MambaOut.Launch
public import proofs.«01_k».proof.Proof.Gen.MambaOut.Points
public import proofs.«01_k».proof.Proof.Gen.MambaOut.Frame
public import proofs.«01_k».proof.Proof.Gen.MambaOutIdeal
public import proofs.«01_k».proof.Proof.Gen.MambaOutIdeal.Skeleton
public import proofs.«01_k».proof.Proof.Gen.MambaOutIdeal.Launch
public import proofs.«01_k».proof.Proof.Gen.MambaOutIdeal.Points
public import proofs.«01_k».proof.Proof.Gen.MambaOutIdeal.Frame
public import proofs.«01_k».proof.Proof.Gen.RefMambaOutIdeal
public import proofs.«01_k».proof.Proof.Gen.RmsF
public import proofs.«01_k».proof.Proof.Gen.RmsF.Skeleton
public import proofs.«01_k».proof.Proof.Gen.RmsF.Launch
public import proofs.«01_k».proof.Proof.Gen.RmsF.Points
public import proofs.«01_k».proof.Proof.Gen.RmsF.Frame
public import proofs.«01_k».proof.Proof.Gen.RmsFIdeal
public import proofs.«01_k».proof.Proof.Gen.RmsFIdeal.Skeleton
public import proofs.«01_k».proof.Proof.Gen.RmsFIdeal.Launch
public import proofs.«01_k».proof.Proof.Gen.RmsFIdeal.Points
public import proofs.«01_k».proof.Proof.Gen.RmsFIdeal.Frame
public import proofs.«01_k».proof.Proof.Gen.RefRmsFIdeal
public import proofs.«01_k».proof.Proof.Gen.MgateF
public import proofs.«01_k».proof.Proof.Gen.MgateF.Skeleton
public import proofs.«01_k».proof.Proof.Gen.MgateF.Launch
public import proofs.«01_k».proof.Proof.Gen.MgateF.Points
public import proofs.«01_k».proof.Proof.Gen.MgateF.Frame
public import proofs.«01_k».proof.Proof.Gen.MgateFIdeal
public import proofs.«01_k».proof.Proof.Gen.MgateFIdeal.Skeleton
public import proofs.«01_k».proof.Proof.Gen.MgateFIdeal.Launch
public import proofs.«01_k».proof.Proof.Gen.MgateFIdeal.Points
public import proofs.«01_k».proof.Proof.Gen.MgateFIdeal.Frame
public import proofs.«01_k».proof.Proof.Gen.RefMgateFIdeal
public import proofs.«01_k».proof.Proof.Gen.ConvF
public import proofs.«01_k».proof.Proof.Gen.ConvF.Skeleton
public import proofs.«01_k».proof.Proof.Gen.ConvF.Launch
public import proofs.«01_k».proof.Proof.Gen.ConvF.Points
public import proofs.«01_k».proof.Proof.Gen.ConvF.Frame
public import proofs.«01_k».proof.Proof.Gen.ConvFIdeal
public import proofs.«01_k».proof.Proof.Gen.ConvFIdeal.Skeleton
public import proofs.«01_k».proof.Proof.Gen.ConvFIdeal.Launch
public import proofs.«01_k».proof.Proof.Gen.ConvFIdeal.Points
public import proofs.«01_k».proof.Proof.Gen.ConvFIdeal.Frame
public import proofs.«01_k».proof.Proof.Gen.RefConvFIdeal
public import proofs.«01_k».proof.Proof.Gen.GateF
public import proofs.«01_k».proof.Proof.Gen.GateF.Skeleton
public import proofs.«01_k».proof.Proof.Gen.GateF.Launch
public import proofs.«01_k».proof.Proof.Gen.GateF.Points
public import proofs.«01_k».proof.Proof.Gen.GateF.Frame
public import proofs.«01_k».proof.Proof.Gen.GateFIdeal
public import proofs.«01_k».proof.Proof.Gen.GateFIdeal.Skeleton
public import proofs.«01_k».proof.Proof.Gen.GateFIdeal.Launch
public import proofs.«01_k».proof.Proof.Gen.GateFIdeal.Points
public import proofs.«01_k».proof.Proof.Gen.GateFIdeal.Frame
public import proofs.«01_k».proof.Proof.Gen.RefGateFIdeal
public import proofs.«01_k».proof.Proof.Gen.HgrnF
public import proofs.«01_k».proof.Proof.Gen.HgrnF.Skeleton
public import proofs.«01_k».proof.Proof.Gen.HgrnF.Loops
public import proofs.«01_k».proof.Proof.Gen.HgrnF.Launch
public import proofs.«01_k».proof.Proof.Gen.HgrnF.Points
public import proofs.«01_k».proof.Proof.Gen.HgrnF.Frame
public import proofs.«01_k».proof.Proof.Gen.HgrnFIdeal
public import proofs.«01_k».proof.Proof.Gen.HgrnFIdeal.Skeleton
public import proofs.«01_k».proof.Proof.Gen.HgrnFIdeal.Loops
public import proofs.«01_k».proof.Proof.Gen.HgrnFIdeal.Launch
public import proofs.«01_k».proof.Proof.Gen.HgrnFIdeal.Points
public import proofs.«01_k».proof.Proof.Gen.HgrnFIdeal.Frame
public import proofs.«01_k».proof.Proof.Gen.RefHgrnFIdeal
public import proofs.«01_k».proof.Proof.Gen.LbF
public import proofs.«01_k».proof.Proof.Gen.LbF.Skeleton
public import proofs.«01_k».proof.Proof.Gen.LbF.Launch
public import proofs.«01_k».proof.Proof.Gen.LbF.Points
public import proofs.«01_k».proof.Proof.Gen.LbF.Frame
public import proofs.«01_k».proof.Proof.Gen.LbFIdeal
public import proofs.«01_k».proof.Proof.Gen.LbFIdeal.Skeleton
public import proofs.«01_k».proof.Proof.Gen.LbFIdeal.Launch
public import proofs.«01_k».proof.Proof.Gen.LbFIdeal.Points
public import proofs.«01_k».proof.Proof.Gen.LbFIdeal.Frame
public import proofs.«01_k».proof.Proof.Gen.RefLbFIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.RefLossIdeal
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.RefAdamSmallIdeal
public import proofs.«01_k».proof.Proof.Gen.AdamHgrnIn
public import proofs.«01_k».proof.Proof.Gen.AdamHgrnIn.Skeleton
public import proofs.«01_k».proof.Proof.Gen.AdamHgrnIn.Launch
public import proofs.«01_k».proof.Proof.Gen.AdamHgrnIn.Points
public import proofs.«01_k».proof.Proof.Gen.AdamHgrnIn.Frame
public import proofs.«01_k».proof.Proof.Gen.AdamHgrnInIdeal
public import proofs.«01_k».proof.Proof.Gen.AdamHgrnInIdeal.Skeleton
public import proofs.«01_k».proof.Proof.Gen.AdamHgrnInIdeal.Launch
public import proofs.«01_k».proof.Proof.Gen.AdamHgrnInIdeal.Points
public import proofs.«01_k».proof.Proof.Gen.AdamHgrnInIdeal.Frame
public import proofs.«01_k».proof.Proof.Gen.RefAdamHgrnInIdeal
public import proofs.«01_k».proof.Proof.Gen.AdamHgrnOut
public import proofs.«01_k».proof.Proof.Gen.AdamHgrnOut.Skeleton
public import proofs.«01_k».proof.Proof.Gen.AdamHgrnOut.Launch
public import proofs.«01_k».proof.Proof.Gen.AdamHgrnOut.Points
public import proofs.«01_k».proof.Proof.Gen.AdamHgrnOut.Frame
public import proofs.«01_k».proof.Proof.Gen.AdamHgrnOutIdeal
public import proofs.«01_k».proof.Proof.Gen.AdamHgrnOutIdeal.Skeleton
public import proofs.«01_k».proof.Proof.Gen.AdamHgrnOutIdeal.Launch
public import proofs.«01_k».proof.Proof.Gen.AdamHgrnOutIdeal.Points
public import proofs.«01_k».proof.Proof.Gen.AdamHgrnOutIdeal.Frame
public import proofs.«01_k».proof.Proof.Gen.RefAdamHgrnOutIdeal
public import proofs.«01_k».proof.Proof.Gen.AdamMambaIn
public import proofs.«01_k».proof.Proof.Gen.AdamMambaIn.Skeleton
public import proofs.«01_k».proof.Proof.Gen.AdamMambaIn.Launch
public import proofs.«01_k».proof.Proof.Gen.AdamMambaIn.Points
public import proofs.«01_k».proof.Proof.Gen.AdamMambaIn.Frame
public import proofs.«01_k».proof.Proof.Gen.AdamMambaInIdeal
public import proofs.«01_k».proof.Proof.Gen.AdamMambaInIdeal.Skeleton
public import proofs.«01_k».proof.Proof.Gen.AdamMambaInIdeal.Launch
public import proofs.«01_k».proof.Proof.Gen.AdamMambaInIdeal.Points
public import proofs.«01_k».proof.Proof.Gen.AdamMambaInIdeal.Frame
public import proofs.«01_k».proof.Proof.Gen.RefAdamMambaInIdeal
public import proofs.«01_k».proof.Proof.Gen.AdamMambaOut
public import proofs.«01_k».proof.Proof.Gen.AdamMambaOut.Skeleton
public import proofs.«01_k».proof.Proof.Gen.AdamMambaOut.Launch
public import proofs.«01_k».proof.Proof.Gen.AdamMambaOut.Points
public import proofs.«01_k».proof.Proof.Gen.AdamMambaOut.Frame
public import proofs.«01_k».proof.Proof.Gen.AdamMambaOutIdeal
public import proofs.«01_k».proof.Proof.Gen.AdamMambaOutIdeal.Skeleton
public import proofs.«01_k».proof.Proof.Gen.AdamMambaOutIdeal.Launch
public import proofs.«01_k».proof.Proof.Gen.AdamMambaOutIdeal.Points
public import proofs.«01_k».proof.Proof.Gen.AdamMambaOutIdeal.Frame
public import proofs.«01_k».proof.Proof.Gen.RefAdamMambaOutIdeal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.RefAdamUpIdeal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.RefAdamDownIdeal
public import proofs.«01_k».proof.Proof.Gen.SumDev
public import proofs.«01_k».proof.Proof.Gen.SumDev.Skeleton
public import proofs.«01_k».proof.Proof.Gen.SumDev.Launch
public import proofs.«01_k».proof.Proof.Gen.SumDev.Points
public import proofs.«01_k».proof.Proof.Gen.SumDev.Frame
public import proofs.«01_k».proof.Proof.Gen.SumDevIdeal
public import proofs.«01_k».proof.Proof.Gen.SumDevIdeal.Skeleton
public import proofs.«01_k».proof.Proof.Gen.SumDevIdeal.Launch
public import proofs.«01_k».proof.Proof.Gen.SumDevIdeal.Points
public import proofs.«01_k».proof.Proof.Gen.SumDevIdeal.Frame
public import proofs.«01_k».proof.Proof.Gen.RefSumDevIdeal
public import proofs.«01_k».proof.Proof.Gen.Pre_finite_conv
public import proofs.«01_k».proof.Proof.Gen.Pre_finite_gate
public import proofs.«01_k».proof.Proof.Gen.Pre_bounded_hgrn_f
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.GateIdeal.Value
public import proofs.«01_k».proof.Proof.Gen.RefGateIdeal.Run
public import proofs.«01_k».proof.Proof.Gen.RefGateIdeal.Read
public import proofs.«01_k».proof.Proof.Gen.MgateIdeal.Value
public import proofs.«01_k».proof.Proof.Gen.RefMgateIdeal.Run
public import proofs.«01_k».proof.Proof.Gen.RefMgateIdeal.Read
public import proofs.«01_k».proof.Proof.Gen.RmsIdeal.Value
public import proofs.«01_k».proof.Proof.Gen.RefRmsIdeal.Run
public import proofs.«01_k».proof.Proof.Gen.RefRmsIdeal.Read
public import proofs.«01_k».proof.Proof.Gen.UpXIdeal.Value
public import proofs.«01_k».proof.Proof.Gen.RefUpXIdeal.Run
public import proofs.«01_k».proof.Proof.Gen.RefUpXIdeal.Read
public import proofs.«01_k».proof.Proof.Gen.UpWIdeal.Value
public import proofs.«01_k».proof.Proof.Gen.RefUpWIdeal.Run
public import proofs.«01_k».proof.Proof.Gen.RefUpWIdeal.Read
public import proofs.«01_k».proof.Proof.Gen.DownXIdeal.Value
public import proofs.«01_k».proof.Proof.Gen.RefDownXIdeal.Run
public import proofs.«01_k».proof.Proof.Gen.RefDownXIdeal.Read
public import proofs.«01_k».proof.Proof.Gen.DownWIdeal.Value
public import proofs.«01_k».proof.Proof.Gen.RefDownWIdeal.Run
public import proofs.«01_k».proof.Proof.Gen.RefDownWIdeal.Read
public import proofs.«01_k».proof.Proof.Gen.HgrnOutWIdeal.Value
public import proofs.«01_k».proof.Proof.Gen.RefHgrnOutWIdeal.Run
public import proofs.«01_k».proof.Proof.Gen.RefHgrnOutWIdeal.Read
public import proofs.«01_k».proof.Proof.Gen.HgrnOutXIdeal.Value
public import proofs.«01_k».proof.Proof.Gen.RefHgrnOutXIdeal.Run
public import proofs.«01_k».proof.Proof.Gen.RefHgrnOutXIdeal.Read
public import proofs.«01_k».proof.Proof.Gen.HgrnInWIdeal.Value
public import proofs.«01_k».proof.Proof.Gen.RefHgrnInWIdeal.Run
public import proofs.«01_k».proof.Proof.Gen.RefHgrnInWIdeal.Read
public import proofs.«01_k».proof.Proof.Gen.HgrnInXIdeal.Value
public import proofs.«01_k».proof.Proof.Gen.RefHgrnInXIdeal.Run
public import proofs.«01_k».proof.Proof.Gen.RefHgrnInXIdeal.Read
public import proofs.«01_k».proof.Proof.Gen.MambaOutWIdeal.Value
public import proofs.«01_k».proof.Proof.Gen.RefMambaOutWIdeal.Run
public import proofs.«01_k».proof.Proof.Gen.RefMambaOutWIdeal.Read
public import proofs.«01_k».proof.Proof.Gen.MambaOutXIdeal.Value
public import proofs.«01_k».proof.Proof.Gen.RefMambaOutXIdeal.Run
public import proofs.«01_k».proof.Proof.Gen.RefMambaOutXIdeal.Read
public import proofs.«01_k».proof.Proof.Gen.MambaZWIdeal.Value
public import proofs.«01_k».proof.Proof.Gen.RefMambaZWIdeal.Run
public import proofs.«01_k».proof.Proof.Gen.RefMambaZWIdeal.Read
public import proofs.«01_k».proof.Proof.Gen.MambaZXIdeal.Value
public import proofs.«01_k».proof.Proof.Gen.RefMambaZXIdeal.Run
public import proofs.«01_k».proof.Proof.Gen.RefMambaZXIdeal.Read
public import proofs.«01_k».proof.Proof.Gen.MambaXbcWIdeal.Value
public import proofs.«01_k».proof.Proof.Gen.RefMambaXbcWIdeal.Run
public import proofs.«01_k».proof.Proof.Gen.RefMambaXbcWIdeal.Read
public import proofs.«01_k».proof.Proof.Gen.MambaXbcXIdeal.Value
public import proofs.«01_k».proof.Proof.Gen.RefMambaXbcXIdeal.Run
public import proofs.«01_k».proof.Proof.Gen.RefMambaXbcXIdeal.Read
public import proofs.«01_k».proof.Proof.Gen.MambaDtWIdeal.Value
public import proofs.«01_k».proof.Proof.Gen.RefMambaDtWIdeal.Run
public import proofs.«01_k».proof.Proof.Gen.RefMambaDtWIdeal.Read
public import proofs.«01_k».proof.Proof.Gen.MambaDtXIdeal.Value
public import proofs.«01_k».proof.Proof.Gen.RefMambaDtXIdeal.Run
public import proofs.«01_k».proof.Proof.Gen.RefMambaDtXIdeal.Read
public import proofs.«01_k».proof.Proof.Gen.LbBIdeal.Value
public import proofs.«01_k».proof.Proof.Gen.RefLbBIdeal.Run
public import proofs.«01_k».proof.Proof.Gen.RefLbBIdeal.Read
public import proofs.«01_k».proof.Proof.Gen.UpIdeal.Value
public import proofs.«01_k».proof.Proof.Gen.RefUpIdeal.Run
public import proofs.«01_k».proof.Proof.Gen.RefUpIdeal.Read
public import proofs.«01_k».proof.Proof.Gen.DownIdeal.Value
public import proofs.«01_k».proof.Proof.Gen.RefDownIdeal.Run
public import proofs.«01_k».proof.Proof.Gen.RefDownIdeal.Read
public import proofs.«01_k».proof.Proof.Gen.HgrnInIdeal.Value
public import proofs.«01_k».proof.Proof.Gen.RefHgrnInIdeal.Run
public import proofs.«01_k».proof.Proof.Gen.RefHgrnInIdeal.Read
public import proofs.«01_k».proof.Proof.Gen.HgrnOutIdeal.Value
public import proofs.«01_k».proof.Proof.Gen.RefHgrnOutIdeal.Run
public import proofs.«01_k».proof.Proof.Gen.RefHgrnOutIdeal.Read
public import proofs.«01_k».proof.Proof.Gen.MambaZIdeal.Value
public import proofs.«01_k».proof.Proof.Gen.RefMambaZIdeal.Run
public import proofs.«01_k».proof.Proof.Gen.RefMambaZIdeal.Read
public import proofs.«01_k».proof.Proof.Gen.MambaXbcIdeal.Value
public import proofs.«01_k».proof.Proof.Gen.RefMambaXbcIdeal.Run
public import proofs.«01_k».proof.Proof.Gen.RefMambaXbcIdeal.Read
public import proofs.«01_k».proof.Proof.Gen.MambaDtIdeal.Value
public import proofs.«01_k».proof.Proof.Gen.RefMambaDtIdeal.Run
public import proofs.«01_k».proof.Proof.Gen.RefMambaDtIdeal.Read
public import proofs.«01_k».proof.Proof.Gen.MambaOutIdeal.Value
public import proofs.«01_k».proof.Proof.Gen.RefMambaOutIdeal.Run
public import proofs.«01_k».proof.Proof.Gen.RefMambaOutIdeal.Read
public import proofs.«01_k».proof.Proof.Gen.RmsFIdeal.Value
public import proofs.«01_k».proof.Proof.Gen.RefRmsFIdeal.Run
public import proofs.«01_k».proof.Proof.Gen.RefRmsFIdeal.Read
public import proofs.«01_k».proof.Proof.Gen.MgateFIdeal.Value
public import proofs.«01_k».proof.Proof.Gen.RefMgateFIdeal.Run
public import proofs.«01_k».proof.Proof.Gen.RefMgateFIdeal.Read
public import proofs.«01_k».proof.Proof.Gen.ConvFIdeal.Value
public import proofs.«01_k».proof.Proof.Gen.RefConvFIdeal.Run
public import proofs.«01_k».proof.Proof.Gen.RefConvFIdeal.Read
public import proofs.«01_k».proof.Proof.Gen.GateFIdeal.Value
public import proofs.«01_k».proof.Proof.Gen.RefGateFIdeal.Run
public import proofs.«01_k».proof.Proof.Gen.RefGateFIdeal.Read
public import proofs.«01_k».proof.Proof.Gen.HgrnFIdeal.Value
public import proofs.«01_k».proof.Proof.Gen.RefHgrnFIdeal.Run
public import proofs.«01_k».proof.Proof.Gen.RefHgrnFIdeal.Read
public import proofs.«01_k».proof.Proof.Gen.LbFIdeal.Value
public import proofs.«01_k».proof.Proof.Gen.RefLbFIdeal.Run
public import proofs.«01_k».proof.Proof.Gen.RefLbFIdeal.Read
public import proofs.«01_k».proof.Proof.Gen.LossIdeal.Value
public import proofs.«01_k».proof.Proof.Gen.RefLossIdeal.Run
public import proofs.«01_k».proof.Proof.Gen.RefLossIdeal.Read
public import proofs.«01_k».proof.Proof.Gen.AdamSmallIdeal.Value
public import proofs.«01_k».proof.Proof.Gen.RefAdamSmallIdeal.Run
public import proofs.«01_k».proof.Proof.Gen.RefAdamSmallIdeal.Read
public import proofs.«01_k».proof.Proof.Gen.AdamHgrnInIdeal.Value
public import proofs.«01_k».proof.Proof.Gen.RefAdamHgrnInIdeal.Run
public import proofs.«01_k».proof.Proof.Gen.RefAdamHgrnInIdeal.Read
public import proofs.«01_k».proof.Proof.Gen.AdamHgrnOutIdeal.Value
public import proofs.«01_k».proof.Proof.Gen.RefAdamHgrnOutIdeal.Run
public import proofs.«01_k».proof.Proof.Gen.RefAdamHgrnOutIdeal.Read
public import proofs.«01_k».proof.Proof.Gen.AdamMambaInIdeal.Value
public import proofs.«01_k».proof.Proof.Gen.RefAdamMambaInIdeal.Run
public import proofs.«01_k».proof.Proof.Gen.RefAdamMambaInIdeal.Read
public import proofs.«01_k».proof.Proof.Gen.AdamMambaOutIdeal.Value
public import proofs.«01_k».proof.Proof.Gen.RefAdamMambaOutIdeal.Run
public import proofs.«01_k».proof.Proof.Gen.RefAdamMambaOutIdeal.Read
public import proofs.«01_k».proof.Proof.Gen.AdamUpIdeal.Value
public import proofs.«01_k».proof.Proof.Gen.RefAdamUpIdeal.Run
public import proofs.«01_k».proof.Proof.Gen.RefAdamUpIdeal.Read
public import proofs.«01_k».proof.Proof.Gen.AdamDownIdeal.Value
public import proofs.«01_k».proof.Proof.Gen.RefAdamDownIdeal.Run
public import proofs.«01_k».proof.Proof.Gen.RefAdamDownIdeal.Read
public import proofs.«01_k».proof.Proof.Gen.SumDevIdeal.Value
public import proofs.«01_k».proof.Proof.Gen.RefSumDevIdeal.Run
public import proofs.«01_k».proof.Proof.Gen.RefSumDevIdeal.Read
public import proofs.«01_k».proof.Proof.ConvClaim
public import proofs.«01_k».proof.Proof.GateClaim
public import proofs.«01_k».proof.Proof.Mgate
public import proofs.«01_k».proof.Proof.Rms
public import proofs.«01_k».proof.Proof.UpX
public import proofs.«01_k».proof.Proof.UpW
public import proofs.«01_k».proof.Proof.DownX
public import proofs.«01_k».proof.Proof.DownW
public import proofs.«01_k».proof.Proof.HgrnOutW
public import proofs.«01_k».proof.Proof.HgrnOutX
public import proofs.«01_k».proof.Proof.HgrnInW
public import proofs.«01_k».proof.Proof.HgrnInX
public import proofs.«01_k».proof.Proof.MambaOutW
public import proofs.«01_k».proof.Proof.MambaOutX
public import proofs.«01_k».proof.Proof.MambaZW
public import proofs.«01_k».proof.Proof.MambaZX
public import proofs.«01_k».proof.Proof.MambaXbcW
public import proofs.«01_k».proof.Proof.MambaXbcX
public import proofs.«01_k».proof.Proof.MambaDtW
public import proofs.«01_k».proof.Proof.MambaDtX
public import proofs.«01_k».proof.Proof.LbB
public import proofs.«01_k».proof.Proof.Up
public import proofs.«01_k».proof.Proof.Down
public import proofs.«01_k».proof.Proof.HgrnIn
public import proofs.«01_k».proof.Proof.HgrnOut
public import proofs.«01_k».proof.Proof.MambaZ
public import proofs.«01_k».proof.Proof.MambaXbc
public import proofs.«01_k».proof.Proof.MambaDt
public import proofs.«01_k».proof.Proof.MambaOut
public import proofs.«01_k».proof.Proof.RmsF
public import proofs.«01_k».proof.Proof.MgateF
public import proofs.«01_k».proof.Proof.ConvF
public import proofs.«01_k».proof.Proof.GateF
public import proofs.«01_k».proof.Proof.HgrnF
public import proofs.«01_k».proof.Proof.LbF
public import proofs.«01_k».proof.Proof.Loss
public import proofs.«01_k».proof.Proof.AdamSmall
public import proofs.«01_k».proof.Proof.AdamHgrnIn
public import proofs.«01_k».proof.Proof.AdamHgrnOut
public import proofs.«01_k».proof.Proof.AdamMambaIn
public import proofs.«01_k».proof.Proof.AdamMambaOut
public import proofs.«01_k».proof.Proof.AdamUp
public import proofs.«01_k».proof.Proof.AdamDown
public import proofs.«01_k».proof.Proof.SumDev
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.Gate.Gen.facts, Cert.GateIdeal.Gen.facts,
  Cert.RefGateIdeal.Gen.facts, Cert.Mgate.Gen.facts, Cert.MgateIdeal.Gen.facts, Cert.RefMgateIdeal.Gen.facts, Cert.Rms.Gen.facts,
  Cert.RmsIdeal.Gen.facts, Cert.RefRmsIdeal.Gen.facts, Cert.UpX.Gen.facts, Cert.UpXIdeal.Gen.facts, Cert.RefUpXIdeal.Gen.facts,
  Cert.UpW.Gen.facts, Cert.UpWIdeal.Gen.facts, Cert.RefUpWIdeal.Gen.facts, Cert.DownX.Gen.facts, Cert.DownXIdeal.Gen.facts,
  Cert.RefDownXIdeal.Gen.facts, Cert.DownW.Gen.facts, Cert.DownWIdeal.Gen.facts, Cert.RefDownWIdeal.Gen.facts, Cert.HgrnOutW.Gen.facts,
  Cert.HgrnOutWIdeal.Gen.facts, Cert.RefHgrnOutWIdeal.Gen.facts, Cert.HgrnOutX.Gen.facts, Cert.HgrnOutXIdeal.Gen.facts,
  Cert.RefHgrnOutXIdeal.Gen.facts, Cert.HgrnInW.Gen.facts, Cert.HgrnInWIdeal.Gen.facts, Cert.RefHgrnInWIdeal.Gen.facts,
  Cert.HgrnInX.Gen.facts, Cert.HgrnInXIdeal.Gen.facts, Cert.RefHgrnInXIdeal.Gen.facts, Cert.MambaOutW.Gen.facts,
  Cert.MambaOutWIdeal.Gen.facts, Cert.RefMambaOutWIdeal.Gen.facts, Cert.MambaOutX.Gen.facts, Cert.MambaOutXIdeal.Gen.facts,
  Cert.RefMambaOutXIdeal.Gen.facts, Cert.MambaZW.Gen.facts, Cert.MambaZWIdeal.Gen.facts, Cert.RefMambaZWIdeal.Gen.facts,
  Cert.MambaZX.Gen.facts, Cert.MambaZXIdeal.Gen.facts, Cert.RefMambaZXIdeal.Gen.facts, Cert.MambaXbcW.Gen.facts,
  Cert.MambaXbcWIdeal.Gen.facts, Cert.RefMambaXbcWIdeal.Gen.facts, Cert.MambaXbcX.Gen.facts, Cert.MambaXbcXIdeal.Gen.facts,
  Cert.RefMambaXbcXIdeal.Gen.facts, Cert.MambaDtW.Gen.facts, Cert.MambaDtWIdeal.Gen.facts, Cert.RefMambaDtWIdeal.Gen.facts,
  Cert.MambaDtX.Gen.facts, Cert.MambaDtXIdeal.Gen.facts, Cert.RefMambaDtXIdeal.Gen.facts, Cert.LbB.Gen.facts, Cert.LbBIdeal.Gen.facts,
  Cert.RefLbBIdeal.Gen.facts, Cert.Up.Gen.facts, Cert.UpIdeal.Gen.facts, Cert.RefUpIdeal.Gen.facts, Cert.Down.Gen.facts,
  Cert.DownIdeal.Gen.facts, Cert.RefDownIdeal.Gen.facts, Cert.HgrnIn.Gen.facts, Cert.HgrnInIdeal.Gen.facts, Cert.RefHgrnInIdeal.Gen.facts,
  Cert.HgrnOut.Gen.facts, Cert.HgrnOutIdeal.Gen.facts, Cert.RefHgrnOutIdeal.Gen.facts, Cert.MambaZ.Gen.facts, Cert.MambaZIdeal.Gen.facts,
  Cert.RefMambaZIdeal.Gen.facts, Cert.MambaXbc.Gen.facts, Cert.MambaXbcIdeal.Gen.facts, Cert.RefMambaXbcIdeal.Gen.facts,
  Cert.MambaDt.Gen.facts, Cert.MambaDtIdeal.Gen.facts, Cert.RefMambaDtIdeal.Gen.facts, Cert.MambaOut.Gen.facts, Cert.MambaOutIdeal.Gen.facts,
  Cert.RefMambaOutIdeal.Gen.facts, Cert.RmsF.Gen.facts, Cert.RmsFIdeal.Gen.facts, Cert.RefRmsFIdeal.Gen.facts, Cert.MgateF.Gen.facts,
  Cert.MgateFIdeal.Gen.facts, Cert.RefMgateFIdeal.Gen.facts, Cert.ConvF.Gen.facts, Cert.ConvFIdeal.Gen.facts, Cert.RefConvFIdeal.Gen.facts,
  Cert.GateF.Gen.facts, Cert.GateFIdeal.Gen.facts, Cert.RefGateFIdeal.Gen.facts, Cert.HgrnF.Gen.facts, Cert.HgrnFIdeal.Gen.facts,
  Cert.RefHgrnFIdeal.Gen.facts, Cert.LbF.Gen.facts, Cert.LbFIdeal.Gen.facts, Cert.RefLbFIdeal.Gen.facts, Cert.Loss.Gen.facts,
  Cert.LossIdeal.Gen.facts, Cert.RefLossIdeal.Gen.facts, Cert.AdamSmall.Gen.facts, Cert.AdamSmallIdeal.Gen.facts,
  Cert.RefAdamSmallIdeal.Gen.facts, Cert.AdamHgrnIn.Gen.facts, Cert.AdamHgrnInIdeal.Gen.facts, Cert.RefAdamHgrnInIdeal.Gen.facts,
  Cert.AdamHgrnOut.Gen.facts, Cert.AdamHgrnOutIdeal.Gen.facts, Cert.RefAdamHgrnOutIdeal.Gen.facts, Cert.AdamMambaIn.Gen.facts,
  Cert.AdamMambaInIdeal.Gen.facts, Cert.RefAdamMambaInIdeal.Gen.facts, Cert.AdamMambaOut.Gen.facts, Cert.AdamMambaOutIdeal.Gen.facts,
  Cert.RefAdamMambaOutIdeal.Gen.facts, Cert.AdamUp.Gen.facts, Cert.AdamUpIdeal.Gen.facts, Cert.RefAdamUpIdeal.Gen.facts,
  Cert.AdamDown.Gen.facts, Cert.AdamDownIdeal.Gen.facts, Cert.RefAdamDownIdeal.Gen.facts, Cert.SumDev.Gen.facts, Cert.SumDevIdeal.Gen.facts,
  Cert.RefSumDevIdeal.Gen.facts, Cert.Pre_finite_conv.Gen.facts, Cert.Pre_finite_gate.Gen.facts, Cert.Pre_bounded_hgrn_f.Gen.facts,
  fun m ρ _ => Cert.Kernel.Gen.frame m ρ, fun m ρ _ => Cert.KernelIdeal.Gen.frame m ρ, fun m ρ _ => Cert.KernelIdeal.Gen.frame m ρ, Cert.Conv.Claim.frame_reference, fun m ρ _ => Cert.Conv.Claim.frame_reference m ρ trivial,
  fun m ρ _ => Cert.Gate.Gen.frame m ρ, fun m ρ _ => Cert.GateIdeal.Gen.frame m ρ, fun m ρ _ => Cert.GateIdeal.Gen.frame m ρ, Cert.GateIdeal.Claim.frame_reference, fun m ρ _ => Cert.GateIdeal.Claim.frame_reference m ρ trivial,
  fun m ρ _ => Cert.Mgate.Gen.frame m ρ, fun m ρ _ => Cert.MgateIdeal.Gen.frame m ρ, Cert.MgateIdeal.Gate.frame_reference,
  fun m ρ _ => Cert.Rms.Gen.frame m ρ, fun m ρ _ => Cert.RmsIdeal.Gen.frame m ρ, Cert.RmsIdeal.Norm.frame_reference,
  fun m ρ _ => Cert.UpX.Gen.frame m ρ, fun m ρ _ => Cert.UpXIdeal.Gen.frame m ρ, Cert.UpXIdeal.Product.frame_reference,
  fun m ρ _ => Cert.UpW.Gen.frame m ρ, fun m ρ _ => Cert.UpWIdeal.Gen.frame m ρ, Cert.UpWIdeal.Product.frame_reference,
  fun m ρ _ => Cert.DownX.Gen.frame m ρ, fun m ρ _ => Cert.DownXIdeal.Gen.frame m ρ, Cert.DownXIdeal.Product.frame_reference,
  fun m ρ _ => Cert.DownW.Gen.frame m ρ, fun m ρ _ => Cert.DownWIdeal.Gen.frame m ρ, Cert.DownWIdeal.Product.frame_reference,
  fun m ρ _ => Cert.HgrnOutW.Gen.frame m ρ, fun m ρ _ => Cert.HgrnOutWIdeal.Gen.frame m ρ, Cert.HgrnOutWIdeal.Product.frame_reference,
  fun m ρ _ => Cert.HgrnOutX.Gen.frame m ρ, fun m ρ _ => Cert.HgrnOutXIdeal.Gen.frame m ρ, Cert.HgrnOutXIdeal.Product.frame_reference,
  fun m ρ _ => Cert.HgrnInW.Gen.frame m ρ, fun m ρ _ => Cert.HgrnInWIdeal.Gen.frame m ρ, Cert.HgrnInWIdeal.Product.frame_reference,
  fun m ρ _ => Cert.HgrnInX.Gen.frame m ρ, fun m ρ _ => Cert.HgrnInXIdeal.Gen.frame m ρ, Cert.HgrnInXIdeal.Product.frame_reference,
  fun m ρ _ => Cert.MambaOutW.Gen.frame m ρ, fun m ρ _ => Cert.MambaOutWIdeal.Gen.frame m ρ, Cert.MambaOutWIdeal.Product.frame_reference,
  fun m ρ _ => Cert.MambaOutX.Gen.frame m ρ, fun m ρ _ => Cert.MambaOutXIdeal.Gen.frame m ρ, Cert.MambaOutXIdeal.Product.frame_reference,
  fun m ρ _ => Cert.MambaZW.Gen.frame m ρ, fun m ρ _ => Cert.MambaZWIdeal.Gen.frame m ρ, Cert.MambaZWIdeal.Product.frame_reference,
  fun m ρ _ => Cert.MambaZX.Gen.frame m ρ, fun m ρ _ => Cert.MambaZXIdeal.Gen.frame m ρ, Cert.MambaZXIdeal.Product.frame_reference,
  fun m ρ _ => Cert.MambaXbcW.Gen.frame m ρ, fun m ρ _ => Cert.MambaXbcWIdeal.Gen.frame m ρ, Cert.MambaXbcWIdeal.Product.frame_reference,
  fun m ρ _ => Cert.MambaXbcX.Gen.frame m ρ, fun m ρ _ => Cert.MambaXbcXIdeal.Gen.frame m ρ, Cert.MambaXbcXIdeal.Product.frame_reference,
  fun m ρ _ => Cert.MambaDtW.Gen.frame m ρ, fun m ρ _ => Cert.MambaDtWIdeal.Gen.frame m ρ, Cert.MambaDtWIdeal.Product.frame_reference,
  fun m ρ _ => Cert.MambaDtX.Gen.frame m ρ, fun m ρ _ => Cert.MambaDtXIdeal.Gen.frame m ρ, Cert.MambaDtXIdeal.Product.frame_reference,
  fun m ρ _ => Cert.LbB.Gen.frame m ρ, fun m ρ _ => Cert.LbBIdeal.Gen.frame m ρ, Cert.LbBIdeal.Bounds.frame_reference,
  fun m ρ _ => Cert.Up.Gen.frame m ρ, fun m ρ _ => Cert.UpIdeal.Gen.frame m ρ, Cert.UpIdeal.Product.frame_reference,
  fun m ρ _ => Cert.Down.Gen.frame m ρ, fun m ρ _ => Cert.DownIdeal.Gen.frame m ρ, Cert.DownIdeal.Product.frame_reference,
  fun m ρ _ => Cert.HgrnIn.Gen.frame m ρ, fun m ρ _ => Cert.HgrnInIdeal.Gen.frame m ρ, Cert.HgrnInIdeal.Product.frame_reference,
  fun m ρ _ => Cert.HgrnOut.Gen.frame m ρ, fun m ρ _ => Cert.HgrnOutIdeal.Gen.frame m ρ, Cert.HgrnOutIdeal.Product.frame_reference,
  fun m ρ _ => Cert.MambaZ.Gen.frame m ρ, fun m ρ _ => Cert.MambaZIdeal.Gen.frame m ρ, Cert.MambaZIdeal.Product.frame_reference,
  fun m ρ _ => Cert.MambaXbc.Gen.frame m ρ, fun m ρ _ => Cert.MambaXbcIdeal.Gen.frame m ρ, Cert.MambaXbcIdeal.Product.frame_reference,
  fun m ρ _ => Cert.MambaDt.Gen.frame m ρ, fun m ρ _ => Cert.MambaDtIdeal.Gen.frame m ρ, Cert.MambaDtIdeal.Product.frame_reference,
  fun m ρ _ => Cert.MambaOut.Gen.frame m ρ, fun m ρ _ => Cert.MambaOutIdeal.Gen.frame m ρ, Cert.MambaOutIdeal.Product.frame_reference,
  fun m ρ _ => Cert.RmsF.Gen.frame m ρ, fun m ρ _ => Cert.RmsFIdeal.Gen.frame m ρ, Cert.RmsFIdeal.Norm.frame_reference,
  fun m ρ _ => Cert.MgateF.Gen.frame m ρ, fun m ρ _ => Cert.MgateFIdeal.Gen.frame m ρ, Cert.MgateFIdeal.Gate.frame_reference,
  fun m ρ _ => Cert.ConvF.Gen.frame m ρ, fun m ρ _ => Cert.ConvFIdeal.Gen.frame m ρ, Cert.ConvFIdeal.Conv.frame_reference,
  fun m ρ _ => Cert.GateF.Gen.frame m ρ, fun m ρ _ => Cert.GateFIdeal.Gen.frame m ρ, Cert.GateFIdeal.Taps.frame_reference,
  fun m ρ _ => Cert.HgrnF.Gen.frame m ρ, fun m ρ _ => Cert.HgrnFIdeal.Gen.frame m ρ, fun m ρ _ => Cert.HgrnFIdeal.Gen.frame m ρ, Cert.HgrnFIdeal.Hgrn.frame_reference, fun m ρ _ => Cert.HgrnFIdeal.Hgrn.frame_reference m ρ trivial,
  fun m ρ _ => Cert.LbF.Gen.frame m ρ, fun m ρ _ => Cert.LbFIdeal.Gen.frame m ρ, Cert.LbFIdeal.Bounds.frame_reference,
  fun m ρ _ => Cert.Loss.Gen.frame m ρ, fun m ρ _ => Cert.LossIdeal.Gen.frame m ρ, Cert.LossIdeal.Head.frame_reference,
  fun m ρ _ => Cert.AdamSmall.Gen.frame m ρ, fun m ρ _ => Cert.AdamSmallIdeal.Gen.frame m ρ, Cert.AdamSmallIdeal.Step.frame_reference,
  fun m ρ _ => Cert.AdamHgrnIn.Gen.frame m ρ, fun m ρ _ => Cert.AdamHgrnInIdeal.Gen.frame m ρ, Cert.AdamHgrnInIdeal.Step.frame_reference,
  fun m ρ _ => Cert.AdamHgrnOut.Gen.frame m ρ, fun m ρ _ => Cert.AdamHgrnOutIdeal.Gen.frame m ρ, Cert.AdamHgrnOutIdeal.Step.frame_reference,
  fun m ρ _ => Cert.AdamMambaIn.Gen.frame m ρ, fun m ρ _ => Cert.AdamMambaInIdeal.Gen.frame m ρ, Cert.AdamMambaInIdeal.Step.frame_reference,
  fun m ρ _ => Cert.AdamMambaOut.Gen.frame m ρ, fun m ρ _ => Cert.AdamMambaOutIdeal.Gen.frame m ρ, Cert.AdamMambaOutIdeal.Step.frame_reference,
  fun m ρ _ => Cert.AdamUp.Gen.frame m ρ, fun m ρ _ => Cert.AdamUpIdeal.Gen.frame m ρ, Cert.AdamUpIdeal.Step.frame_reference,
  fun m ρ _ => Cert.AdamDown.Gen.frame m ρ, fun m ρ _ => Cert.AdamDownIdeal.Gen.frame m ρ, Cert.AdamDownIdeal.Step.frame_reference,
  fun m ρ _ => Cert.SumDev.Gen.frame m ρ, fun m ρ _ => Cert.SumDevIdeal.Gen.frame m ρ, Cert.SumDevIdeal.Sum.frame_reference,
  trivial, Cert.Conv.Claim.algebraic_conv, trivial, Cert.GateIdeal.Claim.algebraic, trivial, Cert.MgateIdeal.Gate.algebraic, trivial,
  Cert.RmsIdeal.Norm.algebraic, trivial, Cert.UpXIdeal.Product.algebraic, trivial, Cert.UpWIdeal.Product.algebraic, trivial,
  Cert.DownXIdeal.Product.algebraic, trivial, Cert.DownWIdeal.Product.algebraic, trivial, Cert.HgrnOutWIdeal.Product.algebraic, trivial,
  Cert.HgrnOutXIdeal.Product.algebraic, trivial, Cert.HgrnInWIdeal.Product.algebraic, trivial, Cert.HgrnInXIdeal.Product.algebraic, trivial,
  Cert.MambaOutWIdeal.Product.algebraic, trivial, Cert.MambaOutXIdeal.Product.algebraic, trivial, Cert.MambaZWIdeal.Product.algebraic,
  trivial, Cert.MambaZXIdeal.Product.algebraic, trivial, Cert.MambaXbcWIdeal.Product.algebraic, trivial,
  Cert.MambaXbcXIdeal.Product.algebraic, trivial, Cert.MambaDtWIdeal.Product.algebraic, trivial, Cert.MambaDtXIdeal.Product.algebraic,
  trivial, Cert.LbBIdeal.Bounds.algebraic, trivial, Cert.UpIdeal.Product.algebraic, trivial, Cert.DownIdeal.Product.algebraic, trivial,
  Cert.HgrnInIdeal.Product.algebraic, trivial, Cert.HgrnOutIdeal.Product.algebraic, trivial, Cert.MambaZIdeal.Product.algebraic, trivial,
  Cert.MambaXbcIdeal.Product.algebraic, trivial, Cert.MambaDtIdeal.Product.algebraic, trivial, Cert.MambaOutIdeal.Product.algebraic, trivial,
  Cert.RmsFIdeal.Norm.algebraic, trivial, Cert.MgateFIdeal.Gate.algebraic, trivial, Cert.ConvFIdeal.Conv.algebraic, trivial,
  Cert.GateFIdeal.Taps.algebraic, trivial, Cert.HgrnFIdeal.Hgrn.algebraic, trivial, Cert.LbFIdeal.Bounds.algebraic, trivial,
  Cert.LossIdeal.Head.algebraic, trivial, Cert.AdamSmallIdeal.Step.algebraic, trivial, Cert.AdamHgrnInIdeal.Step.algebraic, trivial,
  Cert.AdamHgrnOutIdeal.Step.algebraic, trivial, Cert.AdamMambaInIdeal.Step.algebraic, trivial, Cert.AdamMambaOutIdeal.Step.algebraic,
  trivial, Cert.AdamUpIdeal.Step.algebraic, trivial, Cert.AdamDownIdeal.Step.algebraic, trivial, Cert.SumDevIdeal.Sum.algebraic⟩

end Cert.Proof

end
